-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite [hPre_finite : Cert.Pre_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_QkBwd (m : (ℓ : Loc Cert.QkBwd.nD Cert.QkBwd.τ Cert.QkBwd.sig) → Buf (Elt Bits) ℓ) : Prop :=
  True

def Pre_QkBwdIdeal (m : (ℓ : Loc Cert.QkBwdIdeal.nD Cert.QkBwdIdeal.τ Cert.QkBwdIdeal.sig) → Buf (Elt Ideal) ℓ) : Prop :=
  True

def Pre_QkBwdIdeal_finite_qk [hPre_finite_qk : Cert.Pre_finite_qk.Facts] (m : (ℓ : Loc Cert.QkBwdIdeal.nD Cert.QkBwdIdeal.τ Cert.QkBwdIdeal.sig) → Buf (Elt Ideal) ℓ) : Prop :=
  ∀ c : Dev Cert.QkBwdIdeal.nD,
    (Cert.Pre_finite_qk.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5))).1 = (fun _ => 1#1)
    ∧ (Cert.Pre_finite_qk.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5))).2.1 = (fun _ => 1#1)
    ∧ (Cert.Pre_finite_qk.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5))).2.2.1 = (fun _ => 1#1)
    ∧ (Cert.Pre_finite_qk.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5))).2.2.2.1 = (fun _ => 1#1)
    ∧ (Cert.Pre_finite_qk.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5))).2.2.2.2 = (fun _ => 1#1)

def Pre_QkBwdRefIdeal (m : (ℓ : Loc Cert.QkBwdRefIdeal.nD Cert.QkBwdRefIdeal.τ Cert.QkBwdRefIdeal.sig) → Buf (Elt Ideal) ℓ) : Prop :=
  True

def Pre_QkBwdRefIdeal_finite_qk [hPre_finite_qk : Cert.Pre_finite_qk.Facts] (m : (ℓ : Loc Cert.QkBwdRefIdeal.nD Cert.QkBwdRefIdeal.τ Cert.QkBwdRefIdeal.sig) → Buf (Elt Ideal) ℓ) : Prop :=
  ∀ c : Dev Cert.QkBwdRefIdeal.nD,
    (Cert.Pre_finite_qk.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5))).1 = (fun _ => 1#1)
    ∧ (Cert.Pre_finite_qk.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5))).2.1 = (fun _ => 1#1)
    ∧ (Cert.Pre_finite_qk.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5))).2.2.1 = (fun _ => 1#1)
    ∧ (Cert.Pre_finite_qk.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5))).2.2.2.1 = (fun _ => 1#1)
    ∧ (Cert.Pre_finite_qk.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5))).2.2.2.2 = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm1 [hPre_finite_norm1 : Cert.Pre_finite_norm1.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.1 = (fun _ => 1#1)
    ∧ (Cert.Pre_finite_norm1.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_finite_norm1 [hPre_finite_norm1 : Cert.Pre_finite_norm1.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_finite_norm1.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).1 = (fun _ => 1#1)
    ∧ (Cert.Pre_finite_norm1.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.1 = (fun _ => 1#1)
    ∧ (Cert.Pre_finite_norm1.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.1 = (fun _ => 1#1)
    ∧ (Cert.Pre_finite_norm1.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2 = (fun _ => 1#1)

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixBwdIdeal_finite_norm2 [hPre_finite_norm2 : Cert.Pre_finite_norm2.Facts] (m : (ℓ : Loc Cert.NormMixBwdIdeal.nD Cert.NormMixBwdIdeal.τ Cert.NormMixBwdIdeal.sig) → Buf (Elt Ideal) ℓ) : Prop :=
  ∀ c : Dev Cert.NormMixBwdIdeal.nD,
    (Cert.Pre_finite_norm2.fn (F := Ideal) (m ((c.tc : Thread Cert.NormMixBwdIdeal.nD Cert.NormMixBwdIdeal.τ).loc Cert.NormMixBwdIdeal.main_arg0)) (m ((c.tc : Thread Cert.NormMixBwdIdeal.nD Cert.NormMixBwdIdeal.τ).loc Cert.NormMixBwdIdeal.main_arg1)) (m ((c.tc : Thread Cert.NormMixBwdIdeal.nD Cert.NormMixBwdIdeal.τ).loc Cert.NormMixBwdIdeal.main_arg2)) (m ((c.tc : Thread Cert.NormMixBwdIdeal.nD Cert.NormMixBwdIdeal.τ).loc Cert.NormMixBwdIdeal.main_arg3)) (m ((c.tc : Thread Cert.NormMixBwdIdeal.nD Cert.NormMixBwdIdeal.τ).loc Cert.NormMixBwdIdeal.main_arg4)) (m ((c.tc : Thread Cert.NormMixBwdIdeal.nD Cert.NormMixBwdIdeal.τ).loc Cert.NormMixBwdIdeal.main_arg5)) (m ((c.tc : Thread Cert.NormMixBwdIdeal.nD Cert.NormMixBwdIdeal.τ).loc Cert.NormMixBwdIdeal.main_arg6)) (m ((c.tc : Thread Cert.NormMixBwdIdeal.nD Cert.NormMixBwdIdeal.τ).loc Cert.NormMixBwdIdeal.main_arg7))).1 = (fun _ => 1#1)
    ∧ (Cert.Pre_finite_norm2.fn (F := Ideal) (m ((c.tc : Thread Cert.NormMixBwdIdeal.nD Cert.NormMixBwdIdeal.τ).loc Cert.NormMixBwdIdeal.main_arg0)) (m ((c.tc : Thread Cert.NormMixBwdIdeal.nD Cert.NormMixBwdIdeal.τ).loc Cert.NormMixBwdIdeal.main_arg1)) (m ((c.tc : Thread Cert.NormMixBwdIdeal.nD Cert.NormMixBwdIdeal.τ).loc Cert.NormMixBwdIdeal.main_arg2)) (m ((c.tc : Thread Cert.NormMixBwdIdeal.nD Cert.NormMixBwdIdeal.τ).loc Cert.NormMixBwdIdeal.main_arg3)) (m ((c.tc : Thread Cert.NormMixBwdIdeal.nD Cert.NormMixBwdIdeal.τ).loc Cert.NormMixBwdIdeal.main_arg4)) (m ((c.tc : Thread Cert.NormMixBwdIdeal.nD Cert.NormMixBwdIdeal.τ).loc Cert.NormMixBwdIdeal.main_arg5)) (m ((c.tc : Thread Cert.NormMixBwdIdeal.nD Cert.NormMixBwdIdeal.τ).loc Cert.NormMixBwdIdeal.main_arg6)) (m ((c.tc : Thread Cert.NormMixBwdIdeal.nD Cert.NormMixBwdIdeal.τ).loc Cert.NormMixBwdIdeal.main_arg7))).2.1 = (fun _ => 1#1)
    ∧ (Cert.Pre_finite_norm2.fn (F := Ideal) (m ((c.tc : Thread Cert.NormMixBwdIdeal.nD Cert.NormMixBwdIdeal.τ).loc Cert.NormMixBwdIdeal.main_arg0)) (m ((c.tc : Thread Cert.NormMixBwdIdeal.nD Cert.NormMixBwdIdeal.τ).loc Cert.NormMixBwdIdeal.main_arg1)) (m ((c.tc : Thread Cert.NormMixBwdIdeal.nD Cert.NormMixBwdIdeal.τ).loc Cert.NormMixBwdIdeal.main_arg2)) (m ((c.tc : Thread Cert.NormMixBwdIdeal.nD Cert.NormMixBwdIdeal.τ).loc Cert.NormMixBwdIdeal.main_arg3)) (m ((c.tc : Thread Cert.NormMixBwdIdeal.nD Cert.NormMixBwdIdeal.τ).loc Cert.NormMixBwdIdeal.main_arg4)) (m ((c.tc : Thread Cert.NormMixBwdIdeal.nD Cert.NormMixBwdIdeal.τ).loc Cert.NormMixBwdIdeal.main_arg5)) (m ((c.tc : Thread Cert.NormMixBwdIdeal.nD Cert.NormMixBwdIdeal.τ).loc Cert.NormMixBwdIdeal.main_arg6)) (m ((c.tc : Thread Cert.NormMixBwdIdeal.nD Cert.NormMixBwdIdeal.τ).loc Cert.NormMixBwdIdeal.main_arg7))).2.2.1 = (fun _ => 1#1)
    ∧ (Cert.Pre_finite_norm2.fn (F := Ideal) (m ((c.tc : Thread Cert.NormMixBwdIdeal.nD Cert.NormMixBwdIdeal.τ).loc Cert.NormMixBwdIdeal.main_arg0)) (m ((c.tc : Thread Cert.NormMixBwdIdeal.nD Cert.NormMixBwdIdeal.τ).loc Cert.NormMixBwdIdeal.main_arg1)) (m ((c.tc : Thread Cert.NormMixBwdIdeal.nD Cert.NormMixBwdIdeal.τ).loc Cert.NormMixBwdIdeal.main_arg2)) (m ((c.tc : Thread Cert.NormMixBwdIdeal.nD Cert.NormMixBwdIdeal.τ).loc Cert.NormMixBwdIdeal.main_arg3)) (m ((c.tc : Thread Cert.NormMixBwdIdeal.nD Cert.NormMixBwdIdeal.τ).loc Cert.NormMixBwdIdeal.main_arg4)) (m ((c.tc : Thread Cert.NormMixBwdIdeal.nD Cert.NormMixBwdIdeal.τ).loc Cert.NormMixBwdIdeal.main_arg5)) (m ((c.tc : Thread Cert.NormMixBwdIdeal.nD Cert.NormMixBwdIdeal.τ).loc Cert.NormMixBwdIdeal.main_arg6)) (m ((c.tc : Thread Cert.NormMixBwdIdeal.nD Cert.NormMixBwdIdeal.τ).loc Cert.NormMixBwdIdeal.main_arg7))).2.2.2.1 = (fun _ => 1#1)
    ∧ (Cert.Pre_finite_norm2.fn (F := Ideal) (m ((c.tc : Thread Cert.NormMixBwdIdeal.nD Cert.NormMixBwdIdeal.τ).loc Cert.NormMixBwdIdeal.main_arg0)) (m ((c.tc : Thread Cert.NormMixBwdIdeal.nD Cert.NormMixBwdIdeal.τ).loc Cert.NormMixBwdIdeal.main_arg1)) (m ((c.tc : Thread Cert.NormMixBwdIdeal.nD Cert.NormMixBwdIdeal.τ).loc Cert.NormMixBwdIdeal.main_arg2)) (m ((c.tc : Thread Cert.NormMixBwdIdeal.nD Cert.NormMixBwdIdeal.τ).loc Cert.NormMixBwdIdeal.main_arg3)) (m ((c.tc : Thread Cert.NormMixBwdIdeal.nD Cert.NormMixBwdIdeal.τ).loc Cert.NormMixBwdIdeal.main_arg4)) (m ((c.tc : Thread Cert.NormMixBwdIdeal.nD Cert.NormMixBwdIdeal.τ).loc Cert.NormMixBwdIdeal.main_arg5)) (m ((c.tc : Thread Cert.NormMixBwdIdeal.nD Cert.NormMixBwdIdeal.τ).loc Cert.NormMixBwdIdeal.main_arg6)) (m ((c.tc : Thread Cert.NormMixBwdIdeal.nD Cert.NormMixBwdIdeal.τ).loc Cert.NormMixBwdIdeal.main_arg7))).2.2.2.2.1 = (fun _ => 1#1)
    ∧ (Cert.Pre_finite_norm2.fn (F := Ideal) (m ((c.tc : Thread Cert.NormMixBwdIdeal.nD Cert.NormMixBwdIdeal.τ).loc Cert.NormMixBwdIdeal.main_arg0)) (m ((c.tc : Thread Cert.NormMixBwdIdeal.nD Cert.NormMixBwdIdeal.τ).loc Cert.NormMixBwdIdeal.main_arg1)) (m ((c.tc : Thread Cert.NormMixBwdIdeal.nD Cert.NormMixBwdIdeal.τ).loc Cert.NormMixBwdIdeal.main_arg2)) (m ((c.tc : Thread Cert.NormMixBwdIdeal.nD Cert.NormMixBwdIdeal.τ).loc Cert.NormMixBwdIdeal.main_arg3)) (m ((c.tc : Thread Cert.NormMixBwdIdeal.nD Cert.NormMixBwdIdeal.τ).loc Cert.NormMixBwdIdeal.main_arg4)) (m ((c.tc : Thread Cert.NormMixBwdIdeal.nD Cert.NormMixBwdIdeal.τ).loc Cert.NormMixBwdIdeal.main_arg5)) (m ((c.tc : Thread Cert.NormMixBwdIdeal.nD Cert.NormMixBwdIdeal.τ).loc Cert.NormMixBwdIdeal.main_arg6)) (m ((c.tc : Thread Cert.NormMixBwdIdeal.nD Cert.NormMixBwdIdeal.τ).loc Cert.NormMixBwdIdeal.main_arg7))).2.2.2.2.2 = (fun _ => 1#1)

def Pre_NormMixBwdRefIdeal (m : (ℓ : Loc Cert.NormMixBwdRefIdeal.nD Cert.NormMixBwdRefIdeal.τ Cert.NormMixBwdRefIdeal.sig) → Buf (Elt Ideal) ℓ) : Prop :=
  True

def Pre_NormMixBwdRefIdeal_finite_norm2 [hPre_finite_norm2 : Cert.Pre_finite_norm2.Facts] (m : (ℓ : Loc Cert.NormMixBwdRefIdeal.nD Cert.NormMixBwdRefIdeal.τ Cert.NormMixBwdRefIdeal.sig) → Buf (Elt Ideal) ℓ) : Prop :=
  ∀ c : Dev Cert.NormMixBwdRefIdeal.nD,
    (Cert.Pre_finite_norm2.fn (F := Ideal) (m ((c.tc : Thread Cert.NormMixBwdRefIdeal.nD Cert.NormMixBwdRefIdeal.τ).loc Cert.NormMixBwdRefIdeal.main_arg0)) (m ((c.tc : Thread Cert.NormMixBwdRefIdeal.nD Cert.NormMixBwdRefIdeal.τ).loc Cert.NormMixBwdRefIdeal.main_arg1)) (m ((c.tc : Thread Cert.NormMixBwdRefIdeal.nD Cert.NormMixBwdRefIdeal.τ).loc Cert.NormMixBwdRefIdeal.main_arg2)) (m ((c.tc : Thread Cert.NormMixBwdRefIdeal.nD Cert.NormMixBwdRefIdeal.τ).loc Cert.NormMixBwdRefIdeal.main_arg3)) (m ((c.tc : Thread Cert.NormMixBwdRefIdeal.nD Cert.NormMixBwdRefIdeal.τ).loc Cert.NormMixBwdRefIdeal.main_arg4)) (m ((c.tc : Thread Cert.NormMixBwdRefIdeal.nD Cert.NormMixBwdRefIdeal.τ).loc Cert.NormMixBwdRefIdeal.main_arg5)) (m ((c.tc : Thread Cert.NormMixBwdRefIdeal.nD Cert.NormMixBwdRefIdeal.τ).loc Cert.NormMixBwdRefIdeal.main_arg6)) (m ((c.tc : Thread Cert.NormMixBwdRefIdeal.nD Cert.NormMixBwdRefIdeal.τ).loc Cert.NormMixBwdRefIdeal.main_arg7))).1 = (fun _ => 1#1)
    ∧ (Cert.Pre_finite_norm2.fn (F := Ideal) (m ((c.tc : Thread Cert.NormMixBwdRefIdeal.nD Cert.NormMixBwdRefIdeal.τ).loc Cert.NormMixBwdRefIdeal.main_arg0)) (m ((c.tc : Thread Cert.NormMixBwdRefIdeal.nD Cert.NormMixBwdRefIdeal.τ).loc Cert.NormMixBwdRefIdeal.main_arg1)) (m ((c.tc : Thread Cert.NormMixBwdRefIdeal.nD Cert.NormMixBwdRefIdeal.τ).loc Cert.NormMixBwdRefIdeal.main_arg2)) (m ((c.tc : Thread Cert.NormMixBwdRefIdeal.nD Cert.NormMixBwdRefIdeal.τ).loc Cert.NormMixBwdRefIdeal.main_arg3)) (m ((c.tc : Thread Cert.NormMixBwdRefIdeal.nD Cert.NormMixBwdRefIdeal.τ).loc Cert.NormMixBwdRefIdeal.main_arg4)) (m ((c.tc : Thread Cert.NormMixBwdRefIdeal.nD Cert.NormMixBwdRefIdeal.τ).loc Cert.NormMixBwdRefIdeal.main_arg5)) (m ((c.tc : Thread Cert.NormMixBwdRefIdeal.nD Cert.NormMixBwdRefIdeal.τ).loc Cert.NormMixBwdRefIdeal.main_arg6)) (m ((c.tc : Thread Cert.NormMixBwdRefIdeal.nD Cert.NormMixBwdRefIdeal.τ).loc Cert.NormMixBwdRefIdeal.main_arg7))).2.1 = (fun _ => 1#1)
    ∧ (Cert.Pre_finite_norm2.fn (F := Ideal) (m ((c.tc : Thread Cert.NormMixBwdRefIdeal.nD Cert.NormMixBwdRefIdeal.τ).loc Cert.NormMixBwdRefIdeal.main_arg0)) (m ((c.tc : Thread Cert.NormMixBwdRefIdeal.nD Cert.NormMixBwdRefIdeal.τ).loc Cert.NormMixBwdRefIdeal.main_arg1)) (m ((c.tc : Thread Cert.NormMixBwdRefIdeal.nD Cert.NormMixBwdRefIdeal.τ).loc Cert.NormMixBwdRefIdeal.main_arg2)) (m ((c.tc : Thread Cert.NormMixBwdRefIdeal.nD Cert.NormMixBwdRefIdeal.τ).loc Cert.NormMixBwdRefIdeal.main_arg3)) (m ((c.tc : Thread Cert.NormMixBwdRefIdeal.nD Cert.NormMixBwdRefIdeal.τ).loc Cert.NormMixBwdRefIdeal.main_arg4)) (m ((c.tc : Thread Cert.NormMixBwdRefIdeal.nD Cert.NormMixBwdRefIdeal.τ).loc Cert.NormMixBwdRefIdeal.main_arg5)) (m ((c.tc : Thread Cert.NormMixBwdRefIdeal.nD Cert.NormMixBwdRefIdeal.τ).loc Cert.NormMixBwdRefIdeal.main_arg6)) (m ((c.tc : Thread Cert.NormMixBwdRefIdeal.nD Cert.NormMixBwdRefIdeal.τ).loc Cert.NormMixBwdRefIdeal.main_arg7))).2.2.1 = (fun _ => 1#1)
    ∧ (Cert.Pre_finite_norm2.fn (F := Ideal) (m ((c.tc : Thread Cert.NormMixBwdRefIdeal.nD Cert.NormMixBwdRefIdeal.τ).loc Cert.NormMixBwdRefIdeal.main_arg0)) (m ((c.tc : Thread Cert.NormMixBwdRefIdeal.nD Cert.NormMixBwdRefIdeal.τ).loc Cert.NormMixBwdRefIdeal.main_arg1)) (m ((c.tc : Thread Cert.NormMixBwdRefIdeal.nD Cert.NormMixBwdRefIdeal.τ).loc Cert.NormMixBwdRefIdeal.main_arg2)) (m ((c.tc : Thread Cert.NormMixBwdRefIdeal.nD Cert.NormMixBwdRefIdeal.τ).loc Cert.NormMixBwdRefIdeal.main_arg3)) (m ((c.tc : Thread Cert.NormMixBwdRefIdeal.nD Cert.NormMixBwdRefIdeal.τ).loc Cert.NormMixBwdRefIdeal.main_arg4)) (m ((c.tc : Thread Cert.NormMixBwdRefIdeal.nD Cert.NormMixBwdRefIdeal.τ).loc Cert.NormMixBwdRefIdeal.main_arg5)) (m ((c.tc : Thread Cert.NormMixBwdRefIdeal.nD Cert.NormMixBwdRefIdeal.τ).loc Cert.NormMixBwdRefIdeal.main_arg6)) (m ((c.tc : Thread Cert.NormMixBwdRefIdeal.nD Cert.NormMixBwdRefIdeal.τ).loc Cert.NormMixBwdRefIdeal.main_arg7))).2.2.2.1 = (fun _ => 1#1)
    ∧ (Cert.Pre_finite_norm2.fn (F := Ideal) (m ((c.tc : Thread Cert.NormMixBwdRefIdeal.nD Cert.NormMixBwdRefIdeal.τ).loc Cert.NormMixBwdRefIdeal.main_arg0)) (m ((c.tc : Thread Cert.NormMixBwdRefIdeal.nD Cert.NormMixBwdRefIdeal.τ).loc Cert.NormMixBwdRefIdeal.main_arg1)) (m ((c.tc : Thread Cert.NormMixBwdRefIdeal.nD Cert.NormMixBwdRefIdeal.τ).loc Cert.NormMixBwdRefIdeal.main_arg2)) (m ((c.tc : Thread Cert.NormMixBwdRefIdeal.nD Cert.NormMixBwdRefIdeal.τ).loc Cert.NormMixBwdRefIdeal.main_arg3)) (m ((c.tc : Thread Cert.NormMixBwdRefIdeal.nD Cert.NormMixBwdRefIdeal.τ).loc Cert.NormMixBwdRefIdeal.main_arg4)) (m ((c.tc : Thread Cert.NormMixBwdRefIdeal.nD Cert.NormMixBwdRefIdeal.τ).loc Cert.NormMixBwdRefIdeal.main_arg5)) (m ((c.tc : Thread Cert.NormMixBwdRefIdeal.nD Cert.NormMixBwdRefIdeal.τ).loc Cert.NormMixBwdRefIdeal.main_arg6)) (m ((c.tc : Thread Cert.NormMixBwdRefIdeal.nD Cert.NormMixBwdRefIdeal.τ).loc Cert.NormMixBwdRefIdeal.main_arg7))).2.2.2.2.1 = (fun _ => 1#1)
    ∧ (Cert.Pre_finite_norm2.fn (F := Ideal) (m ((c.tc : Thread Cert.NormMixBwdRefIdeal.nD Cert.NormMixBwdRefIdeal.τ).loc Cert.NormMixBwdRefIdeal.main_arg0)) (m ((c.tc : Thread Cert.NormMixBwdRefIdeal.nD Cert.NormMixBwdRefIdeal.τ).loc Cert.NormMixBwdRefIdeal.main_arg1)) (m ((c.tc : Thread Cert.NormMixBwdRefIdeal.nD Cert.NormMixBwdRefIdeal.τ).loc Cert.NormMixBwdRefIdeal.main_arg2)) (m ((c.tc : Thread Cert.NormMixBwdRefIdeal.nD Cert.NormMixBwdRefIdeal.τ).loc Cert.NormMixBwdRefIdeal.main_arg3)) (m ((c.tc : Thread Cert.NormMixBwdRefIdeal.nD Cert.NormMixBwdRefIdeal.τ).loc Cert.NormMixBwdRefIdeal.main_arg4)) (m ((c.tc : Thread Cert.NormMixBwdRefIdeal.nD Cert.NormMixBwdRefIdeal.τ).loc Cert.NormMixBwdRefIdeal.main_arg5)) (m ((c.tc : Thread Cert.NormMixBwdRefIdeal.nD Cert.NormMixBwdRefIdeal.τ).loc Cert.NormMixBwdRefIdeal.main_arg6)) (m ((c.tc : Thread Cert.NormMixBwdRefIdeal.nD Cert.NormMixBwdRefIdeal.τ).loc Cert.NormMixBwdRefIdeal.main_arg7))).2.2.2.2.2 = (fun _ => 1#1)

def Pre_QkFwd (m : (ℓ : Loc Cert.QkFwd.nD Cert.QkFwd.τ Cert.QkFwd.sig) → Buf (Elt Bits) ℓ) : Prop :=
  True

def Pre_QkFwdIdeal (m : (ℓ : Loc Cert.QkFwdIdeal.nD Cert.QkFwdIdeal.τ Cert.QkFwdIdeal.sig) → Buf (Elt Ideal) ℓ) : Prop :=
  True

def Pre_QkFwdRefIdeal (m : (ℓ : Loc Cert.QkFwdRefIdeal.nD Cert.QkFwdRefIdeal.τ Cert.QkFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmInDx (m : (ℓ : Loc Cert.MmInDx.nD Cert.MmInDx.τ Cert.MmInDx.sig) → Buf (Elt Bits) ℓ) : Prop :=
  True

def Pre_MmInDxIdeal (m : (ℓ : Loc Cert.MmInDxIdeal.nD Cert.MmInDxIdeal.τ Cert.MmInDxIdeal.sig) → Buf (Elt Ideal) ℓ) : Prop :=
  True

def Pre_MmInDxRefIdeal (m : (ℓ : Loc Cert.MmInDxRefIdeal.nD Cert.MmInDxRefIdeal.τ Cert.MmInDxRefIdeal.sig) → Buf (Elt Ideal) ℓ) : Prop :=
  True

def Pre_MmInDw (m : (ℓ : Loc Cert.MmInDw.nD Cert.MmInDw.τ Cert.MmInDw.sig) → Buf (Elt Bits) ℓ) : Prop :=
  True

def Pre_MmInDwIdeal (m : (ℓ : Loc Cert.MmInDwIdeal.nD Cert.MmInDwIdeal.τ Cert.MmInDwIdeal.sig) → Buf (Elt Ideal) ℓ) : Prop :=
  True

def Pre_MmInDwRefIdeal (m : (ℓ : Loc Cert.MmInDwRefIdeal.nD Cert.MmInDwRefIdeal.τ Cert.MmInDwRefIdeal.sig) → Buf (Elt Ideal) ℓ) : Prop :=
  True

def Pre_MmUpDx (m : (ℓ : Loc Cert.MmUpDx.nD Cert.MmUpDx.τ Cert.MmUpDx.sig) → Buf (Elt Bits) ℓ) : Prop :=
  True

def Pre_MmUpDxIdeal (m : (ℓ : Loc Cert.MmUpDxIdeal.nD Cert.MmUpDxIdeal.τ Cert.MmUpDxIdeal.sig) → Buf (Elt Ideal) ℓ) : Prop :=
  True

def Pre_MmUpDxRefIdeal (m : (ℓ : Loc Cert.MmUpDxRefIdeal.nD Cert.MmUpDxRefIdeal.τ Cert.MmUpDxRefIdeal.sig) → Buf (Elt Ideal) ℓ) : Prop :=
  True

def Pre_MmUpDw (m : (ℓ : Loc Cert.MmUpDw.nD Cert.MmUpDw.τ Cert.MmUpDw.sig) → Buf (Elt Bits) ℓ) : Prop :=
  True

def Pre_MmUpDwIdeal (m : (ℓ : Loc Cert.MmUpDwIdeal.nD Cert.MmUpDwIdeal.τ Cert.MmUpDwIdeal.sig) → Buf (Elt Ideal) ℓ) : Prop :=
  True

def Pre_MmUpDwRefIdeal (m : (ℓ : Loc Cert.MmUpDwRefIdeal.nD Cert.MmUpDwRefIdeal.τ Cert.MmUpDwRefIdeal.sig) → Buf (Elt Ideal) ℓ) : Prop :=
  True

def Pre_MmDownDw (m : (ℓ : Loc Cert.MmDownDw.nD Cert.MmDownDw.τ Cert.MmDownDw.sig) → Buf (Elt Bits) ℓ) : Prop :=
  True

def Pre_MmDownDwIdeal (m : (ℓ : Loc Cert.MmDownDwIdeal.nD Cert.MmDownDwIdeal.τ Cert.MmDownDwIdeal.sig) → Buf (Elt Ideal) ℓ) : Prop :=
  True

def Pre_MmDownDwRefIdeal (m : (ℓ : Loc Cert.MmDownDwRefIdeal.nD Cert.MmDownDwRefIdeal.τ Cert.MmDownDwRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdamWReduced [hPre_chip_index : Cert.Pre_chip_index.Facts] (m : (ℓ : Loc Cert.AdamWReduced.nD Cert.AdamWReduced.τ Cert.AdamWReduced.sig) → Buf (Elt Bits) ℓ) : Prop :=
  ∀ c : Dev Cert.AdamWReduced.nD,
    (Cert.Pre_chip_index.fn (F := Bits) (m ((c.tc : Thread Cert.AdamWReduced.nD Cert.AdamWReduced.τ).loc Cert.AdamWReduced.main_arg0)) (m ((c.tc : Thread Cert.AdamWReduced.nD Cert.AdamWReduced.τ).loc Cert.AdamWReduced.main_arg1)) (m ((c.tc : Thread Cert.AdamWReduced.nD Cert.AdamWReduced.τ).loc Cert.AdamWReduced.main_arg2)) (m ((c.tc : Thread Cert.AdamWReduced.nD Cert.AdamWReduced.τ).loc Cert.AdamWReduced.main_arg3)) (m ((c.tc : Thread Cert.AdamWReduced.nD Cert.AdamWReduced.τ).loc Cert.AdamWReduced.main_arg4)) (m ((c.tc : Thread Cert.AdamWReduced.nD Cert.AdamWReduced.τ).loc Cert.AdamWReduced.main_arg5))).1 = (fun _ => 1#1)
    ∧ (Cert.Pre_chip_index.fn (F := Bits) (m ((c.tc : Thread Cert.AdamWReduced.nD Cert.AdamWReduced.τ).loc Cert.AdamWReduced.main_arg0)) (m ((c.tc : Thread Cert.AdamWReduced.nD Cert.AdamWReduced.τ).loc Cert.AdamWReduced.main_arg1)) (m ((c.tc : Thread Cert.AdamWReduced.nD Cert.AdamWReduced.τ).loc Cert.AdamWReduced.main_arg2)) (m ((c.tc : Thread Cert.AdamWReduced.nD Cert.AdamWReduced.τ).loc Cert.AdamWReduced.main_arg3)) (m ((c.tc : Thread Cert.AdamWReduced.nD Cert.AdamWReduced.τ).loc Cert.AdamWReduced.main_arg4)) (m ((c.tc : Thread Cert.AdamWReduced.nD Cert.AdamWReduced.τ).loc Cert.AdamWReduced.main_arg5))).2 = (fun _ => 1#1)

def Pre_AdamWReducedIdeal [hPre_chip_index : Cert.Pre_chip_index.Facts] (m : (ℓ : Loc Cert.AdamWReducedIdeal.nD Cert.AdamWReducedIdeal.τ Cert.AdamWReducedIdeal.sig) → Buf (Elt Ideal) ℓ) : Prop :=
  ∀ c : Dev Cert.AdamWReducedIdeal.nD,
    (Cert.Pre_chip_index.fn (F := Ideal) (m ((c.tc : Thread Cert.AdamWReducedIdeal.nD Cert.AdamWReducedIdeal.τ).loc Cert.AdamWReducedIdeal.main_arg0)) (m ((c.tc : Thread Cert.AdamWReducedIdeal.nD Cert.AdamWReducedIdeal.τ).loc Cert.AdamWReducedIdeal.main_arg1)) (m ((c.tc : Thread Cert.AdamWReducedIdeal.nD Cert.AdamWReducedIdeal.τ).loc Cert.AdamWReducedIdeal.main_arg2)) (m ((c.tc : Thread Cert.AdamWReducedIdeal.nD Cert.AdamWReducedIdeal.τ).loc Cert.AdamWReducedIdeal.main_arg3)) (m ((c.tc : Thread Cert.AdamWReducedIdeal.nD Cert.AdamWReducedIdeal.τ).loc Cert.AdamWReducedIdeal.main_arg4)) (m ((c.tc : Thread Cert.AdamWReducedIdeal.nD Cert.AdamWReducedIdeal.τ).loc Cert.AdamWReducedIdeal.main_arg5))).1 = (fun _ => 1#1)
    ∧ (Cert.Pre_chip_index.fn (F := Ideal) (m ((c.tc : Thread Cert.AdamWReducedIdeal.nD Cert.AdamWReducedIdeal.τ).loc Cert.AdamWReducedIdeal.main_arg0)) (m ((c.tc : Thread Cert.AdamWReducedIdeal.nD Cert.AdamWReducedIdeal.τ).loc Cert.AdamWReducedIdeal.main_arg1)) (m ((c.tc : Thread Cert.AdamWReducedIdeal.nD Cert.AdamWReducedIdeal.τ).loc Cert.AdamWReducedIdeal.main_arg2)) (m ((c.tc : Thread Cert.AdamWReducedIdeal.nD Cert.AdamWReducedIdeal.τ).loc Cert.AdamWReducedIdeal.main_arg3)) (m ((c.tc : Thread Cert.AdamWReducedIdeal.nD Cert.AdamWReducedIdeal.τ).loc Cert.AdamWReducedIdeal.main_arg4)) (m ((c.tc : Thread Cert.AdamWReducedIdeal.nD Cert.AdamWReducedIdeal.τ).loc Cert.AdamWReducedIdeal.main_arg5))).2 = (fun _ => 1#1)

def Pre_AdamWReducedRefIdeal (m : (ℓ : Loc Cert.AdamWReducedRefIdeal.nD Cert.AdamWReducedRefIdeal.τ Cert.AdamWReducedRefIdeal.sig) → Buf (Elt Ideal) ℓ) : Prop :=
  True

def Pre_AdamWReducedRefIdeal_chip_index [hPre_chip_index : Cert.Pre_chip_index.Facts] (m : (ℓ : Loc Cert.AdamWReducedRefIdeal.nD Cert.AdamWReducedRefIdeal.τ Cert.AdamWReducedRefIdeal.sig) → Buf (Elt Ideal) ℓ) : Prop :=
  ∀ c : Dev Cert.AdamWReducedRefIdeal.nD,
    (Cert.Pre_chip_index.fn (F := Ideal) (m ((c.tc : Thread Cert.AdamWReducedRefIdeal.nD Cert.AdamWReducedRefIdeal.τ).loc Cert.AdamWReducedRefIdeal.main_arg0)) (m ((c.tc : Thread Cert.AdamWReducedRefIdeal.nD Cert.AdamWReducedRefIdeal.τ).loc Cert.AdamWReducedRefIdeal.main_arg1)) (m ((c.tc : Thread Cert.AdamWReducedRefIdeal.nD Cert.AdamWReducedRefIdeal.τ).loc Cert.AdamWReducedRefIdeal.main_arg2)) (m ((c.tc : Thread Cert.AdamWReducedRefIdeal.nD Cert.AdamWReducedRefIdeal.τ).loc Cert.AdamWReducedRefIdeal.main_arg3)) (m ((c.tc : Thread Cert.AdamWReducedRefIdeal.nD Cert.AdamWReducedRefIdeal.τ).loc Cert.AdamWReducedRefIdeal.main_arg4)) (m ((c.tc : Thread Cert.AdamWReducedRefIdeal.nD Cert.AdamWReducedRefIdeal.τ).loc Cert.AdamWReducedRefIdeal.main_arg5))).1 = (fun _ => 1#1)
    ∧ (Cert.Pre_chip_index.fn (F := Ideal) (m ((c.tc : Thread Cert.AdamWReducedRefIdeal.nD Cert.AdamWReducedRefIdeal.τ).loc Cert.AdamWReducedRefIdeal.main_arg0)) (m ((c.tc : Thread Cert.AdamWReducedRefIdeal.nD Cert.AdamWReducedRefIdeal.τ).loc Cert.AdamWReducedRefIdeal.main_arg1)) (m ((c.tc : Thread Cert.AdamWReducedRefIdeal.nD Cert.AdamWReducedRefIdeal.τ).loc Cert.AdamWReducedRefIdeal.main_arg2)) (m ((c.tc : Thread Cert.AdamWReducedRefIdeal.nD Cert.AdamWReducedRefIdeal.τ).loc Cert.AdamWReducedRefIdeal.main_arg3)) (m ((c.tc : Thread Cert.AdamWReducedRefIdeal.nD Cert.AdamWReducedRefIdeal.τ).loc Cert.AdamWReducedRefIdeal.main_arg4)) (m ((c.tc : Thread Cert.AdamWReducedRefIdeal.nD Cert.AdamWReducedRefIdeal.τ).loc Cert.AdamWReducedRefIdeal.main_arg5))).2 = (fun _ => 1#1)

def Pre_PairSum [hPre_core_index : Cert.Pre_core_index.Facts] (m : (ℓ : Loc Cert.PairSum.nD Cert.PairSum.τ Cert.PairSum.sig) → Buf (Elt Bits) ℓ) : Prop :=
  ∀ c : Dev Cert.PairSum.nD,
    (Cert.Pre_core_index.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))).1 = (fun _ => 1#1)
    ∧ (Cert.Pre_core_index.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))).2 = (fun _ => 1#1)

def Pre_PairSumIdeal [hPre_core_index : Cert.Pre_core_index.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_core_index.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))).1 = (fun _ => 1#1)
    ∧ (Cert.Pre_core_index.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))).2 = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_core_index [hPre_core_index : Cert.Pre_core_index.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_core_index.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))).1 = (fun _ => 1#1)
    ∧ (Cert.Pre_core_index.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))).2 = (fun _ => 1#1)

def Pre_DeviceSum (m : (ℓ : Loc Cert.DeviceSum.nD Cert.DeviceSum.τ Cert.DeviceSum.sig) → Buf (Elt Bits) ℓ) : Prop :=
  True

def Pre_DeviceSumIdeal (m : (ℓ : Loc Cert.DeviceSumIdeal.nD Cert.DeviceSumIdeal.τ Cert.DeviceSumIdeal.sig) → Buf (Elt Ideal) ℓ) : Prop :=
  True

def Pre_DeviceSumRefIdeal (m : (ℓ : Loc Cert.DeviceSumRefIdeal.nD Cert.DeviceSumRefIdeal.τ Cert.DeviceSumRefIdeal.sig) → Buf (Elt Ideal) ℓ) : Prop :=
  True

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnBwd (m : (ℓ : Loc Cert.HgrnBwd.nD Cert.HgrnBwd.τ Cert.HgrnBwd.sig) → Buf (Elt Bits) ℓ) : Prop :=
  True

def Pre_HgrnBwdIdeal (m : (ℓ : Loc Cert.HgrnBwdIdeal.nD Cert.HgrnBwdIdeal.τ Cert.HgrnBwdIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite [hAttnBwdRefIdeal : Cert.AttnBwdRefIdeal.Facts] [hPre_finite : Cert.Pre_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_QkBwd [hQkBwd : Cert.QkBwd.Facts] : Prop :=
  ∀ (m : (ℓ : Loc Cert.QkBwd.nD Cert.QkBwd.τ Cert.QkBwd.sig) → Buf (Elt Bits) ℓ) (g : Dev Cert.QkBwd.nD → PrngReg), Pre_QkBwd m →
    θ_run (Cert.QkBwd.defs (F := Bits)) (onTc (τ := Cert.QkBwd.τ) (Cert.QkBwd.main (F := Bits))) ⟨m, fun _ => 0, g⟩ (fun r => (∀ c : Dev Cert.QkBwd.nD,
      r.2.mem ((c.tc : Thread Cert.QkBwd.nD Cert.QkBwd.τ).loc Cert.QkBwd.main_arg0) = m ((c.tc : Thread Cert.QkBwd.nD Cert.QkBwd.τ).loc Cert.QkBwd.main_arg0)
      ∧ r.2.mem ((c.tc : Thread Cert.QkBwd.nD Cert.QkBwd.τ).loc Cert.QkBwd.main_arg1) = m ((c.tc : Thread Cert.QkBwd.nD Cert.QkBwd.τ).loc Cert.QkBwd.main_arg1)
      ∧ r.2.mem ((c.tc : Thread Cert.QkBwd.nD Cert.QkBwd.τ).loc Cert.QkBwd.main_arg2) = m ((c.tc : Thread Cert.QkBwd.nD Cert.QkBwd.τ).loc Cert.QkBwd.main_arg2)
      ∧ r.2.mem ((c.tc : Thread Cert.QkBwd.nD Cert.QkBwd.τ).loc Cert.QkBwd.main_arg3) = m ((c.tc : Thread Cert.QkBwd.nD Cert.QkBwd.τ).loc Cert.QkBwd.main_arg3)
      ∧ r.2.mem ((c.tc : Thread Cert.QkBwd.nD Cert.QkBwd.τ).loc Cert.QkBwd.main_arg4) = m ((c.tc : Thread Cert.QkBwd.nD Cert.QkBwd.τ).loc Cert.QkBwd.main_arg4)
      ∧ r.2.mem ((c.tc : Thread Cert.QkBwd.nD Cert.QkBwd.τ).loc Cert.QkBwd.main_arg5) = m ((c.tc : Thread Cert.QkBwd.nD Cert.QkBwd.τ).loc Cert.QkBwd.main_arg5))
      ∧ r.2.sem = fun _ => 0)

def quiescent_QkBwdIdeal [hQkBwdIdeal : Cert.QkBwdIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5))
      ∧ r.2.sem = fun _ => 0)

def quiescent_QkBwdIdeal_pre_finite_qk [hQkBwdIdeal : Cert.QkBwdIdeal.Facts] [hPre_finite_qk : Cert.Pre_finite_qk.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal_finite_qk m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5))
      ∧ r.2.sem = fun _ => 0)

def quiescent_QkBwdRefIdeal [hQkBwdRefIdeal : Cert.QkBwdRefIdeal.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5))
      ∧ r.2.sem = fun _ => 0)

def quiescent_QkBwdRefIdeal_pre_finite_qk [hQkBwdRefIdeal : Cert.QkBwdRefIdeal.Facts] [hPre_finite_qk : Cert.Pre_finite_qk.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal_finite_qk m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_finite_norm1 [hNormBwdIdeal : Cert.NormBwdIdeal.Facts] [hPre_finite_norm1 : Cert.Pre_finite_norm1.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm1 m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormBwdRefIdeal_pre_finite_norm1 [hNormBwdRefIdeal : Cert.NormBwdRefIdeal.Facts] [hPre_finite_norm1 : Cert.Pre_finite_norm1.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_finite_norm1 m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3)
      ∧ r.2.mem ((c.tc : Thread Cert.NormMixBwd.nD Cert.NormMixBwd.τ).loc Cert.NormMixBwd.main_arg4) = m ((c.tc : Thread Cert.NormMixBwd.nD Cert.NormMixBwd.τ).loc Cert.NormMixBwd.main_arg4)
      ∧ r.2.mem ((c.tc : Thread Cert.NormMixBwd.nD Cert.NormMixBwd.τ).loc Cert.NormMixBwd.main_arg5) = m ((c.tc : Thread Cert.NormMixBwd.nD Cert.NormMixBwd.τ).loc Cert.NormMixBwd.main_arg5)
      ∧ r.2.mem ((c.tc : Thread Cert.NormMixBwd.nD Cert.NormMixBwd.τ).loc Cert.NormMixBwd.main_arg6) = m ((c.tc : Thread Cert.NormMixBwd.nD Cert.NormMixBwd.τ).loc Cert.NormMixBwd.main_arg6)
      ∧ r.2.mem ((c.tc : Thread Cert.NormMixBwd.nD Cert.NormMixBwd.τ).loc Cert.NormMixBwd.main_arg7) = m ((c.tc : Thread Cert.NormMixBwd.nD Cert.NormMixBwd.τ).loc Cert.NormMixBwd.main_arg7))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
      ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4)
      ∧ r.2.mem ((c.tc : Thread Cert.NormMixBwdIdeal.nD Cert.NormMixBwdIdeal.τ).loc Cert.NormMixBwdIdeal.main_arg5) = m ((c.tc : Thread Cert.NormMixBwdIdeal.nD Cert.NormMixBwdIdeal.τ).loc Cert.NormMixBwdIdeal.main_arg5)
      ∧ r.2.mem ((c.tc : Thread Cert.NormMixBwdIdeal.nD Cert.NormMixBwdIdeal.τ).loc Cert.NormMixBwdIdeal.main_arg6) = m ((c.tc : Thread Cert.NormMixBwdIdeal.nD Cert.NormMixBwdIdeal.τ).loc Cert.NormMixBwdIdeal.main_arg6)
      ∧ r.2.mem ((c.tc : Thread Cert.NormMixBwdIdeal.nD Cert.NormMixBwdIdeal.τ).loc Cert.NormMixBwdIdeal.main_arg7) = m ((c.tc : Thread Cert.NormMixBwdIdeal.nD Cert.NormMixBwdIdeal.τ).loc Cert.NormMixBwdIdeal.main_arg7))
      ∧ r.2.sem = fun _ => 0)

def quiescent_NormMixBwdIdeal_pre_finite_norm2 [hNormMixBwdIdeal : Cert.NormMixBwdIdeal.Facts] [hPre_finite_norm2 : Cert.Pre_finite_norm2.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal_finite_norm2 m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
      ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4)
      ∧ r.2.mem ((c.tc : Thread Cert.NormMixBwdIdeal.nD Cert.NormMixBwdIdeal.τ).loc Cert.NormMixBwdIdeal.main_arg5) = m ((c.tc : Thread Cert.NormMixBwdIdeal.nD Cert.NormMixBwdIdeal.τ).loc Cert.NormMixBwdIdeal.main_arg5)
      ∧ r.2.mem ((c.tc : Thread Cert.NormMixBwdIdeal.nD Cert.NormMixBwdIdeal.τ).loc Cert.NormMixBwdIdeal.main_arg6) = m ((c.tc : Thread Cert.NormMixBwdIdeal.nD Cert.NormMixBwdIdeal.τ).loc Cert.NormMixBwdIdeal.main_arg6)
      ∧ r.2.mem ((c.tc : Thread Cert.NormMixBwdIdeal.nD Cert.NormMixBwdIdeal.τ).loc Cert.NormMixBwdIdeal.main_arg7) = m ((c.tc : Thread Cert.NormMixBwdIdeal.nD Cert.NormMixBwdIdeal.τ).loc Cert.NormMixBwdIdeal.main_arg7))
      ∧ r.2.sem = fun _ => 0)

def quiescent_NormMixBwdRefIdeal [hNormMixBwdRefIdeal : Cert.NormMixBwdRefIdeal.Facts] : Prop :=
  ∀ (m : (ℓ : Loc Cert.NormMixBwdRefIdeal.nD Cert.NormMixBwdRefIdeal.τ Cert.NormMixBwdRefIdeal.sig) → Buf (Elt Ideal) ℓ) (g : Dev Cert.NormMixBwdRefIdeal.nD → PrngReg), Pre_NormMixBwdRefIdeal m →
    θ_run (Cert.NormMixBwdRefIdeal.defs (F := Ideal)) (onTc (τ := Cert.NormMixBwdRefIdeal.τ) (Cert.NormMixBwdRefIdeal.main (F := Ideal))) ⟨m, fun _ => 0, g⟩ (fun r => (∀ c : Dev Cert.NormMixBwdRefIdeal.nD,
      r.2.mem ((c.tc : Thread Cert.NormMixBwdRefIdeal.nD Cert.NormMixBwdRefIdeal.τ).loc Cert.NormMixBwdRefIdeal.main_arg0) = m ((c.tc : Thread Cert.NormMixBwdRefIdeal.nD Cert.NormMixBwdRefIdeal.τ).loc Cert.NormMixBwdRefIdeal.main_arg0)
      ∧ r.2.mem ((c.tc : Thread Cert.NormMixBwdRefIdeal.nD Cert.NormMixBwdRefIdeal.τ).loc Cert.NormMixBwdRefIdeal.main_arg1) = m ((c.tc : Thread Cert.NormMixBwdRefIdeal.nD Cert.NormMixBwdRefIdeal.τ).loc Cert.NormMixBwdRefIdeal.main_arg1)
      ∧ r.2.mem ((c.tc : Thread Cert.NormMixBwdRefIdeal.nD Cert.NormMixBwdRefIdeal.τ).loc Cert.NormMixBwdRefIdeal.main_arg2) = m ((c.tc : Thread Cert.NormMixBwdRefIdeal.nD Cert.NormMixBwdRefIdeal.τ).loc Cert.NormMixBwdRefIdeal.main_arg2)
      ∧ r.2.mem ((c.tc : Thread Cert.NormMixBwdRefIdeal.nD Cert.NormMixBwdRefIdeal.τ).loc Cert.NormMixBwdRefIdeal.main_arg3) = m ((c.tc : Thread Cert.NormMixBwdRefIdeal.nD Cert.NormMixBwdRefIdeal.τ).loc Cert.NormMixBwdRefIdeal.main_arg3)
      ∧ r.2.mem ((c.tc : Thread Cert.NormMixBwdRefIdeal.nD Cert.NormMixBwdRefIdeal.τ).loc Cert.NormMixBwdRefIdeal.main_arg4) = m ((c.tc : Thread Cert.NormMixBwdRefIdeal.nD Cert.NormMixBwdRefIdeal.τ).loc Cert.NormMixBwdRefIdeal.main_arg4)
      ∧ r.2.mem ((c.tc : Thread Cert.NormMixBwdRefIdeal.nD Cert.NormMixBwdRefIdeal.τ).loc Cert.NormMixBwdRefIdeal.main_arg5) = m ((c.tc : Thread Cert.NormMixBwdRefIdeal.nD Cert.NormMixBwdRefIdeal.τ).loc Cert.NormMixBwdRefIdeal.main_arg5)
      ∧ r.2.mem ((c.tc : Thread Cert.NormMixBwdRefIdeal.nD Cert.NormMixBwdRefIdeal.τ).loc Cert.NormMixBwdRefIdeal.main_arg6) = m ((c.tc : Thread Cert.NormMixBwdRefIdeal.nD Cert.NormMixBwdRefIdeal.τ).loc Cert.NormMixBwdRefIdeal.main_arg6)
      ∧ r.2.mem ((c.tc : Thread Cert.NormMixBwdRefIdeal.nD Cert.NormMixBwdRefIdeal.τ).loc Cert.NormMixBwdRefIdeal.main_arg7) = m ((c.tc : Thread Cert.NormMixBwdRefIdeal.nD Cert.NormMixBwdRefIdeal.τ).loc Cert.NormMixBwdRefIdeal.main_arg7))
      ∧ r.2.sem = fun _ => 0)

def quiescent_NormMixBwdRefIdeal_pre_finite_norm2 [hNormMixBwdRefIdeal : Cert.NormMixBwdRefIdeal.Facts] [hPre_finite_norm2 : Cert.Pre_finite_norm2.Facts] : Prop :=
  ∀ (m : (ℓ : Loc Cert.NormMixBwdRefIdeal.nD Cert.NormMixBwdRefIdeal.τ Cert.NormMixBwdRefIdeal.sig) → Buf (Elt Ideal) ℓ) (g : Dev Cert.NormMixBwdRefIdeal.nD → PrngReg), Pre_NormMixBwdRefIdeal_finite_norm2 m →
    θ_run (Cert.NormMixBwdRefIdeal.defs (F := Ideal)) (onTc (τ := Cert.NormMixBwdRefIdeal.τ) (Cert.NormMixBwdRefIdeal.main (F := Ideal))) ⟨m, fun _ => 0, g⟩ (fun r => (∀ c : Dev Cert.NormMixBwdRefIdeal.nD,
      r.2.mem ((c.tc : Thread Cert.NormMixBwdRefIdeal.nD Cert.NormMixBwdRefIdeal.τ).loc Cert.NormMixBwdRefIdeal.main_arg0) = m ((c.tc : Thread Cert.NormMixBwdRefIdeal.nD Cert.NormMixBwdRefIdeal.τ).loc Cert.NormMixBwdRefIdeal.main_arg0)
      ∧ r.2.mem ((c.tc : Thread Cert.NormMixBwdRefIdeal.nD Cert.NormMixBwdRefIdeal.τ).loc Cert.NormMixBwdRefIdeal.main_arg1) = m ((c.tc : Thread Cert.NormMixBwdRefIdeal.nD Cert.NormMixBwdRefIdeal.τ).loc Cert.NormMixBwdRefIdeal.main_arg1)
      ∧ r.2.mem ((c.tc : Thread Cert.NormMixBwdRefIdeal.nD Cert.NormMixBwdRefIdeal.τ).loc Cert.NormMixBwdRefIdeal.main_arg2) = m ((c.tc : Thread Cert.NormMixBwdRefIdeal.nD Cert.NormMixBwdRefIdeal.τ).loc Cert.NormMixBwdRefIdeal.main_arg2)
      ∧ r.2.mem ((c.tc : Thread Cert.NormMixBwdRefIdeal.nD Cert.NormMixBwdRefIdeal.τ).loc Cert.NormMixBwdRefIdeal.main_arg3) = m ((c.tc : Thread Cert.NormMixBwdRefIdeal.nD Cert.NormMixBwdRefIdeal.τ).loc Cert.NormMixBwdRefIdeal.main_arg3)
      ∧ r.2.mem ((c.tc : Thread Cert.NormMixBwdRefIdeal.nD Cert.NormMixBwdRefIdeal.τ).loc Cert.NormMixBwdRefIdeal.main_arg4) = m ((c.tc : Thread Cert.NormMixBwdRefIdeal.nD Cert.NormMixBwdRefIdeal.τ).loc Cert.NormMixBwdRefIdeal.main_arg4)
      ∧ r.2.mem ((c.tc : Thread Cert.NormMixBwdRefIdeal.nD Cert.NormMixBwdRefIdeal.τ).loc Cert.NormMixBwdRefIdeal.main_arg5) = m ((c.tc : Thread Cert.NormMixBwdRefIdeal.nD Cert.NormMixBwdRefIdeal.τ).loc Cert.NormMixBwdRefIdeal.main_arg5)
      ∧ r.2.mem ((c.tc : Thread Cert.NormMixBwdRefIdeal.nD Cert.NormMixBwdRefIdeal.τ).loc Cert.NormMixBwdRefIdeal.main_arg6) = m ((c.tc : Thread Cert.NormMixBwdRefIdeal.nD Cert.NormMixBwdRefIdeal.τ).loc Cert.NormMixBwdRefIdeal.main_arg6)
      ∧ r.2.mem ((c.tc : Thread Cert.NormMixBwdRefIdeal.nD Cert.NormMixBwdRefIdeal.τ).loc Cert.NormMixBwdRefIdeal.main_arg7) = m ((c.tc : Thread Cert.NormMixBwdRefIdeal.nD Cert.NormMixBwdRefIdeal.τ).loc Cert.NormMixBwdRefIdeal.main_arg7))
      ∧ r.2.sem = fun _ => 0)

def quiescent_QkFwd [hQkFwd : Cert.QkFwd.Facts] : Prop :=
  ∀ (m : (ℓ : Loc Cert.QkFwd.nD Cert.QkFwd.τ Cert.QkFwd.sig) → Buf (Elt Bits) ℓ) (g : Dev Cert.QkFwd.nD → PrngReg), Pre_QkFwd m →
    θ_run (Cert.QkFwd.defs (F := Bits)) (onTc (τ := Cert.QkFwd.τ) (Cert.QkFwd.main (F := Bits))) ⟨m, fun _ => 0, g⟩ (fun r => (∀ c : Dev Cert.QkFwd.nD,
      r.2.mem ((c.tc : Thread Cert.QkFwd.nD Cert.QkFwd.τ).loc Cert.QkFwd.main_arg0) = m ((c.tc : Thread Cert.QkFwd.nD Cert.QkFwd.τ).loc Cert.QkFwd.main_arg0)
      ∧ r.2.mem ((c.tc : Thread Cert.QkFwd.nD Cert.QkFwd.τ).loc Cert.QkFwd.main_arg1) = m ((c.tc : Thread Cert.QkFwd.nD Cert.QkFwd.τ).loc Cert.QkFwd.main_arg1)
      ∧ r.2.mem ((c.tc : Thread Cert.QkFwd.nD Cert.QkFwd.τ).loc Cert.QkFwd.main_arg2) = m ((c.tc : Thread Cert.QkFwd.nD Cert.QkFwd.τ).loc Cert.QkFwd.main_arg2))
      ∧ r.2.sem = fun _ => 0)

def quiescent_QkFwdIdeal [hQkFwdIdeal : Cert.QkFwdIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg), Pre_QkFwdIdeal m →
    θ_run (Cert.QkFwdIdeal.defs (F := Ideal)) (onTc (τ := Cert.QkFwdIdeal.τ) (Cert.QkFwdIdeal.main (F := Ideal))) ⟨m, fun _ => 0, g⟩ (fun r => (∀ c : Dev Cert.QkFwdIdeal.nD,
      r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
      ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
      ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2))
      ∧ r.2.sem = fun _ => 0)

def quiescent_QkFwdRefIdeal [hQkFwdRefIdeal : Cert.QkFwdRefIdeal.Facts] : Prop :=
  ∀ (m : (ℓ : Loc Cert.QkFwdRefIdeal.nD Cert.QkFwdRefIdeal.τ Cert.QkFwdRefIdeal.sig) → Buf (Elt Ideal) ℓ) (g : Dev Cert.QkFwdRefIdeal.nD → PrngReg), Pre_QkFwdRefIdeal m →
    θ_run (Cert.QkFwdRefIdeal.defs (F := Ideal)) (onTc (τ := Cert.QkFwdRefIdeal.τ) (Cert.QkFwdRefIdeal.main (F := Ideal))) ⟨m, fun _ => 0, g⟩ (fun r => (∀ c : Dev Cert.QkFwdRefIdeal.nD,
      r.2.mem ((c.tc : Thread Cert.QkFwdRefIdeal.nD Cert.QkFwdRefIdeal.τ).loc Cert.QkFwdRefIdeal.main_arg0) = m ((c.tc : Thread Cert.QkFwdRefIdeal.nD Cert.QkFwdRefIdeal.τ).loc Cert.QkFwdRefIdeal.main_arg0)
      ∧ r.2.mem ((c.tc : Thread Cert.QkFwdRefIdeal.nD Cert.QkFwdRefIdeal.τ).loc Cert.QkFwdRefIdeal.main_arg1) = m ((c.tc : Thread Cert.QkFwdRefIdeal.nD Cert.QkFwdRefIdeal.τ).loc Cert.QkFwdRefIdeal.main_arg1)
      ∧ r.2.mem ((c.tc : Thread Cert.QkFwdRefIdeal.nD Cert.QkFwdRefIdeal.τ).loc Cert.QkFwdRefIdeal.main_arg2) = m ((c.tc : Thread Cert.QkFwdRefIdeal.nD Cert.QkFwdRefIdeal.τ).loc Cert.QkFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1))
      ∧ r.2.sem = fun _ => 0)

def quiescent_MmInDx [hMmInDx : Cert.MmInDx.Facts] : Prop :=
  ∀ (m : (ℓ : Loc Cert.MmInDx.nD Cert.MmInDx.τ Cert.MmInDx.sig) → Buf (Elt Bits) ℓ) (g : Dev Cert.MmInDx.nD → PrngReg), Pre_MmInDx m →
    θ_run (Cert.MmInDx.defs (F := Bits)) (onTc (τ := Cert.MmInDx.τ) (Cert.MmInDx.main (F := Bits))) ⟨m, fun _ => 0, g⟩ (fun r => (∀ c : Dev Cert.MmInDx.nD,
      r.2.mem ((c.tc : Thread Cert.MmInDx.nD Cert.MmInDx.τ).loc Cert.MmInDx.main_arg0) = m ((c.tc : Thread Cert.MmInDx.nD Cert.MmInDx.τ).loc Cert.MmInDx.main_arg0)
      ∧ r.2.mem ((c.tc : Thread Cert.MmInDx.nD Cert.MmInDx.τ).loc Cert.MmInDx.main_arg1) = m ((c.tc : Thread Cert.MmInDx.nD Cert.MmInDx.τ).loc Cert.MmInDx.main_arg1))
      ∧ r.2.sem = fun _ => 0)

def quiescent_MmInDxIdeal [hMmInDxIdeal : Cert.MmInDxIdeal.Facts] : Prop :=
  ∀ (m : (ℓ : Loc Cert.MmInDxIdeal.nD Cert.MmInDxIdeal.τ Cert.MmInDxIdeal.sig) → Buf (Elt Ideal) ℓ) (g : Dev Cert.MmInDxIdeal.nD → PrngReg), Pre_MmInDxIdeal m →
    θ_run (Cert.MmInDxIdeal.defs (F := Ideal)) (onTc (τ := Cert.MmInDxIdeal.τ) (Cert.MmInDxIdeal.main (F := Ideal))) ⟨m, fun _ => 0, g⟩ (fun r => (∀ c : Dev Cert.MmInDxIdeal.nD,
      r.2.mem ((c.tc : Thread Cert.MmInDxIdeal.nD Cert.MmInDxIdeal.τ).loc Cert.MmInDxIdeal.main_arg0) = m ((c.tc : Thread Cert.MmInDxIdeal.nD Cert.MmInDxIdeal.τ).loc Cert.MmInDxIdeal.main_arg0)
      ∧ r.2.mem ((c.tc : Thread Cert.MmInDxIdeal.nD Cert.MmInDxIdeal.τ).loc Cert.MmInDxIdeal.main_arg1) = m ((c.tc : Thread Cert.MmInDxIdeal.nD Cert.MmInDxIdeal.τ).loc Cert.MmInDxIdeal.main_arg1))
      ∧ r.2.sem = fun _ => 0)

def quiescent_MmInDxRefIdeal [hMmInDxRefIdeal : Cert.MmInDxRefIdeal.Facts] : Prop :=
  ∀ (m : (ℓ : Loc Cert.MmInDxRefIdeal.nD Cert.MmInDxRefIdeal.τ Cert.MmInDxRefIdeal.sig) → Buf (Elt Ideal) ℓ) (g : Dev Cert.MmInDxRefIdeal.nD → PrngReg), Pre_MmInDxRefIdeal m →
    θ_run (Cert.MmInDxRefIdeal.defs (F := Ideal)) (onTc (τ := Cert.MmInDxRefIdeal.τ) (Cert.MmInDxRefIdeal.main (F := Ideal))) ⟨m, fun _ => 0, g⟩ (fun r => (∀ c : Dev Cert.MmInDxRefIdeal.nD,
      r.2.mem ((c.tc : Thread Cert.MmInDxRefIdeal.nD Cert.MmInDxRefIdeal.τ).loc Cert.MmInDxRefIdeal.main_arg0) = m ((c.tc : Thread Cert.MmInDxRefIdeal.nD Cert.MmInDxRefIdeal.τ).loc Cert.MmInDxRefIdeal.main_arg0)
      ∧ r.2.mem ((c.tc : Thread Cert.MmInDxRefIdeal.nD Cert.MmInDxRefIdeal.τ).loc Cert.MmInDxRefIdeal.main_arg1) = m ((c.tc : Thread Cert.MmInDxRefIdeal.nD Cert.MmInDxRefIdeal.τ).loc Cert.MmInDxRefIdeal.main_arg1))
      ∧ r.2.sem = fun _ => 0)

def quiescent_MmInDw [hMmInDw : Cert.MmInDw.Facts] : Prop :=
  ∀ (m : (ℓ : Loc Cert.MmInDw.nD Cert.MmInDw.τ Cert.MmInDw.sig) → Buf (Elt Bits) ℓ) (g : Dev Cert.MmInDw.nD → PrngReg), Pre_MmInDw m →
    θ_run (Cert.MmInDw.defs (F := Bits)) (onTc (τ := Cert.MmInDw.τ) (Cert.MmInDw.main (F := Bits))) ⟨m, fun _ => 0, g⟩ (fun r => (∀ c : Dev Cert.MmInDw.nD,
      r.2.mem ((c.tc : Thread Cert.MmInDw.nD Cert.MmInDw.τ).loc Cert.MmInDw.main_arg0) = m ((c.tc : Thread Cert.MmInDw.nD Cert.MmInDw.τ).loc Cert.MmInDw.main_arg0)
      ∧ r.2.mem ((c.tc : Thread Cert.MmInDw.nD Cert.MmInDw.τ).loc Cert.MmInDw.main_arg1) = m ((c.tc : Thread Cert.MmInDw.nD Cert.MmInDw.τ).loc Cert.MmInDw.main_arg1))
      ∧ r.2.sem = fun _ => 0)

def quiescent_MmInDwIdeal [hMmInDwIdeal : Cert.MmInDwIdeal.Facts] : Prop :=
  ∀ (m : (ℓ : Loc Cert.MmInDwIdeal.nD Cert.MmInDwIdeal.τ Cert.MmInDwIdeal.sig) → Buf (Elt Ideal) ℓ) (g : Dev Cert.MmInDwIdeal.nD → PrngReg), Pre_MmInDwIdeal m →
    θ_run (Cert.MmInDwIdeal.defs (F := Ideal)) (onTc (τ := Cert.MmInDwIdeal.τ) (Cert.MmInDwIdeal.main (F := Ideal))) ⟨m, fun _ => 0, g⟩ (fun r => (∀ c : Dev Cert.MmInDwIdeal.nD,
      r.2.mem ((c.tc : Thread Cert.MmInDwIdeal.nD Cert.MmInDwIdeal.τ).loc Cert.MmInDwIdeal.main_arg0) = m ((c.tc : Thread Cert.MmInDwIdeal.nD Cert.MmInDwIdeal.τ).loc Cert.MmInDwIdeal.main_arg0)
      ∧ r.2.mem ((c.tc : Thread Cert.MmInDwIdeal.nD Cert.MmInDwIdeal.τ).loc Cert.MmInDwIdeal.main_arg1) = m ((c.tc : Thread Cert.MmInDwIdeal.nD Cert.MmInDwIdeal.τ).loc Cert.MmInDwIdeal.main_arg1))
      ∧ r.2.sem = fun _ => 0)

def quiescent_MmInDwRefIdeal [hMmInDwRefIdeal : Cert.MmInDwRefIdeal.Facts] : Prop :=
  ∀ (m : (ℓ : Loc Cert.MmInDwRefIdeal.nD Cert.MmInDwRefIdeal.τ Cert.MmInDwRefIdeal.sig) → Buf (Elt Ideal) ℓ) (g : Dev Cert.MmInDwRefIdeal.nD → PrngReg), Pre_MmInDwRefIdeal m →
    θ_run (Cert.MmInDwRefIdeal.defs (F := Ideal)) (onTc (τ := Cert.MmInDwRefIdeal.τ) (Cert.MmInDwRefIdeal.main (F := Ideal))) ⟨m, fun _ => 0, g⟩ (fun r => (∀ c : Dev Cert.MmInDwRefIdeal.nD,
      r.2.mem ((c.tc : Thread Cert.MmInDwRefIdeal.nD Cert.MmInDwRefIdeal.τ).loc Cert.MmInDwRefIdeal.main_arg0) = m ((c.tc : Thread Cert.MmInDwRefIdeal.nD Cert.MmInDwRefIdeal.τ).loc Cert.MmInDwRefIdeal.main_arg0)
      ∧ r.2.mem ((c.tc : Thread Cert.MmInDwRefIdeal.nD Cert.MmInDwRefIdeal.τ).loc Cert.MmInDwRefIdeal.main_arg1) = m ((c.tc : Thread Cert.MmInDwRefIdeal.nD Cert.MmInDwRefIdeal.τ).loc Cert.MmInDwRefIdeal.main_arg1))
      ∧ r.2.sem = fun _ => 0)

def quiescent_MmUpDx [hMmUpDx : Cert.MmUpDx.Facts] : Prop :=
  ∀ (m : (ℓ : Loc Cert.MmUpDx.nD Cert.MmUpDx.τ Cert.MmUpDx.sig) → Buf (Elt Bits) ℓ) (g : Dev Cert.MmUpDx.nD → PrngReg), Pre_MmUpDx m →
    θ_run (Cert.MmUpDx.defs (F := Bits)) (onTc (τ := Cert.MmUpDx.τ) (Cert.MmUpDx.main (F := Bits))) ⟨m, fun _ => 0, g⟩ (fun r => (∀ c : Dev Cert.MmUpDx.nD,
      r.2.mem ((c.tc : Thread Cert.MmUpDx.nD Cert.MmUpDx.τ).loc Cert.MmUpDx.main_arg0) = m ((c.tc : Thread Cert.MmUpDx.nD Cert.MmUpDx.τ).loc Cert.MmUpDx.main_arg0)
      ∧ r.2.mem ((c.tc : Thread Cert.MmUpDx.nD Cert.MmUpDx.τ).loc Cert.MmUpDx.main_arg1) = m ((c.tc : Thread Cert.MmUpDx.nD Cert.MmUpDx.τ).loc Cert.MmUpDx.main_arg1)
      ∧ r.2.mem ((c.tc : Thread Cert.MmUpDx.nD Cert.MmUpDx.τ).loc Cert.MmUpDx.main_arg2) = m ((c.tc : Thread Cert.MmUpDx.nD Cert.MmUpDx.τ).loc Cert.MmUpDx.main_arg2))
      ∧ r.2.sem = fun _ => 0)

def quiescent_MmUpDxIdeal [hMmUpDxIdeal : Cert.MmUpDxIdeal.Facts] : Prop :=
  ∀ (m : (ℓ : Loc Cert.MmUpDxIdeal.nD Cert.MmUpDxIdeal.τ Cert.MmUpDxIdeal.sig) → Buf (Elt Ideal) ℓ) (g : Dev Cert.MmUpDxIdeal.nD → PrngReg), Pre_MmUpDxIdeal m →
    θ_run (Cert.MmUpDxIdeal.defs (F := Ideal)) (onTc (τ := Cert.MmUpDxIdeal.τ) (Cert.MmUpDxIdeal.main (F := Ideal))) ⟨m, fun _ => 0, g⟩ (fun r => (∀ c : Dev Cert.MmUpDxIdeal.nD,
      r.2.mem ((c.tc : Thread Cert.MmUpDxIdeal.nD Cert.MmUpDxIdeal.τ).loc Cert.MmUpDxIdeal.main_arg0) = m ((c.tc : Thread Cert.MmUpDxIdeal.nD Cert.MmUpDxIdeal.τ).loc Cert.MmUpDxIdeal.main_arg0)
      ∧ r.2.mem ((c.tc : Thread Cert.MmUpDxIdeal.nD Cert.MmUpDxIdeal.τ).loc Cert.MmUpDxIdeal.main_arg1) = m ((c.tc : Thread Cert.MmUpDxIdeal.nD Cert.MmUpDxIdeal.τ).loc Cert.MmUpDxIdeal.main_arg1)
      ∧ r.2.mem ((c.tc : Thread Cert.MmUpDxIdeal.nD Cert.MmUpDxIdeal.τ).loc Cert.MmUpDxIdeal.main_arg2) = m ((c.tc : Thread Cert.MmUpDxIdeal.nD Cert.MmUpDxIdeal.τ).loc Cert.MmUpDxIdeal.main_arg2))
      ∧ r.2.sem = fun _ => 0)

def quiescent_MmUpDxRefIdeal [hMmUpDxRefIdeal : Cert.MmUpDxRefIdeal.Facts] : Prop :=
  ∀ (m : (ℓ : Loc Cert.MmUpDxRefIdeal.nD Cert.MmUpDxRefIdeal.τ Cert.MmUpDxRefIdeal.sig) → Buf (Elt Ideal) ℓ) (g : Dev Cert.MmUpDxRefIdeal.nD → PrngReg), Pre_MmUpDxRefIdeal m →
    θ_run (Cert.MmUpDxRefIdeal.defs (F := Ideal)) (onTc (τ := Cert.MmUpDxRefIdeal.τ) (Cert.MmUpDxRefIdeal.main (F := Ideal))) ⟨m, fun _ => 0, g⟩ (fun r => (∀ c : Dev Cert.MmUpDxRefIdeal.nD,
      r.2.mem ((c.tc : Thread Cert.MmUpDxRefIdeal.nD Cert.MmUpDxRefIdeal.τ).loc Cert.MmUpDxRefIdeal.main_arg0) = m ((c.tc : Thread Cert.MmUpDxRefIdeal.nD Cert.MmUpDxRefIdeal.τ).loc Cert.MmUpDxRefIdeal.main_arg0)
      ∧ r.2.mem ((c.tc : Thread Cert.MmUpDxRefIdeal.nD Cert.MmUpDxRefIdeal.τ).loc Cert.MmUpDxRefIdeal.main_arg1) = m ((c.tc : Thread Cert.MmUpDxRefIdeal.nD Cert.MmUpDxRefIdeal.τ).loc Cert.MmUpDxRefIdeal.main_arg1)
      ∧ r.2.mem ((c.tc : Thread Cert.MmUpDxRefIdeal.nD Cert.MmUpDxRefIdeal.τ).loc Cert.MmUpDxRefIdeal.main_arg2) = m ((c.tc : Thread Cert.MmUpDxRefIdeal.nD Cert.MmUpDxRefIdeal.τ).loc Cert.MmUpDxRefIdeal.main_arg2))
      ∧ r.2.sem = fun _ => 0)

def quiescent_MmUpDw [hMmUpDw : Cert.MmUpDw.Facts] : Prop :=
  ∀ (m : (ℓ : Loc Cert.MmUpDw.nD Cert.MmUpDw.τ Cert.MmUpDw.sig) → Buf (Elt Bits) ℓ) (g : Dev Cert.MmUpDw.nD → PrngReg), Pre_MmUpDw m →
    θ_run (Cert.MmUpDw.defs (F := Bits)) (onTc (τ := Cert.MmUpDw.τ) (Cert.MmUpDw.main (F := Bits))) ⟨m, fun _ => 0, g⟩ (fun r => (∀ c : Dev Cert.MmUpDw.nD,
      r.2.mem ((c.tc : Thread Cert.MmUpDw.nD Cert.MmUpDw.τ).loc Cert.MmUpDw.main_arg0) = m ((c.tc : Thread Cert.MmUpDw.nD Cert.MmUpDw.τ).loc Cert.MmUpDw.main_arg0)
      ∧ r.2.mem ((c.tc : Thread Cert.MmUpDw.nD Cert.MmUpDw.τ).loc Cert.MmUpDw.main_arg1) = m ((c.tc : Thread Cert.MmUpDw.nD Cert.MmUpDw.τ).loc Cert.MmUpDw.main_arg1)
      ∧ r.2.mem ((c.tc : Thread Cert.MmUpDw.nD Cert.MmUpDw.τ).loc Cert.MmUpDw.main_arg2) = m ((c.tc : Thread Cert.MmUpDw.nD Cert.MmUpDw.τ).loc Cert.MmUpDw.main_arg2))
      ∧ r.2.sem = fun _ => 0)

def quiescent_MmUpDwIdeal [hMmUpDwIdeal : Cert.MmUpDwIdeal.Facts] : Prop :=
  ∀ (m : (ℓ : Loc Cert.MmUpDwIdeal.nD Cert.MmUpDwIdeal.τ Cert.MmUpDwIdeal.sig) → Buf (Elt Ideal) ℓ) (g : Dev Cert.MmUpDwIdeal.nD → PrngReg), Pre_MmUpDwIdeal m →
    θ_run (Cert.MmUpDwIdeal.defs (F := Ideal)) (onTc (τ := Cert.MmUpDwIdeal.τ) (Cert.MmUpDwIdeal.main (F := Ideal))) ⟨m, fun _ => 0, g⟩ (fun r => (∀ c : Dev Cert.MmUpDwIdeal.nD,
      r.2.mem ((c.tc : Thread Cert.MmUpDwIdeal.nD Cert.MmUpDwIdeal.τ).loc Cert.MmUpDwIdeal.main_arg0) = m ((c.tc : Thread Cert.MmUpDwIdeal.nD Cert.MmUpDwIdeal.τ).loc Cert.MmUpDwIdeal.main_arg0)
      ∧ r.2.mem ((c.tc : Thread Cert.MmUpDwIdeal.nD Cert.MmUpDwIdeal.τ).loc Cert.MmUpDwIdeal.main_arg1) = m ((c.tc : Thread Cert.MmUpDwIdeal.nD Cert.MmUpDwIdeal.τ).loc Cert.MmUpDwIdeal.main_arg1)
      ∧ r.2.mem ((c.tc : Thread Cert.MmUpDwIdeal.nD Cert.MmUpDwIdeal.τ).loc Cert.MmUpDwIdeal.main_arg2) = m ((c.tc : Thread Cert.MmUpDwIdeal.nD Cert.MmUpDwIdeal.τ).loc Cert.MmUpDwIdeal.main_arg2))
      ∧ r.2.sem = fun _ => 0)

def quiescent_MmUpDwRefIdeal [hMmUpDwRefIdeal : Cert.MmUpDwRefIdeal.Facts] : Prop :=
  ∀ (m : (ℓ : Loc Cert.MmUpDwRefIdeal.nD Cert.MmUpDwRefIdeal.τ Cert.MmUpDwRefIdeal.sig) → Buf (Elt Ideal) ℓ) (g : Dev Cert.MmUpDwRefIdeal.nD → PrngReg), Pre_MmUpDwRefIdeal m →
    θ_run (Cert.MmUpDwRefIdeal.defs (F := Ideal)) (onTc (τ := Cert.MmUpDwRefIdeal.τ) (Cert.MmUpDwRefIdeal.main (F := Ideal))) ⟨m, fun _ => 0, g⟩ (fun r => (∀ c : Dev Cert.MmUpDwRefIdeal.nD,
      r.2.mem ((c.tc : Thread Cert.MmUpDwRefIdeal.nD Cert.MmUpDwRefIdeal.τ).loc Cert.MmUpDwRefIdeal.main_arg0) = m ((c.tc : Thread Cert.MmUpDwRefIdeal.nD Cert.MmUpDwRefIdeal.τ).loc Cert.MmUpDwRefIdeal.main_arg0)
      ∧ r.2.mem ((c.tc : Thread Cert.MmUpDwRefIdeal.nD Cert.MmUpDwRefIdeal.τ).loc Cert.MmUpDwRefIdeal.main_arg1) = m ((c.tc : Thread Cert.MmUpDwRefIdeal.nD Cert.MmUpDwRefIdeal.τ).loc Cert.MmUpDwRefIdeal.main_arg1)
      ∧ r.2.mem ((c.tc : Thread Cert.MmUpDwRefIdeal.nD Cert.MmUpDwRefIdeal.τ).loc Cert.MmUpDwRefIdeal.main_arg2) = m ((c.tc : Thread Cert.MmUpDwRefIdeal.nD Cert.MmUpDwRefIdeal.τ).loc Cert.MmUpDwRefIdeal.main_arg2))
      ∧ r.2.sem = fun _ => 0)

def quiescent_MmDownDw [hMmDownDw : Cert.MmDownDw.Facts] : Prop :=
  ∀ (m : (ℓ : Loc Cert.MmDownDw.nD Cert.MmDownDw.τ Cert.MmDownDw.sig) → Buf (Elt Bits) ℓ) (g : Dev Cert.MmDownDw.nD → PrngReg), Pre_MmDownDw m →
    θ_run (Cert.MmDownDw.defs (F := Bits)) (onTc (τ := Cert.MmDownDw.τ) (Cert.MmDownDw.main (F := Bits))) ⟨m, fun _ => 0, g⟩ (fun r => (∀ c : Dev Cert.MmDownDw.nD,
      r.2.mem ((c.tc : Thread Cert.MmDownDw.nD Cert.MmDownDw.τ).loc Cert.MmDownDw.main_arg0) = m ((c.tc : Thread Cert.MmDownDw.nD Cert.MmDownDw.τ).loc Cert.MmDownDw.main_arg0)
      ∧ r.2.mem ((c.tc : Thread Cert.MmDownDw.nD Cert.MmDownDw.τ).loc Cert.MmDownDw.main_arg1) = m ((c.tc : Thread Cert.MmDownDw.nD Cert.MmDownDw.τ).loc Cert.MmDownDw.main_arg1))
      ∧ r.2.sem = fun _ => 0)

def quiescent_MmDownDwIdeal [hMmDownDwIdeal : Cert.MmDownDwIdeal.Facts] : Prop :=
  ∀ (m : (ℓ : Loc Cert.MmDownDwIdeal.nD Cert.MmDownDwIdeal.τ Cert.MmDownDwIdeal.sig) → Buf (Elt Ideal) ℓ) (g : Dev Cert.MmDownDwIdeal.nD → PrngReg), Pre_MmDownDwIdeal m →
    θ_run (Cert.MmDownDwIdeal.defs (F := Ideal)) (onTc (τ := Cert.MmDownDwIdeal.τ) (Cert.MmDownDwIdeal.main (F := Ideal))) ⟨m, fun _ => 0, g⟩ (fun r => (∀ c : Dev Cert.MmDownDwIdeal.nD,
      r.2.mem ((c.tc : Thread Cert.MmDownDwIdeal.nD Cert.MmDownDwIdeal.τ).loc Cert.MmDownDwIdeal.main_arg0) = m ((c.tc : Thread Cert.MmDownDwIdeal.nD Cert.MmDownDwIdeal.τ).loc Cert.MmDownDwIdeal.main_arg0)
      ∧ r.2.mem ((c.tc : Thread Cert.MmDownDwIdeal.nD Cert.MmDownDwIdeal.τ).loc Cert.MmDownDwIdeal.main_arg1) = m ((c.tc : Thread Cert.MmDownDwIdeal.nD Cert.MmDownDwIdeal.τ).loc Cert.MmDownDwIdeal.main_arg1))
      ∧ r.2.sem = fun _ => 0)

def quiescent_MmDownDwRefIdeal [hMmDownDwRefIdeal : Cert.MmDownDwRefIdeal.Facts] : Prop :=
  ∀ (m : (ℓ : Loc Cert.MmDownDwRefIdeal.nD Cert.MmDownDwRefIdeal.τ Cert.MmDownDwRefIdeal.sig) → Buf (Elt Ideal) ℓ) (g : Dev Cert.MmDownDwRefIdeal.nD → PrngReg), Pre_MmDownDwRefIdeal m →
    θ_run (Cert.MmDownDwRefIdeal.defs (F := Ideal)) (onTc (τ := Cert.MmDownDwRefIdeal.τ) (Cert.MmDownDwRefIdeal.main (F := Ideal))) ⟨m, fun _ => 0, g⟩ (fun r => (∀ c : Dev Cert.MmDownDwRefIdeal.nD,
      r.2.mem ((c.tc : Thread Cert.MmDownDwRefIdeal.nD Cert.MmDownDwRefIdeal.τ).loc Cert.MmDownDwRefIdeal.main_arg0) = m ((c.tc : Thread Cert.MmDownDwRefIdeal.nD Cert.MmDownDwRefIdeal.τ).loc Cert.MmDownDwRefIdeal.main_arg0)
      ∧ r.2.mem ((c.tc : Thread Cert.MmDownDwRefIdeal.nD Cert.MmDownDwRefIdeal.τ).loc Cert.MmDownDwRefIdeal.main_arg1) = m ((c.tc : Thread Cert.MmDownDwRefIdeal.nD Cert.MmDownDwRefIdeal.τ).loc Cert.MmDownDwRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AdamWReduced [hAdamWReduced : Cert.AdamWReduced.Facts] [hPre_chip_index : Cert.Pre_chip_index.Facts] : Prop :=
  ∀ (m : (ℓ : Loc Cert.AdamWReduced.nD Cert.AdamWReduced.τ Cert.AdamWReduced.sig) → Buf (Elt Bits) ℓ) (g : Dev Cert.AdamWReduced.nD → PrngReg), Pre_AdamWReduced m →
    θ_run (Cert.AdamWReduced.defs (F := Bits)) (onTc (τ := Cert.AdamWReduced.τ) (Cert.AdamWReduced.main (F := Bits))) ⟨m, fun _ => 0, g⟩ (fun r => (∀ c : Dev Cert.AdamWReduced.nD,
      r.2.mem ((c.tc : Thread Cert.AdamWReduced.nD Cert.AdamWReduced.τ).loc Cert.AdamWReduced.main_arg0) = m ((c.tc : Thread Cert.AdamWReduced.nD Cert.AdamWReduced.τ).loc Cert.AdamWReduced.main_arg0)
      ∧ r.2.mem ((c.tc : Thread Cert.AdamWReduced.nD Cert.AdamWReduced.τ).loc Cert.AdamWReduced.main_arg1) = m ((c.tc : Thread Cert.AdamWReduced.nD Cert.AdamWReduced.τ).loc Cert.AdamWReduced.main_arg1)
      ∧ r.2.mem ((c.tc : Thread Cert.AdamWReduced.nD Cert.AdamWReduced.τ).loc Cert.AdamWReduced.main_arg2) = m ((c.tc : Thread Cert.AdamWReduced.nD Cert.AdamWReduced.τ).loc Cert.AdamWReduced.main_arg2)
      ∧ r.2.mem ((c.tc : Thread Cert.AdamWReduced.nD Cert.AdamWReduced.τ).loc Cert.AdamWReduced.main_arg3) = m ((c.tc : Thread Cert.AdamWReduced.nD Cert.AdamWReduced.τ).loc Cert.AdamWReduced.main_arg3)
      ∧ r.2.mem ((c.tc : Thread Cert.AdamWReduced.nD Cert.AdamWReduced.τ).loc Cert.AdamWReduced.main_arg4) = m ((c.tc : Thread Cert.AdamWReduced.nD Cert.AdamWReduced.τ).loc Cert.AdamWReduced.main_arg4)
      ∧ r.2.mem ((c.tc : Thread Cert.AdamWReduced.nD Cert.AdamWReduced.τ).loc Cert.AdamWReduced.main_arg5) = m ((c.tc : Thread Cert.AdamWReduced.nD Cert.AdamWReduced.τ).loc Cert.AdamWReduced.main_arg5))
      ∧ r.2.sem = fun _ => 0)

def quiescent_AdamWReducedIdeal [hAdamWReducedIdeal : Cert.AdamWReducedIdeal.Facts] [hPre_chip_index : Cert.Pre_chip_index.Facts] : Prop :=
  ∀ (m : (ℓ : Loc Cert.AdamWReducedIdeal.nD Cert.AdamWReducedIdeal.τ Cert.AdamWReducedIdeal.sig) → Buf (Elt Ideal) ℓ) (g : Dev Cert.AdamWReducedIdeal.nD → PrngReg), Pre_AdamWReducedIdeal m →
    θ_run (Cert.AdamWReducedIdeal.defs (F := Ideal)) (onTc (τ := Cert.AdamWReducedIdeal.τ) (Cert.AdamWReducedIdeal.main (F := Ideal))) ⟨m, fun _ => 0, g⟩ (fun r => (∀ c : Dev Cert.AdamWReducedIdeal.nD,
      r.2.mem ((c.tc : Thread Cert.AdamWReducedIdeal.nD Cert.AdamWReducedIdeal.τ).loc Cert.AdamWReducedIdeal.main_arg0) = m ((c.tc : Thread Cert.AdamWReducedIdeal.nD Cert.AdamWReducedIdeal.τ).loc Cert.AdamWReducedIdeal.main_arg0)
      ∧ r.2.mem ((c.tc : Thread Cert.AdamWReducedIdeal.nD Cert.AdamWReducedIdeal.τ).loc Cert.AdamWReducedIdeal.main_arg1) = m ((c.tc : Thread Cert.AdamWReducedIdeal.nD Cert.AdamWReducedIdeal.τ).loc Cert.AdamWReducedIdeal.main_arg1)
      ∧ r.2.mem ((c.tc : Thread Cert.AdamWReducedIdeal.nD Cert.AdamWReducedIdeal.τ).loc Cert.AdamWReducedIdeal.main_arg2) = m ((c.tc : Thread Cert.AdamWReducedIdeal.nD Cert.AdamWReducedIdeal.τ).loc Cert.AdamWReducedIdeal.main_arg2)
      ∧ r.2.mem ((c.tc : Thread Cert.AdamWReducedIdeal.nD Cert.AdamWReducedIdeal.τ).loc Cert.AdamWReducedIdeal.main_arg3) = m ((c.tc : Thread Cert.AdamWReducedIdeal.nD Cert.AdamWReducedIdeal.τ).loc Cert.AdamWReducedIdeal.main_arg3)
      ∧ r.2.mem ((c.tc : Thread Cert.AdamWReducedIdeal.nD Cert.AdamWReducedIdeal.τ).loc Cert.AdamWReducedIdeal.main_arg4) = m ((c.tc : Thread Cert.AdamWReducedIdeal.nD Cert.AdamWReducedIdeal.τ).loc Cert.AdamWReducedIdeal.main_arg4)
      ∧ r.2.mem ((c.tc : Thread Cert.AdamWReducedIdeal.nD Cert.AdamWReducedIdeal.τ).loc Cert.AdamWReducedIdeal.main_arg5) = m ((c.tc : Thread Cert.AdamWReducedIdeal.nD Cert.AdamWReducedIdeal.τ).loc Cert.AdamWReducedIdeal.main_arg5))
      ∧ r.2.sem = fun _ => 0)

def quiescent_AdamWReducedRefIdeal [hAdamWReducedRefIdeal : Cert.AdamWReducedRefIdeal.Facts] : Prop :=
  ∀ (m : (ℓ : Loc Cert.AdamWReducedRefIdeal.nD Cert.AdamWReducedRefIdeal.τ Cert.AdamWReducedRefIdeal.sig) → Buf (Elt Ideal) ℓ) (g : Dev Cert.AdamWReducedRefIdeal.nD → PrngReg), Pre_AdamWReducedRefIdeal m →
    θ_run (Cert.AdamWReducedRefIdeal.defs (F := Ideal)) (onTc (τ := Cert.AdamWReducedRefIdeal.τ) (Cert.AdamWReducedRefIdeal.main (F := Ideal))) ⟨m, fun _ => 0, g⟩ (fun r => (∀ c : Dev Cert.AdamWReducedRefIdeal.nD,
      r.2.mem ((c.tc : Thread Cert.AdamWReducedRefIdeal.nD Cert.AdamWReducedRefIdeal.τ).loc Cert.AdamWReducedRefIdeal.main_arg0) = m ((c.tc : Thread Cert.AdamWReducedRefIdeal.nD Cert.AdamWReducedRefIdeal.τ).loc Cert.AdamWReducedRefIdeal.main_arg0)
      ∧ r.2.mem ((c.tc : Thread Cert.AdamWReducedRefIdeal.nD Cert.AdamWReducedRefIdeal.τ).loc Cert.AdamWReducedRefIdeal.main_arg1) = m ((c.tc : Thread Cert.AdamWReducedRefIdeal.nD Cert.AdamWReducedRefIdeal.τ).loc Cert.AdamWReducedRefIdeal.main_arg1)
      ∧ r.2.mem ((c.tc : Thread Cert.AdamWReducedRefIdeal.nD Cert.AdamWReducedRefIdeal.τ).loc Cert.AdamWReducedRefIdeal.main_arg2) = m ((c.tc : Thread Cert.AdamWReducedRefIdeal.nD Cert.AdamWReducedRefIdeal.τ).loc Cert.AdamWReducedRefIdeal.main_arg2)
      ∧ r.2.mem ((c.tc : Thread Cert.AdamWReducedRefIdeal.nD Cert.AdamWReducedRefIdeal.τ).loc Cert.AdamWReducedRefIdeal.main_arg3) = m ((c.tc : Thread Cert.AdamWReducedRefIdeal.nD Cert.AdamWReducedRefIdeal.τ).loc Cert.AdamWReducedRefIdeal.main_arg3)
      ∧ r.2.mem ((c.tc : Thread Cert.AdamWReducedRefIdeal.nD Cert.AdamWReducedRefIdeal.τ).loc Cert.AdamWReducedRefIdeal.main_arg4) = m ((c.tc : Thread Cert.AdamWReducedRefIdeal.nD Cert.AdamWReducedRefIdeal.τ).loc Cert.AdamWReducedRefIdeal.main_arg4)
      ∧ r.2.mem ((c.tc : Thread Cert.AdamWReducedRefIdeal.nD Cert.AdamWReducedRefIdeal.τ).loc Cert.AdamWReducedRefIdeal.main_arg5) = m ((c.tc : Thread Cert.AdamWReducedRefIdeal.nD Cert.AdamWReducedRefIdeal.τ).loc Cert.AdamWReducedRefIdeal.main_arg5))
      ∧ r.2.sem = fun _ => 0)

def quiescent_AdamWReducedRefIdeal_pre_chip_index [hAdamWReducedRefIdeal : Cert.AdamWReducedRefIdeal.Facts] [hPre_chip_index : Cert.Pre_chip_index.Facts] : Prop :=
  ∀ (m : (ℓ : Loc Cert.AdamWReducedRefIdeal.nD Cert.AdamWReducedRefIdeal.τ Cert.AdamWReducedRefIdeal.sig) → Buf (Elt Ideal) ℓ) (g : Dev Cert.AdamWReducedRefIdeal.nD → PrngReg), Pre_AdamWReducedRefIdeal_chip_index m →
    θ_run (Cert.AdamWReducedRefIdeal.defs (F := Ideal)) (onTc (τ := Cert.AdamWReducedRefIdeal.τ) (Cert.AdamWReducedRefIdeal.main (F := Ideal))) ⟨m, fun _ => 0, g⟩ (fun r => (∀ c : Dev Cert.AdamWReducedRefIdeal.nD,
      r.2.mem ((c.tc : Thread Cert.AdamWReducedRefIdeal.nD Cert.AdamWReducedRefIdeal.τ).loc Cert.AdamWReducedRefIdeal.main_arg0) = m ((c.tc : Thread Cert.AdamWReducedRefIdeal.nD Cert.AdamWReducedRefIdeal.τ).loc Cert.AdamWReducedRefIdeal.main_arg0)
      ∧ r.2.mem ((c.tc : Thread Cert.AdamWReducedRefIdeal.nD Cert.AdamWReducedRefIdeal.τ).loc Cert.AdamWReducedRefIdeal.main_arg1) = m ((c.tc : Thread Cert.AdamWReducedRefIdeal.nD Cert.AdamWReducedRefIdeal.τ).loc Cert.AdamWReducedRefIdeal.main_arg1)
      ∧ r.2.mem ((c.tc : Thread Cert.AdamWReducedRefIdeal.nD Cert.AdamWReducedRefIdeal.τ).loc Cert.AdamWReducedRefIdeal.main_arg2) = m ((c.tc : Thread Cert.AdamWReducedRefIdeal.nD Cert.AdamWReducedRefIdeal.τ).loc Cert.AdamWReducedRefIdeal.main_arg2)
      ∧ r.2.mem ((c.tc : Thread Cert.AdamWReducedRefIdeal.nD Cert.AdamWReducedRefIdeal.τ).loc Cert.AdamWReducedRefIdeal.main_arg3) = m ((c.tc : Thread Cert.AdamWReducedRefIdeal.nD Cert.AdamWReducedRefIdeal.τ).loc Cert.AdamWReducedRefIdeal.main_arg3)
      ∧ r.2.mem ((c.tc : Thread Cert.AdamWReducedRefIdeal.nD Cert.AdamWReducedRefIdeal.τ).loc Cert.AdamWReducedRefIdeal.main_arg4) = m ((c.tc : Thread Cert.AdamWReducedRefIdeal.nD Cert.AdamWReducedRefIdeal.τ).loc Cert.AdamWReducedRefIdeal.main_arg4)
      ∧ r.2.mem ((c.tc : Thread Cert.AdamWReducedRefIdeal.nD Cert.AdamWReducedRefIdeal.τ).loc Cert.AdamWReducedRefIdeal.main_arg5) = m ((c.tc : Thread Cert.AdamWReducedRefIdeal.nD Cert.AdamWReducedRefIdeal.τ).loc Cert.AdamWReducedRefIdeal.main_arg5))
      ∧ r.2.sem = fun _ => 0)

def quiescent_PairSum [hPairSum : Cert.PairSum.Facts] [hPre_core_index : Cert.Pre_core_index.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_core_index : Cert.Pre_core_index.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_core_index [hPairSumRefIdeal : Cert.PairSumRefIdeal.Facts] [hPre_core_index : Cert.Pre_core_index.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_core_index m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_DeviceSum [hDeviceSum : Cert.DeviceSum.Facts] : Prop :=
  ∀ (m : (ℓ : Loc Cert.DeviceSum.nD Cert.DeviceSum.τ Cert.DeviceSum.sig) → Buf (Elt Bits) ℓ) (g : Dev Cert.DeviceSum.nD → PrngReg), Pre_DeviceSum m →
    θ_run (Cert.DeviceSum.defs (F := Bits)) (onTc (τ := Cert.DeviceSum.τ) (Cert.DeviceSum.main (F := Bits))) ⟨m, fun _ => 0, g⟩ (fun r => (∀ c : Dev Cert.DeviceSum.nD,
      r.2.mem ((c.tc : Thread Cert.DeviceSum.nD Cert.DeviceSum.τ).loc Cert.DeviceSum.main_arg0) = m ((c.tc : Thread Cert.DeviceSum.nD Cert.DeviceSum.τ).loc Cert.DeviceSum.main_arg0))
      ∧ r.2.sem = fun _ => 0)

def quiescent_DeviceSumIdeal [hDeviceSumIdeal : Cert.DeviceSumIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg), Pre_DeviceSumIdeal m →
    θ_run (Cert.DeviceSumIdeal.defs (F := Ideal)) (onTc (τ := Cert.DeviceSumIdeal.τ) (Cert.DeviceSumIdeal.main (F := Ideal))) ⟨m, fun _ => 0, g⟩ (fun r => (∀ c : Dev Cert.DeviceSumIdeal.nD,
      r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ r.2.sem = fun _ => 0)

def quiescent_DeviceSumRefIdeal [hDeviceSumRefIdeal : Cert.DeviceSumRefIdeal.Facts] : Prop :=
  ∀ (m : (ℓ : Loc Cert.DeviceSumRefIdeal.nD Cert.DeviceSumRefIdeal.τ Cert.DeviceSumRefIdeal.sig) → Buf (Elt Ideal) ℓ) (g : Dev Cert.DeviceSumRefIdeal.nD → PrngReg), Pre_DeviceSumRefIdeal m →
    θ_run (Cert.DeviceSumRefIdeal.defs (F := Ideal)) (onTc (τ := Cert.DeviceSumRefIdeal.τ) (Cert.DeviceSumRefIdeal.main (F := Ideal))) ⟨m, fun _ => 0, g⟩ (fun r => (∀ c : Dev Cert.DeviceSumRefIdeal.nD,
      r.2.mem ((c.tc : Thread Cert.DeviceSumRefIdeal.nD Cert.DeviceSumRefIdeal.τ).loc Cert.DeviceSumRefIdeal.main_arg0) = m ((c.tc : Thread Cert.DeviceSumRefIdeal.nD Cert.DeviceSumRefIdeal.τ).loc Cert.DeviceSumRefIdeal.main_arg0))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnBwd [hHgrnBwd : Cert.HgrnBwd.Facts] : Prop :=
  ∀ (m : (ℓ : Loc Cert.HgrnBwd.nD Cert.HgrnBwd.τ Cert.HgrnBwd.sig) → Buf (Elt Bits) ℓ) (g : Dev Cert.HgrnBwd.nD → PrngReg), Pre_HgrnBwd m →
    θ_run (Cert.HgrnBwd.defs (F := Bits)) (onTc (τ := Cert.HgrnBwd.τ) (Cert.HgrnBwd.main (F := Bits))) ⟨m, fun _ => 0, g⟩ (fun r => (∀ c : Dev Cert.HgrnBwd.nD,
      r.2.mem ((c.tc : Thread Cert.HgrnBwd.nD Cert.HgrnBwd.τ).loc Cert.HgrnBwd.main_arg0) = m ((c.tc : Thread Cert.HgrnBwd.nD Cert.HgrnBwd.τ).loc Cert.HgrnBwd.main_arg0)
      ∧ r.2.mem ((c.tc : Thread Cert.HgrnBwd.nD Cert.HgrnBwd.τ).loc Cert.HgrnBwd.main_arg1) = m ((c.tc : Thread Cert.HgrnBwd.nD Cert.HgrnBwd.τ).loc Cert.HgrnBwd.main_arg1)
      ∧ r.2.mem ((c.tc : Thread Cert.HgrnBwd.nD Cert.HgrnBwd.τ).loc Cert.HgrnBwd.main_arg2) = m ((c.tc : Thread Cert.HgrnBwd.nD Cert.HgrnBwd.τ).loc Cert.HgrnBwd.main_arg2)
      ∧ r.2.mem ((c.tc : Thread Cert.HgrnBwd.nD Cert.HgrnBwd.τ).loc Cert.HgrnBwd.main_arg3) = m ((c.tc : Thread Cert.HgrnBwd.nD Cert.HgrnBwd.τ).loc Cert.HgrnBwd.main_arg3)
      ∧ r.2.mem ((c.tc : Thread Cert.HgrnBwd.nD Cert.HgrnBwd.τ).loc Cert.HgrnBwd.main_arg4) = m ((c.tc : Thread Cert.HgrnBwd.nD Cert.HgrnBwd.τ).loc Cert.HgrnBwd.main_arg4))
      ∧ r.2.sem = fun _ => 0)

def quiescent_HgrnBwdIdeal [hHgrnBwdIdeal : Cert.HgrnBwdIdeal.Facts] : Prop :=
  ∀ (m : (ℓ : Loc Cert.HgrnBwdIdeal.nD Cert.HgrnBwdIdeal.τ Cert.HgrnBwdIdeal.sig) → Buf (Elt Ideal) ℓ) (g : Dev Cert.HgrnBwdIdeal.nD → PrngReg), Pre_HgrnBwdIdeal m →
    θ_run (Cert.HgrnBwdIdeal.defs (F := Ideal)) (onTc (τ := Cert.HgrnBwdIdeal.τ) (Cert.HgrnBwdIdeal.main (F := Ideal))) ⟨m, fun _ => 0, g⟩ (fun r => (∀ c : Dev Cert.HgrnBwdIdeal.nD,
      r.2.mem ((c.tc : Thread Cert.HgrnBwdIdeal.nD Cert.HgrnBwdIdeal.τ).loc Cert.HgrnBwdIdeal.main_arg0) = m ((c.tc : Thread Cert.HgrnBwdIdeal.nD Cert.HgrnBwdIdeal.τ).loc Cert.HgrnBwdIdeal.main_arg0)
      ∧ r.2.mem ((c.tc : Thread Cert.HgrnBwdIdeal.nD Cert.HgrnBwdIdeal.τ).loc Cert.HgrnBwdIdeal.main_arg1) = m ((c.tc : Thread Cert.HgrnBwdIdeal.nD Cert.HgrnBwdIdeal.τ).loc Cert.HgrnBwdIdeal.main_arg1)
      ∧ r.2.mem ((c.tc : Thread Cert.HgrnBwdIdeal.nD Cert.HgrnBwdIdeal.τ).loc Cert.HgrnBwdIdeal.main_arg2) = m ((c.tc : Thread Cert.HgrnBwdIdeal.nD Cert.HgrnBwdIdeal.τ).loc Cert.HgrnBwdIdeal.main_arg2)
      ∧ r.2.mem ((c.tc : Thread Cert.HgrnBwdIdeal.nD Cert.HgrnBwdIdeal.τ).loc Cert.HgrnBwdIdeal.main_arg3) = m ((c.tc : Thread Cert.HgrnBwdIdeal.nD Cert.HgrnBwdIdeal.τ).loc Cert.HgrnBwdIdeal.main_arg3)
      ∧ r.2.mem ((c.tc : Thread Cert.HgrnBwdIdeal.nD Cert.HgrnBwdIdeal.τ).loc Cert.HgrnBwdIdeal.main_arg4) = m ((c.tc : Thread Cert.HgrnBwdIdeal.nD Cert.HgrnBwdIdeal.τ).loc Cert.HgrnBwdIdeal.main_arg4))
      ∧ r.2.sem = fun _ => 0)

def preserves_AttnBwd_AttnBwdIdeal : Prop :=
  True

def algebraic_AttnBwdIdeal_AttnBwdRefIdeal_pre_finite [hAttnBwdIdeal : Cert.AttnBwdIdeal.Facts] [hAttnBwdRefIdeal : Cert.AttnBwdRefIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v38_0)) (v1 : (c : Dev Cert.AttnBwdIdeal.nD) → Buf (Elt Ideal) ((c.tc : Thread Cert.AttnBwdIdeal.nD Cert.AttnBwdIdeal.τ).loc Cert.AttnBwdIdeal.main_v75_0)) (v2 : (c : Dev Cert.AttnBwdIdeal.nD) → Buf (Elt Ideal) ((c.tc : Thread Cert.AttnBwdIdeal.nD Cert.AttnBwdIdeal.τ).loc Cert.AttnBwdIdeal.main_v75_1)) (v3 : (c : Dev Cert.AttnBwdIdeal.nD) → Buf (Elt Ideal) ((c.tc : Thread Cert.AttnBwdIdeal.nD Cert.AttnBwdIdeal.τ).loc Cert.AttnBwdIdeal.main_v75_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v38_0) = v0 c
          ∧ r.2.mem ((c.tc : Thread Cert.AttnBwdIdeal.nD Cert.AttnBwdIdeal.τ).loc Cert.AttnBwdIdeal.main_v75_0) = v1 c
          ∧ r.2.mem ((c.tc : Thread Cert.AttnBwdIdeal.nD Cert.AttnBwdIdeal.τ).loc Cert.AttnBwdIdeal.main_v75_1) = v2 c
          ∧ r.2.mem ((c.tc : Thread Cert.AttnBwdIdeal.nD Cert.AttnBwdIdeal.τ).loc Cert.AttnBwdIdeal.main_v75_2) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v111) = v0 c
          ∧ r.2.mem ((c.tc : Thread Cert.AttnBwdRefIdeal.nD Cert.AttnBwdRefIdeal.τ).loc Cert.AttnBwdRefIdeal.main_v173) = v1 c
          ∧ r.2.mem ((c.tc : Thread Cert.AttnBwdRefIdeal.nD Cert.AttnBwdRefIdeal.τ).loc Cert.AttnBwdRefIdeal.main_v172) = v2 c
          ∧ r.2.mem ((c.tc : Thread Cert.AttnBwdRefIdeal.nD Cert.AttnBwdRefIdeal.τ).loc Cert.AttnBwdRefIdeal.main_v171) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v4) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v80) = v0 c
          ∧ r.2.mem ((c.tc : Thread Cert.ConvBwdRefIdeal.nD Cert.ConvBwdRefIdeal.τ).loc Cert.ConvBwdRefIdeal.main_v83) = v1 c
          ∧ r.2.mem ((c.tc : Thread Cert.ConvBwdRefIdeal.nD Cert.ConvBwdRefIdeal.τ).loc Cert.ConvBwdRefIdeal.main_v84) = v2 c
          ∧ r.2.mem ((c.tc : Thread Cert.ConvBwdRefIdeal.nD Cert.ConvBwdRefIdeal.τ).loc Cert.ConvBwdRefIdeal.main_v75) = v3 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v33) = v0 c
          ∧ r.2.mem ((c.tc : Thread Cert.LossHeadRefIdeal.nD Cert.LossHeadRefIdeal.τ).loc Cert.LossHeadRefIdeal.main_v32) = v1 c
          ∧ r.2.mem ((c.tc : Thread Cert.LossHeadRefIdeal.nD Cert.LossHeadRefIdeal.τ).loc Cert.LossHeadRefIdeal.main_v34) = v2 c
          ∧ r.2.mem ((c.tc : Thread Cert.LossHeadRefIdeal.nD Cert.LossHeadRefIdeal.τ).loc Cert.LossHeadRefIdeal.main_v31) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_QkBwd_QkBwdIdeal : Prop :=
  True

def algebraic_QkBwdIdeal_QkBwdRefIdeal_pre_finite_qk [hQkBwdIdeal : Cert.QkBwdIdeal.Facts] [hQkBwdRefIdeal : Cert.QkBwdRefIdeal.Facts] [hPre_finite_qk : Cert.Pre_finite_qk.Facts] : Prop :=
  ∀ (m : (ℓ : Loc Cert.QkBwdIdeal.nD Cert.QkBwdIdeal.τ Cert.QkBwdIdeal.sig) → Buf (Elt Ideal) ℓ) (g : Dev Cert.QkBwdIdeal.nD → PrngReg)
    (m' : (ℓ : Loc Cert.QkBwdRefIdeal.nD Cert.QkBwdRefIdeal.τ Cert.QkBwdRefIdeal.sig) → Buf (Elt Ideal) ℓ) (g' : Dev Cert.QkBwdRefIdeal.nD → PrngReg), Pre_QkBwdIdeal_finite_qk m →
    (∀ c : Dev Cert.QkBwdIdeal.nD,
      m' ((c.tc : Thread Cert.QkBwdRefIdeal.nD Cert.QkBwdRefIdeal.τ).loc Cert.QkBwdRefIdeal.main_arg0) = m ((c.tc : Thread Cert.QkBwdIdeal.nD Cert.QkBwdIdeal.τ).loc Cert.QkBwdIdeal.main_arg0)
      ∧ m' ((c.tc : Thread Cert.QkBwdRefIdeal.nD Cert.QkBwdRefIdeal.τ).loc Cert.QkBwdRefIdeal.main_arg1) = m ((c.tc : Thread Cert.QkBwdIdeal.nD Cert.QkBwdIdeal.τ).loc Cert.QkBwdIdeal.main_arg1)
      ∧ m' ((c.tc : Thread Cert.QkBwdRefIdeal.nD Cert.QkBwdRefIdeal.τ).loc Cert.QkBwdRefIdeal.main_arg2) = m ((c.tc : Thread Cert.QkBwdIdeal.nD Cert.QkBwdIdeal.τ).loc Cert.QkBwdIdeal.main_arg2)
      ∧ m' ((c.tc : Thread Cert.QkBwdRefIdeal.nD Cert.QkBwdRefIdeal.τ).loc Cert.QkBwdRefIdeal.main_arg3) = m ((c.tc : Thread Cert.QkBwdIdeal.nD Cert.QkBwdIdeal.τ).loc Cert.QkBwdIdeal.main_arg3)
      ∧ m' ((c.tc : Thread Cert.QkBwdRefIdeal.nD Cert.QkBwdRefIdeal.τ).loc Cert.QkBwdRefIdeal.main_arg4) = m ((c.tc : Thread Cert.QkBwdIdeal.nD Cert.QkBwdIdeal.τ).loc Cert.QkBwdIdeal.main_arg4)
      ∧ m' ((c.tc : Thread Cert.QkBwdRefIdeal.nD Cert.QkBwdRefIdeal.τ).loc Cert.QkBwdRefIdeal.main_arg5) = m ((c.tc : Thread Cert.QkBwdIdeal.nD Cert.QkBwdIdeal.τ).loc Cert.QkBwdIdeal.main_arg5)) →
    ∃ (v0 : (c : Dev Cert.QkBwdIdeal.nD) → Buf (Elt Ideal) ((c.tc : Thread Cert.QkBwdIdeal.nD Cert.QkBwdIdeal.τ).loc Cert.QkBwdIdeal.main_v0_0)) (v1 : (c : Dev Cert.QkBwdIdeal.nD) → Buf (Elt Ideal) ((c.tc : Thread Cert.QkBwdIdeal.nD Cert.QkBwdIdeal.τ).loc Cert.QkBwdIdeal.main_v0_1)) (v2 : (c : Dev Cert.QkBwdIdeal.nD) → Buf (Elt Ideal) ((c.tc : Thread Cert.QkBwdIdeal.nD Cert.QkBwdIdeal.τ).loc Cert.QkBwdIdeal.main_v0_2)) (v3 : (c : Dev Cert.QkBwdIdeal.nD) → Buf (Elt Ideal) ((c.tc : Thread Cert.QkBwdIdeal.nD Cert.QkBwdIdeal.τ).loc Cert.QkBwdIdeal.main_v0_3)) (v4 : (c : Dev Cert.QkBwdIdeal.nD) → Buf (Elt Ideal) ((c.tc : Thread Cert.QkBwdIdeal.nD Cert.QkBwdIdeal.τ).loc Cert.QkBwdIdeal.main_v0_4)),
      θ_run (Cert.QkBwdIdeal.defs (F := Ideal)) (onTc (τ := Cert.QkBwdIdeal.τ) (Cert.QkBwdIdeal.main (F := Ideal))) ⟨m, fun _ => 0, g⟩ (fun r => ∀ c : Dev Cert.QkBwdIdeal.nD,
          r.2.mem ((c.tc : Thread Cert.QkBwdIdeal.nD Cert.QkBwdIdeal.τ).loc Cert.QkBwdIdeal.main_v0_0) = v0 c
          ∧ r.2.mem ((c.tc : Thread Cert.QkBwdIdeal.nD Cert.QkBwdIdeal.τ).loc Cert.QkBwdIdeal.main_v0_1) = v1 c
          ∧ r.2.mem ((c.tc : Thread Cert.QkBwdIdeal.nD Cert.QkBwdIdeal.τ).loc Cert.QkBwdIdeal.main_v0_2) = v2 c
          ∧ r.2.mem ((c.tc : Thread Cert.QkBwdIdeal.nD Cert.QkBwdIdeal.τ).loc Cert.QkBwdIdeal.main_v0_3) = v3 c
          ∧ r.2.mem ((c.tc : Thread Cert.QkBwdIdeal.nD Cert.QkBwdIdeal.τ).loc Cert.QkBwdIdeal.main_v0_4) = v4 c
          ∧ r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
          ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
          ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
          ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
          ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
          ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5))
      ∧ θ_run (Cert.QkBwdRefIdeal.defs (F := Ideal)) (onTc (τ := Cert.QkBwdRefIdeal.τ) (Cert.QkBwdRefIdeal.main (F := Ideal))) ⟨m', fun _ => 0, g'⟩ (fun r => ∀ c : Dev Cert.QkBwdRefIdeal.nD,
          r.2.mem ((c.tc : Thread Cert.QkBwdRefIdeal.nD Cert.QkBwdRefIdeal.τ).loc Cert.QkBwdRefIdeal.main_v94) = v0 c
          ∧ r.2.mem ((c.tc : Thread Cert.QkBwdRefIdeal.nD Cert.QkBwdRefIdeal.τ).loc Cert.QkBwdRefIdeal.main_v96) = v1 c
          ∧ r.2.mem ((c.tc : Thread Cert.QkBwdRefIdeal.nD Cert.QkBwdRefIdeal.τ).loc Cert.QkBwdRefIdeal.main_v98) = v2 c
          ∧ r.2.mem ((c.tc : Thread Cert.QkBwdRefIdeal.nD Cert.QkBwdRefIdeal.τ).loc Cert.QkBwdRefIdeal.main_v91) = v3 c
          ∧ r.2.mem ((c.tc : Thread Cert.QkBwdRefIdeal.nD Cert.QkBwdRefIdeal.τ).loc Cert.QkBwdRefIdeal.main_v68) = v4 c
          ∧ r.2.mem ((c.tc : Thread Cert.QkBwdRefIdeal.nD Cert.QkBwdRefIdeal.τ).loc Cert.QkBwdRefIdeal.main_arg0) = m' ((c.tc : Thread Cert.QkBwdRefIdeal.nD Cert.QkBwdRefIdeal.τ).loc Cert.QkBwdRefIdeal.main_arg0)
          ∧ r.2.mem ((c.tc : Thread Cert.QkBwdRefIdeal.nD Cert.QkBwdRefIdeal.τ).loc Cert.QkBwdRefIdeal.main_arg1) = m' ((c.tc : Thread Cert.QkBwdRefIdeal.nD Cert.QkBwdRefIdeal.τ).loc Cert.QkBwdRefIdeal.main_arg1)
          ∧ r.2.mem ((c.tc : Thread Cert.QkBwdRefIdeal.nD Cert.QkBwdRefIdeal.τ).loc Cert.QkBwdRefIdeal.main_arg2) = m' ((c.tc : Thread Cert.QkBwdRefIdeal.nD Cert.QkBwdRefIdeal.τ).loc Cert.QkBwdRefIdeal.main_arg2)
          ∧ r.2.mem ((c.tc : Thread Cert.QkBwdRefIdeal.nD Cert.QkBwdRefIdeal.τ).loc Cert.QkBwdRefIdeal.main_arg3) = m' ((c.tc : Thread Cert.QkBwdRefIdeal.nD Cert.QkBwdRefIdeal.τ).loc Cert.QkBwdRefIdeal.main_arg3)
          ∧ r.2.mem ((c.tc : Thread Cert.QkBwdRefIdeal.nD Cert.QkBwdRefIdeal.τ).loc Cert.QkBwdRefIdeal.main_arg4) = m' ((c.tc : Thread Cert.QkBwdRefIdeal.nD Cert.QkBwdRefIdeal.τ).loc Cert.QkBwdRefIdeal.main_arg4)
          ∧ r.2.mem ((c.tc : Thread Cert.QkBwdRefIdeal.nD Cert.QkBwdRefIdeal.τ).loc Cert.QkBwdRefIdeal.main_arg5) = m' ((c.tc : Thread Cert.QkBwdRefIdeal.nD Cert.QkBwdRefIdeal.τ).loc Cert.QkBwdRefIdeal.main_arg5))

def preserves_NormBwd_NormBwdIdeal : Prop :=
  True

def algebraic_NormBwdIdeal_NormBwdRefIdeal_pre_finite_norm1 [hNormBwdIdeal : Cert.NormBwdIdeal.Facts] [hNormBwdRefIdeal : Cert.NormBwdRefIdeal.Facts] [hPre_finite_norm1 : Cert.Pre_finite_norm1.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_finite_norm1 m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v1_0)) (v2 : (c : Dev Cert.NormBwdIdeal.nD) → Buf (Elt Ideal) ((c.tc : Thread Cert.NormBwdIdeal.nD Cert.NormBwdIdeal.τ).loc Cert.NormBwdIdeal.main_v1_1)) (v3 : (c : Dev Cert.NormBwdIdeal.nD) → Buf (Elt Ideal) ((c.tc : Thread Cert.NormBwdIdeal.nD Cert.NormBwdIdeal.τ).loc Cert.NormBwdIdeal.main_v1_2)) (v4 : (c : Dev Cert.NormBwdIdeal.nD) → Buf (Elt Ideal) ((c.tc : Thread Cert.NormBwdIdeal.nD Cert.NormBwdIdeal.τ).loc Cert.NormBwdIdeal.main_v1_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v1_0) = v1 c
          ∧ r.2.mem ((c.tc : Thread Cert.NormBwdIdeal.nD Cert.NormBwdIdeal.τ).loc Cert.NormBwdIdeal.main_v1_1) = v2 c
          ∧ r.2.mem ((c.tc : Thread Cert.NormBwdIdeal.nD Cert.NormBwdIdeal.τ).loc Cert.NormBwdIdeal.main_v1_2) = v3 c
          ∧ r.2.mem ((c.tc : Thread Cert.NormBwdIdeal.nD Cert.NormBwdIdeal.τ).loc Cert.NormBwdIdeal.main_v1_3) = v4 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v66) = v0 c
          ∧ r.2.mem ((c.tc : Thread Cert.NormBwdRefIdeal.nD Cert.NormBwdRefIdeal.τ).loc Cert.NormBwdRefIdeal.main_v64) = v1 c
          ∧ r.2.mem ((c.tc : Thread Cert.NormBwdRefIdeal.nD Cert.NormBwdRefIdeal.τ).loc Cert.NormBwdRefIdeal.main_v33) = v2 c
          ∧ r.2.mem ((c.tc : Thread Cert.NormBwdRefIdeal.nD Cert.NormBwdRefIdeal.τ).loc Cert.NormBwdRefIdeal.main_v40) = v3 c
          ∧ r.2.mem ((c.tc : Thread Cert.NormBwdRefIdeal.nD Cert.NormBwdRefIdeal.τ).loc Cert.NormBwdRefIdeal.main_v62) = v4 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_NormMixBwd_NormMixBwdIdeal : Prop :=
  True

def algebraic_NormMixBwdIdeal_NormMixBwdRefIdeal_pre_finite_norm2 [hNormMixBwdIdeal : Cert.NormMixBwdIdeal.Facts] [hNormMixBwdRefIdeal : Cert.NormMixBwdRefIdeal.Facts] [hPre_finite_norm2 : Cert.Pre_finite_norm2.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixBwdRefIdeal.nD Cert.NormMixBwdRefIdeal.τ Cert.NormMixBwdRefIdeal.sig) → Buf (Elt Ideal) ℓ) (g' : Dev Cert.NormMixBwdRefIdeal.nD → PrngReg), Pre_NormMixBwdIdeal_finite_norm2 m →
    (∀ c : Dev Cert.NormMixBwdIdeal.nD,
      m' ((c.tc : Thread Cert.NormMixBwdRefIdeal.nD Cert.NormMixBwdRefIdeal.τ).loc Cert.NormMixBwdRefIdeal.main_arg0) = m ((c.tc : Thread Cert.NormMixBwdIdeal.nD Cert.NormMixBwdIdeal.τ).loc Cert.NormMixBwdIdeal.main_arg0)
      ∧ m' ((c.tc : Thread Cert.NormMixBwdRefIdeal.nD Cert.NormMixBwdRefIdeal.τ).loc Cert.NormMixBwdRefIdeal.main_arg1) = m ((c.tc : Thread Cert.NormMixBwdIdeal.nD Cert.NormMixBwdIdeal.τ).loc Cert.NormMixBwdIdeal.main_arg1)
      ∧ m' ((c.tc : Thread Cert.NormMixBwdRefIdeal.nD Cert.NormMixBwdRefIdeal.τ).loc Cert.NormMixBwdRefIdeal.main_arg2) = m ((c.tc : Thread Cert.NormMixBwdIdeal.nD Cert.NormMixBwdIdeal.τ).loc Cert.NormMixBwdIdeal.main_arg2)
      ∧ m' ((c.tc : Thread Cert.NormMixBwdRefIdeal.nD Cert.NormMixBwdRefIdeal.τ).loc Cert.NormMixBwdRefIdeal.main_arg3) = m ((c.tc : Thread Cert.NormMixBwdIdeal.nD Cert.NormMixBwdIdeal.τ).loc Cert.NormMixBwdIdeal.main_arg3)
      ∧ m' ((c.tc : Thread Cert.NormMixBwdRefIdeal.nD Cert.NormMixBwdRefIdeal.τ).loc Cert.NormMixBwdRefIdeal.main_arg4) = m ((c.tc : Thread Cert.NormMixBwdIdeal.nD Cert.NormMixBwdIdeal.τ).loc Cert.NormMixBwdIdeal.main_arg4)
      ∧ m' ((c.tc : Thread Cert.NormMixBwdRefIdeal.nD Cert.NormMixBwdRefIdeal.τ).loc Cert.NormMixBwdRefIdeal.main_arg5) = m ((c.tc : Thread Cert.NormMixBwdIdeal.nD Cert.NormMixBwdIdeal.τ).loc Cert.NormMixBwdIdeal.main_arg5)
      ∧ m' ((c.tc : Thread Cert.NormMixBwdRefIdeal.nD Cert.NormMixBwdRefIdeal.τ).loc Cert.NormMixBwdRefIdeal.main_arg6) = m ((c.tc : Thread Cert.NormMixBwdIdeal.nD Cert.NormMixBwdIdeal.τ).loc Cert.NormMixBwdIdeal.main_arg6)
      ∧ m' ((c.tc : Thread Cert.NormMixBwdRefIdeal.nD Cert.NormMixBwdRefIdeal.τ).loc Cert.NormMixBwdRefIdeal.main_arg7) = m ((c.tc : Thread Cert.NormMixBwdIdeal.nD Cert.NormMixBwdIdeal.τ).loc Cert.NormMixBwdIdeal.main_arg7)) →
    ∃ (v0 : (c : Dev Cert.NormMixBwdIdeal.nD) → Buf (Elt Ideal) ((c.tc : Thread Cert.NormMixBwdIdeal.nD Cert.NormMixBwdIdeal.τ).loc Cert.NormMixBwdIdeal.main_v0_0)) (v1 : (c : Dev Cert.NormMixBwdIdeal.nD) → Buf (Elt Ideal) ((c.tc : Thread Cert.NormMixBwdIdeal.nD Cert.NormMixBwdIdeal.τ).loc Cert.NormMixBwdIdeal.main_v0_1)) (v2 : (c : Dev Cert.NormMixBwdIdeal.nD) → Buf (Elt Ideal) ((c.tc : Thread Cert.NormMixBwdIdeal.nD Cert.NormMixBwdIdeal.τ).loc Cert.NormMixBwdIdeal.main_v1_0)) (v3 : (c : Dev Cert.NormMixBwdIdeal.nD) → Buf (Elt Ideal) ((c.tc : Thread Cert.NormMixBwdIdeal.nD Cert.NormMixBwdIdeal.τ).loc Cert.NormMixBwdIdeal.main_v1_1)) (v4 : (c : Dev Cert.NormMixBwdIdeal.nD) → Buf (Elt Ideal) ((c.tc : Thread Cert.NormMixBwdIdeal.nD Cert.NormMixBwdIdeal.τ).loc Cert.NormMixBwdIdeal.main_v1_2)) (v5 : (c : Dev Cert.NormMixBwdIdeal.nD) → Buf (Elt Ideal) ((c.tc : Thread Cert.NormMixBwdIdeal.nD Cert.NormMixBwdIdeal.τ).loc Cert.NormMixBwdIdeal.main_v1_3)) (v6 : (c : Dev Cert.NormMixBwdIdeal.nD) → Buf (Elt Ideal) ((c.tc : Thread Cert.NormMixBwdIdeal.nD Cert.NormMixBwdIdeal.τ).loc Cert.NormMixBwdIdeal.main_v1_4)) (v7 : (c : Dev Cert.NormMixBwdIdeal.nD) → Buf (Elt Ideal) ((c.tc : Thread Cert.NormMixBwdIdeal.nD Cert.NormMixBwdIdeal.τ).loc Cert.NormMixBwdIdeal.main_v1_5)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v0_0) = v0 c
          ∧ r.2.mem ((c.tc : Thread Cert.NormMixBwdIdeal.nD Cert.NormMixBwdIdeal.τ).loc Cert.NormMixBwdIdeal.main_v0_1) = v1 c
          ∧ r.2.mem ((c.tc : Thread Cert.NormMixBwdIdeal.nD Cert.NormMixBwdIdeal.τ).loc Cert.NormMixBwdIdeal.main_v1_0) = v2 c
          ∧ r.2.mem ((c.tc : Thread Cert.NormMixBwdIdeal.nD Cert.NormMixBwdIdeal.τ).loc Cert.NormMixBwdIdeal.main_v1_1) = v3 c
          ∧ r.2.mem ((c.tc : Thread Cert.NormMixBwdIdeal.nD Cert.NormMixBwdIdeal.τ).loc Cert.NormMixBwdIdeal.main_v1_2) = v4 c
          ∧ r.2.mem ((c.tc : Thread Cert.NormMixBwdIdeal.nD Cert.NormMixBwdIdeal.τ).loc Cert.NormMixBwdIdeal.main_v1_3) = v5 c
          ∧ r.2.mem ((c.tc : Thread Cert.NormMixBwdIdeal.nD Cert.NormMixBwdIdeal.τ).loc Cert.NormMixBwdIdeal.main_v1_4) = v6 c
          ∧ r.2.mem ((c.tc : Thread Cert.NormMixBwdIdeal.nD Cert.NormMixBwdIdeal.τ).loc Cert.NormMixBwdIdeal.main_v1_5) = v7 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3)
          ∧ r.2.mem ((c.tc : Thread Cert.NormMixBwdIdeal.nD Cert.NormMixBwdIdeal.τ).loc Cert.NormMixBwdIdeal.main_arg4) = m ((c.tc : Thread Cert.NormMixBwdIdeal.nD Cert.NormMixBwdIdeal.τ).loc Cert.NormMixBwdIdeal.main_arg4)
          ∧ r.2.mem ((c.tc : Thread Cert.NormMixBwdIdeal.nD Cert.NormMixBwdIdeal.τ).loc Cert.NormMixBwdIdeal.main_arg5) = m ((c.tc : Thread Cert.NormMixBwdIdeal.nD Cert.NormMixBwdIdeal.τ).loc Cert.NormMixBwdIdeal.main_arg5)
          ∧ r.2.mem ((c.tc : Thread Cert.NormMixBwdIdeal.nD Cert.NormMixBwdIdeal.τ).loc Cert.NormMixBwdIdeal.main_arg6) = m ((c.tc : Thread Cert.NormMixBwdIdeal.nD Cert.NormMixBwdIdeal.τ).loc Cert.NormMixBwdIdeal.main_arg6)
          ∧ r.2.mem ((c.tc : Thread Cert.NormMixBwdIdeal.nD Cert.NormMixBwdIdeal.τ).loc Cert.NormMixBwdIdeal.main_arg7) = m ((c.tc : Thread Cert.NormMixBwdIdeal.nD Cert.NormMixBwdIdeal.τ).loc Cert.NormMixBwdIdeal.main_arg7))
      ∧ θ_run (Cert.NormMixBwdRefIdeal.defs (F := Ideal)) (onTc (τ := Cert.NormMixBwdRefIdeal.τ) (Cert.NormMixBwdRefIdeal.main (F := Ideal))) ⟨m', fun _ => 0, g'⟩ (fun r => ∀ c : Dev Cert.NormMixBwdRefIdeal.nD,
          r.2.mem ((c.tc : Thread Cert.NormMixBwdRefIdeal.nD Cert.NormMixBwdRefIdeal.τ).loc Cert.NormMixBwdRefIdeal.main_v76) = v0 c
          ∧ r.2.mem ((c.tc : Thread Cert.NormMixBwdRefIdeal.nD Cert.NormMixBwdRefIdeal.τ).loc Cert.NormMixBwdRefIdeal.main_v78) = v1 c
          ∧ r.2.mem ((c.tc : Thread Cert.NormMixBwdRefIdeal.nD Cert.NormMixBwdRefIdeal.τ).loc Cert.NormMixBwdRefIdeal.main_v75) = v2 c
          ∧ r.2.mem ((c.tc : Thread Cert.NormMixBwdRefIdeal.nD Cert.NormMixBwdRefIdeal.τ).loc Cert.NormMixBwdRefIdeal.main_v79) = v3 c
          ∧ r.2.mem ((c.tc : Thread Cert.NormMixBwdRefIdeal.nD Cert.NormMixBwdRefIdeal.τ).loc Cert.NormMixBwdRefIdeal.main_v36) = v4 c
          ∧ r.2.mem ((c.tc : Thread Cert.NormMixBwdRefIdeal.nD Cert.NormMixBwdRefIdeal.τ).loc Cert.NormMixBwdRefIdeal.main_v43) = v5 c
          ∧ r.2.mem ((c.tc : Thread Cert.NormMixBwdRefIdeal.nD Cert.NormMixBwdRefIdeal.τ).loc Cert.NormMixBwdRefIdeal.main_v66) = v6 c
          ∧ r.2.mem ((c.tc : Thread Cert.NormMixBwdRefIdeal.nD Cert.NormMixBwdRefIdeal.τ).loc Cert.NormMixBwdRefIdeal.main_v74) = v7 c
          ∧ r.2.mem ((c.tc : Thread Cert.NormMixBwdRefIdeal.nD Cert.NormMixBwdRefIdeal.τ).loc Cert.NormMixBwdRefIdeal.main_arg0) = m' ((c.tc : Thread Cert.NormMixBwdRefIdeal.nD Cert.NormMixBwdRefIdeal.τ).loc Cert.NormMixBwdRefIdeal.main_arg0)
          ∧ r.2.mem ((c.tc : Thread Cert.NormMixBwdRefIdeal.nD Cert.NormMixBwdRefIdeal.τ).loc Cert.NormMixBwdRefIdeal.main_arg1) = m' ((c.tc : Thread Cert.NormMixBwdRefIdeal.nD Cert.NormMixBwdRefIdeal.τ).loc Cert.NormMixBwdRefIdeal.main_arg1)
          ∧ r.2.mem ((c.tc : Thread Cert.NormMixBwdRefIdeal.nD Cert.NormMixBwdRefIdeal.τ).loc Cert.NormMixBwdRefIdeal.main_arg2) = m' ((c.tc : Thread Cert.NormMixBwdRefIdeal.nD Cert.NormMixBwdRefIdeal.τ).loc Cert.NormMixBwdRefIdeal.main_arg2)
          ∧ r.2.mem ((c.tc : Thread Cert.NormMixBwdRefIdeal.nD Cert.NormMixBwdRefIdeal.τ).loc Cert.NormMixBwdRefIdeal.main_arg3) = m' ((c.tc : Thread Cert.NormMixBwdRefIdeal.nD Cert.NormMixBwdRefIdeal.τ).loc Cert.NormMixBwdRefIdeal.main_arg3)
          ∧ r.2.mem ((c.tc : Thread Cert.NormMixBwdRefIdeal.nD Cert.NormMixBwdRefIdeal.τ).loc Cert.NormMixBwdRefIdeal.main_arg4) = m' ((c.tc : Thread Cert.NormMixBwdRefIdeal.nD Cert.NormMixBwdRefIdeal.τ).loc Cert.NormMixBwdRefIdeal.main_arg4)
          ∧ r.2.mem ((c.tc : Thread Cert.NormMixBwdRefIdeal.nD Cert.NormMixBwdRefIdeal.τ).loc Cert.NormMixBwdRefIdeal.main_arg5) = m' ((c.tc : Thread Cert.NormMixBwdRefIdeal.nD Cert.NormMixBwdRefIdeal.τ).loc Cert.NormMixBwdRefIdeal.main_arg5)
          ∧ r.2.mem ((c.tc : Thread Cert.NormMixBwdRefIdeal.nD Cert.NormMixBwdRefIdeal.τ).loc Cert.NormMixBwdRefIdeal.main_arg6) = m' ((c.tc : Thread Cert.NormMixBwdRefIdeal.nD Cert.NormMixBwdRefIdeal.τ).loc Cert.NormMixBwdRefIdeal.main_arg6)
          ∧ r.2.mem ((c.tc : Thread Cert.NormMixBwdRefIdeal.nD Cert.NormMixBwdRefIdeal.τ).loc Cert.NormMixBwdRefIdeal.main_arg7) = m' ((c.tc : Thread Cert.NormMixBwdRefIdeal.nD Cert.NormMixBwdRefIdeal.τ).loc Cert.NormMixBwdRefIdeal.main_arg7))

def preserves_QkFwd_QkFwdIdeal : Prop :=
  True

def algebraic_QkFwdIdeal_QkFwdRefIdeal [hQkFwdIdeal : Cert.QkFwdIdeal.Facts] [hQkFwdRefIdeal : Cert.QkFwdRefIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg)
    (m' : (ℓ : Loc Cert.QkFwdRefIdeal.nD Cert.QkFwdRefIdeal.τ Cert.QkFwdRefIdeal.sig) → Buf (Elt Ideal) ℓ) (g' : Dev Cert.QkFwdRefIdeal.nD → PrngReg), Pre_QkFwdIdeal m →
    (∀ c : Dev Cert.QkFwdIdeal.nD,
      m' ((c.tc : Thread Cert.QkFwdRefIdeal.nD Cert.QkFwdRefIdeal.τ).loc Cert.QkFwdRefIdeal.main_arg0) = m ((c.tc : Thread Cert.QkFwdIdeal.nD Cert.QkFwdIdeal.τ).loc Cert.QkFwdIdeal.main_arg0)
      ∧ m' ((c.tc : Thread Cert.QkFwdRefIdeal.nD Cert.QkFwdRefIdeal.τ).loc Cert.QkFwdRefIdeal.main_arg1) = m ((c.tc : Thread Cert.QkFwdIdeal.nD Cert.QkFwdIdeal.τ).loc Cert.QkFwdIdeal.main_arg1)
      ∧ m' ((c.tc : Thread Cert.QkFwdRefIdeal.nD Cert.QkFwdRefIdeal.τ).loc Cert.QkFwdRefIdeal.main_arg2) = m ((c.tc : Thread Cert.QkFwdIdeal.nD Cert.QkFwdIdeal.τ).loc Cert.QkFwdIdeal.main_arg2)) →
    ∃ (v0 : (c : Dev Cert.QkFwdIdeal.nD) → Buf (Elt Ideal) ((c.tc : Thread Cert.QkFwdIdeal.nD Cert.QkFwdIdeal.τ).loc Cert.QkFwdIdeal.main_v0_0)) (v1 : (c : Dev Cert.QkFwdIdeal.nD) → Buf (Elt Ideal) ((c.tc : Thread Cert.QkFwdIdeal.nD Cert.QkFwdIdeal.τ).loc Cert.QkFwdIdeal.main_v0_1)) (v2 : (c : Dev Cert.QkFwdIdeal.nD) → Buf (Elt Ideal) ((c.tc : Thread Cert.QkFwdIdeal.nD Cert.QkFwdIdeal.τ).loc Cert.QkFwdIdeal.main_v0_2)),
      θ_run (Cert.QkFwdIdeal.defs (F := Ideal)) (onTc (τ := Cert.QkFwdIdeal.τ) (Cert.QkFwdIdeal.main (F := Ideal))) ⟨m, fun _ => 0, g⟩ (fun r => ∀ c : Dev Cert.QkFwdIdeal.nD,
          r.2.mem ((c.tc : Thread Cert.QkFwdIdeal.nD Cert.QkFwdIdeal.τ).loc Cert.QkFwdIdeal.main_v0_0) = v0 c
          ∧ r.2.mem ((c.tc : Thread Cert.QkFwdIdeal.nD Cert.QkFwdIdeal.τ).loc Cert.QkFwdIdeal.main_v0_1) = v1 c
          ∧ r.2.mem ((c.tc : Thread Cert.QkFwdIdeal.nD Cert.QkFwdIdeal.τ).loc Cert.QkFwdIdeal.main_v0_2) = v2 c
          ∧ r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
          ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
          ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2))
      ∧ θ_run (Cert.QkFwdRefIdeal.defs (F := Ideal)) (onTc (τ := Cert.QkFwdRefIdeal.τ) (Cert.QkFwdRefIdeal.main (F := Ideal))) ⟨m', fun _ => 0, g'⟩ (fun r => ∀ c : Dev Cert.QkFwdRefIdeal.nD,
          r.2.mem ((c.tc : Thread Cert.QkFwdRefIdeal.nD Cert.QkFwdRefIdeal.τ).loc Cert.QkFwdRefIdeal.main_v38) = v0 c
          ∧ r.2.mem ((c.tc : Thread Cert.QkFwdRefIdeal.nD Cert.QkFwdRefIdeal.τ).loc Cert.QkFwdRefIdeal.main_v40) = v1 c
          ∧ r.2.mem ((c.tc : Thread Cert.QkFwdRefIdeal.nD Cert.QkFwdRefIdeal.τ).loc Cert.QkFwdRefIdeal.main_v42) = v2 c
          ∧ r.2.mem ((c.tc : Thread Cert.QkFwdRefIdeal.nD Cert.QkFwdRefIdeal.τ).loc Cert.QkFwdRefIdeal.main_arg0) = m' ((c.tc : Thread Cert.QkFwdRefIdeal.nD Cert.QkFwdRefIdeal.τ).loc Cert.QkFwdRefIdeal.main_arg0)
          ∧ r.2.mem ((c.tc : Thread Cert.QkFwdRefIdeal.nD Cert.QkFwdRefIdeal.τ).loc Cert.QkFwdRefIdeal.main_arg1) = m' ((c.tc : Thread Cert.QkFwdRefIdeal.nD Cert.QkFwdRefIdeal.τ).loc Cert.QkFwdRefIdeal.main_arg1)
          ∧ r.2.mem ((c.tc : Thread Cert.QkFwdRefIdeal.nD Cert.QkFwdRefIdeal.τ).loc Cert.QkFwdRefIdeal.main_arg2) = m' ((c.tc : Thread Cert.QkFwdRefIdeal.nD Cert.QkFwdRefIdeal.τ).loc Cert.QkFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v5) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)) →
    ∃ (v0 : (c : Dev Cert.MmUpIdeal.nD) → Buf (Elt Ideal) ((c.tc : Thread Cert.MmUpIdeal.nD Cert.MmUpIdeal.τ).loc Cert.MmUpIdeal.main_v3)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v3) = v0 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v1) = v0 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1))

def preserves_MmInDx_MmInDxIdeal : Prop :=
  True

def algebraic_MmInDxIdeal_MmInDxRefIdeal [hMmInDxIdeal : Cert.MmInDxIdeal.Facts] [hMmInDxRefIdeal : Cert.MmInDxRefIdeal.Facts] : Prop :=
  ∀ (m : (ℓ : Loc Cert.MmInDxIdeal.nD Cert.MmInDxIdeal.τ Cert.MmInDxIdeal.sig) → Buf (Elt Ideal) ℓ) (g : Dev Cert.MmInDxIdeal.nD → PrngReg)
    (m' : (ℓ : Loc Cert.MmInDxRefIdeal.nD Cert.MmInDxRefIdeal.τ Cert.MmInDxRefIdeal.sig) → Buf (Elt Ideal) ℓ) (g' : Dev Cert.MmInDxRefIdeal.nD → PrngReg), Pre_MmInDxIdeal m →
    (∀ c : Dev Cert.MmInDxIdeal.nD,
      m' ((c.tc : Thread Cert.MmInDxRefIdeal.nD Cert.MmInDxRefIdeal.τ).loc Cert.MmInDxRefIdeal.main_arg0) = m ((c.tc : Thread Cert.MmInDxIdeal.nD Cert.MmInDxIdeal.τ).loc Cert.MmInDxIdeal.main_arg0)
      ∧ m' ((c.tc : Thread Cert.MmInDxRefIdeal.nD Cert.MmInDxRefIdeal.τ).loc Cert.MmInDxRefIdeal.main_arg1) = m ((c.tc : Thread Cert.MmInDxIdeal.nD Cert.MmInDxIdeal.τ).loc Cert.MmInDxIdeal.main_arg1)) →
    ∃ (v0 : (c : Dev Cert.MmInDxIdeal.nD) → Buf (Elt Ideal) ((c.tc : Thread Cert.MmInDxIdeal.nD Cert.MmInDxIdeal.τ).loc Cert.MmInDxIdeal.main_v3)),
      θ_run (Cert.MmInDxIdeal.defs (F := Ideal)) (onTc (τ := Cert.MmInDxIdeal.τ) (Cert.MmInDxIdeal.main (F := Ideal))) ⟨m, fun _ => 0, g⟩ (fun r => ∀ c : Dev Cert.MmInDxIdeal.nD,
          r.2.mem ((c.tc : Thread Cert.MmInDxIdeal.nD Cert.MmInDxIdeal.τ).loc Cert.MmInDxIdeal.main_v3) = v0 c
          ∧ r.2.mem ((c.tc : Thread Cert.MmInDxIdeal.nD Cert.MmInDxIdeal.τ).loc Cert.MmInDxIdeal.main_arg0) = m ((c.tc : Thread Cert.MmInDxIdeal.nD Cert.MmInDxIdeal.τ).loc Cert.MmInDxIdeal.main_arg0)
          ∧ r.2.mem ((c.tc : Thread Cert.MmInDxIdeal.nD Cert.MmInDxIdeal.τ).loc Cert.MmInDxIdeal.main_arg1) = m ((c.tc : Thread Cert.MmInDxIdeal.nD Cert.MmInDxIdeal.τ).loc Cert.MmInDxIdeal.main_arg1))
      ∧ θ_run (Cert.MmInDxRefIdeal.defs (F := Ideal)) (onTc (τ := Cert.MmInDxRefIdeal.τ) (Cert.MmInDxRefIdeal.main (F := Ideal))) ⟨m', fun _ => 0, g'⟩ (fun r => ∀ c : Dev Cert.MmInDxRefIdeal.nD,
          r.2.mem ((c.tc : Thread Cert.MmInDxRefIdeal.nD Cert.MmInDxRefIdeal.τ).loc Cert.MmInDxRefIdeal.main_v3) = v0 c
          ∧ r.2.mem ((c.tc : Thread Cert.MmInDxRefIdeal.nD Cert.MmInDxRefIdeal.τ).loc Cert.MmInDxRefIdeal.main_arg0) = m' ((c.tc : Thread Cert.MmInDxRefIdeal.nD Cert.MmInDxRefIdeal.τ).loc Cert.MmInDxRefIdeal.main_arg0)
          ∧ r.2.mem ((c.tc : Thread Cert.MmInDxRefIdeal.nD Cert.MmInDxRefIdeal.τ).loc Cert.MmInDxRefIdeal.main_arg1) = m' ((c.tc : Thread Cert.MmInDxRefIdeal.nD Cert.MmInDxRefIdeal.τ).loc Cert.MmInDxRefIdeal.main_arg1))

def preserves_MmInDw_MmInDwIdeal : Prop :=
  True

def algebraic_MmInDwIdeal_MmInDwRefIdeal [hMmInDwIdeal : Cert.MmInDwIdeal.Facts] [hMmInDwRefIdeal : Cert.MmInDwRefIdeal.Facts] : Prop :=
  ∀ (m : (ℓ : Loc Cert.MmInDwIdeal.nD Cert.MmInDwIdeal.τ Cert.MmInDwIdeal.sig) → Buf (Elt Ideal) ℓ) (g : Dev Cert.MmInDwIdeal.nD → PrngReg)
    (m' : (ℓ : Loc Cert.MmInDwRefIdeal.nD Cert.MmInDwRefIdeal.τ Cert.MmInDwRefIdeal.sig) → Buf (Elt Ideal) ℓ) (g' : Dev Cert.MmInDwRefIdeal.nD → PrngReg), Pre_MmInDwIdeal m →
    (∀ c : Dev Cert.MmInDwIdeal.nD,
      m' ((c.tc : Thread Cert.MmInDwRefIdeal.nD Cert.MmInDwRefIdeal.τ).loc Cert.MmInDwRefIdeal.main_arg0) = m ((c.tc : Thread Cert.MmInDwIdeal.nD Cert.MmInDwIdeal.τ).loc Cert.MmInDwIdeal.main_arg0)
      ∧ m' ((c.tc : Thread Cert.MmInDwRefIdeal.nD Cert.MmInDwRefIdeal.τ).loc Cert.MmInDwRefIdeal.main_arg1) = m ((c.tc : Thread Cert.MmInDwIdeal.nD Cert.MmInDwIdeal.τ).loc Cert.MmInDwIdeal.main_arg1)) →
    ∃ (v0 : (c : Dev Cert.MmInDwIdeal.nD) → Buf (Elt Ideal) ((c.tc : Thread Cert.MmInDwIdeal.nD Cert.MmInDwIdeal.τ).loc Cert.MmInDwIdeal.main_v0)),
      θ_run (Cert.MmInDwIdeal.defs (F := Ideal)) (onTc (τ := Cert.MmInDwIdeal.τ) (Cert.MmInDwIdeal.main (F := Ideal))) ⟨m, fun _ => 0, g⟩ (fun r => ∀ c : Dev Cert.MmInDwIdeal.nD,
          r.2.mem ((c.tc : Thread Cert.MmInDwIdeal.nD Cert.MmInDwIdeal.τ).loc Cert.MmInDwIdeal.main_v0) = v0 c
          ∧ r.2.mem ((c.tc : Thread Cert.MmInDwIdeal.nD Cert.MmInDwIdeal.τ).loc Cert.MmInDwIdeal.main_arg0) = m ((c.tc : Thread Cert.MmInDwIdeal.nD Cert.MmInDwIdeal.τ).loc Cert.MmInDwIdeal.main_arg0)
          ∧ r.2.mem ((c.tc : Thread Cert.MmInDwIdeal.nD Cert.MmInDwIdeal.τ).loc Cert.MmInDwIdeal.main_arg1) = m ((c.tc : Thread Cert.MmInDwIdeal.nD Cert.MmInDwIdeal.τ).loc Cert.MmInDwIdeal.main_arg1))
      ∧ θ_run (Cert.MmInDwRefIdeal.defs (F := Ideal)) (onTc (τ := Cert.MmInDwRefIdeal.τ) (Cert.MmInDwRefIdeal.main (F := Ideal))) ⟨m', fun _ => 0, g'⟩ (fun r => ∀ c : Dev Cert.MmInDwRefIdeal.nD,
          r.2.mem ((c.tc : Thread Cert.MmInDwRefIdeal.nD Cert.MmInDwRefIdeal.τ).loc Cert.MmInDwRefIdeal.main_v8) = v0 c
          ∧ r.2.mem ((c.tc : Thread Cert.MmInDwRefIdeal.nD Cert.MmInDwRefIdeal.τ).loc Cert.MmInDwRefIdeal.main_arg0) = m' ((c.tc : Thread Cert.MmInDwRefIdeal.nD Cert.MmInDwRefIdeal.τ).loc Cert.MmInDwRefIdeal.main_arg0)
          ∧ r.2.mem ((c.tc : Thread Cert.MmInDwRefIdeal.nD Cert.MmInDwRefIdeal.τ).loc Cert.MmInDwRefIdeal.main_arg1) = m' ((c.tc : Thread Cert.MmInDwRefIdeal.nD Cert.MmInDwRefIdeal.τ).loc Cert.MmInDwRefIdeal.main_arg1))

def preserves_MmUpDx_MmUpDxIdeal : Prop :=
  True

def algebraic_MmUpDxIdeal_MmUpDxRefIdeal [hMmUpDxIdeal : Cert.MmUpDxIdeal.Facts] [hMmUpDxRefIdeal : Cert.MmUpDxRefIdeal.Facts] : Prop :=
  ∀ (m : (ℓ : Loc Cert.MmUpDxIdeal.nD Cert.MmUpDxIdeal.τ Cert.MmUpDxIdeal.sig) → Buf (Elt Ideal) ℓ) (g : Dev Cert.MmUpDxIdeal.nD → PrngReg)
    (m' : (ℓ : Loc Cert.MmUpDxRefIdeal.nD Cert.MmUpDxRefIdeal.τ Cert.MmUpDxRefIdeal.sig) → Buf (Elt Ideal) ℓ) (g' : Dev Cert.MmUpDxRefIdeal.nD → PrngReg), Pre_MmUpDxIdeal m →
    (∀ c : Dev Cert.MmUpDxIdeal.nD,
      m' ((c.tc : Thread Cert.MmUpDxRefIdeal.nD Cert.MmUpDxRefIdeal.τ).loc Cert.MmUpDxRefIdeal.main_arg0) = m ((c.tc : Thread Cert.MmUpDxIdeal.nD Cert.MmUpDxIdeal.τ).loc Cert.MmUpDxIdeal.main_arg0)
      ∧ m' ((c.tc : Thread Cert.MmUpDxRefIdeal.nD Cert.MmUpDxRefIdeal.τ).loc Cert.MmUpDxRefIdeal.main_arg1) = m ((c.tc : Thread Cert.MmUpDxIdeal.nD Cert.MmUpDxIdeal.τ).loc Cert.MmUpDxIdeal.main_arg1)
      ∧ m' ((c.tc : Thread Cert.MmUpDxRefIdeal.nD Cert.MmUpDxRefIdeal.τ).loc Cert.MmUpDxRefIdeal.main_arg2) = m ((c.tc : Thread Cert.MmUpDxIdeal.nD Cert.MmUpDxIdeal.τ).loc Cert.MmUpDxIdeal.main_arg2)) →
    ∃ (v0 : (c : Dev Cert.MmUpDxIdeal.nD) → Buf (Elt Ideal) ((c.tc : Thread Cert.MmUpDxIdeal.nD Cert.MmUpDxIdeal.τ).loc Cert.MmUpDxIdeal.main_v3)),
      θ_run (Cert.MmUpDxIdeal.defs (F := Ideal)) (onTc (τ := Cert.MmUpDxIdeal.τ) (Cert.MmUpDxIdeal.main (F := Ideal))) ⟨m, fun _ => 0, g⟩ (fun r => ∀ c : Dev Cert.MmUpDxIdeal.nD,
          r.2.mem ((c.tc : Thread Cert.MmUpDxIdeal.nD Cert.MmUpDxIdeal.τ).loc Cert.MmUpDxIdeal.main_v3) = v0 c
          ∧ r.2.mem ((c.tc : Thread Cert.MmUpDxIdeal.nD Cert.MmUpDxIdeal.τ).loc Cert.MmUpDxIdeal.main_arg0) = m ((c.tc : Thread Cert.MmUpDxIdeal.nD Cert.MmUpDxIdeal.τ).loc Cert.MmUpDxIdeal.main_arg0)
          ∧ r.2.mem ((c.tc : Thread Cert.MmUpDxIdeal.nD Cert.MmUpDxIdeal.τ).loc Cert.MmUpDxIdeal.main_arg1) = m ((c.tc : Thread Cert.MmUpDxIdeal.nD Cert.MmUpDxIdeal.τ).loc Cert.MmUpDxIdeal.main_arg1)
          ∧ r.2.mem ((c.tc : Thread Cert.MmUpDxIdeal.nD Cert.MmUpDxIdeal.τ).loc Cert.MmUpDxIdeal.main_arg2) = m ((c.tc : Thread Cert.MmUpDxIdeal.nD Cert.MmUpDxIdeal.τ).loc Cert.MmUpDxIdeal.main_arg2))
      ∧ θ_run (Cert.MmUpDxRefIdeal.defs (F := Ideal)) (onTc (τ := Cert.MmUpDxRefIdeal.τ) (Cert.MmUpDxRefIdeal.main (F := Ideal))) ⟨m', fun _ => 0, g'⟩ (fun r => ∀ c : Dev Cert.MmUpDxRefIdeal.nD,
          r.2.mem ((c.tc : Thread Cert.MmUpDxRefIdeal.nD Cert.MmUpDxRefIdeal.τ).loc Cert.MmUpDxRefIdeal.main_v4) = v0 c
          ∧ r.2.mem ((c.tc : Thread Cert.MmUpDxRefIdeal.nD Cert.MmUpDxRefIdeal.τ).loc Cert.MmUpDxRefIdeal.main_arg0) = m' ((c.tc : Thread Cert.MmUpDxRefIdeal.nD Cert.MmUpDxRefIdeal.τ).loc Cert.MmUpDxRefIdeal.main_arg0)
          ∧ r.2.mem ((c.tc : Thread Cert.MmUpDxRefIdeal.nD Cert.MmUpDxRefIdeal.τ).loc Cert.MmUpDxRefIdeal.main_arg1) = m' ((c.tc : Thread Cert.MmUpDxRefIdeal.nD Cert.MmUpDxRefIdeal.τ).loc Cert.MmUpDxRefIdeal.main_arg1)
          ∧ r.2.mem ((c.tc : Thread Cert.MmUpDxRefIdeal.nD Cert.MmUpDxRefIdeal.τ).loc Cert.MmUpDxRefIdeal.main_arg2) = m' ((c.tc : Thread Cert.MmUpDxRefIdeal.nD Cert.MmUpDxRefIdeal.τ).loc Cert.MmUpDxRefIdeal.main_arg2))

def preserves_MmUpDw_MmUpDwIdeal : Prop :=
  True

def algebraic_MmUpDwIdeal_MmUpDwRefIdeal [hMmUpDwIdeal : Cert.MmUpDwIdeal.Facts] [hMmUpDwRefIdeal : Cert.MmUpDwRefIdeal.Facts] : Prop :=
  ∀ (m : (ℓ : Loc Cert.MmUpDwIdeal.nD Cert.MmUpDwIdeal.τ Cert.MmUpDwIdeal.sig) → Buf (Elt Ideal) ℓ) (g : Dev Cert.MmUpDwIdeal.nD → PrngReg)
    (m' : (ℓ : Loc Cert.MmUpDwRefIdeal.nD Cert.MmUpDwRefIdeal.τ Cert.MmUpDwRefIdeal.sig) → Buf (Elt Ideal) ℓ) (g' : Dev Cert.MmUpDwRefIdeal.nD → PrngReg), Pre_MmUpDwIdeal m →
    (∀ c : Dev Cert.MmUpDwIdeal.nD,
      m' ((c.tc : Thread Cert.MmUpDwRefIdeal.nD Cert.MmUpDwRefIdeal.τ).loc Cert.MmUpDwRefIdeal.main_arg0) = m ((c.tc : Thread Cert.MmUpDwIdeal.nD Cert.MmUpDwIdeal.τ).loc Cert.MmUpDwIdeal.main_arg0)
      ∧ m' ((c.tc : Thread Cert.MmUpDwRefIdeal.nD Cert.MmUpDwRefIdeal.τ).loc Cert.MmUpDwRefIdeal.main_arg1) = m ((c.tc : Thread Cert.MmUpDwIdeal.nD Cert.MmUpDwIdeal.τ).loc Cert.MmUpDwIdeal.main_arg1)
      ∧ m' ((c.tc : Thread Cert.MmUpDwRefIdeal.nD Cert.MmUpDwRefIdeal.τ).loc Cert.MmUpDwRefIdeal.main_arg2) = m ((c.tc : Thread Cert.MmUpDwIdeal.nD Cert.MmUpDwIdeal.τ).loc Cert.MmUpDwIdeal.main_arg2)) →
    ∃ (v0 : (c : Dev Cert.MmUpDwIdeal.nD) → Buf (Elt Ideal) ((c.tc : Thread Cert.MmUpDwIdeal.nD Cert.MmUpDwIdeal.τ).loc Cert.MmUpDwIdeal.main_v0)),
      θ_run (Cert.MmUpDwIdeal.defs (F := Ideal)) (onTc (τ := Cert.MmUpDwIdeal.τ) (Cert.MmUpDwIdeal.main (F := Ideal))) ⟨m, fun _ => 0, g⟩ (fun r => ∀ c : Dev Cert.MmUpDwIdeal.nD,
          r.2.mem ((c.tc : Thread Cert.MmUpDwIdeal.nD Cert.MmUpDwIdeal.τ).loc Cert.MmUpDwIdeal.main_v0) = v0 c
          ∧ r.2.mem ((c.tc : Thread Cert.MmUpDwIdeal.nD Cert.MmUpDwIdeal.τ).loc Cert.MmUpDwIdeal.main_arg0) = m ((c.tc : Thread Cert.MmUpDwIdeal.nD Cert.MmUpDwIdeal.τ).loc Cert.MmUpDwIdeal.main_arg0)
          ∧ r.2.mem ((c.tc : Thread Cert.MmUpDwIdeal.nD Cert.MmUpDwIdeal.τ).loc Cert.MmUpDwIdeal.main_arg1) = m ((c.tc : Thread Cert.MmUpDwIdeal.nD Cert.MmUpDwIdeal.τ).loc Cert.MmUpDwIdeal.main_arg1)
          ∧ r.2.mem ((c.tc : Thread Cert.MmUpDwIdeal.nD Cert.MmUpDwIdeal.τ).loc Cert.MmUpDwIdeal.main_arg2) = m ((c.tc : Thread Cert.MmUpDwIdeal.nD Cert.MmUpDwIdeal.τ).loc Cert.MmUpDwIdeal.main_arg2))
      ∧ θ_run (Cert.MmUpDwRefIdeal.defs (F := Ideal)) (onTc (τ := Cert.MmUpDwRefIdeal.τ) (Cert.MmUpDwRefIdeal.main (F := Ideal))) ⟨m', fun _ => 0, g'⟩ (fun r => ∀ c : Dev Cert.MmUpDwRefIdeal.nD,
          r.2.mem ((c.tc : Thread Cert.MmUpDwRefIdeal.nD Cert.MmUpDwRefIdeal.τ).loc Cert.MmUpDwRefIdeal.main_v9) = v0 c
          ∧ r.2.mem ((c.tc : Thread Cert.MmUpDwRefIdeal.nD Cert.MmUpDwRefIdeal.τ).loc Cert.MmUpDwRefIdeal.main_arg0) = m' ((c.tc : Thread Cert.MmUpDwRefIdeal.nD Cert.MmUpDwRefIdeal.τ).loc Cert.MmUpDwRefIdeal.main_arg0)
          ∧ r.2.mem ((c.tc : Thread Cert.MmUpDwRefIdeal.nD Cert.MmUpDwRefIdeal.τ).loc Cert.MmUpDwRefIdeal.main_arg1) = m' ((c.tc : Thread Cert.MmUpDwRefIdeal.nD Cert.MmUpDwRefIdeal.τ).loc Cert.MmUpDwRefIdeal.main_arg1)
          ∧ r.2.mem ((c.tc : Thread Cert.MmUpDwRefIdeal.nD Cert.MmUpDwRefIdeal.τ).loc Cert.MmUpDwRefIdeal.main_arg2) = m' ((c.tc : Thread Cert.MmUpDwRefIdeal.nD Cert.MmUpDwRefIdeal.τ).loc Cert.MmUpDwRefIdeal.main_arg2))

def preserves_MmDownDw_MmDownDwIdeal : Prop :=
  True

def algebraic_MmDownDwIdeal_MmDownDwRefIdeal [hMmDownDwIdeal : Cert.MmDownDwIdeal.Facts] [hMmDownDwRefIdeal : Cert.MmDownDwRefIdeal.Facts] : Prop :=
  ∀ (m : (ℓ : Loc Cert.MmDownDwIdeal.nD Cert.MmDownDwIdeal.τ Cert.MmDownDwIdeal.sig) → Buf (Elt Ideal) ℓ) (g : Dev Cert.MmDownDwIdeal.nD → PrngReg)
    (m' : (ℓ : Loc Cert.MmDownDwRefIdeal.nD Cert.MmDownDwRefIdeal.τ Cert.MmDownDwRefIdeal.sig) → Buf (Elt Ideal) ℓ) (g' : Dev Cert.MmDownDwRefIdeal.nD → PrngReg), Pre_MmDownDwIdeal m →
    (∀ c : Dev Cert.MmDownDwIdeal.nD,
      m' ((c.tc : Thread Cert.MmDownDwRefIdeal.nD Cert.MmDownDwRefIdeal.τ).loc Cert.MmDownDwRefIdeal.main_arg0) = m ((c.tc : Thread Cert.MmDownDwIdeal.nD Cert.MmDownDwIdeal.τ).loc Cert.MmDownDwIdeal.main_arg0)
      ∧ m' ((c.tc : Thread Cert.MmDownDwRefIdeal.nD Cert.MmDownDwRefIdeal.τ).loc Cert.MmDownDwRefIdeal.main_arg1) = m ((c.tc : Thread Cert.MmDownDwIdeal.nD Cert.MmDownDwIdeal.τ).loc Cert.MmDownDwIdeal.main_arg1)) →
    ∃ (v0 : (c : Dev Cert.MmDownDwIdeal.nD) → Buf (Elt Ideal) ((c.tc : Thread Cert.MmDownDwIdeal.nD Cert.MmDownDwIdeal.τ).loc Cert.MmDownDwIdeal.main_v0)),
      θ_run (Cert.MmDownDwIdeal.defs (F := Ideal)) (onTc (τ := Cert.MmDownDwIdeal.τ) (Cert.MmDownDwIdeal.main (F := Ideal))) ⟨m, fun _ => 0, g⟩ (fun r => ∀ c : Dev Cert.MmDownDwIdeal.nD,
          r.2.mem ((c.tc : Thread Cert.MmDownDwIdeal.nD Cert.MmDownDwIdeal.τ).loc Cert.MmDownDwIdeal.main_v0) = v0 c
          ∧ r.2.mem ((c.tc : Thread Cert.MmDownDwIdeal.nD Cert.MmDownDwIdeal.τ).loc Cert.MmDownDwIdeal.main_arg0) = m ((c.tc : Thread Cert.MmDownDwIdeal.nD Cert.MmDownDwIdeal.τ).loc Cert.MmDownDwIdeal.main_arg0)
          ∧ r.2.mem ((c.tc : Thread Cert.MmDownDwIdeal.nD Cert.MmDownDwIdeal.τ).loc Cert.MmDownDwIdeal.main_arg1) = m ((c.tc : Thread Cert.MmDownDwIdeal.nD Cert.MmDownDwIdeal.τ).loc Cert.MmDownDwIdeal.main_arg1))
      ∧ θ_run (Cert.MmDownDwRefIdeal.defs (F := Ideal)) (onTc (τ := Cert.MmDownDwRefIdeal.τ) (Cert.MmDownDwRefIdeal.main (F := Ideal))) ⟨m', fun _ => 0, g'⟩ (fun r => ∀ c : Dev Cert.MmDownDwRefIdeal.nD,
          r.2.mem ((c.tc : Thread Cert.MmDownDwRefIdeal.nD Cert.MmDownDwRefIdeal.τ).loc Cert.MmDownDwRefIdeal.main_v6) = v0 c
          ∧ r.2.mem ((c.tc : Thread Cert.MmDownDwRefIdeal.nD Cert.MmDownDwRefIdeal.τ).loc Cert.MmDownDwRefIdeal.main_arg0) = m' ((c.tc : Thread Cert.MmDownDwRefIdeal.nD Cert.MmDownDwRefIdeal.τ).loc Cert.MmDownDwRefIdeal.main_arg0)
          ∧ r.2.mem ((c.tc : Thread Cert.MmDownDwRefIdeal.nD Cert.MmDownDwRefIdeal.τ).loc Cert.MmDownDwRefIdeal.main_arg1) = m' ((c.tc : Thread Cert.MmDownDwRefIdeal.nD Cert.MmDownDwRefIdeal.τ).loc Cert.MmDownDwRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg3) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AdamWReduced_AdamWReducedIdeal : Prop :=
  True

def algebraic_AdamWReducedIdeal_AdamWReducedRefIdeal [hAdamWReducedIdeal : Cert.AdamWReducedIdeal.Facts] [hAdamWReducedRefIdeal : Cert.AdamWReducedRefIdeal.Facts] [hPre_chip_index : Cert.Pre_chip_index.Facts] : Prop :=
  ∀ (m : (ℓ : Loc Cert.AdamWReducedIdeal.nD Cert.AdamWReducedIdeal.τ Cert.AdamWReducedIdeal.sig) → Buf (Elt Ideal) ℓ) (g : Dev Cert.AdamWReducedIdeal.nD → PrngReg)
    (m' : (ℓ : Loc Cert.AdamWReducedRefIdeal.nD Cert.AdamWReducedRefIdeal.τ Cert.AdamWReducedRefIdeal.sig) → Buf (Elt Ideal) ℓ) (g' : Dev Cert.AdamWReducedRefIdeal.nD → PrngReg), Pre_AdamWReducedIdeal m →
    (∀ c : Dev Cert.AdamWReducedIdeal.nD,
      m' ((c.tc : Thread Cert.AdamWReducedRefIdeal.nD Cert.AdamWReducedRefIdeal.τ).loc Cert.AdamWReducedRefIdeal.main_arg0) = m ((c.tc : Thread Cert.AdamWReducedIdeal.nD Cert.AdamWReducedIdeal.τ).loc Cert.AdamWReducedIdeal.main_arg0)
      ∧ m' ((c.tc : Thread Cert.AdamWReducedRefIdeal.nD Cert.AdamWReducedRefIdeal.τ).loc Cert.AdamWReducedRefIdeal.main_arg1) = m ((c.tc : Thread Cert.AdamWReducedIdeal.nD Cert.AdamWReducedIdeal.τ).loc Cert.AdamWReducedIdeal.main_arg1)
      ∧ m' ((c.tc : Thread Cert.AdamWReducedRefIdeal.nD Cert.AdamWReducedRefIdeal.τ).loc Cert.AdamWReducedRefIdeal.main_arg2) = m ((c.tc : Thread Cert.AdamWReducedIdeal.nD Cert.AdamWReducedIdeal.τ).loc Cert.AdamWReducedIdeal.main_arg2)
      ∧ m' ((c.tc : Thread Cert.AdamWReducedRefIdeal.nD Cert.AdamWReducedRefIdeal.τ).loc Cert.AdamWReducedRefIdeal.main_arg3) = m ((c.tc : Thread Cert.AdamWReducedIdeal.nD Cert.AdamWReducedIdeal.τ).loc Cert.AdamWReducedIdeal.main_arg3)
      ∧ m' ((c.tc : Thread Cert.AdamWReducedRefIdeal.nD Cert.AdamWReducedRefIdeal.τ).loc Cert.AdamWReducedRefIdeal.main_arg4) = m ((c.tc : Thread Cert.AdamWReducedIdeal.nD Cert.AdamWReducedIdeal.τ).loc Cert.AdamWReducedIdeal.main_arg4)
      ∧ m' ((c.tc : Thread Cert.AdamWReducedRefIdeal.nD Cert.AdamWReducedRefIdeal.τ).loc Cert.AdamWReducedRefIdeal.main_arg5) = m ((c.tc : Thread Cert.AdamWReducedIdeal.nD Cert.AdamWReducedIdeal.τ).loc Cert.AdamWReducedIdeal.main_arg5)) →
    ∃ (v0 : (c : Dev Cert.AdamWReducedIdeal.nD) → Buf (Elt Ideal) ((c.tc : Thread Cert.AdamWReducedIdeal.nD Cert.AdamWReducedIdeal.τ).loc Cert.AdamWReducedIdeal.main_v0_0)) (v1 : (c : Dev Cert.AdamWReducedIdeal.nD) → Buf (Elt Ideal) ((c.tc : Thread Cert.AdamWReducedIdeal.nD Cert.AdamWReducedIdeal.τ).loc Cert.AdamWReducedIdeal.main_v0_1)) (v2 : (c : Dev Cert.AdamWReducedIdeal.nD) → Buf (Elt Ideal) ((c.tc : Thread Cert.AdamWReducedIdeal.nD Cert.AdamWReducedIdeal.τ).loc Cert.AdamWReducedIdeal.main_v0_2)) (v3 : (c : Dev Cert.AdamWReducedIdeal.nD) → Buf (Elt Ideal) ((c.tc : Thread Cert.AdamWReducedIdeal.nD Cert.AdamWReducedIdeal.τ).loc Cert.AdamWReducedIdeal.main_v0_3)),
      θ_run (Cert.AdamWReducedIdeal.defs (F := Ideal)) (onTc (τ := Cert.AdamWReducedIdeal.τ) (Cert.AdamWReducedIdeal.main (F := Ideal))) ⟨m, fun _ => 0, g⟩ (fun r => ∀ c : Dev Cert.AdamWReducedIdeal.nD,
          r.2.mem ((c.tc : Thread Cert.AdamWReducedIdeal.nD Cert.AdamWReducedIdeal.τ).loc Cert.AdamWReducedIdeal.main_v0_0) = v0 c
          ∧ r.2.mem ((c.tc : Thread Cert.AdamWReducedIdeal.nD Cert.AdamWReducedIdeal.τ).loc Cert.AdamWReducedIdeal.main_v0_1) = v1 c
          ∧ r.2.mem ((c.tc : Thread Cert.AdamWReducedIdeal.nD Cert.AdamWReducedIdeal.τ).loc Cert.AdamWReducedIdeal.main_v0_2) = v2 c
          ∧ r.2.mem ((c.tc : Thread Cert.AdamWReducedIdeal.nD Cert.AdamWReducedIdeal.τ).loc Cert.AdamWReducedIdeal.main_v0_3) = v3 c
          ∧ r.2.mem ((c.tc : Thread Cert.AdamWReducedIdeal.nD Cert.AdamWReducedIdeal.τ).loc Cert.AdamWReducedIdeal.main_arg0) = m ((c.tc : Thread Cert.AdamWReducedIdeal.nD Cert.AdamWReducedIdeal.τ).loc Cert.AdamWReducedIdeal.main_arg0)
          ∧ r.2.mem ((c.tc : Thread Cert.AdamWReducedIdeal.nD Cert.AdamWReducedIdeal.τ).loc Cert.AdamWReducedIdeal.main_arg1) = m ((c.tc : Thread Cert.AdamWReducedIdeal.nD Cert.AdamWReducedIdeal.τ).loc Cert.AdamWReducedIdeal.main_arg1)
          ∧ r.2.mem ((c.tc : Thread Cert.AdamWReducedIdeal.nD Cert.AdamWReducedIdeal.τ).loc Cert.AdamWReducedIdeal.main_arg2) = m ((c.tc : Thread Cert.AdamWReducedIdeal.nD Cert.AdamWReducedIdeal.τ).loc Cert.AdamWReducedIdeal.main_arg2)
          ∧ r.2.mem ((c.tc : Thread Cert.AdamWReducedIdeal.nD Cert.AdamWReducedIdeal.τ).loc Cert.AdamWReducedIdeal.main_arg3) = m ((c.tc : Thread Cert.AdamWReducedIdeal.nD Cert.AdamWReducedIdeal.τ).loc Cert.AdamWReducedIdeal.main_arg3)
          ∧ r.2.mem ((c.tc : Thread Cert.AdamWReducedIdeal.nD Cert.AdamWReducedIdeal.τ).loc Cert.AdamWReducedIdeal.main_arg4) = m ((c.tc : Thread Cert.AdamWReducedIdeal.nD Cert.AdamWReducedIdeal.τ).loc Cert.AdamWReducedIdeal.main_arg4)
          ∧ r.2.mem ((c.tc : Thread Cert.AdamWReducedIdeal.nD Cert.AdamWReducedIdeal.τ).loc Cert.AdamWReducedIdeal.main_arg5) = m ((c.tc : Thread Cert.AdamWReducedIdeal.nD Cert.AdamWReducedIdeal.τ).loc Cert.AdamWReducedIdeal.main_arg5))
      ∧ θ_run (Cert.AdamWReducedRefIdeal.defs (F := Ideal)) (onTc (τ := Cert.AdamWReducedRefIdeal.τ) (Cert.AdamWReducedRefIdeal.main (F := Ideal))) ⟨m', fun _ => 0, g'⟩ (fun r => ∀ c : Dev Cert.AdamWReducedRefIdeal.nD,
          r.2.mem ((c.tc : Thread Cert.AdamWReducedRefIdeal.nD Cert.AdamWReducedRefIdeal.τ).loc Cert.AdamWReducedRefIdeal.main_v20) = v0 c
          ∧ r.2.mem ((c.tc : Thread Cert.AdamWReducedRefIdeal.nD Cert.AdamWReducedRefIdeal.τ).loc Cert.AdamWReducedRefIdeal.main_v44) = v1 c
          ∧ r.2.mem ((c.tc : Thread Cert.AdamWReducedRefIdeal.nD Cert.AdamWReducedRefIdeal.τ).loc Cert.AdamWReducedRefIdeal.main_v25) = v2 c
          ∧ r.2.mem ((c.tc : Thread Cert.AdamWReducedRefIdeal.nD Cert.AdamWReducedRefIdeal.τ).loc Cert.AdamWReducedRefIdeal.main_v31) = v3 c
          ∧ r.2.mem ((c.tc : Thread Cert.AdamWReducedRefIdeal.nD Cert.AdamWReducedRefIdeal.τ).loc Cert.AdamWReducedRefIdeal.main_arg0) = m' ((c.tc : Thread Cert.AdamWReducedRefIdeal.nD Cert.AdamWReducedRefIdeal.τ).loc Cert.AdamWReducedRefIdeal.main_arg0)
          ∧ r.2.mem ((c.tc : Thread Cert.AdamWReducedRefIdeal.nD Cert.AdamWReducedRefIdeal.τ).loc Cert.AdamWReducedRefIdeal.main_arg1) = m' ((c.tc : Thread Cert.AdamWReducedRefIdeal.nD Cert.AdamWReducedRefIdeal.τ).loc Cert.AdamWReducedRefIdeal.main_arg1)
          ∧ r.2.mem ((c.tc : Thread Cert.AdamWReducedRefIdeal.nD Cert.AdamWReducedRefIdeal.τ).loc Cert.AdamWReducedRefIdeal.main_arg2) = m' ((c.tc : Thread Cert.AdamWReducedRefIdeal.nD Cert.AdamWReducedRefIdeal.τ).loc Cert.AdamWReducedRefIdeal.main_arg2)
          ∧ r.2.mem ((c.tc : Thread Cert.AdamWReducedRefIdeal.nD Cert.AdamWReducedRefIdeal.τ).loc Cert.AdamWReducedRefIdeal.main_arg3) = m' ((c.tc : Thread Cert.AdamWReducedRefIdeal.nD Cert.AdamWReducedRefIdeal.τ).loc Cert.AdamWReducedRefIdeal.main_arg3)
          ∧ r.2.mem ((c.tc : Thread Cert.AdamWReducedRefIdeal.nD Cert.AdamWReducedRefIdeal.τ).loc Cert.AdamWReducedRefIdeal.main_arg4) = m' ((c.tc : Thread Cert.AdamWReducedRefIdeal.nD Cert.AdamWReducedRefIdeal.τ).loc Cert.AdamWReducedRefIdeal.main_arg4)
          ∧ r.2.mem ((c.tc : Thread Cert.AdamWReducedRefIdeal.nD Cert.AdamWReducedRefIdeal.τ).loc Cert.AdamWReducedRefIdeal.main_arg5) = m' ((c.tc : Thread Cert.AdamWReducedRefIdeal.nD Cert.AdamWReducedRefIdeal.τ).loc Cert.AdamWReducedRefIdeal.main_arg5))

def preserves_PairSum_PairSumIdeal : Prop :=
  True

def algebraic_PairSumIdeal_PairSumRefIdeal [hPairSumIdeal : Cert.PairSumIdeal.Facts] [hPairSumRefIdeal : Cert.PairSumRefIdeal.Facts] [hPre_core_index : Cert.Pre_core_index.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v11) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def preserves_DeviceSum_DeviceSumIdeal : Prop :=
  True

def algebraic_DeviceSumIdeal_DeviceSumRefIdeal [hDeviceSumIdeal : Cert.DeviceSumIdeal.Facts] [hDeviceSumRefIdeal : Cert.DeviceSumRefIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg)
    (m' : (ℓ : Loc Cert.DeviceSumRefIdeal.nD Cert.DeviceSumRefIdeal.τ Cert.DeviceSumRefIdeal.sig) → Buf (Elt Ideal) ℓ) (g' : Dev Cert.DeviceSumRefIdeal.nD → PrngReg), Pre_DeviceSumIdeal m →
    (∀ c : Dev Cert.DeviceSumIdeal.nD,
      m' ((c.tc : Thread Cert.DeviceSumRefIdeal.nD Cert.DeviceSumRefIdeal.τ).loc Cert.DeviceSumRefIdeal.main_arg0) = m ((c.tc : Thread Cert.DeviceSumIdeal.nD Cert.DeviceSumIdeal.τ).loc Cert.DeviceSumIdeal.main_arg0)) →
    ∃ (v0 : (c : Dev Cert.DeviceSumIdeal.nD) → Buf (Elt Ideal) ((c.tc : Thread Cert.DeviceSumIdeal.nD Cert.DeviceSumIdeal.τ).loc Cert.DeviceSumIdeal.main_v0)),
      θ_run (Cert.DeviceSumIdeal.defs (F := Ideal)) (onTc (τ := Cert.DeviceSumIdeal.τ) (Cert.DeviceSumIdeal.main (F := Ideal))) ⟨m, fun _ => 0, g⟩ (fun r => ∀ c : Dev Cert.DeviceSumIdeal.nD,
          r.2.mem ((c.tc : Thread Cert.DeviceSumIdeal.nD Cert.DeviceSumIdeal.τ).loc Cert.DeviceSumIdeal.main_v0) = v0 c
          ∧ r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ θ_run (Cert.DeviceSumRefIdeal.defs (F := Ideal)) (onTc (τ := Cert.DeviceSumRefIdeal.τ) (Cert.DeviceSumRefIdeal.main (F := Ideal))) ⟨m', fun _ => 0, g'⟩ (fun r => ∀ c : Dev Cert.DeviceSumRefIdeal.nD,
          r.2.mem ((c.tc : Thread Cert.DeviceSumRefIdeal.nD Cert.DeviceSumRefIdeal.τ).loc Cert.DeviceSumRefIdeal.main_v0) = v0 c
          ∧ r.2.mem ((c.tc : Thread Cert.DeviceSumRefIdeal.nD Cert.DeviceSumRefIdeal.τ).loc Cert.DeviceSumRefIdeal.main_arg0) = m' ((c.tc : Thread Cert.DeviceSumRefIdeal.nD Cert.DeviceSumRefIdeal.τ).loc Cert.DeviceSumRefIdeal.main_arg0))

def preserves_HgrnFwd_HgrnFwdIdeal : Prop :=
  True

def preserves_HgrnBwd_HgrnBwdIdeal : Prop :=
  True

def Claim : Prop :=
  ∃ (hAttnBwd : Cert.AttnBwd.Facts) (hAttnBwdIdeal : Cert.AttnBwdIdeal.Facts) (hAttnBwdRefIdeal : Cert.AttnBwdRefIdeal.Facts) (hAdaBwd : Cert.AdaBwd.Facts) (hAdaBwdIdeal : Cert.AdaBwdIdeal.Facts) (hAdaBwdRefIdeal : Cert.AdaBwdRefIdeal.Facts) (hConvBwd : Cert.ConvBwd.Facts) (hConvBwdIdeal : Cert.ConvBwdIdeal.Facts) (hConvBwdRefIdeal : Cert.ConvBwdRefIdeal.Facts) (hLossHead : Cert.LossHead.Facts) (hLossHeadIdeal : Cert.LossHeadIdeal.Facts) (hLossHeadRefIdeal : Cert.LossHeadRefIdeal.Facts) (hQkBwd : Cert.QkBwd.Facts) (hQkBwdIdeal : Cert.QkBwdIdeal.Facts) (hQkBwdRefIdeal : Cert.QkBwdRefIdeal.Facts) (hNormBwd : Cert.NormBwd.Facts) (hNormBwdIdeal : Cert.NormBwdIdeal.Facts) (hNormBwdRefIdeal : Cert.NormBwdRefIdeal.Facts) (hNormMixBwd : Cert.NormMixBwd.Facts) (hNormMixBwdIdeal : Cert.NormMixBwdIdeal.Facts) (hNormMixBwdRefIdeal : Cert.NormMixBwdRefIdeal.Facts) (hQkFwd : Cert.QkFwd.Facts) (hQkFwdIdeal : Cert.QkFwdIdeal.Facts) (hQkFwdRefIdeal : Cert.QkFwdRefIdeal.Facts) (hConvFwd : Cert.ConvFwd.Facts) (hConvFwdIdeal : Cert.ConvFwdIdeal.Facts) (hConvFwdRefIdeal : Cert.ConvFwdRefIdeal.Facts) (hAdaFwd : Cert.AdaFwd.Facts) (hAdaFwdIdeal : Cert.AdaFwdIdeal.Facts) (hAdaFwdRefIdeal : Cert.AdaFwdRefIdeal.Facts) (hMmUp : Cert.MmUp.Facts) (hMmUpIdeal : Cert.MmUpIdeal.Facts) (hMmUpRefIdeal : Cert.MmUpRefIdeal.Facts) (hMmInDx : Cert.MmInDx.Facts) (hMmInDxIdeal : Cert.MmInDxIdeal.Facts) (hMmInDxRefIdeal : Cert.MmInDxRefIdeal.Facts) (hMmInDw : Cert.MmInDw.Facts) (hMmInDwIdeal : Cert.MmInDwIdeal.Facts) (hMmInDwRefIdeal : Cert.MmInDwRefIdeal.Facts) (hMmUpDx : Cert.MmUpDx.Facts) (hMmUpDxIdeal : Cert.MmUpDxIdeal.Facts) (hMmUpDxRefIdeal : Cert.MmUpDxRefIdeal.Facts) (hMmUpDw : Cert.MmUpDw.Facts) (hMmUpDwIdeal : Cert.MmUpDwIdeal.Facts) (hMmUpDwRefIdeal : Cert.MmUpDwRefIdeal.Facts) (hMmDownDw : Cert.MmDownDw.Facts) (hMmDownDwIdeal : Cert.MmDownDwIdeal.Facts) (hMmDownDwRefIdeal : Cert.MmDownDwRefIdeal.Facts) (hAdamW : Cert.AdamW.Facts) (hAdamWIdeal : Cert.AdamWIdeal.Facts) (hAdamWRefIdeal : Cert.AdamWRefIdeal.Facts) (hAdamWReduced : Cert.AdamWReduced.Facts) (hAdamWReducedIdeal : Cert.AdamWReducedIdeal.Facts) (hAdamWReducedRefIdeal : Cert.AdamWReducedRefIdeal.Facts) (hPairSum : Cert.PairSum.Facts) (hPairSumIdeal : Cert.PairSumIdeal.Facts) (hPairSumRefIdeal : Cert.PairSumRefIdeal.Facts) (hDeviceSum : Cert.DeviceSum.Facts) (hDeviceSumIdeal : Cert.DeviceSumIdeal.Facts) (hDeviceSumRefIdeal : Cert.DeviceSumRefIdeal.Facts) (hHgrnFwd : Cert.HgrnFwd.Facts) (hHgrnFwdIdeal : Cert.HgrnFwdIdeal.Facts) (hHgrnBwd : Cert.HgrnBwd.Facts) (hHgrnBwdIdeal : Cert.HgrnBwdIdeal.Facts) (hPre_finite : Cert.Pre_finite.Facts) (hPre_finite_conv : Cert.Pre_finite_conv.Facts) (hPre_finite_qk : Cert.Pre_finite_qk.Facts) (hPre_finite_norm1 : Cert.Pre_finite_norm1.Facts) (hPre_finite_norm2 : Cert.Pre_finite_norm2.Facts) (hPre_chip_index : Cert.Pre_chip_index.Facts) (hPre_core_index : Cert.Pre_core_index.Facts),
    quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnBwdRefIdeal (hAttnBwdRefIdeal := hAttnBwdRefIdeal)
    ∧ quiescent_AttnBwdRefIdeal_pre_finite (hAttnBwdRefIdeal := hAttnBwdRefIdeal) (hPre_finite := hPre_finite)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_QkBwd (hQkBwd := hQkBwd)
    ∧ quiescent_QkBwdIdeal (hQkBwdIdeal := hQkBwdIdeal)
    ∧ quiescent_QkBwdIdeal_pre_finite_qk (hQkBwdIdeal := hQkBwdIdeal) (hPre_finite_qk := hPre_finite_qk)
    ∧ quiescent_QkBwdRefIdeal (hQkBwdRefIdeal := hQkBwdRefIdeal)
    ∧ quiescent_QkBwdRefIdeal_pre_finite_qk (hQkBwdRefIdeal := hQkBwdRefIdeal) (hPre_finite_qk := hPre_finite_qk)
    ∧ quiescent_NormBwd (hNormBwd := hNormBwd)
    ∧ quiescent_NormBwdIdeal (hNormBwdIdeal := hNormBwdIdeal)
    ∧ quiescent_NormBwdIdeal_pre_finite_norm1 (hNormBwdIdeal := hNormBwdIdeal) (hPre_finite_norm1 := hPre_finite_norm1)
    ∧ quiescent_NormBwdRefIdeal (hNormBwdRefIdeal := hNormBwdRefIdeal)
    ∧ quiescent_NormBwdRefIdeal_pre_finite_norm1 (hNormBwdRefIdeal := hNormBwdRefIdeal) (hPre_finite_norm1 := hPre_finite_norm1)
    ∧ quiescent_NormMixBwd (hNormMixBwd := hNormMixBwd)
    ∧ quiescent_NormMixBwdIdeal (hNormMixBwdIdeal := hNormMixBwdIdeal)
    ∧ quiescent_NormMixBwdIdeal_pre_finite_norm2 (hNormMixBwdIdeal := hNormMixBwdIdeal) (hPre_finite_norm2 := hPre_finite_norm2)
    ∧ quiescent_NormMixBwdRefIdeal (hNormMixBwdRefIdeal := hNormMixBwdRefIdeal)
    ∧ quiescent_NormMixBwdRefIdeal_pre_finite_norm2 (hNormMixBwdRefIdeal := hNormMixBwdRefIdeal) (hPre_finite_norm2 := hPre_finite_norm2)
    ∧ quiescent_QkFwd (hQkFwd := hQkFwd)
    ∧ quiescent_QkFwdIdeal (hQkFwdIdeal := hQkFwdIdeal)
    ∧ quiescent_QkFwdRefIdeal (hQkFwdRefIdeal := hQkFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmInDx (hMmInDx := hMmInDx)
    ∧ quiescent_MmInDxIdeal (hMmInDxIdeal := hMmInDxIdeal)
    ∧ quiescent_MmInDxRefIdeal (hMmInDxRefIdeal := hMmInDxRefIdeal)
    ∧ quiescent_MmInDw (hMmInDw := hMmInDw)
    ∧ quiescent_MmInDwIdeal (hMmInDwIdeal := hMmInDwIdeal)
    ∧ quiescent_MmInDwRefIdeal (hMmInDwRefIdeal := hMmInDwRefIdeal)
    ∧ quiescent_MmUpDx (hMmUpDx := hMmUpDx)
    ∧ quiescent_MmUpDxIdeal (hMmUpDxIdeal := hMmUpDxIdeal)
    ∧ quiescent_MmUpDxRefIdeal (hMmUpDxRefIdeal := hMmUpDxRefIdeal)
    ∧ quiescent_MmUpDw (hMmUpDw := hMmUpDw)
    ∧ quiescent_MmUpDwIdeal (hMmUpDwIdeal := hMmUpDwIdeal)
    ∧ quiescent_MmUpDwRefIdeal (hMmUpDwRefIdeal := hMmUpDwRefIdeal)
    ∧ quiescent_MmDownDw (hMmDownDw := hMmDownDw)
    ∧ quiescent_MmDownDwIdeal (hMmDownDwIdeal := hMmDownDwIdeal)
    ∧ quiescent_MmDownDwRefIdeal (hMmDownDwRefIdeal := hMmDownDwRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdamWReduced (hAdamWReduced := hAdamWReduced) (hPre_chip_index := hPre_chip_index)
    ∧ quiescent_AdamWReducedIdeal (hAdamWReducedIdeal := hAdamWReducedIdeal) (hPre_chip_index := hPre_chip_index)
    ∧ quiescent_AdamWReducedRefIdeal (hAdamWReducedRefIdeal := hAdamWReducedRefIdeal)
    ∧ quiescent_AdamWReducedRefIdeal_pre_chip_index (hAdamWReducedRefIdeal := hAdamWReducedRefIdeal) (hPre_chip_index := hPre_chip_index)
    ∧ quiescent_PairSum (hPairSum := hPairSum) (hPre_core_index := hPre_core_index)
    ∧ quiescent_PairSumIdeal (hPairSumIdeal := hPairSumIdeal) (hPre_core_index := hPre_core_index)
    ∧ quiescent_PairSumRefIdeal (hPairSumRefIdeal := hPairSumRefIdeal)
    ∧ quiescent_PairSumRefIdeal_pre_core_index (hPairSumRefIdeal := hPairSumRefIdeal) (hPre_core_index := hPre_core_index)
    ∧ quiescent_DeviceSum (hDeviceSum := hDeviceSum)
    ∧ quiescent_DeviceSumIdeal (hDeviceSumIdeal := hDeviceSumIdeal)
    ∧ quiescent_DeviceSumRefIdeal (hDeviceSumRefIdeal := hDeviceSumRefIdeal)
    ∧ quiescent_HgrnFwd (hHgrnFwd := hHgrnFwd)
    ∧ quiescent_HgrnFwdIdeal (hHgrnFwdIdeal := hHgrnFwdIdeal)
    ∧ quiescent_HgrnBwd (hHgrnBwd := hHgrnBwd)
    ∧ quiescent_HgrnBwdIdeal (hHgrnBwdIdeal := hHgrnBwdIdeal)
    ∧ preserves_AttnBwd_AttnBwdIdeal
    ∧ algebraic_AttnBwdIdeal_AttnBwdRefIdeal_pre_finite (hAttnBwdIdeal := hAttnBwdIdeal) (hAttnBwdRefIdeal := hAttnBwdRefIdeal) (hPre_finite := hPre_finite)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_LossHead_LossHeadIdeal
    ∧ algebraic_LossHeadIdeal_LossHeadRefIdeal (hLossHeadIdeal := hLossHeadIdeal) (hLossHeadRefIdeal := hLossHeadRefIdeal)
    ∧ preserves_QkBwd_QkBwdIdeal
    ∧ algebraic_QkBwdIdeal_QkBwdRefIdeal_pre_finite_qk (hQkBwdIdeal := hQkBwdIdeal) (hQkBwdRefIdeal := hQkBwdRefIdeal) (hPre_finite_qk := hPre_finite_qk)
    ∧ preserves_NormBwd_NormBwdIdeal
    ∧ algebraic_NormBwdIdeal_NormBwdRefIdeal_pre_finite_norm1 (hNormBwdIdeal := hNormBwdIdeal) (hNormBwdRefIdeal := hNormBwdRefIdeal) (hPre_finite_norm1 := hPre_finite_norm1)
    ∧ preserves_NormMixBwd_NormMixBwdIdeal
    ∧ algebraic_NormMixBwdIdeal_NormMixBwdRefIdeal_pre_finite_norm2 (hNormMixBwdIdeal := hNormMixBwdIdeal) (hNormMixBwdRefIdeal := hNormMixBwdRefIdeal) (hPre_finite_norm2 := hPre_finite_norm2)
    ∧ preserves_QkFwd_QkFwdIdeal
    ∧ algebraic_QkFwdIdeal_QkFwdRefIdeal (hQkFwdIdeal := hQkFwdIdeal) (hQkFwdRefIdeal := hQkFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_MmUp_MmUpIdeal
    ∧ algebraic_MmUpIdeal_MmUpRefIdeal (hMmUpIdeal := hMmUpIdeal) (hMmUpRefIdeal := hMmUpRefIdeal)
    ∧ preserves_MmInDx_MmInDxIdeal
    ∧ algebraic_MmInDxIdeal_MmInDxRefIdeal (hMmInDxIdeal := hMmInDxIdeal) (hMmInDxRefIdeal := hMmInDxRefIdeal)
    ∧ preserves_MmInDw_MmInDwIdeal
    ∧ algebraic_MmInDwIdeal_MmInDwRefIdeal (hMmInDwIdeal := hMmInDwIdeal) (hMmInDwRefIdeal := hMmInDwRefIdeal)
    ∧ preserves_MmUpDx_MmUpDxIdeal
    ∧ algebraic_MmUpDxIdeal_MmUpDxRefIdeal (hMmUpDxIdeal := hMmUpDxIdeal) (hMmUpDxRefIdeal := hMmUpDxRefIdeal)
    ∧ preserves_MmUpDw_MmUpDwIdeal
    ∧ algebraic_MmUpDwIdeal_MmUpDwRefIdeal (hMmUpDwIdeal := hMmUpDwIdeal) (hMmUpDwRefIdeal := hMmUpDwRefIdeal)
    ∧ preserves_MmDownDw_MmDownDwIdeal
    ∧ algebraic_MmDownDwIdeal_MmDownDwRefIdeal (hMmDownDwIdeal := hMmDownDwIdeal) (hMmDownDwRefIdeal := hMmDownDwRefIdeal)
    ∧ preserves_AdamW_AdamWIdeal
    ∧ algebraic_AdamWIdeal_AdamWRefIdeal (hAdamWIdeal := hAdamWIdeal) (hAdamWRefIdeal := hAdamWRefIdeal)
    ∧ preserves_AdamWReduced_AdamWReducedIdeal
    ∧ algebraic_AdamWReducedIdeal_AdamWReducedRefIdeal (hAdamWReducedIdeal := hAdamWReducedIdeal) (hAdamWReducedRefIdeal := hAdamWReducedRefIdeal) (hPre_chip_index := hPre_chip_index)
    ∧ preserves_PairSum_PairSumIdeal
    ∧ algebraic_PairSumIdeal_PairSumRefIdeal (hPairSumIdeal := hPairSumIdeal) (hPairSumRefIdeal := hPairSumRefIdeal) (hPre_core_index := hPre_core_index)
    ∧ preserves_DeviceSum_DeviceSumIdeal
    ∧ algebraic_DeviceSumIdeal_DeviceSumRefIdeal (hDeviceSumIdeal := hDeviceSumIdeal) (hDeviceSumRefIdeal := hDeviceSumRefIdeal)
    ∧ preserves_HgrnFwd_HgrnFwdIdeal
    ∧ preserves_HgrnBwd_HgrnBwdIdeal
-- ==== Pre_chip_index.lean ====
abbrev S2048x1408 : Shape := ⟨2, ![2048, 1408]⟩
abbrev S4x2048x1408 : Shape := ⟨3, ![4, 2048, 1408]⟩
abbrev S3x2048x1408 : Shape := ⟨3, ![3, 2048, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x1408 .f32) (main_arg1 : FVec F S2048x1408 .f32) (main_arg2 : FVec F S2048x1408 .f32) (main_arg3 : FVec F S4x2048x1408 .bf16) (main_arg4 : FVec F S3x2048x1408 .bf16) (main_arg5 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 3#32
  let main_v2 : IVec S1 32 := broadcastInDim S1 ![] bcast_S_S1 main_c_0
  let main_v3 : IVec S1 1 := cmpi .sle main_arg5 main_v2
  (main_v1, main_v3)
-- ==== Pre_core_index.lean ====
abbrev S8x2048x1408 : Shape := ⟨3, ![8, 2048, 1408]⟩
abbrev S4x2048x1408 : Shape := ⟨3, ![4, 2048, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x2048x1408 .bf16) (main_arg1 : FVec F S4x2048x1408 .bf16) (main_arg2 : IVec S1 32) : IVec S1 1 × IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  (main_v1, main_v3)
-- ==== Pre_finite.lean ====
abbrev S2048x1024 : Shape := ⟨2, ![2048, 1024]⟩
abbrev S2048x2048 : Shape := ⟨2, ![2048, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x2048 : S_.BroadcastsInDim S2048x2048 (![] : Fin 0 → Fin S2048x2048.rank)

variable [Facts]

def fn {F : FTy → Type} [FloatOps F] (main_arg0 : FVec F S2048x1024 .bf16) (main_arg1 : FVec F S2048x1024 .bf16) (main_arg2 : FVec F S2048x1024 .bf16) (main_arg3 : FVec F S2048x2048 .f32) : IVec S2048x1024 1 × IVec S2048x1024 1 × IVec S2048x1024 1 × IVec S2048x2048 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x2048 .f32 := Host.absf main_arg3
  let main_cst_2 : FVec F S_ .f32 := constant S_ .f32 0x7F800000#32
  let main_v13 : FVec F S2048x2048 .f32 := broadcastInDim S2048x2048 ![] bcast_S_S2048x2048 main_cst_2
  let main_v14 : IVec S2048x2048 1 := cmpf .olt main_v12 main_v13
  (main_v3, main_v7, main_v11, main_v14)
-- ==== Pre_finite_conv.lean ====
abbrev S2048x11264 : Shape := ⟨2, ![2048, 11264]⟩
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩

class Facts : Prop where
  bcast_S_S2048x11264 : S_.BroadcastsInDim S2048x11264 (![] : Fin 0 → Fin S2048x11264.rank)
  bitsLt_bf16_f32 : FTy.bits .bf16 < FTy.bits .f32
  bcast_S_S2048x5632 : S_.BroadcastsInDim S2048x5632 (![] : Fin 0 → Fin S2048x5632.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S2048x11264 .f32) (main_arg1 : FVec F S2048x5632 .bf16) (main_arg2 : FVec F S3x5632 .f32) (main_arg3 : FVec F S1x5632 .f32) : IVec S2048x11264 1 × IVec S2048x5632 1 × IVec S3x5632 1 × IVec S1x5632 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_v3 : FVec F S2048x5632 .f32 := (extf .f32 · bitsLt_bf16_f32) main_arg1
  let main_v4 : FVec F S2048x5632 .f32 := Host.absf main_v3
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_v7 : FVec F S3x5632 .f32 := Host.absf main_arg2
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  let main_v10 : FVec F S1x5632 .f32 := Host.absf main_arg3
  let main_cst_2 : FVec F S_ .f32 := constant S_ .f32 0x7F800000#32
  let main_v11 : FVec F S1x5632 .f32 := broadcastInDim S1x5632 ![] bcast_S_S1x5632 main_cst_2
  let main_v12 : IVec S1x5632 1 := cmpf .olt main_v10 main_v11
  (main_v2, main_v6, main_v9, main_v12)
-- ==== Pre_finite_norm1.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S1x2048 .f32) (main_arg3 : FVec F S1x2048 .f32) (main_arg4 : FVec F S1x2048 .f32) (main_arg5 : FVec F S2048x2048 .f32) : IVec S2048x2048 1 × IVec S2048x2048 1 × IVec S1x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  (main_v2, main_v5, main_v8, main_v11)
-- ==== Pre_finite_norm2.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S1x2048 .f32) (main_arg3 : FVec F S2048x2048 .f32) (main_arg4 : FVec F S1x2048 .f32) (main_arg5 : FVec F S1x2048 .f32) (main_arg6 : FVec F S1x2048 .f32) (main_arg7 : FVec F S2048x2048 .f32) : IVec S2048x2048 1 × IVec S2048x2048 1 × IVec S1x2048 1 × IVec S2048x2048 1 × IVec S1x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  (main_v2, main_v5, main_v8, main_v11, main_v14, main_v17)
-- ==== Pre_finite_qk.lean ====
abbrev S2048x7168 : Shape := ⟨2, ![2048, 7168]⟩
abbrev S1x128 : Shape := ⟨2, ![1, 128]⟩
abbrev S2048x1024 : Shape := ⟨2, ![2048, 1024]⟩
abbrev S_ : Shape := ⟨0, ![]⟩

class Facts : Prop where
  bcast_S_S2048x7168 : S_.BroadcastsInDim S2048x7168 (![] : Fin 0 → Fin S2048x7168.rank)
  bcast_S_S1x128 : S_.BroadcastsInDim S1x128 (![] : Fin 0 → Fin S1x128.rank)
  bcast_S_S2048x1024 : S_.BroadcastsInDim S2048x1024 (![] : Fin 0 → Fin S2048x1024.rank)

variable [Facts]

def fn {F : FTy → Type} [FloatOps F] (main_arg0 : FVec F S2048x7168 .f32) (main_arg1 : FVec F S1x128 .f32) (main_arg2 : FVec F S1x128 .f32) (main_arg3 : FVec F S2048x1024 .f32) (main_arg4 : FVec F S2048x1024 .f32) (main_arg5 : FVec F S2048x1024 .f32) : IVec S2048x7168 1 × IVec S1x128 1 × IVec S1x128 1 × IVec S2048x1024 1 × IVec S2048x1024 1 :=
  let main_v0 : FVec F S2048x7168 .f32 := Host.absf main_arg0
  let main_cst : FVec F S_ .f32 := constant S_ .f32 0x7F800000#32
  let main_v1 : FVec F S2048x7168 .f32 := broadcastInDim S2048x7168 ![] bcast_S_S2048x7168 main_cst
  let main_v2 : IVec S2048x7168 1 := cmpf .olt main_v0 main_v1
  let main_v3 : FVec F S1x128 .f32 := Host.absf main_arg1
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== AttnBwd.lean ====
abbrev S2048x1024 : Shape := ⟨2, ![2048, 1024]⟩
abbrev S2048x2048 : Shape := ⟨2, ![2048, 2048]⟩
abbrev S8 : Shape := ⟨1, ![8]⟩
abbrev S8x1x128 : Shape := ⟨3, ![8, 1, 128]⟩
abbrev S4x512x512 : Shape := ⟨3, ![4, 512, 512]⟩
abbrev S_ : Shape := ⟨0, ![]⟩
abbrev S8x2048x1 : Shape := ⟨3, ![8, 2048, 1]⟩
abbrev S512x128 : Shape := ⟨2, ![512, 128]⟩
abbrev S2048x128 : Shape := ⟨2, ![2048, 128]⟩
abbrev S1x1x128 : Shape := ⟨3, ![1, 1, 128]⟩
abbrev S1x512x1 : Shape := ⟨3, ![1, 512, 1]⟩
abbrev S1x1x1 : Shape := ⟨3, ![1, 1, 1]⟩
abbrev S1x1 : Shape := ⟨2, ![1, 1]⟩
abbrev S512x1 : Shape := ⟨2, ![512, 1]⟩
abbrev S512x512 : Shape := ⟨2, ![512, 512]⟩
abbrev S1x512x512 : Shape := ⟨3, ![1, 512, 512]⟩
abbrev S512 : Shape := ⟨1, ![512]⟩

abbrev nBuf : Space → Nat
  | .hbm => 117
  | .vmem => 36
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x2048, .f32⟩
  | .hbm, ⟨4, _⟩ => ⟨S8, .f32⟩
  | .hbm, ⟨5, _⟩ => ⟨S8x1x128, .f32⟩
  | .hbm, ⟨6, _⟩ => ⟨S8, .f32⟩
  | .hbm, ⟨7, _⟩ => ⟨S8x1x128, .f32⟩
  | .hbm, ⟨8, _⟩ => ⟨S4x512x512, .i32⟩
  | .hbm, ⟨9, _⟩ => ⟨S4x512x512, .i32⟩
  | .hbm, ⟨10, _⟩ => ⟨S4x512x512, .i32⟩
  | .hbm, ⟨11, _⟩ => ⟨S_, .i32⟩
  | .hbm, ⟨12, _⟩ => ⟨S4x512x512, .i32⟩
  | .hbm, ⟨13, _⟩ => ⟨S4x512x512, .i32⟩
  | .hbm, ⟨14, _⟩ => ⟨S4x512x512, .i32⟩
  | .hbm, ⟨15, _⟩ => ⟨S4x512x512, .i32⟩
  | .hbm, ⟨16, _⟩ => ⟨S_, .i32⟩
  | .hbm, ⟨17, _⟩ => ⟨S4x512x512, .i32⟩
  | .hbm, ⟨18, _⟩ => ⟨S4x512x512, .i1⟩
  | .hbm, ⟨19, _⟩ => ⟨S4x512x512, .f32⟩
  | .hbm, ⟨20, _⟩ => ⟨S_, .i32⟩
  | .hbm, ⟨21, _⟩ => ⟨S4x512x512, .i32⟩
  | .hbm, ⟨22, _⟩ => ⟨S4x512x512, .i32⟩
  | .hbm, ⟨23, _⟩ => ⟨S_, .i32⟩
  | .hbm, ⟨24, _⟩ => ⟨S4x512x512, .i32⟩
  | .hbm, ⟨25, _⟩ => ⟨S4x512x512, .i1⟩
  | .hbm, ⟨26, _⟩ => ⟨S_, .i32⟩
  | .hbm, ⟨27, _⟩ => ⟨S4x512x512, .i32⟩
  | .hbm, ⟨28, _⟩ => ⟨S4x512x512, .i1⟩
  | .hbm, ⟨29, _⟩ => ⟨S4x512x512, .i1⟩
  | .hbm, ⟨30, _⟩ => ⟨S4x512x512, .f32⟩
  | .hbm, ⟨31, _⟩ => ⟨S4x512x512, .f32⟩
  | .hbm, ⟨32, _⟩ => ⟨S_, .i32⟩
  | .hbm, ⟨33, _⟩ => ⟨S4x512x512, .i32⟩
  | .hbm, ⟨34, _⟩ => ⟨S4x512x512, .i32⟩
  | .hbm, ⟨35, _⟩ => ⟨S_, .i32⟩
  | .hbm, ⟨36, _⟩ => ⟨S4x512x512, .i32⟩
  | .hbm, ⟨37, _⟩ => ⟨S4x512x512, .i1⟩
  | .hbm, ⟨38, _⟩ => ⟨S4x512x512, .f32⟩
  | .hbm, ⟨39, _⟩ => ⟨S4x512x512, .f32⟩
  | .hbm, ⟨40, _⟩ => ⟨S_, .i32⟩
  | .hbm, ⟨41, _⟩ => ⟨S4x512x512, .i32⟩
  | .hbm, ⟨42, _⟩ => ⟨S4x512x512, .i1⟩
  | .hbm, ⟨43, _⟩ => ⟨S_, .f32⟩
  | .hbm, ⟨44, _⟩ => ⟨S4x512x512, .f32⟩
  | .hbm, ⟨45, _⟩ => ⟨S4x512x512, .i1⟩
  | .hbm, ⟨46, _⟩ => ⟨S4x512x512, .i1⟩
  | .hbm, ⟨47, _⟩ => ⟨S4x512x512, .f32⟩
  | .hbm, ⟨48, _⟩ => ⟨S_, .f32⟩
  | .hbm, ⟨49, _⟩ => ⟨S_, .f32⟩
  | .hbm, ⟨50, _⟩ => ⟨S4x512x512, .f32⟩
  | .hbm, ⟨51, _⟩ => ⟨S4x512x512, .f32⟩
  | .hbm, ⟨52, _⟩ => ⟨S_, .f32⟩
  | .hbm, ⟨53, _⟩ => ⟨S4x512x512, .f32⟩
  | .hbm, ⟨54, _⟩ => ⟨S4x512x512, .f32⟩
  | .hbm, ⟨55, _⟩ => ⟨S4x512x512, .f32⟩
  | .hbm, ⟨56, _⟩ => ⟨S_, .f32⟩
  | .hbm, ⟨57, _⟩ => ⟨S_, .f32⟩
  | .hbm, ⟨58, _⟩ => ⟨S4x512x512, .f32⟩
  | .hbm, ⟨59, _⟩ => ⟨S4x512x512, .f32⟩
  | .hbm, ⟨60, _⟩ => ⟨S2048x1024, .f32⟩
  | .hbm, ⟨61, _⟩ => ⟨S8x2048x1, .f32⟩
  | .hbm, ⟨62, _⟩ => ⟨S4x512x512, .i32⟩
  | .hbm, ⟨63, _⟩ => ⟨S4x512x512, .i32⟩
  | .hbm, ⟨64, _⟩ => ⟨S4x512x512, .i32⟩
  | .hbm, ⟨65, _⟩ => ⟨S_, .i32⟩
  | .hbm, ⟨66, _⟩ => ⟨S4x512x512, .i32⟩
  | .hbm, ⟨67, _⟩ => ⟨S4x512x512, .i32⟩
  | .hbm, ⟨68, _⟩ => ⟨S4x512x512, .i32⟩
  | .hbm, ⟨69, _⟩ => ⟨S4x512x512, .i32⟩
  | .hbm, ⟨70, _⟩ => ⟨S_, .i32⟩
  | .hbm, ⟨71, _⟩ => ⟨S4x512x512, .i32⟩
  | .hbm, ⟨72, _⟩ => ⟨S4x512x512, .i1⟩
  | .hbm, ⟨73, _⟩ => ⟨S4x512x512, .f32⟩
  | .hbm, ⟨74, _⟩ => ⟨S_, .i32⟩
  | .hbm, ⟨75, _⟩ => ⟨S4x512x512, .i32⟩
  | .hbm, ⟨76, _⟩ => ⟨S4x512x512, .i32⟩
  | .hbm, ⟨77, _⟩ => ⟨S_, .i32⟩
  | .hbm, ⟨78, _⟩ => ⟨S4x512x512, .i32⟩
  | .hbm, ⟨79, _⟩ => ⟨S4x512x512, .i1⟩
  | .hbm, ⟨80, _⟩ => ⟨S_, .i32⟩
  | .hbm, ⟨81, _⟩ => ⟨S4x512x512, .i32⟩
  | .hbm, ⟨82, _⟩ => ⟨S4x512x512, .i1⟩
  | .hbm, ⟨83, _⟩ => ⟨S4x512x512, .i1⟩
  | .hbm, ⟨84, _⟩ => ⟨S4x512x512, .f32⟩
  | .hbm, ⟨85, _⟩ => ⟨S4x512x512, .f32⟩
  | .hbm, ⟨86, _⟩ => ⟨S_, .i32⟩
  | .hbm, ⟨87, _⟩ => ⟨S4x512x512, .i32⟩
  | .hbm, ⟨88, _⟩ => ⟨S4x512x512, .i32⟩
  | .hbm, ⟨89, _⟩ => ⟨S_, .i32⟩
  | .hbm, ⟨90, _⟩ => ⟨S4x512x512, .i32⟩
  | .hbm, ⟨91, _⟩ => ⟨S4x512x512, .i1⟩
  | .hbm, ⟨92, _⟩ => ⟨S4x512x512, .f32⟩
  | .hbm, ⟨93, _⟩ => ⟨S4x512x512, .f32⟩
  | .hbm, ⟨94, _⟩ => ⟨S_, .i32⟩
  | .hbm, ⟨95, _⟩ => ⟨S4x512x512, .i32⟩
  | .hbm, ⟨96, _⟩ => ⟨S4x512x512, .i1⟩
  | .hbm, ⟨97, _⟩ => ⟨S_, .f32⟩
  | .hbm, ⟨98, _⟩ => ⟨S4x512x512, .f32⟩
  | .hbm, ⟨99, _⟩ => ⟨S4x512x512, .i1⟩
  | .hbm, ⟨100, _⟩ => ⟨S4x512x512, .i1⟩
  | .hbm, ⟨101, _⟩ => ⟨S4x512x512, .f32⟩
  | .hbm, ⟨102, _⟩ => ⟨S_, .f32⟩
  | .hbm, ⟨103, _⟩ => ⟨S_, .f32⟩
  | .hbm, ⟨104, _⟩ => ⟨S4x512x512, .f32⟩
  | .hbm, ⟨105, _⟩ => ⟨S4x512x512, .f32⟩
  | .hbm, ⟨106, _⟩ => ⟨S_, .f32⟩
  | .hbm, ⟨107, _⟩ => ⟨S4x512x512, .f32⟩
  | .hbm, ⟨108, _⟩ => ⟨S4x512x512, .f32⟩
  | .hbm, ⟨109, _⟩ => ⟨S4x512x512, .f32⟩
  | .hbm, ⟨110, _⟩ => ⟨S_, .f32⟩
  | .hbm, ⟨111, _⟩ => ⟨S_, .f32⟩
  | .hbm, ⟨112, _⟩ => ⟨S4x512x512, .f32⟩
  | .hbm, ⟨113, _⟩ => ⟨S4x512x512, .f32⟩
  | .hbm, ⟨114, _⟩ => ⟨S2048x1024, .f32⟩
  | .hbm, ⟨115, _⟩ => ⟨S2048x1024, .f32⟩
  | .hbm, ⟨116, _⟩ => ⟨S2048x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x128, .f32⟩
  | .local _ .vmem, ⟨7, _⟩ => ⟨S1x1x128, .f32⟩
  | .local _ .vmem, ⟨8, _⟩ => ⟨S4x512x512, .f32⟩
  | .local _ .vmem, ⟨9, _⟩ => ⟨S4x512x512, .f32⟩
  | .local _ .vmem, ⟨10, _⟩ => ⟨S512x128, .f32⟩
  | .local _ .vmem, ⟨11, _⟩ => ⟨S512x128, .f32⟩
  | .local _ .vmem, ⟨12, _⟩ => ⟨S1x512x1, .f32⟩
  | .local _ .vmem, ⟨13, _⟩ => ⟨S1x512x1, .f32⟩
  | .local _ .vmem, ⟨14, _⟩ => ⟨S512x128, .bf16⟩
  | .local _ .vmem, ⟨15, _⟩ => ⟨S512x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S512x128, .f32⟩
  | .local _ .vmem, ⟨21, _⟩ => ⟨S512x128, .f32⟩
  | .local _ .vmem, ⟨22, _⟩ => ⟨S1x512x1, .f32⟩
  | .local _ .vmem, ⟨23, _⟩ => ⟨S1x512x1, .f32⟩
  | .local _ .vmem, ⟨24, _⟩ => ⟨S512x128, .f32⟩
  | .local _ .vmem, ⟨25, _⟩ => ⟨S512x128, .f32⟩
  | .local _ .vmem, ⟨26, _⟩ => ⟨S1x1x128, .f32⟩
  | .local _ .vmem, ⟨27, _⟩ => ⟨S1x1x128, .f32⟩
  | .local _ .vmem, ⟨28, _⟩ => ⟨S4x512x512, .f32⟩
  | .local _ .vmem, ⟨29, _⟩ => ⟨S4x512x512, .f32⟩
  | .local _ .vmem, ⟨30, _⟩ => ⟨S512x128, .f32⟩
  | .local _ .vmem, ⟨31, _⟩ => ⟨S512x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_call1_v0 : Ref sig .tc := ⟨.hbm, 57, rfl⟩
abbrev main_call1_v1 : Ref sig .tc := ⟨.hbm, 58, rfl⟩
abbrev main_v37 : Ref sig .tc := ⟨.hbm, 59, rfl⟩
abbrev main_v38_0 : Ref sig .tc := ⟨.hbm, 60, rfl⟩
abbrev main_v38_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_13 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_c_16 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_17 : Ref sig .tc := ⟨.hbm, 86, rfl⟩
abbrev main_v58 : Ref sig .tc := ⟨.hbm, 87, rfl⟩
abbrev main_v59 : Ref sig .tc := ⟨.hbm, 88, rfl⟩
abbrev main_c_18 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_19 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_21 : Ref sig .tc := ⟨.hbm, 102, rfl⟩
abbrev main_call2_v0 : Ref sig .tc := ⟨.hbm, 103, rfl⟩
abbrev main_call2_v1 : Ref sig .tc := ⟨.hbm, 104, rfl⟩
abbrev main_v70 : Ref sig .tc := ⟨.hbm, 105, rfl⟩
abbrev main_cst_22 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_23 : Ref sig .tc := ⟨.hbm, 110, rfl⟩
abbrev main_call3_v0 : Ref sig .tc := ⟨.hbm, 111, rfl⟩
abbrev main_call3_v1 : Ref sig .tc := ⟨.hbm, 112, rfl⟩
abbrev main_v74 : Ref sig .tc := ⟨.hbm, 113, rfl⟩
abbrev main_v75_0 : Ref sig .tc := ⟨.hbm, 114, rfl⟩
abbrev main_v75_1 : Ref sig .tc := ⟨.hbm, 115, rfl⟩
abbrev main_v75_2 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem8_0 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_12 : BitVec 32 := 0#32
  let arg1 : BitVec 32 := BitVec.ofNat 32 (i 1).val
  let c1_i32 : BitVec 32 := 1#32
  let v3 : BitVec 32 := Scalar.addi arg1 c1_i32
  let c0_i32 : BitVec 32 := 0#32
  let v5 : BitVec 1 := Scalar.cmpi .sgt v3 c0_i32
  let v6 : BitVec 32 := Scalar.extui v5
  let c0_i32_5 : BitVec 32 := 0#32
  let v7 : BitVec 1 := Scalar.cmpi .slt v3 c0_i32_5
  let v8 : BitVec 32 := Scalar.extui v7
  let v9 : BitVec 32 := Scalar.subi v6 v8
  let c1_i32_4 : BitVec 32 := 1#32
  let c0_i32_6 : BitVec 32 := 0#32
  let v10 : BitVec 1 := Scalar.cmpi .sgt c1_i32_4 c0_i32_6
  let v11 : BitVec 32 := Scalar.extui v10
  let c0_i32_7 : BitVec 32 := 0#32
  let v12 : BitVec 1 := Scalar.cmpi .slt c1_i32_4 c0_i32_7
  let v13 : BitVec 32 := Scalar.extui v12
  let v14 : BitVec 32 := Scalar.subi v11 v13
  let v15 : BitVec 1 := Scalar.cmpi .ne v9 v14
  let v16 : BitVec 32 := Scalar.remsi v3 c1_i32_4
  let c0_i32_8 : BitVec 32 := 0#32
  let v17 : BitVec 1 := Scalar.cmpi .ne v16 c0_i32_8
  let v18 : BitVec 1 := Scalar.andi v15 v17
  let v4 : BitVec 32 := Scalar.divsi v3 c1_i32_4
  let c1_i32_9 : BitVec 32 := 1#32
  let v19 : BitVec 32 := Scalar.subi v4 c1_i32_9
  let v20 : BitVec 32 := Scalar.select v18 v19 v4
  let v24 : BitVec 32 := Scalar.subi v20 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_14 : BitVec 32 := 1#32
  ⟨c0_i32_12, v28, c1_i32_14⟩
def k0_mult1 (i : grid0.Coords) (k0_t1 : Fin (k0_t1_loop i).trips) : BitVec 32 :=
  let c0_i32_12 : BitVec 32 := 0#32
  let c1_i32_14 : BitVec 32 := 1#32
  let arg10 : BitVec 32 := Scf.iv c0_i32_12 c1_i32_14 k0_t1
  let c512_i32 : BitVec 32 := 512#32
  let v39 : BitVec 32 := Scalar.muli arg10 c512_i32
  v39
def k0_off1 (i : grid0.Coords) (k0_t1 : Fin (k0_t1_loop i).trips) : Fin 2 → Nat :=
  let c0_i32_12 : BitVec 32 := 0#32
  let c1_i32_14 : BitVec 32 := 1#32
  let arg10 : BitVec 32 := Scf.iv c0_i32_12 c1_i32_14 k0_t1
  let c512_i32 : BitVec 32 := 512#32
  let v39 : BitVec 32 := Scalar.muli arg10 c512_i32
  let v40 : BitVec 32 := v39
  let v43 : Index := Scalar.indexCast v40
  let c0_22 : Index := 0#32
  ![v43.toNat, 0]
def k0_off2 (i : grid0.Coords) (k0_t1 : Fin (k0_t1_loop i).trips) : Fin 3 → Nat :=
  let arg1 : BitVec 32 := BitVec.ofNat 32 (i 1).val
  let c0_i32_12 : BitVec 32 := 0#32
  let c1_i32_14 : BitVec 32 := 1#32
  let arg10 : BitVec 32 := Scf.iv c0_i32_12 c1_i32_14 k0_t1
  let c1_i32_21 : BitVec 32 := 1#32
  let v41 : BitVec 32 := Scalar.muli arg10 c1_i32_21
  let v42 : BitVec 32 := Scalar.subi arg1 v41
  let v48 : Index := Scalar.indexCast v42
  let c0_25 : Index := 0#32
  let c0_26 : Index := 0#32
  ![v48.toNat, 0, 0]
@[reducible] def k0_t2_loop (i : grid0.Coords) : Scf.Loop 32 :=
  let c0_i32_12 : BitVec 32 := 0#32
  let arg1 : BitVec 32 := BitVec.ofNat 32 (i 1).val
  let c1_i32 : BitVec 32 := 1#32
  let v3 : BitVec 32 := Scalar.addi arg1 c1_i32
  let c0_i32 : BitVec 32 := 0#32
  let v5 : BitVec 1 := Scalar.cmpi .sgt v3 c0_i32
  let v6 : BitVec 32 := Scalar.extui v5
  let c0_i32_5 : BitVec 32 := 0#32
  let v7 : BitVec 1 := Scalar.cmpi .slt v3 c0_i32_5
  let v8 : BitVec 32 := Scalar.extui v7
  let v9 : BitVec 32 := Scalar.subi v6 v8
  let c1_i32_4 : BitVec 32 := 1#32
  let c0_i32_6 : BitVec 32 := 0#32
  let v10 : BitVec 1 := Scalar.cmpi .sgt c1_i32_4 c0_i32_6
  let v11 : BitVec 32 := Scalar.extui v10
  let c0_i32_7 : BitVec 32 := 0#32
  let v12 : BitVec 1 := Scalar.cmpi .slt c1_i32_4 c0_i32_7
  let v13 : BitVec 32 := Scalar.extui v12
  let v14 : BitVec 32 := Scalar.subi v11 v13
  let v15 : BitVec 1 := Scalar.cmpi .ne v9 v14
  let v16 : BitVec 32 := Scalar.remsi v3 c1_i32_4
  let c0_i32_8 : BitVec 32 := 0#32
  let v17 : BitVec 1 := Scalar.cmpi .ne v16 c0_i32_8
  let v18 : BitVec 1 := Scalar.andi v15 v17
  let v4 : BitVec 32 := Scalar.divsi v3 c1_i32_4
  let c1_i32_9 : BitVec 32 := 1#32
  let v19 : BitVec 32 := Scalar.subi v4 c1_i32_9
  let v20 : BitVec 32 := Scalar.select v18 v19 v4
  let v24 : BitVec 32 := Scalar.subi v20 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let v25 : BitVec 32 := Scalar.addi c0_i32_12 v24
  let c1_i32_15 : BitVec 32 := 1#32
  ⟨v28, v25, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c1_i32 : BitVec 32 := 1#32
  let v3 : BitVec 32 := Scalar.addi arg1 c1_i32
  let c0_i32 : BitVec 32 := 0#32
  let v5 : BitVec 1 := Scalar.cmpi .sgt v3 c0_i32
  let v6 : BitVec 32 := Scalar.extui v5
  let c0_i32_5 : BitVec 32 := 0#32
  let v7 : BitVec 1 := Scalar.cmpi .slt v3 c0_i32_5
  let v8 : BitVec 32 := Scalar.extui v7
  let v9 : BitVec 32 := Scalar.subi v6 v8
  let c1_i32_4 : BitVec 32 := 1#32
  let c0_i32_6 : BitVec 32 := 0#32
  let v10 : BitVec 1 := Scalar.cmpi .sgt c1_i32_4 c0_i32_6
  let v11 : BitVec 32 := Scalar.extui v10
  let c0_i32_7 : BitVec 32 := 0#32
  let v12 : BitVec 1 := Scalar.cmpi .slt c1_i32_4 c0_i32_7
  let v13 : BitVec 32 := Scalar.extui v12
  let v14 : BitVec 32 := Scalar.subi v11 v13
  let v15 : BitVec 1 := Scalar.cmpi .ne v9 v14
  let v16 : BitVec 32 := Scalar.remsi v3 c1_i32_4
  let c0_i32_8 : BitVec 32 := 0#32
  let v17 : BitVec 1 := Scalar.cmpi .ne v16 c0_i32_8
  let v18 : BitVec 1 := Scalar.andi v15 v17
  let v4 : BitVec 32 := Scalar.divsi v3 c1_i32_4
  let c1_i32_9 : BitVec 32 := 1#32
  let v19 : BitVec 32 := Scalar.subi v4 c1_i32_9
  let v20 : BitVec 32 := Scalar.select v18 v19 v4
  let v24 : BitVec 32 := Scalar.subi v20 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_15 : BitVec 32 := 1#32
  let arg10 : BitVec 32 := Scf.iv v28 c1_i32_15 k0_t2
  let c512_i32 : BitVec 32 := 512#32
  let v39 : BitVec 32 := Scalar.muli arg10 c512_i32
  v39
def k0_off3 (i : grid0.Coords) (k0_t2 : Fin (k0_t2_loop i).trips) : Fin 2 → Nat :=
  let c0_i32_12 : BitVec 32 := 0#32
  let arg1 : BitVec 32 := BitVec.ofNat 32 (i 1).val
  let c1_i32 : BitVec 32 := 1#32
  let v3 : BitVec 32 := Scalar.addi arg1 c1_i32
  let c0_i32 : BitVec 32 := 0#32
  let v5 : BitVec 1 := Scalar.cmpi .sgt v3 c0_i32
  let v6 : BitVec 32 := Scalar.extui v5
  let c0_i32_5 : BitVec 32 := 0#32
  let v7 : BitVec 1 := Scalar.cmpi .slt v3 c0_i32_5
  let v8 : BitVec 32 := Scalar.extui v7
  let v9 : BitVec 32 := Scalar.subi v6 v8
  let c1_i32_4 : BitVec 32 := 1#32
  let c0_i32_6 : BitVec 32 := 0#32
  let v10 : BitVec 1 := Scalar.cmpi .sgt c1_i32_4 c0_i32_6
  let v11 : BitVec 32 := Scalar.extui v10
  let c0_i32_7 : BitVec 32 := 0#32
  let v12 : BitVec 1 := Scalar.cmpi .slt c1_i32_4 c0_i32_7
  let v13 : BitVec 32 := Scalar.extui v12
  let v14 : BitVec 32 := Scalar.subi v11 v13
  let v15 : BitVec 1 := Scalar.cmpi .ne v9 v14
  let v16 : BitVec 32 := Scalar.remsi v3 c1_i32_4
  let c0_i32_8 : BitVec 32 := 0#32
  let v17 : BitVec 1 := Scalar.cmpi .ne v16 c0_i32_8
  let v18 : BitVec 1 := Scalar.andi v15 v17
  let v4 : BitVec 32 := Scalar.divsi v3 c1_i32_4
  let c1_i32_9 : BitVec 32 := 1#32
  let v19 : BitVec 32 := Scalar.subi v4 c1_i32_9
  let v20 : BitVec 32 := Scalar.select v18 v19 v4
  let v24 : BitVec 32 := Scalar.subi v20 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_15 : BitVec 32 := 1#32
  let arg10 : BitVec 32 := Scf.iv v28 c1_i32_15 k0_t2
  let c512_i32 : BitVec 32 := 512#32
  let v39 : BitVec 32 := Scalar.muli arg10 c512_i32
  let v40 : BitVec 32 := v39
  let v43 : Index := Scalar.indexCast v40
  let c0_22 : Index := 0#32
  ![v43.toNat, 0]
def k0_off4 (i : grid0.Coords) (k0_t2 : Fin (k0_t2_loop i).trips) : Fin 3 → Nat :=
  let arg1 : BitVec 32 := BitVec.ofNat 32 (i 1).val
  let c0_i32_12 : BitVec 32 := 0#32
  let c1_i32 : BitVec 32 := 1#32
  let v3 : BitVec 32 := Scalar.addi arg1 c1_i32
  let c0_i32 : BitVec 32 := 0#32
  let v5 : BitVec 1 := Scalar.cmpi .sgt v3 c0_i32
  let v6 : BitVec 32 := Scalar.extui v5
  let c0_i32_5 : BitVec 32 := 0#32
  let v7 : BitVec 1 := Scalar.cmpi .slt v3 c0_i32_5
  let v8 : BitVec 32 := Scalar.extui v7
  let v9 : BitVec 32 := Scalar.subi v6 v8
  let c1_i32_4 : BitVec 32 := 1#32
  let c0_i32_6 : BitVec 32 := 0#32
  let v10 : BitVec 1 := Scalar.cmpi .sgt c1_i32_4 c0_i32_6
  let v11 : BitVec 32 := Scalar.extui v10
  let c0_i32_7 : BitVec 32 := 0#32
  let v12 : BitVec 1 := Scalar.cmpi .slt c1_i32_4 c0_i32_7
  let v13 : BitVec 32 := Scalar.extui v12
  let v14 : BitVec 32 := Scalar.subi v11 v13
  let v15 : BitVec 1 := Scalar.cmpi .ne v9 v14
  let v16 : BitVec 32 := Scalar.remsi v3 c1_i32_4
  let c0_i32_8 : BitVec 32 := 0#32
  let v17 : BitVec 1 := Scalar.cmpi .ne v16 c0_i32_8
  let v18 : BitVec 1 := Scalar.andi v15 v17
  let v4 : BitVec 32 := Scalar.divsi v3 c1_i32_4
  let c1_i32_9 : BitVec 32 := 1#32
  let v19 : BitVec 32 := Scalar.subi v4 c1_i32_9
  let v20 : BitVec 32 := Scalar.select v18 v19 v4
  let v24 : BitVec 32 := Scalar.subi v20 c0_i32_12
  let c1_i32_13 : BitVec 32 := 1#32
  let v26 : BitVec 32 := Scalar.divsi v24 c1_i32_13
  let v27 : BitVec 32 := Scalar.muli v26 c1_i32_13
  let v28 : BitVec 32 := Scalar.addi c0_i32_12 v27
  let c1_i32_15 : BitVec 32 := 1#32
  let arg10 : BitVec 32 := Scf.iv v28 c1_i32_15 k0_t2
  let c1_i32_21 : BitVec 32 := 1#32
  let v41 : BitVec 32 := Scalar.muli arg10 c1_i32_21
  let v42 : BitVec 32 := Scalar.subi arg1 v41
  let v48 : Index := Scalar.indexCast v42
  let c0_25 : Index := 0#32
  let c0_26 : Index := 0#32
  ![v48.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 4], ![false, false]⟩

@[reducible] def k1_t1_loop (i : grid1.Coords) : Scf.Loop 32 :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_22 : BitVec 32 := 1#32
  ⟨c0_i32_20, v38, c1_i32_22⟩
def k1_mult1 (i : grid1.Coords) (k1_t1 : Fin (k1_t1_loop i).trips) : BitVec 32 :=
  let c0_i32_20 : BitVec 32 := 0#32
  let c1_i32_22 : BitVec 32 := 1#32
  let arg14 : BitVec 32 := Scf.iv c0_i32_20 c1_i32_22 k1_t1
  let c512_i32 : BitVec 32 := 512#32
  let v44 : BitVec 32 := Scalar.muli arg14 c512_i32
  v44
def k1_off1 (i : grid1.Coords) (k1_t1 : Fin (k1_t1_loop i).trips) : Fin 2 → Nat :=
  let c0_i32_20 : BitVec 32 := 0#32
  let c1_i32_22 : BitVec 32 := 1#32
  let arg14 : BitVec 32 := Scf.iv c0_i32_20 c1_i32_22 k1_t1
  let c512_i32 : BitVec 32 := 512#32
  let v44 : BitVec 32 := Scalar.muli arg14 c512_i32
  let v45 : BitVec 32 := v44
  let v48 : Index := Scalar.indexCast v45
  let c0_28 : Index := 0#32
  ![v48.toNat, 0]
def k1_off2 (i : grid1.Coords) (k1_t1 : Fin (k1_t1_loop i).trips) : Fin 3 → Nat :=
  let arg1 : BitVec 32 := BitVec.ofNat 32 (i 1).val
  let c0_i32_20 : BitVec 32 := 0#32
  let c1_i32_22 : BitVec 32 := 1#32
  let arg14 : BitVec 32 := Scf.iv c0_i32_20 c1_i32_22 k1_t1
  let c1_i32_27 : BitVec 32 := 1#32
  let v46 : BitVec 32 := Scalar.muli arg14 c1_i32_27
  let v47 : BitVec 32 := Scalar.subi arg1 v46
  let v53 : Index := Scalar.indexCast v47
  let c0_31 : Index := 0#32
  let c0_32 : Index := 0#32
  ![v53.toNat, 0, 0]
@[reducible] def k1_t2_loop (i : grid1.Coords) : Scf.Loop 32 :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let v35 : BitVec 32 := Scalar.addi c0_i32_20 v34
  let c1_i32_23 : BitVec 32 := 1#32
  ⟨v38, v35, c1_i32_23⟩
def k1_mult2 (i : grid1.Coords) (k1_t2 : Fin (k1_t2_loop i).trips) : BitVec 32 :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_23 : BitVec 32 := 1#32
  let arg14 : BitVec 32 := Scf.iv v38 c1_i32_23 k1_t2
  let c512_i32 : BitVec 32 := 512#32
  let v44 : BitVec 32 := Scalar.muli arg14 c512_i32
  v44
def k1_off3 (i : grid1.Coords) (k1_t2 : Fin (k1_t2_loop i).trips) : Fin 2 → Nat :=
  let c0_i32_20 : BitVec 32 := 0#32
  let arg1 : BitVec 32 := BitVec.ofNat 32 (i 1).val
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_23 : BitVec 32 := 1#32
  let arg14 : BitVec 32 := Scf.iv v38 c1_i32_23 k1_t2
  let c512_i32 : BitVec 32 := 512#32
  let v44 : BitVec 32 := Scalar.muli arg14 c512_i32
  let v45 : BitVec 32 := v44
  let v48 : Index := Scalar.indexCast v45
  let c0_28 : Index := 0#32
  ![v48.toNat, 0]
def k1_off4 (i : grid1.Coords) (k1_t2 : Fin (k1_t2_loop i).trips) : Fin 3 → Nat :=
  let arg1 : BitVec 32 := BitVec.ofNat 32 (i 1).val
  let c0_i32_20 : BitVec 32 := 0#32
  let c1_i32 : BitVec 32 := 1#32
  let v15 : BitVec 32 := Scalar.addi arg1 c1_i32
  let c0_i32_13 : BitVec 32 := 0#32
  let v17 : BitVec 1 := Scalar.cmpi .sgt v15 c0_i32_13
  let v18 : BitVec 32 := Scalar.extui v17
  let c0_i32_14 : BitVec 32 := 0#32
  let v19 : BitVec 1 := Scalar.cmpi .slt v15 c0_i32_14
  let v20 : BitVec 32 := Scalar.extui v19
  let v21 : BitVec 32 := Scalar.subi v18 v20
  let c1_i32_12 : BitVec 32 := 1#32
  let c0_i32_15 : BitVec 32 := 0#32
  let v22 : BitVec 1 := Scalar.cmpi .sgt c1_i32_12 c0_i32_15
  let v23 : BitVec 32 := Scalar.extui v22
  let c0_i32_16 : BitVec 32 := 0#32
  let v24 : BitVec 1 := Scalar.cmpi .slt c1_i32_12 c0_i32_16
  let v25 : BitVec 32 := Scalar.extui v24
  let v26 : BitVec 32 := Scalar.subi v23 v25
  let v27 : BitVec 1 := Scalar.cmpi .ne v21 v26
  let v28 : BitVec 32 := Scalar.remsi v15 c1_i32_12
  let c0_i32_17 : BitVec 32 := 0#32
  let v29 : BitVec 1 := Scalar.cmpi .ne v28 c0_i32_17
  let v30 : BitVec 1 := Scalar.andi v27 v29
  let v16 : BitVec 32 := Scalar.divsi v15 c1_i32_12
  let c1_i32_18 : BitVec 32 := 1#32
  let v31 : BitVec 32 := Scalar.subi v16 c1_i32_18
  let v32 : BitVec 32 := Scalar.select v30 v31 v16
  let v34 : BitVec 32 := Scalar.subi v32 c0_i32_20
  let c1_i32_21 : BitVec 32 := 1#32
  let v36 : BitVec 32 := Scalar.divsi v34 c1_i32_21
  let v37 : BitVec 32 := Scalar.muli v36 c1_i32_21
  let v38 : BitVec 32 := Scalar.addi c0_i32_20 v37
  let c1_i32_23 : BitVec 32 := 1#32
  let arg14 : BitVec 32 := Scf.iv v38 c1_i32_23 k1_t2
  let c1_i32_27 : BitVec 32 := 1#32
  let v46 : BitVec 32 := Scalar.muli arg14 c1_i32_27
  let v47 : BitVec 32 := Scalar.subi arg1 v46
  let v53 : Index := Scalar.indexCast v47
  let c0_31 : Index := 0#32
  let c0_32 : Index := 0#32
  ![v53.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 1 → Memref sig .tc .vmem S4x512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S4x512x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S2048x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S2048x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]
-- ==== AttnBwdRefIdeal.lean ====
abbrev S2048x1024 : Shape := ⟨2, ![2048, 1024]⟩
abbrev S2048x2048 : Shape := ⟨2, ![2048, 2048]⟩
abbrev S2048x8x128 : Shape := ⟨3, ![2048, 8, 128]⟩
abbrev S8 : Shape := ⟨1, ![8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S3 : Shape := ⟨1, ![3]⟩
abbrev S3x1x1 : Shape := ⟨3, ![3, 1, 1]⟩
abbrev S1x2048x2048 : Shape := ⟨3, ![1, 2048, 2048]⟩
abbrev S3x2048x2048 : Shape := ⟨3, ![3, 2048, 2048]⟩
abbrev S8x2048x2048 : Shape := ⟨3, ![8, 2048, 2048]⟩
abbrev S8x1x1 : Shape := ⟨3, ![8, 1, 1]⟩
abbrev S3x1x2048x2048 : Shape := ⟨4, ![3, 1, 2048, 2048]⟩
abbrev S3x8x2048x2048 : Shape := ⟨4, ![3, 8, 2048, 2048]⟩
abbrev S3x8x2048 : Shape := ⟨3, ![3, 8, 2048]⟩
abbrev S3x8x2048x1 : Shape := ⟨4, ![3, 8, 2048, 1]⟩
abbrev S8x128x3x2048 : Shape := ⟨4, ![8, 128, 3, 2048]⟩
abbrev S3x8x2048x128 : Shape := ⟨4, ![3, 8, 2048, 128]⟩
abbrev S8x2048x1 : Shape := ⟨3, ![8, 2048, 1]⟩
abbrev S1x8x2048x1 : Shape := ⟨4, ![1, 8, 2048, 1]⟩
abbrev S8x2048x128 : Shape := ⟨3, ![8, 2048, 128]⟩
abbrev S8x2048 : Shape := ⟨2, ![8, 2048]⟩
abbrev S8x3x2048x2048 : Shape := ⟨4, ![8, 3, 2048, 2048]⟩
abbrev S8x128x2048 : Shape := ⟨3, ![8, 128, 2048]⟩

abbrev nBuf : Space → Nat
  | .hbm => 213
  | .vmem => 0
  | .smem => 0
  | _ => 0

abbrev hbmTy0_0 (i : Nat) : BufTy := match i % 128 with
  | 0 => ⟨S2048x1024, .bf16⟩
  | 1 => ⟨S2048x1024, .bf16⟩
  | 2 => ⟨S2048x1024, .bf16⟩
  | 3 => ⟨S2048x2048, .f32⟩
  | 4 => ⟨S2048x1024, .f32⟩
  | 5 => ⟨S2048x1024, .f32⟩
  | 6 => ⟨S2048x1024, .f32⟩
  | 7 => ⟨S2048x8x128, .f32⟩
  | 8 => ⟨S2048x8x128, .f32⟩
  | 9 => ⟨S2048x8x128, .f32⟩
  | 10 => ⟨S8, .i32⟩
  | 11 => ⟨S_, .i32⟩
  | 12 => ⟨S8, .i32⟩
  | 13 => ⟨S8, .i32⟩
  | 14 => ⟨S8, .f32⟩
  | 15 => ⟨S_, .f32⟩
  | 16 => ⟨S8, .f32⟩
  | 17 => ⟨S8, .f32⟩
  | 18 => ⟨S2048, .i32⟩
  | 19 => ⟨S2048x1, .i32⟩
  | 20 => ⟨S2048, .i32⟩
  | 21 => ⟨S1x2048, .i32⟩
  | 22 => ⟨S2048x2048, .i32⟩
  | 23 => ⟨S2048x2048, .i32⟩
  | 24 => ⟨S2048x2048, .i32⟩
  | 25 => ⟨S3, .i32⟩
  | 26 => ⟨S_, .i32⟩
  | 27 => ⟨S3, .i32⟩
  | 28 => ⟨S3, .i32⟩
  | 29 => ⟨S_, .i32⟩
  | 30 => ⟨S3, .i32⟩
  | 31 => ⟨S3, .i32⟩
  | 32 => ⟨S3x1x1, .i32⟩
  | 33 => ⟨S_, .i32⟩
  | 34 => ⟨S2048x2048, .i32⟩
  | 35 => ⟨S2048x2048, .i1⟩
  | 36 => ⟨S_, .i32⟩
  | 37 => ⟨S3x1x1, .i32⟩
  | 38 => ⟨S3x1x1, .i32⟩
  | 39 => ⟨S1x2048x2048, .i32⟩
  | 40 => ⟨S3x2048x2048, .i32⟩
  | 41 => ⟨S3x2048x2048, .i32⟩
  | 42 => ⟨S3x2048x2048, .i1⟩
  | 43 => ⟨S1x2048x2048, .i1⟩
  | 44 => ⟨S3x2048x2048, .i1⟩
  | 45 => ⟨S3x2048x2048, .i1⟩
  | 46 => ⟨S3x2048x2048, .i32⟩
  | 47 => ⟨S3x2048x2048, .i32⟩
  | 48 => ⟨S3x2048x2048, .i32⟩
  | 49 => ⟨S_, .i32⟩
  | 50 => ⟨S3x2048x2048, .i32⟩
  | 51 => ⟨S3x2048x2048, .i1⟩
  | 52 => ⟨S3x2048x2048, .i1⟩
  | 53 => ⟨S8x2048x2048, .f32⟩
  | 54 => ⟨S_, .f32⟩
  | 55 => ⟨S8x2048x2048, .f32⟩
  | 56 => ⟨S8x2048x2048, .f32⟩
  | 57 => ⟨S8x1x1, .f32⟩
  | 58 => ⟨S2048x2048, .f32⟩
  | 59 => ⟨S1x2048x2048, .f32⟩
  | 60 => ⟨S8x2048x2048, .f32⟩
  | 61 => ⟨S8x2048x2048, .f32⟩
  | 62 => ⟨S8x2048x2048, .f32⟩
  | 63 => ⟨S8x2048x2048, .f32⟩
  | 64 => ⟨S3x1x2048x2048, .i1⟩
  | 65 => ⟨S3x8x2048x2048, .i1⟩
  | 66 => ⟨S3x8x2048x2048, .f32⟩
  | 67 => ⟨S_, .f32⟩
  | 68 => ⟨S3x8x2048x2048, .f32⟩
  | 69 => ⟨S3x8x2048x2048, .f32⟩
  | 70 => ⟨S_, .f32⟩
  | 71 => ⟨S3x8x2048x2048, .f32⟩
  | 72 => ⟨S_, .f32⟩
  | 73 => ⟨S3x8x2048, .f32⟩
  | 74 => ⟨S3x8x2048x1, .f32⟩
  | 75 => ⟨S3x8x2048x2048, .f32⟩
  | 76 => ⟨S3x8x2048x2048, .i1⟩
  | 77 => ⟨S3x8x2048x2048, .f32⟩
  | 78 => ⟨S_, .f32⟩
  | 79 => ⟨S3x8x2048, .f32⟩
  | 80 => ⟨S3x8x2048x1, .f32⟩
  | 81 => ⟨S3x8x2048x2048, .f32⟩
  | 82 => ⟨S3x8x2048x2048, .f32⟩
  | 83 => ⟨S3x8x2048x2048, .f32⟩
  | 84 => ⟨S_, .f32⟩
  | 85 => ⟨S3x8x2048, .f32⟩
  | 86 => ⟨S3x8x2048x1, .f32⟩
  | 87 => ⟨S8x128x3x2048, .f32⟩
  | 88 => ⟨S3x8x2048x128, .f32⟩
  | 89 => ⟨S3x8x2048x128, .f32⟩
  | 90 => ⟨S3x8x2048x128, .f32⟩
  | 91 => ⟨S3x8x2048x1, .f32⟩
  | 92 => ⟨S_, .f32⟩
  | 93 => ⟨S3x8x2048x1, .f32⟩
  | 94 => ⟨S3x8x2048x1, .f32⟩
  | 95 => ⟨S3x8x2048x1, .f32⟩
  | 96 => ⟨S3x8x2048x1, .f32⟩
  | 97 => ⟨S_, .f32⟩
  | 98 => ⟨S8x2048x1, .f32⟩
  | 99 => ⟨S1x8x2048x1, .f32⟩
  | 100 => ⟨S3x8x2048x1, .f32⟩
  | 101 => ⟨S3x8x2048x1, .i1⟩
  | 102 => ⟨S3x8x2048x1, .f32⟩
  | 103 => ⟨S_, .f32⟩
  | 104 => ⟨S8x2048x1, .f32⟩
  | 105 => ⟨S_, .f32⟩
  | 106 => ⟨S8x2048x1, .f32⟩
  | 107 => ⟨S8x2048x1, .f32⟩
  | 108 => ⟨S_, .f32⟩
  | 109 => ⟨S8x2048x1, .f32⟩
  | 110 => ⟨S8x2048x1, .i1⟩
  | 111 => ⟨S_, .f32⟩
  | 112 => ⟨S8x2048x1, .f32⟩
  | 113 => ⟨S8x2048x1, .i1⟩
  | 114 => ⟨S_, .f32⟩
  | 115 => ⟨S8x2048x1, .f32⟩
  | 116 => ⟨S_, .f32⟩
  | 117 => ⟨S8x2048x1, .f32⟩
  | 118 => ⟨S_, .f32⟩
  | 119 => ⟨S8x2048x1, .f32⟩
  | 120 => ⟨S8x2048x1, .f32⟩
  | 121 => ⟨S8x2048x1, .f32⟩
  | 122 => ⟨S1x8x2048x1, .f32⟩
  | 123 => ⟨S3x8x2048x1, .f32⟩
  | 124 => ⟨S3x8x2048x1, .f32⟩
  | 125 => ⟨S3x8x2048x1, .f32⟩
  | 126 => ⟨S_, .f32⟩
  | 127 => ⟨S8x2048x1, .f32⟩
  | _ => ⟨S2048x1024, .bf16⟩

abbrev hbmTy0_1 (i : Nat) : BufTy := match i % 128 with
  | 0 => ⟨S1x8x2048x1, .f32⟩
  | 1 => ⟨S3x8x2048x1, .f32⟩
  | 2 => ⟨S3x8x2048x1, .f32⟩
  | 3 => ⟨S1x8x2048x1, .f32⟩
  | 4 => ⟨S_, .f32⟩
  | 5 => ⟨S1x8x2048x1, .f32⟩
  | 6 => ⟨S1x8x2048x1, .f32⟩
  | 7 => ⟨S3x8x2048x128, .f32⟩
  | 8 => ⟨S3x8x2048x128, .f32⟩
  | 9 => ⟨S_, .f32⟩
  | 10 => ⟨S8x2048x128, .f32⟩
  | 11 => ⟨S2048x8x128, .f32⟩
  | 12 => ⟨S2048x1024, .f32⟩
  | 13 => ⟨S2048x1024, .f32⟩
  | 14 => ⟨S2048x8x128, .f32⟩
  | 15 => ⟨S8x2048x128, .f32⟩
  | 16 => ⟨S3x8x2048x128, .f32⟩
  | 17 => ⟨S3x8x2048x128, .f32⟩
  | 18 => ⟨S3x8x2048x128, .f32⟩
  | 19 => ⟨S3x8x2048x128, .f32⟩
  | 20 => ⟨S_, .f32⟩
  | 21 => ⟨S3x8x2048, .f32⟩
  | 22 => ⟨S3x8x2048x1, .f32⟩
  | 23 => ⟨S3x8x2048x1, .f32⟩
  | 24 => ⟨S3x8x2048x1, .f32⟩
  | 25 => ⟨S3x8x2048x1, .f32⟩
  | 26 => ⟨S_, .f32⟩
  | 27 => ⟨S8x2048x1, .f32⟩
  | 28 => ⟨S1x8x2048x1, .f32⟩
  | 29 => ⟨S1x8x2048x1, .f32⟩
  | 30 => ⟨S3x8x2048x1, .f32⟩
  | 31 => ⟨S3x8x2048x1, .f32⟩
  | 32 => ⟨S_, .f32⟩
  | 33 => ⟨S8x2048, .f32⟩
  | 34 => ⟨S8x2048x1, .f32⟩
  | 35 => ⟨S3x8x2048x1, .f32⟩
  | 36 => ⟨S3x8x2048x1, .f32⟩
  | 37 => ⟨S3x8x2048x1, .f32⟩
  | 38 => ⟨S3x8x2048x1, .f32⟩
  | 39 => ⟨S3x8x2048x128, .f32⟩
  | 40 => ⟨S3x8x2048x128, .f32⟩
  | 41 => ⟨S3x8x2048x128, .f32⟩
  | 42 => ⟨S_, .f32⟩
  | 43 => ⟨S3x8x2048, .f32⟩
  | 44 => ⟨S3x8x2048x1, .f32⟩
  | 45 => ⟨S3x8x2048x1, .f32⟩
  | 46 => ⟨S3x8x2048x1, .f32⟩
  | 47 => ⟨S3x8x2048x128, .f32⟩
  | 48 => ⟨S3x8x2048x128, .f32⟩
  | 49 => ⟨S8x128x3x2048, .f32⟩
  | 50 => ⟨S8x3x2048x2048, .f32⟩
  | 51 => ⟨S3x8x2048x2048, .f32⟩
  | 52 => ⟨S8x128x2048, .f32⟩
  | 53 => ⟨S2048x8x128, .f32⟩
  | 54 => ⟨S_, .f32⟩
  | 55 => ⟨S3x8x2048, .f32⟩
  | 56 => ⟨S3x8x2048x2048, .f32⟩
  | 57 => ⟨S3x8x2048x2048, .f32⟩
  | 58 => ⟨S3x8x2048x2048, .f32⟩
  | 59 => ⟨S3x8x2048x2048, .f32⟩
  | 60 => ⟨S_, .f32⟩
  | 61 => ⟨S3x8x2048, .f32⟩
  | 62 => ⟨S3x8x2048x1, .f32⟩
  | 63 => ⟨S3x8x2048x1, .f32⟩
  | 64 => ⟨S_, .f32⟩
  | 65 => ⟨S3x8x2048, .f32⟩
  | 66 => ⟨S3x8x2048, .f32⟩
  | 67 => ⟨S3x8x2048x2048, .f32⟩
  | 68 => ⟨S3x8x2048x2048, .f32⟩
  | 69 => ⟨S3x8x2048x2048, .f32⟩
  | 70 => ⟨S_, .f32⟩
  | 71 => ⟨S3x8x2048x2048, .f32⟩
  | 72 => ⟨S3x8x2048x2048, .f32⟩
  | 73 => ⟨S_, .f32⟩
  | 74 => ⟨S8x2048x2048, .f32⟩
  | 75 => ⟨S_, .f32⟩
  | 76 => ⟨S8x2048x2048, .f32⟩
  | 77 => ⟨S8x2048x2048, .f32⟩
  | 78 => ⟨S8x2048x128, .f32⟩
  | 79 => ⟨S2048x8x128, .f32⟩
  | 80 => ⟨S8x2048x128, .f32⟩
  | 81 => ⟨S2048x8x128, .f32⟩
  | 82 => ⟨S2048x1024, .f32⟩
  | 83 => ⟨S2048x1024, .f32⟩
  | 84 => ⟨S2048x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_13 : Ref sig .tc := ⟨.hbm, 103, rfl⟩
abbrev main_v84 : Ref sig .tc := ⟨.hbm, 104, rfl⟩
abbrev main_cst_14 : Ref sig .tc := ⟨.hbm, 105, rfl⟩
abbrev main_v85 : Ref sig .tc := ⟨.hbm, 106, rfl⟩
abbrev main_v86 : Ref sig .tc := ⟨.hbm, 107, rfl⟩
abbrev main_cst_15 : Ref sig .tc := ⟨.hbm, 108, rfl⟩
abbrev main_v87 : Ref sig .tc := ⟨.hbm, 109, rfl⟩
abbrev main_v88 : Ref sig .tc := ⟨.hbm, 110, rfl⟩
abbrev main_cst_16 : Ref sig .tc := ⟨.hbm, 111, rfl⟩
abbrev main_v89 : Ref sig .tc := ⟨.hbm, 112, rfl⟩
abbrev main_v90 : Ref sig .tc := ⟨.hbm, 113, rfl⟩
abbrev main_cst_17 : Ref sig .tc := ⟨.hbm, 114, rfl⟩
abbrev main_v91 : Ref sig .tc := ⟨.hbm, 115, rfl⟩
abbrev main_cst_18 : Ref sig .tc := ⟨.hbm, 116, rfl⟩
abbrev main_v92 : Ref sig .tc := ⟨.hbm, 117, rfl⟩
abbrev main_cst_19 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_20 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_21 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_22 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_23 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_24 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_25 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_cst_26 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_27 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_cst_28 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_29 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_30 : Ref sig .tc := ⟨.hbm, 198, rfl⟩
abbrev main_v162 : Ref sig .tc := ⟨.hbm, 199, rfl⟩
abbrev main_v163 : Ref sig .tc := ⟨.hbm, 200, rfl⟩
abbrev main_cst_31 : Ref sig .tc := ⟨.hbm, 201, rfl⟩
abbrev main_v164 : Ref sig .tc := ⟨.hbm, 202, rfl⟩
abbrev main_cst_32 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩

abbrev nD : Nat := 1
abbrev τ : Topo := Topo.v7x

variable {F : FTy → Type} [FloatOps F]
-- ==== AdaBwd.lean ====
abbrev S8x2048 : Shape := ⟨2, ![8, 2048]⟩
abbrev S8x1536 : Shape := ⟨2, ![8, 1536]⟩
abbrev S2048x1536 : Shape := ⟨2, ![2048, 1536]⟩
abbrev S8x512 : Shape := ⟨2, ![8, 512]⟩
abbrev S512x1536 : Shape := ⟨2, ![512, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .local _ .vmem, ⟨0, _⟩ => ⟨S8x512, .f32⟩
  | .local _ .vmem, ⟨1, _⟩ => ⟨S8x512, .f32⟩
  | .local _ .vmem, ⟨2, _⟩ => ⟨S8x1536, .f32⟩
  | .local _ .vmem, ⟨3, _⟩ => ⟨S512x1536, .f32⟩
  | .local _ .vmem, ⟨4, _⟩ => ⟨S512x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaBwdRefIdeal.lean ====
abbrev S8x2048 : Shape := ⟨2, ![8, 2048]⟩
abbrev S8x1536 : Shape := ⟨2, ![8, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S_, .f32⟩
  | .hbm, ⟨3, _⟩ => ⟨S2048x1536, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x1536, .f32⟩
  | .hbm, ⟨14, _⟩ => ⟨S1536x2048, .f32⟩
  | .hbm, ⟨15, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== ConvBwd.lean ====
abbrev S2048x11264 : Shape := ⟨2, ![2048, 11264]⟩
abbrev S2048x5632 : Shape := ⟨2, ![2048, 5632]⟩
abbrev S3x5632 : Shape := ⟨2, ![3, 5632]⟩
abbrev S1x5632 : Shape := ⟨2, ![1, 5632]⟩
abbrev S2048x512 : Shape := ⟨2, ![2048, 512]⟩
abbrev S3x512 : Shape := ⟨2, ![3, 512]⟩
abbrev S1x512 : Shape := ⟨2, ![1, 512]⟩
abbrev S512 : Shape := ⟨1, ![512]⟩

abbrev nBuf : Space → Nat
  | .hbm => 8
  | .vmem => 18
  | .smem => 0
  | _ => 0

abbrev bufTy : (tb : Table) → Fin (tcTables nBuf tb) → BufTy
  | .hbm, ⟨0, _⟩ => ⟨S2048x11264, .f32⟩
  | .hbm, ⟨1, _⟩ => ⟨S2048x5632, .bf16⟩
  | .hbm, ⟨2, _⟩ => ⟨S3x5632, .f32⟩
  | .hbm, ⟨3, _⟩ => ⟨S1x5632, .f32⟩
  | .hbm, ⟨4, _⟩ => ⟨S2048x5632, .bf16⟩
  | .hbm, ⟨5, _⟩ => ⟨S2048x5632, .bf16⟩
  | .hbm, ⟨6, _⟩ => ⟨S3x5632, .f32⟩
  | .hbm, ⟨7, _⟩ => ⟨S1x5632, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvBwdRefIdeal.lean ====
abbrev S2048x11264 : Shape := ⟨2, ![2048, 11264]⟩
abbrev S2048x5632 : Shape := ⟨2, ![2048, 5632]⟩
abbrev S3x5632 : Shape := ⟨2, ![3, 5632]⟩
abbrev S1x5632 : Shape := ⟨2, ![1, 5632]⟩
abbrev S1x2048x11264 : Shape := ⟨3, ![1, 2048, 11264]⟩
abbrev S1x3x5632 : Shape := ⟨3, ![1, 3, 5632]⟩
abbrev S1x2048x5632 : Shape := ⟨3, ![1, 2048, 5632]⟩
abbrev S5632 : Shape := ⟨1, ![5632]⟩
abbrev S_ : Shape := ⟨0, ![]⟩
abbrev S1x2x5632 : Shape := ⟨3, ![1, 2, 5632]⟩
abbrev S1x2050x5632 : Shape := ⟨3, ![1, 2050, 5632]⟩
abbrev S1x1x5632 : Shape := ⟨3, ![1, 1, 5632]⟩

abbrev nBuf : Space → Nat
  | .hbm => 120
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .bf16⟩
  | .hbm, ⟨2, _⟩ => ⟨S3x5632, .f32⟩
  | .hbm, ⟨3, _⟩ => ⟨S1x5632, .f32⟩
  | .hbm, ⟨4, _⟩ => ⟨S1x2048x11264, .f32⟩
  | .hbm, ⟨5, _⟩ => ⟨S1x3x5632, .f32⟩
  | .hbm, ⟨6, _⟩ => ⟨S1x2048x5632, .f32⟩
  | .hbm, ⟨7, _⟩ => ⟨S1x2048x5632, .f32⟩
  | .hbm, ⟨8, _⟩ => ⟨S3x5632, .f32⟩
  | .hbm, ⟨9, _⟩ => ⟨S5632, .f32⟩
  | .hbm, ⟨10, _⟩ => ⟨S_, .f32⟩
  | .hbm, ⟨11, _⟩ => ⟨S1x2x5632, .f32⟩
  | .hbm, ⟨12, _⟩ => ⟨S1x2050x5632, .f32⟩
  | .hbm, ⟨13, _⟩ => ⟨S_, .f32⟩
  | .hbm, ⟨14, _⟩ => ⟨S1x2x5632, .f32⟩
  | .hbm, ⟨15, _⟩ => ⟨S1x2048x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S1x2048x5632, .f32⟩
  | .hbm, ⟨20, _⟩ => ⟨S1x2048x5632, .f32⟩
  | .hbm, ⟨21, _⟩ => ⟨S1x1x5632, .f32⟩
  | .hbm, ⟨22, _⟩ => ⟨S1x2048x5632, .f32⟩
  | .hbm, ⟨23, _⟩ => ⟨S1x2048x5632, .f32⟩
  | .hbm, ⟨24, _⟩ => ⟨S1x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S1x2048x5632, .f32⟩
  | .hbm, ⟨29, _⟩ => ⟨S1x2048x5632, .f32⟩
  | .hbm, ⟨30, _⟩ => ⟨S1x2048x5632, .f32⟩
  | .hbm, ⟨31, _⟩ => ⟨S1x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S1x2048x5632, .f32⟩
  | .hbm, ⟨36, _⟩ => ⟨S1x2048x5632, .f32⟩
  | .hbm, ⟨37, _⟩ => ⟨S1x2048x5632, .f32⟩
  | .hbm, ⟨38, _⟩ => ⟨S1x2048x5632, .f32⟩
  | .hbm, ⟨39, _⟩ => ⟨S1x2048x5632, .f32⟩
  | .hbm, ⟨40, _⟩ => ⟨S_, .f32⟩
  | .hbm, ⟨41, _⟩ => ⟨S1x2048x5632, .f32⟩
  | .hbm, ⟨42, _⟩ => ⟨S1x2048x5632, .f32⟩
  | .hbm, ⟨43, _⟩ => ⟨S_, .f32⟩
  | .hbm, ⟨44, _⟩ => ⟨S1x2048x5632, .f32⟩
  | .hbm, ⟨45, _⟩ => ⟨S1x2048x5632, .f32⟩
  | .hbm, ⟨46, _⟩ => ⟨S_, .f32⟩
  | .hbm, ⟨47, _⟩ => ⟨S1x2048x5632, .f32⟩
  | .hbm, ⟨48, _⟩ => ⟨S1x2048x5632, .f32⟩
  | .hbm, ⟨49, _⟩ => ⟨S1x2048x5632, .f32⟩
  | .hbm, ⟨50, _⟩ => ⟨S1x2048x5632, .f32⟩
  | .hbm, ⟨51, _⟩ => ⟨S1x2048x5632, .f32⟩
  | .hbm, ⟨52, _⟩ => ⟨S1x2048x5632, .bf16⟩
  | .hbm, ⟨53, _⟩ => ⟨S1x2048x5632, .f32⟩
  | .hbm, ⟨54, _⟩ => ⟨S1x2048x5632, .f32⟩
  | .hbm, ⟨55, _⟩ => ⟨S1x2048x5632, .f32⟩
  | .hbm, ⟨56, _⟩ => ⟨S1x2048x5632, .f32⟩
  | .hbm, ⟨57, _⟩ => ⟨S1x2048x5632, .f32⟩
  | .hbm, ⟨58, _⟩ => ⟨S1x2048x5632, .f32⟩
  | .hbm, ⟨59, _⟩ => ⟨S1x2048x5632, .f32⟩
  | .hbm, ⟨60, _⟩ => ⟨S1x2048x5632, .f32⟩
  | .hbm, ⟨61, _⟩ => ⟨S_, .f32⟩
  | .hbm, ⟨62, _⟩ => ⟨S1x5632, .f32⟩
  | .hbm, ⟨63, _⟩ => ⟨S1x1x5632, .f32⟩
  | .hbm, ⟨64, _⟩ => ⟨S1x2048x5632, .f32⟩
  | .hbm, ⟨65, _⟩ => ⟨S1x2048x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S_, .f32⟩
  | .hbm, ⟨72, _⟩ => ⟨S1x2050x5632, .f32⟩
  | .hbm, ⟨73, _⟩ => ⟨S1x2048x5632, .f32⟩
  | .hbm, ⟨74, _⟩ => ⟨S_, .f32⟩
  | .hbm, ⟨75, _⟩ => ⟨S1x5632, .f32⟩
  | .hbm, ⟨76, _⟩ => ⟨S1x1x5632, .f32⟩
  | .hbm, ⟨77, _⟩ => ⟨S1x2048x5632, .f32⟩
  | .hbm, ⟨78, _⟩ => ⟨S1x2048x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S_, .f32⟩
  | .hbm, ⟨86, _⟩ => ⟨S1x2050x5632, .f32⟩
  | .hbm, ⟨87, _⟩ => ⟨S1x2050x5632, .f32⟩
  | .hbm, ⟨88, _⟩ => ⟨S_, .f32⟩
  | .hbm, ⟨89, _⟩ => ⟨S1x5632, .f32⟩
  | .hbm, ⟨90, _⟩ => ⟨S1x1x5632, .f32⟩
  | .hbm, ⟨91, _⟩ => ⟨S_, .f32⟩
  | .hbm, ⟨92, _⟩ => ⟨S5632, .f32⟩
  | .hbm, ⟨93, _⟩ => ⟨S1x2048x5632, .f32⟩
  | .hbm, ⟨94, _⟩ => ⟨S_, .f32⟩
  | .hbm, ⟨95, _⟩ => ⟨S1x5632, .f32⟩
  | .hbm, ⟨96, _⟩ => ⟨S1x1x5632, .f32⟩
  | .hbm, ⟨97, _⟩ => ⟨S1x2048x5632, .f32⟩
  | .hbm, ⟨98, _⟩ => ⟨S1x2048x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S3x5632, .f32⟩
  | .hbm, ⟨104, _⟩ => ⟨S3x5632, .f32⟩
  | .hbm, ⟨105, _⟩ => ⟨S_, .f32⟩
  | .hbm, ⟨106, _⟩ => ⟨S1x2050x5632, .f32⟩
  | .hbm, ⟨107, _⟩ => ⟨S1x2050x5632, .f32⟩
  | .hbm, ⟨108, _⟩ => ⟨S1x2x5632, .f32⟩
  | .hbm, ⟨109, _⟩ => ⟨S1x2048x5632, .f32⟩
  | .hbm, ⟨110, _⟩ => ⟨S1x5632, .f32⟩
  | .hbm, ⟨111, _⟩ => ⟨S1x3x5632, .f32⟩
  | .hbm, ⟨112, _⟩ => ⟨S1x2048x11264, .f32⟩
  | .hbm, ⟨113, _⟩ => ⟨S1x2048x5632, .f32⟩
  | .hbm, ⟨114, _⟩ => ⟨S2048x5632, .f32⟩
  | .hbm, ⟨115, _⟩ => ⟨S2048x5632, .bf16⟩
  | .hbm, ⟨116, _⟩ => ⟨S1x2048x5632, .f32⟩
  | .hbm, ⟨117, _⟩ => ⟨S2048x5632, .f32⟩
  | .hbm, ⟨118, _⟩ => ⟨S2048x5632, .bf16⟩
  | .hbm, ⟨119, _⟩ => ⟨S3x5632, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v32_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v32_1 : Ref sig .tc := ⟨.hbm, 49, rfl⟩
abbrev main_v32_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== LossHead.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x128, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x128, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S2048x2048 : Shape := ⟨2, ![2048, 2048]⟩
abbrev S1x2048 : Shape := ⟨2, ![1, 2048]⟩
abbrev S1x2048x2048 : Shape := ⟨3, ![1, 2048, 2048]⟩
abbrev S1x1x2048 : Shape := ⟨3, ![1, 1, 2048]⟩
abbrev S_ : Shape := ⟨0, ![]⟩
abbrev S2048 : Shape := ⟨1, ![2048]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x2048x2048, .f32⟩
  | .hbm, ⟨5, _⟩ => ⟨S1x1x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S2048x2048, .f32⟩
  | .hbm, ⟨37, _⟩ => ⟨S1x2048x2048, .f32⟩
  | .hbm, ⟨38, _⟩ => ⟨S1x2048x2048, .f32⟩
  | .hbm, ⟨39, _⟩ => ⟨S1x2048x2048, .f32⟩
  | .hbm, ⟨40, _⟩ => ⟨S_, .f32⟩
  | .hbm, ⟨41, _⟩ => ⟨S1x2048, .f32⟩
  | .hbm, ⟨42, _⟩ => ⟨S1x1x2048, .f32⟩
  | .hbm, ⟨43, _⟩ => ⟨S_, .f32⟩
  | .hbm, ⟨44, _⟩ => ⟨S2048x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S2048x2048, .f32⟩
  | .hbm, ⟨50, _⟩ => ⟨S1x128, .f32⟩
  | .hbm, ⟨51, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== QkBwd.lean ====
abbrev S2048x7168 : Shape := ⟨2, ![2048, 7168]⟩
abbrev S1x128 : Shape := ⟨2, ![1, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 11
  | .vmem => 20
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S1x128, .f32⟩
  | .hbm, ⟨10, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x128, .f32⟩
  | .local _ .vmem, ⟨19, _⟩ => ⟨S1x128, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkBwdRefIdeal.lean ====
abbrev S2048x7168 : Shape := ⟨2, ![2048, 7168]⟩
abbrev S1x128 : Shape := ⟨2, ![1, 128]⟩
abbrev S2048x1024 : Shape := ⟨2, ![2048, 1024]⟩
abbrev S1x2048x1024 : Shape := ⟨3, ![1, 2048, 1024]⟩
abbrev S1x2048x8x128 : Shape := ⟨4, ![1, 2048, 8, 128]⟩
abbrev S128 : Shape := ⟨1, ![128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩
abbrev S2048x8 : Shape := ⟨2, ![2048, 8]⟩

abbrev nBuf : Space → Nat
  | .hbm => 123
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1x2048x1024, .f32⟩
  | .hbm, ⟨8, _⟩ => ⟨S2048x1024, .f32⟩
  | .hbm, ⟨9, _⟩ => ⟨S1x2048x1024, .f32⟩
  | .hbm, ⟨10, _⟩ => ⟨S2048x1024, .f32⟩
  | .hbm, ⟨11, _⟩ => ⟨S1x2048x1024, .f32⟩
  | .hbm, ⟨12, _⟩ => ⟨S1x2048x8x128, .f32⟩
  | .hbm, ⟨13, _⟩ => ⟨S1x2048x8x128, .f32⟩
  | .hbm, ⟨14, _⟩ => ⟨S1x2048x8x128, .f32⟩
  | .hbm, ⟨15, _⟩ => ⟨S1x2048x8x128, .f32⟩
  | .hbm, ⟨16, _⟩ => ⟨S128, .f32⟩
  | .hbm, ⟨17, _⟩ => ⟨S1x2048x8x128, .f32⟩
  | .hbm, ⟨18, _⟩ => ⟨S_, .f32⟩
  | .hbm, ⟨19, _⟩ => ⟨S1x2048x8, .f32⟩
  | .hbm, ⟨20, _⟩ => ⟨S1x2048x8x1, .f32⟩
  | .hbm, ⟨21, _⟩ => ⟨S_, .f32⟩
  | .hbm, ⟨22, _⟩ => ⟨S1x2048x8x1, .f32⟩
  | .hbm, ⟨23, _⟩ => ⟨S1x2048x8x1, .f32⟩
  | .hbm, ⟨24, _⟩ => ⟨S_, .f32⟩
  | .hbm, ⟨25, _⟩ => ⟨S1x2048x8x1, .f32⟩
  | .hbm, ⟨26, _⟩ => ⟨S1x2048x8x1, .f32⟩
  | .hbm, ⟨27, _⟩ => ⟨S1x2048x8x1, .f32⟩
  | .hbm, ⟨28, _⟩ => ⟨S1x2048x8x1, .f32⟩
  | .hbm, ⟨29, _⟩ => ⟨S_, .f32⟩
  | .hbm, ⟨30, _⟩ => ⟨S1x2048x8x1, .f32⟩
  | .hbm, ⟨31, _⟩ => ⟨S1x2048x8x1, .f32⟩
  | .hbm, ⟨32, _⟩ => ⟨S1x2048x8x128, .f32⟩
  | .hbm, ⟨33, _⟩ => ⟨S1x2048x8x128, .f32⟩
  | .hbm, ⟨34, _⟩ => ⟨S1x1x1x128, .f32⟩
  | .hbm, ⟨35, _⟩ => ⟨S1x2048x8x128, .f32⟩
  | .hbm, ⟨36, _⟩ => ⟨S1x2048x8x128, .f32⟩
  | .hbm, ⟨37, _⟩ => ⟨S1x2048x8x128, .f32⟩
  | .hbm, ⟨38, _⟩ => ⟨S128, .f32⟩
  | .hbm, ⟨39, _⟩ => ⟨S1x2048x8x128, .f32⟩
  | .hbm, ⟨40, _⟩ => ⟨S_, .f32⟩
  | .hbm, ⟨41, _⟩ => ⟨S1x2048x8, .f32⟩
  | .hbm, ⟨42, _⟩ => ⟨S1x2048x8x1, .f32⟩
  | .hbm, ⟨43, _⟩ => ⟨S_, .f32⟩
  | .hbm, ⟨44, _⟩ => ⟨S1x2048x8x1, .f32⟩
  | .hbm, ⟨45, _⟩ => ⟨S1x2048x8x1, .f32⟩
  | .hbm, ⟨46, _⟩ => ⟨S_, .f32⟩
  | .hbm, ⟨47, _⟩ => ⟨S1x2048x8x1, .f32⟩
  | .hbm, ⟨48, _⟩ => ⟨S1x2048x8x1, .f32⟩
  | .hbm, ⟨49, _⟩ => ⟨S1x2048x8x1, .f32⟩
  | .hbm, ⟨50, _⟩ => ⟨S1x2048x8x1, .f32⟩
  | .hbm, ⟨51, _⟩ => ⟨S_, .f32⟩
  | .hbm, ⟨52, _⟩ => ⟨S1x2048x8x1, .f32⟩
  | .hbm, ⟨53, _⟩ => ⟨S1x2048x8x1, .f32⟩
  | .hbm, ⟨54, _⟩ => ⟨S1x2048x8x128, .f32⟩
  | .hbm, ⟨55, _⟩ => ⟨S1x2048x8x128, .f32⟩
  | .hbm, ⟨56, _⟩ => ⟨S1x1x1x128, .f32⟩
  | .hbm, ⟨57, _⟩ => ⟨S1x2048x8x128, .f32⟩
  | .hbm, ⟨58, _⟩ => ⟨S1x2048x8x128, .f32⟩
  | .hbm, ⟨59, _⟩ => ⟨S1x2048x8x128, .f32⟩
  | .hbm, ⟨60, _⟩ => ⟨S1x2048x1024, .f32⟩
  | .hbm, ⟨61, _⟩ => ⟨S1x2048x8x128, .f32⟩
  | .hbm, ⟨62, _⟩ => ⟨S_, .f32⟩
  | .hbm, ⟨63, _⟩ => ⟨S1x128, .f32⟩
  | .hbm, ⟨64, _⟩ => ⟨S1x1x1x128, .f32⟩
  | .hbm, ⟨65, _⟩ => ⟨S1x2048x8x128, .f32⟩
  | .hbm, ⟨66, _⟩ => ⟨S1x2048x8x128, .f32⟩
  | .hbm, ⟨67, _⟩ => ⟨S_, .f32⟩
  | .hbm, ⟨68, _⟩ => ⟨S128, .f32⟩
  | .hbm, ⟨69, _⟩ => ⟨S1x2048x8x128, .f32⟩
  | .hbm, ⟨70, _⟩ => ⟨S_, .f32⟩
  | .hbm, ⟨71, _⟩ => ⟨S1x2048x8, .f32⟩
  | .hbm, ⟨72, _⟩ => ⟨S1x2048x8x1, .f32⟩
  | .hbm, ⟨73, _⟩ => ⟨S1x2048x8x128, .f32⟩
  | .hbm, ⟨74, _⟩ => ⟨S1x2048x8x128, .f32⟩
  | .hbm, ⟨75, _⟩ => ⟨S1x2048x8x1, .f32⟩
  | .hbm, ⟨76, _⟩ => ⟨S_, .f32⟩
  | .hbm, ⟨77, _⟩ => ⟨S1x2048x8x1, .f32⟩
  | .hbm, ⟨78, _⟩ => ⟨S1x2048x8x1, .f32⟩
  | .hbm, ⟨79, _⟩ => ⟨S_, .f32⟩
  | .hbm, ⟨80, _⟩ => ⟨S2048x8, .f32⟩
  | .hbm, ⟨81, _⟩ => ⟨S1x2048x8, .f32⟩
  | .hbm, ⟨82, _⟩ => ⟨S1x2048x8x128, .f32⟩
  | .hbm, ⟨83, _⟩ => ⟨S1x2048x8x128, .f32⟩
  | .hbm, ⟨84, _⟩ => ⟨S1x2048x8x128, .f32⟩
  | .hbm, ⟨85, _⟩ => ⟨S1x2048x8x128, .f32⟩
  | .hbm, ⟨86, _⟩ => ⟨S1x2048x8x128, .f32⟩
  | .hbm, ⟨87, _⟩ => ⟨S1x128, .f32⟩
  | .hbm, ⟨88, _⟩ => ⟨S1x2048x1024, .f32⟩
  | .hbm, ⟨89, _⟩ => ⟨S1x2048x8x128, .f32⟩
  | .hbm, ⟨90, _⟩ => ⟨S_, .f32⟩
  | .hbm, ⟨91, _⟩ => ⟨S1x128, .f32⟩
  | .hbm, ⟨92, _⟩ => ⟨S1x1x1x128, .f32⟩
  | .hbm, ⟨93, _⟩ => ⟨S1x2048x8x128, .f32⟩
  | .hbm, ⟨94, _⟩ => ⟨S1x2048x8x128, .f32⟩
  | .hbm, ⟨95, _⟩ => ⟨S_, .f32⟩
  | .hbm, ⟨96, _⟩ => ⟨S128, .f32⟩
  | .hbm, ⟨97, _⟩ => ⟨S1x2048x8x128, .f32⟩
  | .hbm, ⟨98, _⟩ => ⟨S_, .f32⟩
  | .hbm, ⟨99, _⟩ => ⟨S1x2048x8, .f32⟩
  | .hbm, ⟨100, _⟩ => ⟨S1x2048x8x1, .f32⟩
  | .hbm, ⟨101, _⟩ => ⟨S1x2048x8x128, .f32⟩
  | .hbm, ⟨102, _⟩ => ⟨S1x2048x8x128, .f32⟩
  | .hbm, ⟨103, _⟩ => ⟨S1x2048x8x1, .f32⟩
  | .hbm, ⟨104, _⟩ => ⟨S_, .f32⟩
  | .hbm, ⟨105, _⟩ => ⟨S1x2048x8x1, .f32⟩
  | .hbm, ⟨106, _⟩ => ⟨S1x2048x8x1, .f32⟩
  | .hbm, ⟨107, _⟩ => ⟨S_, .f32⟩
  | .hbm, ⟨108, _⟩ => ⟨S2048x8, .f32⟩
  | .hbm, ⟨109, _⟩ => ⟨S1x2048x8, .f32⟩
  | .hbm, ⟨110, _⟩ => ⟨S1x2048x8x128, .f32⟩
  | .hbm, ⟨111, _⟩ => ⟨S1x2048x8x128, .f32⟩
  | .hbm, ⟨112, _⟩ => ⟨S1x2048x8x128, .f32⟩
  | .hbm, ⟨113, _⟩ => ⟨S1x2048x8x128, .f32⟩
  | .hbm, ⟨114, _⟩ => ⟨S1x2048x8x128, .f32⟩
  | .hbm, ⟨115, _⟩ => ⟨S1x128, .f32⟩
  | .hbm, ⟨116, _⟩ => ⟨S1x2048x1024, .f32⟩
  | .hbm, ⟨117, _⟩ => ⟨S2048x1024, .f32⟩
  | .hbm, ⟨118, _⟩ => ⟨S2048x1024, .bf16⟩
  | .hbm, ⟨119, _⟩ => ⟨S2048x1024, .f32⟩
  | .hbm, ⟨120, _⟩ => ⟨S2048x1024, .bf16⟩
  | .hbm, ⟨121, _⟩ => ⟨S2048x1024, .f32⟩
  | .hbm, ⟨122, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_13 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_cst_16 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩

abbrev nD : Nat := 1
abbrev τ : Topo := Topo.v7x

variable {F : FTy → Type} [FloatOps F]
-- ==== NormBwd.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 12
  | .vmem => 24
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S2048x1, .f32⟩
  | .hbm, ⟨8, _⟩ => ⟨S2048x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x1, .f32⟩
  | .local _ .vmem, ⟨8, _⟩ => ⟨S256x1, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x1, .f32⟩
  | .local _ .vmem, ⟨14, _⟩ => ⟨S256x1, .f32⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem8_0 : DmaSem sig := 22
abbrev cc1_sem9_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== NormBwdRefIdeal.lean ====
abbrev S2048x2048 : Shape := ⟨2, ![2048, 2048]⟩
abbrev S1x2048 : Shape := ⟨2, ![1, 2048]⟩
abbrev S1x2048x2048 : Shape := ⟨3, ![1, 2048, 2048]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S1x2048x2048, .f32⟩
  | .hbm, ⟨7, _⟩ => ⟨S2048, .f32⟩
  | .hbm, ⟨8, _⟩ => ⟨S1x2048x2048, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x2048, .f32⟩
  | .hbm, ⟨24, _⟩ => ⟨S1x2048x2048, .f32⟩
  | .hbm, ⟨25, _⟩ => ⟨S1x1x2048, .f32⟩
  | .hbm, ⟨26, _⟩ => ⟨S1x2048x2048, .f32⟩
  | .hbm, ⟨27, _⟩ => ⟨S1x2048x2048, .f32⟩
  | .hbm, ⟨28, _⟩ => ⟨S1x1x2048, .f32⟩
  | .hbm, ⟨29, _⟩ => ⟨S_, .f32⟩
  | .hbm, ⟨30, _⟩ => ⟨S1x1x2048, .f32⟩
  | .hbm, ⟨31, _⟩ => ⟨S1x1x2048, .f32⟩
  | .hbm, ⟨32, _⟩ => ⟨S1x2048x2048, .f32⟩
  | .hbm, ⟨33, _⟩ => ⟨S1x2048x2048, .f32⟩
  | .hbm, ⟨34, _⟩ => ⟨S1x1x2048, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S1x2048x2048, .f32⟩
  | .hbm, ⟨39, _⟩ => ⟨S1x2048x2048, .f32⟩
  | .hbm, ⟨40, _⟩ => ⟨S_, .f32⟩
  | .hbm, ⟨41, _⟩ => ⟨S2048x2048, .f32⟩
  | .hbm, ⟨42, _⟩ => ⟨S_, .f32⟩
  | .hbm, ⟨43, _⟩ => ⟨S1x2048, .f32⟩
  | .hbm, ⟨44, _⟩ => ⟨S1x1x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S1x2048x2048, .f32⟩
  | .hbm, ⟨49, _⟩ => ⟨S_, .f32⟩
  | .hbm, ⟨50, _⟩ => ⟨S1x2048, .f32⟩
  | .hbm, ⟨51, _⟩ => ⟨S1x1x2048, .f32⟩
  | .hbm, ⟨52, _⟩ => ⟨S1x2048x2048, .f32⟩
  | .hbm, ⟨53, _⟩ => ⟨S1x2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S1x2048x2048, .f32⟩
  | .hbm, ⟨58, _⟩ => ⟨S_, .f32⟩
  | .hbm, ⟨59, _⟩ => ⟨S1x2048, .f32⟩
  | .hbm, ⟨60, _⟩ => ⟨S1x1x2048, .f32⟩
  | .hbm, ⟨61, _⟩ => ⟨S1x2048x2048, .f32⟩
  | .hbm, ⟨62, _⟩ => ⟨S1x2048x2048, .f32⟩
  | .hbm, ⟨63, _⟩ => ⟨S_, .f32⟩
  | .hbm, ⟨64, _⟩ => ⟨S2048, .f32⟩
  | .hbm, ⟨65, _⟩ => ⟨S1x2048x2048, .f32⟩
  | .hbm, ⟨66, _⟩ => ⟨S_, .f32⟩
  | .hbm, ⟨67, _⟩ => ⟨S1x2048, .f32⟩
  | .hbm, ⟨68, _⟩ => ⟨S1x2048x1, .f32⟩
  | .hbm, ⟨69, _⟩ => ⟨S1x2048x2048, .f32⟩
  | .hbm, ⟨70, _⟩ => ⟨S1x2048x2048, .f32⟩
  | .hbm, ⟨71, _⟩ => ⟨S1x2048x1, .f32⟩
  | .hbm, ⟨72, _⟩ => ⟨S_, .f32⟩
  | .hbm, ⟨73, _⟩ => ⟨S1x2048x1, .f32⟩
  | .hbm, ⟨74, _⟩ => ⟨S1x2048x1, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S1x2048x2048, .f32⟩
  | .hbm, ⟨79, _⟩ => ⟨S1x2048x2048, .f32⟩
  | .hbm, ⟨80, _⟩ => ⟨S1x2048x2048, .f32⟩
  | .hbm, ⟨81, _⟩ => ⟨S1x2048x2048, .f32⟩
  | .hbm, ⟨82, _⟩ => ⟨S1x2048x2048, .f32⟩
  | .hbm, ⟨83, _⟩ => ⟨S1x2048, .f32⟩
  | .hbm, ⟨84, _⟩ => ⟨S_, .f32⟩
  | .hbm, ⟨85, _⟩ => ⟨S2048x2048, .f32⟩
  | .hbm, ⟨86, _⟩ => ⟨S2048x2048, .f32⟩
  | .hbm, ⟨87, _⟩ => ⟨S2048x2048, .f32⟩
  | .hbm, ⟨88, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== NormMixBwd.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 17
  | .vmem => 35
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S2048x1, .f32⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x1, .f32⟩
  | .local _ .vmem, ⟨13, _⟩ => ⟨S256x1, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x1, .f32⟩
  | .local _ .vmem, ⟨19, _⟩ => ⟨S256x1, .f32⟩
  | .local _ .vmem, ⟨20, _⟩ => ⟨S1x2048, .f32⟩
  | .local _ .vmem, ⟨21, _⟩ => ⟨S1x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S1x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .bf16⟩
  | .local _ .vmem, ⟨30, _⟩ => ⟨S256x2048, .bf16⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem11_0 : DmaSem sig := 32
abbrev cc1_sem12_0 : DmaSem sig := 33
abbrev cc1_sem13_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== NormMixBwdRefIdeal.lean ====
abbrev S2048x2048 : Shape := ⟨2, ![2048, 2048]⟩
abbrev S1x2048 : Shape := ⟨2, ![1, 2048]⟩
abbrev S1x2048x2048 : Shape := ⟨3, ![1, 2048, 2048]⟩
abbrev S1x1x2048 : Shape := ⟨3, ![1, 1, 2048]⟩
abbrev S2048 : Shape := ⟨1, ![2048]⟩
abbrev S_ : Shape := ⟨0, ![]⟩
abbrev S1x2048x1 : Shape := ⟨3, ![1, 2048, 1]⟩

abbrev nBuf : Space → Nat
  | .hbm => 106
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S1x2048x2048, .f32⟩
  | .hbm, ⟨9, _⟩ => ⟨S1x1x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S2048, .f32⟩
  | .hbm, ⟨15, _⟩ => ⟨S1x2048x2048, .f32⟩
  | .hbm, ⟨16, _⟩ => ⟨S_, .f32⟩
  | .hbm, ⟨17, _⟩ => ⟨S1x2048, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1, .f32⟩
  | .hbm, ⟨26, _⟩ => ⟨S1x2048x1, .f32⟩
  | .hbm, ⟨27, _⟩ => ⟨S_, .f32⟩
  | .hbm, ⟨28, _⟩ => ⟨S1x2048x1, .f32⟩
  | .hbm, ⟨29, _⟩ => ⟨S1x2048x1, .f32⟩
  | .hbm, ⟨30, _⟩ => ⟨S1x2048x2048, .f32⟩
  | .hbm, ⟨31, _⟩ => ⟨S1x2048x2048, .f32⟩
  | .hbm, ⟨32, _⟩ => ⟨S1x1x2048, .f32⟩
  | .hbm, ⟨33, _⟩ => ⟨S1x2048x2048, .f32⟩
  | .hbm, ⟨34, _⟩ => ⟨S1x2048x2048, .f32⟩
  | .hbm, ⟨35, _⟩ => ⟨S1x1x2048, .f32⟩
  | .hbm, ⟨36, _⟩ => ⟨S_, .f32⟩
  | .hbm, ⟨37, _⟩ => ⟨S1x1x2048, .f32⟩
  | .hbm, ⟨38, _⟩ => ⟨S1x1x2048, .f32⟩
  | .hbm, ⟨39, _⟩ => ⟨S1x2048x2048, .f32⟩
  | .hbm, ⟨40, _⟩ => ⟨S1x2048x2048, .f32⟩
  | .hbm, ⟨41, _⟩ => ⟨S1x1x2048, .f32⟩
  | .hbm, ⟨42, _⟩ => ⟨S1x2048x2048, .f32⟩
  | .hbm, ⟨43, _⟩ => ⟨S1x2048x2048, .f32⟩
  | .hbm, ⟨44, _⟩ => ⟨S1x2048x2048, .f32⟩
  | .hbm, ⟨45, _⟩ => ⟨S1x2048x2048, .f32⟩
  | .hbm, ⟨46, _⟩ => ⟨S_, .f32⟩
  | .hbm, ⟨47, _⟩ => ⟨S1x2048, .f32⟩
  | .hbm, ⟨48, _⟩ => ⟨S1x1x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S1x2048x2048, .f32⟩
  | .hbm, ⟨53, _⟩ => ⟨S_, .f32⟩
  | .hbm, ⟨54, _⟩ => ⟨S1x2048, .f32⟩
  | .hbm, ⟨55, _⟩ => ⟨S1x1x2048, .f32⟩
  | .hbm, ⟨56, _⟩ => ⟨S1x2048x2048, .f32⟩
  | .hbm, ⟨57, _⟩ => ⟨S1x2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S1x2048x2048, .f32⟩
  | .hbm, ⟨62, _⟩ => ⟨S_, .f32⟩
  | .hbm, ⟨63, _⟩ => ⟨S1x2048, .f32⟩
  | .hbm, ⟨64, _⟩ => ⟨S1x1x2048, .f32⟩
  | .hbm, ⟨65, _⟩ => ⟨S1x2048x2048, .f32⟩
  | .hbm, ⟨66, _⟩ => ⟨S1x2048x2048, .f32⟩
  | .hbm, ⟨67, _⟩ => ⟨S_, .f32⟩
  | .hbm, ⟨68, _⟩ => ⟨S2048, .f32⟩
  | .hbm, ⟨69, _⟩ => ⟨S1x2048x2048, .f32⟩
  | .hbm, ⟨70, _⟩ => ⟨S_, .f32⟩
  | .hbm, ⟨71, _⟩ => ⟨S1x2048, .f32⟩
  | .hbm, ⟨72, _⟩ => ⟨S1x2048x1, .f32⟩
  | .hbm, ⟨73, _⟩ => ⟨S1x2048x2048, .f32⟩
  | .hbm, ⟨74, _⟩ => ⟨S1x2048x2048, .f32⟩
  | .hbm, ⟨75, _⟩ => ⟨S1x2048x2048, .f32⟩
  | .hbm, ⟨76, _⟩ => ⟨S1x2048x1, .f32⟩
  | .hbm, ⟨77, _⟩ => ⟨S_, .f32⟩
  | .hbm, ⟨78, _⟩ => ⟨S1x2048x1, .f32⟩
  | .hbm, ⟨79, _⟩ => ⟨S1x2048x1, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S1x2048x2048, .f32⟩
  | .hbm, ⟨88, _⟩ => ⟨S1x2048, .f32⟩
  | .hbm, ⟨89, _⟩ => ⟨S1x2048x2048, .f32⟩
  | .hbm, ⟨90, _⟩ => ⟨S1x2048x2048, .f32⟩
  | .hbm, ⟨91, _⟩ => ⟨S1x2048x2048, .f32⟩
  | .hbm, ⟨92, _⟩ => ⟨S_, .f32⟩
  | .hbm, ⟨93, _⟩ => ⟨S1x2048, .f32⟩
  | .hbm, ⟨94, _⟩ => ⟨S1x1x2048, .f32⟩
  | .hbm, ⟨95, _⟩ => ⟨S_, .f32⟩
  | .hbm, ⟨96, _⟩ => ⟨S2048x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S_, .f32⟩
  | .hbm, ⟨101, _⟩ => ⟨S2048x2048, .f32⟩
  | .hbm, ⟨102, _⟩ => ⟨S2048x2048, .f32⟩
  | .hbm, ⟨103, _⟩ => ⟨S2048x2048, .f32⟩
  | .hbm, ⟨104, _⟩ => ⟨S2048x2048, .bf16⟩
  | .hbm, ⟨105, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== QkFwd.lean ====
abbrev S2048x7168 : Shape := ⟨2, ![2048, 7168]⟩
abbrev S1x128 : Shape := ⟨2, ![1, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .bf16⟩
  | .hbm, ⟨4, _⟩ => ⟨S2048x1024, .bf16⟩
  | .hbm, ⟨5, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c40_i32 : BitVec 32 := 40#32
  let v0 : BitVec 32 := Scalar.addi arg0 c40_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c48_i32 : BitVec 32 := 48#32
  let v0 : BitVec 32 := Scalar.addi arg0 c48_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkFwdRefIdeal.lean ====
abbrev S2048x7168 : Shape := ⟨2, ![2048, 7168]⟩
abbrev S1x128 : Shape := ⟨2, ![1, 128]⟩
abbrev S2048x1024 : Shape := ⟨2, ![2048, 1024]⟩
abbrev S1x2048x1024 : Shape := ⟨3, ![1, 2048, 1024]⟩
abbrev S1x2048x8x128 : Shape := ⟨4, ![1, 2048, 8, 128]⟩
abbrev S128 : Shape := ⟨1, ![128]⟩
abbrev S_ : Shape := ⟨0, ![]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S1x128, .f32⟩
  | .hbm, ⟨2, _⟩ => ⟨S1x128, .f32⟩
  | .hbm, ⟨3, _⟩ => ⟨S2048x1024, .f32⟩
  | .hbm, ⟨4, _⟩ => ⟨S1x2048x1024, .f32⟩
  | .hbm, ⟨5, _⟩ => ⟨S2048x1024, .f32⟩
  | .hbm, ⟨6, _⟩ => ⟨S1x2048x1024, .f32⟩
  | .hbm, ⟨7, _⟩ => ⟨S2048x1024, .f32⟩
  | .hbm, ⟨8, _⟩ => ⟨S1x2048x1024, .f32⟩
  | .hbm, ⟨9, _⟩ => ⟨S1x2048x8x128, .f32⟩
  | .hbm, ⟨10, _⟩ => ⟨S128, .f32⟩
  | .hbm, ⟨11, _⟩ => ⟨S1x2048x8x128, .f32⟩
  | .hbm, ⟨12, _⟩ => ⟨S_, .f32⟩
  | .hbm, ⟨13, _⟩ => ⟨S1x2048x8, .f32⟩
  | .hbm, ⟨14, _⟩ => ⟨S1x2048x8x1, .f32⟩
  | .hbm, ⟨15, _⟩ => ⟨S_, .f32⟩
  | .hbm, ⟨16, _⟩ => ⟨S1x2048x8x1, .f32⟩
  | .hbm, ⟨17, _⟩ => ⟨S1x2048x8x1, .f32⟩
  | .hbm, ⟨18, _⟩ => ⟨S_, .f32⟩
  | .hbm, ⟨19, _⟩ => ⟨S1x2048x8x1, .f32⟩
  | .hbm, ⟨20, _⟩ => ⟨S1x2048x8x1, .f32⟩
  | .hbm, ⟨21, _⟩ => ⟨S1x2048x8x1, .f32⟩
  | .hbm, ⟨22, _⟩ => ⟨S1x2048x8x128, .f32⟩
  | .hbm, ⟨23, _⟩ => ⟨S1x2048x8x128, .f32⟩
  | .hbm, ⟨24, _⟩ => ⟨S1x1x1x128, .f32⟩
  | .hbm, ⟨25, _⟩ => ⟨S1x2048x8x128, .f32⟩
  | .hbm, ⟨26, _⟩ => ⟨S1x2048x8x128, .f32⟩
  | .hbm, ⟨27, _⟩ => ⟨S1x2048x8x128, .f32⟩
  | .hbm, ⟨28, _⟩ => ⟨S128, .f32⟩
  | .hbm, ⟨29, _⟩ => ⟨S1x2048x8x128, .f32⟩
  | .hbm, ⟨30, _⟩ => ⟨S_, .f32⟩
  | .hbm, ⟨31, _⟩ => ⟨S1x2048x8, .f32⟩
  | .hbm, ⟨32, _⟩ => ⟨S1x2048x8x1, .f32⟩
  | .hbm, ⟨33, _⟩ => ⟨S_, .f32⟩
  | .hbm, ⟨34, _⟩ => ⟨S1x2048x8x1, .f32⟩
  | .hbm, ⟨35, _⟩ => ⟨S1x2048x8x1, .f32⟩
  | .hbm, ⟨36, _⟩ => ⟨S_, .f32⟩
  | .hbm, ⟨37, _⟩ => ⟨S1x2048x8x1, .f32⟩
  | .hbm, ⟨38, _⟩ => ⟨S1x2048x8x1, .f32⟩
  | .hbm, ⟨39, _⟩ => ⟨S1x2048x8x1, .f32⟩
  | .hbm, ⟨40, _⟩ => ⟨S1x2048x8x128, .f32⟩
  | .hbm, ⟨41, _⟩ => ⟨S1x2048x8x128, .f32⟩
  | .hbm, ⟨42, _⟩ => ⟨S1x1x1x128, .f32⟩
  | .hbm, ⟨43, _⟩ => ⟨S1x2048x8x128, .f32⟩
  | .hbm, ⟨44, _⟩ => ⟨S1x2048x8x128, .f32⟩
  | .hbm, ⟨45, _⟩ => ⟨S1x2048x8x128, .f32⟩
  | .hbm, ⟨46, _⟩ => ⟨S2048x1024, .f32⟩
  | .hbm, ⟨47, _⟩ => ⟨S2048x1024, .bf16⟩
  | .hbm, ⟨48, _⟩ => ⟨S2048x1024, .f32⟩
  | .hbm, ⟨49, _⟩ => ⟨S2048x1024, .bf16⟩
  | .hbm, ⟨50, _⟩ => ⟨S2048x1024, .f32⟩
  | .hbm, ⟨51, _⟩ => ⟨S2048x1024, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== ConvFwd.lean ====
abbrev S2048x11264 : Shape := ⟨2, ![2048, 11264]⟩
abbrev S3x5632 : Shape := ⟨2, ![3, 5632]⟩
abbrev S1x5632 : Shape := ⟨2, ![1, 5632]⟩
abbrev S2048x5632 : Shape := ⟨2, ![2048, 5632]⟩
abbrev S2048x512 : Shape := ⟨2, ![2048, 512]⟩
abbrev S3x512 : Shape := ⟨2, ![3, 512]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S2048x11264, .f32⟩
  | .hbm, ⟨1, _⟩ => ⟨S3x5632, .f32⟩
  | .hbm, ⟨2, _⟩ => ⟨S1x5632, .f32⟩
  | .hbm, ⟨3, _⟩ => ⟨S2048x5632, .bf16⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdRefIdeal.lean ====
abbrev S2048x11264 : Shape := ⟨2, ![2048, 11264]⟩
abbrev S3x5632 : Shape := ⟨2, ![3, 5632]⟩
abbrev S1x5632 : Shape := ⟨2, ![1, 5632]⟩
abbrev S1x2048x11264 : Shape := ⟨3, ![1, 2048, 11264]⟩
abbrev S1x3x5632 : Shape := ⟨3, ![1, 3, 5632]⟩
abbrev S1x2048x5632 : Shape := ⟨3, ![1, 2048, 5632]⟩
abbrev S5632 : Shape := ⟨1, ![5632]⟩
abbrev S_ : Shape := ⟨0, ![]⟩
abbrev S1x2x5632 : Shape := ⟨3, ![1, 2, 5632]⟩
abbrev S1x2050x5632 : Shape := ⟨3, ![1, 2050, 5632]⟩
abbrev S1x1x5632 : Shape := ⟨3, ![1, 1, 5632]⟩
abbrev S2048x5632 : Shape := ⟨2, ![2048, 5632]⟩

abbrev nBuf : Space → Nat
  | .hbm => 47
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x5632, .f32⟩
  | .hbm, ⟨2, _⟩ => ⟨S1x5632, .f32⟩
  | .hbm, ⟨3, _⟩ => ⟨S1x2048x11264, .f32⟩
  | .hbm, ⟨4, _⟩ => ⟨S1x3x5632, .f32⟩
  | .hbm, ⟨5, _⟩ => ⟨S1x2048x5632, .f32⟩
  | .hbm, ⟨6, _⟩ => ⟨S1x2048x5632, .f32⟩
  | .hbm, ⟨7, _⟩ => ⟨S3x5632, .f32⟩
  | .hbm, ⟨8, _⟩ => ⟨S5632, .f32⟩
  | .hbm, ⟨9, _⟩ => ⟨S_, .f32⟩
  | .hbm, ⟨10, _⟩ => ⟨S1x2x5632, .f32⟩
  | .hbm, ⟨11, _⟩ => ⟨S1x2050x5632, .f32⟩
  | .hbm, ⟨12, _⟩ => ⟨S1x2048x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S1x2048x5632, .f32⟩
  | .hbm, ⟨17, _⟩ => ⟨S1x2048x5632, .f32⟩
  | .hbm, ⟨18, _⟩ => ⟨S1x1x5632, .f32⟩
  | .hbm, ⟨19, _⟩ => ⟨S1x2048x5632, .f32⟩
  | .hbm, ⟨20, _⟩ => ⟨S1x2048x5632, .f32⟩
  | .hbm, ⟨21, _⟩ => ⟨S1x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S1x2048x5632, .f32⟩
  | .hbm, ⟨26, _⟩ => ⟨S1x2048x5632, .f32⟩
  | .hbm, ⟨27, _⟩ => ⟨S1x2048x5632, .f32⟩
  | .hbm, ⟨28, _⟩ => ⟨S1x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S1x2048x5632, .f32⟩
  | .hbm, ⟨33, _⟩ => ⟨S1x2048x5632, .f32⟩
  | .hbm, ⟨34, _⟩ => ⟨S1x2048x5632, .f32⟩
  | .hbm, ⟨35, _⟩ => ⟨S1x2048x5632, .f32⟩
  | .hbm, ⟨36, _⟩ => ⟨S1x2048x5632, .f32⟩
  | .hbm, ⟨37, _⟩ => ⟨S_, .f32⟩
  | .hbm, ⟨38, _⟩ => ⟨S1x2048x5632, .f32⟩
  | .hbm, ⟨39, _⟩ => ⟨S1x2048x5632, .f32⟩
  | .hbm, ⟨40, _⟩ => ⟨S_, .f32⟩
  | .hbm, ⟨41, _⟩ => ⟨S1x2048x5632, .f32⟩
  | .hbm, ⟨42, _⟩ => ⟨S1x2048x5632, .f32⟩
  | .hbm, ⟨43, _⟩ => ⟨S1x2048x5632, .f32⟩
  | .hbm, ⟨44, _⟩ => ⟨S1x2048x5632, .f32⟩
  | .hbm, ⟨45, _⟩ => ⟨S2048x5632, .f32⟩
  | .hbm, ⟨46, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== AdaFwd.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩
abbrev S1536 : Shape := ⟨1, ![1536]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S1536, .f32⟩
  | .hbm, ⟨14, _⟩ => ⟨S1x1536, .f32⟩
  | .hbm, ⟨15, _⟩ => ⟨S8x1536, .f32⟩
  | .hbm, ⟨16, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== MmUp.lean ====
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpRefIdeal.lean ====
abbrev S2048x2048 : Shape := ⟨2, ![2048, 2048]⟩
abbrev S2048x11264 : Shape := ⟨2, ![2048, 11264]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .f32⟩
  | .hbm, ⟨2, _⟩ => ⟨S2048x2048, .f32⟩
  | .hbm, ⟨3, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmInDx.lean ====
abbrev S2048x7168 : Shape := ⟨2, ![2048, 7168]⟩
abbrev S2048x8x896 : Shape := ⟨3, ![2048, 8, 896]⟩
abbrev S8x2048x896 : Shape := ⟨3, ![8, 2048, 896]⟩
abbrev S2048x2048 : Shape := ⟨2, ![2048, 2048]⟩
abbrev S1024x896 : Shape := ⟨2, ![1024, 896]⟩
abbrev S1x2048x896 : Shape := ⟨3, ![1, 2048, 896]⟩
abbrev S1024x2048 : Shape := ⟨2, ![1024, 2048]⟩
abbrev S2048x896 : Shape := ⟨2, ![2048, 896]⟩

abbrev nBuf : Space → Nat
  | .hbm => 6
  | .vmem => 6
  | .smem => 0
  | _ => 0

abbrev bufTy : (tb : Table) → Fin (tcTables nBuf tb) → BufTy
  | .hbm, ⟨0, _⟩ => ⟨S2048x7168, .bf16⟩
  | .hbm, ⟨1, _⟩ => ⟨S2048x7168, .f32⟩
  | .hbm, ⟨2, _⟩ => ⟨S2048x7168, .bf16⟩
  | .hbm, ⟨3, _⟩ => ⟨S2048x8x896, .bf16⟩
  | .hbm, ⟨4, _⟩ => ⟨S8x2048x896, .bf16⟩
  | .hbm, ⟨5, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x2048, .f32⟩
  | .local _ .vmem, ⟨5, _⟩ => ⟨S1024x2048, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmInDxRefIdeal.lean ====
abbrev S2048x7168 : Shape := ⟨2, ![2048, 7168]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x7168, .f32⟩
  | .hbm, ⟨2, _⟩ => ⟨S_, .f32⟩
  | .hbm, ⟨3, _⟩ => ⟨S2048x2048, .f32⟩
  | .hbm, ⟨4, _⟩ => ⟨S2048x7168, .f32⟩
  | .hbm, ⟨5, _⟩ => ⟨S2048x7168, .f32⟩
  | .hbm, ⟨6, _⟩ => ⟨S2048x2048, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MmInDw.lean ====
abbrev S2048x2048 : Shape := ⟨2, ![2048, 2048]⟩
abbrev S2048x7168 : Shape := ⟨2, ![2048, 7168]⟩
abbrev S8x2048x896 : Shape := ⟨3, ![8, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S8x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInDwRefIdeal.lean ====
abbrev S2048x2048 : Shape := ⟨2, ![2048, 2048]⟩
abbrev S2048x7168 : Shape := ⟨2, ![2048, 7168]⟩
abbrev S_ : Shape := ⟨0, ![]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S_, .f32⟩
  | .hbm, ⟨3, _⟩ => ⟨S2048x7168, .f32⟩
  | .hbm, ⟨4, _⟩ => ⟨S2048x2048, .f32⟩
  | .hbm, ⟨5, _⟩ => ⟨S2048x7168, .f32⟩
  | .hbm, ⟨6, _⟩ => ⟨S2048x7168, .f32⟩
  | .hbm, ⟨7, _⟩ => ⟨S7168x2048, .f32⟩
  | .hbm, ⟨8, _⟩ => ⟨S2048x7168, .f32⟩
  | .hbm, ⟨9, _⟩ => ⟨S2048x8x896, .f32⟩
  | .hbm, ⟨10, _⟩ => ⟨S8x2048x896, .f32⟩
  | .hbm, ⟨11, _⟩ => ⟨S8x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MmUpDx.lean ====
abbrev S2048x5632 : Shape := ⟨2, ![2048, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 7
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x11264, .f32⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x2048, .f32⟩
  | .local _ .vmem, ⟨7, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond3 (i : grid0.Coords) : BitVec 1 :=
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .ne v14 c0_i32_9
  v15

def k0_cond4 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def k0_cond6 (i : grid0.Coords) : BitVec 1 :=
  let arg1 : BitVec 32 := BitVec.ofNat 32 (i 1).val
  let c0_i32_8 : BitVec 32 := 0#32
  let v13 : BitVec 1 := Scalar.cmpi .sgt arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MmUpDxRefIdeal.lean ====
abbrev S2048x5632 : Shape := ⟨2, ![2048, 5632]⟩
abbrev S2048x11264 : Shape := ⟨2, ![2048, 11264]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x11264, .f32⟩
  | .hbm, ⟨3, _⟩ => ⟨S2048x11264, .bf16⟩
  | .hbm, ⟨4, _⟩ => ⟨S2048x11264, .f32⟩
  | .hbm, ⟨5, _⟩ => ⟨S_, .f32⟩
  | .hbm, ⟨6, _⟩ => ⟨S2048x2048, .f32⟩
  | .hbm, ⟨7, _⟩ => ⟨S2048x11264, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MmUpDw.lean ====
abbrev S2048x2048 : Shape := ⟨2, ![2048, 2048]⟩
abbrev S2048x5632 : Shape := ⟨2, ![2048, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmUpDwRefIdeal.lean ====
abbrev S2048x2048 : Shape := ⟨2, ![2048, 2048]⟩
abbrev S2048x5632 : Shape := ⟨2, ![2048, 5632]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x11264, .bf16⟩
  | .hbm, ⟨4, _⟩ => ⟨S2048x11264, .f32⟩
  | .hbm, ⟨5, _⟩ => ⟨S_, .f32⟩
  | .hbm, ⟨6, _⟩ => ⟨S2048x11264, .f32⟩
  | .hbm, ⟨7, _⟩ => ⟨S2048x2048, .f32⟩
  | .hbm, ⟨8, _⟩ => ⟨S2048x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== MmDownDw.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamW.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWReduced.lean ====
abbrev S2048x1408 : Shape := ⟨2, ![2048, 1408]⟩
abbrev S4x2048x1408 : Shape := ⟨3, ![4, 2048, 1408]⟩
abbrev S3x2048x1408 : Shape := ⟨3, ![3, 2048, 1408]⟩
abbrev S1 : Shape := ⟨1, ![1]⟩
abbrev S256x1408 : Shape := ⟨2, ![256, 1408]⟩
abbrev S1x256x1408 : Shape := ⟨3, ![1, 256, 1408]⟩

abbrev nBuf : Space → Nat
  | .hbm => 9
  | .vmem => 22
  | .smem => 1
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S3x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S1x256x1408, .bf16⟩
  | .local _ .vmem, ⟨10, _⟩ => ⟨S1x256x1408, .bf16⟩
  | .local _ .vmem, ⟨11, _⟩ => ⟨S1x256x1408, .bf16⟩
  | .local _ .vmem, ⟨12, _⟩ => ⟨S1x256x1408, .bf16⟩
  | .local _ .vmem, ⟨13, _⟩ => ⟨S1x256x1408, .bf16⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .f32⟩
  | .local _ .smem, ⟨0, _⟩ => ⟨S1, .i32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamWReducedRefIdeal.lean ====
abbrev S2048x1408 : Shape := ⟨2, ![2048, 1408]⟩
abbrev S4x2048x1408 : Shape := ⟨3, ![4, 2048, 1408]⟩
abbrev S3x2048x1408 : Shape := ⟨3, ![3, 2048, 1408]⟩
abbrev S1 : Shape := ⟨1, ![1]⟩
abbrev S_ : Shape := ⟨0, ![]⟩
abbrev S1x2048x1408 : Shape := ⟨3, ![1, 2048, 1408]⟩

abbrev nBuf : Space → Nat
  | .hbm => 64
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S3x2048x1408, .bf16⟩
  | .hbm, ⟨5, _⟩ => ⟨S1, .i32⟩
  | .hbm, ⟨6, _⟩ => ⟨S4x2048x1408, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1x2048x1408, .f32⟩
  | .hbm, ⟨11, _⟩ => ⟨S2048x1408, .f32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S1x2048x1408, .f32⟩
  | .hbm, ⟨16, _⟩ => ⟨S2048x1408, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1x2048x1408, .f32⟩
  | .hbm, ⟨21, _⟩ => ⟨S2048x1408, .f32⟩
  | .hbm, ⟨22, _⟩ => ⟨S1x2048x1408, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S3x2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S2048x1408, .f32⟩
  | .hbm, ⟨42, _⟩ => ⟨S_, .f32⟩
  | .hbm, ⟨43, _⟩ => ⟨S2048x1408, .f32⟩
  | .hbm, ⟨44, _⟩ => ⟨S2048x1408, .f32⟩
  | .hbm, ⟨45, _⟩ => ⟨S2048x1408, .f32⟩
  | .hbm, ⟨46, _⟩ => ⟨S_, .f32⟩
  | .hbm, ⟨47, _⟩ => ⟨S2048x1408, .f32⟩
  | .hbm, ⟨48, _⟩ => ⟨S2048x1408, .f32⟩
  | .hbm, ⟨49, _⟩ => ⟨S_, .f32⟩
  | .hbm, ⟨50, _⟩ => ⟨S2048x1408, .f32⟩
  | .hbm, ⟨51, _⟩ => ⟨S2048x1408, .f32⟩
  | .hbm, ⟨52, _⟩ => ⟨S2048x1408, .f32⟩
  | .hbm, ⟨53, _⟩ => ⟨S_, .f32⟩
  | .hbm, ⟨54, _⟩ => ⟨S2048x1408, .f32⟩
  | .hbm, ⟨55, _⟩ => ⟨S2048x1408, .f32⟩
  | .hbm, ⟨56, _⟩ => ⟨S2048x1408, .f32⟩
  | .hbm, ⟨57, _⟩ => ⟨S_, .f32⟩
  | .hbm, ⟨58, _⟩ => ⟨S2048x1408, .f32⟩
  | .hbm, ⟨59, _⟩ => ⟨S2048x1408, .f32⟩
  | .hbm, ⟨60, _⟩ => ⟨S2048x1408, .f32⟩
  | .hbm, ⟨61, _⟩ => ⟨S_, .f32⟩
  | .hbm, ⟨62, _⟩ => ⟨S2048x1408, .f32⟩
  | .hbm, ⟨63, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== PairSum.lean ====
abbrev S8x2048x1408 : Shape := ⟨3, ![8, 2048, 1408]⟩
abbrev S4x2048x1408 : Shape := ⟨3, ![4, 2048, 1408]⟩
abbrev S1 : Shape := ⟨1, ![1]⟩
abbrev S1x1024x1408 : Shape := ⟨3, ![1, 1024, 1408]⟩
abbrev S1024x1408 : Shape := ⟨2, ![1024, 1408]⟩

abbrev nBuf : Space → Nat
  | .hbm => 3
  | .vmem => 6
  | .smem => 1
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S4x2048x1408, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .smem, ⟨0, _⟩ => ⟨S1, .i32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S8x2048x1408 : Shape := ⟨3, ![8, 2048, 1408]⟩
abbrev S4x2048x1408 : Shape := ⟨3, ![4, 2048, 1408]⟩
abbrev S1 : Shape := ⟨1, ![1]⟩
abbrev S4x2x2048x1408 : Shape := ⟨4, ![4, 2, 2048, 1408]⟩
abbrev S_ : Shape := ⟨0, ![]⟩
abbrev S4x1x2048x1408 : Shape := ⟨4, ![4, 1, 2048, 1408]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S4x2048x1408, .bf16⟩
  | .hbm, ⟨2, _⟩ => ⟨S1, .i32⟩
  | .hbm, ⟨3, _⟩ => ⟨S4x2x2048x1408, .bf16⟩
  | .hbm, ⟨4, _⟩ => ⟨S4x2x2048x1408, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x1x2048x1408, .f32⟩
  | .hbm, ⟨9, _⟩ => ⟨S4x2048x1408, .f32⟩
  | .hbm, ⟨10, _⟩ => ⟨S4x1x2048x1408, .f32⟩
  | .hbm, ⟨11, _⟩ => ⟨S4x2048x1408, .f32⟩
  | .hbm, ⟨12, _⟩ => ⟨S4x2048x1408, .f32⟩
  | .hbm, ⟨13, _⟩ => ⟨S4x2048x1408, .f32⟩
  | .hbm, ⟨14, _⟩ => ⟨S4x2048x1408, .f32⟩
  | .hbm, ⟨15, _⟩ => ⟨S4x2048x1408, .bf16⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== DeviceSum.lean ====
abbrev S8x328x128 : Shape := ⟨3, ![8, 328, 128]⟩
abbrev S328x128 : Shape := ⟨2, ![328, 128]⟩
abbrev S1x328x128 : Shape := ⟨3, ![1, 328, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x328x128, .f32⟩
  | .hbm, ⟨1, _⟩ => ⟨S328x128, .f32⟩
  | .local _ .vmem, ⟨0, _⟩ => ⟨S8x328x128, .f32⟩
  | .local _ .vmem, ⟨1, _⟩ => ⟨S328x128, .f32⟩
  | _, _ => ⟨S8x328x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DeviceSumRefIdeal.lean ====
abbrev S8x328x128 : Shape := ⟨3, ![8, 328, 128]⟩
abbrev S_ : Shape := ⟨0, ![]⟩
abbrev S328x128 : Shape := ⟨2, ![328, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x328x128, .f32⟩
  | .hbm, ⟨1, _⟩ => ⟨S_, .f32⟩
  | .hbm, ⟨2, _⟩ => ⟨S328x128, .f32⟩
  | _, _ => ⟨S8x328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== HgrnFwd.lean ====
abbrev S2048x7168 : Shape := ⟨2, ![2048, 7168]⟩
abbrev S2x1024 : Shape := ⟨2, ![2, 1024]⟩
abbrev S1x128 : Shape := ⟨2, ![1, 128]⟩
abbrev S2048x1024 : Shape := ⟨2, ![2048, 1024]⟩
abbrev S2048x128 : Shape := ⟨2, ![2048, 128]⟩
abbrev S2x128 : Shape := ⟨2, ![2, 128]⟩
abbrev S128x128x128 : Shape := ⟨3, ![128, 128, 128]⟩
abbrev S128x128 : Shape := ⟨2, ![128, 128]⟩
abbrev S256x128 : Shape := ⟨2, ![256, 128]⟩
abbrev S16x128 : Shape := ⟨2, ![16, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 5
  | .vmem => 19
  | .smem => 0
  | _ => 0

abbrev bufTy : (tb : Table) → Fin (tcTables nBuf tb) → BufTy
  | .hbm, ⟨0, _⟩ => ⟨S2048x7168, .f32⟩
  | .hbm, ⟨1, _⟩ => ⟨S2x1024, .f32⟩
  | .hbm, ⟨2, _⟩ => ⟨S1x128, .f32⟩
  | .hbm, ⟨3, _⟩ => ⟨S2048x1024, .bf16⟩
  | .hbm, ⟨4, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S2048x128, .bf16⟩
  | .local _ .vmem, ⟨12, _⟩ => ⟨S2048x128, .bf16⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S128x128x128, .f32⟩
  | .local _ .vmem, ⟨18, _⟩ => ⟨S128x128x128, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_6 : BitVec 32 := 0#32
  let c8_i32 : BitVec 32 := 8#32
  let v27 : BitVec 32 := Scalar.addi c0_i32_6 c8_i32
  let c1_i32_7 : BitVec 32 := 1#32
  ⟨c0_i32_6, v27, c1_i32_7⟩
def k0_mult1 (k0_t1 : Fin k0_t1_loop.trips) : BitVec 32 :=
  let c0_i32_6 : BitVec 32 := 0#32
  let c1_i32_7 : BitVec 32 := 1#32
  let arg13 : BitVec 32 := Scf.iv c0_i32_6 c1_i32_7 k0_t1
  let c256_i32 : BitVec 32 := 256#32
  let v32 : BitVec 32 := Scalar.muli arg13 c256_i32
  v32
def k0_off1 (k0_t1 : Fin k0_t1_loop.trips) : Fin 2 → Nat :=
  let c0_i32_6 : BitVec 32 := 0#32
  let c1_i32_7 : BitVec 32 := 1#32
  let arg13 : BitVec 32 := Scf.iv c0_i32_6 c1_i32_7 k0_t1
  let c256_i32 : BitVec 32 := 256#32
  let v32 : BitVec 32 := Scalar.muli arg13 c256_i32
  let v33 : BitVec 32 := v32
  let v34 : Index := Scalar.indexCast v33
  let c0_18 : Index := 0#32
  ![v34.toNat, 0]
def k0_off2 (k0_t1 : Fin k0_t1_loop.trips) (c0_i32_105 : BitVec 32) : Fin 3 → Nat :=
  let c0_i32_6 : BitVec 32 := 0#32
  let c1_i32_7 : BitVec 32 := 1#32
  let arg13 : BitVec 32 := Scf.iv c0_i32_6 c1_i32_7 k0_t1
  let c16_i32_104 : BitVec 32 := 16#32
  let v292 : BitVec 32 := Scalar.muli arg13 c16_i32_104
  let v293 : BitVec 32 := Scalar.addi v292 c0_i32_105
  let v294 : Index := Scalar.indexCast v293
  let c0_106 : Index := 0#32
  let c0_107 : Index := 0#32
  ![v294.toNat, 0, 0]
@[reducible] def k0_t2_loop : Scf.Loop 32 :=
  let c0_i32_10 : BitVec 32 := 0#32
  let c16_i32_11 : BitVec 32 := 16#32
  let v29 : BitVec 32 := Scalar.addi c0_i32_10 c16_i32_11
  let c1_i32_12 : BitVec 32 := 1#32
  ⟨c0_i32_10, v29, c1_i32_12⟩
def k0_off3 (k0_t2 : Fin k0_t2_loop.trips) (c0_i32_19 : BitVec 32) : Fin 3 → Nat :=
  let c0_i32_10 : BitVec 32 := 0#32
  let c1_i32_12 : BitVec 32 := 1#32
  let arg13 : BitVec 32 := Scf.iv c0_i32_10 c1_i32_12 k0_t2
  let c8_i32_18 : BitVec 32 := 8#32
  let v32 : BitVec 32 := Scalar.muli arg13 c8_i32_18
  let v33 : BitVec 32 := Scalar.addi v32 c0_i32_19
  let v35 : Index := Scalar.indexCast v33
  let c0_20 : Index := 0#32
  let c0_21 : Index := 0#32
  ![v35.toNat, 0, 0]
def k0_mult2 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_18 : BitVec 32 := 8#32
  let v32 : BitVec 32 := Scalar.muli arg13 c8_i32_18
  let c0_i32_19 : BitVec 32 := 0#32
  let v33 : BitVec 32 := Scalar.addi v32 c0_i32_19
  let c16_i32_22 : BitVec 32 := 16#32
  let v39 : BitVec 32 := Scalar.muli v33 c16_i32_22
  v39
def k0_off4 (k0_t2 : Fin k0_t2_loop.trips) (c0_i32_19 : BitVec 32) : Fin 2 → Nat :=
  let c0_i32_10 : BitVec 32 := 0#32
  let c1_i32_12 : BitVec 32 := 1#32
  let arg13 : BitVec 32 := Scf.iv c0_i32_10 c1_i32_12 k0_t2
  let c8_i32_18 : BitVec 32 := 8#32
  let v32 : BitVec 32 := Scalar.muli arg13 c8_i32_18
  let v33 : BitVec 32 := Scalar.addi v32 c0_i32_19
  let c16_i32_22 : BitVec 32 := 16#32
  let v39 : BitVec 32 := Scalar.muli v33 c16_i32_22
  let v40 : BitVec 32 := v39
  let v41 : Index := Scalar.indexCast v40
  let c0_23 : Index := 0#32
  ![v41.toNat, 0]
def k0_mult3 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_26 : BitVec 32 := 8#32
  let v51 : BitVec 32 := Scalar.muli arg13 c8_i32_26
  let c1_i32_27 : BitVec 32 := 1#32
  let v52 : BitVec 32 := Scalar.addi v51 c1_i32_27
  let c16_i32_30 : BitVec 32 := 16#32
  let v58 : BitVec 32 := Scalar.muli v52 c16_i32_30
  v58
def k0_mult4 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_34 : BitVec 32 := 8#32
  let v70 : BitVec 32 := Scalar.muli arg13 c8_i32_34
  let c2_i32 : BitVec 32 := 2#32
  let v71 : BitVec 32 := Scalar.addi v70 c2_i32
  let c16_i32_37 : BitVec 32 := 16#32
  let v77 : BitVec 32 := Scalar.muli v71 c16_i32_37
  v77
def k0_mult5 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_41 : BitVec 32 := 8#32
  let v89 : BitVec 32 := Scalar.muli arg13 c8_i32_41
  let c3_i32 : BitVec 32 := 3#32
  let v90 : BitVec 32 := Scalar.addi v89 c3_i32
  let c16_i32_44 : BitVec 32 := 16#32
  let v96 : BitVec 32 := Scalar.muli v90 c16_i32_44
  v96
def k0_mult6 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_48 : BitVec 32 := 8#32
  let v108 : BitVec 32 := Scalar.muli arg13 c8_i32_48
  let c4_i32 : BitVec 32 := 4#32
  let v109 : BitVec 32 := Scalar.addi v108 c4_i32
  let c16_i32_51 : BitVec 32 := 16#32
  let v115 : BitVec 32 := Scalar.muli v109 c16_i32_51
  v115
def k0_mult7 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_55 : BitVec 32 := 8#32
  let v127 : BitVec 32 := Scalar.muli arg13 c8_i32_55
  let c5_i32 : BitVec 32 := 5#32
  let v128 : BitVec 32 := Scalar.addi v127 c5_i32
  let c16_i32_58 : BitVec 32 := 16#32
  let v134 : BitVec 32 := Scalar.muli v128 c16_i32_58
  v134
def k0_mult8 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_62 : BitVec 32 := 8#32
  let v146 : BitVec 32 := Scalar.muli arg13 c8_i32_62
  let c6_i32 : BitVec 32 := 6#32
  let v147 : BitVec 32 := Scalar.addi v146 c6_i32
  let c16_i32_65 : BitVec 32 := 16#32
  let v153 : BitVec 32 := Scalar.muli v147 c16_i32_65
  v153
def k0_mult9 (k0_t2 : Fin k0_t2_loop.trips) : BitVec 32 :=
  let c0_i32_10 : BitVec 32 := 0#32
  let c1_i32_12 : BitVec 32 := 1#32
  let arg13 : BitVec 32 := Scf.iv c0_i32_10 c1_i32_12 k0_t2
  let c8_i32_69 : BitVec 32 := 8#32
  let v165 : BitVec 32 := Scalar.muli arg13 c8_i32_69
  let c7_i32 : BitVec 32 := 7#32
  let v166 : BitVec 32 := Scalar.addi v165 c7_i32
  let c16_i32_72 : BitVec 32 := 16#32
  let v172 : BitVec 32 := Scalar.muli v166 c16_i32_72
  v172
@[reducible] def k0_t3_loop : Scf.Loop 32 :=
  let c0_i32_14 : BitVec 32 := 0#32
  let c8_i32_15 : BitVec 32 := 8#32
  let v31 : BitVec 32 := Scalar.addi c0_i32_14 c8_i32_15
  let c1_i32_16 : BitVec 32 := 1#32
  ⟨c0_i32_14, v31, c1_i32_16⟩
def k0_mult10 (k0_t3 : Fin k0_t3_loop.trips) : BitVec 32 :=
  let c0_i32_14 : BitVec 32 := 0#32
  let c1_i32_16 : BitVec 32 := 1#32
  let arg13 : BitVec 32 := Scf.iv c0_i32_14 c1_i32_16 k0_t3
  let c256_i32 : BitVec 32 := 256#32
  let v32 : BitVec 32 := Scalar.muli arg13 c256_i32
  v32
def k0_off5 (k0_t3 : Fin k0_t3_loop.trips) : Fin 2 → Nat :=
  let c0_i32_14 : BitVec 32 := 0#32
  let c1_i32_16 : BitVec 32 := 1#32
  let arg13 : BitVec 32 := Scf.iv c0_i32_14 c1_i32_16 k0_t3
  let c256_i32 : BitVec 32 := 256#32
  let v32 : BitVec 32 := Scalar.muli arg13 c256_i32
  let v33 : BitVec 32 := v32
  let v34 : Index := Scalar.indexCast v33
  let c0_18 : Index := 0#32
  ![v34.toNat, 0]
def k0_off6 (k0_t3 : Fin k0_t3_loop.trips) (c0_i32_20 : BitVec 32) : Fin 3 → Nat :=
  let c0_i32_14 : BitVec 32 := 0#32
  let c1_i32_16 : BitVec 32 := 1#32
  let arg13 : BitVec 32 := Scf.iv c0_i32_14 c1_i32_16 k0_t3
  let c16_i32_19 : BitVec 32 := 16#32
  let v38 : BitVec 32 := Scalar.muli arg13 c16_i32_19
  let v39 : BitVec 32 := Scalar.addi v38 c0_i32_20
  let v40 : Index := Scalar.indexCast v39
  let c0_21 : Index := 0#32
  let c0_22 : Index := 0#32
  ![v40.toNat, 0, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnBwd.lean ====
abbrev S2048x7168 : Shape := ⟨2, ![2048, 7168]⟩
abbrev S2x1024 : Shape := ⟨2, ![2, 1024]⟩
abbrev S1x128 : Shape := ⟨2, ![1, 128]⟩
abbrev S2048x1024 : Shape := ⟨2, ![2048, 1024]⟩
abbrev S2048x2048 : Shape := ⟨2, ![2048, 2048]⟩
abbrev S2048x128 : Shape := ⟨2, ![2048, 128]⟩
abbrev S2x128 : Shape := ⟨2, ![2, 128]⟩
abbrev S128x128x128 : Shape := ⟨3, ![128, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S16x128 : Shape := ⟨2, ![16, 128]⟩
abbrev S1x128x128 : Shape := ⟨3, ![1, 128, 128]⟩

abbrev nBuf : Space → Nat
  | .hbm => 11
  | .vmem => 36
  | .smem => 0
  | _ => 0

abbrev bufTy : (tb : Table) → Fin (tcTables nBuf tb) → BufTy
  | .hbm, ⟨0, _⟩ => ⟨S2048x7168, .f32⟩
  | .hbm, ⟨1, _⟩ => ⟨S2x1024, .f32⟩
  | .hbm, ⟨2, _⟩ => ⟨S1x128, .f32⟩
  | .hbm, ⟨3, _⟩ => ⟨S2048x1024, .f32⟩
  | .hbm, ⟨4, _⟩ => ⟨S2048x2048, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2x1024, .f32⟩
  | .hbm, ⟨10, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2x128, .f32⟩
  | .local _ .vmem, ⟨24, _⟩ => ⟨S2x128, .f32⟩
  | .local _ .vmem, ⟨25, _⟩ => ⟨S1x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S128x128x128, .f32⟩
  | .local _ .vmem, ⟨34, _⟩ => ⟨S128x128x128, .bf16⟩
  | .local _ .vmem, ⟨35, _⟩ => ⟨S128x128x128, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_scratch8 : Ref sig .tc := ⟨.vmem, 34, rfl⟩
abbrev cc0_scratch9 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_10 : BitVec 32 := 0#32
  let c16_i32_11 : BitVec 32 := 16#32
  let v32 : BitVec 32 := Scalar.addi c0_i32_10 c16_i32_11
  let c1_i32_12 : BitVec 32 := 1#32
  ⟨c0_i32_10, v32, c1_i32_12⟩
def k0_mult1 (k0_t1 : Fin k0_t1_loop.trips) : BitVec 32 :=
  let c0_i32_10 : BitVec 32 := 0#32
  let c1_i32_12 : BitVec 32 := 1#32
  let arg25 : BitVec 32 := Scf.iv c0_i32_10 c1_i32_12 k0_t1
  let c128_i32 : BitVec 32 := 128#32
  let v51 : BitVec 32 := Scalar.muli arg25 c128_i32
  v51
def k0_off1 (k0_t1 : Fin k0_t1_loop.trips) : Fin 2 → Nat :=
  let c0_i32_10 : BitVec 32 := 0#32
  let c1_i32_12 : BitVec 32 := 1#32
  let arg25 : BitVec 32 := Scf.iv c0_i32_10 c1_i32_12 k0_t1
  let c128_i32 : BitVec 32 := 128#32
  let v51 : BitVec 32 := Scalar.muli arg25 c128_i32
  let v52 : BitVec 32 := v51
  let v53 : Index := Scalar.indexCast v52
  let c0_37 : Index := 0#32
  ![v53.toNat, 0]
def k0_off2 (k0_t1 : Fin k0_t1_loop.trips) (c0_i32_182 : BitVec 32) : Fin 3 → Nat :=
  let c0_i32_10 : BitVec 32 := 0#32
  let c1_i32_12 : BitVec 32 := 1#32
  let arg25 : BitVec 32 := Scf.iv c0_i32_10 c1_i32_12 k0_t1
  let c8_i32_181 : BitVec 32 := 8#32
  let v539 : BitVec 32 := Scalar.muli arg25 c8_i32_181
  let v540 : BitVec 32 := Scalar.addi v539 c0_i32_182
  let v541 : Index := Scalar.indexCast v540
  let c0_183 : Index := 0#32
  let c0_184 : Index := 0#32
  ![v541.toNat, 0, 0]
@[reducible] def k0_t2_loop : Scf.Loop 32 :=
  let c0_i32_15 : BitVec 32 := 0#32
  let c16_i32_16 : BitVec 32 := 16#32
  let v34 : BitVec 32 := Scalar.addi c0_i32_15 c16_i32_16
  let c1_i32_17 : BitVec 32 := 1#32
  ⟨c0_i32_15, v34, c1_i32_17⟩
def k0_off3 (k0_t2 : Fin k0_t2_loop.trips) (c0_i32_38 : BitVec 32) : Fin 3 → Nat :=
  let c0_i32_15 : BitVec 32 := 0#32
  let c1_i32_17 : BitVec 32 := 1#32
  let arg25 : BitVec 32 := Scf.iv c0_i32_15 c1_i32_17 k0_t2
  let c8_i32_37 : BitVec 32 := 8#32
  let v51 : BitVec 32 := Scalar.muli arg25 c8_i32_37
  let v52 : BitVec 32 := Scalar.addi v51 c0_i32_38
  let v54 : Index := Scalar.indexCast v52
  let c0_39 : Index := 0#32
  let c0_40 : Index := 0#32
  ![v54.toNat, 0, 0]
def k0_mult2 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_37 : BitVec 32 := 8#32
  let v51 : BitVec 32 := Scalar.muli arg25 c8_i32_37
  let c0_i32_38 : BitVec 32 := 0#32
  let v52 : BitVec 32 := Scalar.addi v51 c0_i32_38
  let c16_i32_41 : BitVec 32 := 16#32
  let v58 : BitVec 32 := Scalar.muli v52 c16_i32_41
  v58
def k0_off4 (k0_t2 : Fin k0_t2_loop.trips) (c0_i32_38 : BitVec 32) : Fin 2 → Nat :=
  let c0_i32_15 : BitVec 32 := 0#32
  let c1_i32_17 : BitVec 32 := 1#32
  let arg25 : BitVec 32 := Scf.iv c0_i32_15 c1_i32_17 k0_t2
  let c8_i32_37 : BitVec 32 := 8#32
  let v51 : BitVec 32 := Scalar.muli arg25 c8_i32_37
  let v52 : BitVec 32 := Scalar.addi v51 c0_i32_38
  let c16_i32_41 : BitVec 32 := 16#32
  let v58 : BitVec 32 := Scalar.muli v52 c16_i32_41
  let v59 : BitVec 32 := v58
  let v60 : Index := Scalar.indexCast v59
  let c0_42 : Index := 0#32
  ![v60.toNat, 0]
def k0_mult3 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_45 : BitVec 32 := 8#32
  let v70 : BitVec 32 := Scalar.muli arg25 c8_i32_45
  let c1_i32_46 : BitVec 32 := 1#32
  let v71 : BitVec 32 := Scalar.addi v70 c1_i32_46
  let c16_i32_49 : BitVec 32 := 16#32
  let v77 : BitVec 32 := Scalar.muli v71 c16_i32_49
  v77
def k0_mult4 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_53 : BitVec 32 := 8#32
  let v89 : BitVec 32 := Scalar.muli arg25 c8_i32_53
  let c2_i32 : BitVec 32 := 2#32
  let v90 : BitVec 32 := Scalar.addi v89 c2_i32
  let c16_i32_56 : BitVec 32 := 16#32
  let v96 : BitVec 32 := Scalar.muli v90 c16_i32_56
  v96
def k0_mult5 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_60 : BitVec 32 := 8#32
  let v108 : BitVec 32 := Scalar.muli arg25 c8_i32_60
  let c3_i32 : BitVec 32 := 3#32
  let v109 : BitVec 32 := Scalar.addi v108 c3_i32
  let c16_i32_63 : BitVec 32 := 16#32
  let v115 : BitVec 32 := Scalar.muli v109 c16_i32_63
  v115
def k0_mult6 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_67 : BitVec 32 := 8#32
  let v127 : BitVec 32 := Scalar.muli arg25 c8_i32_67
  let c4_i32 : BitVec 32 := 4#32
  let v128 : BitVec 32 := Scalar.addi v127 c4_i32
  let c16_i32_70 : BitVec 32 := 16#32
  let v134 : BitVec 32 := Scalar.muli v128 c16_i32_70
  v134
def k0_mult7 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_74 : BitVec 32 := 8#32
  let v146 : BitVec 32 := Scalar.muli arg25 c8_i32_74
  let c5_i32 : BitVec 32 := 5#32
  let v147 : BitVec 32 := Scalar.addi v146 c5_i32
  let c16_i32_77 : BitVec 32 := 16#32
  let v153 : BitVec 32 := Scalar.muli v147 c16_i32_77
  v153
def k0_mult8 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_81 : BitVec 32 := 8#32
  let v165 : BitVec 32 := Scalar.muli arg25 c8_i32_81
  let c6_i32 : BitVec 32 := 6#32
  let v166 : BitVec 32 := Scalar.addi v165 c6_i32
  let c16_i32_84 : BitVec 32 := 16#32
  let v172 : BitVec 32 := Scalar.muli v166 c16_i32_84
  v172
def k0_mult9 (k0_t2 : Fin k0_t2_loop.trips) : BitVec 32 :=
  let c0_i32_15 : BitVec 32 := 0#32
  let c1_i32_17 : BitVec 32 := 1#32
  let arg25 : BitVec 32 := Scf.iv c0_i32_15 c1_i32_17 k0_t2
  let c8_i32_88 : BitVec 32 := 8#32
  let v184 : BitVec 32 := Scalar.muli arg25 c8_i32_88
  let c7_i32 : BitVec 32 := 7#32
  let v185 : BitVec 32 := Scalar.addi v184 c7_i32
  let c16_i32_91 : BitVec 32 := 16#32
  let v191 : BitVec 32 := Scalar.muli v185 c16_i32_91
  v191
@[reducible] def k0_t3_loop : Scf.Loop 32 :=
  let c0_i32_19 : BitVec 32 := 0#32
  let c8_i32 : BitVec 32 := 8#32
  let v36 : BitVec 32 := Scalar.addi c0_i32_19 c8_i32
  let c1_i32_20 : BitVec 32 := 1#32
  ⟨c0_i32_19, v36, c1_i32_20⟩
def k0_mult10 (k0_t3 : Fin k0_t3_loop.trips) : BitVec 32 :=
  let c0_i32_19 : BitVec 32 := 0#32
  let c1_i32_20 : BitVec 32 := 1#32
  let arg25 : BitVec 32 := Scf.iv c0_i32_19 c1_i32_20 k0_t3
  let c256_i32 : BitVec 32 := 256#32
  let v51 : BitVec 32 := Scalar.muli arg25 c256_i32
  v51
def k0_off5 (k0_t3 : Fin k0_t3_loop.trips) : Fin 2 → Nat :=
  let c0_i32_19 : BitVec 32 := 0#32
  let c1_i32_20 : BitVec 32 := 1#32
  let arg25 : BitVec 32 := Scf.iv c0_i32_19 c1_i32_20 k0_t3
  let c256_i32 : BitVec 32 := 256#32
  let v51 : BitVec 32 := Scalar.muli arg25 c256_i32
  let v52 : BitVec 32 := v51
  let v53 : Index := Scalar.indexCast v52
  let c0_37 : Index := 0#32
  ![v53.toNat, 0]
def k0_off6 (k0_t3 : Fin k0_t3_loop.trips) (c0_i32_42 : BitVec 32) : Fin 3 → Nat :=
  let c0_i32_19 : BitVec 32 := 0#32
  let c1_i32_20 : BitVec 32 := 1#32
  let arg25 : BitVec 32 := Scf.iv c0_i32_19 c1_i32_20 k0_t3
  let c16_i32_41 : BitVec 32 := 16#32
  let v66 : BitVec 32 := Scalar.muli arg25 c16_i32_41
  let v67 : BitVec 32 := Scalar.addi v66 c0_i32_42
  let v68 : Index := Scalar.indexCast v67
  let c0_43 : Index := 0#32
  let c0_44 : Index := 0#32
  ![v68.toNat, 0, 0]
@[reducible] def k0_t4_loop : Scf.Loop 32 :=
  let c0_i32_23 : BitVec 32 := 0#32
  let c16_i32_24 : BitVec 32 := 16#32
  let v38 : BitVec 32 := Scalar.addi c0_i32_23 c16_i32_24
  let c1_i32_25 : BitVec 32 := 1#32
  ⟨c0_i32_23, v38, c1_i32_25⟩
def k0_off7 (k0_t4 : Fin k0_t4_loop.trips) (c0_i32_38 : BitVec 32) : Fin 3 → Nat :=
  let c127_i32 : BitVec 32 := 127#32
  let c0_i32_23 : BitVec 32 := 0#32
  let c1_i32_25 : BitVec 32 := 1#32
  let arg25 : BitVec 32 := Scf.iv c0_i32_23 c1_i32_25 k0_t4
  let c8_i32_37 : BitVec 32 := 8#32
  let v51 : BitVec 32 := Scalar.muli arg25 c8_i32_37
  let v52 : BitVec 32 := Scalar.addi v51 c0_i32_38
  let v53 : BitVec 32 := Scalar.subi c127_i32 v52
  let v55 : Index := Scalar.indexCast v53
  let c0_39 : Index := 0#32
  let c0_40 : Index := 0#32
  ![v55.toNat, 0, 0]
def k0_mult11 (k0_t4 : Fin k0_t4_loop.trips) : BitVec 32 :=
  let c127_i32 : BitVec 32 := 127#32
  let c0_i32_23 : BitVec 32 := 0#32
  let c1_i32_25 : BitVec 32 := 1#32
  let arg25 : BitVec 32 := Scf.iv c0_i32_23 c1_i32_25 k0_t4
  let c8_i32_37 : BitVec 32 := 8#32
  let v51 : BitVec 32 := Scalar.muli arg25 c8_i32_37
  let c0_i32_38 : BitVec 32 := 0#32
  let v52 : BitVec 32 := Scalar.addi v51 c0_i32_38
  let v53 : BitVec 32 := Scalar.subi c127_i32 v52
  let c16_i32_41 : BitVec 32 := 16#32
  let v59 : BitVec 32 := Scalar.muli v53 c16_i32_41
  v59
def k0_off8 (k0_t4 : Fin k0_t4_loop.trips) (c0_i32_38 : BitVec 32) : Fin 2 → Nat :=
  let c127_i32 : BitVec 32 := 127#32
  let c0_i32_23 : BitVec 32 := 0#32
  let c1_i32_25 : BitVec 32 := 1#32
  let arg25 : BitVec 32 := Scf.iv c0_i32_23 c1_i32_25 k0_t4
  let c8_i32_37 : BitVec 32 := 8#32
  let v51 : BitVec 32 := Scalar.muli arg25 c8_i32_37
  let v52 : BitVec 32 := Scalar.addi v51 c0_i32_38
  let v53 : BitVec 32 := Scalar.subi c127_i32 v52
  let c16_i32_41 : BitVec 32 := 16#32
  let v59 : BitVec 32 := Scalar.muli v53 c16_i32_41
  let v60 : BitVec 32 := v59
  let v61 : Index := Scalar.indexCast v60
  let c0_42 : Index := 0#32
  ![v61.toNat, 0]
def k0_mult12 (k0_t4 : Fin k0_t4_loop.trips) : BitVec 32 :=
  let c127_i32_47 : BitVec 32 := 127#32
  let c0_i32_23 : BitVec 32 := 0#32
  let c1_i32_25 : BitVec 32 := 1#32
  let arg25 : BitVec 32 := Scf.iv c0_i32_23 c1_i32_25 k0_t4
  let c8_i32_45 : BitVec 32 := 8#32
  let v71 : BitVec 32 := Scalar.muli arg25 c8_i32_45
  let c1_i32_46 : BitVec 32 := 1#32
  let v72 : BitVec 32 := Scalar.addi v71 c1_i32_46
  let v73 : BitVec 32 := Scalar.subi c127_i32_47 v72
  let c16_i32_50 : BitVec 32 := 16#32
  let v79 : BitVec 32 := Scalar.muli v73 c16_i32_50
  v79
def k0_mult13 (k0_t4 : Fin k0_t4_loop.trips) : BitVec 32 :=
  let c127_i32_55 : BitVec 32 := 127#32
  let c0_i32_23 : BitVec 32 := 0#32
  let c1_i32_25 : BitVec 32 := 1#32
  let arg25 : BitVec 32 := Scf.iv c0_i32_23 c1_i32_25 k0_t4
  let c8_i32_54 : BitVec 32 := 8#32
  let v91 : BitVec 32 := Scalar.muli arg25 c8_i32_54
  let c2_i32 : BitVec 32 := 2#32
  let v92 : BitVec 32 := Scalar.addi v91 c2_i32
  let v93 : BitVec 32 := Scalar.subi c127_i32_55 v92
  let c16_i32_58 : BitVec 32 := 16#32
  let v99 : BitVec 32 := Scalar.muli v93 c16_i32_58
  v99
def k0_mult14 (k0_t4 : Fin k0_t4_loop.trips) : BitVec 32 :=
  let c127_i32_63 : BitVec 32 := 127#32
  let c0_i32_23 : BitVec 32 := 0#32
  let c1_i32_25 : BitVec 32 := 1#32
  let arg25 : BitVec 32 := Scf.iv c0_i32_23 c1_i32_25 k0_t4
  let c8_i32_62 : BitVec 32 := 8#32
  let v111 : BitVec 32 := Scalar.muli arg25 c8_i32_62
  let c3_i32 : BitVec 32 := 3#32
  let v112 : BitVec 32 := Scalar.addi v111 c3_i32
  let v113 : BitVec 32 := Scalar.subi c127_i32_63 v112
  let c16_i32_66 : BitVec 32 := 16#32
  let v119 : BitVec 32 := Scalar.muli v113 c16_i32_66
  v119
def k0_mult15 (k0_t4 : Fin k0_t4_loop.trips) : BitVec 32 :=
  let c127_i32_71 : BitVec 32 := 127#32
  let c0_i32_23 : BitVec 32 := 0#32
  let c1_i32_25 : BitVec 32 := 1#32
  let arg25 : BitVec 32 := Scf.iv c0_i32_23 c1_i32_25 k0_t4
  let c8_i32_70 : BitVec 32 := 8#32
  let v131 : BitVec 32 := Scalar.muli arg25 c8_i32_70
  let c4_i32 : BitVec 32 := 4#32
  let v132 : BitVec 32 := Scalar.addi v131 c4_i32
  let v133 : BitVec 32 := Scalar.subi c127_i32_71 v132
  let c16_i32_74 : BitVec 32 := 16#32
  let v139 : BitVec 32 := Scalar.muli v133 c16_i32_74
  v139
def k0_mult16 (k0_t4 : Fin k0_t4_loop.trips) : BitVec 32 :=
  let c127_i32_79 : BitVec 32 := 127#32
  let c0_i32_23 : BitVec 32 := 0#32
  let c1_i32_25 : BitVec 32 := 1#32
  let arg25 : BitVec 32 := Scf.iv c0_i32_23 c1_i32_25 k0_t4
  let c8_i32_78 : BitVec 32 := 8#32
  let v151 : BitVec 32 := Scalar.muli arg25 c8_i32_78
  let c5_i32 : BitVec 32 := 5#32
  let v152 : BitVec 32 := Scalar.addi v151 c5_i32
  let v153 : BitVec 32 := Scalar.subi c127_i32_79 v152
  let c16_i32_82 : BitVec 32 := 16#32
  let v159 : BitVec 32 := Scalar.muli v153 c16_i32_82
  v159
def k0_mult17 (k0_t4 : Fin k0_t4_loop.trips) : BitVec 32 :=
  let c127_i32_87 : BitVec 32 := 127#32
  let c0_i32_23 : BitVec 32 := 0#32
  let c1_i32_25 : BitVec 32 := 1#32
  let arg25 : BitVec 32 := Scf.iv c0_i32_23 c1_i32_25 k0_t4
  let c8_i32_86 : BitVec 32 := 8#32
  let v171 : BitVec 32 := Scalar.muli arg25 c8_i32_86
  let c6_i32 : BitVec 32 := 6#32
  let v172 : BitVec 32 := Scalar.addi v171 c6_i32
  let v173 : BitVec 32 := Scalar.subi c127_i32_87 v172
  let c16_i32_90 : BitVec 32 := 16#32
  let v179 : BitVec 32 := Scalar.muli v173 c16_i32_90
  v179
def k0_mult18 (k0_t4 : Fin k0_t4_loop.trips) : BitVec 32 :=
  let c127_i32_95 : BitVec 32 := 127#32
  let c0_i32_23 : BitVec 32 := 0#32
  let c1_i32_25 : BitVec 32 := 1#32
  let arg25 : BitVec 32 := Scf.iv c0_i32_23 c1_i32_25 k0_t4
  let c8_i32_94 : BitVec 32 := 8#32
  let v191 : BitVec 32 := Scalar.muli arg25 c8_i32_94
  let c7_i32 : BitVec 32 := 7#32
  let v192 : BitVec 32 := Scalar.addi v191 c7_i32
  let v193 : BitVec 32 := Scalar.subi c127_i32_95 v192
  let c16_i32_98 : BitVec 32 := 16#32
  let v199 : BitVec 32 := Scalar.muli v193 c16_i32_98
  v199
@[reducible] def k0_t5_loop : Scf.Loop 32 :=
  let c0_i32_28 : BitVec 32 := 0#32
  let c8_i32_29 : BitVec 32 := 8#32
  let v41 : BitVec 32 := Scalar.addi c0_i32_28 c8_i32_29
  let c1_i32_30 : BitVec 32 := 1#32
  ⟨c0_i32_28, v41, c1_i32_30⟩
def k0_mult19 (k0_t5 : Fin k0_t5_loop.trips) : BitVec 32 :=
  let c0_i32_28 : BitVec 32 := 0#32
  let c1_i32_30 : BitVec 32 := 1#32
  let arg25 : BitVec 32 := Scf.iv c0_i32_28 c1_i32_30 k0_t5
  let c256_i32 : BitVec 32 := 256#32
  let v51 : BitVec 32 := Scalar.muli arg25 c256_i32
  v51
def k0_off9 (k0_t5 : Fin k0_t5_loop.trips) : Fin 2 → Nat :=
  let c0_i32_28 : BitVec 32 := 0#32
  let c1_i32_30 : BitVec 32 := 1#32
  let arg25 : BitVec 32 := Scf.iv c0_i32_28 c1_i32_30 k0_t5
  let c256_i32 : BitVec 32 := 256#32
  let v51 : BitVec 32 := Scalar.muli arg25 c256_i32
  let v52 : BitVec 32 := v51
  let v53 : Index := Scalar.indexCast v52
  let c0_37 : Index := 0#32
  ![v53.toNat, 0]
def k0_off10 (k0_t5 : Fin k0_t5_loop.trips) (c0_i32_50 : BitVec 32) : Fin 3 → Nat :=
  let c0_i32_28 : BitVec 32 := 0#32
  let c1_i32_30 : BitVec 32 := 1#32
  let arg25 : BitVec 32 := Scf.iv c0_i32_28 c1_i32_30 k0_t5
  let c16_i32_49 : BitVec 32 := 16#32
  let v97 : BitVec 32 := Scalar.muli arg25 c16_i32_49
  let v98 : BitVec 32 := Scalar.addi v97 c0_i32_50
  let v99 : Index := Scalar.indexCast v98
  let c0_51 : Index := 0#32
  let c0_52 : Index := 0#32
  ![v99.toNat, 0, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Proof.RealValues.lean ====
/-
  Extended reals that are real numbers: what the proofs of this directory use of them. A sum of real numbers, a word that
  is a number, a maximum that is one, an exponential of a masked score.
-/
module

public import Idealize.ShloMosaic.Lib.Pointwise
public import Mathlib.Analysis.SpecialFunctions.Log.Basic

@[expose] public section

noncomputable section

open Idealize.ShloMosaic

namespace Cert.Proof.Rv

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number a word of the f32 format stands for. -/
def word (b : BitVec 32) : ℝ := (Ideal.ofBits .f32 b).toReal

/-- A word whose exponent is not all ones stands for a number. -/
theorem word_eq (b : BitVec 32) (h : (b.extractLsb' 23 8).toNat ≠ 255) : Ideal.ofBits .f32 b = (word b : EReal) := by
  have key : ∃ r : ℝ, Ideal.ofBits .f32 b = (r : EReal) := by
    show ∃ r : ℝ, Ideal.ieee 8 23 b = (r : EReal)
    unfold Ideal.ieee
    dsimp only
    rw [if_neg (by simpa using h)]
    split
    · exact ⟨_, rfl⟩
    · exact ⟨_, rfl⟩
  obtain ⟨r, hr⟩ := key
  rw [word, hr, EReal.toReal_coe]

/-- The word of minus infinity. -/
theorem word_bot : Ideal.ofBits .f32 0xFF800000#32 = ⊥ := by
  show Ideal.ieee 8 23 (0xFF800000#32) = _
  unfold Ideal.ieee
  dsimp only
  rw [if_pos (by decide), if_pos (by decide), if_pos (by decide)]

/-- The word of plus infinity. -/
theorem word_top : Ideal.ofBits .f32 0x7F800000#32 = ⊤ := by
  show Ideal.ieee 8 23 (0x7F800000#32) = _
  unfold Ideal.ieee
  dsimp only
  rw [if_pos (by decide), if_pos (by decide), if_neg (by decide)]

/-- The word of one. -/
theorem word_one : Ideal.ofBits .f32 0x3F800000#32 = 1 := by
  show Ideal.ieee 8 23 (0x3F800000#32) = _
  unfold Ideal.ieee
  dsimp only
  rw [if_neg (by decide), if_neg (by decide), if_neg (by decide)]
  have h1 : (BitVec.extractLsb' 23 8 (0x3F800000#32)).toNat = 127 := by decide
  have h2 : (BitVec.extractLsb' 0 23 (0x3F800000#32)).toNat = 0 := by decide
  rw [h1, h2, ← EReal.coe_one]
  norm_num

/-- The scale of the scores, 128 to the power of minus one half rounded to f32: a positive number. -/
def scale : ℝ := word 0x3DB504F3#32

theorem scale_eq : Ideal.ofBits .f32 0x3DB504F3#32 = (scale : EReal) := word_eq _ (by decide)

/-- The larger of a number and of finitely many values below plus infinity is a number. -/
theorem max_fold_real {ι : Type*} (s : Finset ι) (f : ι → EReal) (m : ℝ) (hf : ∀ i, f i ≠ ⊤) :
    ∃ M : ℝ, max (m : EReal) (s.fold max ⊥ f) = (M : EReal) := by
  have h1 : s.fold max ⊥ f ≠ ⊤ := by
    classical
    induction s using Finset.induction_on with
    | empty => simp
    | insert a s ha ih =>
      rw [Finset.fold_insert ha]
      intro h
      rcases max_choice (f a) (s.fold max ⊥ f) with e | e
      · exact hf a (e ▸ h)
      · exact ih (e ▸ h)
  refine ⟨(max (m : EReal) (s.fold max ⊥ f)).toReal, (EReal.coe_toReal ?_ ?_).symm⟩
  · intro h
    rcases max_choice (m : EReal) (s.fold max ⊥ f) with e | e
    · exact EReal.coe_ne_top m (e ▸ h)
    · exact h1 (e ▸ h)
  · intro h
    have := le_max_left (m : EReal) (s.fold max ⊥ f)
    rw [h] at this
    exact EReal.coe_ne_bot m (le_bot_iff.mp this)

/-- A score with its weight folded in as a logarithm: minus infinity where the weight is zero. -/
def masked (w s : ℝ) : EReal := if 0 < w then ((s + Real.log w : ℝ) : EReal) else ⊥

theorem masked_ne_top (w s : ℝ) : masked w s ≠ ⊤ := by
  unfold masked; split
  · exact EReal.coe_ne_top _
  · exact bot_ne_top

/-- The exponential of a masked score less a number. -/
theorem exp_masked (w s m : ℝ) (hw : 0 ≤ w) :
    Ideal.exp (masked w s - (m : EReal)) = ((w * Real.exp s * Real.exp (-m) : ℝ) : EReal) := by
  unfold masked
  split
  · rename_i h
    rw [← EReal.coe_sub, Ideal.exp_coe, sub_eq_add_neg, Real.exp_add, Real.exp_add, Real.exp_log h]
    congr 1; ring
  · rename_i h
    have : w = 0 := le_antisymm (not_lt.mp h) hw
    subst this
    rw [EReal.bot_sub, Ideal.exp_bot]; simp

theorem exp_sub_coe (a b : ℝ) : Ideal.exp ((a : EReal) - (b : EReal)) = ((Real.exp (a - b) : ℝ) : EReal) := by
  rw [← EReal.coe_sub, Ideal.exp_coe]

/-- A quotient of numbers. -/
theorem div_real (a b : ℝ) (h : b ≠ 0) : Ideal.div (a : EReal) (b : EReal) = ((a / b : ℝ) : EReal) := by
  rw [Ideal.div_coe h, ← EReal.coe_mul]; congr 1; ring

theorem log_real (a : ℝ) (h : 0 < a) : Ideal.log (a : EReal) = ((Real.log a : ℝ) : EReal) := by
  rw [Ideal.log_coe, if_neg (not_le.mpr h)]

end Cert.Proof.Rv

end
-- ==== Proof.AttnBlock.lean ====
/-
  One block of 512 queries against 512 keys, in the forward and in the backward attention call: what a step of the key
  loop computes when its arguments are real numbers and the two tables hold a distance and the logarithm of a weight,
  or plus infinity where the weight is zero.
-/
module

public import proofs.«01_k».proof.Proof.Gen.AttnBwdIdeal.Skeleton
public import proofs.«01_k».proof.Proof.RealValues

@[expose] public section

noncomputable section

open Idealize.ShloMosaic Idealize.ShloMosaic.Pointwise

namespace Cert.Proof.Attn

open Cert.AttnBwdIdeal Cert.AttnBwdIdeal.Gen Cert.Proof.Rv

/-- The score of a query row and a key row at a distance. -/
def score (sl : ℝ) (q k : Fin 128 → ℝ) (dist : ℝ) : ℝ := scale * (∑ d, q d * k d) - sl * dist

/-- What a key block and the two tables hold, for the block of queries `q`. -/
structure Blk (v0 : Vec Ideal S512x128 .bf16) (sl : EReal) (v44 : Vec Ideal S512x128 .bf16)
    (v49 v55 : Vec Ideal S1x512x512 .f32) (q k : Fin 512 → Fin 128 → ℝ) (s : ℝ) (w dist : Fin 512 → Fin 512 → ℝ) : Prop where
  hq : ∀ r d, v0 (ix2 r d) = (q r d : EReal)
  hk : ∀ r d, v44 (ix2 r d) = (k r d : EReal)
  hs : sl = (s : EReal)
  spos : 0 < s
  hw : ∀ r c, 0 ≤ w r c
  hd : ∀ r c, v49 (ix3 0 r c) = if 0 < w r c then (dist r c : EReal) else ⊤
  hl : ∀ r c, v55 (ix3 0 r c) = if 0 < w r c then (Real.log (w r c) : EReal) else 0

theorem masked_of (w sl dist qk : ℝ) (spos : 0 < sl) :
    (qk : EReal) * (scale : EReal) - (sl : EReal) * (if 0 < w then (dist : EReal) else ⊤)
        + (if 0 < w then (Real.log w : EReal) else 0)
      = masked w (scale * qk - sl * dist) := by
  unfold masked
  split
  · rw [← EReal.coe_mul, ← EReal.coe_mul, ← EReal.coe_sub, ← EReal.coe_add]; congr 1; ring
  · rw [EReal.coe_mul_top_of_pos spos, ← EReal.coe_mul, EReal.sub_top, EReal.bot_add]

theorem pay6_apply {v0 v1 v44 v49 v55} {q k : Fin 512 → Fin 128 → ℝ} {s : ℝ} {w dist}
    (B : Blk v0 (v1 (ix3 0 0 0)) v44 v49 v55 q k s w dist) (r c : Fin 512) :
    k0_pay6 v0 v1 v44 v49 v55 (ix2 r c) = masked (w r c) (score s (q r) (k c) (dist r c)) := by
  pointwise [k0_pay6, k0_pay2]
  simp only [B.hq, B.hk, B.hs, B.hd, B.hl, scale_eq]
  simp only [← EReal.coe_mul, ← coe_sum]
  rw [EReal.coe_mul]
  exact masked_of _ _ _ _ B.spos

/-- The weight of a pair times the exponential of its score. -/
def ex (s : ℝ) (q k : Fin 512 → Fin 128 → ℝ) (w dist : Fin 512 → Fin 512 → ℝ) (r c : Fin 512) : ℝ :=
  w r c * Real.exp (score s (q r) (k c) (dist r c))

/-- What the forward loop carries when the rows' sums are `L` and `A`: a running maximum, any real number, and the sums
    over its exponential. -/
def Carried (m l : FVec Ideal S512x1 .f32) (acc : FVec Ideal S512x128 .f32) (L : Fin 512 → ℝ) (A : Fin 512 → Fin 128 → ℝ) : Prop :=
  ∃ M : Fin 512 → ℝ, ∀ r, m (ix2 r 0) = (M r : EReal) ∧ l (ix2 r 0) = ((Real.exp (-M r) * L r : ℝ) : EReal)
    ∧ ∀ d, acc (ix2 r d) = ((Real.exp (-M r) * A r d : ℝ) : EReal)

theorem carried_zero : Carried (k0_pay3 (F := Ideal)) (k0_pay4 (F := Ideal)) (k0_pay5 (F := Ideal)) (fun _ => 0) (fun _ _ => 0) := by
  refine ⟨fun _ => word 0xF149F2CA#32, fun r => ⟨?_, ?_, fun d => ?_⟩⟩
  · pointwise [k0_pay3]; exact word_eq _ (by decide)
  · pointwise [k0_pay4]; simp
  · pointwise [k0_pay5]; simp

/-- The running maximum after a block is a number. -/
theorem pay7_real {v0 v1 v44 v49 v55} {q k : Fin 512 → Fin 128 → ℝ} {s : ℝ} {w dist}
    (B : Blk v0 (v1 (ix3 0 0 0)) v44 v49 v55 q k s w dist) {m : FVec Ideal S512x1 .f32} (r : Fin 512) (M : ℝ)
    (hm : m (ix2 r 0) = (M : EReal)) : ∃ M' : ℝ, k0_pay7 v0 v1 m v44 v49 v55 (ix2 r 0) = (M' : EReal) := by
  pointwise [k0_pay7]
  simp only [pay6_apply B, word_bot, hm]
  exact max_fold_real _ _ _ fun c => masked_ne_top _ _

/-- The exponentials of a block's scores, over the new maximum. -/
theorem pay9_apply {v0 v1 v44 v49 v55} {q k : Fin 512 → Fin 128 → ℝ} {s : ℝ} {w dist}
    (B : Blk v0 (v1 (ix3 0 0 0)) v44 v49 v55 q k s w dist) {m : FVec Ideal S512x1 .f32} (r c : Fin 512) (M : ℝ)
    (hm : k0_pay7 v0 v1 m v44 v49 v55 (ix2 r 0) = (M : EReal)) :
    k0_pay9 v0 v1 m v44 v49 v55 (ix2 r c) = ((Real.exp (-M) * ex s q k w dist r c : ℝ) : EReal) := by
  pointwise [k0_pay9]
  rw [pay6_apply B, hm, exp_masked _ _ _ (B.hw r c)]
  unfold ex; congr 1; ring

/-- The factor that carries the sums from the old maximum to the new one. -/
theorem pay8_apply {v0 v1 v44 v49 v55} {m : FVec Ideal S512x1 .f32} (r : Fin 512) (M M' : ℝ) (hm : m (ix2 r 0) = (M : EReal))
    (hm' : k0_pay7 v0 v1 m v44 v49 v55 (ix2 r 0) = (M' : EReal)) :
    k0_pay8 v0 v1 m v44 v49 v55 (ix2 r 0) = ((Real.exp (M - M') : ℝ) : EReal) := by
  pointwise [k0_pay8]
  rw [hm, hm', exp_sub_coe]

/-- One step of the forward loop adds the block's exponentials to the rows' sums. -/
theorem carried_step {v0 v1 v44 v49 v55 v74} {q k v : Fin 512 → Fin 128 → ℝ} {s : ℝ} {w dist}
    (B : Blk v0 (v1 (ix3 0 0 0)) v44 v49 v55 q k s w dist) (hv : ∀ r d, v74 (ix2 r d) = (v r d : EReal))
    {m l acc} {L : Fin 512 → ℝ} {A : Fin 512 → Fin 128 → ℝ} (h : Carried m l acc L A) :
    Carried (k0_pay7 v0 v1 m v44 v49 v55) (k0_pay10 v0 v1 m l v44 v49 v55) (k0_pay11 v0 v1 m acc v44 v49 v55 v74)
      (fun r => L r + ∑ c, ex s q k w dist r c) (fun r d => A r d + ∑ c, ex s q k w dist r c * v c d) := by
  obtain ⟨M, hM⟩ := h
  choose M' hM' using fun r => pay7_real B (m := m) r (M r) (hM r).1
  refine ⟨M', fun r => ⟨hM' r, ?_, fun d => ?_⟩⟩
  · pointwise [k0_pay10]
    simp only [pay8_apply r _ _ (hM r).1 (hM' r), pay9_apply B r _ _ (hM' r), (hM r).2.1, ← EReal.coe_mul, ← coe_sum, ← EReal.coe_add]
    congr 1
    rw [← mul_assoc, ← Real.exp_add, ← Finset.mul_sum, mul_add]
    congr 3; ring
  · pointwise [k0_pay11]
    simp only [pay8_apply r _ _ (hM r).1 (hM' r), pay9_apply B r _ _ (hM' r), (hM r).2.2, hv, ← EReal.coe_mul, ← coe_sum, ← EReal.coe_add]
    congr 1
    rw [← mul_assoc, ← Real.exp_add, mul_add, Finset.mul_sum]
    congr 1
    · congr 2; ring
    · exact Finset.sum_congr rfl fun c _ => by ring

/-- The output rows from the sums. -/
theorem pay18_apply {m l acc L A} (h : Carried m l acc L A) (r : Fin 512) (d : Fin 128) (hL : 0 < L r) :
    k0_pay18 l acc (ix2 r d) = ((A r d / L r : ℝ) : EReal) := by
  obtain ⟨M, hM⟩ := h
  pointwise [k0_pay18]
  have h0 := Real.exp_pos (-M r)
  rw [(hM r).2.1, (hM r).2.2, div_real _ _ (by positivity), mul_div_mul_left _ _ h0.ne']

/-- The logarithm of the rows' sums. -/
theorem pay1_apply {m l acc L A} (h : Carried m l acc L A) (r : Fin 512) (hL : 0 < L r) :
    k0_pay1 m (k0_pay19 l) (ix3 0 r 0) = ((Real.log (L r) : ℝ) : EReal) := by
  obtain ⟨M, hM⟩ := h
  pointwise [k0_pay1, k0_pay19]
  have h0 := Real.exp_pos (-M r)
  rw [(hM r).1, (hM r).2.1, log_real _ (by positivity), ← EReal.coe_add, Real.log_mul h0.ne' hL.ne', Real.log_exp]
  congr 1; ring

/-! ## The backward block -/

/-- The probabilities of a block, from the rows' log-sums. -/
theorem bpay7_apply {v0 v4 v6 v44 v49 v55} {q k : Fin 512 → Fin 128 → ℝ} {s : ℝ} {w dist}
    (B : Blk v0 (v4 (ix2 0 0)) v44 v49 v55 q k s w dist) {L : Fin 512 → ℝ} (hL : ∀ r, 0 < L r)
    (hl : ∀ r, v6 (ix2 r 0) = ((Real.log (L r) : ℝ) : EReal)) (r c : Fin 512) :
    k1_pay7 v0 v4 v6 v44 v49 v55 (ix2 r c) = ((ex s q k w dist r c / L r : ℝ) : EReal) := by
  pointwise [k1_pay7]
  simp only [B.hq, B.hk, B.hs, B.hd, B.hl, scale_eq, hl]
  simp only [← EReal.coe_mul, ← coe_sum]
  rw [EReal.coe_mul, masked_of _ _ _ _ B.spos, exp_masked _ _ _ (B.hw r c), Real.exp_neg, Real.exp_log (hL r)]
  rfl

/-- The gradient of a block's scores. -/
def ds (s : ℝ) (q k v go : Fin 512 → Fin 128 → ℝ) (w dist : Fin 512 → Fin 512 → ℝ) (L dl : Fin 512 → ℝ) (r c : Fin 512) : ℝ :=
  ex s q k w dist r c / L r * ((∑ d, go r d * v c d) - dl r)

theorem bpay8_apply {v0 v2 v4 v6 v11 v44 v49 v55 v67} {q k v go : Fin 512 → Fin 128 → ℝ} {s : ℝ} {w dist}
    (B : Blk v0 (v4 (ix2 0 0)) v44 v49 v55 q k s w dist) {L dl : Fin 512 → ℝ} (hL : ∀ r, 0 < L r)
    (hl : ∀ r, v6 (ix2 r 0) = ((Real.log (L r) : ℝ) : EReal)) (hdl : ∀ r, v11 (ix2 r 0) = (dl r : EReal))
    (hgo : ∀ r d, v2 (ix2 r d) = (go r d : EReal)) (hv : ∀ r d, v67 (ix2 r d) = (v r d : EReal)) (r c : Fin 512) :
    k1_pay8 v0 v2 v4 v6 v11 v44 v49 v55 v67 (ix2 r c) = (ds s q k v go w dist L dl r c : EReal) := by
  pointwise [k1_pay8]
  simp only [bpay7_apply B hL hl, hdl, hgo, hv, ← EReal.coe_mul, ← coe_sum, ← EReal.coe_sub]
  rfl

/-- The update of the keys' gradient. -/
theorem bpay9_apply {v0 v2 v4 v6 v11 v44 v49 v55 v67 v74} {q k v go : Fin 512 → Fin 128 → ℝ} {s : ℝ} {w dist}
    (B : Blk v0 (v4 (ix2 0 0)) v44 v49 v55 q k s w dist) {L dl : Fin 512 → ℝ} (hL : ∀ r, 0 < L r)
    (hl : ∀ r, v6 (ix2 r 0) = ((Real.log (L r) : ℝ) : EReal)) (hdl : ∀ r, v11 (ix2 r 0) = (dl r : EReal))
    (hgo : ∀ r d, v2 (ix2 r d) = (go r d : EReal)) (hv : ∀ r d, v67 (ix2 r d) = (v r d : EReal)) (c : Fin 512) (d : Fin 128)
    (a : ℝ) (ha : v74 (ix2 c d) = (a : EReal)) :
    k1_pay9 v0 v2 v4 v6 v11 v44 v49 v55 v67 v74 (ix2 c d)
      = ((a + scale * ∑ r, ds s q k v go w dist L dl r c * q r d : ℝ) : EReal) := by
  pointwise [k1_pay9]
  simp only [bpay8_apply B hL hl hdl hgo hv, ha, B.hq, scale_eq, ← EReal.coe_mul, ← coe_sum, ← EReal.coe_add]
  congr 1; ring

/-- The update of the values' gradient. -/
theorem bpay2_apply {v0 v2 v4 v6 v44 v49 v55 v83} {q k go : Fin 512 → Fin 128 → ℝ} {s : ℝ} {w dist}
    (B : Blk v0 (v4 (ix2 0 0)) v44 v49 v55 q k s w dist) {L : Fin 512 → ℝ} (hL : ∀ r, 0 < L r)
    (hl : ∀ r, v6 (ix2 r 0) = ((Real.log (L r) : ℝ) : EReal)) (hgo : ∀ r d, v2 (ix2 r d) = (go r d : EReal)) (c : Fin 512)
    (d : Fin 128) (a : ℝ) (ha : v83 (ix2 c d) = (a : EReal)) :
    k1_pay2 v2 (k1_pay10 v83) (k1_pay11 v0 v4 v6 v44 v49 v55) (ix2 c d)
      = ((a + ∑ r, ex s q k w dist r c / L r * go r d : ℝ) : EReal) := by
  pointwise [k1_pay2, k1_pay10, k1_pay11]
  simp only [bpay7_apply B hL hl, ha, hgo, ← EReal.coe_mul, ← coe_sum, ← EReal.coe_add]

/-- The update of the queries' gradient. -/
theorem bpay3_apply {v0 v2 v4 v6 v11 v44 v49 v55 v67 v91 acc} {q k v go : Fin 512 → Fin 128 → ℝ} {s : ℝ} {w dist}
    (B : Blk v0 (v4 (ix2 0 0)) v44 v49 v55 q k s w dist) {L dl : Fin 512 → ℝ} (hL : ∀ r, 0 < L r)
    (hl : ∀ r, v6 (ix2 r 0) = ((Real.log (L r) : ℝ) : EReal)) (hdl : ∀ r, v11 (ix2 r 0) = (dl r : EReal))
    (hgo : ∀ r d, v2 (ix2 r d) = (go r d : EReal)) (hv : ∀ r d, v67 (ix2 r d) = (v r d : EReal))
    (hk : ∀ r d, v91 (ix2 r d) = (k r d : EReal)) (r : Fin 512) (d : Fin 128) (a : ℝ) (ha : acc (ix2 r d) = (a : EReal)) :
    k1_pay3 acc (k1_pay8 v0 v2 v4 v6 v11 v44 v49 v55 v67) v91 (ix2 r d)
      = ((a + ∑ c, ds s q k v go w dist L dl r c * k c d : ℝ) : EReal) := by
  pointwise [k1_pay3]
  simp only [bpay8_apply B hL hl hdl hgo hv, ha, hk, ← EReal.coe_mul, ← coe_sum, ← EReal.coe_add]

/-- The row sums of the output's gradient times the output. -/
theorem bpay20_apply {v1 v7 : FVec Ideal S512x128 .f32} {go o : Fin 512 → Fin 128 → ℝ} (hgo : ∀ r d, v1 (ix2 r d) = (go r d : EReal))
    (ho : ∀ r d, v7 (ix2 r d) = (o r d : EReal)) (r : Fin 512) :
    (k1_pay20 (F := Ideal) v1 v7 (ix2 r 0) : EReal) = ((∑ d, go r d * o r d : ℝ) : EReal) := by
  pointwise [k1_pay20]
  simp only [hgo, ho, ← EReal.coe_mul, ← coe_sum]

theorem bpay6_apply {v40 : FVec Ideal S512x128 .f32} (r : Fin 512) (d : Fin 128) (a : ℝ) (ha : v40 (ix2 r d) = (a : EReal)) :
    k1_pay6 v40 (ix2 r d) = ((scale * a : ℝ) : EReal) := by
  pointwise [k1_pay6]
  rw [ha, scale_eq, ← EReal.coe_mul, mul_comm]

end Cert.Proof.Attn

end
-- ==== Proof.AttnForward.lean ====
/-
  The forward attention call: its loop over the key blocks, the blocks of output and log-sum it leaves at a grid point.
-/
module

public import proofs.«01_k».proof.Proof.Gen.AttnBwdIdeal.Frame
public import proofs.«01_k».proof.Proof.AttnBlock
public import Idealize.ShloMosaic.Lib.Pipeline.ValueKit.Acc
public import Idealize.ShloMosaic.Lib.Pipeline.ValueKit.Geometry
public import Idealize.ShloMosaic.Lib.WholeRead

@[expose] public section

noncomputable section

open Idealize.ShloMosaic Idealize.ShloMosaic.TcCoe Idealize.SL.Sem Idealize.ShloMosaic.Pointwise

namespace Cert.Proof.Attn

open Cert.AttnBwdIdeal Cert.AttnBwdIdeal.Gen Cert.Proof.Rv

/-! ## The loop's words -/

theorem trips_fwd (i : grid0.Coords) : (k0_t1_loop i).trips = (i 1).val + 1 := by
  have h : ∀ b : Fin 4, (k0_t1_loop (fun a => match a with | ⟨0, _⟩ => (0 : Fin 8) | ⟨1, _⟩ => b)).trips = b.val + 1 := by
    decide +kernel
  exact h (i 1)

theorem rest_fwd (i : grid0.Coords) : (k0_t2_loop i).trips = 0 := by
  have h : ∀ b : Fin 4, (k0_t2_loop (fun a => match a with | ⟨0, _⟩ => (0 : Fin 8) | ⟨1, _⟩ => b)).trips = 0 := by
    decide +kernel
  exact h (i 1)

theorem trip_lt {i : grid0.Coords} (k : Fin (k0_t1_loop i).trips) : k.val < 4 :=
  lt_of_lt_of_le k.isLt (by rw [trips_fwd]; exact (i 1).isLt)

theorem trip_le {i : grid0.Coords} (k : Fin (k0_t1_loop i).trips) : k.val ≤ (i 1).val :=
  Nat.lt_succ_iff.mp (lt_of_lt_of_eq k.isLt (trips_fwd i))

theorem row_word : ∀ a : Fin 4, (Scalar.indexCast (Scalar.muli (Scf.iv 0#32 1#32 a.val) 512#32)).toNat = 512 * a.val := by decide

theorem gap_word : ∀ b a : Fin 4, a ≤ b →
    (Scalar.indexCast (Scalar.subi (BitVec.ofNat 32 b.val) (Scalar.muli (Scf.iv 0#32 1#32 a.val) 1#32))).toNat = b.val - a.val := by
  decide

theorem off1_fwd (i : grid0.Coords) (k : Fin (k0_t1_loop i).trips) : k0_off1 i k = ![512 * k.val, 0] := by
  unfold k0_off1; dsimp only; rw [show _ = _ from row_word ⟨k.val, trip_lt k⟩]

theorem off2_fwd (i : grid0.Coords) (k : Fin (k0_t1_loop i).trips) : k0_off2 i k = ![(i 1).val - k.val, 0, 0] := by
  unfold k0_off2; dsimp only; rw [show _ = _ from gap_word (i 1) ⟨k.val, trip_lt k⟩ (trip_le k)]

/-! ## A load of part of a whole buffer -/

/-- A load of 512 rows of 2048. -/
theorem load_rows {e : EltTy} {m : Memref sig .tc .vmem S2048x128 e} (h : m.IsWhole) (X : S2048x128.Idx → Elt Ideal e)
    {off : Fin 2 → ℕ} (inb : ∀ a, off a + S512x128.size a ≤ S2048x128.size a) {n : ℕ} (ho : off = ![n, 0])
    (r : Fin 512) (d : Fin 128) (hn : n + r.val < 2048) :
    View.readAt (Elt Ideal) m.view (Rect.unit (s := S2048x128) off S512x128.size inb).toLoadRect (h.unread X) (ix2 r d)
      = X (ix2 ⟨n + r.val, hn⟩ d) := by
  subst ho
  rw [h.readAt_unread]
  refine congrArg X ?_
  idx_ext

/-- A load of one plane of a table of four. -/
theorem load_plane {e : EltTy} {m : Memref sig .tc .vmem S4x512x512 e} (h : m.IsWhole) (X : S4x512x512.Idx → Elt Ideal e)
    {off : Fin 3 → ℕ} (inb : ∀ a, off a + S1x512x512.size a ≤ S4x512x512.size a) {n : ℕ} (ho : off = ![n, 0, 0])
    (r c : Fin 512) (hn : n < 4) :
    View.readAt (Elt Ideal) m.view (Rect.unit (s := S4x512x512) off S1x512x512.size inb).toLoadRect (h.unread X) (ix3 0 r c)
      = X (ix3 ⟨n, hn⟩ r c) := by
  subst ho
  rw [h.readAt_unread]
  refine congrArg X ?_
  idx_ext

/-! ## Sums over the key blocks seen so far -/

theorem sum_upto_succ (f : Fin 4 → ℝ) (n : ℕ) (h : n < 4) :
    (∑ j : Fin 4, if j.val < n + 1 then f j else 0) = (∑ j : Fin 4, if j.val < n then f j else 0) + f ⟨n, h⟩ := by
  interval_cases n <;> simp [Fin.sum_univ_four]

/-- The rows of one block of 512. -/
def rows (X : Fin 2048 → Fin 128 → ℝ) (j : Fin 4) (r : Fin 512) : Fin 128 → ℝ := X ⟨512 * j.val + r.val, by omega⟩

/-- The two tables: at a gap of blocks, a row and a column, the distance and the logarithm of the weight. -/
structure Tables (x4 x5 : Vec Ideal S4x512x512 .f32) (W D : Fin 4 → Fin 512 → Fin 512 → ℝ) : Prop where
  pos : ∀ o r c, 0 ≤ W o r c
  dist : ∀ o r c, x4 (ix3 o r c) = if 0 < W o r c then (D o r c : EReal) else ⊤
  lmul : ∀ o r c, x5 (ix3 o r c) = if 0 < W o r c then (Real.log (W o r c) : EReal) else 0

/-- The gap between two blocks. -/
def gap (b j : Fin 4) : Fin 4 := ⟨b.val - j.val, by omega⟩

section Loop

variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1x1x128 .f32) (harg5 : arg5.IsWhole) (arg6 : Memref sig .tc .vmem S4x512x512 .f32) (harg6 : arg6.IsWhole) (arg7 : Memref sig .tc .vmem S4x512x512 .f32) (harg7 : arg7.IsWhole) (arg8 : Memref sig .tc .vmem S512x128 .f32) (harg8 : arg8.IsWhole) (arg9 : Memref sig .tc .vmem S1x512x1 .f32) (harg9 : arg9.IsWhole)
  (x0 : Vec Ideal S512x128 .bf16) (x1 x2 : Vec Ideal S2048x128 .bf16) (x3 : Vec Ideal S1x1x128 .f32) (x4 x5 : Vec Ideal S4x512x512 .f32)

/-- What the loop carries before trip `n`. -/
def fwdSt (n : ℕ) : FVec Ideal S512x1 .f32 × FVec Ideal S512x1 .f32 × FVec Ideal S512x128 .f32 :=
  st_k0_t1 (F := Ideal) Variants.none c none i arg2 harg2 arg3 harg3 arg4 harg4 arg5 harg5 arg6 harg6 arg7 harg7 arg8 harg8 arg9 harg9
    x0 (View.ld x3 (Rect.unit ![0, 0, 0] ![1, 1, 1] inb_S1x1x128_S1x1x1_0_0_0)) (harg3.unread x1) (harg4.unread x2)
    (harg6.unread x4) (harg7.unread x5) (k0_pay3, k0_pay4, k0_pay5) n

theorem slope_ld (s : ℝ) (h : x3 (ix3 0 0 0) = (s : EReal)) :
    View.ld x3 (Rect.unit ![0, 0, 0] ![1, 1, 1] inb_S1x1x128_S1x1x1_0_0_0) (ix3 (0 : Fin 1) (0 : Fin 1) (0 : Fin 1)) = (s : EReal) := by
  rw [← h]
  refine congrArg x3 ?_
  idx_ext

variable {x0 x1 x2 x3 x4 x5} {Q : Fin 512 → Fin 128 → ℝ} {K V : Fin 2048 → Fin 128 → ℝ} {s : ℝ} {W D : Fin 4 → Fin 512 → Fin 512 → ℝ}

/-- The loop before trip `n` carries the sums over the first `n` key blocks. -/
theorem fwd_carried (hq : ∀ r d, x0 (ix2 r d) = (Q r d : EReal)) (hk : ∀ r d, x1 (ix2 r d) = (K r d : EReal))
    (hv : ∀ r d, x2 (ix2 r d) = (V r d : EReal)) (hs : x3 (ix3 0 0 0) = (s : EReal)) (spos : 0 < s) (T : Tables x4 x5 W D)
    (n : ℕ) (hn : n ≤ (i 1).val + 1) :
    Carried (fwdSt c i arg2 harg2 arg3 harg3 arg4 harg4 arg5 harg5 arg6 harg6 arg7 harg7 arg8 harg8 arg9 harg9 x0 x1 x2 x3 x4 x5 n).1 (fwdSt c i arg2 harg2 arg3 harg3 arg4 harg4 arg5 harg5 arg6 harg6 arg7 harg7 arg8 harg8 arg9 harg9 x0 x1 x2 x3 x4 x5 n).2.1 (fwdSt c i arg2 harg2 arg3 harg3 arg4 harg4 arg5 harg5 arg6 harg6 arg7 harg7 arg8 harg8 arg9 harg9 x0 x1 x2 x3 x4 x5 n).2.2
      (fun r => ∑ j : Fin 4, if j.val < n then ∑ c, ex s Q (rows K j) (W (gap (i 1) j)) (D (gap (i 1) j)) r c else 0)
      (fun r d => ∑ j : Fin 4, if j.val < n then ∑ c, ex s Q (rows K j) (W (gap (i 1) j)) (D (gap (i 1) j)) r c * rows V j c d else 0) := by
  induction n with
  | zero =>
    simp only [Nat.not_lt_zero, if_false, Finset.sum_const_zero]
    exact carried_zero
  | succ n ih =>
    have ht : n < (k0_t1_loop i).trips := by rw [trips_fwd]; omega
    have h4 : n < 4 := trip_lt ⟨n, ht⟩
    have hb : (i 1).val < 4 := (i 1).isLt
    have step := st_k0_t1_succ (F := Ideal) Variants.none c none i arg2 harg2 arg3 harg3 arg4 harg4 arg5 harg5 arg6 harg6 arg7 harg7 arg8 harg8 arg9 harg9
      x0 (View.ld x3 (Rect.unit ![0, 0, 0] ![1, 1, 1] inb_S1x1x128_S1x1x1_0_0_0)) (harg3.unread x1) (harg4.unread x2)
      (harg6.unread x4) (harg7.unread x5) (k0_pay3, k0_pay4, k0_pay5) ⟨n, ht⟩
    unfold tripR_k0_t1 trip_k0_t1 at step
    dsimp only at step
    unfold fwdSt at ih ⊢
    rw [step]
    simp only [sum_upto_succ _ n h4]
    refine carried_step ⟨hq, fun r d => ?_, slope_ld x3 s hs, spos, fun r c => T.pos _ r c, fun r c => ?_, fun r c => ?_⟩ (fun r d => ?_) (ih (by omega))
    · rw [load_rows harg3 x1 _ (off1_fwd i ⟨n, ht⟩) r d (by dsimp only; omega), hk]; rfl
    · rw [load_plane harg6 x4 _ (off2_fwd i ⟨n, ht⟩) r c (by dsimp only; omega), T.dist]; rfl
    · rw [load_plane harg7 x5 _ (off2_fwd i ⟨n, ht⟩) r c (by dsimp only; omega), T.lmul]; rfl
    · rw [load_rows harg4 x2 _ (off1_fwd i ⟨n, ht⟩) r d (by dsimp only; omega), hv]; rfl

/-- The two blocks the call leaves, from what its loop carries in the end. -/
theorem fwd_out : out0_A_6 (F := Ideal) c i arg2 harg2 arg3 harg3 arg4 harg4 arg5 harg5 arg6 harg6 arg7 harg7 arg8 harg8 arg9 harg9 x0 x1 x2 x3 x4 x5 = k0_pay18 (fwdSt c i arg2 harg2 arg3 harg3 arg4 harg4 arg5 harg5 arg6 harg6 arg7 harg7 arg8 harg8 arg9 harg9 x0 x1 x2 x3 x4 x5 ((i 1).val + 1)).2.1 (fwdSt c i arg2 harg2 arg3 harg3 arg4 harg4 arg5 harg5 arg6 harg6 arg7 harg7 arg8 harg8 arg9 harg9 x0 x1 x2 x3 x4 x5 ((i 1).val + 1)).2.2
    ∧ out0_A_7 (F := Ideal) c i arg2 harg2 arg3 harg3 arg4 harg4 arg5 harg5 arg6 harg6 arg7 harg7 arg8 harg8 arg9 harg9 x0 x1 x2 x3 x4 x5 = k0_pay1 (fwdSt c i arg2 harg2 arg3 harg3 arg4 harg4 arg5 harg5 arg6 harg6 arg7 harg7 arg8 harg8 arg9 harg9 x0 x1 x2 x3 x4 x5 ((i 1).val + 1)).1 (k0_pay19 (fwdSt c i arg2 harg2 arg3 harg3 arg4 harg4 arg5 harg5 arg6 harg6 arg7 harg7 arg8 harg8 arg9 harg9 x0 x1 x2 x3 x4 x5 ((i 1).val + 1)).2.1) := by
  have e : ∀ X, st_k0_t2 (F := Ideal) Variants.none c none i arg2 harg2 arg3 harg3 arg4 harg4 arg5 harg5 arg6 harg6 arg7 harg7 arg8 harg8 arg9 harg9
      x0 (View.ld x3 (Rect.unit ![0, 0, 0] ![1, 1, 1] inb_S1x1x128_S1x1x1_0_0_0)) (harg3.unread x1) (harg4.unread x2)
      (harg6.unread x4) (harg7.unread x5) X (k0_t2_loop i).trips = X := fun X => by rw [rest_fwd]; exact st_k0_t2_zero ..
  rw [← trips_fwd]
  have hS : fwdSt c i arg2 harg2 arg3 harg3 arg4 harg4 arg5 harg5 arg6 harg6 arg7 harg7 arg8 harg8 arg9 harg9 x0 x1 x2 x3 x4 x5 (k0_t1_loop i).trips = _ := (e (fwdSt c i arg2 harg2 arg3 harg3 arg4 harg4 arg5 harg5 arg6 harg6 arg7 harg7 arg8 harg8 arg9 harg9 x0 x1 x2 x3 x4 x5 (k0_t1_loop i).trips)).symm
  unfold fwdSt at hS ⊢
  rw [hS]
  constructor
  · frame_out
  · frame_out

end Loop

end Cert.Proof.Attn

end
-- ==== Proof.AttnBackward.lean ====
/-
  The backward attention call: its loop over the key blocks, the blocks of gradient it leaves at a grid point.
-/
module

public import proofs.«01_k».proof.Proof.AttnForward
public import Idealize.ShloMosaic.Lib.WritesUnit

@[expose] public section

noncomputable section

open Idealize.ShloMosaic Idealize.ShloMosaic.TcCoe Idealize.SL.Sem Idealize.ShloMosaic.Pointwise

namespace Cert.Proof.Attn

open Cert.AttnBwdIdeal Cert.AttnBwdIdeal.Gen Cert.Proof.Rv

/-! ## The loop's words -/

theorem trips_bwd (i : grid1.Coords) : (k1_t1_loop i).trips = (i 1).val + 1 := by
  have h : ∀ b : Fin 4, (k1_t1_loop (fun a => match a with | ⟨0, _⟩ => (0 : Fin 8) | ⟨1, _⟩ => b)).trips = b.val + 1 := by
    decide +kernel
  exact h (i 1)

theorem rest_bwd (i : grid1.Coords) : (k1_t2_loop i).trips = 0 := by
  have h : ∀ b : Fin 4, (k1_t2_loop (fun a => match a with | ⟨0, _⟩ => (0 : Fin 8) | ⟨1, _⟩ => b)).trips = 0 := by
    decide +kernel
  exact h (i 1)

theorem btrip_lt {i : grid1.Coords} (k : Fin (k1_t1_loop i).trips) : k.val < 4 :=
  lt_of_lt_of_le k.isLt (by rw [trips_bwd]; exact (i 1).isLt)

theorem btrip_le {i : grid1.Coords} (k : Fin (k1_t1_loop i).trips) : k.val ≤ (i 1).val :=
  Nat.lt_succ_iff.mp (lt_of_lt_of_eq k.isLt (trips_bwd i))

theorem off1_bwd (i : grid1.Coords) (k : Fin (k1_t1_loop i).trips) : k1_off1 i k = ![512 * k.val, 0] := by
  unfold k1_off1; dsimp only; rw [show _ = _ from row_word ⟨k.val, btrip_lt k⟩]

theorem off2_bwd (i : grid1.Coords) (k : Fin (k1_t1_loop i).trips) : k1_off2 i k = ![(i 1).val - k.val, 0, 0] := by
  unfold k1_off2; dsimp only; rw [show _ = _ from gap_word (i 1) ⟨k.val, btrip_lt k⟩ (btrip_le k)]

/-! ## Blocks of rows written over a buffer -/

/-- The row of a block. -/
def row (j : Fin 4) (r : Fin 512) : Fin 2048 := ⟨512 * j.val + r.val, by omega⟩

/-- After writing 512 rows, those rows read what was written and the others what was there. -/
theorem put_rows {κ : Kind} {sp : Space} {e : EltTy} (v : View sig κ sp S2048x128 e) (f : v.ty.Contents (Elt Ideal))
    {off : Fin 2 → ℕ} (inb : ∀ a, off a + S512x128.size a ≤ S2048x128.size a) (w : S512x128.Idx → Elt Ideal e)
    (L : List (View.Piece (Elt Ideal) S2048x128 e)) (n j : Fin 4) (ho : off = ![512 * n.val, 0]) (c : Fin 512) (d : Fin 128) :
    v.read (Elt Ideal) (v.writes (Elt Ideal) f ((⟨Rect.unit (s := S2048x128) off S512x128.size inb, w⟩ : View.Piece (Elt Ideal) S2048x128 e) :: L)) (ix2 (row j c) d)
      = if j = n then w (ix2 c d) else v.read (Elt Ideal) (v.writes (Elt Ideal) f L) (ix2 (row j c) d) := by
  split
  · rename_i h
    subst h
    exact View.read_writes_cons_rows_of_mem v f inb w L (ix2 (row j c) d) (ix2 c d) ho rfl rfl
  · rename_i h
    refine View.read_writes_cons_rows_of_not_mem v f inb w L (ix2 (row j c) d) ho (W := 512) rfl ?_
    have h' : j.val ≠ n.val := fun e => h (Fin.ext e)
    show 512 * j.val + c.val < 512 * n.val ∨ 512 * n.val + 512 ≤ 512 * j.val + c.val
    omega

/-- A load of 512 rows of 2048, the buffer at any contents. -/
theorem get_rows {κ : Kind} {sp : Space} {e : EltTy} (v : View sig κ sp S2048x128 e) (f : v.ty.Contents (Elt Ideal))
    {off : Fin 2 → ℕ} (inb : ∀ a, off a + S512x128.size a ≤ S2048x128.size a) (n : Fin 4) (ho : off = ![512 * n.val, 0])
    (c : Fin 512) (d : Fin 128) :
    View.readAt (Elt Ideal) v (Rect.unit (s := S2048x128) off S512x128.size inb).toLoadRect f (ix2 c d)
      = v.read (Elt Ideal) f (ix2 (row n c) d) := by
  subst ho
  show v.read (Elt Ideal) f _ = _
  refine congrArg (v.read (Elt Ideal) f) (funext (Fin.forall_fin_two.mpr ⟨Fin.ext ?_, Fin.ext ?_⟩))
  · show 512 * n.val + 1 * c.val = 512 * n.val + c.val
    rw [one_mul]
  · show 0 + 1 * d.val = d.val
    rw [one_mul, zero_add]

/-- What a block of queries brings to the backward loop. -/
structure Row (v0 : Vec Ideal S512x128 .bf16) (v2 : FVec Ideal S512x128 .bf16) (v4 : FVec Ideal S1x1 .f32)
    (v6 v11 : FVec Ideal S512x1 .f32) (Q GO : Fin 512 → Fin 128 → ℝ) (s : ℝ) (L dl : Fin 512 → ℝ) : Prop where
  q : ∀ r d, v0 (ix2 r d) = (Q r d : EReal)
  go : ∀ r d, v2 (ix2 r d) = (GO r d : EReal)
  sl : v4 (ix2 0 0) = (s : EReal)
  spos : 0 < s
  pos : ∀ r, 0 < L r
  lse : ∀ r, v6 (ix2 r 0) = ((Real.log (L r) : ℝ) : EReal)
  dl : ∀ r, v11 (ix2 r 0) = (dl r : EReal)

theorem zero_row (r : Fin 512) (d : Fin 128) : (k1_pay1 (F := Ideal) (Scalar.ofBits .f32 0x00000000#32) (ix2 r d) : EReal) = 0 := by
  pointwise [k1_pay1]

section Loop

variable (dev : Dev nD) (i : grid1.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S1x512x1 .f32) (harg6 : arg6.IsWhole) (arg7 : Memref sig .tc .vmem S512x128 .f32) (harg7 : arg7.IsWhole) (arg8 : Memref sig .tc .vmem S1x1x128 .f32) (harg8 : arg8.IsWhole) (arg9 : Memref sig .tc .vmem S4x512x512 .f32) (harg9 : arg9.IsWhole) (arg10 : Memref sig .tc .vmem S4x512x512 .f32) (harg10 : arg10.IsWhole) (arg11 : Memref sig .tc .vmem S512x128 .f32) (harg11 : arg11.IsWhole) (arg12 : Memref sig .tc .vmem S2048x128 .f32) (harg12 : arg12.IsWhole) (arg13 : Memref sig .tc .vmem S2048x128 .f32) (harg13 : arg13.IsWhole)
  (v0 : Vec Ideal S512x128 .bf16) (v2 : FVec Ideal S512x128 .bf16) (v4 : FVec Ideal S1x1 .f32) (v6 v11 : FVec Ideal S512x1 .f32)
  (x1 x2 : Vec Ideal S2048x128 .bf16) (x7 x8 : Vec Ideal S4x512x512 .f32)
  (G10 : BufTy.Contents (Elt Ideal) arg12.view.ty) (G11 : BufTy.Contents (Elt Ideal) arg13.view.ty)

/-- What the loop has done before trip `n`: the queries' gradient it carries and the blocks it has written. -/
def bwdSt (n : ℕ) : FVec Ideal S512x128 .f32 × List (View.Piece (Elt Ideal) S2048x128 .f32) × List (View.Piece (Elt Ideal) S2048x128 .f32) :=
  st_k1_t1 (F := Ideal) Variants.none dev none i arg2 harg2 arg3 harg3 arg4 harg4 arg5 harg5 arg6 harg6 arg7 harg7 arg8 harg8 arg9 harg9 arg10 harg10 arg11 harg11 arg12 harg12 arg13 harg13 (BitVec.ofNat 32 (i 1).val) v0 v2 v4 v6 v11
    (harg3.unread x1) (harg4.unread x2) (harg9.unread x7) (harg10.unread x8) G10 G11 (k1_pay1 (Scalar.ofBits .f32 0x00000000#32)) n

variable {v0 v2 v4 v6 v11 x1 x2 x7 x8 G10 G11} {Q GO : Fin 512 → Fin 128 → ℝ} {K V : Fin 2048 → Fin 128 → ℝ} {s : ℝ}
  {W D : Fin 4 → Fin 512 → Fin 512 → ℝ} {L dl : Fin 512 → ℝ} {a10 a11 : Fin 4 → Fin 512 → Fin 128 → ℝ}

/-- A loop of no trips leaves what it was given. -/
theorem rest_nil (b a : BitVec 32) (X3 X4) (X9 X10) (G12 G13) (init : FVec Ideal S512x128 .f32) (n : ℕ) (h : n = 0) :
    st_k1_t2 (F := Ideal) Variants.none dev none i arg2 harg2 arg3 harg3 arg4 harg4 arg5 harg5 arg6 harg6 arg7 harg7 arg8 harg8 arg9 harg9 arg10 harg10 arg11 harg11 arg12 harg12 arg13 harg13 a v0 v2 v4 v6 v11 b X3 X4 X9 X10 G12 G13 init n = (init, [], []) := by
  subst h; rfl

/-- The scores' gradient of one block of keys. -/
def bds (b : Fin 4) (Q GO : Fin 512 → Fin 128 → ℝ) (K V : Fin 2048 → Fin 128 → ℝ) (s : ℝ) (W D : Fin 4 → Fin 512 → Fin 512 → ℝ)
    (L dl : Fin 512 → ℝ) (j : Fin 4) (r c : Fin 512) : ℝ :=
  ds s Q (rows K j) (rows V j) GO (W (gap b j)) (D (gap b j)) L dl r c

/-- The probabilities of one block of keys. -/
def bpr (b : Fin 4) (Q : Fin 512 → Fin 128 → ℝ) (K : Fin 2048 → Fin 128 → ℝ) (s : ℝ) (W D : Fin 4 → Fin 512 → Fin 512 → ℝ)
    (L : Fin 512 → ℝ) (j : Fin 4) (r c : Fin 512) : ℝ :=
  ex s Q (rows K j) (W (gap b j)) (D (gap b j)) r c / L r

/-- Before trip `n` the loop carries the sum over the first `n` key blocks, and has added to the rows of those blocks. -/
theorem bwd_state (R : Row v0 v2 v4 v6 v11 Q GO s L dl) (hk : ∀ r d, x1 (ix2 r d) = (K r d : EReal))
    (hv : ∀ r d, x2 (ix2 r d) = (V r d : EReal)) (T : Tables x7 x8 W D)
    (h10 : ∀ j c d, (arg12.view.read (Elt Ideal) G10 (ix2 (row j c) d) : EReal) = (a10 j c d : EReal))
    (h11 : ∀ j c d, (arg13.view.read (Elt Ideal) G11 (ix2 (row j c) d) : EReal) = (a11 j c d : EReal))
    (n : ℕ) (hn : n ≤ (i 1).val + 1) :
    (∀ r d, (bwdSt dev i arg2 harg2 arg3 harg3 arg4 harg4 arg5 harg5 arg6 harg6 arg7 harg7 arg8 harg8 arg9 harg9 arg10 harg10 arg11 harg11 arg12 harg12 arg13 harg13 v0 v2 v4 v6 v11 x1 x2 x7 x8 G10 G11 n).1 (ix2 r d) = ((∑ j : Fin 4, if j.val < n then ∑ c, bds (i 1) Q GO K V s W D L dl j r c * rows K j c d else 0 : ℝ) : EReal))
    ∧ (∀ j c d, (arg12.view.read (Elt Ideal) (arg12.view.writes (Elt Ideal) G10 (bwdSt dev i arg2 harg2 arg3 harg3 arg4 harg4 arg5 harg5 arg6 harg6 arg7 harg7 arg8 harg8 arg9 harg9 arg10 harg10 arg11 harg11 arg12 harg12 arg13 harg13 v0 v2 v4 v6 v11 x1 x2 x7 x8 G10 G11 n).2.1) (ix2 (row j c) d) : EReal)
        = ((a10 j c d + if j.val < n then scale * ∑ r, bds (i 1) Q GO K V s W D L dl j r c * Q r d else 0 : ℝ) : EReal))
    ∧ (∀ j c d, (arg13.view.read (Elt Ideal) (arg13.view.writes (Elt Ideal) G11 (bwdSt dev i arg2 harg2 arg3 harg3 arg4 harg4 arg5 harg5 arg6 harg6 arg7 harg7 arg8 harg8 arg9 harg9 arg10 harg10 arg11 harg11 arg12 harg12 arg13 harg13 v0 v2 v4 v6 v11 x1 x2 x7 x8 G10 G11 n).2.2) (ix2 (row j c) d) : EReal)
        = ((a11 j c d + if j.val < n then ∑ r, bpr (i 1) Q K s W D L j r c * GO r d else 0 : ℝ) : EReal)) := by
  induction n with
  | zero =>
    refine ⟨fun r d => ?_, fun j c d => ?_, fun j c d => ?_⟩
    · simp only [Nat.not_lt_zero, if_false, Finset.sum_const_zero]
      exact (zero_row r d).trans EReal.coe_zero.symm
    · rw [if_neg (Nat.not_lt_zero _), add_zero]; exact h10 j c d
    · rw [if_neg (Nat.not_lt_zero _), add_zero]; exact h11 j c d
  | succ n ih =>
    have ht : n < (k1_t1_loop i).trips := by rw [trips_bwd]; omega
    have h4 : n < 4 := btrip_lt ⟨n, ht⟩
    have hb : (i 1).val < 4 := (i 1).isLt
    have step := st_k1_t1_succ (F := Ideal) Variants.none dev none i arg2 harg2 arg3 harg3 arg4 harg4 arg5 harg5 arg6 harg6 arg7 harg7 arg8 harg8 arg9 harg9 arg10 harg10 arg11 harg11 arg12 harg12 arg13 harg13 (BitVec.ofNat 32 (i 1).val) v0 v2 v4 v6 v11
      (harg3.unread x1) (harg4.unread x2) (harg9.unread x7) (harg10.unread x8) G10 G11 (k1_pay1 (Scalar.ofBits .f32 0x00000000#32)) ⟨n, ht⟩
    unfold tripR_k1_t1 tripL_k1_t1 trip_k1_t1 at step
    dsimp only at step
    obtain ⟨i1, i2, i3⟩ := ih (by omega)
    unfold bwdSt at i1 i2 i3 ⊢
    rw [step]
    have kk : ∀ r d, View.readAt (Elt Ideal) arg3.view (Rect.unit (s := S2048x128) (k1_off1 i ⟨n, ht⟩) S512x128.size (k1_off1_inb i ⟨n, ht⟩)).toLoadRect (harg3.unread x1) (ix2 r d)
        = ((rows K ⟨n, h4⟩ r d : ℝ) : EReal) := fun r d => by
      rw [load_rows harg3 x1 _ (off1_bwd i ⟨n, ht⟩) r d (by dsimp only; omega), hk]; rfl
    have vv : ∀ r d, View.readAt (Elt Ideal) arg4.view (Rect.unit (s := S2048x128) (k1_off1 i ⟨n, ht⟩) S512x128.size (k1_off1_inb i ⟨n, ht⟩)).toLoadRect (harg4.unread x2) (ix2 r d)
        = ((rows V ⟨n, h4⟩ r d : ℝ) : EReal) := fun r d => by
      rw [load_rows harg4 x2 _ (off1_bwd i ⟨n, ht⟩) r d (by dsimp only; omega), hv]; rfl
    have B : Blk v0 (v4 (ix2 0 0))
        (View.readAt (Elt Ideal) arg3.view (Rect.unit (s := S2048x128) (k1_off1 i ⟨n, ht⟩) S512x128.size (k1_off1_inb i ⟨n, ht⟩)).toLoadRect (harg3.unread x1))
        (View.readAt (Elt Ideal) arg9.view (Rect.unit (s := S4x512x512) (k1_off2 i ⟨n, ht⟩) S1x512x512.size (k1_off2_inb i ⟨n, ht⟩)).toLoadRect (harg9.unread x7))
        (View.readAt (Elt Ideal) arg10.view (Rect.unit (s := S4x512x512) (k1_off2 i ⟨n, ht⟩) S1x512x512.size (k1_off2_inb i ⟨n, ht⟩)).toLoadRect (harg10.unread x8))
        Q (rows K ⟨n, h4⟩) s (W (gap (i 1) ⟨n, h4⟩)) (D (gap (i 1) ⟨n, h4⟩)) :=
      ⟨R.q, kk, R.sl, R.spos, fun r c => T.pos _ r c,
        fun r c => by rw [load_plane harg9 x7 _ (off2_bwd i ⟨n, ht⟩) r c (by dsimp only; omega), T.dist]; rfl,
        fun r c => by rw [load_plane harg10 x8 _ (off2_bwd i ⟨n, ht⟩) r c (by dsimp only; omega), T.lmul]; rfl⟩
    refine ⟨fun r d => ?_, fun j c d => ?_, fun j c d => ?_⟩
    · simp only [sum_upto_succ _ n h4]
      exact bpay3_apply B R.pos R.lse R.dl R.go vv kk r d _ (i1 r d)
    · refine (put_rows arg12.view G10 _ _ _ ⟨n, h4⟩ j (off1_bwd i ⟨n, ht⟩) c d).trans ?_
      split
      · rename_i h
        subst h
        rw [if_pos (Nat.lt_succ_self n)]
        refine bpay9_apply B R.pos R.lse R.dl R.go vv c d (a10 ⟨n, h4⟩ c d) ?_
        refine (get_rows arg12.view _ _ ⟨n, h4⟩ (off1_bwd i ⟨n, ht⟩) c d).trans ((i2 ⟨n, h4⟩ c d).trans ?_)
        rw [if_neg (lt_irrefl n), add_zero]
      · rename_i h
        have e : (j.val < n + 1) = (j.val < n) := propext ⟨fun a => lt_of_le_of_ne (Nat.lt_succ_iff.mp a) fun b => h (Fin.ext b), fun a => Nat.lt_succ_of_lt a⟩
        simp only [e]
        exact i2 j c d
    · refine (put_rows arg13.view G11 _ _ _ ⟨n, h4⟩ j (off1_bwd i ⟨n, ht⟩) c d).trans ?_
      split
      · rename_i h
        subst h
        rw [if_pos (Nat.lt_succ_self n)]
        refine bpay2_apply B R.pos R.lse R.go c d (a11 ⟨n, h4⟩ c d) ?_
        refine (get_rows arg13.view _ _ ⟨n, h4⟩ (off1_bwd i ⟨n, ht⟩) c d).trans ((i3 ⟨n, h4⟩ c d).trans ?_)
        rw [if_neg (lt_irrefl n), add_zero]
      · rename_i h
        have e : (j.val < n + 1) = (j.val < n) := propext ⟨fun a => lt_of_le_of_ne (Nat.lt_succ_iff.mp a) fun b => h (Fin.ext b), fun a => Nat.lt_succ_of_lt a⟩
        simp only [e]
        exact i3 j c d

/-! ## The blocks left when the queries are not a head's first block -/

theorem out_B_9 (hc0 : ¬cond1_0 i) (x0 : Vec Ideal S512x128 .bf16) (x3 : Vec Ideal S512x128 .f32) (x4 : Vec Ideal S1x512x1 .f32)
    (x5 : Vec Ideal S512x128 .f32) (x6 : Vec Ideal S1x1x128 .f32) (xo10 xo11 : Vec Ideal S2048x128 .f32) :
    out1_B_9 (F := Ideal) dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11
      = k1_pay6 (bwdSt dev i arg2 harg2 arg3 harg3 arg4 harg4 arg5 harg5 arg6 harg6 arg7 harg7 arg8 harg8 arg9 harg9 arg10 harg10 arg11 harg11 arg12 harg12 arg13 harg13 x0 (k1_pay17 x5) (k1_pay18 (View.ld x6 (Rect.unit ![0, 0, 0] ![1, 1, 1] inb_S1x1x128_S1x1x1_0_0_0))) (k1_pay19 x4) (k1_pay20 x5 x3)
          x1 x2 x7 x8 (harg12.unread xo10) (harg13.unread xo11) ((i 1).val + 1)).1 := by
  unfold bwdSt
  rw [← trips_bwd]
  frame_out
  rw [rest_nil]
  exact rest_bwd i

theorem out_B_10 (hc0 : ¬cond1_0 i) (x0 : Vec Ideal S512x128 .bf16) (x3 : Vec Ideal S512x128 .f32) (x4 : Vec Ideal S1x512x1 .f32)
    (x5 : Vec Ideal S512x128 .f32) (x6 : Vec Ideal S1x1x128 .f32) (xo10 xo11 : Vec Ideal S2048x128 .f32) :
    out1_B_10 (F := Ideal) dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11
      = arg12.view.read (Elt Ideal) (arg12.view.writes (Elt Ideal) (harg12.unread xo10) (bwdSt dev i arg2 harg2 arg3 harg3 arg4 harg4 arg5 harg5 arg6 harg6 arg7 harg7 arg8 harg8 arg9 harg9 arg10 harg10 arg11 harg11 arg12 harg12 arg13 harg13 x0 (k1_pay17 x5) (k1_pay18 (View.ld x6 (Rect.unit ![0, 0, 0] ![1, 1, 1] inb_S1x1x128_S1x1x1_0_0_0))) (k1_pay19 x4) (k1_pay20 x5 x3)
          x1 x2 x7 x8 (harg12.unread xo10) (harg13.unread xo11) ((i 1).val + 1)).2.1) := by
  unfold bwdSt
  rw [← trips_bwd]
  frame_out
  rw [rest_nil]
  · rfl
  · exact rest_bwd i

theorem out_B_11 (hc0 : ¬cond1_0 i) (x0 : Vec Ideal S512x128 .bf16) (x3 : Vec Ideal S512x128 .f32) (x4 : Vec Ideal S1x512x1 .f32)
    (x5 : Vec Ideal S512x128 .f32) (x6 : Vec Ideal S1x1x128 .f32) (xo10 xo11 : Vec Ideal S2048x128 .f32) :
    out1_B_11 (F := Ideal) dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11
      = arg13.view.read (Elt Ideal) (arg13.view.writes (Elt Ideal) (harg13.unread xo11) (bwdSt dev i arg2 harg2 arg3 harg3 arg4 harg4 arg5 harg5 arg6 harg6 arg7 harg7 arg8 harg8 arg9 harg9 arg10 harg10 arg11 harg11 arg12 harg12 arg13 harg13 x0 (k1_pay17 x5) (k1_pay18 (View.ld x6 (Rect.unit ![0, 0, 0] ![1, 1, 1] inb_S1x1x128_S1x1x1_0_0_0))) (k1_pay19 x4) (k1_pay20 x5 x3)
          x1 x2 x7 x8 (harg12.unread xo10) (harg13.unread xo11) ((i 1).val + 1)).2.2) := by
  unfold bwdSt
  rw [← trips_bwd]
  frame_out
  rw [rest_nil]
  · rfl
  · exact rest_bwd i

/-! ## The blocks left at a head's first block of queries -/

theorem out_A_9 (hc0 : cond1_0 i) (x0 : Vec Ideal S512x128 .bf16) (x3 : Vec Ideal S512x128 .f32) (x4 : Vec Ideal S1x512x1 .f32)
    (x5 : Vec Ideal S512x128 .f32) (x6 : Vec Ideal S1x1x128 .f32) :
    out1_A_9 (F := Ideal) dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = k1_pay6 (bwdSt dev i arg2 harg2 arg3 harg3 arg4 harg4 arg5 harg5 arg6 harg6 arg7 harg7 arg8 harg8 arg9 harg9 arg10 harg10 arg11 harg11 arg12 harg12 arg13 harg13 x0 (k1_pay17 x5) (k1_pay18 (View.ld x6 (Rect.unit ![0, 0, 0] ![1, 1, 1] inb_S1x1x128_S1x1x1_0_0_0))) (k1_pay19 x4) (k1_pay20 x5 x3)
          x1 x2 x7 x8 (arg12.view.writes (Elt Ideal) arg12.view.junk [⟨Rect.unit ![0, 0] ![2048, 128] inb_S2048x128_S2048x128_0_0, k1_pay21 (F := Ideal)⟩]) (arg13.view.writes (Elt Ideal) arg13.view.junk [⟨Rect.unit ![0, 0] ![2048, 128] inb_S2048x128_S2048x128_0_0, k1_pay22 (F := Ideal)⟩]) ((i 1).val + 1)).1 := by
  unfold bwdSt
  rw [← trips_bwd]
  frame_out
  rw [rest_nil]
  exact rest_bwd i

theorem out_A_10 (hc0 : cond1_0 i) (x0 : Vec Ideal S512x128 .bf16) (x3 : Vec Ideal S512x128 .f32) (x4 : Vec Ideal S1x512x1 .f32)
    (x5 : Vec Ideal S512x128 .f32) (x6 : Vec Ideal S1x1x128 .f32) :
    out1_A_10 (F := Ideal) dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = arg12.view.read (Elt Ideal) (arg12.view.writes (Elt Ideal) (arg12.view.writes (Elt Ideal) arg12.view.junk [⟨Rect.unit ![0, 0] ![2048, 128] inb_S2048x128_S2048x128_0_0, k1_pay21 (F := Ideal)⟩]) (bwdSt dev i arg2 harg2 arg3 harg3 arg4 harg4 arg5 harg5 arg6 harg6 arg7 harg7 arg8 harg8 arg9 harg9 arg10 harg10 arg11 harg11 arg12 harg12 arg13 harg13 x0 (k1_pay17 x5) (k1_pay18 (View.ld x6 (Rect.unit ![0, 0, 0] ![1, 1, 1] inb_S1x1x128_S1x1x1_0_0_0))) (k1_pay19 x4) (k1_pay20 x5 x3)
          x1 x2 x7 x8 (arg12.view.writes (Elt Ideal) arg12.view.junk [⟨Rect.unit ![0, 0] ![2048, 128] inb_S2048x128_S2048x128_0_0, k1_pay21 (F := Ideal)⟩]) (arg13.view.writes (Elt Ideal) arg13.view.junk [⟨Rect.unit ![0, 0] ![2048, 128] inb_S2048x128_S2048x128_0_0, k1_pay22 (F := Ideal)⟩]) ((i 1).val + 1)).2.1) := by
  unfold bwdSt
  rw [← trips_bwd]
  refine (View.read_writes_of_cover VO1_10 _ arg12.view arg12.view.junk _ (cover1_A_10 dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)).trans ?_
  rw [← View.writes_append]
  refine congrArg (fun l => arg12.view.read (Elt Ideal) (arg12.view.writes (Elt Ideal) arg12.view.junk l)) ?_
  frame_out
  rw [rest_nil]
  · rfl
  · exact rest_bwd i

theorem out_A_11 (hc0 : cond1_0 i) (x0 : Vec Ideal S512x128 .bf16) (x3 : Vec Ideal S512x128 .f32) (x4 : Vec Ideal S1x512x1 .f32)
    (x5 : Vec Ideal S512x128 .f32) (x6 : Vec Ideal S1x1x128 .f32) :
    out1_A_11 (F := Ideal) dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = arg13.view.read (Elt Ideal) (arg13.view.writes (Elt Ideal) (arg13.view.writes (Elt Ideal) arg13.view.junk [⟨Rect.unit ![0, 0] ![2048, 128] inb_S2048x128_S2048x128_0_0, k1_pay22 (F := Ideal)⟩]) (bwdSt dev i arg2 harg2 arg3 harg3 arg4 harg4 arg5 harg5 arg6 harg6 arg7 harg7 arg8 harg8 arg9 harg9 arg10 harg10 arg11 harg11 arg12 harg12 arg13 harg13 x0 (k1_pay17 x5) (k1_pay18 (View.ld x6 (Rect.unit ![0, 0, 0] ![1, 1, 1] inb_S1x1x128_S1x1x1_0_0_0))) (k1_pay19 x4) (k1_pay20 x5 x3)
          x1 x2 x7 x8 (arg12.view.writes (Elt Ideal) arg12.view.junk [⟨Rect.unit ![0, 0] ![2048, 128] inb_S2048x128_S2048x128_0_0, k1_pay21 (F := Ideal)⟩]) (arg13.view.writes (Elt Ideal) arg13.view.junk [⟨Rect.unit ![0, 0] ![2048, 128] inb_S2048x128_S2048x128_0_0, k1_pay22 (F := Ideal)⟩]) ((i 1).val + 1)).2.2) := by
  unfold bwdSt
  rw [← trips_bwd]
  refine (View.read_writes_of_cover VO1_11 _ arg13.view arg13.view.junk _ (cover1_A_11 dev i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)).trans ?_
  rw [← View.writes_append]
  refine congrArg (fun l => arg13.view.read (Elt Ideal) (arg13.view.writes (Elt Ideal) arg13.view.junk l)) ?_
  frame_out
  rw [rest_nil]
  · rfl
  · exact rest_bwd i

end Loop

end Cert.Proof.Attn

end
-- ==== Proof.AttnSpec.lean ====
/-
  The attention of one sequence and its gradients, as formulas over real numbers, and how their sums split into blocks of
  512 queries and 512 keys.
-/
module

public import proofs.«01_k».proof.Proof.AttnBackward

@[expose] public section

noncomputable section

open Idealize.ShloMosaic Idealize.ShloMosaic.Pointwise

namespace Cert.Proof.Attn

open Cert.Proof.Rv

/-- The weight of a pair at a distance: in how many of the three dilated branches the query sees the key. -/
def wt (n : ℤ) : ℝ :=
  if 0 ≤ n then (if n ≤ 128 then 1 else 0) + (if n % 4 = 0 ∧ n ≤ 512 then 1 else 0) + (if n % 16 = 0 then 1 else 0) else 0

theorem wt_nonneg (n : ℤ) : 0 ≤ wt n := by
  unfold wt; split_ifs <;> norm_num

theorem wt_neg {n : ℤ} (h : n < 0) : wt n = 0 := by
  unfold wt; rw [if_neg (by omega)]

theorem wt_zero : 0 < wt 0 := by
  unfold wt; norm_num

/-- The distance of two positions. -/
def gapOf (a b : Fin 2048) : ℤ := (a.val : ℤ) - (b.val : ℤ)

/-- The slope of a head. -/
def slope (h : Fin 8) : ℝ := 1 / 2 ^ (h.val + 1)

theorem slope_pos (h : Fin 8) : 0 < slope h := by unfold slope; positivity

section Formulas

variable (s : ℝ) (q k v go : Fin 2048 → Fin 128 → ℝ)

/-- The weighted exponential of a score. -/
def E (a b : Fin 2048) : ℝ := wt (gapOf a b) * Real.exp (score s (q a) (k b) (gapOf a b : ℝ))

/-- The sum over the keys. -/
def Z (a : Fin 2048) : ℝ := ∑ b, E s q k a b

/-- The output. -/
def O (a : Fin 2048) (d : Fin 128) : ℝ := (∑ b, E s q k a b * v b d) / Z s q k a

/-- The probabilities. -/
def P (a b : Fin 2048) : ℝ := E s q k a b / Z s q k a

/-- The row sums of the output's gradient times the output. -/
def Dl (a : Fin 2048) : ℝ := ∑ d, go a d * O s q k v a d

/-- The gradient of the scores. -/
def DS (a b : Fin 2048) : ℝ := P s q k a b * ((∑ d, go a d * v b d) - Dl s q k v go a)

/-- The gradients of the queries, keys and values. -/
def DQ (a : Fin 2048) (d : Fin 128) : ℝ := scale * ∑ b, DS s q k v go a b * k b d
def DK (b : Fin 2048) (d : Fin 128) : ℝ := scale * ∑ a, DS s q k v go a b * q a d
def DV (b : Fin 2048) (d : Fin 128) : ℝ := ∑ a, P s q k a b * go a d

theorem E_nonneg (a b : Fin 2048) : 0 ≤ E s q k a b := mul_nonneg (wt_nonneg _) (Real.exp_nonneg _)

theorem E_future {a b : Fin 2048} (h : a < b) : E s q k a b = 0 := by
  unfold E; rw [wt_neg (by unfold gapOf; have := Fin.lt_def.mp h; omega), zero_mul]

theorem Z_pos (a : Fin 2048) : 0 < Z s q k a := by
  refine lt_of_lt_of_le ?_ (Finset.single_le_sum (fun b _ => E_nonneg s q k a b) (Finset.mem_univ a))
  unfold E
  rw [show gapOf a a = 0 from sub_self _]
  exact mul_pos wt_zero (Real.exp_pos _)

/-! ## The two tables, and the sums by blocks -/

/-- The weights at a gap of blocks. -/
def Wt (o : Fin 4) (r c : Fin 512) : ℝ := wt (512 * (o.val : ℤ) + r.val - c.val)

/-- The distances at a gap of blocks. -/
def Dt (o : Fin 4) (r c : Fin 512) : ℝ := ((512 * (o.val : ℤ) + r.val - c.val : ℤ) : ℝ)

theorem sum_rows (f : Fin 2048 → ℝ) : ∑ b, f b = ∑ j : Fin 4, ∑ c : Fin 512, f (row j c) := by
  rw [← Fintype.sum_prod_type']
  symm
  refine Fintype.sum_equiv (finProdFinEquiv (m := 4) (n := 512)) _ _ fun p => congrArg f (Fin.ext ?_)
  show 512 * p.1.val + p.2.val = p.2.val + 512 * p.1.val
  omega

theorem gap_row {i j : Fin 4} (h : j ≤ i) (r c : Fin 512) :
    gapOf (row i r) (row j c) = 512 * ((gap i j).val : ℤ) + r.val - c.val := by
  have := Fin.le_def.mp h
  unfold gapOf row gap
  dsimp only
  push_cast [this]
  ring

theorem E_row {i j : Fin 4} (h : j ≤ i) (r c : Fin 512) :
    E s q k (row i r) (row j c) = ex s (rows q i) (rows k j) (Wt (gap i j)) (Dt (gap i j)) r c := by
  unfold E ex Wt Dt
  rw [gap_row h]
  rfl

theorem E_row_future {i j : Fin 4} (h : ¬ j.val < i.val + 1) (r c : Fin 512) : E s q k (row i r) (row j c) = 0 := by
  refine E_future s q k (Fin.lt_def.mpr ?_)
  show 512 * i.val + r.val < 512 * j.val + c.val
  omega

/-- The sum over the keys is the sum over the key blocks up to the queries' own. -/
theorem Z_blocks (i : Fin 4) (r : Fin 512) :
    (∑ j : Fin 4, if j.val < i.val + 1 then ∑ c, ex s (rows q i) (rows k j) (Wt (gap i j)) (Dt (gap i j)) r c else 0)
      = Z s q k (row i r) := by
  unfold Z
  rw [sum_rows]
  refine Finset.sum_congr rfl fun j _ => ?_
  split
  · rename_i h
    exact Finset.sum_congr rfl fun c _ => (E_row s q k (Fin.le_def.mpr (by omega)) r c).symm
  · rename_i h
    exact (Finset.sum_eq_zero fun c _ => E_row_future s q k h r c).symm

theorem O_blocks (i : Fin 4) (r : Fin 512) (d : Fin 128) :
    (∑ j : Fin 4, if j.val < i.val + 1 then ∑ c, ex s (rows q i) (rows k j) (Wt (gap i j)) (Dt (gap i j)) r c * rows v j c d else 0)
      = ∑ b, E s q k (row i r) b * v b d := by
  rw [sum_rows]
  refine Finset.sum_congr rfl fun j _ => ?_
  split
  · rename_i h
    exact Finset.sum_congr rfl fun c _ => by rw [E_row s q k (Fin.le_def.mpr (by omega)) r c]; rfl
  · rename_i h
    exact (Finset.sum_eq_zero fun c _ => by rw [E_row_future s q k h r c, zero_mul]).symm

theorem DS_row {i j : Fin 4} (h : j ≤ i) (r c : Fin 512) :
    bds i (rows q i) (rows go i) k v s Wt Dt (fun r => Z s q k (row i r)) (fun r => Dl s q k v go (row i r)) j r c
      = DS s q k v go (row i r) (row j c) := by
  unfold bds ds DS P
  rw [E_row s q k h]
  rfl

theorem DS_row_future {i j : Fin 4} (h : ¬ j.val < i.val + 1) (r c : Fin 512) : DS s q k v go (row i r) (row j c) = 0 := by
  unfold DS P
  rw [E_row_future s q k h, zero_div, zero_mul]

theorem P_row {i j : Fin 4} (h : j ≤ i) (r c : Fin 512) :
    bpr i (rows q i) k s Wt Dt (fun r => Z s q k (row i r)) j r c = P s q k (row i r) (row j c) := by
  unfold bpr P
  rw [E_row s q k h]

theorem P_row_future {i j : Fin 4} (h : ¬ j.val < i.val + 1) (r c : Fin 512) : P s q k (row i r) (row j c) = 0 := by
  unfold P
  rw [E_row_future s q k h, zero_div]

/-- The queries' gradient by blocks of keys. -/
theorem DQ_blocks (i : Fin 4) (r : Fin 512) (d : Fin 128) :
    scale * (∑ j : Fin 4, if j.val < i.val + 1 then ∑ c,
        bds i (rows q i) (rows go i) k v s Wt Dt (fun r => Z s q k (row i r)) (fun r => Dl s q k v go (row i r)) j r c * rows k j c d else 0)
      = DQ s q k v go (row i r) d := by
  unfold DQ
  rw [sum_rows]
  congr 1
  refine Finset.sum_congr rfl fun j _ => ?_
  split
  · rename_i h
    exact Finset.sum_congr rfl fun c _ => by rw [DS_row s q k v go (Fin.le_def.mpr (by omega)) r c]; rfl
  · rename_i h
    exact (Finset.sum_eq_zero fun c _ => by rw [DS_row_future s q k v go h r c, zero_mul]).symm

/-- What one block of queries adds to the keys' gradient. -/
theorem DK_block (i j : Fin 4) (c : Fin 512) (d : Fin 128) :
    (if j.val < i.val + 1 then scale * ∑ r,
        bds i (rows q i) (rows go i) k v s Wt Dt (fun r => Z s q k (row i r)) (fun r => Dl s q k v go (row i r)) j r c * rows q i r d else 0)
      = scale * ∑ r, DS s q k v go (row i r) (row j c) * q (row i r) d := by
  split
  · rename_i h
    congr 1
    exact Finset.sum_congr rfl fun r _ => by rw [DS_row s q k v go (Fin.le_def.mpr (by omega)) r c]; rfl
  · rename_i h
    rw [Finset.sum_eq_zero fun r _ => by rw [DS_row_future s q k v go h r c, zero_mul], mul_zero]

/-- What one block of queries adds to the values' gradient. -/
theorem DV_block (i j : Fin 4) (c : Fin 512) (d : Fin 128) :
    (if j.val < i.val + 1 then ∑ r, bpr i (rows q i) k s Wt Dt (fun r => Z s q k (row i r)) j r c * rows go i r d else 0)
      = ∑ r, P s q k (row i r) (row j c) * go (row i r) d := by
  split
  · rename_i h
    exact Finset.sum_congr rfl fun r _ => by rw [P_row s q k (Fin.le_def.mpr (by omega)) r c]; rfl
  · rename_i h
    exact (Finset.sum_eq_zero fun r _ => by rw [P_row_future s q k h r c, zero_mul]).symm

end Formulas

end Cert.Proof.Attn

end
-- ==== Proof.AttnArrays.lean ====
/-
  What the two attention calls leave in their result arrays, when the arrays they read hold real numbers and the two
  tables.
-/
module

public import proofs.«01_k».proof.Proof.AttnSpec

@[expose] public section

noncomputable section

open Idealize.ShloMosaic Idealize.ShloMosaic.TcCoe Idealize.SL.Sem Idealize.ShloMosaic.Pointwise

namespace Cert.Proof.Attn

open Cert.AttnBwdIdeal Cert.AttnBwdIdeal.Gen Cert.Proof.Rv

/-! ## Columns of the eight heads -/

def col (h : Fin 8) (d : Fin 128) : Fin 1024 := ⟨128 * h.val + d.val, by omega⟩

/-- The head of a column and the column within it. -/
def hOf (x : Fin 1024) : Fin 8 := ⟨x.val / 128, by omega⟩
def dOf (x : Fin 1024) : Fin 128 := ⟨x.val % 128, by omega⟩

theorem hOf_col (h : Fin 8) (d : Fin 128) : hOf (col h d) = h := Fin.ext (by simp only [hOf, col]; omega)
theorem dOf_col (h : Fin 8) (d : Fin 128) : dOf (col h d) = d := Fin.ext (by simp only [dOf, col]; omega)

/-- One head of an array. -/
def head (x : Fin 2048 → Fin 1024 → ℝ) (h : Fin 8) : Fin 2048 → Fin 128 → ℝ := fun a d => x a (col h d)

variable (V : (c : Dev nD) → (b : Ref sig .tc) → Buf (Elt Ideal) ((c : Thread nD τ).loc b))

/-- What the forward call reads. -/
structure FwdIn (c : Dev nD) (q k v : Fin 2048 → Fin 1024 → ℝ) : Prop where
  q : ∀ a x, (V c main_arg0 (ix2 a x) : EReal) = (q a x : EReal)
  k : ∀ a x, (V c main_arg1 (ix2 a x) : EReal) = (k a x : EReal)
  v : ∀ a x, (V c main_arg2 (ix2 a x) : EReal) = (v a x : EReal)
  sl : ∀ h l, (V c main_v0 (ix3 h 0 l) : EReal) = (slope h : EReal)
  tab : Tables (V c main_v33) (V c main_v37) Wt Dt

/-- The head and the block of queries of a point of the forward call's grid. -/
def hd0 (t : Fin cfg0.N) : Fin 8 := grid0.coords t 0
def qb0 (t : Fin cfg0.N) : Fin 4 := grid0.coords t 1

theorem idx0_0 : ∀ t : Fin cfg0.N, win0_0.index t = ![(qb0 t).val, (hd0 t).val] :=
  (by decide +kernel : ∀ t : Fin grid0.N, _)
theorem idx0_1 : ∀ t : Fin cfg0.N, win0_1.index t = ![0, (hd0 t).val] := (by decide +kernel : ∀ t : Fin grid0.N, _)
theorem idx0_2 : ∀ t : Fin cfg0.N, win0_2.index t = ![0, (hd0 t).val] := (by decide +kernel : ∀ t : Fin grid0.N, _)
theorem idx0_3 : ∀ t : Fin cfg0.N, win0_3.index t = ![(hd0 t).val, 0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![0, 0, 0] := (by decide +kernel : ∀ t : Fin grid0.N, _)
theorem idx0_6 : ∀ t : Fin cfg0.N, win0_6.index t = ![(qb0 t).val, (hd0 t).val] :=
  (by decide +kernel : ∀ t : Fin grid0.N, _)
theorem idx0_7 : ∀ t : Fin cfg0.N, win0_7.index t = ![(hd0 t).val, (qb0 t).val, 0] :=
  (by decide +kernel : ∀ t : Fin grid0.N, _)

section Fwd

variable {V} {c : Dev nD} {q k v : Fin 2048 → Fin 1024 → ℝ} (H : FwdIn V c q k v) (t : Fin cfg0.N)
include H

theorem blk0_0 (r : Fin 512) (d : Fin 128) :
    (iblk0 V c 0 t (ix2 r d) : EReal) = (rows (head q (hd0 t)) (qb0 t) r d : EReal) := by
  refine Eq.trans ?_ (H.q (row (qb0 t) r) (col (hd0 t) d))
  blk_simp [iblk0]
  exact congrArg (V c main_arg0) (by blk_ext [idx0_0 t, row, col])

theorem blk0_1 (r : Fin 2048) (d : Fin 128) : (iblk0 V c 1 t (ix2 r d) : EReal) = (head k (hd0 t) r d : EReal) := by
  refine Eq.trans ?_ (H.k r (col (hd0 t) d))
  blk_simp [iblk0]
  exact congrArg (V c main_arg1) (by blk_ext [idx0_1 t, col])

theorem blk0_2 (r : Fin 2048) (d : Fin 128) : (iblk0 V c 2 t (ix2 r d) : EReal) = (head v (hd0 t) r d : EReal) := by
  refine Eq.trans ?_ (H.v r (col (hd0 t) d))
  blk_simp [iblk0]
  exact congrArg (V c main_arg2) (by blk_ext [idx0_2 t, col])

theorem blk0_3 : (iblk0 V c 3 t (ix3 0 0 0) : EReal) = (slope (hd0 t) : EReal) := by
  refine Eq.trans ?_ (H.sl (hd0 t) 0)
  blk_simp [iblk0]
  exact congrArg (V c main_v0) (by blk_ext [idx0_3 t])

theorem blk0_4 : (iblk0 V c 4 t : Vec Ideal S4x512x512 .f32) = V c main_v33 := by
  funext y
  blk_simp [iblk0]
  exact congrArg (V c main_v33) (by blk_ext [idx0_4 t])

theorem blk0_5 : (iblk0 V c 5 t : Vec Ideal S4x512x512 .f32) = V c main_v37 := by
  funext y
  blk_simp [iblk0]
  exact congrArg (V c main_v37) (by blk_ext [idx0_5 t])

/-- The block of the output and of the log-sum left at a point. -/
theorem fwd_blocks (r : Fin 512) :
    (∀ d, ((outsAt0 V c t).1 (ix2 r d) : EReal)
      = (O (slope (hd0 t)) (head q (hd0 t)) (head k (hd0 t)) (head v (hd0 t)) (row (qb0 t) r) d : EReal))
    ∧ ((outsAt0 V c t).2 (ix3 0 r 0) : EReal)
      = ((Real.log (Z (slope (hd0 t)) (head q (hd0 t)) (head k (hd0 t)) (row (qb0 t) r)) : ℝ) : EReal) := by
  have T : Tables (iblk0 V c 4 t) (iblk0 V c 5 t) Wt Dt := by
    rw [blk0_4 H t, blk0_5 H t]; exact H.tab
  have C := fwd_carried c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (blk0_0 H t) (blk0_1 H t) (blk0_2 H t) (blk0_3 H t) (slope_pos _) T
    ((qb0 t).val + 1) le_rfl
  change Carried _ _ _ (fun r => ∑ j : Fin 4, if j.val < (qb0 t).val + 1 then ∑ c, ex (slope (hd0 t)) (rows (head q (hd0 t)) (qb0 t)) (rows (head k (hd0 t)) j) (Wt (gap (qb0 t) j)) (Dt (gap (qb0 t) j)) r c else 0)
    (fun r d => ∑ j : Fin 4, if j.val < (qb0 t).val + 1 then ∑ c, ex (slope (hd0 t)) (rows (head q (hd0 t)) (qb0 t)) (rows (head k (hd0 t)) j) (Wt (gap (qb0 t) j)) (Dt (gap (qb0 t) j)) r c * rows (head v (hd0 t)) j c d else 0) at C
  have Out := fwd_out c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (x0 := iblk0 V c 0 t) (x1 := iblk0 V c 1 t) (x2 := iblk0 V c 2 t) (x3 := iblk0 V c 3 t) (x4 := iblk0 V c 4 t) (x5 := iblk0 V c 5 t)
  simp only [Z_blocks, O_blocks] at C
  unfold outsAt0
  refine ⟨fun d => ?_, ?_⟩
  · dsimp only
    rw [Out.1]
    exact pay18_apply C r d (Z_pos _ _ _ _)
  · dsimp only
    rw [Out.2]
    exact pay1_apply C r (Z_pos _ _ _ _)

/-- The output array. -/
theorem fwd_o : (dat0 V c).arrAt 6 cfg0.N
    = fun x : S2048x1024.Idx => ((O (slope (hOf (x 1))) (head q (hOf (x 1))) (head k (hOf (x 1))) (head v (hOf (x 1))) (x 0) (dOf (x 1)) : ℝ) : EReal) := by
  refine (dat0 V c).arrAt_eq_of_covers 6 _ (by decide +kernel) fun t hf y => ?_
  blk_simp
  rw [after0_6]
  obtain ⟨r, d, rfl⟩ : ∃ (r : Fin 512) (d : Fin 128), y = ix2 r d := ⟨y 0, y 1, by idx_ext⟩
  refine ((fwd_blocks H t r).1 d).trans ?_
  have e : ((cfg0.win 6).blk t).view.emb (ix2 r d) = ix2 (row (qb0 t) r) (col (hd0 t) d) := by
    blk_ext [idx0_6 t, row, col]
  rw [e]
  show _ = ((O (slope (hOf (col _ d))) (head q (hOf (col _ d))) (head k (hOf (col _ d))) (head v (hOf (col _ d))) (row _ r) (dOf (col _ d)) : ℝ) : EReal)
  rw [hOf_col, dOf_col]

/-- The log-sum array. -/
theorem fwd_l : (dat0 V c).arrAt 7 cfg0.N
    = fun x : S8x2048x1.Idx => ((Real.log (Z (slope (x 0)) (head q (x 0)) (head k (x 0)) (x 1)) : ℝ) : EReal) := by
  refine (dat0 V c).arrAt_eq_of_covers 7 _ (by decide +kernel) fun t hf y => ?_
  blk_simp
  rw [after0_7]
  obtain ⟨r, rfl⟩ : ∃ (r : Fin 512), y = ix3 0 r 0 := ⟨y 1, by idx_ext⟩
  refine ((fwd_blocks H t r).2).trans ?_
  have e : ((cfg0.win 7).blk t).view.emb (ix3 0 r 0) = ix3 (hd0 t) (row (qb0 t) r) 0 := by
    blk_ext [idx0_7 t, row]
  rw [e]
  rfl

end Fwd

end Cert.Proof.Attn

end
-- ==== Proof.AttnGrads.lean ====
/-
  What the backward attention call leaves in its three result arrays, when the arrays it reads hold real numbers, the two
  tables, and the output and log-sums of those numbers.
-/
module

public import proofs.«01_k».proof.Proof.AttnArrays

@[expose] public section

noncomputable section

open Idealize.ShloMosaic Idealize.ShloMosaic.TcCoe Idealize.SL.Sem Idealize.ShloMosaic.Pointwise

namespace Cert.Proof.Attn

open Cert.AttnBwdIdeal Cert.AttnBwdIdeal.Gen Cert.Proof.Rv

/-- The columns of the mixture's gradient that hold the output's gradient of a head. -/
def gcol (h : Fin 8) (d : Fin 128) : Fin 2048 := ⟨1024 + (128 * h.val + d.val), by omega⟩

/-- The output's gradient of a head. -/
def ghead (g : Fin 2048 → Fin 2048 → ℝ) (h : Fin 8) : Fin 2048 → Fin 128 → ℝ := fun a d => g a (gcol h d)

variable (V : (c : Dev nD) → (b : Ref sig .tc) → Buf (Elt Ideal) ((c : Thread nD τ).loc b))

/-- What the backward call reads. -/
structure BwdIn (c : Dev nD) (q k v : Fin 2048 → Fin 1024 → ℝ) (g : Fin 2048 → Fin 2048 → ℝ) : Prop where
  hq : ∀ a x, (V c main_arg0 (ix2 a x) : EReal) = (q a x : EReal)
  hk : ∀ a x, (V c main_arg1 (ix2 a x) : EReal) = (k a x : EReal)
  hv : ∀ a x, (V c main_arg2 (ix2 a x) : EReal) = (v a x : EReal)
  hg : ∀ a x, (V c main_arg3 (ix2 a x) : EReal) = (g a x : EReal)
  ho : ∀ a h d, (V c main_v38_0 (ix2 a (col h d)) : EReal) = (O (slope h) (head q h) (head k h) (head v h) a d : EReal)
  hl : ∀ h a, (V c main_v38_1 (ix3 h a 0) : EReal) = ((Real.log (Z (slope h) (head q h) (head k h) a) : ℝ) : EReal)
  hsl : ∀ h l, (V c main_v1 (ix3 h 0 l) : EReal) = (slope h : EReal)
  htab : Tables (V c main_v70) (V c main_v74) Wt Dt

/-- The head and the block of queries of a point of the backward call's grid. -/
def hd1 (t : Fin cfg1.N) : Fin 8 := grid1.coords t 0
def qb1 (t : Fin cfg1.N) : Fin 4 := grid1.coords t 1

theorem idx1_0 : ∀ t : Fin cfg1.N, win1_0.index t = ![(qb1 t).val, (hd1 t).val] := (by decide +kernel : ∀ t : Fin grid1.N, _)
theorem idx1_1 : ∀ t : Fin cfg1.N, win1_1.index t = ![0, (hd1 t).val] := (by decide +kernel : ∀ t : Fin grid1.N, _)
theorem idx1_2 : ∀ t : Fin cfg1.N, win1_2.index t = ![0, (hd1 t).val] := (by decide +kernel : ∀ t : Fin grid1.N, _)
theorem idx1_3 : ∀ t : Fin cfg1.N, win1_3.index t = ![(qb1 t).val, (hd1 t).val] := (by decide +kernel : ∀ t : Fin grid1.N, _)
theorem idx1_4 : ∀ t : Fin cfg1.N, win1_4.index t = ![(hd1 t).val, (qb1 t).val, 0] := (by decide +kernel : ∀ t : Fin grid1.N, _)
theorem idx1_5 : ∀ t : Fin cfg1.N, win1_5.index t = ![(qb1 t).val, (hd1 t).val + 8] := (by decide +kernel : ∀ t : Fin grid1.N, _)
theorem idx1_6 : ∀ t : Fin cfg1.N, win1_6.index t = ![(hd1 t).val, 0, 0] := (by decide +kernel : ∀ t : Fin grid1.N, _)
theorem idx1_7 : ∀ t : Fin cfg1.N, win1_7.index t = ![0, 0, 0] := (by decide +kernel : ∀ t : Fin grid1.N, _)
theorem idx1_8 : ∀ t : Fin cfg1.N, win1_8.index t = ![0, 0, 0] := (by decide +kernel : ∀ t : Fin grid1.N, _)
theorem idx1_9 : ∀ t : Fin cfg1.N, win1_9.index t = ![(qb1 t).val, (hd1 t).val] := (by decide +kernel : ∀ t : Fin grid1.N, _)
theorem idx1_10 : ∀ t : Fin cfg1.N, win1_10.index t = ![0, (hd1 t).val] := (by decide +kernel : ∀ t : Fin grid1.N, _)
theorem idx1_11 : ∀ t : Fin cfg1.N, win1_11.index t = ![0, (hd1 t).val] := (by decide +kernel : ∀ t : Fin grid1.N, _)

theorem qb1_val : ∀ t : Fin cfg1.N, (qb1 t).val = t.val % 4 := (by decide +kernel : ∀ t : Fin grid1.N, _)
theorem hd1_val : ∀ t : Fin cfg1.N, (hd1 t).val = t.val / 4 := (by decide +kernel : ∀ t : Fin grid1.N, _)

section Bwd

variable {V} {c : Dev nD} {q k v : Fin 2048 → Fin 1024 → ℝ} {g : Fin 2048 → Fin 2048 → ℝ} (H : BwdIn V c q k v g) (t : Fin cfg1.N)
include H

theorem blk1_0 (r : Fin 512) (d : Fin 128) : (iblk1 V c 0 t (ix2 r d) : EReal) = (rows (head q (hd1 t)) (qb1 t) r d : EReal) := by
  refine Eq.trans ?_ (H.hq (row (qb1 t) r) (col (hd1 t) d))
  blk_simp [iblk1]
  exact congrArg (V c main_arg0) (by blk_ext [idx1_0 t, row, col])

theorem blk1_1 (r : Fin 2048) (d : Fin 128) : (iblk1 V c 1 t (ix2 r d) : EReal) = (head k (hd1 t) r d : EReal) := by
  refine Eq.trans ?_ (H.hk r (col (hd1 t) d))
  blk_simp [iblk1]
  exact congrArg (V c main_arg1) (by blk_ext [idx1_1 t, col])

theorem blk1_2 (r : Fin 2048) (d : Fin 128) : (iblk1 V c 2 t (ix2 r d) : EReal) = (head v (hd1 t) r d : EReal) := by
  refine Eq.trans ?_ (H.hv r (col (hd1 t) d))
  blk_simp [iblk1]
  exact congrArg (V c main_arg2) (by blk_ext [idx1_2 t, col])

theorem blk1_3 (r : Fin 512) (d : Fin 128) : (iblk1 V c 3 t (ix2 r d) : EReal)
    = (O (slope (hd1 t)) (head q (hd1 t)) (head k (hd1 t)) (head v (hd1 t)) (row (qb1 t) r) d : EReal) := by
  refine Eq.trans ?_ (H.ho (row (qb1 t) r) (hd1 t) d)
  blk_simp [iblk1]
  exact congrArg (V c main_v38_0) (by blk_ext [idx1_3 t, row, col])

theorem blk1_4 (r : Fin 512) : (iblk1 V c 4 t (ix3 0 r 0) : EReal)
    = ((Real.log (Z (slope (hd1 t)) (head q (hd1 t)) (head k (hd1 t)) (row (qb1 t) r)) : ℝ) : EReal) := by
  refine Eq.trans ?_ (H.hl (hd1 t) (row (qb1 t) r))
  blk_simp [iblk1]
  exact congrArg (V c main_v38_1) (by blk_ext [idx1_4 t, row])

theorem blk1_5 (r : Fin 512) (d : Fin 128) : (iblk1 V c 5 t (ix2 r d) : EReal) = (rows (ghead g (hd1 t)) (qb1 t) r d : EReal) := by
  refine Eq.trans ?_ (H.hg (row (qb1 t) r) (gcol (hd1 t) d))
  blk_simp [iblk1]
  exact congrArg (V c main_arg3) (by blk_ext [idx1_5 t, row, gcol])

theorem blk1_6 : (iblk1 V c 6 t (ix3 0 0 0) : EReal) = (slope (hd1 t) : EReal) := by
  refine Eq.trans ?_ (H.hsl (hd1 t) 0)
  blk_simp [iblk1]
  exact congrArg (V c main_v1) (by blk_ext [idx1_6 t])

theorem blk1_7 : (iblk1 V c 7 t : Vec Ideal S4x512x512 .f32) = V c main_v70 := by
  funext y
  blk_simp [iblk1]
  exact congrArg (V c main_v70) (by blk_ext [idx1_7 t])

theorem blk1_8 : (iblk1 V c 8 t : Vec Ideal S4x512x512 .f32) = V c main_v74 := by
  funext y
  blk_simp [iblk1]
  exact congrArg (V c main_v74) (by blk_ext [idx1_8 t])

/-- What the block of queries brings to the loop. -/
theorem row_of : Row (iblk1 V c 0 t) (k1_pay17 (iblk1 V c 5 t)) (k1_pay18 (View.ld (iblk1 V c 6 t) (Rect.unit ![0, 0, 0] ![1, 1, 1] inb_S1x1x128_S1x1x1_0_0_0)))
    (k1_pay19 (iblk1 V c 4 t)) (k1_pay20 (iblk1 V c 5 t) (iblk1 V c 3 t))
    (rows (head q (hd1 t)) (qb1 t)) (rows (ghead g (hd1 t)) (qb1 t)) (slope (hd1 t))
    (fun r => Z (slope (hd1 t)) (head q (hd1 t)) (head k (hd1 t)) (row (qb1 t) r))
    (fun r => Dl (slope (hd1 t)) (head q (hd1 t)) (head k (hd1 t)) (head v (hd1 t)) (ghead g (hd1 t)) (row (qb1 t) r)) where
  q := blk1_0 H t
  go r d := by pointwise [k1_pay17]; exact blk1_5 H t r d
  sl := by pointwise [k1_pay18]; exact blk1_6 H t
  spos := slope_pos _
  pos r := Z_pos _ _ _ _
  lse r := by pointwise [k1_pay19]; exact blk1_4 H t r
  dl r := bpay20_apply (blk1_5 H t) (blk1_3 H t) r

/-- What one block of queries adds to the gradients of the keys and values of a head. -/
def kAdd (q k v : Fin 2048 → Fin 1024 → ℝ) (g : Fin 2048 → Fin 2048 → ℝ) (h : Fin 8) (i j : Fin 4) (x : Fin 512) (d : Fin 128) : ℝ :=
  scale * ∑ r, DS (slope h) (head q h) (head k h) (head v h) (ghead g h) (row i r) (row j x) * head q h (row i r) d
def vAdd (q k : Fin 2048 → Fin 1024 → ℝ) (g : Fin 2048 → Fin 2048 → ℝ) (h : Fin 8) (i j : Fin 4) (x : Fin 512) (d : Fin 128) : ℝ :=
  ∑ r, P (slope h) (head q h) (head k h) (row i r) (row j x) * ghead g h (row i r) d

/-- One point of the grid: the queries' gradient, and what it adds to the keys' and values'. -/
theorem bwd_point (G10 : BufTy.Contents (Elt Ideal) (ms1_10 t).view.ty) (G11 : BufTy.Contents (Elt Ideal) (ms1_11 t).view.ty)
    {a10 a11 : Fin 4 → Fin 512 → Fin 128 → ℝ}
    (h10 : ∀ j x d, ((ms1_10 t).view.read (Elt Ideal) G10 (ix2 (row j x) d) : EReal) = (a10 j x d : EReal))
    (h11 : ∀ j x d, ((ms1_11 t).view.read (Elt Ideal) G11 (ix2 (row j x) d) : EReal) = (a11 j x d : EReal)) :
    (∀ r d, (k1_pay6 (F := Ideal) (bwdSt c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
      (iblk1 V c 0 t) (k1_pay17 (iblk1 V c 5 t)) (k1_pay18 (View.ld (iblk1 V c 6 t) (Rect.unit ![0, 0, 0] ![1, 1, 1] inb_S1x1x128_S1x1x1_0_0_0)))
      (k1_pay19 (iblk1 V c 4 t)) (k1_pay20 (iblk1 V c 5 t) (iblk1 V c 3 t)) (iblk1 V c 1 t) (iblk1 V c 2 t) (iblk1 V c 7 t) (iblk1 V c 8 t) G10 G11 ((grid1.coords t 1).val + 1)).1 (ix2 r d) : EReal)
      = (DQ (slope (hd1 t)) (head q (hd1 t)) (head k (hd1 t)) (head v (hd1 t)) (ghead g (hd1 t)) (row (qb1 t) r) d : EReal))
    ∧ (∀ j x d, ((ms1_10 t).view.read (Elt Ideal) ((ms1_10 t).view.writes (Elt Ideal) G10 (bwdSt c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
      (iblk1 V c 0 t) (k1_pay17 (iblk1 V c 5 t)) (k1_pay18 (View.ld (iblk1 V c 6 t) (Rect.unit ![0, 0, 0] ![1, 1, 1] inb_S1x1x128_S1x1x1_0_0_0)))
      (k1_pay19 (iblk1 V c 4 t)) (k1_pay20 (iblk1 V c 5 t) (iblk1 V c 3 t)) (iblk1 V c 1 t) (iblk1 V c 2 t) (iblk1 V c 7 t) (iblk1 V c 8 t) G10 G11 ((grid1.coords t 1).val + 1)).2.1) (ix2 (row j x) d) : EReal)
      = ((a10 j x d + kAdd q k v g (hd1 t) (qb1 t) j x d : ℝ) : EReal))
    ∧ (∀ j x d, ((ms1_11 t).view.read (Elt Ideal) ((ms1_11 t).view.writes (Elt Ideal) G11 (bwdSt c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t)
      (iblk1 V c 0 t) (k1_pay17 (iblk1 V c 5 t)) (k1_pay18 (View.ld (iblk1 V c 6 t) (Rect.unit ![0, 0, 0] ![1, 1, 1] inb_S1x1x128_S1x1x1_0_0_0)))
      (k1_pay19 (iblk1 V c 4 t)) (k1_pay20 (iblk1 V c 5 t) (iblk1 V c 3 t)) (iblk1 V c 1 t) (iblk1 V c 2 t) (iblk1 V c 7 t) (iblk1 V c 8 t) G10 G11 ((grid1.coords t 1).val + 1)).2.2) (ix2 (row j x) d) : EReal)
      = ((a11 j x d + vAdd q k g (hd1 t) (qb1 t) j x d : ℝ) : EReal)) := by
  have T : Tables (iblk1 V c 7 t) (iblk1 V c 8 t) Wt Dt := by
    rw [blk1_7 H t, blk1_8 H t]; exact H.htab
  obtain ⟨s1, s2, s3⟩ := bwd_state c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (G10 := G10) (G11 := G11)
    (row_of H t) (blk1_1 H t) (blk1_2 H t) T h10 h11 ((qb1 t).val + 1) le_rfl
  refine ⟨fun r d => ?_, fun j x d => ?_, fun j x d => ?_⟩
  · refine (bpay6_apply r d _ (s1 r d)).trans ?_
    exact congrArg _ (DQ_blocks (slope (hd1 t)) (head q (hd1 t)) (head k (hd1 t)) (head v (hd1 t)) (ghead g (hd1 t)) (qb1 t) r d)
  · refine (s2 j x d).trans ?_
    exact congrArg (fun z : ℝ => ((a10 j x d + z : ℝ) : EReal)) (DK_block (slope (hd1 t)) (head q (hd1 t)) (head k (hd1 t)) (head v (hd1 t)) (ghead g (hd1 t)) (qb1 t) j x d)
  · refine (s3 j x d).trans ?_
    exact congrArg (fun z : ℝ => ((a11 j x d + z : ℝ) : EReal)) (DV_block (slope (hd1 t)) (head q (hd1 t)) (head k (hd1 t)) (ghead g (hd1 t)) (qb1 t) j x d)

/-- The three blocks after a point of the grid: the queries' gradient, and the sums so far of the keys' and values'. -/
def After (V : (c : Dev nD) → (b : Ref sig .tc) → Buf (Elt Ideal) ((c : Thread nD τ).loc b)) (c : Dev nD)
    (q k v : Fin 2048 → Fin 1024 → ℝ) (g : Fin 2048 → Fin 2048 → ℝ) (t : Fin cfg1.N) : Prop :=
    (∀ r d, ((outsAt1 V c t.val t.isLt).1 (ix2 r d) : EReal)
      = (DQ (slope (hd1 t)) (head q (hd1 t)) (head k (hd1 t)) (head v (hd1 t)) (ghead g (hd1 t)) (row (qb1 t) r) d : EReal))
    ∧ (∀ j x d, ((outsAt1 V c t.val t.isLt).2.1 (ix2 (row j x) d) : EReal)
      = ((∑ i : Fin 4, if i.val < (qb1 t).val + 1 then kAdd q k v g (hd1 t) i j x d else 0 : ℝ) : EReal))
    ∧ (∀ j x d, ((outsAt1 V c t.val t.isLt).2.2 (ix2 (row j x) d) : EReal)
      = ((∑ i : Fin 4, if i.val < (qb1 t).val + 1 then vAdd q k g (hd1 t) i j x d else 0 : ℝ) : EReal))

omit H in
theorem zeros10 {κ : Kind} {sp : Space} (w : View sig κ sp S2048x128 .f32) (f : w.ty.Contents (Elt Ideal)) (z : FVec Ideal S2048x128 .f32)
    (hz : ∀ a d, (z (ix2 a d) : EReal) = 0) (a : Fin 2048) (d : Fin 128) :
    (w.read (Elt Ideal) (w.writes (Elt Ideal) f [⟨Rect.unit ![0, 0] ![2048, 128] inb_S2048x128_S2048x128_0_0, z⟩]) (ix2 a d) : EReal) = ((0 : ℝ) : EReal) := by
  refine (View.read_writes_cons_rows_of_mem w f inb_S2048x128_S2048x128_0_0 z [] (ix2 a d) (ix2 a d) rfl (Nat.zero_add _).symm rfl).trans ?_
  exact (hz a d).trans EReal.coe_zero.symm

theorem after_A (h0 : t.val % 4 = 0) : After V c q k v g t := by
  have hb : (qb1 t).val = 0 := (qb1_val t).trans h0
  have b0 : qb1 t = 0 := Fin.ext hb
  obtain ⟨p1, p2, p3⟩ := bwd_point H t
    ((ms1_10 t).view.writes (Elt Ideal) (ms1_10 t).view.junk [⟨Rect.unit ![0, 0] ![2048, 128] inb_S2048x128_S2048x128_0_0, k1_pay21 (F := Ideal)⟩])
    ((ms1_11 t).view.writes (Elt Ideal) (ms1_11 t).view.junk [⟨Rect.unit ![0, 0] ![2048, 128] inb_S2048x128_S2048x128_0_0, k1_pay22 (F := Ideal)⟩])
    (a10 := fun _ _ _ => 0) (a11 := fun _ _ _ => 0)
    (fun j x d => zeros10 _ _ _ (fun a d => by pointwise [k1_pay21]) _ _) (fun j x d => zeros10 _ _ _ (fun a d => by pointwise [k1_pay22]) _ _)
  unfold After
  rw [outsAt1_A V c t h0]
  dsimp only
  rw [out_A_9, out_A_10, out_A_11]
  refine ⟨p1, fun j x d => (p2 j x d).trans ?_, fun j x d => (p3 j x d).trans ?_⟩
  · rw [b0]; simp
  · rw [b0]; simp

theorem after_B (h0 : ¬t.val % 4 = 0) (ih : After V c q k v g ⟨t.val - 1, Nat.lt_of_le_of_lt (Nat.sub_le _ _) t.isLt⟩) : After V c q k v g t := by
  have hq := qb1_val t
  have hq' := qb1_val ⟨t.val - 1, Nat.lt_of_le_of_lt (Nat.sub_le _ _) t.isLt⟩
  have hb : (qb1 ⟨t.val - 1, Nat.lt_of_le_of_lt (Nat.sub_le _ _) t.isLt⟩).val + 1 = (qb1 t).val := by
    dsimp only at hq'; omega
  have hh : hd1 ⟨t.val - 1, Nat.lt_of_le_of_lt (Nat.sub_le _ _) t.isLt⟩ = hd1 t := by
    refine Fin.ext ?_
    rw [hd1_val, hd1_val]; dsimp only; omega
  obtain ⟨i1, i2, i3⟩ := ih
  dsimp only at i2 i3
  simp only [hb, hh] at i2 i3
  obtain ⟨p1, p2, p3⟩ := bwd_point H t
    ((hs1_10 t).unread (outsAt1 V c (t.val - 1) (Nat.lt_of_le_of_lt (Nat.sub_le _ _) t.isLt)).2.1)
    ((hs1_11 t).unread (outsAt1 V c (t.val - 1) (Nat.lt_of_le_of_lt (Nat.sub_le _ _) t.isLt)).2.2)
    (fun j x d => by rw [(hs1_10 t).read_unread]; exact i2 j x d) (fun j x d => by rw [(hs1_11 t).read_unread]; exact i3 j x d)
  unfold After
  rw [outsAt1_B V c t h0]
  dsimp only
  rw [out_B_9, out_B_10, out_B_11]
  refine ⟨p1, fun j x d => (p2 j x d).trans ?_, fun j x d => (p3 j x d).trans ?_⟩
  · rw [sum_upto_succ (fun i => kAdd q k v g (hd1 t) i j x d) _ (qb1 t).isLt]
  · rw [sum_upto_succ (fun i => vAdd q k g (hd1 t) i j x d) _ (qb1 t).isLt]

theorem after_all (n : ℕ) : ∀ t : Fin cfg1.N, t.val = n → After V c q k v g t := by
  induction n with
  | zero => exact fun t h => after_A H t (by rw [h])
  | succ n ih =>
    intro t h
    by_cases h0 : t.val % 4 = 0
    · exact after_A H t h0
    · exact after_B H t h0 (ih _ (by dsimp only; omega))

omit H in
theorem sum_all (f : Fin 4 → ℝ) : (∑ i : Fin 4, if i.val < 3 + 1 then f i else 0) = ∑ i, f i :=
  Finset.sum_congr rfl fun i _ => if_pos i.isLt

/-- The queries' gradient. -/
theorem bwd_dq : (dat1 V c).arrAt 9 cfg1.N
    = fun x : S2048x1024.Idx => ((DQ (slope (hOf (x 1))) (head q (hOf (x 1))) (head k (hOf (x 1))) (head v (hOf (x 1))) (ghead g (hOf (x 1))) (x 0) (dOf (x 1)) : ℝ) : EReal) := by
  refine (dat1 V c).arrAt_eq_of_covers 9 _ (by decide +kernel) fun t hf y => ?_
  blk_simp
  rw [after1_9]
  obtain ⟨r, d, rfl⟩ : ∃ (r : Fin 512) (d : Fin 128), y = ix2 r d := ⟨y 0, y 1, by idx_ext⟩
  refine ((after_all H _ t rfl).1 r d).trans ?_
  have e : ((cfg1.win 9).blk t).view.emb (ix2 r d) = ix2 (row (qb1 t) r) (col (hd1 t) d) := by
    blk_ext [idx1_9 t, row, col]
  rw [e]
  show _ = ((DQ (slope (hOf (col (hd1 t) d))) (head q (hOf (col (hd1 t) d))) (head k (hOf (col (hd1 t) d))) (head v (hOf (col (hd1 t) d))) (ghead g (hOf (col (hd1 t) d))) (row (qb1 t) r) (dOf (col (hd1 t) d)) : ℝ) : EReal)
  rw [hOf_col, dOf_col]

omit H in
theorem last10 : ∀ t : Fin cfg1.N, (cfg1.win 10).flush t = true → (qb1 t).val = 3 := (by decide +kernel : ∀ t : Fin grid1.N, _)
omit H in
theorem last11 : ∀ t : Fin cfg1.N, (cfg1.win 11).flush t = true → (qb1 t).val = 3 := (by decide +kernel : ∀ t : Fin grid1.N, _)

/-- The keys' gradient. -/
theorem bwd_dk : (dat1 V c).arrAt 10 cfg1.N
    = fun x : S2048x1024.Idx => ((DK (slope (hOf (x 1))) (head q (hOf (x 1))) (head k (hOf (x 1))) (head v (hOf (x 1))) (ghead g (hOf (x 1))) (x 0) (dOf (x 1)) : ℝ) : EReal) := by
  refine (dat1 V c).arrAt_eq_of_covers 10 _ (by decide +kernel) fun t hf y => ?_
  blk_simp
  rw [after1_10]
  obtain ⟨j, x, d, rfl⟩ : ∃ (j : Fin 4) (x : Fin 512) (d : Fin 128), y = ix2 (row j x) d :=
    ⟨⟨(y 0).val / 512, Nat.div_lt_of_lt_mul (y 0).isLt⟩, ⟨(y 0).val % 512, Nat.mod_lt _ (by decide)⟩, y 1, by
      refine funext (Fin.forall_fin_two.mpr ⟨Fin.ext ?_, rfl⟩)
      exact (Nat.div_add_mod _ 512).symm⟩
  refine ((after_all H _ t rfl).2.1 j x d).trans ?_
  have e : ((cfg1.win 10).blk t).view.emb (ix2 (row j x) d) = ix2 (row j x) (col (hd1 t) d) := by
    blk_ext [idx1_10 t, row, col]
  rw [e, last10 t hf, sum_all]
  show _ = ((DK (slope (hOf (col (hd1 t) d))) (head q (hOf (col (hd1 t) d))) (head k (hOf (col (hd1 t) d))) (head v (hOf (col (hd1 t) d))) (ghead g (hOf (col (hd1 t) d))) (row j x) (dOf (col (hd1 t) d)) : ℝ) : EReal)
  rw [hOf_col, dOf_col]
  unfold DK kAdd
  rw [sum_rows, Finset.mul_sum]

/-- The values' gradient. -/
theorem bwd_dv : (dat1 V c).arrAt 11 cfg1.N
    = fun x : S2048x1024.Idx => ((DV (slope (hOf (x 1))) (head q (hOf (x 1))) (head k (hOf (x 1))) (ghead g (hOf (x 1))) (x 0) (dOf (x 1)) : ℝ) : EReal) := by
  refine (dat1 V c).arrAt_eq_of_covers 11 _ (by decide +kernel) fun t hf y => ?_
  blk_simp
  rw [after1_11]
  obtain ⟨j, x, d, rfl⟩ : ∃ (j : Fin 4) (x : Fin 512) (d : Fin 128), y = ix2 (row j x) d :=
    ⟨⟨(y 0).val / 512, Nat.div_lt_of_lt_mul (y 0).isLt⟩, ⟨(y 0).val % 512, Nat.mod_lt _ (by decide)⟩, y 1, by
      refine funext (Fin.forall_fin_two.mpr ⟨Fin.ext ?_, rfl⟩)
      exact (Nat.div_add_mod _ 512).symm⟩
  refine ((after_all H _ t rfl).2.2 j x d).trans ?_
  have e : ((cfg1.win 11).blk t).view.emb (ix2 (row j x) d) = ix2 (row j x) (col (hd1 t) d) := by
    blk_ext [idx1_11 t, row, col]
  rw [e, last11 t hf, sum_all]
  show _ = ((DV (slope (hOf (col (hd1 t) d))) (head q (hOf (col (hd1 t) d))) (head k (hOf (col (hd1 t) d))) (ghead g (hOf (col (hd1 t) d))) (row j x) (dOf (col (hd1 t) d)) : ℝ) : EReal)
  rw [hOf_col, dOf_col]
  unfold DV vAdd
  rw [sum_rows]

end Bwd

end Cert.Proof.Attn

end
-- ==== Proof.AttnTables.lean ====
/-
The two tables the host prepares for both calls, and the slopes: at a gap of blocks, a row and a column, the distance
(infinite where a key is not attended) and the logarithm of the number of branches that attend the key.
-/
module

public import proofs.«01_k».proof.Proof.AttnGrads
public import Idealize.ShloMosaic.Lib.Claim

@[expose] public section

noncomputable section

open Idealize.ShloMosaic Idealize.ShloMosaic.TcCoe Idealize.SL.Sem Idealize.ShloMosaic.Pointwise

namespace Cert.Proof.Attn

open Cert.AttnBwdIdeal Cert.AttnBwdIdeal.Gen Cert.Proof.Rv

/-- The distance of a key from a query, as the host computes it. -/
def distW : IVec S4x512x512 32 :=
  subi (addi (muli (iotaInDim S4x512x512 32 0) (broadcastInDim S4x512x512 ![] bcast_S_S4x512x512 (constantI S_ 32 512#32)))
    (iotaInDim S4x512x512 32 1)) (iotaInDim S4x512x512 32 2)

/-- A word in every entry. -/
def every (w : BitVec 32) : IVec S4x512x512 32 := broadcastInDim S4x512x512 ![] bcast_S_S4x512x512 (constantI S_ 32 w)

/-- A number in every entry. -/
def everyF (w : BitVec 32) : FVec Ideal S4x512x512 .f32 := broadcastInDim S4x512x512 ![] bcast_S_S4x512x512 (constant S_ .f32 w)

/-- How many branches attend the key. -/
def multF : FVec Ideal S4x512x512 .f32 :=
  addf (addf (uitofp .f32 (cmpi .sle distW (every 128#32)))
      (uitofp .f32 (andi (cmpi .eq (andi distW (every 3#32)) (every 0#32)) (cmpi .sle distW (every 512#32)))))
    (uitofp .f32 (cmpi .eq (andi distW (every 15#32)) (every 0#32)))

/-- Whether the key is attended. -/
def okF : IVec S4x512x512 1 := andi (cmpi .sge distW (every 0#32)) (cmpf .ogt multF (everyF 0x00000000#32))

def distF : FVec Ideal S4x512x512 .f32 := select okF (sitofp .f32 distW) (everyF 0x7F800000#32)
def logF : FVec Ideal S4x512x512 .f32 := select okF (Host.log (maximumf multF (everyF 0x3F800000#32))) (everyF 0x00000000#32)

/-- The word of a distance. -/
def gapWord (z : ℤ) : BitVec 32 := BitVec.ofInt 32 z

theorem word_le (b : Bool) : ((BitVec.ofBool b).toNat : ℝ) = if b then 1 else 0 := by cases b <;> simp

/-- What the host asks of a distance, for every distance within the sequence. -/
theorem gapWord_facts : ∀ n : Fin 2559, (gapWord ((n.val : ℤ) - 511)).toInt = (n.val : ℤ) - 511
    ∧ IntOp.cmpi .sle (gapWord ((n.val : ℤ) - 511)) 128#32 = BitVec.ofBool (decide ((n.val : ℤ) - 511 ≤ 128))
    ∧ IntOp.cmpi .sle (gapWord ((n.val : ℤ) - 511)) 512#32 = BitVec.ofBool (decide ((n.val : ℤ) - 511 ≤ 512))
    ∧ IntOp.cmpi .sge (gapWord ((n.val : ℤ) - 511)) 0#32 = BitVec.ofBool (decide (0 ≤ (n.val : ℤ) - 511))
    ∧ IntOp.cmpi .eq (IntOp.andi (gapWord ((n.val : ℤ) - 511)) 3#32) 0#32 = BitVec.ofBool (decide (((n.val : ℤ) - 511) % 4 = 0))
    ∧ IntOp.cmpi .eq (IntOp.andi (gapWord ((n.val : ℤ) - 511)) 15#32) 0#32 = BitVec.ofBool (decide (((n.val : ℤ) - 511) % 16 = 0)) := by
  decide +kernel

theorem gapWord_int {z : ℤ} (h0 : -511 ≤ z) (h1 : z ≤ 2047) : (gapWord z).toInt = z
    ∧ IntOp.cmpi .sle (gapWord z) 128#32 = BitVec.ofBool (decide (z ≤ 128))
    ∧ IntOp.cmpi .sle (gapWord z) 512#32 = BitVec.ofBool (decide (z ≤ 512))
    ∧ IntOp.cmpi .sge (gapWord z) 0#32 = BitVec.ofBool (decide (0 ≤ z))
    ∧ IntOp.cmpi .eq (IntOp.andi (gapWord z) 3#32) 0#32 = BitVec.ofBool (decide (z % 4 = 0))
    ∧ IntOp.cmpi .eq (IntOp.andi (gapWord z) 15#32) 0#32 = BitVec.ofBool (decide (z % 16 = 0)) := by
  have h := gapWord_facts ⟨(z + 511).toNat, by omega⟩
  have e : (((z + 511).toNat : ℕ) : ℤ) - 511 = z := by omega
  simpa only [e] using h

theorem distW_apply (o : Fin 4) (r x : Fin 512) : distW (ix3 o r x) = gapWord (512 * (o.val : ℤ) + r.val - x.val) := by
  pointwise [distW]
  show ((BitVec.ofNat 32 o.val * 512#32) + BitVec.ofNat 32 r.val) - BitVec.ofNat 32 x.val = _
  unfold gapWord
  have ho := o.isLt
  have hr := r.isLt
  have hx := x.isLt
  refine BitVec.eq_of_toNat_eq ?_
  simp only [BitVec.toNat_sub, BitVec.toNat_add, BitVec.toNat_mul, BitVec.toNat_ofNat, BitVec.toNat_ofInt]
  omega

/-- How many branches attend a key at a distance (of a key ahead too). -/
def cnt (z : ℤ) : ℝ := (if z ≤ 128 then 1 else 0) + (if z % 4 = 0 ∧ z ≤ 512 then 1 else 0) + (if z % 16 = 0 then 1 else 0)

theorem wt_eq (z : ℤ) : wt z = if 0 ≤ z then cnt z else 0 := rfl

theorem uitofp_bool (b : Bool) : (FloatOps.uitofp (F := Ideal) .f32 (BitVec.ofBool b) : EReal) = ((if b then 1 else 0 : ℝ) : EReal) := by
  show (((BitVec.ofBool b).toNat : ℝ) : EReal) = _
  rw [word_le]

theorem andi_bool (a b : Bool) : IntOp.andi (BitVec.ofBool a) (BitVec.ofBool b) = BitVec.ofBool (a && b) := by
  cases a <;> cases b <;> rfl

section At

variable (o : Fin 4) (r x : Fin 512)

theorem multF_apply : (multF (ix3 o r x) : EReal) = (cnt (512 * (o.val : ℤ) + r.val - x.val) : EReal) := by
  obtain ⟨-, h1, h2, -, h4, h5⟩ := gapWord_int (z := 512 * (o.val : ℤ) + r.val - x.val) (by omega) (by omega)
  pointwise [multF, every]
  rw [distW_apply, h1, h2, h4, h5, andi_bool, uitofp_bool, uitofp_bool, uitofp_bool, ← EReal.coe_add, ← EReal.coe_add]
  unfold cnt
  simp only [decide_eq_true_eq, Bool.and_eq_true]

theorem okF_apply : okF (ix3 o r x) = BitVec.ofBool (decide (0 < Wt o r x)) := by
  obtain ⟨-, -, -, h3, -, -⟩ := gapWord_int (z := 512 * (o.val : ℤ) + r.val - x.val) (by omega) (by omega)
  pointwise [okF, every, everyF]
  rw [distW_apply, h3, multF_apply, andi_bool]
  refine congrArg BitVec.ofBool ?_
  rw [← Bool.decide_and]
  refine decide_eq_decide.mpr ?_
  unfold Wt
  rw [wt_eq, ← EReal.coe_zero, EReal.coe_lt_coe_iff]
  by_cases h : 0 ≤ 512 * (o.val : ℤ) + r.val - x.val
  · rw [if_pos h]; exact ⟨fun p => p.2, fun p => ⟨h, p⟩⟩
  · rw [if_neg h]; exact ⟨fun p => absurd p.1 h, fun p => absurd p (lt_irrefl _)⟩

theorem distF_apply : (distF (ix3 o r x) : EReal) = if 0 < Wt o r x then (Dt o r x : EReal) else ⊤ := by
  obtain ⟨h0, -, -, -, -, -⟩ := gapWord_int (z := 512 * (o.val : ℤ) + r.val - x.val) (by omega) (by omega)
  pointwise [distF, everyF]
  rw [okF_apply]
  by_cases h : 0 < Wt o r x
  · rw [decide_eq_true h, if_pos h, distW_apply]
    show (((gapWord (512 * (o.val : ℤ) + r.val - x.val)).toInt : ℝ) : EReal) = _
    rw [h0]; rfl
  · rw [decide_eq_false h, if_neg h]
    show Ideal.ofBits .f32 0x7F800000#32 = ⊤
    exact word_top

theorem logF_apply : (logF (ix3 o r x) : EReal) = if 0 < Wt o r x then (Real.log (Wt o r x) : EReal) else 0 := by
  pointwise [logF, everyF]
  rw [okF_apply]
  by_cases h : 0 < Wt o r x
  · rw [decide_eq_true h, if_pos h, multF_apply]
    show Ideal.log (max ((cnt (512 * (o.val : ℤ) + r.val - x.val) : ℝ) : EReal) 1) = _
    have hz : Wt o r x = cnt (512 * (o.val : ℤ) + r.val - x.val) := by
      unfold Wt at h ⊢; rw [wt_eq] at h ⊢; split_ifs at h ⊢ <;> first | rfl | exact absurd h (lt_irrefl _)
    have h1 : 1 ≤ Wt o r x := by
      rw [hz] at h ⊢
      unfold cnt at h ⊢
      split_ifs at h ⊢ <;> first | (exfalso; norm_num at h; done) | norm_num
    rw [← hz, max_eq_left (by exact_mod_cast h1), Ideal.log_coe, if_neg (not_le.mpr h)]
  · rw [decide_eq_false h, if_neg h]; rfl

end At

theorem tables : Tables distF logF Wt Dt where
  pos _ _ _ := wt_nonneg _
  dist := distF_apply
  lmul := logF_apply

section Entry

variable (m : (ℓ : Loc nD τ sig) → Buf (Elt Ideal) ℓ) (ρ : Dev nD → PrngReg) (c : Dev nD)

theorem dist0 : V4 (F := Ideal) m ρ c main_v33 = distF := by
  show StableHlo.after hostOps0_3 (W3 m ρ c) (Proc.devRef .tc main_v33) = _
  entry_read
  rfl

theorem log0 : V4 (F := Ideal) m ρ c main_v37 = logF := by
  show StableHlo.after hostOps0_3 (W3 m ρ c) (Proc.devRef .tc main_v37) = _
  entry_read
  rfl

theorem dist1 : V9 (F := Ideal) m ρ c main_v70 = distF := by
  show StableHlo.after hostOps1_3 (W8 m ρ c) (Proc.devRef .tc main_v70) = _
  entry_read
  rfl

theorem log1 : V9 (F := Ideal) m ρ c main_v74 = logF := by
  show StableHlo.after hostOps1_3 (W8 m ρ c) (Proc.devRef .tc main_v74) = _
  entry_read
  rfl

theorem lits_eq : lit1 = lit0 := rfl

theorem slopes_eq (h : Fin 8) : (Ideal.ofBits .f32 (lit0 h) : EReal) = (slope h : EReal) := by
  fin_cases h <;> (simp [lit0, slope, Ideal.ofBits, Ideal.ieee] <;> norm_num [← EReal.coe_mul])

theorem slope0 (h : Fin 8) (l : Fin 128) : (V4 (F := Ideal) m ρ c main_v0 (ix3 h 0 l) : EReal) = (slope h : EReal) := by
  show StableHlo.after hostOps0_3 (W3 m ρ c) (Proc.devRef .tc main_v0) (ix3 h 0 l) = _
  entry_read
  refine Eq.trans ?_ (slopes_eq h)
  pointwise []
  exact congrArg (fun w => Ideal.ofBits .f32 (lit0 w)) (Fin.ext (Shape.rowMajor_val_one _))

theorem slope1 (h : Fin 8) (l : Fin 128) : (V9 (F := Ideal) m ρ c main_v1 (ix3 h 0 l) : EReal) = (slope h : EReal) := by
  have e : V9 (F := Ideal) m ρ c main_v1 = V4 (F := Ideal) m ρ c main_v0 := by
    refine (W9_of m ρ c main_v1 (by decide)).trans ((W8_of m ρ c main_v1 (by decide)).trans ((W7_of m ρ c main_v1 (by decide)).trans
      ((W6_of m ρ c main_v1 (by decide)).trans ((W5_of m ρ c main_v1 (by decide)).trans ?_))))
    show StableHlo.after hostOps0_3 (W3 m ρ c) (Proc.devRef .tc main_v1) = StableHlo.after hostOps0_3 (W3 m ρ c) (Proc.devRef .tc main_v0)
    entry_read
    rfl
  rw [e]; exact slope0 m ρ c h l

end Entry

end Cert.Proof.Attn
-- ==== Proof.AttnRun.lean ====
/-
  The two attention calls run one after the other: what the program's four results hold when it ends, and that it ends
  at all. The launch is the one the frame is proved by; kept here is what every array holds.
-/
module

public import proofs.«01_k».proof.Defs
public import proofs.«01_k».proof.Proof.AttnTables

@[expose] public section

noncomputable section

namespace Cert.Proof.Attn

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen Cert.Proof.Rv

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer of the core ends at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-- A buffer of the first call that nothing after it writes keeps what the call left. -/
theorem out_kept (c : Dev nD) : W9 m ρ c (Proc.devRef .tc main_v38_0) = (dat0 (V4 m ρ) c).arrAt 6 cfg0.N :=
  (W9_of m ρ c main_v38_0 (by decide)).trans ((W8_of m ρ c main_v38_0 (by decide)).trans ((W7_of m ρ c main_v38_0 (by decide)).trans
    ((W6_of m ρ c main_v38_0 (by decide)).trans (W5_arr m ρ c 6))))

theorem lse_kept (c : Dev nD) : W9 m ρ c (Proc.devRef .tc main_v38_1) = (dat0 (V4 m ρ) c).arrAt 7 cfg0.N :=
  (W9_of m ρ c main_v38_1 (by decide)).trans ((W8_of m ρ c main_v38_1 (by decide)).trans ((W7_of m ρ c main_v38_1 (by decide)).trans
    ((W6_of m ρ c main_v38_1 (by decide)).trans (W5_arr m ρ c 7))))

/-- The four results and the four arguments when the program ends. -/
theorem run_blocks : θ_run defs (onTc (τ := τ) (main (F := Ideal))) ⟨m, fun _ => 0, ρ⟩ (fun r => ∀ c : Dev nD,
      r.2.mem ((c.tc : Thread nD τ).loc main_v38_0) = (dat0 (V4 m ρ) c).arrAt 6 cfg0.N
      ∧ r.2.mem ((c.tc : Thread nD τ).loc main_v75_0) = (dat1 (V9 m ρ) c).arrAt 9 cfg1.N
      ∧ r.2.mem ((c.tc : Thread nD τ).loc main_v75_1) = (dat1 (V9 m ρ) c).arrAt 10 cfg1.N
      ∧ r.2.mem ((c.tc : Thread nD τ).loc main_v75_2) = (dat1 (V9 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v38_0 (by decide))).trans ((W10_of m ρ c main_v38_0 (by decide)).trans (out_kept m ρ c)),
     (h c _ (mem_uc main_v75_0 (by decide))).trans (W10_arr m ρ c 9),
     (h c _ (mem_uc main_v75_1 (by decide))).trans (W10_arr m ρ c 10),
     (h c _ (mem_uc main_v75_2 (by decide))).trans (W10_arr m ρ c 11),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c)⟩) (run_all m ρ)

/-- A true comparison with infinity says the number is real. -/
theorem real_of {x : EReal} (h : BitVec.ofBool (decide (max x (-x) < Ideal.ofBits .f32 0x7F800000#32)) = 1#1) : ∃ r : ℝ, x = (r : EReal) := by
  have h' : max x (-x) < ⊤ := by
    rw [← word_top]
    by_contra hn
    rw [decide_eq_false hn] at h
    exact absurd h (by decide)
  have h1 := (max_lt_iff.mp h').1
  have h2 := (max_lt_iff.mp h').2
  refine ⟨x.toReal, (EReal.coe_toReal h1.ne ?_).symm⟩
  rintro rfl
  exact absurd h2 (by simp)

instance facts_finite : Cert.Pre_finite.Facts where
  bitsLt_bf16_f32 := by decide
  bcast_S_S2048x1024 := by decide
  bcast_S_S2048x2048 := by decide

section Final

variable (h : Cert.Pre_AttnBwdIdeal_finite m)
include h

theorem real_arg0 (c : Dev nD) (i : S2048x1024.Idx) : ∃ r : ℝ, (m ((c.tc : Thread nD τ).loc main_arg0) i : EReal) = (r : EReal) :=
  real_of (congrFun (h c).1 i)
theorem real_arg1 (c : Dev nD) (i : S2048x1024.Idx) : ∃ r : ℝ, (m ((c.tc : Thread nD τ).loc main_arg1) i : EReal) = (r : EReal) :=
  real_of (congrFun (h c).2.1 i)
theorem real_arg2 (c : Dev nD) (i : S2048x1024.Idx) : ∃ r : ℝ, (m ((c.tc : Thread nD τ).loc main_arg2) i : EReal) = (r : EReal) :=
  real_of (congrFun (h c).2.2.1 i)
theorem real_arg3 (c : Dev nD) (i : S2048x2048.Idx) : ∃ r : ℝ, (m ((c.tc : Thread nD τ).loc main_arg3) i : EReal) = (r : EReal) :=
  real_of (congrFun (h c).2.2.2 i)

/-- The arguments as arrays of real numbers. -/
theorem reals (c : Dev nD) : ∃ (q k v : Fin 2048 → Fin 1024 → ℝ) (g : Fin 2048 → Fin 2048 → ℝ),
    (∀ a x, (m ((c.tc : Thread nD τ).loc main_arg0) (ix2 a x) : EReal) = (q a x : EReal))
    ∧ (∀ a x, (m ((c.tc : Thread nD τ).loc main_arg1) (ix2 a x) : EReal) = (k a x : EReal))
    ∧ (∀ a x, (m ((c.tc : Thread nD τ).loc main_arg2) (ix2 a x) : EReal) = (v a x : EReal))
    ∧ ∀ a x, (m ((c.tc : Thread nD τ).loc main_arg3) (ix2 a x) : EReal) = (g a x : EReal) := by
  choose q hq using real_arg0 m h c
  choose k hk using real_arg1 m h c
  choose v hv using real_arg2 m h c
  choose g hg using real_arg3 m h c
  exact ⟨fun a x => q (ix2 a x), fun a x => k (ix2 a x), fun a x => v (ix2 a x), fun a x => g (ix2 a x),
    fun a x => hq _, fun a x => hk _, fun a x => hv _, fun a x => hg _⟩

end Final

section Calls

variable {m} {c : Dev nD} {q k v : Fin 2048 → Fin 1024 → ℝ} {g : Fin 2048 → Fin 2048 → ℝ}
  (hq : ∀ a x, (m ((c.tc : Thread nD τ).loc main_arg0) (ix2 a x) : EReal) = (q a x : EReal))
  (hk : ∀ a x, (m ((c.tc : Thread nD τ).loc main_arg1) (ix2 a x) : EReal) = (k a x : EReal))
  (hv : ∀ a x, (m ((c.tc : Thread nD τ).loc main_arg2) (ix2 a x) : EReal) = (v a x : EReal))
include hq hk hv

/-- What the forward call reads. -/
theorem fwd_in : FwdIn (V4 m ρ) c q k v where
  q a x := (congrFun (W4_args m ρ c main_arg0 (by decide)) (ix2 a x)).trans (hq a x)
  k a x := (congrFun (W4_args m ρ c main_arg1 (by decide)) (ix2 a x)).trans (hk a x)
  v a x := (congrFun (W4_args m ρ c main_arg2 (by decide)) (ix2 a x)).trans (hv a x)
  sl h l := slope0 m ρ c h l
  tab := by rw [dist0 m ρ c, log0 m ρ c]; exact tables

/-- What the backward call reads. -/
theorem bwd_in (hg : ∀ a x, (m ((c.tc : Thread nD τ).loc main_arg3) (ix2 a x) : EReal) = (g a x : EReal)) : BwdIn (V9 m ρ) c q k v g where
  hq a x := (congrFun (W9_args m ρ c main_arg0 (by decide)) (ix2 a x)).trans (hq a x)
  hk a x := (congrFun (W9_args m ρ c main_arg1 (by decide)) (ix2 a x)).trans (hk a x)
  hv a x := (congrFun (W9_args m ρ c main_arg2 (by decide)) (ix2 a x)).trans (hv a x)
  hg a x := (congrFun (W9_args m ρ c main_arg3 (by decide)) (ix2 a x)).trans (hg a x)
  ho a h d := by
    refine (congrFun ((out_kept m ρ c).trans (fwd_o (fwd_in ρ hq hk hv))) (ix2 a (col h d))).trans ?_
    show ((O (slope (hOf (col h d))) (head q (hOf (col h d))) (head k (hOf (col h d))) (head v (hOf (col h d))) a (dOf (col h d)) : ℝ) : EReal) = _
    rw [hOf_col, dOf_col]
  hl h a := congrFun ((lse_kept m ρ c).trans (fwd_l (fwd_in ρ hq hk hv))) (ix3 h a 0)
  hsl h l := slope1 m ρ c h l
  htab := by rw [dist1 m ρ c, log1 m ρ c]; exact tables

end Calls

end Cert.Proof.Attn
-- ==== Proof.AttnMix.lean ====
/-
  The three dilated branches, over real numbers: each branch is a softmax of its own over the keys it attends, and the
  branches are mixed by a softmax of their logarithms of sums. The mixture is one softmax in which a key counts once for
  every branch that attends it; the gradient of the mixture, as the chain rule writes it, is the gradient of that softmax.
-/
module

public import proofs.«01_k».proof.Proof.AttnSpec

@[expose] public section

noncomputable section

open Idealize.ShloMosaic Idealize.ShloMosaic.Pointwise

namespace Cert.Proof.Attn

open Cert.Proof.Rv

/-- Whether a branch attends a key at a distance. -/
def sees (p : Fin 3) (z : ℤ) : Bool := decide (0 ≤ z) && decide (z ≤ 128 * 4 ^ p.val) && decide (z % 4 ^ p.val = 0)

/-- The same as a number. -/
def mu (p : Fin 3) (z : ℤ) : ℝ := if sees p z then 1 else 0

theorem mu_nonneg (p : Fin 3) (z : ℤ) : 0 ≤ mu p z := by
  unfold mu; split_ifs <;> norm_num

theorem sum_mu {z : ℤ} (h : z ≤ 2047) : ∑ p, mu p z = wt z := by
  rw [Fin.sum_univ_three]
  unfold mu sees wt
  simp only [Bool.and_eq_true, decide_eq_true_eq]
  by_cases h0 : 0 ≤ z
  · rw [if_pos h0]
    congr 1
    · congr 1
      · refine if_congr ?_ rfl rfl
        simp [h0]
      · refine if_congr ?_ rfl rfl
        simp only [Fin.val_one, pow_one]
        omega
    · refine if_congr ?_ rfl rfl
      simp only [Fin.val_two]
      omega
  · simp [h0]

section Branches

variable (s : ℝ) (q k v go : Fin 2048 → Fin 128 → ℝ)

/-- The score of a pair. -/
def xs (a b : Fin 2048) : ℝ := score s (q a) (k b) (gapOf a b : ℝ)

/-- A branch's share of the probability of a pair. -/
def rr (p : Fin 3) (a b : Fin 2048) : ℝ := mu p (gapOf a b) * Real.exp (xs s q k a b) / Z s q k a

variable (M : Fin 3 → Fin 2048 → ℝ) (L : Fin 2048 → ℝ)

/-- A branch's exponentials, their sum, its weighted values, its weight before the division, and the sum of those. -/
def ee (p : Fin 3) (a b : Fin 2048) : ℝ := mu p (gapOf a b) * Real.exp (xs s q k a b - M p a)
def den (p : Fin 3) (a : Fin 2048) : ℝ := ∑ b, ee s q k M p a b
def acc (p : Fin 3) (a : Fin 2048) (d : Fin 128) : ℝ := ∑ b, ee s q k M p a b * v b d
def cc (p : Fin 3) (a : Fin 2048) : ℝ := Real.exp (M p a + Real.log (den s q k M p a) - L a)
def tot (a : Fin 2048) : ℝ := ∑ p, cc s q k M L p a

theorem ee_nonneg (p : Fin 3) (a b : Fin 2048) : 0 ≤ ee s q k M p a b := mul_nonneg (mu_nonneg _ _) (Real.exp_nonneg _)

theorem sees_self (p : Fin 3) (a : Fin 2048) : sees p (gapOf a a) = true := by
  rw [show gapOf a a = 0 from sub_self _]
  fin_cases p <;> decide

theorem den_pos (p : Fin 3) (a : Fin 2048) : 0 < den s q k M p a := by
  refine lt_of_lt_of_le ?_ (Finset.single_le_sum (fun b _ => ee_nonneg s q k M p a b) (Finset.mem_univ a))
  unfold ee mu
  rw [sees_self, if_pos rfl]
  exact mul_pos one_pos (Real.exp_pos _)

theorem tot_pos (a : Fin 2048) : 0 < tot s q k M L a :=
  Finset.sum_pos (fun _ _ => Real.exp_pos _) ⟨0, Finset.mem_univ _⟩

theorem gap_le (a b : Fin 2048) : gapOf a b ≤ 2047 := by unfold gapOf; omega

theorem cc_eq (p : Fin 3) (a : Fin 2048) : cc s q k M L p a = den s q k M p a * (Real.exp (M p a) * Real.exp (-L a)) := by
  unfold cc
  rw [show M p a + Real.log (den s q k M p a) - L a = Real.log (den s q k M p a) + (M p a + -L a) by ring, Real.exp_add,
    Real.exp_log (den_pos s q k M p a), Real.exp_add]

theorem ee_exp (p : Fin 3) (a b : Fin 2048) : ee s q k M p a b * Real.exp (M p a) = mu p (gapOf a b) * Real.exp (xs s q k a b) := by
  unfold ee
  rw [mul_assoc, ← Real.exp_add]
  congr 2; ring

theorem tot_eq (a : Fin 2048) : tot s q k M L a = Z s q k a * Real.exp (-L a) := by
  unfold tot Z E
  simp only [cc_eq]
  unfold den
  simp only [← mul_assoc, Finset.sum_mul, ee_exp]
  rw [Finset.sum_comm]
  refine Finset.sum_congr rfl fun b _ => ?_
  rw [← Finset.sum_mul, ← Finset.sum_mul, sum_mu (gap_le a b)]
  rfl

/-- The weight of a branch times a probability within it is the branch's share of the probability. -/
theorem share (p : Fin 3) (a b : Fin 2048) :
    cc s q k M L p a / tot s q k M L a * (ee s q k M p a b / den s q k M p a) = rr s q k p a b := by
  have hd := (den_pos s q k M p a).ne'
  have hz := (Z_pos s q k a).ne'
  have hl := (Real.exp_pos (-L a)).ne'
  rw [cc_eq, tot_eq, rr, ← ee_exp s q k M p a b]
  field_simp

theorem sum_rr (a b : Fin 2048) : ∑ p, rr s q k p a b = P s q k a b := by
  unfold rr P E
  rw [← Finset.sum_div, ← Finset.sum_mul, sum_mu (gap_le a b)]
  rfl

theorem sum_rr_keys (p : Fin 3) (a : Fin 2048) : ∑ b, rr s q k p a b = cc s q k M L p a / tot s q k M L a := by
  simp only [← share s q k M L]
  rw [← Finset.mul_sum, ← Finset.sum_div, ← den, div_self (den_pos s q k M p a).ne', mul_one]

theorem sum_rr_v (p : Fin 3) (a : Fin 2048) (d : Fin 128) : ∑ b, rr s q k p a b * v b d
    = cc s q k M L p a / tot s q k M L a * (acc s q k v M p a d / den s q k M p a) := by
  simp only [← share s q k M L]
  unfold acc
  rw [Finset.sum_div, Finset.mul_sum]
  exact Finset.sum_congr rfl fun b _ => by ring

/-- The mixed output. -/
theorem mix_o (a : Fin 2048) (d : Fin 128) :
    ∑ p, cc s q k M L p a / tot s q k M L a * (acc s q k v M p a d / den s q k M p a) = O s q k v a d := by
  simp only [← sum_rr_v s q k v M L]
  rw [Finset.sum_comm]
  unfold O
  rw [Finset.sum_div]
  refine Finset.sum_congr rfl fun b _ => ?_
  rw [← Finset.sum_mul, sum_rr, P]
  ring

/-- What a branch's output takes of the cotangent. -/
def gg (p : Fin 3) (a : Fin 2048) : ℝ := ∑ d, go a d * (acc s q k v M p a d / den s q k M p a)

theorem sum_gg (a : Fin 2048) : ∑ p, cc s q k M L p a / tot s q k M L a * gg s q k v go M p a = Dl s q k v go a := by
  unfold gg Dl
  simp only [Finset.mul_sum]
  rw [Finset.sum_comm]
  refine Finset.sum_congr rfl fun d _ => ?_
  rw [← mix_o s q k v M L, Finset.mul_sum]
  exact Finset.sum_congr rfl fun p _ => by ring

/-- The gradient of a branch's logarithm of its sum. -/
def gl (p : Fin 3) (a : Fin 2048) : ℝ :=
  (gg s q k v go M p a / tot s q k M L a
    + -(∑ p, gg s q k v go M p a * (1 / (tot s q k M L a * tot s q k M L a)) * cc s q k M L p a)) * cc s q k M L p a

theorem gl_eq (p : Fin 3) (a : Fin 2048) :
    gl s q k v go M L p a = cc s q k M L p a / tot s q k M L a * (gg s q k v go M p a - Dl s q k v go a) := by
  have h : (∑ p, gg s q k v go M p a * (1 / (tot s q k M L a * tot s q k M L a)) * cc s q k M L p a) = Dl s q k v go a / tot s q k M L a := by
    rw [← sum_gg s q k v go M L, Finset.sum_div]
    exact Finset.sum_congr rfl fun p _ => by ring
  unfold gl
  rw [h]
  ring

/-- The gradient of a branch's sum. -/
def gd (p : Fin 3) (a : Fin 2048) : ℝ :=
  gl s q k v go M L p a / den s q k M p a
    + -(∑ d, cc s q k M L p a / tot s q k M L a * go a d * (1 / (den s q k M p a * den s q k M p a)) * acc s q k v M p a d)

theorem gd_eq (p : Fin 3) (a : Fin 2048) :
    gd s q k v go M L p a = -(cc s q k M L p a / tot s q k M L a / den s q k M p a * Dl s q k v go a) := by
  have h : (∑ d, cc s q k M L p a / tot s q k M L a * go a d * (1 / (den s q k M p a * den s q k M p a)) * acc s q k v M p a d)
      = cc s q k M L p a / tot s q k M L a / den s q k M p a * gg s q k v go M p a := by
    unfold gg
    rw [Finset.mul_sum]
    exact Finset.sum_congr rfl fun d _ => by ring
  unfold gd
  rw [h, gl_eq]
  ring

/-- The gradient of a branch's scores, before the gradient through its largest score. -/
def gx (p : Fin 3) (a b : Fin 2048) : ℝ :=
  ((∑ d, cc s q k M L p a / tot s q k M L a * go a d / den s q k M p a * v b d) + gd s q k v go M L p a) * ee s q k M p a b

theorem gx_eq (p : Fin 3) (a b : Fin 2048) :
    gx s q k v go M L p a b = rr s q k p a b * ((∑ d, go a d * v b d) - Dl s q k v go a) := by
  have h : (∑ d, cc s q k M L p a / tot s q k M L a * go a d / den s q k M p a * v b d)
      = cc s q k M L p a / tot s q k M L a / den s q k M p a * ∑ d, go a d * v b d := by
    rw [Finset.mul_sum]
    exact Finset.sum_congr rfl fun d _ => by ring
  unfold gx
  rw [h, gd_eq, ← share s q k M L]
  ring

/-- Nothing flows through a branch's largest score. -/
theorem gmax (p : Fin 3) (a : Fin 2048) : gl s q k v go M L p a + ∑ b, -gx s q k v go M L p a b = 0 := by
  simp only [gx_eq]
  rw [gl_eq, Finset.sum_neg_distrib]
  simp only [mul_sub, Finset.sum_sub_distrib, ← Finset.sum_mul]
  rw [sum_rr_keys s q k M L]
  have h : ∑ b, rr s q k p a b * ∑ d, go a d * v b d = cc s q k M L p a / tot s q k M L a * gg s q k v go M p a := by
    unfold gg
    simp only [Finset.mul_sum]
    rw [Finset.sum_comm]
    refine Finset.sum_congr rfl fun d _ => ?_
    rw [show ∑ b, rr s q k p a b * (go a d * v b d) = go a d * ∑ b, rr s q k p a b * v b d by
      rw [Finset.mul_sum]; exact Finset.sum_congr rfl fun b _ => by ring, sum_rr_v s q k v M L]
    ring
  rw [h]
  ring

/-- The gradient of the scores. -/
theorem sum_gx (a b : Fin 2048) : ∑ p, gx s q k v go M L p a b = DS s q k v go a b := by
  simp only [gx_eq]
  rw [← Finset.sum_mul, sum_rr]
  rfl

/-- The gradient of the values. -/
theorem sum_gv (b : Fin 2048) (d : Fin 128) :
    ∑ p, ∑ a, cc s q k M L p a / tot s q k M L a * go a d / den s q k M p a * ee s q k M p a b = DV s q k go b d := by
  rw [Finset.sum_comm]
  unfold DV
  refine Finset.sum_congr rfl fun a _ => ?_
  rw [← sum_rr, Finset.sum_mul]
  refine Finset.sum_congr rfl fun p _ => ?_
  rw [← share s q k M L]
  ring

end Branches

end Cert.Proof.Attn

end
-- ==== Proof.AttnRef.lean ====
/-
  What the reference computes, value by value, over real numbers: the scores, the three branches, and their mixture.
-/
module

public import proofs.«01_k».proof.Proof.AttnMix
public import proofs.«01_k».proof.Proof.AttnArrays
public import proofs.«01_k».proof.Proof.Gen.AttnBwdRefIdeal.Read

@[expose] public section

noncomputable section

open Idealize.ShloMosaic Idealize.ShloMosaic.Pointwise

namespace Cert.Proof.Attn

open Cert.AttnBwdRefIdeal Cert.AttnBwdRefIdeal.Gen Cert.AttnBwdRefIdeal.Read Cert.Proof.Rv

/-! ## Distances and masks -/

theorem mask_facts : ∀ n : Fin 4095, (BitVec.ofInt 32 ((n.val : ℤ) - 2047)).toInt = (n.val : ℤ) - 2047
    ∧ ∀ p : Fin 3, IntOp.andi (IntOp.andi (IntOp.cmpi .sge (BitVec.ofInt 32 ((n.val : ℤ) - 2047)) 0#32)
        (IntOp.cmpi .sle (BitVec.ofInt 32 ((n.val : ℤ) - 2047)) (IntOp.muli 128#32 (IntOp.shli .host 1#32 (IntOp.muli 2#32 (BitVec.ofNat 32 p.val))))))
        (IntOp.cmpi .eq (IntOp.remsi .host (BitVec.ofInt 32 ((n.val : ℤ) - 2047)) (IntOp.shli .host 1#32 (IntOp.muli 2#32 (BitVec.ofNat 32 p.val)))) 0#32)
      = BitVec.ofBool (sees p ((n.val : ℤ) - 2047)) := by
  decide +kernel

theorem dist_word (a b : Fin 2048) : BitVec.ofNat 32 a.val - BitVec.ofNat 32 b.val = BitVec.ofInt 32 (gapOf a b) := by
  have ha := a.isLt
  have hb := b.isLt
  unfold gapOf
  refine BitVec.eq_of_toNat_eq ?_
  simp only [BitVec.toNat_sub, BitVec.toNat_ofNat, BitVec.toNat_ofInt]
  omega

theorem v18 (a b : Fin 2048) : val_main_v18 (F := Ideal) (ix2 a b) = BitVec.ofInt 32 (gapOf a b) := by
  rw [← dist_word]; rfl

theorem gap_n (a b : Fin 2048) : ((⟨(gapOf a b + 2047).toNat, by unfold gapOf; omega⟩ : Fin 4095).val : ℤ) - 2047 = gapOf a b := by
  unfold gapOf; dsimp only; omega

theorem v46 (a b : Fin 2048) : (val_main_v46 (F := Ideal) (ix2 a b) : EReal) = ((gapOf a b : ℝ) : EReal) := by
  rw [val_main_v46_apply, v18]
  have h := (mask_facts ⟨(gapOf a b + 2047).toNat, by unfold gapOf; omega⟩).1
  rw [gap_n] at h
  show ((((BitVec.ofInt 32 (gapOf a b)).toInt : ℝ)) : EReal) = _
  rw [h]

theorem v53 (p : Fin 3) (h : Fin 8) (a b : Fin 2048) : val_main_v53 (F := Ideal) (ix4 p h a b) = BitVec.ofBool (sees p (gapOf a b)) := by
  have e := (mask_facts ⟨(gapOf a b + 2047).toNat, by unfold gapOf; omega⟩).2 p
  rw [gap_n] at e
  rw [← e, ← v18]
  rw [val_main_v53_apply, val_main_v52_apply]
  rfl

/-! ## The scores -/

theorem slope_word : ∀ h : Fin 8, (IntOp.shli .host 2#32 (BitVec.ofNat 32 h.val)).toInt = 2 ^ (h.val + 1) := by decide

theorem v45 (h : Fin 8) (x y : Fin 1) : (val_main_v45 (F := Ideal) (ix3 h x y) : EReal) = (slope h : EReal) := by
  rw [val_main_v45_apply]
  show Ideal.div (Ideal.ofBits .f32 0x3F800000#32) ((((IntOp.shli .host 2#32 (BitVec.ofNat 32 h.val)).toInt : ℝ)) : EReal) = _
  rw [slope_word, word_one, ← EReal.coe_one, div_real _ _ (by positivity)]
  unfold slope
  push_cast
  rfl

section Reading

variable {q k v : Fin 2048 → Fin 1024 → ℝ} {g : Fin 2048 → Fin 2048 → ℝ}
  {x0 x1 x2 : (⟨S2048x1024, .bf16⟩ : BufTy).Contents (Elt Ideal)} {x3 : (⟨S2048x2048, .f32⟩ : BufTy).Contents (Elt Ideal)}

theorem cut (a : Fin 2048) (h : Fin 8) (d : Fin 128) : idx_main_v3 (ix3 a h d) = ix2 a (col h d) := by
  have ha := a.isLt
  have hh := h.isLt
  have hd := d.isLt
  refine funext (Fin.forall_fin_two.mpr ⟨Fin.ext ?_, Fin.ext ?_⟩)
  · show ((a.val * 8 + h.val) * 128 + d.val) / 1024 = a.val
    omega
  · show ((a.val * 8 + h.val) * 128 + d.val) % 1024 = 128 * h.val + d.val
    omega

theorem v3 (hq : ∀ a x, (x0 (ix2 a x) : EReal) = (q a x : EReal)) (a : Fin 2048) (h : Fin 8) (d : Fin 128) :
    (val_main_v3 (F := Ideal) x0 (ix3 a h d) : EReal) = (head q h a d : EReal) := by
  rw [val_main_v3_apply, cut]
  exact hq _ _

theorem v4 (hk : ∀ a x, (x1 (ix2 a x) : EReal) = (k a x : EReal)) (a : Fin 2048) (h : Fin 8) (d : Fin 128) :
    (val_main_v4 (F := Ideal) x1 (ix3 a h d) : EReal) = (head k h a d : EReal) := by
  rw [val_main_v4_apply, show idx_main_v4 (ix3 a h d) = ix2 a (col h d) from cut a h d]
  exact hk _ _

theorem v5 (hv : ∀ a x, (x2 (ix2 a x) : EReal) = (v a x : EReal)) (a : Fin 2048) (h : Fin 8) (d : Fin 128) :
    (val_main_v5 (F := Ideal) x2 (ix3 a h d) : EReal) = (head v h a d : EReal) := by
  rw [val_main_v5_apply, show idx_main_v5 (ix3 a h d) = ix2 a (col h d) from cut a h d]
  exact hv _ _

end Reading

end Cert.Proof.Attn

end
-- ==== Proof.AttnRefMix.lean ====
/-
  The values of the reference, over real numbers: the three branches and their mixture, forward and backward.
-/
module

public import proofs.«01_k».proof.Proof.AttnRef

@[expose] public section

noncomputable section

open Idealize.ShloMosaic Idealize.ShloMosaic.Pointwise

namespace Cert.Proof.Attn

open Cert.AttnBwdRefIdeal Cert.AttnBwdRefIdeal.Gen Cert.AttnBwdRefIdeal.Read Cert.Proof.Rv

/-- A largest value of finitely many is one of them, unless all are minus infinity. -/
theorem fold_max_mem {ι : Type*} (s : Finset ι) (f : ι → EReal) : s.fold max ⊥ f = ⊥ ∨ ∃ i ∈ s, s.fold max ⊥ f = f i := by
  classical
  induction s using Finset.induction_on with
  | empty => exact Or.inl (by simp)
  | insert a s ha ih =>
    rw [Finset.fold_insert ha]
    refine Or.inr ?_
    rcases max_choice (f a) (s.fold max ⊥ f) with e | e
    · exact ⟨a, Finset.mem_insert_self a s, e⟩
    · rcases ih with h | ⟨i, hi, h⟩
      · exact ⟨a, Finset.mem_insert_self a s, by rw [h]; simp⟩
      · exact ⟨i, Finset.mem_insert_of_mem hi, e.trans h⟩

theorem le_fold_max {ι : Type*} (s : Finset ι) (f : ι → EReal) (i : ι) (hi : i ∈ s) : f i ≤ s.fold max ⊥ f :=
  Finset.le_fold_max (f i) |>.mpr (Or.inr ⟨i, hi, le_rfl⟩)

/-- A masked score less a number, exponentiated. -/
theorem exp_select (c : Bool) (x m : ℝ) :
    Ideal.exp ((if c then (x : EReal) else ⊥) - (m : EReal)) = (((if c then 1 else 0) * Real.exp (x - m) : ℝ) : EReal) := by
  cases c
  · rw [if_neg (by decide), if_neg (by decide), EReal.bot_sub, Ideal.exp_bot]; simp
  · rw [if_pos rfl, if_pos rfl, exp_sub_coe, one_mul]

theorem select_bool {α : Type} (c : Bool) (x y : α) : Scalar.select (BitVec.ofBool c) x y = if c then x else y := by cases c <;> rfl

section Reading

variable {q k v : Fin 2048 → Fin 1024 → ℝ} {g : Fin 2048 → Fin 2048 → ℝ}
  {x0 x1 x2 : (⟨S2048x1024, .bf16⟩ : BufTy).Contents (Elt Ideal)} {x3 : (⟨S2048x2048, .f32⟩ : BufTy).Contents (Elt Ideal)}
  (hq : ∀ a x, (x0 (ix2 a x) : EReal) = (q a x : EReal)) (hk : ∀ a x, (x1 (ix2 a x) : EReal) = (k a x : EReal))
  (hv : ∀ a x, (x2 (ix2 a x) : EReal) = (v a x : EReal)) (hg : ∀ a x, (x3 (ix2 a x) : EReal) = (g a x : EReal))
  (p : Fin 3) (h : Fin 8) (a b : Fin 2048) (d : Fin 128)

section Scores

include hq hk

theorem v51 : (val_main_v51 (F := Ideal) x0 x1 (ix3 h a b) : EReal) = (xs (slope h) (head q h) (head k h) a b : EReal) := by
  pointwise [val_main_v51, val_main_v44, val_main_v50, val_main_v42, val_main_v43, val_main_cst_5, val_main_v48, val_main_v49, val_main_v47]
  simp only [v3 hq, v4 hk, v45, v46, scale_eq, ← EReal.coe_mul, ← coe_sum, ← EReal.coe_sub]
  unfold xs score
  rw [mul_comm scale]

theorem v56 : (val_main_v56 (F := Ideal) x0 x1 (ix4 p h a b) : EReal)
    = if sees p (gapOf a b) then (xs (slope h) (head q h) (head k h) a b : EReal) else ⊥ := by
  pointwise [val_main_v56, val_main_v54, val_main_v55, val_main_cst_6]
  rw [v53, v51 hq hk, word_bot, select_bool]

/-- The largest score of a branch is a number, and is reached. -/
theorem max_scores : ∃ M : ℝ, (val_main_v58 (F := Ideal) x0 x1 (ix3 p h a) : EReal) = (M : EReal)
    ∧ ∃ b, (val_main_v56 (F := Ideal) x0 x1 (ix4 p h a b) : EReal) = (M : EReal) := by
  have e : (val_main_v58 (F := Ideal) x0 x1 (ix3 p h a) : EReal)
      = Finset.fold max ⊥ (fun x => (val_main_v56 (F := Ideal) x0 x1 (ix4 p h a x) : EReal)) Finset.univ := by
    pointwise [val_main_v58, val_main_cst_8]
    rw [word_bot]
  have self := v56 hq hk p h a a
  rw [sees_self, if_pos rfl] at self
  have hle := le_fold_max Finset.univ (fun x => (val_main_v56 (F := Ideal) x0 x1 (ix4 p h a x) : EReal)) a (Finset.mem_univ a)
  rcases fold_max_mem Finset.univ (fun x => (val_main_v56 (F := Ideal) x0 x1 (ix4 p h a x) : EReal)) with hb | ⟨b, -, hb⟩
  · rw [hb, self] at hle
    exact absurd (le_bot_iff.mp hle) (EReal.coe_ne_bot _)
  · have hb' := hb.trans (v56 hq hk p h a b)
    by_cases hs : sees p (gapOf a b) = true
    · rw [if_pos hs] at hb'
      exact ⟨_, e.trans hb', b, hb.symm.trans hb'⟩
    · rw [if_neg hs] at hb'
      rw [hb', self] at hle
      exact absurd (le_bot_iff.mp hle) (EReal.coe_ne_bot _)

end Scores

section Branch

variable {M : Fin 8 → Fin 3 → Fin 2048 → ℝ} (hM : ∀ p h a, (val_main_v58 (F := Ideal) x0 x1 (ix3 p h a) : EReal) = (M h p a : EReal))
include hq hk hM

theorem v67 : (val_main_v67 (F := Ideal) x0 x1 (ix4 p h a b) : EReal) = (ee (slope h) (head q h) (head k h) (M h) p a b : EReal) := by
  pointwise [val_main_v67, val_main_v66, val_main_v65, val_main_v64]
  rw [hM, v56 hq hk, exp_select]
  rfl

theorem v69 (z : Fin 1) : (val_main_v69 (F := Ideal) x0 x1 (ix4 p h a z) : EReal) = (den (slope h) (head q h) (head k h) (M h) p a : EReal) := by
  obtain rfl : z = 0 := Subsingleton.elim _ _
  pointwise [val_main_v69, val_main_v68, val_main_cst_10]
  simp only [v67 hq hk p h a _ hM, ← coe_sum]
  rfl

/-- A branch's largest score, spread over what it is combined with. -/
theorem v64 (z : Fin 1) : (val_main_v64 (F := Ideal) x0 x1 (ix4 p h a z) : EReal) = (M h p a : EReal) := by
  pointwise [val_main_v64]
  exact hM p h a

theorem v78 (z : Fin 1) : (val_main_v78 (F := Ideal) x0 x1 (ix4 p h a z) : EReal)
    = ((M h p a + Real.log (den (slope h) (head q h) (head k h) (M h) p a) : ℝ) : EReal) := by
  rw [val_main_v78_apply, val_main_v77_apply]
  show (val_main_v64 (F := Ideal) x0 x1 (ix4 p h a z) : EReal) + Ideal.log (val_main_v69 (F := Ideal) x0 x1 (ix4 p h a z)) = _
  rw [v64 hq hk p h a hM, v69 hq hk p h a hM, log_real _ (den_pos _ _ _ _ _ _), ← EReal.coe_add]

/-- The largest logarithm of the three sums is a number. -/
theorem max_logs : ∃ L : ℝ, (val_main_v79 (F := Ideal) x0 x1 (ix3 h a 0) : EReal) = (L : EReal) := by
  have e : (val_main_v79 (F := Ideal) x0 x1 (ix3 h a 0) : EReal)
      = Finset.fold max ⊥ (fun x => (val_main_v78 (F := Ideal) x0 x1 (ix4 x h a 0) : EReal)) Finset.univ := by
    pointwise [val_main_v79, val_main_cst_12]
    rw [word_bot]
  have hle := le_fold_max Finset.univ (fun x => (val_main_v78 (F := Ideal) x0 x1 (ix4 x h a 0) : EReal)) 0 (Finset.mem_univ 0)
  rcases fold_max_mem Finset.univ (fun x => (val_main_v78 (F := Ideal) x0 x1 (ix4 x h a 0) : EReal)) with hb | ⟨b, -, hb⟩
  · rw [hb, v78 hq hk 0 h a hM] at hle
    exact absurd (le_bot_iff.mp hle) (EReal.coe_ne_bot _)
  · exact ⟨_, e.trans (hb.trans (v78 hq hk b h a hM 0))⟩

variable {L : Fin 8 → Fin 2048 → ℝ} (hL : ∀ h a, (val_main_v79 (F := Ideal) x0 x1 (ix3 h a 0) : EReal) = (L h a : EReal))
include hL

theorem v97 (z : Fin 1) : (val_main_v97 (F := Ideal) x0 x1 (ix4 p h a z) : EReal) = (L h a : EReal) := by
  pointwise [val_main_v97, val_main_v96]
  rw [val_main_v86_apply]
  show max (val_main_v85 (F := Ideal) (ix3 h a 0) : EReal) (val_main_v79 (F := Ideal) x0 x1 (ix3 h a 0)) = _
  rw [hL]
  pointwise [val_main_v85, val_main_cst_14]
  rw [word_bot, max_eq_right bot_le]

theorem v99 (z : Fin 1) : (val_main_v99 (F := Ideal) x0 x1 (ix4 p h a z) : EReal) = (cc (slope h) (head q h) (head k h) (M h) (L h) p a : EReal) := by
  rw [val_main_v99_apply, val_main_v98_apply, v97 hq hk p h a hM hL, v78 hq hk p h a hM]
  exact exp_sub_coe _ _

theorem v100 (z : Fin 1) : (val_main_v100 (F := Ideal) x0 x1 (ix3 h a z) : EReal) = (tot (slope h) (head q h) (head k h) (M h) (L h) a : EReal) := by
  rw [val_main_v100_apply]
  refine (congrArg₂ (· + ·) Ideal.ofBits_zero_f32 (Finset.sum_congr rfl fun x _ =>
    (congrArg _ (by idx_ext : idx_main_v100 (ix3 h a z) x = ix4 x h a z)).trans (v99 hq hk x h a hM hL z))).trans ?_
  rw [zero_add, ← coe_sum]
  rfl

theorem v101 (y z : Fin 1) : (val_main_v101 (F := Ideal) x0 x1 (ix4 y h a z) : EReal) = (tot (slope h) (head q h) (head k h) (M h) (L h) a : EReal) := by
  pointwise [val_main_v101]
  exact v100 hq hk h a hM hL _

theorem v102 (z : Fin 1) : (val_main_v102 (F := Ideal) x0 x1 (ix4 p h a z) : EReal) = (tot (slope h) (head q h) (head k h) (M h) (L h) a : EReal) := by
  pointwise [val_main_v102]
  exact v101 hq hk h a hM hL _ _

theorem v103 (z : Fin 1) : (val_main_v103 (F := Ideal) x0 x1 (ix4 p h a z) : EReal)
    = ((cc (slope h) (head q h) (head k h) (M h) (L h) p a / tot (slope h) (head q h) (head k h) (M h) (L h) a : ℝ) : EReal) := by
  rw [val_main_v103_apply]
  show Ideal.div (val_main_v99 (F := Ideal) x0 x1 (ix4 p h a z)) (val_main_v102 (F := Ideal) x0 x1 (ix4 p h a z)) = _
  rw [v99 hq hk p h a hM hL, v102 hq hk p h a hM hL, div_real _ _ (tot_pos _ _ _ _ _ _).ne']

theorem v106 (y z : Fin 1) : (val_main_v106 (F := Ideal) x0 x1 (ix4 y h a z) : EReal)
    = ((1 / (tot (slope h) (head q h) (head k h) (M h) (L h) a * tot (slope h) (head q h) (head k h) (M h) (L h) a) : ℝ) : EReal) := by
  rw [val_main_v106_apply, val_main_v104_apply, val_main_v105_apply]
  show Ideal.div (Ideal.ofBits .f32 0x3F800000#32) ((val_main_v101 (F := Ideal) x0 x1 (ix4 y h a z) : EReal) * val_main_v101 (F := Ideal) x0 x1 (ix4 y h a z)) = _
  rw [v101 hq hk h a hM hL, ← EReal.coe_mul, word_one, ← EReal.coe_one,
    div_real _ _ (mul_pos (tot_pos _ _ _ _ _ _) (tot_pos _ _ _ _ _ _)).ne']

omit hL in
theorem v76 (z : Fin 1) : (val_main_v76 (F := Ideal) x0 x1 (ix4 p h a z) : EReal)
    = ((1 / (den (slope h) (head q h) (head k h) (M h) p a * den (slope h) (head q h) (head k h) (M h) p a) : ℝ) : EReal) := by
  rw [val_main_v76_apply, val_main_v74_apply, val_main_v75_apply]
  show Ideal.div (Ideal.ofBits .f32 0x3F800000#32) ((val_main_v69 (F := Ideal) x0 x1 (ix4 p h a z) : EReal) * val_main_v69 (F := Ideal) x0 x1 (ix4 p h a z)) = _
  rw [v69 hq hk p h a hM, ← EReal.coe_mul, word_one, ← EReal.coe_one,
    div_real _ _ (mul_pos (den_pos _ _ _ _ _ _) (den_pos _ _ _ _ _ _)).ne']

end Branch

end Reading

end Cert.Proof.Attn

end
-- ==== Proof.AttnRefGrads.lean ====
/-
  The four results of the reference, over real numbers.
-/
module

public import proofs.«01_k».proof.Proof.AttnRefMix
public import proofs.«01_k».proof.Proof.AttnGrads

@[expose] public section

noncomputable section

open Idealize.ShloMosaic Idealize.ShloMosaic.Pointwise

namespace Cert.Proof.Attn

open Cert.AttnBwdRefIdeal Cert.AttnBwdRefIdeal.Gen Cert.AttnBwdRefIdeal.Read Cert.Proof.Rv

/-! ## Operations on numbers that are real -/

theorem mulF (a b : ℝ) : FloatOps.mulf (F := Ideal) (φ := .f32) (a : EReal) (b : EReal) = ((a * b : ℝ) : EReal) := (EReal.coe_mul a b).symm
theorem addF (a b : ℝ) : FloatOps.addf (F := Ideal) (φ := .f32) (a : EReal) (b : EReal) = ((a + b : ℝ) : EReal) := (EReal.coe_add a b).symm
theorem negF (a : ℝ) : FloatOps.hostNegf (F := Ideal) (φ := .f32) (a : EReal) = ((-a : ℝ) : EReal) := (EReal.coe_neg a).symm
theorem divF (a b : ℝ) (h : b ≠ 0) : FloatOps.hostDivf (F := Ideal) (φ := .f32) (a : EReal) (b : EReal) = ((a / b : ℝ) : EReal) := div_real a b h

theorem zero_add_sum {ι : Type} [Fintype ι] (z : EReal) (hz : z = 0) (f : ι → EReal) (r : ι → ℝ) (h : ∀ i, f i = (r i : EReal)) :
    z + ∑ i, f i = ((∑ i, r i : ℝ) : EReal) := by
  rw [hz, zero_add, coe_sum]
  exact Finset.sum_congr rfl fun i _ => h i

section Reading

variable {q k v : Fin 2048 → Fin 1024 → ℝ} {g : Fin 2048 → Fin 2048 → ℝ}
  {x0 x1 x2 : (⟨S2048x1024, .bf16⟩ : BufTy).Contents (Elt Ideal)} {x3 : (⟨S2048x2048, .f32⟩ : BufTy).Contents (Elt Ideal)}
  (hq : ∀ a x, (x0 (ix2 a x) : EReal) = (q a x : EReal)) (hk : ∀ a x, (x1 (ix2 a x) : EReal) = (k a x : EReal))
  (hv : ∀ a x, (x2 (ix2 a x) : EReal) = (v a x : EReal)) (hg : ∀ a x, (x3 (ix2 a x) : EReal) = (g a x : EReal))
  (p : Fin 3) (h : Fin 8) (a b : Fin 2048) (d : Fin 128)

include hg in
theorem v115 : (val_main_v115 (F := Ideal) x3 (ix4 p h a d) : EReal) = (ghead g h a d : EReal) := by
  pointwise [val_main_v115, val_main_v114, val_main_v113, val_main_v112]
  rw [hg]
  unfold ghead gcol
  congr 2
  refine Fin.ext ?_
  simp only []
  omega

variable {M : Fin 8 → Fin 3 → Fin 2048 → ℝ} (hM : ∀ p h a, (val_main_v58 (F := Ideal) x0 x1 (ix3 p h a) : EReal) = (M h p a : EReal))
  {L : Fin 8 → Fin 2048 → ℝ} (hL : ∀ h a, (val_main_v79 (F := Ideal) x0 x1 (ix3 h a 0) : EReal) = (L h a : EReal))
include hq hk hM

section Forward

include hv

theorem v71 : (val_main_v71 (F := Ideal) x0 x1 x2 (ix4 p h a d) : EReal) = (acc (slope h) (head q h) (head k h) (head v h) (M h) p a d : EReal) := by
  pointwise [val_main_v71, val_main_v70]
  simp only [v5 hv, v67 hq hk p h a _ hM, ← EReal.coe_mul, ← coe_sum]
  unfold acc
  simp only [mul_comm]

theorem v73 : (val_main_v73 (F := Ideal) x0 x1 x2 (ix4 p h a d) : EReal)
    = ((acc (slope h) (head q h) (head k h) (head v h) (M h) p a d / den (slope h) (head q h) (head k h) (M h) p a : ℝ) : EReal) := by
  have e : (val_main_v72 (F := Ideal) x0 x1 (ix4 p h a d) : EReal) = (den (slope h) (head q h) (head k h) (M h) p a : EReal) := by
    pointwise [val_main_v72]
    exact v69 hq hk p h a hM 0
  rw [val_main_v73_apply, v71 hq hk hv p h a d hM, e, divF _ _ (den_pos _ _ _ _ _ _).ne']

end Forward

include hL

theorem v107 : (val_main_v107 (F := Ideal) x0 x1 (ix4 p h a d) : EReal)
    = ((cc (slope h) (head q h) (head k h) (M h) (L h) p a / tot (slope h) (head q h) (head k h) (M h) (L h) a : ℝ) : EReal) := by
  pointwise [val_main_v107]
  exact v103 hq hk p h a hM hL 0

/-- The first result: the mixture. -/
theorem v111 (hv : ∀ a x, (x2 (ix2 a x) : EReal) = (v a x : EReal)) (x : Fin 1024) : (val_main_v111 (F := Ideal) x0 x1 x2 (ix2 a x) : EReal)
    = (O (slope (hOf x)) (head q (hOf x)) (head k (hOf x)) (head v (hOf x)) a (dOf x) : EReal) := by
  have e : ∀ h d, (val_main_v109 (F := Ideal) x0 x1 x2 (ix3 h a d) : EReal) = (O (slope h) (head q h) (head k h) (head v h) a d : EReal) := by
    intro h d
    rw [val_main_v109_apply, ← mix_o _ _ _ _ (M h) (L h)]
    refine zero_add_sum _ Ideal.ofBits_zero_f32 _ _ fun x => (congrArg _ (by idx_ext : idx_main_v109 (ix3 h a d) x = ix4 x h a d)).trans ?_
    rw [val_main_v108_apply, v107 hq hk x h a d hM hL, v73 hq hk hv x h a d hM, mulF]
  pointwise [val_main_v111, val_main_v110]
  exact e (hOf x) (dOf x)

section Backward

include hg

theorem v117 : (val_main_v117 (F := Ideal) x0 x1 x3 (ix4 p h a d) : EReal)
    = ((cc (slope h) (head q h) (head k h) (M h) (L h) p a / tot (slope h) (head q h) (head k h) (M h) (L h) a * ghead g h a d : ℝ) : EReal) := by
  rw [val_main_v117_apply, v115 hg, show val_main_v116 (F := Ideal) x0 x1 = val_main_v107 (F := Ideal) x0 x1 from rfl, v107 hq hk p h a d hM hL, mulF]

theorem v143 : (val_main_v143 (F := Ideal) x0 x1 x3 (ix4 p h a d) : EReal)
    = ((cc (slope h) (head q h) (head k h) (M h) (L h) p a / tot (slope h) (head q h) (head k h) (M h) (L h) a * ghead g h a d
        / den (slope h) (head q h) (head k h) (M h) p a : ℝ) : EReal) := by
  have e : (val_main_v142 (F := Ideal) x0 x1 (ix4 p h a d) : EReal) = (den (slope h) (head q h) (head k h) (M h) p a : EReal) := by
    pointwise [val_main_v142]
    exact v69 hq hk p h a hM 0
  rw [val_main_v143_apply, v117 hq hk hg p h a d hM hL, e, divF _ _ (den_pos _ _ _ _ _ _).ne']

/-- The fourth result: the gradient of the values. -/
theorem v171 (x : Fin 1024) : (val_main_v171 (F := Ideal) x0 x1 x3 (ix2 b x) : EReal)
    = (DV (slope (hOf x)) (head q (hOf x)) (head k (hOf x)) (ghead g (hOf x)) b (dOf x) : EReal) := by
  have e : ∀ h d, (val_main_v147 (F := Ideal) x0 x1 x3 (ix3 h d b) : EReal) = (DV (slope h) (head q h) (head k h) (ghead g h) b d : EReal) := by
    intro h d
    have t : ∀ p a, (val_main_v144 (F := Ideal) x0 x1 x3 (ix4 h d p a) : EReal) = val_main_v143 (F := Ideal) x0 x1 x3 (ix4 p h a d) := by
      intro p a
      pointwise [val_main_v144]
    pointwise [val_main_v147]
    simp only [t, v143 hq hk hg _ h _ d hM hL, v67 hq hk _ h _ _ hM, ← EReal.coe_mul, ← coe_sum]
    exact congrArg _ (sum_gv _ _ _ _ (M h) (L h) b d)
  pointwise [val_main_v171, val_main_v148]
  exact e (hOf x) (dOf x)

include hv

theorem v120 (z : Fin 1) : (val_main_v120 (F := Ideal) x0 x1 x2 x3 (ix4 p h a z) : EReal)
    = (gg (slope h) (head q h) (head k h) (head v h) (ghead g h) (M h) p a : EReal) := by
  pointwise [val_main_v120]
  rw [val_main_v119_apply]
  refine zero_add_sum _ Ideal.ofBits_zero_f32 _ _ fun x => (congrArg _ (by idx_ext : idx_main_v119 (ix3 p h a) x = ix4 p h a x)).trans ?_
  rw [val_main_v118_apply, v115 hg, v73 hq hk hv p h a x hM, mulF]

end Backward

end Reading

end Cert.Proof.Attn

end
-- ==== Proof.AttnRefBack.lean ====
/-
  The gradients of the reference that pass through its softmaxes, over real numbers: of the scores, the queries and the keys.
-/
module

public import proofs.«01_k».proof.Proof.AttnRefGrads

@[expose] public section

noncomputable section

open Idealize.ShloMosaic Idealize.ShloMosaic.Pointwise

namespace Cert.Proof.Attn

open Cert.AttnBwdRefIdeal Cert.AttnBwdRefIdeal.Gen Cert.AttnBwdRefIdeal.Read Cert.Proof.Rv

/-- A sum over the first and the last of four axes, both of size one, is the one term. -/
theorem sum_ends (x : S1x8x2048x1.Idx → EReal) (h : Fin 8) (a : Fin 2048) :
    Ideal.hostReduceAdd reducesTo_S1x8x2048x1_S8x2048_d0_3 x 0 (ix2 h a) = x (ix4 0 h a 0) := by
  have e : (Finset.univ.filter fun i : S1x8x2048x1.Idx => reducesTo_S1x8x2048x1_S8x2048_d0_3.drop i = ix2 h a) = {ix4 0 h a 0} := by
    ext i
    rw [Finset.mem_filter, Finset.mem_singleton]
    refine ⟨fun hi => ?_, fun hi => ⟨Finset.mem_univ _, ?_⟩⟩
    · have h0 := congrArg Fin.val (congrFun hi.2 0)
      have h1 := congrArg Fin.val (congrFun hi.2 1)
      funext r
      fin_cases r
      · exact Subsingleton.elim (α := Fin 1) _ _
      · exact Fin.ext h0
      · exact Fin.ext h1
      · exact Subsingleton.elim (α := Fin 1) _ _
    · subst hi
      funext r
      fin_cases r <;> rfl
  unfold Ideal.hostReduceAdd
  rw [e, Finset.sum_singleton, zero_add]

section Reading

variable {q k v : Fin 2048 → Fin 1024 → ℝ} {g : Fin 2048 → Fin 2048 → ℝ}
  {x0 x1 x2 : (⟨S2048x1024, .bf16⟩ : BufTy).Contents (Elt Ideal)} {x3 : (⟨S2048x2048, .f32⟩ : BufTy).Contents (Elt Ideal)}
  (hq : ∀ a x, (x0 (ix2 a x) : EReal) = (q a x : EReal)) (hk : ∀ a x, (x1 (ix2 a x) : EReal) = (k a x : EReal))
  (hv : ∀ a x, (x2 (ix2 a x) : EReal) = (v a x : EReal)) (hg : ∀ a x, (x3 (ix2 a x) : EReal) = (g a x : EReal))
  {M : Fin 8 → Fin 3 → Fin 2048 → ℝ} (hM : ∀ p h a, (val_main_v58 (F := Ideal) x0 x1 (ix3 p h a) : EReal) = (M h p a : EReal))
  {L : Fin 8 → Fin 2048 → ℝ} (hL : ∀ h a, (val_main_v79 (F := Ideal) x0 x1 (ix3 h a 0) : EReal) = (L h a : EReal))
  (p : Fin 3) (h : Fin 8) (a b : Fin 2048) (d : Fin 128)

include hq hk hv hg hM hL

/-! ## The gradient of the logarithms of the sums -/

theorem v123 (z : Fin 1) : (val_main_v123 (F := Ideal) x0 x1 x2 x3 (ix4 p h a z) : EReal)
    = ((gg (slope h) (head q h) (head k h) (head v h) (ghead g h) (M h) p a
        * (1 / (tot (slope h) (head q h) (head k h) (M h) (L h) a * tot (slope h) (head q h) (head k h) (M h) (L h) a))
        * cc (slope h) (head q h) (head k h) (M h) (L h) p a : ℝ) : EReal) := by
  have e : (val_main_v121 (F := Ideal) x0 x1 (ix4 p h a z) : EReal)
      = ((1 / (tot (slope h) (head q h) (head k h) (M h) (L h) a * tot (slope h) (head q h) (head k h) (M h) (L h) a) : ℝ) : EReal) := by
    pointwise [val_main_v121]
    exact v106 hq hk h a hM hL _ _
  rw [val_main_v123_apply, val_main_v122_apply, v120 hq hk hv hg p h a hM hL, e, mulF, v99 hq hk p h a hM hL, mulF]

theorem v131 (z : Fin 1) : (val_main_v131 (F := Ideal) x0 x1 x2 x3 (ix4 p h a z) : EReal)
    = ((-(∑ p, gg (slope h) (head q h) (head k h) (head v h) (ghead g h) (M h) p a
        * (1 / (tot (slope h) (head q h) (head k h) (M h) (L h) a * tot (slope h) (head q h) (head k h) (M h) (L h) a))
        * cc (slope h) (head q h) (head k h) (M h) (L h) p a) : ℝ) : EReal) := by
  have e : (val_main_v129 (F := Ideal) x0 x1 x2 x3 (ix2 h a) : EReal) = val_main_v126 (F := Ideal) x0 x1 x2 x3 (ix4 0 h a 0) := by
    refine Eq.trans ?_ (sum_ends (val_main_v126 (F := Ideal) x0 x1 x2 x3) h a)
    unfold val_main_v129
    simp only [Host.reduceAdd, Ideal.hostReduceAdd_def]
    exact congrArg (fun w => Ideal.hostReduceAdd reducesTo_S1x8x2048x1_S8x2048_d0_3 (val_main_v126 (F := Ideal) x0 x1 x2 x3) w (ix2 h a)) Ideal.ofBits_zero_f32
  have s : (val_main_v125 (F := Ideal) x0 x1 x2 x3 (ix4 0 h a 0) : EReal)
      = ((∑ p, gg (slope h) (head q h) (head k h) (head v h) (ghead g h) (M h) p a
        * (1 / (tot (slope h) (head q h) (head k h) (M h) (L h) a * tot (slope h) (head q h) (head k h) (M h) (L h) a))
        * cc (slope h) (head q h) (head k h) (M h) (L h) p a : ℝ) : EReal) := by
    pointwise [val_main_v125]
    rw [val_main_v124_apply]
    exact zero_add_sum _ Ideal.ofBits_zero_f32 _ _ fun x =>
      (congrArg _ (by idx_ext : idx_main_v124 (ix3 h a 0) x = ix4 x h a 0)).trans (v123 hq hk hv hg hM hL x h a 0)
  pointwise [val_main_v131, val_main_v130]
  rw [e, val_main_v126_apply, s, negF]

theorem v133 (z : Fin 1) : (val_main_v133 (F := Ideal) x0 x1 x2 x3 (ix4 p h a z) : EReal)
    = (gl (slope h) (head q h) (head k h) (head v h) (ghead g h) (M h) (L h) p a : EReal) := by
  have e : (val_main_v127 (F := Ideal) x0 x1 (ix4 p h a z) : EReal) = (tot (slope h) (head q h) (head k h) (M h) (L h) a : EReal) := by
    pointwise [val_main_v127]
    exact v101 hq hk h a hM hL _ _
  rw [val_main_v133_apply, val_main_v132_apply, val_main_v128_apply, v120 hq hk hv hg p h a hM hL, e,
    divF _ _ (tot_pos _ _ _ _ _ _).ne', v131 hq hk hv hg hM hL, addF, v99 hq hk p h a hM hL, mulF]
  rfl

/-! ## The gradient of the sums -/

theorem v140 (z : Fin 1) : (val_main_v140 (F := Ideal) x0 x1 x2 x3 (ix4 p h a z) : EReal)
    = ((-(∑ d, cc (slope h) (head q h) (head k h) (M h) (L h) p a / tot (slope h) (head q h) (head k h) (M h) (L h) a * ghead g h a d
        * (1 / (den (slope h) (head q h) (head k h) (M h) p a * den (slope h) (head q h) (head k h) (M h) p a))
        * acc (slope h) (head q h) (head k h) (head v h) (M h) p a d) : ℝ) : EReal) := by
  have e : ∀ d, (val_main_v135 (F := Ideal) x0 x1 (ix4 p h a d) : EReal)
      = ((1 / (den (slope h) (head q h) (head k h) (M h) p a * den (slope h) (head q h) (head k h) (M h) p a) : ℝ) : EReal) := by
    intro d
    pointwise [val_main_v135]
    exact v76 hq hk p h a hM _
  have s : (val_main_v139 (F := Ideal) x0 x1 x2 x3 (ix4 p h a z) : EReal)
      = ((∑ d, cc (slope h) (head q h) (head k h) (M h) (L h) p a / tot (slope h) (head q h) (head k h) (M h) (L h) a * ghead g h a d
        * (1 / (den (slope h) (head q h) (head k h) (M h) p a * den (slope h) (head q h) (head k h) (M h) p a))
        * acc (slope h) (head q h) (head k h) (head v h) (M h) p a d : ℝ) : EReal) := by
    pointwise [val_main_v139]
    rw [val_main_v138_apply]
    refine zero_add_sum _ Ideal.ofBits_zero_f32 _ _ fun x => (congrArg _ (by idx_ext : idx_main_v138 (ix3 p h a) x = ix4 p h a x)).trans ?_
    rw [val_main_v137_apply, val_main_v136_apply, v117 hq hk hg p h a x hM hL, e, mulF, v71 hq hk hv p h a x hM, mulF]
  rw [val_main_v140_apply, s, negF]

theorem v141 (z : Fin 1) : (val_main_v141 (F := Ideal) x0 x1 x2 x3 (ix4 p h a z) : EReal)
    = (gd (slope h) (head q h) (head k h) (head v h) (ghead g h) (M h) (L h) p a : EReal) := by
  rw [val_main_v141_apply, val_main_v134_apply, v133 hq hk hv hg hM hL, v69 hq hk p h a hM, divF _ _ (den_pos _ _ _ _ _ _).ne',
    v140 hq hk hv hg hM hL, addF]
  rfl

/-! ## The gradient of the scores -/

theorem v146 : (val_main_v146 (F := Ideal) x0 x1 x2 x3 (ix4 p h a b) : EReal)
    = ((∑ d, cc (slope h) (head q h) (head k h) (M h) (L h) p a / tot (slope h) (head q h) (head k h) (M h) (L h) a * ghead g h a d
        / den (slope h) (head q h) (head k h) (M h) p a * head v h b d : ℝ) : EReal) := by
  have t : ∀ d, (val_main_v144 (F := Ideal) x0 x1 x3 (ix4 h d p a) : EReal) = val_main_v143 (F := Ideal) x0 x1 x3 (ix4 p h a d) := by
    intro d
    pointwise [val_main_v144]
  pointwise [val_main_v146, val_main_v145]
  simp only [t, v143 hq hk hg p h a _ hM hL, v5 hv, ← EReal.coe_mul, ← coe_sum]

theorem v152 : (val_main_v152 (F := Ideal) x0 x1 x2 x3 (ix4 p h a b) : EReal)
    = (gx (slope h) (head q h) (head k h) (head v h) (ghead g h) (M h) (L h) p a b : EReal) := by
  have e : (val_main_v150 (F := Ideal) x0 x1 x2 x3 (ix4 p h a b) : EReal)
      = ((∑ _z : Fin 1, gd (slope h) (head q h) (head k h) (head v h) (ghead g h) (M h) (L h) p a : ℝ) : EReal) := by
    pointwise [val_main_v150]
    rw [val_main_v149_apply]
    exact zero_add_sum _ Ideal.ofBits_zero_f32 _ _ fun x =>
      (congrArg _ (by idx_ext : idx_main_v149 (ix3 p h a) x = ix4 p h a x)).trans (v141 hq hk hv hg hM hL p h a x)
  rw [val_main_v152_apply, val_main_v151_apply, v146 hq hk hv hg hM hL, e, addF, v67 hq hk p h a b hM, mulF]
  unfold gx
  simp only [Fin.sum_univ_one]

/-- Nothing flows through a branch's largest score. -/
theorem v157 : (val_main_v157 (F := Ideal) x0 x1 x2 x3 (ix3 p h a) : EReal) = ((0 : ℝ) : EReal) := by
  have s : ∀ z, (val_main_v155 (F := Ideal) x0 x1 x2 x3 (ix4 p h a z) : EReal)
      = ((∑ b, -gx (slope h) (head q h) (head k h) (head v h) (ghead g h) (M h) (L h) p a b : ℝ) : EReal) := by
    intro z
    pointwise [val_main_v155]
    rw [val_main_v154_apply]
    refine zero_add_sum _ Ideal.ofBits_zero_f32 _ _ fun x => (congrArg _ (by idx_ext : idx_main_v154 (ix3 p h a) x = ix4 p h a x)).trans ?_
    rw [val_main_v153_apply, v152 hq hk hv hg hM hL, negF]
  rw [val_main_v157_apply]
  refine (zero_add_sum _ Ideal.ofBits_zero_f32 _ (fun _ : Fin 1 => (0 : ℝ)) fun x =>
    (congrArg _ (by idx_ext : idx_main_v157 (ix3 p h a) x = ix4 p h a x)).trans ?_).trans ?_
  · rw [val_main_v156_apply, v133 hq hk hv hg hM hL, s, addF, gmax]
  · rw [Finset.sum_const_zero]

omit hv hg hL in
/-- How often a score is the largest: each is zero or one, and not all are zero. -/
theorem ties : ∃ n : Fin 2048 → ℝ, (∀ b, (val_main_v62 (F := Ideal) x0 x1 (ix4 p h a b) : EReal) = (n b : EReal))
    ∧ ∑ b, n b ≠ 0 := by
  obtain ⟨M', hM', b, hb⟩ := max_scores hq hk p h a
  have e : ∀ b, (val_main_v60 (F := Ideal) x0 x1 (ix4 p h a b) : EReal) = (M' : EReal) := by
    intro b
    pointwise [val_main_v60, val_main_v59]
    exact hM'
  classical
  have w : ∀ b, (val_main_v62 (F := Ideal) x0 x1 (ix4 p h a b) : EReal)
      = ((if (val_main_v56 (F := Ideal) x0 x1 (ix4 p h a b) : EReal) = (M' : EReal) then 1 else 0 : ℝ) : EReal) := by
    intro b
    rw [val_main_v62_apply, val_main_v61_apply, e]
    show (((BitVec.ofBool (decide ((val_main_v56 (F := Ideal) x0 x1 (ix4 p h a b) : EReal) = (M' : EReal)))).toNat : ℝ) : EReal) = _
    by_cases c : (val_main_v56 (F := Ideal) x0 x1 (ix4 p h a b) : EReal) = (M' : EReal)
    · rw [if_pos c, decide_eq_true c]; simp
    · rw [if_neg c, decide_eq_false c]; simp
  refine ⟨_, w, ne_of_gt ?_⟩
  refine lt_of_lt_of_le ?_ (Finset.single_le_sum (fun b _ => ?_) (Finset.mem_univ b))
  · rw [if_pos hb]; exact one_pos
  · split_ifs <;> norm_num

theorem v161 : (val_main_v161 (F := Ideal) x0 x1 x2 x3 (ix4 p h a b) : EReal)
    = (gx (slope h) (head q h) (head k h) (head v h) (ghead g h) (M h) (L h) p a b : EReal) := by
  obtain ⟨n, hn, hs⟩ := ties hq hk hM p h a
  have s : (val_main_v63 (F := Ideal) x0 x1 (ix3 p h a) : EReal) = ((∑ b, n b : ℝ) : EReal) := by
    rw [val_main_v63_apply]
    exact zero_add_sum _ Ideal.ofBits_zero_f32 _ _ fun x => (congrArg _ (by idx_ext : idx_main_v63 (ix3 p h a) x = ix4 p h a x)).trans (hn x)
  have z : (val_main_v159 (F := Ideal) x0 x1 x2 x3 (ix4 p h a b) : EReal) = ((0 : ℝ) : EReal) := by
    pointwise [val_main_v159]
    rw [val_main_v158_apply, v157 hq hk hv hg hM hL, s, divF _ _ hs, zero_div]
  rw [val_main_v161_apply, val_main_v160_apply, z, hn, mulF, v152 hq hk hv hg hM hL, addF, zero_mul, add_zero]

theorem v163 : (val_main_v163 (F := Ideal) x0 x1 x2 x3 (ix4 p h a b) : EReal)
    = (gx (slope h) (head q h) (head k h) (head v h) (ghead g h) (M h) (L h) p a b : EReal) := by
  rw [val_main_v163_apply, v53, v161 hq hk hv hg hM hL, select_bool]
  by_cases c : sees p (gapOf a b) = true
  · rw [if_pos c]
  · rw [if_neg c]
    have z : gx (slope h) (head q h) (head k h) (head v h) (ghead g h) (M h) (L h) p a b = 0 := by
      unfold gx ee mu
      rw [if_neg c, zero_mul, mul_zero]
    rw [z]
    exact Ideal.ofBits_zero_f32

theorem v166 : (val_main_v166 (F := Ideal) x0 x1 x2 x3 (ix3 h a b) : EReal)
    = ((DS (slope h) (head q h) (head k h) (head v h) (ghead g h) a b * scale : ℝ) : EReal) := by
  have s : (val_main_v164 (F := Ideal) x0 x1 x2 x3 (ix3 h a b) : EReal)
      = (DS (slope h) (head q h) (head k h) (head v h) (ghead g h) a b : EReal) := by
    rw [val_main_v164_apply, ← sum_gx _ _ _ _ _ (M h) (L h)]
    exact zero_add_sum _ Ideal.ofBits_zero_f32 _ _ fun x =>
      (congrArg _ (by idx_ext : idx_main_v164 (ix3 h a b) x = ix4 x h a b)).trans (v163 hq hk hv hg hM hL x h a b)
  have c : (val_main_v165 (F := Ideal) (ix3 h a b) : EReal) = (scale : EReal) := scale_eq
  rw [val_main_v166_apply, s, c, mulF]

/-- The second result: the gradient of the queries. -/
theorem v173 (x : Fin 1024) : (val_main_v173 (F := Ideal) x0 x1 x2 x3 (ix2 a x) : EReal)
    = (DQ (slope (hOf x)) (head q (hOf x)) (head k (hOf x)) (head v (hOf x)) (ghead g (hOf x)) a (dOf x) : EReal) := by
  have e : ∀ h d, (val_main_v169 (F := Ideal) x0 x1 x2 x3 (ix3 h a d) : EReal)
      = (DQ (slope h) (head q h) (head k h) (head v h) (ghead g h) a d : EReal) := by
    intro h d
    pointwise [val_main_v169]
    simp only [v166 hq hk hv hg hM hL, v4 hk, ← EReal.coe_mul, ← coe_sum]
    unfold DQ
    rw [Finset.mul_sum]
    exact congrArg _ (Finset.sum_congr rfl fun b _ => by ring)
  pointwise [val_main_v173, val_main_v170]
  exact e (hOf x) (dOf x)

/-- The third result: the gradient of the keys. -/
theorem v172 (x : Fin 1024) : (val_main_v172 (F := Ideal) x0 x1 x2 x3 (ix2 b x) : EReal)
    = (DK (slope (hOf x)) (head q (hOf x)) (head k (hOf x)) (head v (hOf x)) (ghead g (hOf x)) b (dOf x) : EReal) := by
  have e : ∀ h d, (val_main_v167 (F := Ideal) x0 x1 x2 x3 (ix3 h b d) : EReal)
      = (DK (slope h) (head q h) (head k h) (head v h) (ghead g h) b d : EReal) := by
    intro h d
    pointwise [val_main_v167]
    simp only [v166 hq hk hv hg hM hL, v3 hq, ← EReal.coe_mul, ← coe_sum]
    unfold DK
    rw [Finset.mul_sum]
    exact congrArg _ (Finset.sum_congr rfl fun b _ => by ring)
  pointwise [val_main_v172, val_main_v168]
  exact e (hOf x) (dOf x)

end Reading

end Cert.Proof.Attn

end
-- ==== Proof.AttnClaims.lean ====
/-
  The claims about the attention's two calls: both programs run and end quiet, and the output and the three gradients of
  the kernel are those of the reference whenever the arguments are finite.
-/
module

public import proofs.«01_k».proof.Defs
public import proofs.«01_k».proof.Proof.AttnRun
public import proofs.«01_k».proof.Proof.AttnRefBack
public import proofs.«01_k».proof.Proof.Gen.AttnBwd.Frame
public import Idealize.ShloMosaic.Lib.Claim
public import Idealize.ShloMosaic.Lib.Quiescent

@[expose] public section

noncomputable section

open Idealize.ShloMosaic Idealize.ShloMosaic.TcCoe Idealize.SL.Sem Idealize.ShloMosaic.Pointwise

namespace Cert.Proof.Attn

open Cert.AttnBwdIdeal Cert.AttnBwdIdeal.Gen

/-- What the reference leaves is what the kernel leaves. -/
theorem results_eq (m : (ℓ : Loc nD τ sig) → Buf (Elt Ideal) ℓ) (ρ : Dev nD → PrngReg) (h : Cert.Pre_AttnBwdIdeal_finite m) (c : Dev nD)
    {x0 x1 x2 : (⟨S2048x1024, .bf16⟩ : BufTy).Contents (Elt Ideal)} {x3 : (⟨S2048x2048, .f32⟩ : BufTy).Contents (Elt Ideal)}
    (e : x0 = m ((c.tc : Thread nD τ).loc main_arg0) ∧ x1 = m ((c.tc : Thread nD τ).loc main_arg1)
      ∧ x2 = m ((c.tc : Thread nD τ).loc main_arg2) ∧ x3 = m ((c.tc : Thread nD τ).loc main_arg3)) :
    Cert.AttnBwdRefIdeal.Read.val_main_v111 (F := Ideal) x0 x1 x2 = (dat0 (V4 m ρ) c).arrAt 6 cfg0.N
    ∧ Cert.AttnBwdRefIdeal.Read.val_main_v173 (F := Ideal) x0 x1 x2 x3 = (dat1 (V9 m ρ) c).arrAt 9 cfg1.N
    ∧ Cert.AttnBwdRefIdeal.Read.val_main_v172 (F := Ideal) x0 x1 x2 x3 = (dat1 (V9 m ρ) c).arrAt 10 cfg1.N
    ∧ Cert.AttnBwdRefIdeal.Read.val_main_v171 (F := Ideal) x0 x1 x3 = (dat1 (V9 m ρ) c).arrAt 11 cfg1.N := by
  obtain ⟨rfl, rfl, rfl, rfl⟩ := e
  obtain ⟨q, k, v, g, hq, hk, hv, hg⟩ := reals m h c
  choose M hM using fun h p a => max_scores hq hk p h a
  have hM' := fun p h a => (hM h p a).1
  choose L hL using fun h a => max_logs hq hk h a hM'
  have ix : ∀ x : S2048x1024.Idx, x = ix2 (x 0) (x 1) := fun x => by idx_ext
  refine ⟨Eq.trans (funext fun x => ?_) (fwd_o (fwd_in ρ hq hk hv)).symm,
    Eq.trans (funext fun x => ?_) (bwd_dq (bwd_in ρ hq hk hv hg)).symm,
    Eq.trans (funext fun x => ?_) (bwd_dk (bwd_in ρ hq hk hv hg)).symm,
    Eq.trans (funext fun x => ?_) (bwd_dv (bwd_in ρ hq hk hv hg)).symm⟩
  · exact (congrArg _ (ix x)).trans (v111 hq hk (x 0) hM' hL hv (x 1))
  · exact (congrArg _ (ix x)).trans (v173 hq hk hv hg hM' hL (x 0) (x 1))
  · exact (congrArg _ (ix x)).trans (v172 hq hk hv hg hM' hL (x 0) (x 1))
  · exact (congrArg _ (ix x)).trans (v171 hq hk hg (x 0) hM' hL (x 1))

/-- The two programs' results agree, on every device. -/
theorem algebraic : Cert.algebraic_AttnBwdIdeal_AttnBwdRefIdeal_pre_finite := by
  pair_intro
  · run_from (run_blocks m g)
  · run_from (Cert.AttnBwdRefIdeal.Value.run (F := Ideal) m' g')
    · exact (Cert.AttnBwdRefIdeal.Read.val_main_v111_eq _).trans (results_eq m g hpre c (hagree c)).1
    · exact (Cert.AttnBwdRefIdeal.Read.val_main_v173_eq _).trans (results_eq m g hpre c (hagree c)).2.1
    · exact (Cert.AttnBwdRefIdeal.Read.val_main_v172_eq _).trans (results_eq m g hpre c (hagree c)).2.2.1
    · exact (Cert.AttnBwdRefIdeal.Read.val_main_v171_eq _).trans (results_eq m g hpre c (hagree c)).2.2.2

theorem frame : Cert.quiescent_AttnBwd := fun m ρ _ => Cert.AttnBwd.Gen.frame m ρ
theorem frame_ideal : Cert.quiescent_AttnBwdIdeal := fun m ρ _ => Cert.AttnBwdIdeal.Gen.frame m ρ
theorem frame_ideal_finite : Cert.quiescent_AttnBwdIdeal_pre_finite := fun m ρ _ => Cert.AttnBwdIdeal.Gen.frame m ρ
theorem frame_ref : Cert.quiescent_AttnBwdRefIdeal := fun m ρ _ =>
  θ_run_mono (Cert.AttnBwdRefIdeal.Value.run (F := Ideal) m ρ) fun r h =>
    ⟨fun c => (h c).2.2.2.2, sem_eq_zero_of_no_sems (by decide) r.2⟩
theorem frame_ref_finite : Cert.quiescent_AttnBwdRefIdeal_pre_finite := fun m ρ _ => frame_ref m ρ trivial

end Cert.Proof.Attn

end
-- ==== Proof.AdaWgrad.lean ====
/- The gradient of the modulation weights, `silu(c)ᵀ · gmod`: what the call's result array holds, and that the
   derivative of `silu(c) · w` with respect to `w` is the same array. -/
module

public import proofs.«01_k».proof.Defs
public import proofs.«01_k».proof.Proof.Gen.AdaBwd.Frame
public import proofs.«01_k».proof.Proof.Gen.AdaBwdIdeal.Value
public import proofs.«01_k».proof.Proof.Gen.AdaBwdRefIdeal.Read
public import Idealize.ShloMosaic.Lib.Claim
public import Idealize.ShloMosaic.Lib.Quiescent
public import Idealize.ShloMosaic.Lib.Pointwise
public import Idealize.ShloMosaic.Lib.Pipeline.ValueKit.Acc
public import Idealize.ShloMosaic.Lib.Pipeline.ValueKit.Geometry

@[expose] public section

noncomputable section

namespace Cert.Proof.Ada

open Idealize.ShloMosaic Idealize.ShloMosaic.TcCoe Idealize.SL.Sem
open Cert.AdaBwdIdeal Cert.AdaBwdIdeal.Gen

variable (m : (ℓ : Loc nD τ sig) → Buf (Elt Ideal) ℓ) (ρ : Dev nD → PrngReg)

/-- `x · 1/(1 + e^(-x))`. -/
def silu (x : EReal) : EReal := x * Ideal.div 1 (1 + Ideal.exp (-x))

/-- The gradient at row `k`, column `j`: the sum over the eight sequences. -/
def G (x : S8x2048.Idx → EReal) (g : S8x1536.Idx → EReal) : S2048x1536.Idx → EReal :=
  fun i => ∑ b : Fin 8, silu (x (ix2 b (i 0))) * g (ix2 b (i 1))

/-- One block: 512 rows of the gradient. -/
theorem pay_apply (x : Vec Ideal S8x512 .f32) (g : Vec Ideal S8x1536 .f32) (r : Fin 512) (l : Fin 1536) :
    k0_pay1 (F := Ideal) x g (ix2 r l) = ∑ b : Fin 8, silu (x (ix2 b r)) * g (ix2 b l) := by
  pointwise [k0_pay1, silu]
  simp only [sub_eq_add_neg, zero_add]

theorem idx0 : ∀ t : Fin cfg0.N, win0_0.index t = ![0, t.val] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

/-- The whole result array. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, l, rfl⟩ : ∃ (r : Fin 512) (l : Fin 1536), y = ix2 r l := ⟨y 0, y 1, by idx_ext⟩
  rw [pay_apply]
  show _ = ∑ b : Fin 8, (_ : EReal)
  refine Finset.sum_congr rfl fun b _ => ?_
  have e0 : iblk m c 0 t (ix2 b r) = m ((c : Thread nD τ).loc main_arg0) (ix2 b (((cfg0.win 2).blk t).view.emb (ix2 r l) 0)) := by
    blk_simp [iblk]
    exact congrArg _ (by blk_ext [idx0 t, idx2 t])
  have e1 : iblk m c 1 t (ix2 b l) = m ((c : Thread nD τ).loc main_arg1) (ix2 b (((cfg0.win 2).blk t).view.emb (ix2 r l) 1)) := by
    blk_simp [iblk]
    exact congrArg _ (by blk_ext [idx1 t, idx2 t])
  rw [e0, e1]

open Cert.AdaBwdRefIdeal.Read in
/-- The derivative of the forward line is the same array. -/
theorem ref_eq (x : S8x2048.Idx → EReal) (g : S8x1536.Idx → EReal) : val_main_v4 (F := Ideal) x g = G x g := by
  funext i
  simp only [val_main_v4_apply, val_main_v3_apply, val_main_v1_apply, val_main_call0_v5_apply, val_main_call0_v4_apply,
    val_main_call0_cst_0_apply, val_main_call0_v3_apply, val_main_call0_v2_apply, val_main_call0_cst_apply,
    val_main_call0_v1_apply, val_main_call0_v0_apply, pointwise]
  refine Finset.sum_congr rfl fun b _ => ?_
  rw [show lidx_main_v3 (idx_main_v4 i) b = ix2 b (i 1) by idx_ext, show ridx_main_v3 (idx_main_v4 i) b = ix2 b (i 0) by idx_ext]
  exact mul_comm _ _

/-- The two programs' results agree, on every device. -/
theorem algebraic : Cert.algebraic_AdaBwdIdeal_AdaBwdRefIdeal := by
  pair_intro
  · run_from (Cert.AdaBwdIdeal.Value.run_blocks (F := Ideal) m g)
  · run_from (Cert.AdaBwdRefIdeal.Value.run (F := Ideal) m' g')
    exact (Cert.AdaBwdRefIdeal.Read.val_main_v4_eq _ _).trans ((ref_eq _ _).trans (final m c).symm)

theorem frame : Cert.quiescent_AdaBwd := fun m ρ _ => Cert.AdaBwd.Gen.frame m ρ
theorem frame_ideal : Cert.quiescent_AdaBwdIdeal := fun m ρ _ => Cert.AdaBwdIdeal.Gen.frame m ρ
theorem frame_ref : Cert.quiescent_AdaBwdRefIdeal := fun m ρ _ =>
  θ_run_mono (Cert.AdaBwdRefIdeal.Value.run (F := Ideal) m ρ) fun r h =>
    ⟨fun c => (h c).2, sem_eq_zero_of_no_sems (by decide) r.2⟩

end Cert.Proof.Ada

end
-- ==== Proof.RealArgs.lean ====
/-
  What a precondition says of an argument: a number whose absolute value is below infinity is real.
-/
module

public import proofs.«01_k».proof.Proof.RealValues

@[expose] public section

noncomputable section

open Idealize.ShloMosaic

namespace Cert.Proof.Rv

/-- A true comparison with infinity says the number is real. -/
theorem real_of {x : EReal} (h : BitVec.ofBool (decide (max x (-x) < Ideal.ofBits .f32 0x7F800000#32)) = 1#1) : ∃ r : ℝ, x = (r : EReal) := by
  have h' : max x (-x) < ⊤ := by
    rw [← word_top]
    by_contra hn
    rw [decide_eq_false hn] at h
    exact absurd h (by decide)
  have h1 := (max_lt_iff.mp h').1
  have h2 := (max_lt_iff.mp h').2
  refine ⟨x.toReal, (EReal.coe_toReal h1.ne ?_).symm⟩
  rintro rfl
  exact absurd h2 (by simp)

/-- A whole argument. -/
theorem reals_of {s : Shape} {x : s.Idx → EReal}
    (h : (fun i => BitVec.ofBool (decide (max (x i) (-(x i)) < Ideal.ofBits .f32 0x7F800000#32))) = fun _ => 1#1) :
    ∃ f : s.Idx → ℝ, ∀ i, x i = (f i : EReal) :=
  ⟨fun i => (real_of (congrFun h i)).choose, fun i => (real_of (congrFun h i)).choose_spec⟩

end Cert.Proof.Rv

end
-- ==== Proof.ConvBlock.lean ====
/-
  The gradient of the gated causal convolution: the numbers of one column, and one block of 512 columns.
-/
module

public import proofs.«01_k».proof.Proof.RealValues
public import proofs.«01_k».proof.Proof.Gen.ConvBwdIdeal.Frame
public import Idealize.ShloMosaic.Lib.Pointwise
public import Idealize.ShloMosaic.Lib.Pipeline.ValueKit.Acc

@[expose] public section

noncomputable section

open Idealize.ShloMosaic Idealize.ShloMosaic.TcCoe Idealize.SL.Sem Idealize.ShloMosaic.Pointwise

namespace Cert.Proof.Conv

open Cert.ConvBwdIdeal Cert.ConvBwdIdeal.Gen Cert.Proof.Rv

/-- The column `k` positions earlier, zero before the start. -/
def earlier (k : ℕ) (f : Fin 2048 → ℝ) (r : Fin 2048) : ℝ := if k ≤ r.val then f ⟨r.val - k, by omega⟩ else 0

/-- The column `k` positions later, zero past the end. -/
def later (k : ℕ) (f : Fin 2048 → ℝ) (r : Fin 2048) : ℝ := if h : r.val + k < 2048 then f ⟨r.val + k, h⟩ else 0

theorem earlier_zero (f : Fin 2048 → ℝ) (r : Fin 2048) : earlier 0 f r = f r := if_pos (Nat.zero_le _)

/-- The logistic function. -/
def sg (x : ℝ) : ℝ := 1 / (1 + Real.exp (-x))

theorem logistic (x : ℝ) : Ideal.div 1 (1 + Ideal.exp (-(x : EReal))) = (sg x : EReal) := by
  rw [← EReal.coe_neg, Ideal.exp_coe, ← EReal.coe_one, ← EReal.coe_add, div_real _ _ (by positivity)]
  rfl

section Column

variable (a g dy : Fin 2048 → ℝ) (w : Fin 3 → ℝ) (b : ℝ)

/-- The convolution. -/
def conv (r : Fin 2048) : ℝ := b + earlier 2 a r * w 0 + earlier 1 a r * w 1 + a r * w 2

/-- The gradient of the convolution's value. -/
def slope (r : Fin 2048) : ℝ := dy r * g r * (sg (conv a w b r) * (1 + conv a w b r * (1 - sg (conv a w b r))))

/-- The gradient of the convolved column. -/
def da (r : Fin 2048) : ℝ := slope a g dy w b r * w 2 + later 1 (slope a g dy w b) r * w 1 + later 2 (slope a g dy w b) r * w 0

/-- The gradient of the gating column. -/
def dg (r : Fin 2048) : ℝ := dy r * (conv a w b r * sg (conv a w b r))

/-- The gradient of a tap. -/
def gw (k : ℕ) : ℝ := ∑ r, slope a g dy w b r * earlier k a r

/-- The gradient of the bias. -/
def gb : ℝ := ∑ r, slope a g dy w b r

end Column

/-- The gradients of the three taps, as one block. -/
def taps (a g dy : Fin 512 → Fin 2048 → ℝ) (w : Fin 512 → Fin 3 → ℝ) (b : Fin 512 → ℝ) (y : S3x512.Idx) : EReal :=
  (gw (a (y 1)) (g (y 1)) (dy (y 1)) (w (y 1)) (b (y 1)) (2 - (y 0).val) : EReal)

/-- A selection between numbers by a comparison. -/
theorem select_real (q : Prop) [Decidable q] (c : BitVec 1) (hc : c = BitVec.ofBool (decide q)) (x : EReal) (y : ℝ) (hx : q → x = (y : EReal)) :
    Scalar.select c x (0 : EReal) = ((if q then y else 0 : ℝ) : EReal) := by
  rw [hc]
  by_cases hq : q
  · rw [decide_eq_true hq, if_pos hq, ← hx hq]
    rfl
  · rw [decide_eq_false hq, if_neg hq]
    rfl

/-- A small number as a signed word. -/
theorem word_int (n : ℕ) (hn : n < 2048) : (BitVec.ofNat 32 n).toInt = n := by
  have h : (BitVec.ofNat 32 n).toNat = n := by rw [BitVec.toNat_ofNat]; omega
  rw [BitVec.toInt_eq_toNat_of_lt (by omega), h]

/-- Signed comparisons of row numbers are comparisons of numbers. -/
theorem row_sge (r : Fin 2048) (k : ℕ) (hk : k < 2048) :
    IntOp.cmpi .sge (BitVec.ofNat 32 r.val) (BitVec.ofNat 32 k) = BitVec.ofBool (decide (k ≤ r.val)) := by
  have hr := r.isLt
  unfold IntOp.cmpi
  simp only [BitVec.sle, word_int r.val hr, word_int k hk]
  congr 2
  apply propext
  omega
theorem row_slt (r : Fin 2048) (k : ℕ) (hk : k < 2048) :
    IntOp.cmpi .slt (BitVec.ofNat 32 r.val) (BitVec.ofNat 32 k) = BitVec.ofBool (decide (r.val < k)) := by
  have hr := r.isLt
  unfold IntOp.cmpi
  simp only [BitVec.slt, word_int r.val hr, word_int k hk]
  congr 2
  apply propext
  omega

/-- A product selected before the end of the column: zero for the last `k` rows. -/
theorem select_later (k : ℕ) (n : ℕ) (hk : n + k = 2048) (hn : n < 2048) (r : Fin 2048) (f : Fin 2048 → ℝ) (v : ℝ) (x : EReal)
    (hx : ∀ h : r.val + k < 2048, x = ((f ⟨r.val + k, h⟩ * v : ℝ) : EReal)) :
    Scalar.select (IntOp.cmpi .slt (BitVec.ofNat 32 r.val) (BitVec.ofNat 32 n)) x (0 : EReal) = ((later k f r * v : ℝ) : EReal) := by
  rw [select_real _ _ (row_slt r n hn) x (later k f r * v) fun hq => ?_]
  · congr 1
    split_ifs with hq
    · rfl
    · rw [later, dif_neg (by omega), zero_mul]
  · rw [hx (by omega), later, dif_pos (by omega)]

section Block

variable {x0 x1 : Vec Ideal S2048x512 .f32} {x2 : Vec Ideal S2048x512 .bf16} {x3 : Vec Ideal S3x512 .f32} {x4 : Vec Ideal S1x512 .f32}
  {a g dy : Fin 512 → Fin 2048 → ℝ} {w : Fin 512 → Fin 3 → ℝ} {b : Fin 512 → ℝ}
  (h0 : ∀ r l, (x0 (ix2 r l) : EReal) = (a l r : EReal)) (h1 : ∀ r l, (x1 (ix2 r l) : EReal) = (g l r : EReal))
  (h2 : ∀ r l, (x2 (ix2 r l) : EReal) = (dy l r : EReal)) (h3 : ∀ k l, (x3 (ix2 k l) : EReal) = (w l k : EReal))
  (h4 : ∀ l, (x4 (ix2 0 l) : EReal) = (b l : EReal)) (r : Fin 2048) (l : Fin 512)

include h0

/-- A block moved down by one row, and by two. -/
theorem pay2_apply : (k0_pay2 (F := Ideal) x0 (ix2 r l) : EReal) = (earlier 1 (a l) r : EReal) := by
  pointwise [k0_pay2]
  refine select_real _ _ (row_sge r 1 (by decide)) _ _ fun hq => ?_
  rw [h0]
  exact congrArg (fun i => (a l i : EReal)) (Fin.ext (by show (r.val + 2048 - 1) % 2048 = r.val - 1; omega))
theorem pay3_apply : (k0_pay3 (F := Ideal) x0 (ix2 r l) : EReal) = (earlier 2 (a l) r : EReal) := by
  pointwise [k0_pay3]
  refine select_real _ _ (row_sge r 2 (by decide)) _ _ fun hq => ?_
  rw [h0]
  exact congrArg (fun i => (a l i : EReal)) (Fin.ext (by show (r.val + 2048 - 2) % 2048 = r.val - 2; omega))

include h3 h4

theorem pay4_apply : (k0_pay4 (F := Ideal) x0 x3 x4 (ix2 r l) : EReal) = (conv (a l) (w l) (b l) r : EReal) := by
  pointwise [k0_pay4]
  rw [pay2_apply h0, pay3_apply h0, h0, h4, h3, h3, h3, conv]
  push_cast
  rfl

theorem pay5_apply : (k0_pay5 (F := Ideal) x0 x3 x4 (ix2 r l) : EReal) = (sg (conv (a l) (w l) (b l) r) : EReal) := by
  pointwise [k0_pay5]
  rw [pay4_apply h0 h3 h4, zero_sub, logistic]

include h2

theorem pay7_apply : (k0_pay7 (F := Ideal) x0 x3 x4 x2 (ix2 r l) : EReal) = (dg (a l) (dy l) (w l) (b l) r : EReal) := by
  pointwise [k0_pay7, k0_pay6]
  rw [pay4_apply h0 h3 h4, pay5_apply h0 h3 h4, h2, dg]
  push_cast
  rfl

include h1

theorem pay8_apply : (k0_pay8 (F := Ideal) (k0_pay4 x0 x3 x4) (k0_pay5 x0 x3 x4) (k0_pay6 x2) x1 (ix2 r l) : EReal)
    = (slope (a l) (g l) (dy l) (w l) (b l) r : EReal) := by
  pointwise [k0_pay8, k0_pay6]
  rw [pay4_apply h0 h3 h4, pay5_apply h0 h3 h4, h2, h1, slope]
  push_cast
  rfl

theorem pay9_apply : (k0_pay9 (F := Ideal) (k0_pay4 x0 x3 x4) (k0_pay5 x0 x3 x4) (k0_pay6 x2) x1 (ix2 0 l) : EReal)
    = (gb (a l) (g l) (dy l) (w l) (b l) : EReal) := by
  pointwise [k0_pay9]
  rw [gb, coe_sum]
  exact Finset.sum_congr rfl fun r _ => pay8_apply h0 h1 h2 h3 h4 r l

theorem pay10_apply : (k0_pay10 (F := Ideal) (k0_pay3 x0) (k0_pay4 x0 x3 x4) (k0_pay5 x0 x3 x4) (k0_pay6 x2) x1 (ix2 0 l) : EReal)
    = (gw (a l) (g l) (dy l) (w l) (b l) 2 : EReal) := by
  pointwise [k0_pay10]
  rw [gw, coe_sum]
  exact Finset.sum_congr rfl fun r _ => by rw [pay8_apply h0 h1 h2 h3 h4 r l, pay3_apply h0]; push_cast; rfl

theorem pay11_apply : (k0_pay11 (F := Ideal) (k0_pay2 x0) (k0_pay4 x0 x3 x4) (k0_pay5 x0 x3 x4) (k0_pay6 x2) x1 (ix2 0 l) : EReal)
    = (gw (a l) (g l) (dy l) (w l) (b l) 1 : EReal) := by
  pointwise [k0_pay11]
  rw [gw, coe_sum]
  exact Finset.sum_congr rfl fun r _ => by rw [pay8_apply h0 h1 h2 h3 h4 r l, pay2_apply h0]; push_cast; rfl

theorem pay12_apply : (k0_pay12 (F := Ideal) x0 (k0_pay4 x0 x3 x4) (k0_pay5 x0 x3 x4) (k0_pay6 x2) x1 (ix2 0 l) : EReal)
    = (gw (a l) (g l) (dy l) (w l) (b l) 0 : EReal) := by
  pointwise [k0_pay12]
  rw [gw, coe_sum]
  exact Finset.sum_congr rfl fun r _ => by rw [pay8_apply h0 h1 h2 h3 h4 r l, h0, earlier_zero]; push_cast; rfl

set_option maxRecDepth 65536 in
theorem pay13_apply : (k0_pay13 (F := Ideal) x3 (iota .tc S2048x512 32 [0] iota_S2048x512_d0_w32) (k0_pay4 x0 x3 x4) (k0_pay5 x0 x3 x4) (k0_pay6 x2) x1 (ix2 r l) : EReal)
    = ((slope (a l) (g l) (dy l) (w l) (b l) r * w l 2 + later 1 (slope (a l) (g l) (dy l) (w l) (b l)) r * w l 1 : ℝ) : EReal) := by
  pointwise [k0_pay13]
  rw [select_later 1 2047 (by decide) (by decide) r (slope (a l) (g l) (dy l) (w l) (b l)) (w l 1) _ fun h => ?_, pay8_apply h0 h1 h2 h3 h4,
    h3, ← EReal.coe_mul, ← EReal.coe_add]
  rw [pay8_apply h0 h1 h2 h3 h4, h3, ← EReal.coe_mul]
  exact congrArg (fun i => ((slope (a l) (g l) (dy l) (w l) (b l) i * w l 1 : ℝ) : EReal)) (Fin.ext (by show (r.val + 2048 - 2047) % 2048 = r.val + 1; omega))

set_option maxRecDepth 65536 in
theorem pay1_apply : (k0_pay1 (F := Ideal) x3 (iota .tc S2048x512 32 [0] iota_S2048x512_d0_w32)
      (k0_pay8 (k0_pay4 x0 x3 x4) (k0_pay5 x0 x3 x4) (k0_pay6 x2) x1)
      (k0_pay13 x3 (iota .tc S2048x512 32 [0] iota_S2048x512_d0_w32) (k0_pay4 x0 x3 x4) (k0_pay5 x0 x3 x4) (k0_pay6 x2) x1) (ix2 r l) : EReal)
    = (da (a l) (g l) (dy l) (w l) (b l) r : EReal) := by
  pointwise [k0_pay1]
  rw [select_later 2 2046 (by decide) (by decide) r (slope (a l) (g l) (dy l) (w l) (b l)) (w l 0) _ fun h => ?_, pay13_apply h0 h1 h2 h3 h4,
    ← EReal.coe_add]
  · rfl
  rw [pay8_apply h0 h1 h2 h3 h4, h3, ← EReal.coe_mul]
  exact congrArg (fun i => ((slope (a l) (g l) (dy l) (w l) (b l) i * w l 0 : ℝ) : EReal)) (Fin.ext (by show (r.val + 2048 - 2046) % 2048 = r.val + 2; omega))

/-! ### What a grid point leaves in its output blocks -/

omit h0 h1 h2 h3 h4 in
/-- What the body computed from whole blocks, from the blocks. -/
theorem wholes : k0_pay14 (F := Ideal) x0 x1 x2 x3 x4 = iota .tc S2048x512 32 [0] iota_S2048x512_d0_w32
    ∧ k0_pay15 (F := Ideal) x0 x1 x2 x3 x4 = k0_pay4 x0 x3 x4 ∧ k0_pay16 (F := Ideal) x0 x1 x2 x3 x4 = k0_pay5 x0 x3 x4
    ∧ k0_pay17 (F := Ideal) x0 x1 x2 x3 x4 = k0_pay6 x2 ∧ View.ld x0 r0_0 = x0 ∧ View.ld x1 r0_0 = x1 ∧ View.ld x2 r0_0 = x2
    ∧ View.ld x3 r0_1 = x3 ∧ View.ld x4 r0_2 = x4 := by
  have e0 : View.ld x0 r0_0 = x0 := View.ld_unit_lit _ x0 (by decide)
  have e1 : View.ld x1 r0_0 = x1 := View.ld_unit_lit _ x1 (by decide)
  have e2 : View.ld x2 r0_0 = x2 := View.ld_unit_lit _ x2 (by decide)
  have e3 : View.ld x3 r0_1 = x3 := View.ld_unit_lit _ x3 (by decide)
  have e4 : View.ld x4 r0_2 = x4 := View.ld_unit_lit _ x4 (by decide)
  refine ⟨rfl, ?_, ?_, ?_, e0, e1, e2, e3, e4⟩
  · unfold k0_pay15; rw [e0, e3, e4]
  · unfold k0_pay16; rw [e0, e3, e4]
  · unfold k0_pay17; rw [e2]

theorem out5_apply : (out0_5 (F := Ideal) x0 x1 x2 x3 x4 (ix2 r l) : EReal) = (da (a l) (g l) (dy l) (w l) (b l) r : EReal) := by
  obtain ⟨e14, e15, e16, e17, e0, e1, e2, e3, e4⟩ := wholes (x0 := x0) (x1 := x1) (x2 := x2) (x3 := x3) (x4 := x4)
  rw [out0_5, e14, e15, e16, e17, e1, e3, View.canon_cons_unit_lit _ _ _ (by decide)]
  exact pay1_apply h0 h1 h2 h3 h4 r l

theorem out8_apply : (out0_8 (F := Ideal) x0 x1 x2 x3 x4 (ix2 0 l) : EReal) = (gb (a l) (g l) (dy l) (w l) (b l) : EReal) := by
  obtain ⟨e14, e15, e16, e17, e0, e1, e2, e3, e4⟩ := wholes (x0 := x0) (x1 := x1) (x2 := x2) (x3 := x3) (x4 := x4)
  rw [out0_8, e15, e16, e17, e1, View.canon_cons_unit_lit _ _ _ (by decide)]
  exact pay9_apply h0 h1 h2 h3 h4 l

omit h0 h1 h2 h3 h4 in
theorem taps_eq (k : ℕ) (y : S3x512.Idx) (l : Fin 512) (hy : (y 1).val = l.val) (hk : 2 - (y 0).val = k) :
    (gw (a l) (g l) (dy l) (w l) (b l) k : EReal) = taps a g dy w b y := by
  rw [taps, hk, show y 1 = l from Fin.ext hy]

theorem out7_apply (y : S3x512.Idx) : (out0_7 (F := Ideal) x0 x1 x2 x3 x4 y : EReal) = taps a g dy w b y := by
  obtain ⟨e14, e15, e16, e17, e0, e1, e2, e3, e4⟩ := wholes (x0 := x0) (x1 := x1) (x2 := x2) (x3 := x3) (x4 := x4)
  rw [out0_7, e15, e16, e17, e0, e1]
  have ix : ∀ x : S1x512.Idx, x = ix2 0 (x 1) := fun x => by idx_ext
  refine View.canon_apply_of_pieces (Val := Elt Ideal) (e := .f32) (taps a g dy w b) _ ?_ y (cover0_7 _ _ _ y)
  intro pc hpc
  rcases List.mem_cons.mp hpc with rfl | hpc
  · exact fun x => ((congrArg _ (ix x)).trans (pay12_apply h0 h1 h2 h3 h4 (x 1))).trans (taps_eq 0 (r0_5.emb x) _
      (by show 0 + 1 * (x 1).val = _; omega) (by have := (x 0).isLt; show 2 - (2 + 1 * (x 0).val) = 0; omega))
  rcases List.mem_cons.mp hpc with rfl | hpc
  · exact fun x => ((congrArg _ (ix x)).trans (pay11_apply h0 h1 h2 h3 h4 (x 1))).trans (taps_eq 1 (r0_4.emb x) _
      (by show 0 + 1 * (x 1).val = _; omega) (by have : (x 0).val < 1 := (x 0).isLt; show 2 - (1 + 1 * (x 0).val) = 1; omega))
  rcases List.mem_cons.mp hpc with rfl | hpc
  · exact fun x => ((congrArg _ (ix x)).trans (pay10_apply h0 h1 h2 h3 h4 (x 1))).trans (taps_eq 2 (r0_3.emb x) _
      (by show 0 + 1 * (x 1).val = _; omega) (by have : (x 0).val < 1 := (x 0).isLt; show 2 - (0 + 1 * (x 0).val) = 2; omega))
  nomatch hpc

omit h1 in
theorem out6_apply : (out0_6 (F := Ideal) x0 x1 x2 x3 x4 (ix2 r l) : EReal) = (dg (a l) (dy l) (w l) (b l) r : EReal) := by
  frame_out
  exact pay7_apply h0 h2 h3 h4 r l

end Block

end Cert.Proof.Conv

end
-- ==== Proof.ConvArrays.lean ====
/-
  The gradient of the gated causal convolution: what the call's four result arrays hold.
-/
module

public import proofs.«01_k».proof.Proof.ConvBlock
public import proofs.«01_k».proof.Proof.Gen.ConvBwdIdeal.Value
public import Idealize.ShloMosaic.Lib.Pipeline.ValueKit.Geometry

@[expose] public section

noncomputable section

open Idealize.ShloMosaic Idealize.ShloMosaic.TcCoe Idealize.SL.Sem Idealize.ShloMosaic.Pointwise

namespace Cert.Proof.Conv

open Cert.ConvBwdIdeal Cert.ConvBwdIdeal.Gen Cert.Proof.Rv

/-- The convolved column `j`, and the column that gates it. -/
def lo (j : Fin 5632) : Fin 11264 := ⟨j.val, by omega⟩
def hi (j : Fin 5632) : Fin 11264 := ⟨j.val + 5632, by omega⟩

/-- The arguments are arrays of real numbers. -/
structure Args (x0 : S2048x11264.Idx → EReal) (x1 : S2048x5632.Idx → EReal) (x2 : S3x5632.Idx → EReal) (x3 : S1x5632.Idx → EReal)
    (U : Fin 2048 → Fin 11264 → ℝ) (D : Fin 2048 → Fin 5632 → ℝ) (W : Fin 3 → Fin 5632 → ℝ) (B : Fin 5632 → ℝ) : Prop where
  u : ∀ r j, x0 (ix2 r j) = (U r j : EReal)
  d : ∀ r j, x1 (ix2 r j) = (D r j : EReal)
  w : ∀ k j, x2 (ix2 k j) = (W k j : EReal)
  b : ∀ j, x3 (ix2 0 j) = (B j : EReal)

theorem idx0 : ∀ t : Fin cfg0.N, win0_0.index t = ![0, t.val] := (by decide +kernel : ∀ t : Fin grid0.N, _)
theorem idx1 : ∀ t : Fin cfg0.N, win0_1.index t = ![0, t.val + 11] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)

/-- Column `l` of the block of point `t`. -/
def at' (t : Fin cfg0.N) (l : Fin 512) : Fin 5632 := ⟨t.val * 512 + l.val, by
  have h : t.val < 11 := lt_of_lt_of_eq t.isLt (by decide +kernel)
  omega⟩

section Arrays

variable {m : (ℓ : Loc nD τ sig) → Buf (Elt Ideal) ℓ} {c : Dev nD}
  {U : Fin 2048 → Fin 11264 → ℝ} {D : Fin 2048 → Fin 5632 → ℝ} {W : Fin 3 → Fin 5632 → ℝ} {B : Fin 5632 → ℝ}
  (h : Args (m ((c : Thread nD τ).loc main_arg0)) (m ((c : Thread nD τ).loc main_arg1)) (m ((c : Thread nD τ).loc main_arg2))
    (m ((c : Thread nD τ).loc main_arg3)) U D W B)

include h

theorem blk0 (t : Fin cfg0.N) (r : Fin 2048) (l : Fin 512) : (iblk m c 0 t (ix2 r l) : EReal) = (U r (lo (at' t l)) : EReal) := by
  refine Eq.trans ?_ (h.u r _)
  blk_simp [iblk]
  exact congrArg _ (by blk_ext [idx0 t, lo, at'])
theorem blk1 (t : Fin cfg0.N) (r : Fin 2048) (l : Fin 512) : (iblk m c 1 t (ix2 r l) : EReal) = (U r (hi (at' t l)) : EReal) := by
  refine Eq.trans ?_ (h.u r _)
  blk_simp [iblk]
  exact congrArg _ (by blk_ext [idx1 t, hi, at'])
theorem blk2 (t : Fin cfg0.N) (r : Fin 2048) (l : Fin 512) : (iblk m c 2 t (ix2 r l) : EReal) = (D r (at' t l) : EReal) := by
  refine Eq.trans ?_ (h.d r _)
  blk_simp [iblk]
  exact congrArg _ (by blk_ext [idx2 t, at'])
theorem blk3 (t : Fin cfg0.N) (k : Fin 3) (l : Fin 512) : (iblk m c 3 t (ix2 k l) : EReal) = (W k (at' t l) : EReal) := by
  refine Eq.trans ?_ (h.w k _)
  blk_simp [iblk]
  exact congrArg _ (by blk_ext [idx3 t, at'])
theorem blk4 (t : Fin cfg0.N) (l : Fin 512) : (iblk m c 4 t (ix2 0 l) : EReal) = (B (at' t l) : EReal) := by
  refine Eq.trans ?_ (h.b _)
  blk_simp [iblk]
  exact congrArg _ (by blk_ext [idx4 t, at'])

/-- The gradient of the convolved half. -/
theorem final5 : (dats m 0 c).arrAt 5 cfg0.N = fun y : S2048x5632.Idx =>
    ((da (fun r => U r (lo (y 1))) (fun r => U r (hi (y 1))) (fun r => D r (y 1)) (fun k => W k (y 1)) (B (y 1)) (y 0) : ℝ) : EReal) := by
  refine (dats m 0 c).arrAt_eq_of_covers 5 _ (by decide +kernel) fun t hf y => ?_
  blk_simp
  rw [after0_5]
  obtain ⟨r, l, rfl⟩ : ∃ (r : Fin 2048) (l : Fin 512), y = ix2 r l := ⟨y 0, y 1, by idx_ext⟩
  have e : ((cfg0.win 5).blk t).view.emb (ix2 r l) = ix2 r (at' t l) := by blk_ext [idx5 t, at']
  rw [e]
  exact out5_apply (blk0 h t) (blk1 h t) (blk2 h t) (fun k l => blk3 h t k l) (blk4 h t) r l

/-- The gradient of the gating half. -/
theorem final6 : (dats m 0 c).arrAt 6 cfg0.N = fun y : S2048x5632.Idx =>
    ((dg (fun r => U r (lo (y 1))) (fun r => D r (y 1)) (fun k => W k (y 1)) (B (y 1)) (y 0) : ℝ) : EReal) := by
  refine (dats m 0 c).arrAt_eq_of_covers 6 _ (by decide +kernel) fun t hf y => ?_
  blk_simp
  rw [after0_6]
  obtain ⟨r, l, rfl⟩ : ∃ (r : Fin 2048) (l : Fin 512), y = ix2 r l := ⟨y 0, y 1, by idx_ext⟩
  have e : ((cfg0.win 6).blk t).view.emb (ix2 r l) = ix2 r (at' t l) := by blk_ext [idx6 t, at']
  rw [e]
  exact out6_apply (blk0 h t) (blk2 h t) (fun k l => blk3 h t k l) (blk4 h t) r l

/-- The gradients of the three taps. -/
theorem final7 : (dats m 0 c).arrAt 7 cfg0.N = fun y : S3x5632.Idx =>
    ((gw (fun r => U r (lo (y 1))) (fun r => U r (hi (y 1))) (fun r => D r (y 1)) (fun k => W k (y 1)) (B (y 1)) (2 - (y 0).val) : ℝ) : EReal) := by
  refine (dats m 0 c).arrAt_eq_of_covers 7 _ (by decide +kernel) fun t hf y => ?_
  blk_simp
  rw [after0_7]
  obtain ⟨k, l, rfl⟩ : ∃ (k : Fin 3) (l : Fin 512), y = ix2 k l := ⟨y 0, y 1, by idx_ext⟩
  have e : ((cfg0.win 7).blk t).view.emb (ix2 k l) = ix2 k (at' t l) := by blk_ext [idx7 t, at']
  have e0 : win0_7.index t 0 = 0 := by rw [idx7 t]; rfl
  rw [e, e0, Nat.zero_mul, Nat.zero_add]
  exact out7_apply (blk0 h t) (blk1 h t) (blk2 h t) (fun k l => blk3 h t k l) (blk4 h t) (ix2 k l)

/-- The gradient of the bias. -/
theorem final8 : (dats m 0 c).arrAt 8 cfg0.N = fun y : S1x5632.Idx =>
    ((gb (fun r => U r (lo (y 1))) (fun r => U r (hi (y 1))) (fun r => D r (y 1)) (fun k => W k (y 1)) (B (y 1)) : ℝ) : EReal) := by
  refine (dats m 0 c).arrAt_eq_of_covers 8 _ (by decide +kernel) fun t hf y => ?_
  blk_simp
  rw [after0_8]
  obtain ⟨l, rfl⟩ : ∃ (l : Fin 512), y = ix2 0 l := ⟨y 1, by idx_ext⟩
  have e : ((cfg0.win 8).blk t).view.emb (ix2 0 l) = ix2 0 (at' t l) := by blk_ext [idx8 t, at']
  rw [e]
  exact out8_apply (blk0 h t) (blk1 h t) (blk2 h t) (fun k l => blk3 h t k l) (blk4 h t) l

end Arrays

end Cert.Proof.Conv

end
-- ==== Proof.ConvRef.lean ====
/-
  The gradient of the gated causal convolution: what the derivative of the forward lines leaves.
-/
module

public import proofs.«01_k».proof.Proof.ConvBlock
public import proofs.«01_k».proof.Proof.ConvArrays
public import proofs.«01_k».proof.Proof.Gen.ConvBwdRefIdeal.Read

@[expose] public section

noncomputable section

open Idealize.ShloMosaic Idealize.ShloMosaic.TcCoe Idealize.SL.Sem Idealize.ShloMosaic.Pointwise

namespace Cert.Proof.Conv

open Cert.ConvBwdRefIdeal Cert.ConvBwdRefIdeal.Gen Cert.ConvBwdRefIdeal.Read Cert.Proof.Rv

/-- A sum over the two axes of size one is the one term. -/
theorem sum_ones (x : S1x1x5632.Idx → EReal) (j : Fin 5632) :
    Ideal.hostReduceAdd reducesTo_S1x1x5632_S5632_d0_1 x 0 (ix1 j) = x (ix3 0 0 j) := by
  have e : (Finset.univ.filter fun i : S1x1x5632.Idx => reducesTo_S1x1x5632_S5632_d0_1.drop i = ix1 j) = {ix3 0 0 j} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Subsingleton.elim (α := Fin 1) _ _
      · exact Fin.ext h0
    · subst hi
      funext r
      fin_cases r
      rfl
  unfold Ideal.hostReduceAdd
  rw [e, Finset.sum_singleton, zero_add]

theorem later_zero (f : Fin 2048 → ℝ) (r : Fin 2048) : later 0 f r = f r := dif_pos r.isLt

section Reading

variable {x0 : S2048x11264.Idx → EReal} {x1 : S2048x5632.Idx → EReal} {x2 : S3x5632.Idx → EReal} {x3 : S1x5632.Idx → EReal}
  {U : Fin 2048 → Fin 11264 → ℝ} {D : Fin 2048 → Fin 5632 → ℝ} {W : Fin 3 → Fin 5632 → ℝ} {B : Fin 5632 → ℝ}
  (h : Args x0 x1 x2 x3 U D W B) (r : Fin 2048) (j : Fin 5632)

include h

/-- The padded column: two zeros, then the column. -/
theorem v7 (i : Fin 2050) (k : ℕ) (hk : k ≤ 2) (hi : i.val = r.val + (2 - k)) :
    (val_main_v7 (F := Ideal) x0 (ix3 0 i j) : EReal) = (earlier k (fun r => U r (lo j)) r : EReal) := by
  pointwise [val_main_v7, val_main_v6, val_main_cst, val_main_v2, val_main_v0]
  by_cases hq : i.val < 2
  · rw [dif_pos hq, earlier, if_neg (by omega), EReal.coe_zero]
  · have e : earlier k (fun r => U r (lo j)) r = U ⟨i.val - 2, by omega⟩ (lo j) := by
      rw [earlier, if_pos (by omega)]
      exact congrArg (fun z => U z (lo j)) (Fin.ext (by show r.val - k = i.val - 2; omega))
    exact (dif_neg hq).trans ((h.u _ _).trans (congrArg _ e.symm))

theorem v31 : (val_main_v31 (F := Ideal) x0 x2 x3 (ix3 0 r j) : EReal)
    = (conv (fun r => U r (lo j)) (fun k => W k j) (B j) r : EReal) := by
  pointwise [val_main_v31, val_main_v30, val_main_v24, val_main_v23, val_main_v17, val_main_v14, val_main_v9, val_main_v18, val_main_v25,
    val_main_v13, val_main_v12, val_main_v11, val_main_v10, val_main_v4, val_main_v1, val_main_v22, val_main_v21, val_main_v20, val_main_v19,
    val_main_v29, val_main_v28, val_main_v27, val_main_v26, val_main_v16, val_main_v15, val_main_v5]
  rw [v7 h r j _ 2 (by omega) (by show r.val = _; omega), v7 h r j _ 1 (by omega) (by show 1 + r.val = _; omega),
    v7 h r j _ 0 (by omega) (by show 2 + r.val = _; omega), h.b, h.w, h.w, h.w, earlier_zero, conv]
  push_cast
  rfl

theorem v32_2 : (val_main_v32_2 (F := Ideal) x0 x2 x3 (ix3 0 r j) : EReal)
    = (sg (conv (fun r => U r (lo j)) (fun k => W k j) (B j) r) : EReal) := by
  pointwise [val_main_v32_2, val_main_call0_v4, val_main_call0_v3, val_main_call0_v2, val_main_call0_v1, val_main_call0_v0, val_main_call0_cst,
    val_main_call0_cst_0]
  rw [v31 h, logistic]

theorem v38 : (val_main_v38 (F := Ideal) x0 x1 x2 x3 (ix3 0 r j) : EReal)
    = (slope (fun r => U r (lo j)) (fun r => U r (hi j)) (fun r => D r j) (fun k => W k j) (B j) r : EReal) := by
  have e : (⟨5632 + j.val, by omega⟩ : Fin 11264) = hi j := Fin.ext (Nat.add_comm _ _)
  pointwise [val_main_v38, val_main_call1_v1, val_main_call1_v2, val_main_call1_v0, val_main_v37, val_main_v35, val_main_v34, val_main_v3, val_main_v0,
    val_main_v32_1, val_main_call0_v7, val_main_call0_v6, val_main_call0_cst_1]
  rw [v31 h, v32_2 h, e, h.u, h.d, ← EReal.coe_one]
  simp only [← EReal.coe_mul, ← EReal.coe_add, ← EReal.coe_sub]
  congr 1
  unfold slope
  ring

/-- The gradient of the gating half. -/
theorem v83 : (val_main_v83 (F := Ideal) x0 x1 x2 x3 (ix2 r j) : EReal)
    = (dg (fun r => U r (lo j)) (fun r => D r j) (fun k => W k j) (B j) r : EReal) := by
  pointwise [val_main_v83, val_main_v82, val_main_v81, val_main_v77, val_main_v36, val_main_v32_0, val_main_v35, val_main_v34]
  rw [v31 h, v32_2 h, h.d, ← EReal.coe_mul, ← EReal.coe_mul, dg, mul_comm]

/-- The gradient of the padded column, at a row of the column. -/
theorem v72 (i : Fin 2050) (hi' : i.val = 2 + r.val) : (val_main_v72 (F := Ideal) x0 x1 x2 x3 (ix3 0 i j) : EReal)
    = (da (fun r => U r (lo j)) (fun r => U r (hi j)) (fun r => D r j) (fun k => W k j) (B j) r : EReal) := by
  pointwise [val_main_v72, val_main_v71, val_main_v58, val_main_v57, val_main_v47, val_main_cst_14, val_main_cst_8, val_main_cst_4, val_main_v43,
    val_main_v52, val_main_v66, val_main_v42, val_main_v51, val_main_v65, val_main_v28, val_main_v21, val_main_v12, val_main_v27, val_main_v20,
    val_main_v11, val_main_v26, val_main_v19, val_main_v10, val_main_v4, val_main_v1]
  have hr := r.isLt
  have later_eq : ∀ k : ℕ, (hk : k ≤ 2) → ∀ q : Prop, ∀ _ : Decidable q, (q ↔ r.val + k < 2048) → ∀ f : q → Fin 2048, (∀ hq, (f hq).val = r.val + k) → ∀ z : Fin 3,
      (if hq : q then (val_main_v38 (F := Ideal) x0 x1 x2 x3 (ix3 0 (f hq) j) * x2 (ix2 z j) : EReal) else 0)
        = ((later k (slope (fun r => U r (lo j)) (fun r => U r (hi j)) (fun r => D r j) (fun k => W k j) (B j)) r * W z j : ℝ) : EReal) := by
    intro k hk q _ hq f hf z
    by_cases hh : q
    · rw [dif_pos hh, v38 h, h.w, later, dif_pos (hq.mp hh), ← EReal.coe_mul, show f hh = ⟨r.val + k, hq.mp hh⟩ from Fin.ext (hf hh)]
    · rw [dif_neg hh, later, dif_neg fun x => hh (hq.mpr x), zero_mul, EReal.coe_zero]
  refine (congrArg₂ (· + ·) (congrArg₂ (· + ·) (later_eq 0 (by omega) _ _ ⟨fun _ => by omega, fun _ => by omega⟩ _ (fun _ => by show i.val - 2 = _; omega) 2)
    (later_eq 1 (by omega) _ _ ⟨fun _ => by omega, fun _ => by omega⟩ _ (fun _ => by show i.val - 1 = _; omega) 1))
    (later_eq 2 (by omega) _ _ ⟨fun _ => by omega, fun _ => by omega⟩ _ (fun _ => by show i.val = _; omega) 0)).trans ?_
  rw [← EReal.coe_add, ← EReal.coe_add, da, later_zero]

/-- The gradient of the convolved half. -/
theorem v80 : (val_main_v80 (F := Ideal) x0 x1 x2 x3 (ix2 r j) : EReal)
    = (da (fun r => U r (lo j)) (fun r => U r (hi j)) (fun r => D r j) (fun k => W k j) (B j) r : EReal) := by
  pointwise [val_main_v80, val_main_v79, val_main_v78, val_main_v77, val_main_v74]
  exact v72 h r j _ rfl

/-! ### Sums down a column -/

omit h in
/-- The last steps of a column's sum: one entry of a 1 × 1 × 5632 array, itself a sum of 2048 numbers. -/
theorem column {t : S1x1x5632.Idx → EReal} {z : S_.Idx → EReal} {q w : EReal} {x : Fin 2048 → EReal} {f : Fin 2048 → ℝ}
    (ht : t (ix3 0 0 j) = q) (hq : q = w + ∑ r : Fin 2048, x r) (hw : w = 0) (hz : z (Shape.Idx.first h_S_) = 0)
    (hx : ∀ r, x r = (f r : EReal)) :
    (Host.reduceAdd (F := Ideal) (φ := .f32) t z reducesTo_S1x1x5632_S5632_d0_1 h_S_ (ix1 j) : EReal) = ((∑ r, f r : ℝ) : EReal) := by
  simp only [Host.reduceAdd, Ideal.hostReduceAdd_def]
  rw [hz, sum_ones, ht, hq, hw, zero_add, coe_sum]
  exact Finset.sum_congr rfl fun r _ => hx r

theorem v44 : (val_main_v44 (F := Ideal) x0 x1 x2 x3 (ix1 j) : EReal) = (gw (fun r => U r (lo j)) (fun r => U r (hi j)) (fun r => D r j) (fun k => W k j) (B j) 0 : EReal) := by
  rw [val_main_v44, gw]
  refine column j (by pointwise [val_main_v41]) (val_main_v40_apply x0 x1 x2 x3 (ix2 0 j)) Ideal.ofBits_zero_f32 Ideal.ofBits_zero_f32 fun r => ?_
  refine (congrArg _ (by idx_ext : idx_main_v40 (ix2 0 j) r = ix3 0 r j)).trans ?_
  pointwise [val_main_v39, val_main_v25]
  rw [v38 h, v7 h r j _ 0 (by omega) (by show 2 + r.val = _; omega), ← EReal.coe_mul, mul_comm]

theorem v53 : (val_main_v53 (F := Ideal) x0 x1 x2 x3 (ix1 j) : EReal) = (gw (fun r => U r (lo j)) (fun r => U r (hi j)) (fun r => D r j) (fun k => W k j) (B j) 1 : EReal) := by
  rw [val_main_v53, gw]
  refine column j (by pointwise [val_main_v50]) (val_main_v49_apply x0 x1 x2 x3 (ix2 0 j)) Ideal.ofBits_zero_f32 Ideal.ofBits_zero_f32 fun r => ?_
  refine (congrArg _ (by idx_ext : idx_main_v49 (ix2 0 j) r = ix3 0 r j)).trans ?_
  pointwise [val_main_v48, val_main_v18]
  rw [v38 h, v7 h r j _ 1 (by omega) (by show 1 + r.val = _; omega), ← EReal.coe_mul, mul_comm]

theorem v67 : (val_main_v67 (F := Ideal) x0 x1 x2 x3 (ix1 j) : EReal) = (gw (fun r => U r (lo j)) (fun r => U r (hi j)) (fun r => D r j) (fun k => W k j) (B j) 2 : EReal) := by
  rw [val_main_v67, gw]
  refine column j (by pointwise [val_main_v64]) (val_main_v63_apply x0 x1 x2 x3 (ix2 0 j)) Ideal.ofBits_zero_f32 Ideal.ofBits_zero_f32 fun r => ?_
  refine (congrArg _ (by idx_ext : idx_main_v63 (ix2 0 j) r = ix3 0 r j)).trans ?_
  pointwise [val_main_v62, val_main_v9]
  rw [v38 h, v7 h r j _ 2 (by omega) (by show r.val = _; omega), ← EReal.coe_mul, mul_comm]

theorem v61 : (val_main_v61 (F := Ideal) x0 x1 x2 x3 (ix1 j) : EReal) = (gb (fun r => U r (lo j)) (fun r => U r (hi j)) (fun r => D r j) (fun k => W k j) (B j) : EReal) := by
  rw [val_main_v61, gb]
  refine column j (by pointwise [val_main_v60]) (val_main_v59_apply x0 x1 x2 x3 (ix2 0 j)) Ideal.ofBits_zero_f32 Ideal.ofBits_zero_f32 fun r => ?_
  refine (congrArg _ (by idx_ext : idx_main_v59 (ix2 0 j) r = ix3 0 r j)).trans ?_
  exact v38 h r j

/-- The gradient of the bias. -/
theorem v75 : (val_main_v75 (F := Ideal) x0 x1 x2 x3 (ix2 0 j) : EReal)
    = (gb (fun r => U r (lo j)) (fun r => U r (hi j)) (fun r => D r j) (fun k => W k j) (B j) : EReal) := by
  pointwise [val_main_v75]
  exact v61 h j

/-- The gradients of the three taps. -/
theorem v84 (k : Fin 3) : (val_main_v84 (F := Ideal) x0 x1 x2 x3 (ix2 k j) : EReal)
    = (gw (fun r => U r (lo j)) (fun r => U r (hi j)) (fun r => D r j) (fun k => W k j) (B j) (2 - k.val) : EReal) := by
  pointwise [val_main_v84, val_main_v76, val_main_v70, val_main_v69, val_main_v56, val_main_v55, val_main_v46, val_main_cst_13, val_main_cst_7, val_main_cst_3,
    val_main_v45, val_main_v54, val_main_v68]
  match k with
  | ⟨0, _⟩ => rw [dif_neg (by simp), dif_neg (by simp), dif_pos (by simp), zero_add, zero_add]; exact v67 h j
  | ⟨1, _⟩ => rw [dif_neg (by simp), dif_pos (by simp), dif_neg (by simp), zero_add, add_zero]; exact v53 h j
  | ⟨2, _⟩ => rw [dif_pos (by simp), dif_neg (by simp), dif_neg (by simp), add_zero, add_zero]; exact v44 h j

end Reading

end Cert.Proof.Conv

end
-- ==== Proof.ConvClaims.lean ====
/-
  The claims about the gradient of the gated convolution: both programs run and end quiet, and the four gradients of the
  kernel are those of the reference whenever the arguments are finite.
-/
module

public import proofs.«01_k».proof.Defs
public import proofs.«01_k».proof.Proof.RealArgs
public import proofs.«01_k».proof.Proof.ConvArrays
public import proofs.«01_k».proof.Proof.ConvRef
public import proofs.«01_k».proof.Proof.Gen.ConvBwd.Frame
public import Idealize.ShloMosaic.Lib.Claim
public import Idealize.ShloMosaic.Lib.Quiescent

@[expose] public section

noncomputable section

open Idealize.ShloMosaic Idealize.ShloMosaic.TcCoe Idealize.SL.Sem Idealize.ShloMosaic.Pointwise

namespace Cert.Proof.Conv

open Cert.ConvBwdIdeal Cert.ConvBwdIdeal.Gen Cert.Proof.Rv

instance facts_finite_conv : Cert.Pre_finite_conv.Facts where
  bcast_S_S2048x11264 := by decide
  bitsLt_bf16_f32 := by decide
  bcast_S_S2048x5632 := by decide
  bcast_S_S3x5632 := by decide
  bcast_S_S1x5632 := by decide

/-- The arguments as arrays of real numbers. -/
theorem args (m : (ℓ : Loc nD τ sig) → Buf (Elt Ideal) ℓ) (h : Cert.Pre_ConvBwdIdeal_finite_conv m) (c : Dev nD) : ∃ U D W B,
    Args (m ((c : Thread nD τ).loc main_arg0)) (m ((c : Thread nD τ).loc main_arg1)) (m ((c : Thread nD τ).loc main_arg2))
      (m ((c : Thread nD τ).loc main_arg3)) U D W B := by
  obtain ⟨u, hu⟩ := reals_of (x := m ((c : Thread nD τ).loc main_arg0)) (h c).1
  obtain ⟨d, hd⟩ := reals_of (x := m ((c : Thread nD τ).loc main_arg1)) (h c).2.1
  obtain ⟨w, hw⟩ := reals_of (x := m ((c : Thread nD τ).loc main_arg2)) (h c).2.2.1
  obtain ⟨b, hb⟩ := reals_of (x := m ((c : Thread nD τ).loc main_arg3)) (h c).2.2.2
  exact ⟨fun r j => u (ix2 r j), fun r j => d (ix2 r j), fun k j => w (ix2 k j), fun j => b (ix2 0 j),
    fun r j => hu _, fun r j => hd _, fun k j => hw _, fun j => hb _⟩

/-- What the reference leaves is what the kernel leaves. -/
theorem results_eq (m : (ℓ : Loc nD τ sig) → Buf (Elt Ideal) ℓ) (h : Cert.Pre_ConvBwdIdeal_finite_conv m) (c : Dev nD)
    {x0 : (⟨S2048x11264, .f32⟩ : BufTy).Contents (Elt Ideal)} {x1 : (⟨S2048x5632, .bf16⟩ : BufTy).Contents (Elt Ideal)}
    {x2 : (⟨S3x5632, .f32⟩ : BufTy).Contents (Elt Ideal)} {x3 : (⟨S1x5632, .f32⟩ : BufTy).Contents (Elt Ideal)}
    (e : x0 = m ((c.tc : Thread nD τ).loc main_arg0) ∧ x1 = m ((c.tc : Thread nD τ).loc main_arg1)
      ∧ x2 = m ((c.tc : Thread nD τ).loc main_arg2) ∧ x3 = m ((c.tc : Thread nD τ).loc main_arg3)) :
    Cert.ConvBwdRefIdeal.Read.val_main_v80 (F := Ideal) x0 x1 x2 x3 = (dats m 0 c).arrAt 5 cfg0.N
    ∧ Cert.ConvBwdRefIdeal.Read.val_main_v83 (F := Ideal) x0 x1 x2 x3 = (dats m 0 c).arrAt 6 cfg0.N
    ∧ Cert.ConvBwdRefIdeal.Read.val_main_v84 (F := Ideal) x0 x1 x2 x3 = (dats m 0 c).arrAt 7 cfg0.N
    ∧ Cert.ConvBwdRefIdeal.Read.val_main_v75 (F := Ideal) x0 x1 x2 x3 = (dats m 0 c).arrAt 8 cfg0.N := by
  obtain ⟨rfl, rfl, rfl, rfl⟩ := e
  obtain ⟨U, D, W, B, a⟩ := args m h c
  have ix : ∀ x : S2048x5632.Idx, x = ix2 (x 0) (x 1) := fun x => by idx_ext
  refine ⟨Eq.trans (funext fun x => ?_) (final5 a).symm, Eq.trans (funext fun x => ?_) (final6 a).symm,
    Eq.trans (funext fun x => ?_) (final7 a).symm, Eq.trans (funext fun x => ?_) (final8 a).symm⟩
  · exact (congrArg _ (ix x)).trans (v80 a (x 0) (x 1))
  · exact (congrArg _ (ix x)).trans (v83 a (x 0) (x 1))
  · exact (congrArg _ (by idx_ext : x = ix2 (x 0) (x 1))).trans (v84 a (x 1) (x 0))
  · exact (congrArg _ (by idx_ext : x = ix2 0 (x 1))).trans (v75 a (x 1))

set_option maxRecDepth 16384 in
/-- The two programs' results agree, on every device. -/
theorem algebraic : Cert.algebraic_ConvBwdIdeal_ConvBwdRefIdeal_pre_finite_conv := by
  pair_intro
  · run_from (Cert.ConvBwdIdeal.Value.run_blocks (F := Ideal) m g)
  · run_from (Cert.ConvBwdRefIdeal.Value.run (F := Ideal) m' g')
    · exact (Cert.ConvBwdRefIdeal.Read.val_main_v80_eq m' c).trans (results_eq m hpre c (hagree c)).1
    · exact (Cert.ConvBwdRefIdeal.Read.val_main_v83_eq m' c).trans (results_eq m hpre c (hagree c)).2.1
    · exact (Cert.ConvBwdRefIdeal.Read.val_main_v84_eq m' c).trans (results_eq m hpre c (hagree c)).2.2.1
    · exact (Cert.ConvBwdRefIdeal.Read.val_main_v75_eq m' c).trans (results_eq m hpre c (hagree c)).2.2.2

theorem frame : Cert.quiescent_ConvBwd := fun m ρ _ => Cert.ConvBwd.Gen.frame m ρ
theorem frame_ideal : Cert.quiescent_ConvBwdIdeal := fun m ρ _ => Cert.ConvBwdIdeal.Gen.frame m ρ
theorem frame_ideal_finite : Cert.quiescent_ConvBwdIdeal_pre_finite_conv := fun m ρ _ => Cert.ConvBwdIdeal.Gen.frame m ρ
theorem frame_ref : Cert.quiescent_ConvBwdRefIdeal := fun m ρ _ =>
  θ_run_mono (Cert.ConvBwdRefIdeal.Value.run (F := Ideal) m ρ) fun r h =>
    ⟨fun c => (h c).2.2.2.2, sem_eq_zero_of_no_sems (by decide) r.2⟩
theorem frame_ref_finite : Cert.quiescent_ConvBwdRefIdeal_pre_finite_conv := fun m ρ _ => frame_ref m ρ trivial

end Cert.Proof.Conv

end
-- ==== Proof.RealWords.lean ====
/-
  Words of the format that are powers of two, and sums with a factor taken out.
-/
module

public import proofs.«01_k».proof.Proof.RealValues

@[expose] public section

noncomputable section

open Idealize.ShloMosaic

namespace Cert.Proof.Rv

/-- A word of the format with no fraction is a power of two. -/
theorem pow_word (b : BitVec 32) (e : ℕ) (p : ℤ) (h0 : (b.extractLsb' 23 8).toNat = e) (hp : (e : ℤ) - 127 = p) (h1 : (b.extractLsb' 0 23).toNat = 0)
    (he : e ≠ 255) (hz : e ≠ 0) (hs : b.extractLsb' 31 1 = 0#1) : Ideal.ofBits .f32 b = (((2 : ℝ) ^ p : ℝ) : EReal) := by
  show Ideal.ieee 8 23 b = _
  unfold Ideal.ieee
  dsimp only
  rw [if_neg (by rw [h0]; exact he), if_neg (by rw [h0]; exact hz), h0, h1, show BitVec.extractLsb' (8 + 23) 1 b = 0#1 from hs,
    if_neg (by decide)]
  refine congrArg _ ?_
  have e1 : ((e : ℤ) - (2 ^ (8 - 1) - 1) - ((23 : ℕ) : ℤ)) = p - 23 := by norm_num; omega
  rw [e1, zpow_sub₀ (by norm_num)]
  norm_num
  ring

/-- A factor that is a number and not negative may be taken into a sum. -/
theorem mul_sum {ι : Type*} (s : Finset ι) (f : ι → EReal) {x : EReal} (h : 0 ≤ x) (ht : x ≠ ⊤) :
    ∑ i ∈ s, x * f i = x * ∑ i ∈ s, f i := by
  classical
  induction s using Finset.induction_on with
  | empty => simp
  | insert a s ha ih => rw [Finset.sum_insert ha, Finset.sum_insert ha, ih, EReal.left_distrib_of_nonneg_of_ne_top h ht]

end Cert.Proof.Rv

end
-- ==== Proof.LossBlock.lean ====
/-
  What one point of the loss call leaves in the blocks of its four results.
-/
module

public import proofs.«01_k».proof.Proof.Gen.LossHeadIdeal.Value
public import proofs.«01_k».proof.Proof.RealWords
public import Idealize.ShloMosaic.Lib.Pointwise
public import Idealize.ShloMosaic.Lib.Pipeline.ValueKit

@[expose] public section

noncomputable section

open Idealize.ShloMosaic Idealize.ShloMosaic.TcCoe Idealize.SL.Sem Idealize.ShloMosaic.Pointwise

namespace Cert.Proof.Loss

open Cert.LossHeadIdeal Cert.LossHeadIdeal.Gen Cert.Proof.Rv

/-- `1/2048`. -/
abbrev inv : EReal := Ideal.ofBits .f32 0x3A000000#32

abbrev half : EReal := Ideal.ofBits .f32 0x3F000000#32

/-- The error of one entry: what the layer puts out, less the target. -/
def err (x f g t : EReal) : EReal := x + g * f - t

section Pay
variable (x0 x1 : Vec Ideal S256x2048 .f32) (x2 : Vec Ideal S1x2048 .f32) (x3 : Vec Ideal S256x2048 .f32)

theorem pay3_apply (r : Fin 256) (j : Fin 2048) : (k0_pay3 (F := Ideal) x1 x2 x0 x3 (ix2 r j) : EReal)
    = err (x0 (ix2 r j)) (x1 (ix2 r j)) (x2 (ix2 0 j)) (x3 (ix2 r j)) * inv := by
  pointwise [k0_pay3, k0_pay2]
  rfl

theorem pay4_apply (r : Fin 256) (j : Fin 2048) : (k0_pay4 (F := Ideal) x1 x2 x0 x3 (ix2 r j) : EReal)
    = err (x0 (ix2 r j)) (x1 (ix2 r j)) (x2 (ix2 0 j)) (x3 (ix2 r j)) * inv * x2 (ix2 0 j) := by
  pointwise [k0_pay4, k0_pay3, k0_pay2]
  rfl

theorem pay7_apply (v : Vec Ideal S1x128 .f32) (l : Fin 128) : (k0_pay7 (F := Ideal) x1 x2 x0 x3 v (ix2 0 l) : EReal)
    = v (ix2 0 l) + half * ∑ r : Fin 256, (∑ j : Fin 2048, err (x0 (ix2 r j)) (x1 (ix2 r j)) (x2 (ix2 0 j)) (x3 (ix2 r j))
        * err (x0 (ix2 r j)) (x1 (ix2 r j)) (x2 (ix2 0 j)) (x3 (ix2 r j))) * inv := by
  pointwise [k0_pay7, k0_pay2]
  rfl

theorem pay1_apply (v : Vec Ideal S1x2048 .f32) (j : Fin 2048) : (k0_pay1 (F := Ideal) x1 (k0_pay3 (F := Ideal) x1 x2 x0 x3) v (ix2 0 j) : EReal)
    = v (ix2 0 j) + ∑ r : Fin 256, err (x0 (ix2 r j)) (x1 (ix2 r j)) (x2 (ix2 0 j)) (x3 (ix2 r j)) * inv * x1 (ix2 r j) := by
  pointwise [k0_pay1, k0_pay3, k0_pay2]
  rfl

end Pay

section Outs
variable (c : Dev nD) (i : grid0.Coords) (arg1 : Memref sig .tc .vmem S256x2048 .f32) (harg1 : arg1.IsWhole)
  (arg2 : Memref sig .tc .vmem S256x2048 .f32) (harg2 : arg2.IsWhole) (arg3 : Memref sig .tc .vmem S1x2048 .f32) (harg3 : arg3.IsWhole)
  (arg4 : Memref sig .tc .vmem S256x2048 .f32) (harg4 : arg4.IsWhole) (arg5 : Memref sig .tc .vmem S1x128 .f32) (harg5 : arg5.IsWhole)
  (arg6 : Memref sig .tc .vmem S256x2048 .f32) (harg6 : arg6.IsWhole) (arg7 : Memref sig .tc .vmem S256x2048 .bf16) (harg7 : arg7.IsWhole)
  (arg8 : Memref sig .tc .vmem S1x2048 .f32) (harg8 : arg8.IsWhole)
  (x0 x1 : Vec Ideal S256x2048 .f32) (x2 : Vec Ideal S1x2048 .f32) (x3 : Vec Ideal S256x2048 .f32) (xo4 : Vec Ideal S1x128 .f32) (xo7 : Vec Ideal S1x2048 .f32)

theorem out_A_4 (hc : cond0_0 i) : out0_A_4 (F := Ideal) c i arg1 harg1 arg2 harg2 arg3 harg3 arg4 harg4 arg5 harg5 arg6 harg6 arg7 harg7 arg8 harg8 hc x0 x1 x2 x3
    = k0_pay7 x1 x2 x0 x3 (k0_pay5 (F := Ideal)) := by
  frame_out
theorem out_A_5 (hc : cond0_0 i) : out0_A_5 (F := Ideal) c i arg1 harg1 arg2 harg2 arg3 harg3 arg4 harg4 arg5 harg5 arg6 harg6 arg7 harg7 arg8 harg8 hc x0 x1 x2 x3
    = k0_pay3 x1 x2 x0 x3 := by
  frame_out
theorem out_A_6 (hc : cond0_0 i) : out0_A_6 (F := Ideal) c i arg1 harg1 arg2 harg2 arg3 harg3 arg4 harg4 arg5 harg5 arg6 harg6 arg7 harg7 arg8 harg8 hc x0 x1 x2 x3
    = k0_pay4 x1 x2 x0 x3 := by
  frame_out
theorem out_A_7 (hc : cond0_0 i) : out0_A_7 (F := Ideal) c i arg1 harg1 arg2 harg2 arg3 harg3 arg4 harg4 arg5 harg5 arg6 harg6 arg7 harg7 arg8 harg8 hc x0 x1 x2 x3
    = k0_pay1 x1 (k0_pay3 x1 x2 x0 x3) (k0_pay6 (F := Ideal)) := by
  frame_out
theorem out_B_4 (hc : ¬cond0_0 i) : out0_B_4 (F := Ideal) c i arg1 harg1 arg2 harg2 arg3 harg3 arg4 harg4 arg5 harg5 arg6 harg6 arg7 harg7 arg8 harg8 hc x0 x1 x2 x3 xo4 xo7
    = k0_pay7 x1 x2 x0 x3 xo4 := by
  frame_out
theorem out_B_5 (hc : ¬cond0_0 i) : out0_B_5 (F := Ideal) c i arg1 harg1 arg2 harg2 arg3 harg3 arg4 harg4 arg5 harg5 arg6 harg6 arg7 harg7 arg8 harg8 hc x0 x1 x2 x3 xo4 xo7
    = k0_pay3 x1 x2 x0 x3 := by
  frame_out
theorem out_B_6 (hc : ¬cond0_0 i) : out0_B_6 (F := Ideal) c i arg1 harg1 arg2 harg2 arg3 harg3 arg4 harg4 arg5 harg5 arg6 harg6 arg7 harg7 arg8 harg8 hc x0 x1 x2 x3 xo4 xo7
    = k0_pay4 x1 x2 x0 x3 := by
  frame_out
theorem out_B_7 (hc : ¬cond0_0 i) : out0_B_7 (F := Ideal) c i arg1 harg1 arg2 harg2 arg3 harg3 arg4 harg4 arg5 harg5 arg6 harg6 arg7 harg7 arg8 harg8 hc x0 x1 x2 x3 xo4 xo7
    = k0_pay1 x1 (k0_pay3 x1 x2 x0 x3) xo7 := by
  frame_out

end Outs

end Cert.Proof.Loss

end
-- ==== Proof.LossArrays.lean ====
/-
  The four result arrays of the loss call, as functions of the argument arrays.
-/
module

public import proofs.«01_k».proof.Proof.LossBlock

@[expose] public section

noncomputable section

open Idealize.ShloMosaic Idealize.ShloMosaic.TcCoe Idealize.SL.Sem Idealize.ShloMosaic.Pointwise

namespace Cert.Proof.Loss

open Cert.LossHeadIdeal Cert.LossHeadIdeal.Gen Cert.Proof.Rv

theorem half_eq : half = ((1 / 2 : ℝ) : EReal) := by
  rw [half, pow_word _ 126 (-1) (by decide) (by decide) (by decide) (by decide) (by decide) (by decide)]
  norm_num

/-- A row of a block, in the array. -/
def at' (t : Fin cfg0.N) (r : Fin 256) : Fin 2048 := ⟨t.val * 256 + r.val, by have := t.isLt; have : cfg0.N = 8 := N_0; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)

section Arrays
variable (m : (ℓ : Loc nD τ sig) → Buf (Elt Ideal) ℓ) (c : Dev nD)

abbrev X (r j : Fin 2048) : EReal := m ((c : Thread nD τ).loc main_arg0) (ix2 r j)
abbrev Y (r j : Fin 2048) : EReal := m ((c : Thread nD τ).loc main_arg1) (ix2 r j)
abbrev Gt (j : Fin 2048) : EReal := m ((c : Thread nD τ).loc main_arg2) (ix2 0 j)
abbrev T (r j : Fin 2048) : EReal := m ((c : Thread nD τ).loc main_arg3) (ix2 r j)

/-- The error of an entry. -/
def er (r j : Fin 2048) : EReal := err (X m c r j) (Y m c r j) (Gt m c j) (T m c r j)

theorem blk0 (t : Fin cfg0.N) (r : Fin 256) (j : Fin 2048) : (iblk m c 0 t (ix2 r j) : EReal) = X m c (at' t r) j := by
  blk_simp [iblk]
  exact congrArg _ (by blk_ext [idx0 t, at'])
theorem blk1 (t : Fin cfg0.N) (r : Fin 256) (j : Fin 2048) : (iblk m c 1 t (ix2 r j) : EReal) = Y m c (at' t r) j := by
  blk_simp [iblk]
  exact congrArg _ (by blk_ext [idx1 t, at'])
theorem blk2 (t : Fin cfg0.N) (j : Fin 2048) : (iblk m c 2 t (ix2 0 j) : EReal) = Gt m c j := by
  blk_simp [iblk]
  exact congrArg _ (by blk_ext [idx2 t])
theorem blk3 (t : Fin cfg0.N) (r : Fin 256) (j : Fin 2048) : (iblk m c 3 t (ix2 r j) : EReal) = T m c (at' t r) j := by
  blk_simp [iblk]
  exact congrArg _ (by blk_ext [idx3 t, at'])

/-- What a point leaves of the two blocks that are written once. -/
theorem once (t : Fin cfg0.N) (r : Fin 256) (j : Fin 2048) :
    ((outsAt0 m c t.val t.isLt).2.1 (ix2 r j) : EReal) = er m c (at' t r) j * inv
    ∧ ((outsAt0 m c t.val t.isLt).2.2.1 (ix2 r j) : EReal) = er m c (at' t r) j * inv * Gt m c j := by
  by_cases h : t.val % 8 = 0
  · rw [outsAt0_A m c t h]
    dsimp only
    rw [out_A_5, out_A_6, pay3_apply, pay4_apply, blk0, blk1, blk2, blk3]
    exact ⟨rfl, rfl⟩
  · rw [outsAt0_B m c t h]
    dsimp only
    rw [out_B_5, out_B_6, pay3_apply, pay4_apply, blk0, blk1, blk2, blk3]
    exact ⟨rfl, rfl⟩

/-- One block's part of the loss, and of the gate's gradient. -/
def lossPart (t : Fin cfg0.N) : EReal := half * ∑ r : Fin 256, (∑ j : Fin 2048, er m c (at' t r) j * er m c (at' t r) j) * inv
def gatePart (t : Fin cfg0.N) (j : Fin 2048) : EReal := ∑ r : Fin 256, er m c (at' t r) j * inv * Y m c (at' t r) j

theorem pay7_blk (t : Fin cfg0.N) (v : Vec Ideal S1x128 .f32) (l : Fin 128) :
    (k0_pay7 (F := Ideal) (iblk m c 1 t) (iblk m c 2 t) (iblk m c 0 t) (iblk m c 3 t) v (ix2 0 l) : EReal) = v (ix2 0 l) + lossPart m c t := by
  rw [pay7_apply]
  simp only [blk0, blk1, blk2, blk3]
  rfl

theorem pay1_blk (t : Fin cfg0.N) (v : Vec Ideal S1x2048 .f32) (j : Fin 2048) :
    (k0_pay1 (F := Ideal) (iblk m c 1 t) (k0_pay3 (F := Ideal) (iblk m c 1 t) (iblk m c 2 t) (iblk m c 0 t) (iblk m c 3 t)) v (ix2 0 j) : EReal)
      = v (ix2 0 j) + gatePart m c t j := by
  rw [pay1_apply]
  simp only [blk0, blk1, blk2, blk3]
  rfl

/-- The loss block at the last point. -/
theorem loss_last (t : Fin cfg0.N) (ht : t.val + 1 = cfg0.N) (l : Fin 128) :
    ((outsAt0 m c t.val t.isLt).1 (ix2 0 l) : EReal) = half * ∑ r : Fin 2048, (∑ j : Fin 2048, er m c r j * er m c r j) * inv := by
  refine (Pipeline.eq_sum_fin_of_reset_step_last (N := cfg0.N) (fun n h => ((outsAt0 m c n h).1 (ix2 0 l) : EReal)) 8 0 (lossPart m c) (fun t h => ?_) (fun t h => ?_)
    (by decide) t ht).trans ?_
  · rw [outsAt0_A m c t h]
    dsimp only
    rw [out_A_4, pay7_blk]
    congr 1
    pointwise [k0_pay5]
  · rw [outsAt0_B m c t h]
    dsimp only
    rw [out_B_4, pay7_blk]
  · rw [zero_add]
    simp only [lossPart]
    rw [mul_sum _ _ (by rw [half_eq]; exact_mod_cast (by norm_num : (0 : ℝ) ≤ 1 / 2)) (by rw [half_eq]; exact EReal.coe_ne_top _)]
    exact congrArg _ (Fin.sum_mul_add_fin 8 256 fun r : Fin 2048 => (∑ j : Fin 2048, er m c r j * er m c r j) * inv)

/-- The gate's gradient at the last point. -/
theorem gate_last (t : Fin cfg0.N) (ht : t.val + 1 = cfg0.N) (j : Fin 2048) :
    ((outsAt0 m c t.val t.isLt).2.2.2 (ix2 0 j) : EReal) = ∑ r : Fin 2048, er m c r j * inv * Y m c r j := by
  refine (Pipeline.eq_sum_fin_of_reset_step_last (N := cfg0.N) (fun n h => ((outsAt0 m c n h).2.2.2 (ix2 0 j) : EReal)) 8 0 (fun t => gatePart m c t j) (fun t h => ?_) (fun t h => ?_)
    (by decide) t ht).trans ?_
  · rw [outsAt0_A m c t h]
    dsimp only
    rw [out_A_7, pay1_blk]
    congr 1
    pointwise [k0_pay6]
  · rw [outsAt0_B m c t h]
    dsimp only
    rw [out_B_7, pay1_blk]
  · rw [zero_add]
    exact Fin.sum_mul_add_fin 8 256 fun r : Fin 2048 => er m c r j * inv * Y m c r j

/-- The loss, the same in every lane. -/
theorem final4 : (dats m 0 c).arrAt 4 cfg0.N = fun _ : S1x128.Idx =>
    half * ∑ r : Fin 2048, (∑ j : Fin 2048, er m c r j * er m c r j) * inv := by
  refine (dats m 0 c).arrAt_eq_of_covers 4 _ (by decide +kernel) fun t hf y => ?_
  have ht : t.val + 1 = cfg0.N := by have := (flush0_4 t).mp hf; have := t.isLt; have : cfg0.N = 8 := N_0; omega
  blk_simp
  rw [after0_4]
  obtain ⟨l, rfl⟩ : ∃ (l : Fin 128), y = ix2 0 l := ⟨y 1, by idx_ext⟩
  exact loss_last m c t ht l

/-- The gradient of the stream. -/
theorem final5 : (dats m 0 c).arrAt 5 cfg0.N = fun y : S2048x2048.Idx => er m c (y 0) (y 1) * inv := by
  refine (dats m 0 c).arrAt_eq_of_covers 5 _ (by decide +kernel) fun t hf y => ?_
  blk_simp
  rw [after0_5]
  obtain ⟨r, j, rfl⟩ : ∃ (r : Fin 256) (j : Fin 2048), y = ix2 r j := ⟨y 0, y 1, by idx_ext⟩
  have e : ((cfg0.win 5).blk t).view.emb (ix2 r j) = ix2 (at' t r) j := by blk_ext [idx5 t, at']
  rw [e]
  exact (once m c t r j).1

/-- The gradient of what the layer adds. -/
theorem final6 : (dats m 0 c).arrAt 6 cfg0.N = fun y : S2048x2048.Idx => er m c (y 0) (y 1) * inv * Gt m c (y 1) := by
  refine (dats m 0 c).arrAt_eq_of_covers 6 _ (by decide +kernel) fun t hf y => ?_
  blk_simp
  rw [after0_6]
  obtain ⟨r, j, rfl⟩ : ∃ (r : Fin 256) (j : Fin 2048), y = ix2 r j := ⟨y 0, y 1, by idx_ext⟩
  have e : ((cfg0.win 6).blk t).view.emb (ix2 r j) = ix2 (at' t r) j := by blk_ext [idx6 t, at']
  rw [e]
  exact (once m c t r j).2

/-- The gradient of the gate. -/
theorem final7 : (dats m 0 c).arrAt 7 cfg0.N = fun y : S1x2048.Idx => ∑ r : Fin 2048, er m c r (y 1) * inv * Y m c r (y 1) := by
  refine (dats m 0 c).arrAt_eq_of_covers 7 _ (by decide +kernel) fun t hf y => ?_
  have ht : t.val + 1 = cfg0.N := by have := (flush0_7 t).mp hf; have := t.isLt; have : cfg0.N = 8 := N_0; omega
  blk_simp
  rw [after0_7]
  obtain ⟨j, rfl⟩ : ∃ (j : Fin 2048), y = ix2 0 j := ⟨y 1, by idx_ext⟩
  have e : ((cfg0.win 7).blk t).view.emb (ix2 0 j) = ix2 0 j := by blk_ext [idx7 t]
  rw [e]
  exact gate_last m c t ht j

end Arrays

end Cert.Proof.Loss

end
-- ==== Proof.LossRef.lean ====
/-
  What the reference computes of the loss and its gradients.
-/
module

public import proofs.«01_k».proof.Proof.LossArrays
public import proofs.«01_k».proof.Proof.Gen.LossHeadRefIdeal.Read

@[expose] public section

noncomputable section

open Idealize.ShloMosaic Idealize.ShloMosaic.TcCoe Idealize.SL.Sem Idealize.ShloMosaic.Pointwise

namespace Cert.Proof.Loss

open Cert.LossHeadRefIdeal Cert.LossHeadRefIdeal.Gen Cert.LossHeadRefIdeal.Read Cert.Proof.Rv

theorem inv_eq : inv = (((2048 : ℝ)⁻¹ : ℝ) : EReal) := by
  rw [inv, pow_word _ 116 (-11) (by decide) (by decide) (by decide) (by decide) (by decide) (by decide)]
  norm_num

theorem size_eq : Ideal.ofBits .f32 0x45000000#32 = ((2048 : ℝ) : EReal) := by
  rw [pow_word _ 138 11 (by decide) (by decide) (by decide) (by decide) (by decide) (by decide)]
  norm_num

theorem two_eq : Ideal.ofBits .f32 0x40000000#32 = ((2 : ℝ) : EReal) := by
  rw [pow_word _ 128 1 (by decide) (by decide) (by decide) (by decide) (by decide) (by decide)]
  norm_num

/-- A mean over 2048. -/
theorem mean_eq (x : EReal) : Ideal.div x (Ideal.ofBits .f32 0x45000000#32) = x * inv := by
  rw [size_eq, inv_eq, Ideal.div_coe (by norm_num)]
  norm_num

variable (x0 x1 : (⟨S2048x2048, .f32⟩ : BufTy).Contents (Elt Ideal)) (x2 : (⟨S1x2048, .f32⟩ : BufTy).Contents (Elt Ideal))
  (x3 : (⟨S2048x2048, .f32⟩ : BufTy).Contents (Elt Ideal))

/-- The error of an entry. -/
def re (r j : Fin 2048) : EReal := err (x0 (ix2 r j)) (x1 (ix2 r j)) (x2 (ix2 0 j)) (x3 (ix2 r j))

theorem v7 (r j : Fin 2048) : (val_main_v7 (F := Ideal) x0 x1 x2 x3 (ix3 0 r j) : EReal) = re x0 x1 x2 x3 r j := by
  pointwise [val_main_v7, val_main_v6, val_main_v5, val_main_v4, val_main_v3, val_main_v2, val_main_v1, val_main_v0]
  rfl

/-- The gradient of an entry's error: the mean's factor, twice a half. -/
theorem v21 (r j : Fin 2048) : (val_main_v21 (F := Ideal) x0 x1 x2 x3 (ix3 0 r j) : EReal) = re x0 x1 x2 x3 r j * inv := by
  pointwise [val_main_v21, val_main_v20, val_main_v19, val_main_v18, val_main_v17, val_main_v16, val_main_v10, val_main_v9, val_main_cst, val_main_cst_4, val_main_cst_5, val_main_cst_6]
  rw [v7, mean_eq, inv_eq, show (Ideal.ofBits .f32 1056964608#32) = _ from half_eq, two_eq, mul_comm (_ * _) (_ * _), mul_comm ((2 : ℝ) : EReal),
    mul_assoc, ← EReal.coe_mul, ← EReal.coe_mul]
  congr 2
  norm_num

theorem v13 (r : Fin 2048) : (val_main_v13 (F := Ideal) x0 x1 x2 x3 (ix2 0 r) : EReal)
    = (∑ j : Fin 2048, re x0 x1 x2 x3 r j * re x0 x1 x2 x3 r j) * inv := by
  rw [← mean_eq]
  pointwise [val_main_v13, val_main_v12, val_main_v11, val_main_v8, val_main_cst_0, val_main_cst_1]
  simp only [v7]

theorem v33 (l : Fin 128) : (val_main_v33 (F := Ideal) x0 x1 x2 x3 (ix2 0 l) : EReal)
    = half * ∑ r : Fin 2048, (∑ j : Fin 2048, re x0 x1 x2 x3 r j * re x0 x1 x2 x3 r j) * inv := by
  rw [val_main_v33_apply, val_main_v15_apply, val_main_v14_apply]
  refine congrArg (half * ·) ?_
  refine (congrArg (· + _) Ideal.ofBits_zero_f32).trans ((zero_add _).trans ?_)
  refine (Finset.sum_congr rfl fun q _ => congrArg (val_main_v13 x0 x1 x2 x3) (by idx_ext : q = ix2 (q 0) (q 1))).trans ?_
  refine (Fin.sum_idx2 ![1, 2048] fun (a : Fin 1) (r : Fin 2048) => (val_main_v13 x0 x1 x2 x3 (ix2 a r) : EReal)).trans ?_
  refine (Fin.sum_univ_one (fun a : Fin 1 => ∑ r : Fin 2048, (val_main_v13 x0 x1 x2 x3 (ix2 a r) : EReal))).trans ?_
  exact Finset.sum_congr rfl fun r _ => v13 x0 x1 x2 x3 r

theorem v32 (r j : Fin 2048) : (val_main_v32 (F := Ideal) x0 x1 x2 x3 (ix2 r j) : EReal) = re x0 x1 x2 x3 r j * inv := by
  pointwise [val_main_v32, val_main_cst_11]
  rw [Fin.sum_univ_one, v21]

theorem v34 (r j : Fin 2048) : (val_main_v34 (F := Ideal) x0 x1 x2 x3 (ix2 r j) : EReal) = re x0 x1 x2 x3 r j * inv * x2 (ix2 0 j) := by
  pointwise [val_main_v34, val_main_v29, val_main_v25, val_main_v24, val_main_v1, val_main_cst_9]
  rw [Fin.sum_univ_one, v21, mul_comm]

theorem v27 (j : Fin 2048) : (val_main_v27 (F := Ideal) x0 x1 x2 x3 (ix2 0 j) : EReal) = ∑ r, re x0 x1 x2 x3 r j * inv * x1 (ix2 r j) := by
  pointwise [val_main_v27, val_main_v26, val_main_v2, val_main_cst_8]
  simp only [v21]

/-- A sum over two axes of length one. -/
theorem sum_ones (x : S1x1x2048.Idx → EReal) (j : Fin 2048) :
    Ideal.hostReduceAdd reducesTo_S1x1x2048_S2048_d0_1 x 0 (ix1 j) = x (ix3 0 0 j) := by
  have e : (Finset.univ.filter fun i : S1x1x2048.Idx => reducesTo_S1x1x2048_S2048_d0_1.drop i = ix1 j) = {ix3 0 0 j} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Subsingleton.elim (α := Fin 1) _ _
      · exact Fin.ext h0
    · subst hi
      funext r
      fin_cases r
      rfl
  unfold Ideal.hostReduceAdd
  rw [e, Finset.sum_singleton, zero_add]

theorem v31 (j : Fin 2048) : (val_main_v31 (F := Ideal) x0 x1 x2 x3 (ix2 0 j) : EReal) = ∑ r, re x0 x1 x2 x3 r j * inv * x1 (ix2 r j) := by
  rw [val_main_v31_apply, (by idx_ext : idx_main_v31 (ix2 0 j) = ix1 j), val_main_v30]
  simp only [Host.reduceAdd, Ideal.hostReduceAdd_def]
  rw [show val_main_cst_10 (F := Ideal) (Shape.Idx.first h_S_) = 0 from Ideal.ofBits_zero_f32, sum_ones]
  refine Eq.trans ?_ (v27 x0 x1 x2 x3 j)
  pointwise [val_main_v28]

end Cert.Proof.Loss

end
-- ==== Proof.LossClaims.lean ====
/-
  The claims about the loss and its gradients: both programs run and end quiet, and the four results of the kernel are
  those of the reference, whatever the arguments hold.
-/
module

public import proofs.«01_k».proof.Defs
public import proofs.«01_k».proof.Proof.LossArrays
public import proofs.«01_k».proof.Proof.LossRef
public import proofs.«01_k».proof.Proof.Gen.LossHead.Frame
public import Idealize.ShloMosaic.Lib.Claim
public import Idealize.ShloMosaic.Lib.Quiescent

@[expose] public section

noncomputable section

open Idealize.ShloMosaic Idealize.ShloMosaic.TcCoe Idealize.SL.Sem Idealize.ShloMosaic.Pointwise

namespace Cert.Proof.Loss

open Cert.LossHeadIdeal Cert.LossHeadIdeal.Gen Cert.Proof.Rv

/-- What the reference leaves is what the kernel leaves. -/
theorem results_eq (m : (ℓ : Loc nD τ sig) → Buf (Elt Ideal) ℓ) (c : Dev nD)
    {x0 x1 x3 : (⟨S2048x2048, .f32⟩ : BufTy).Contents (Elt Ideal)} {x2 : (⟨S1x2048, .f32⟩ : BufTy).Contents (Elt Ideal)}
    (e : x0 = m ((c.tc : Thread nD τ).loc main_arg0) ∧ x1 = m ((c.tc : Thread nD τ).loc main_arg1)
      ∧ x2 = m ((c.tc : Thread nD τ).loc main_arg2) ∧ x3 = m ((c.tc : Thread nD τ).loc main_arg3)) :
    Cert.LossHeadRefIdeal.Read.val_main_v33 (F := Ideal) x0 x1 x2 x3 = (dats m 0 c).arrAt 4 cfg0.N
    ∧ Cert.LossHeadRefIdeal.Read.val_main_v32 (F := Ideal) x0 x1 x2 x3 = (dats m 0 c).arrAt 5 cfg0.N
    ∧ Cert.LossHeadRefIdeal.Read.val_main_v34 (F := Ideal) x0 x1 x2 x3 = (dats m 0 c).arrAt 6 cfg0.N
    ∧ Cert.LossHeadRefIdeal.Read.val_main_v31 (F := Ideal) x0 x1 x2 x3 = (dats m 0 c).arrAt 7 cfg0.N := by
  obtain ⟨rfl, rfl, rfl, rfl⟩ := e
  have ix : ∀ x : S2048x2048.Idx, x = ix2 (x 0) (x 1) := fun x => by idx_ext
  refine ⟨Eq.trans (funext fun x => ?_) (final4 m c).symm, Eq.trans (funext fun x => ?_) (final5 m c).symm,
    Eq.trans (funext fun x => ?_) (final6 m c).symm, Eq.trans (funext fun x => ?_) (final7 m c).symm⟩
  · exact (congrArg _ (by idx_ext : x = ix2 0 (x 1))).trans (v33 _ _ _ _ (x 1))
  · exact (congrArg _ (ix x)).trans (v32 _ _ _ _ (x 0) (x 1))
  · exact (congrArg _ (ix x)).trans (v34 _ _ _ _ (x 0) (x 1))
  · exact (congrArg _ (by idx_ext : x = ix2 0 (x 1))).trans (v31 _ _ _ _ (x 1))

set_option maxRecDepth 16384 in
/-- The two programs' results agree, on every device. -/
theorem algebraic : Cert.algebraic_LossHeadIdeal_LossHeadRefIdeal := by
  pair_intro
  · run_from (Cert.LossHeadIdeal.Value.run_blocks (F := Ideal) m g)
  · run_from (Cert.LossHeadRefIdeal.Value.run (F := Ideal) m' g')
    · exact (Cert.LossHeadRefIdeal.Read.val_main_v33_eq (F := Ideal) _ _ _ _).trans (results_eq m c ⟨rfl, rfl, rfl, rfl⟩).1
    · exact (Cert.LossHeadRefIdeal.Read.val_main_v32_eq (F := Ideal) _ _ _ _).trans (results_eq m c ⟨rfl, rfl, rfl, rfl⟩).2.1
    · exact (Cert.LossHeadRefIdeal.Read.val_main_v34_eq (F := Ideal) _ _ _ _).trans (results_eq m c ⟨rfl, rfl, rfl, rfl⟩).2.2.1
    · exact (Cert.LossHeadRefIdeal.Read.val_main_v31_eq (F := Ideal) _ _ _ _).trans (results_eq m c ⟨rfl, rfl, rfl, rfl⟩).2.2.2

theorem frame : Cert.quiescent_LossHead := fun m ρ _ => Cert.LossHead.Gen.frame m ρ
theorem frame_ideal : Cert.quiescent_LossHeadIdeal := fun m ρ _ => Cert.LossHeadIdeal.Gen.frame m ρ
theorem frame_ref : Cert.quiescent_LossHeadRefIdeal := fun m ρ _ =>
  θ_run_mono (Cert.LossHeadRefIdeal.Value.run (F := Ideal) m ρ) fun r h =>
    ⟨fun c => (h c).2.2.2.2, sem_eq_zero_of_no_sems (by decide) r.2⟩

end Cert.Proof.Loss

end
-- ==== Proof.RmsNorm.lean ====
/-
  The gradient of a row divided by its root mean square, for rows of real numbers: the form with one subtraction equals
  the sum of the three products the chain rule gives.
-/
module

public import proofs.«01_k».proof.Proof.RealValues
public import proofs.«01_k».proof.Proof.RealWords

@[expose] public section

noncomputable section

open Idealize.ShloMosaic Idealize.ShloMosaic.TcCoe Idealize.SL.Sem

namespace Cert.Proof.Rms

open Cert.Proof.Rv

/-- The small number added under the root. -/
abbrev eps : EReal := Ideal.ofBits .f32 0x358637BD#32
/-- Minus a half. -/
abbrev mhalf : EReal := Ideal.ofBits .f32 0xBF000000#32

theorem eps_real : ∃ e : ℝ, 0 < e ∧ eps = (e : EReal) := by
  show ∃ e : ℝ, 0 < e ∧ Ideal.ieee 8 23 (0x358637BD#32) = (e : EReal)
  unfold Ideal.ieee
  dsimp only
  rw [if_neg (by decide), if_neg (by decide), if_neg (by decide)]
  refine ⟨_, ?_, rfl⟩
  norm_num
  positivity

theorem mhalf_eq : mhalf = ((-(1 / 2) : ℝ) : EReal) := by
  show Ideal.ieee 8 23 (0xBF000000#32) = _
  unfold Ideal.ieee
  dsimp only
  rw [if_neg (by decide), if_neg (by decide), if_pos (by decide)]
  have h1 : (BitVec.extractLsb' 23 8 (0xBF000000#32)).toNat = 126 := by decide
  have h2 : (BitVec.extractLsb' 0 23 (0xBF000000#32)).toNat = 0 := by decide
  rw [h1, h2]
  refine congrArg _ ?_
  norm_num

variable {N : ℕ}

/-- The mean of the squares of a row, and the small number. -/
def ms (n : EReal) (x : Fin N → EReal) : EReal := Ideal.div (∑ j, x j * x j) n + eps

/-- The factor of a row. -/
def rs (n : EReal) (x : Fin N → EReal) : EReal := Ideal.rsqrt (ms n x)

/-- The gradient as the kernel writes it: `x` is the row, `b` the gradient of the normalised row. -/
def grad (n : EReal) (x b : Fin N → EReal) (j : Fin N) : EReal :=
  rs n x * (b j - x j * rs n x * Ideal.div (∑ k, b k * (x k * rs n x)) n)

/-- A part of what the chain rule gives, the same for all entries of a row. -/
def back (n : EReal) (x b : Fin N → EReal) : EReal :=
  Ideal.div ((∑ k, x k * b k) * (mhalf * Ideal.div (rs n x) (ms n x))) n

/-- The gradient by the chain rule. -/
def chain (n : EReal) (x b : Fin N → EReal) (j : Fin N) : EReal := b j * rs n x + x j * back n x b + back n x b * x j

theorem ms_real {n : EReal} {p : ℝ} (hp : 0 < p) (hn : n = (p : EReal)) {x : Fin N → EReal} {a : Fin N → ℝ} (hx : ∀ j, x j = (a j : EReal)) :
    ∃ s : ℝ, 0 < s ∧ ms n x = (s : EReal) ∧ rs n x = (((Real.sqrt s)⁻¹ : ℝ) : EReal) := by
  obtain ⟨e, he, hee⟩ := eps_real
  have h0 : 0 ≤ (∑ j, a j * a j) * (1 / p) := mul_nonneg (Finset.sum_nonneg fun j _ => mul_self_nonneg _) (by positivity)
  have hs : 0 < (∑ j, a j * a j) * (1 / p) + e := by linarith
  have hm : ms n x = (((∑ j, a j * a j) * (1 / p) + e : ℝ) : EReal) := by
    rw [ms, hn, hee, Ideal.div_coe hp.ne']
    simp only [hx, ← EReal.coe_mul]
    rw [← coe_sum, ← EReal.coe_mul, ← EReal.coe_add]
  refine ⟨_, hs, hm, ?_⟩
  rw [rs, hm, Ideal.rsqrt_coe, if_neg hs.not_gt, if_neg hs.ne']

/-- The two forms agree on rows of real numbers. -/
theorem chain_eq {n : EReal} {p : ℝ} (hp : 0 < p) (hn : n = (p : EReal)) {x b : Fin N → EReal} {a d : Fin N → ℝ}
    (hx : ∀ j, x j = (a j : EReal)) (hb : ∀ j, b j = (d j : EReal)) (j : Fin N) : chain n x b j = grad n x b j := by
  obtain ⟨s, hs, hm, hr⟩ := ms_real hp hn hx
  have hq : (Real.sqrt s)⁻¹ * (Real.sqrt s)⁻¹ = 1 / s := by
    rw [← mul_inv, Real.mul_self_sqrt hs.le, one_div]
  have hk : ∀ k, d k * (a k * (Real.sqrt s)⁻¹) = (a k * d k) * (Real.sqrt s)⁻¹ := fun k => by ring
  rw [chain, grad, back, hr, hm, hn, mhalf_eq, Ideal.div_coe hp.ne', Ideal.div_coe hp.ne', Ideal.div_coe hs.ne']
  simp only [hx, hb, ← EReal.coe_mul, ← coe_sum, ← EReal.coe_add, ← EReal.coe_sub]
  refine congrArg _ ?_
  simp only [hk]
  rw [← Finset.sum_mul, ← hq]
  ring

end Cert.Proof.Rms

end
-- ==== Proof.QkBlock.lean ====
/-
  What one head of the query and key norms' gradient leaves in the blocks of its five results.
-/
module

public import proofs.«01_k».proof.Proof.Gen.QkBwdIdeal.Value
public import proofs.«01_k».proof.Proof.RmsNorm
public import Idealize.ShloMosaic.Lib.Pointwise
public import Idealize.ShloMosaic.Lib.Pipeline.ValueKit

@[expose] public section

noncomputable section

open Idealize.ShloMosaic Idealize.ShloMosaic.TcCoe Idealize.SL.Sem Idealize.ShloMosaic.Pointwise

namespace Cert.Proof.Qk

open Cert.QkBwdIdeal Cert.QkBwdIdeal.Gen Cert.Proof.Rv

/-- The length of a head's row. -/
abbrev len : EReal := Ideal.ofBits .f32 0x43000000#32

section Pay
variable (a d : Vec Ideal S2048x128 .f32) (w : Vec Ideal S1x128 .f32)

theorem pay3_apply (r : Fin 2048) : (k0_pay3 (F := Ideal) a (ix2 r 0) : EReal) = Rms.rs len fun k => a (ix2 r k) := by
  pointwise [k0_pay3]
  rfl

theorem pay4_apply (r : Fin 2048) (j : Fin 128) : (k0_pay4 (F := Ideal) a (ix2 r j) : EReal) = a (ix2 r j) * Rms.rs len fun k => a (ix2 r k) := by
  rw [← pay3_apply]
  pointwise [k0_pay4]

theorem pay5_apply (j : Fin 128) : (k0_pay5 (F := Ideal) a d w (ix2 0 j) : EReal)
    = w (ix2 0 j) + ∑ r : Fin 2048, d (ix2 r j) * (a (ix2 r j) * Rms.rs len fun k => a (ix2 r k)) := by
  pointwise [k0_pay5]
  simp only [pay4_apply]

theorem pay6_apply (r : Fin 2048) (j : Fin 128) : (k0_pay6 (F := Ideal) a d w (ix2 r j) : EReal)
    = Rms.grad len (fun k => a (ix2 r k)) (fun k => d (ix2 r k) * w (ix2 0 k)) j := by
  pointwise [k0_pay6]
  simp only [pay4_apply, pay3_apply]
  rfl

theorem pay9_eq : k0_pay9 (F := Ideal) a d w = k0_pay5 a d w := rfl
theorem pay10_eq : k0_pay10 (F := Ideal) a d w = k0_pay6 a d w := rfl

theorem pay11_apply (r : Fin 2048) (j : Fin 128) : (k0_pay11 (F := Ideal) a (ix2 r j) : EReal) = a (ix2 r j) := by
  pointwise [k0_pay11]

end Pay

section Outs
variable (c : Dev nD) (i : grid0.Coords) (arg1 : Memref sig .tc .vmem S2048x128 .f32) (harg1 : arg1.IsWhole)
  (arg2 : Memref sig .tc .vmem S2048x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S2048x128 .f32) (harg5 : arg5.IsWhole)
  (arg6 : Memref sig .tc .vmem S2048x128 .f32) (harg6 : arg6.IsWhole)
  (arg7 : Memref sig .tc .vmem S2048x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x128 .f32) (harg11 : arg11.IsWhole)
  (arg12 : Memref sig .tc .vmem S1x128 .f32) (harg12 : arg12.IsWhole)
  (x0 x1 : Vec Ideal S2048x128 .f32) (x2 x3 : Vec Ideal S1x128 .f32) (x4 x5 x6 : Vec Ideal S2048x128 .f32) (xo10 xo11 : Vec Ideal S1x128 .f32)

theorem out_A_7 (hc : cond0_0 i) : out0_A_7 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6
    = k0_pay6 x0 x4 x2 := by
  frame_out
theorem out_A_8 (hc : cond0_0 i) : out0_A_8 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6
    = k0_pay6 x1 x5 x3 := by
  frame_out
  exact pay10_eq x1 x5 x3
theorem out_A_9 (hc : cond0_0 i) : out0_A_9 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6
    = k0_pay11 x6 := by
  frame_out
theorem out_A_10 (hc : cond0_0 i) : out0_A_10 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6
    = k0_pay5 x0 x4 (k0_pay1 (F := Ideal)) := by
  frame_out
theorem out_A_11 (hc : cond0_0 i) : out0_A_11 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6
    = k0_pay5 x1 x5 (k0_pay2 (F := Ideal)) := by
  frame_out
  exact pay9_eq x1 x5 _
theorem out_B_7 (hc : ¬cond0_0 i) : out0_B_7 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xo10 xo11
    = k0_pay6 x0 x4 x2 := by
  frame_out
theorem out_B_8 (hc : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xo10 xo11
    = k0_pay6 x1 x5 x3 := by
  frame_out
  exact pay10_eq x1 x5 x3
theorem out_B_9 (hc : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xo10 xo11
    = k0_pay11 x6 := by
  frame_out
theorem out_B_10 (hc : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xo10 xo11
    = k0_pay5 x0 x4 xo10 := by
  frame_out
theorem out_B_11 (hc : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xo10 xo11
    = k0_pay5 x1 x5 xo11 := by
  frame_out
  exact pay9_eq x1 x5 _

end Outs

end Cert.Proof.Qk

end
-- ==== Proof.QkArrays.lean ====
/-
  The five result arrays of the query and key norms' gradient, as functions of the argument arrays.
-/
module

public import proofs.«01_k».proof.Proof.QkBlock

@[expose] public section

noncomputable section

open Idealize.ShloMosaic Idealize.ShloMosaic.TcCoe Idealize.SL.Sem Idealize.ShloMosaic.Pointwise

namespace Cert.Proof.Qk

open Cert.QkBwdIdeal Cert.QkBwdIdeal.Gen Cert.Proof.Rv

/-- A column of a head's block, in the arrays of all heads. -/
def col (t : Fin cfg0.N) (j : Fin 128) : Fin 1024 := ⟨t.val * 128 + j.val, by have := t.isLt; have : cfg0.N = 8 := N_0; omega⟩

/-- A column of the query, and of the key, in the projected stream. -/
def qcol (j : Fin 1024) : Fin 7168 := ⟨4096 + j.val, by omega⟩
def kcol (j : Fin 1024) : Fin 7168 := ⟨5120 + j.val, by omega⟩

theorem idx0 : ∀ t : Fin cfg0.N, win0_0.index t = ![0, 32 + t.val] := (by decide +kernel : ∀ t : Fin grid0.N, _)
theorem idx1 : ∀ t : Fin cfg0.N, win0_1.index t = ![0, 40 + t.val] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)
theorem idx9 : ∀ t : Fin cfg0.N, win0_9.index t = ![0, t.val] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

section Arrays
variable (m : (ℓ : Loc nD τ sig) → Buf (Elt Ideal) ℓ) (c : Dev nD)

abbrev Pj (r : Fin 2048) (j : Fin 7168) : EReal := m ((c : Thread nD τ).loc main_arg0) (ix2 r j)
abbrev Wq (j : Fin 128) : EReal := m ((c : Thread nD τ).loc main_arg1) (ix2 0 j)
abbrev Wk (j : Fin 128) : EReal := m ((c : Thread nD τ).loc main_arg2) (ix2 0 j)
abbrev Dq (r : Fin 2048) (j : Fin 1024) : EReal := m ((c : Thread nD τ).loc main_arg3) (ix2 r j)
abbrev Dk (r : Fin 2048) (j : Fin 1024) : EReal := m ((c : Thread nD τ).loc main_arg4) (ix2 r j)
abbrev Dv (r : Fin 2048) (j : Fin 1024) : EReal := m ((c : Thread nD τ).loc main_arg5) (ix2 r j)

theorem blk0 (t : Fin cfg0.N) (r : Fin 2048) (j : Fin 128) : (iblk m c 0 t (ix2 r j) : EReal) = Pj m c r (qcol (col t j)) := by
  blk_simp [iblk]
  exact congrArg _ (by blk_ext [idx0 t, col, qcol, kcol])
theorem blk1 (t : Fin cfg0.N) (r : Fin 2048) (j : Fin 128) : (iblk m c 1 t (ix2 r j) : EReal) = Pj m c r (kcol (col t j)) := by
  blk_simp [iblk]
  exact congrArg _ (by blk_ext [idx1 t, col, qcol, kcol])
theorem blk2 (t : Fin cfg0.N) (j : Fin 128) : (iblk m c 2 t (ix2 0 j) : EReal) = Wq m c j := by
  blk_simp [iblk]
  exact congrArg _ (by blk_ext [idx2 t, col, qcol, kcol])
theorem blk3 (t : Fin cfg0.N) (j : Fin 128) : (iblk m c 3 t (ix2 0 j) : EReal) = Wk m c j := by
  blk_simp [iblk]
  exact congrArg _ (by blk_ext [idx3 t, col, qcol, kcol])
theorem blk4 (t : Fin cfg0.N) (r : Fin 2048) (j : Fin 128) : (iblk m c 4 t (ix2 r j) : EReal) = Dq m c r (col t j) := by
  blk_simp [iblk]
  exact congrArg _ (by blk_ext [idx4 t, col, qcol, kcol])
theorem blk5 (t : Fin cfg0.N) (r : Fin 2048) (j : Fin 128) : (iblk m c 5 t (ix2 r j) : EReal) = Dk m c r (col t j) := by
  blk_simp [iblk]
  exact congrArg _ (by blk_ext [idx5 t, col, qcol, kcol])
theorem blk6 (t : Fin cfg0.N) (r : Fin 2048) (j : Fin 128) : (iblk m c 6 t (ix2 r j) : EReal) = Dv m c r (col t j) := by
  blk_simp [iblk]
  exact congrArg _ (by blk_ext [idx6 t, col, qcol, kcol])

/-- A head's row of the query, and the gradient of the normalised row. -/
def qrow (r : Fin 2048) (h : Fin 8) (k : Fin 128) : EReal := Pj m c r (qcol ⟨h.val * 128 + k.val, by omega⟩)
def krow (r : Fin 2048) (h : Fin 8) (k : Fin 128) : EReal := Pj m c r (kcol ⟨h.val * 128 + k.val, by omega⟩)
def dq (r : Fin 2048) (h : Fin 8) (k : Fin 128) : EReal := Dq m c r ⟨h.val * 128 + k.val, by omega⟩
def dk (r : Fin 2048) (h : Fin 8) (k : Fin 128) : EReal := Dk m c r ⟨h.val * 128 + k.val, by omega⟩

/-- The head of a point. -/
abbrev hd (t : Fin cfg0.N) : Fin 8 := ⟨t.val, by have := t.isLt; have : cfg0.N = 8 := N_0; omega⟩

theorem grad_q (t : Fin cfg0.N) (r : Fin 2048) (j : Fin 128) : (k0_pay6 (F := Ideal) (iblk m c 0 t) (iblk m c 4 t) (iblk m c 2 t) (ix2 r j) : EReal)
    = Rms.grad len (qrow m c r (hd t)) (fun k => dq m c r (hd t) k * Wq m c k) j := by
  rw [pay6_apply]
  simp only [blk0, blk2, blk4]
  rfl
theorem grad_k (t : Fin cfg0.N) (r : Fin 2048) (j : Fin 128) : (k0_pay6 (F := Ideal) (iblk m c 1 t) (iblk m c 5 t) (iblk m c 3 t) (ix2 r j) : EReal)
    = Rms.grad len (krow m c r (hd t)) (fun k => dk m c r (hd t) k * Wk m c k) j := by
  rw [pay6_apply]
  simp only [blk1, blk3, blk5]
  rfl

/-- What a point leaves of the three blocks that are written once. -/
theorem once (t : Fin cfg0.N) (r : Fin 2048) (j : Fin 128) :
    ((outsAt0 m c t.val t.isLt).1 (ix2 r j) : EReal) = Rms.grad len (qrow m c r (hd t)) (fun k => dq m c r (hd t) k * Wq m c k) j
    ∧ ((outsAt0 m c t.val t.isLt).2.1 (ix2 r j) : EReal) = Rms.grad len (krow m c r (hd t)) (fun k => dk m c r (hd t) k * Wk m c k) j
    ∧ ((outsAt0 m c t.val t.isLt).2.2.1 (ix2 r j) : EReal) = Dv m c r (col t j) := by
  by_cases h : t.val % 8 = 0
  · rw [outsAt0_A m c t h]
    dsimp only
    rw [out_A_7, out_A_8, out_A_9, pay11_apply, blk6]
    exact ⟨grad_q m c t r j, grad_k m c t r j, rfl⟩
  · rw [outsAt0_B m c t h]
    dsimp only
    rw [out_B_7, out_B_8, out_B_9, pay11_apply, blk6]
    exact ⟨grad_q m c t r j, grad_k m c t r j, rfl⟩

/-- One head's part of the gradient of a norm's weight. -/
def part (x d : Fin 2048 → Fin 8 → Fin 128 → EReal) (h : Fin 8) (j : Fin 128) : EReal := ∑ r, d r h j * (x r h j * Rms.rs len (x r h))

theorem step_q (t : Fin cfg0.N) (v : Vec Ideal S1x128 .f32) (j : Fin 128) : (k0_pay5 (F := Ideal) (iblk m c 0 t) (iblk m c 4 t) v (ix2 0 j) : EReal)
    = v (ix2 0 j) + part (qrow m c) (dq m c) (hd t) j := by
  rw [pay5_apply]
  simp only [blk0, blk4]
  rfl
theorem step_k (t : Fin cfg0.N) (v : Vec Ideal S1x128 .f32) (j : Fin 128) : (k0_pay5 (F := Ideal) (iblk m c 1 t) (iblk m c 5 t) v (ix2 0 j) : EReal)
    = v (ix2 0 j) + part (krow m c) (dk m c) (hd t) j := by
  rw [pay5_apply]
  simp only [blk1, blk5]
  rfl

/-- The gradients of the weights at the last point. -/
theorem last (t : Fin cfg0.N) (ht : t.val + 1 = cfg0.N) (j : Fin 128) :
    ((outsAt0 m c t.val t.isLt).2.2.2.1 (ix2 0 j) : EReal) = ∑ h, part (qrow m c) (dq m c) h j
    ∧ ((outsAt0 m c t.val t.isLt).2.2.2.2 (ix2 0 j) : EReal) = ∑ h, part (krow m c) (dk m c) h j := by
  constructor
  · refine (Pipeline.eq_sum_fin_of_reset_step_last (N := cfg0.N) (fun n h => ((outsAt0 m c n h).2.2.2.1 (ix2 0 j) : EReal)) 8 0
      (fun t => part (qrow m c) (dq m c) (hd t) j) (fun t h => ?_) (fun t h => ?_) (by decide) t ht).trans (zero_add _)
    · rw [outsAt0_A m c t h]
      dsimp only
      rw [out_A_10, step_q]
      congr 1
      pointwise [k0_pay1]
    · rw [outsAt0_B m c t h]
      dsimp only
      rw [out_B_10, step_q]
  · refine (Pipeline.eq_sum_fin_of_reset_step_last (N := cfg0.N) (fun n h => ((outsAt0 m c n h).2.2.2.2 (ix2 0 j) : EReal)) 8 0
      (fun t => part (krow m c) (dk m c) (hd t) j) (fun t h => ?_) (fun t h => ?_) (by decide) t ht).trans (zero_add _)
    · rw [outsAt0_A m c t h]
      dsimp only
      rw [out_A_11, step_k]
      congr 1
      pointwise [k0_pay2]
    · rw [outsAt0_B m c t h]
      dsimp only
      rw [out_B_11, step_k]

/-- The head of a column, and the column inside the head. -/
abbrev head (j : Fin 1024) : Fin 8 := ⟨j.val / 128, by omega⟩
abbrev lane (j : Fin 1024) : Fin 128 := ⟨j.val % 128, Nat.mod_lt _ (by decide)⟩

theorem head_col (t : Fin cfg0.N) (j : Fin 128) : head (col t j) = hd t := Fin.ext (by show (t.val * 128 + j.val) / 128 = t.val; omega)
theorem lane_col (t : Fin cfg0.N) (j : Fin 128) : lane (col t j) = j := Fin.ext (by show (t.val * 128 + j.val) % 128 = j.val; omega)

theorem final7 : (dats m 0 c).arrAt 7 cfg0.N = fun y : S2048x1024.Idx =>
    Rms.grad len (qrow m c (y 0) (head (y 1))) (fun k => dq m c (y 0) (head (y 1)) k * Wq m c k) (lane (y 1)) := by
  refine (dats m 0 c).arrAt_eq_of_covers 7 _ (by decide +kernel) fun t hf y => ?_
  blk_simp
  rw [after0_7]
  obtain ⟨r, j, rfl⟩ : ∃ (r : Fin 2048) (j : Fin 128), y = ix2 r j := ⟨y 0, y 1, by idx_ext⟩
  have e : ((cfg0.win 7).blk t).view.emb (ix2 r j) = ix2 r (col t j) := by blk_ext [idx7 t, col]
  rw [e]
  refine (once m c t r j).1.trans ?_
  rw [← head_col t j]
  exact congrArg _ (lane_col t j).symm

theorem final8 : (dats m 0 c).arrAt 8 cfg0.N = fun y : S2048x1024.Idx =>
    Rms.grad len (krow m c (y 0) (head (y 1))) (fun k => dk m c (y 0) (head (y 1)) k * Wk m c k) (lane (y 1)) := by
  refine (dats m 0 c).arrAt_eq_of_covers 8 _ (by decide +kernel) fun t hf y => ?_
  blk_simp
  rw [after0_8]
  obtain ⟨r, j, rfl⟩ : ∃ (r : Fin 2048) (j : Fin 128), y = ix2 r j := ⟨y 0, y 1, by idx_ext⟩
  have e : ((cfg0.win 8).blk t).view.emb (ix2 r j) = ix2 r (col t j) := by blk_ext [idx8 t, col]
  rw [e]
  refine (once m c t r j).2.1.trans ?_
  rw [← head_col t j]
  exact congrArg _ (lane_col t j).symm

theorem final9 : (dats m 0 c).arrAt 9 cfg0.N = fun y : S2048x1024.Idx =>
    Dv m c (y 0) (y 1) := by
  refine (dats m 0 c).arrAt_eq_of_covers 9 _ (by decide +kernel) fun t hf y => ?_
  blk_simp
  rw [after0_9]
  obtain ⟨r, j, rfl⟩ : ∃ (r : Fin 2048) (j : Fin 128), y = ix2 r j := ⟨y 0, y 1, by idx_ext⟩
  have e : ((cfg0.win 9).blk t).view.emb (ix2 r j) = ix2 r (col t j) := by blk_ext [idx9 t, col]
  rw [e]
  refine (once m c t r j).2.2.trans ?_
  rfl

theorem final10 : (dats m 0 c).arrAt 10 cfg0.N = fun y : S1x128.Idx => ∑ h, part (qrow m c) (dq m c) h (y 1) := by
  refine (dats m 0 c).arrAt_eq_of_covers 10 _ (by decide +kernel) fun t hf y => ?_
  have ht : t.val + 1 = cfg0.N := by have := (flush0_10 t).mp hf; have := t.isLt; have : cfg0.N = 8 := N_0; omega
  blk_simp
  rw [after0_10]
  obtain ⟨j, rfl⟩ : ∃ (j : Fin 128), y = ix2 0 j := ⟨y 1, by idx_ext⟩
  have e : ((cfg0.win 10).blk t).view.emb (ix2 0 j) = ix2 0 j := by blk_ext [idx10 t]
  rw [e]
  exact (last m c t ht j).1

theorem final11 : (dats m 0 c).arrAt 11 cfg0.N = fun y : S1x128.Idx => ∑ h, part (krow m c) (dk m c) h (y 1) := by
  refine (dats m 0 c).arrAt_eq_of_covers 11 _ (by decide +kernel) fun t hf y => ?_
  have ht : t.val + 1 = cfg0.N := by have := (flush0_11 t).mp hf; have := t.isLt; have : cfg0.N = 8 := N_0; omega
  blk_simp
  rw [after0_11]
  obtain ⟨j, rfl⟩ : ∃ (j : Fin 128), y = ix2 0 j := ⟨y 1, by idx_ext⟩
  have e : ((cfg0.win 11).blk t).view.emb (ix2 0 j) = ix2 0 j := by blk_ext [idx11 t]
  rw [e]
  exact (last m c t ht j).2

end Arrays

end Cert.Proof.Qk

end
-- ==== Proof.QkRef.lean ====
/-
  What the reference computes of the query and key norms' gradients.
-/
module

public import proofs.«01_k».proof.Proof.QkArrays
public import proofs.«01_k».proof.Proof.Gen.QkBwdRefIdeal.Read

@[expose] public section

noncomputable section

open Idealize.ShloMosaic Idealize.ShloMosaic.TcCoe Idealize.SL.Sem Idealize.ShloMosaic.Pointwise

namespace Cert.Proof.Qk

open Cert.QkBwdRefIdeal Cert.QkBwdRefIdeal.Gen Cert.QkBwdRefIdeal.Read Cert.Proof.Rv

/-- A sum over the rows and the heads. -/
theorem sum_rows (x : S1x2048x8x128.Idx → EReal) (j : Fin 128) :
    Ideal.hostReduceAdd reducesTo_S1x2048x8x128_S1x128_d1_2 x 0 (ix2 0 j) = ∑ h : Fin 8, ∑ r : Fin 2048, x (ix4 0 r h j) := by
  unfold Ideal.hostReduceAdd
  rw [zero_add, ← Fintype.sum_prod_type']
  refine Finset.sum_nbij' (fun i => ((i 2 : Fin 8), (i 1 : Fin 2048))) (fun p => ix4 0 p.2 p.1 j) (fun _ _ => Finset.mem_univ _) (fun p _ => ?_)
    (fun i hi => ?_) (fun _ _ => rfl) (fun i hi => ?_)
  · rw [Finset.mem_filter]
    refine ⟨Finset.mem_univ _, ?_⟩
    funext r
    fin_cases r <;> rfl
  all_goals
    have h1 := congrArg Fin.val (congrFun (Finset.mem_filter.mp hi).2 1)
    have e : i = ix4 0 (i 1) (i 2) j := by
      funext r
      fin_cases r
      · exact Subsingleton.elim (α := Fin 1) _ _
      · rfl
      · rfl
      · exact Fin.ext h1
  · exact e.symm
  · exact congrArg x e

/-- A sum over three axes of length one. -/
theorem sum_ones (x : S1x1x1x128.Idx → EReal) (j : Fin 128) :
    Ideal.hostReduceAdd reducesTo_S1x1x1x128_S128_d0_1_2 x 0 (ix1 j) = x (ix4 0 0 0 j) := by
  have e : (Finset.univ.filter fun i : S1x1x1x128.Idx => reducesTo_S1x1x1x128_S128_d0_1_2.drop i = ix1 j) = {ix4 0 0 0 j} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Subsingleton.elim (α := Fin 1) _ _
      · exact Subsingleton.elim (α := Fin 1) _ _
      · exact Fin.ext h0
    · subst hi
      funext r
      fin_cases r
      rfl
  unfold Ideal.hostReduceAdd
  rw [e, Finset.sum_singleton, zero_add]

/-- A sum over the two outer axes, both of length one. -/
theorem sum_ends (x : S1x2048x8x1.Idx → EReal) (r : Fin 2048) (h : Fin 8) :
    Ideal.hostReduceAdd reducesTo_S1x2048x8x1_S2048x8_d0_3 x 0 (ix2 r h) = x (ix4 0 r h 0) := by
  have e : (Finset.univ.filter fun i : S1x2048x8x1.Idx => reducesTo_S1x2048x8x1_S2048x8_d0_3.drop i = ix2 r h) = {ix4 0 r h 0} := by
    ext i
    rw [Finset.mem_filter, Finset.mem_singleton]
    refine ⟨fun hi => ?_, fun hi => ⟨Finset.mem_univ _, ?_⟩⟩
    · have h0 := congrArg Fin.val (congrFun hi.2 0)
      have h1 := congrArg Fin.val (congrFun hi.2 1)
      funext a
      fin_cases a
      · exact Subsingleton.elim (α := Fin 1) _ _
      · exact Fin.ext h0
      · exact Fin.ext h1
      · exact Subsingleton.elim (α := Fin 1) _ _
    · subst hi
      funext a
      fin_cases a <;> rfl
  unfold Ideal.hostReduceAdd
  rw [e, Finset.sum_singleton, zero_add]

variable (x0 : (⟨S2048x7168, .f32⟩ : BufTy).Contents (Elt Ideal)) (x1 x2 : (⟨S1x128, .f32⟩ : BufTy).Contents (Elt Ideal))
  (x3 x4 x5 : (⟨S2048x1024, .f32⟩ : BufTy).Contents (Elt Ideal))

/-- A head's row of the query and of the key, and of an array of all heads. -/
def rq (r : Fin 2048) (h : Fin 8) (k : Fin 128) : EReal := x0 (ix2 r (qcol ⟨h.val * 128 + k.val, by omega⟩))
def rk (r : Fin 2048) (h : Fin 8) (k : Fin 128) : EReal := x0 (ix2 r (kcol ⟨h.val * 128 + k.val, by omega⟩))
def rd (x : (⟨S2048x1024, .f32⟩ : BufTy).Contents (Elt Ideal)) (r : Fin 2048) (h : Fin 8) (k : Fin 128) : EReal := x (ix2 r ⟨h.val * 128 + k.val, by omega⟩)

theorem v9 (r : Fin 2048) (h : Fin 8) (k : Fin 128) : (val_main_v9 (F := Ideal) x0 (ix4 0 r h k) : EReal) = rq x0 r h k := by
  pointwise [val_main_v9, val_main_v1, val_main_v0]
  exact congrArg x0 (by unfold qcol; idx_ext)
theorem v27 (r : Fin 2048) (h : Fin 8) (k : Fin 128) : (val_main_v27 (F := Ideal) x0 (ix4 0 r h k) : EReal) = rk x0 r h k := by
  pointwise [val_main_v27, val_main_v3, val_main_v2]
  exact congrArg x0 (by unfold kcol; idx_ext)
theorem v6 (r : Fin 2048) (h : Fin 8) (k : Fin 128) : (val_main_v6 (F := Ideal) x3 (ix4 0 r h k) : EReal) = rd x3 r h k := by
  pointwise [val_main_v6]
  exact congrArg x3 (by idx_ext)
theorem v7 (r : Fin 2048) (h : Fin 8) (k : Fin 128) : (val_main_v7 (F := Ideal) x4 (ix4 0 r h k) : EReal) = rd x4 r h k := by
  pointwise [val_main_v7]
  exact congrArg x4 (by idx_ext)

theorem v17 (r : Fin 2048) (h : Fin 8) : (val_main_v17 (F := Ideal) x0 (ix4 0 r h 0) : EReal) = Rms.ms len (rq x0 r h) := by
  pointwise [val_main_v17, val_main_v16, val_main_v15, val_main_v14, val_main_v13, val_main_v12, val_main_v11, val_main_cst, val_main_cst_0, val_main_cst_1]
  simp only [v9]
  rfl
theorem v18 (r : Fin 2048) (h : Fin 8) : (val_main_v18 (F := Ideal) x0 (ix4 0 r h 0) : EReal) = Rms.rs len (rq x0 r h) := by
  pointwise [val_main_v18]
  rw [v17]
  rfl
theorem v74 (r : Fin 2048) (h : Fin 8) (k : Fin 128) : (val_main_v74 (F := Ideal) x1 x3 (ix4 0 r h k) : EReal) = rd x3 r h k * x1 (ix2 0 k) := by
  pointwise [val_main_v74, val_main_v73, val_main_v24, val_main_v10]
  rw [v6]
theorem v70 (r : Fin 2048) (h : Fin 8) (k : Fin 128) : (val_main_v70 (F := Ideal) x0 x3 (ix4 0 r h k) : EReal)
    = rd x3 r h k * (rq x0 r h k * Rms.rs len (rq x0 r h)) := by
  pointwise [val_main_v70, val_main_v23, val_main_v22]
  rw [v9, v18, v6, mul_comm]
theorem v83 (r : Fin 2048) (h : Fin 8) : (val_main_v83 (F := Ideal) x0 x1 x3 (ix4 0 r h 0) : EReal)
    = Rms.back len (rq x0 r h) (fun k => rd x3 r h k * x1 (ix2 0 k)) := by
  pointwise [val_main_v83, val_main_v82, val_main_v81, val_main_v78, val_main_v77, val_main_v76, val_main_v21, val_main_v20, val_main_v19, val_main_cst_14, val_main_cst_15, val_main_cst_2]
  simp only [v9, v74, v18, v17]
  rfl
theorem v84 (r : Fin 2048) (h : Fin 8) : (val_main_v84 (F := Ideal) x0 x1 x3 (ix2 r h) : EReal)
    = Rms.back len (rq x0 r h) (fun k => rd x3 r h k * x1 (ix2 0 k)) := by
  rw [val_main_v84]
  simp only [Host.reduceAdd, Ideal.hostReduceAdd_def]
  rw [show val_main_cst_16 (F := Ideal) (Shape.Idx.first h_S_) = 0 from Ideal.ofBits_zero_f32, sum_ends, v83]
theorem v90 (r : Fin 2048) (h : Fin 8) (k : Fin 128) : (val_main_v90 (F := Ideal) x0 x1 x3 (ix4 0 r h k) : EReal)
    = Rms.chain len (rq x0 r h) (fun k => rd x3 r h k * x1 (ix2 0 k)) k := by
  pointwise [val_main_v90, val_main_v89, val_main_v88, val_main_v87, val_main_v86, val_main_v85, val_main_v80, val_main_v79]
  rw [v9, v74, v18, v84]
  rfl
theorem v94 (r : Fin 2048) (j : Fin 1024) : (val_main_v94 (F := Ideal) x0 x1 x3 (ix2 r j) : EReal)
    = Rms.chain len (rq x0 r (head j)) (fun k => rd x3 r (head j) k * x1 (ix2 0 k)) (lane j) := by
  rw [← v90]
  pointwise [val_main_v94, val_main_v93, val_main_v92]
theorem v75 (j : Fin 128) : (val_main_v75 (F := Ideal) x0 x3 (ix1 j) : EReal)
    = ∑ h, part (rq x0) (rd x3) h j := by
  rw [val_main_v75]
  simp only [Host.reduceAdd, Ideal.hostReduceAdd_def]
  rw [show val_main_cst_13 (F := Ideal) (Shape.Idx.first h_S_) = 0 from Ideal.ofBits_zero_f32, sum_ones]
  have e : (val_main_v72 (F := Ideal) x0 x3 (ix4 0 0 0 j) : EReal) = val_main_v71 (F := Ideal) x0 x3 (ix2 0 j) := by
    pointwise [val_main_v72]
  rw [e, val_main_v71]
  simp only [Host.reduceAdd, Ideal.hostReduceAdd_def]
  rw [show val_main_cst_12 (F := Ideal) (Shape.Idx.first h_S_) = 0 from Ideal.ofBits_zero_f32, sum_rows]
  simp only [v70]
  rfl
theorem v91 (j : Fin 128) : (val_main_v91 (F := Ideal) x0 x3 (ix2 0 j) : EReal) = ∑ h, part (rq x0) (rd x3) h j := by
  rw [← v75]
  pointwise [val_main_v91]

theorem v35 (r : Fin 2048) (h : Fin 8) : (val_main_v35 (F := Ideal) x0 (ix4 0 r h 0) : EReal) = Rms.ms len (rk x0 r h) := by
  pointwise [val_main_v35, val_main_v34, val_main_v33, val_main_v32, val_main_v31, val_main_v30, val_main_v29, val_main_cst_3, val_main_cst_4, val_main_cst_5]
  simp only [v27]
  rfl
theorem v36 (r : Fin 2048) (h : Fin 8) : (val_main_v36 (F := Ideal) x0 (ix4 0 r h 0) : EReal) = Rms.rs len (rk x0 r h) := by
  pointwise [val_main_v36]
  rw [v35]
  rfl
theorem v51 (r : Fin 2048) (h : Fin 8) (k : Fin 128) : (val_main_v51 (F := Ideal) x2 x4 (ix4 0 r h k) : EReal) = rd x4 r h k * x2 (ix2 0 k) := by
  pointwise [val_main_v51, val_main_v50, val_main_v42, val_main_v28]
  rw [v7]
theorem v47 (r : Fin 2048) (h : Fin 8) (k : Fin 128) : (val_main_v47 (F := Ideal) x0 x4 (ix4 0 r h k) : EReal)
    = rd x4 r h k * (rk x0 r h k * Rms.rs len (rk x0 r h)) := by
  pointwise [val_main_v47, val_main_v41, val_main_v40]
  rw [v27, v36, v7, mul_comm]
theorem v60 (r : Fin 2048) (h : Fin 8) : (val_main_v60 (F := Ideal) x0 x2 x4 (ix4 0 r h 0) : EReal)
    = Rms.back len (rk x0 r h) (fun k => rd x4 r h k * x2 (ix2 0 k)) := by
  pointwise [val_main_v60, val_main_v59, val_main_v58, val_main_v55, val_main_v54, val_main_v53, val_main_v39, val_main_v38, val_main_v37, val_main_cst_9, val_main_cst_10, val_main_cst_6]
  simp only [v27, v51, v36, v35]
  rfl
theorem v61 (r : Fin 2048) (h : Fin 8) : (val_main_v61 (F := Ideal) x0 x2 x4 (ix2 r h) : EReal)
    = Rms.back len (rk x0 r h) (fun k => rd x4 r h k * x2 (ix2 0 k)) := by
  rw [val_main_v61]
  simp only [Host.reduceAdd, Ideal.hostReduceAdd_def]
  rw [show val_main_cst_11 (F := Ideal) (Shape.Idx.first h_S_) = 0 from Ideal.ofBits_zero_f32, sum_ends, v60]
theorem v67 (r : Fin 2048) (h : Fin 8) (k : Fin 128) : (val_main_v67 (F := Ideal) x0 x2 x4 (ix4 0 r h k) : EReal)
    = Rms.chain len (rk x0 r h) (fun k => rd x4 r h k * x2 (ix2 0 k)) k := by
  pointwise [val_main_v67, val_main_v66, val_main_v65, val_main_v64, val_main_v63, val_main_v62, val_main_v57, val_main_v56]
  rw [v27, v51, v36, v61]
  rfl
theorem v96 (r : Fin 2048) (j : Fin 1024) : (val_main_v96 (F := Ideal) x0 x2 x4 (ix2 r j) : EReal)
    = Rms.chain len (rk x0 r (head j)) (fun k => rd x4 r (head j) k * x2 (ix2 0 k)) (lane j) := by
  rw [← v67]
  pointwise [val_main_v96, val_main_v95, val_main_v69]
theorem v52 (j : Fin 128) : (val_main_v52 (F := Ideal) x0 x4 (ix1 j) : EReal)
    = ∑ h, part (rk x0) (rd x4) h j := by
  rw [val_main_v52]
  simp only [Host.reduceAdd, Ideal.hostReduceAdd_def]
  rw [show val_main_cst_8 (F := Ideal) (Shape.Idx.first h_S_) = 0 from Ideal.ofBits_zero_f32, sum_ones]
  have e : (val_main_v49 (F := Ideal) x0 x4 (ix4 0 0 0 j) : EReal) = val_main_v48 (F := Ideal) x0 x4 (ix2 0 j) := by
    pointwise [val_main_v49]
  rw [e, val_main_v48]
  simp only [Host.reduceAdd, Ideal.hostReduceAdd_def]
  rw [show val_main_cst_7 (F := Ideal) (Shape.Idx.first h_S_) = 0 from Ideal.ofBits_zero_f32, sum_rows]
  simp only [v47]
  rfl
theorem v68 (j : Fin 128) : (val_main_v68 (F := Ideal) x0 x4 (ix2 0 j) : EReal) = ∑ h, part (rk x0) (rd x4) h j := by
  rw [← v52]
  pointwise [val_main_v68]

theorem v98 (r : Fin 2048) (j : Fin 1024) : (val_main_v98 (F := Ideal) x5 (ix2 r j) : EReal) = x5 (ix2 r j) := by
  pointwise [val_main_v98, val_main_v97, val_main_v46, val_main_v8]

end Cert.Proof.Qk

end
-- ==== Proof.QkClaims.lean ====
/-
  The claims about the gradient of the query and key norms: both programs run and end quiet, and the five results of the
  kernel are those of the reference whenever the arguments the norms read are finite.
-/
module

public import proofs.«01_k».proof.Defs
public import proofs.«01_k».proof.Proof.RealArgs
public import proofs.«01_k».proof.Proof.QkArrays
public import proofs.«01_k».proof.Proof.QkRef
public import proofs.«01_k».proof.Proof.Gen.QkBwd.Frame
public import Idealize.ShloMosaic.Lib.Claim
public import Idealize.ShloMosaic.Lib.Quiescent

@[expose] public section

noncomputable section

open Idealize.ShloMosaic Idealize.ShloMosaic.TcCoe Idealize.SL.Sem Idealize.ShloMosaic.Pointwise

namespace Cert.Proof.Qk

open Cert.QkBwdIdeal Cert.QkBwdIdeal.Gen Cert.Proof.Rv

instance facts_finite_qk : Cert.Pre_finite_qk.Facts where
  bcast_S_S2048x7168 := by decide
  bcast_S_S1x128 := by decide
  bcast_S_S2048x1024 := by decide

theorem len_eq : len = ((128 : ℝ) : EReal) := by
  rw [len, pow_word _ 134 7 (by decide) (by decide) (by decide) (by decide) (by decide) (by decide)]
  norm_num

/-- What the reference leaves is what the kernel leaves. -/
theorem results_eq (m : (ℓ : Loc nD τ sig) → Buf (Elt Ideal) ℓ) (hp : Cert.Pre_QkBwdIdeal_finite_qk m) (c : Dev nD)
    {x0 : (⟨S2048x7168, .f32⟩ : BufTy).Contents (Elt Ideal)} {x1 x2 : (⟨S1x128, .f32⟩ : BufTy).Contents (Elt Ideal)}
    {x3 x4 x5 : (⟨S2048x1024, .f32⟩ : BufTy).Contents (Elt Ideal)}
    (e : x0 = m ((c.tc : Thread nD τ).loc main_arg0) ∧ x1 = m ((c.tc : Thread nD τ).loc main_arg1)
      ∧ x2 = m ((c.tc : Thread nD τ).loc main_arg2) ∧ x3 = m ((c.tc : Thread nD τ).loc main_arg3)
      ∧ x4 = m ((c.tc : Thread nD τ).loc main_arg4) ∧ x5 = m ((c.tc : Thread nD τ).loc main_arg5)) :
    Cert.QkBwdRefIdeal.Read.val_main_v94 (F := Ideal) x0 x1 x3 = (dats m 0 c).arrAt 7 cfg0.N
    ∧ Cert.QkBwdRefIdeal.Read.val_main_v96 (F := Ideal) x0 x2 x4 = (dats m 0 c).arrAt 8 cfg0.N
    ∧ Cert.QkBwdRefIdeal.Read.val_main_v98 (F := Ideal) x5 = (dats m 0 c).arrAt 9 cfg0.N
    ∧ Cert.QkBwdRefIdeal.Read.val_main_v91 (F := Ideal) x0 x3 = (dats m 0 c).arrAt 10 cfg0.N
    ∧ Cert.QkBwdRefIdeal.Read.val_main_v68 (F := Ideal) x0 x4 = (dats m 0 c).arrAt 11 cfg0.N := by
  obtain ⟨rfl, rfl, rfl, rfl, rfl, rfl⟩ := e
  obtain ⟨p, hP⟩ := reals_of (x := m ((c : Thread nD τ).loc main_arg0)) (hp c).1
  obtain ⟨q, hq⟩ := reals_of (x := m ((c : Thread nD τ).loc main_arg1)) (hp c).2.1
  obtain ⟨k, hk⟩ := reals_of (x := m ((c : Thread nD τ).loc main_arg2)) (hp c).2.2.1
  obtain ⟨d, hd⟩ := reals_of (x := m ((c : Thread nD τ).loc main_arg3)) (hp c).2.2.2.1
  obtain ⟨f, hf⟩ := reals_of (x := m ((c : Thread nD τ).loc main_arg4)) (hp c).2.2.2.2
  have ix : ∀ x : S2048x1024.Idx, x = ix2 (x 0) (x 1) := fun x => by idx_ext
  have iw : ∀ x : S1x128.Idx, x = ix2 0 (x 1) := fun x => by idx_ext
  refine ⟨Eq.trans (funext fun x => ?_) (final7 m c).symm, Eq.trans (funext fun x => ?_) (final8 m c).symm,
    Eq.trans (funext fun x => ?_) (final9 m c).symm, Eq.trans (funext fun x => ?_) (final10 m c).symm,
    Eq.trans (funext fun x => ?_) (final11 m c).symm⟩
  · refine (congrArg _ (ix x)).trans ((v94 _ _ _ (x 0) (x 1)).trans (Rms.chain_eq (by norm_num) len_eq (fun j => hP _)
      (d := fun j => d (ix2 (x 0) ⟨(head (x 1)).val * 128 + j.val, by have := (head (x 1)).isLt; omega⟩) * q (ix2 0 j)) (fun j => ?_) _))
    rw [EReal.coe_mul, ← hd, ← hq]
    rfl
  · refine (congrArg _ (ix x)).trans ((v96 _ _ _ (x 0) (x 1)).trans (Rms.chain_eq (by norm_num) len_eq (fun j => hP _)
      (d := fun j => f (ix2 (x 0) ⟨(head (x 1)).val * 128 + j.val, by have := (head (x 1)).isLt; omega⟩) * k (ix2 0 j)) (fun j => ?_) _))
    rw [EReal.coe_mul, ← hf, ← hk]
    rfl
  · exact (congrArg _ (ix x)).trans (v98 _ (x 0) (x 1))
  · exact (congrArg _ (iw x)).trans (v91 _ _ (x 1))
  · exact (congrArg _ (iw x)).trans (v68 _ _ (x 1))

set_option maxRecDepth 16384 in
/-- The two programs' results agree, on every device. -/
theorem algebraic : Cert.algebraic_QkBwdIdeal_QkBwdRefIdeal_pre_finite_qk := by
  pair_intro
  · run_from (Cert.QkBwdIdeal.Value.run_blocks (F := Ideal) m g)
  · run_from (Cert.QkBwdRefIdeal.Value.run (F := Ideal) m' g')
    · exact (Cert.QkBwdRefIdeal.Read.val_main_v94_eq m' c).trans (results_eq m hpre c (hagree c)).1
    · exact (Cert.QkBwdRefIdeal.Read.val_main_v96_eq m' c).trans (results_eq m hpre c (hagree c)).2.1
    · exact (Cert.QkBwdRefIdeal.Read.val_main_v98_eq (F := Ideal) _).trans (results_eq m hpre c ⟨rfl, rfl, rfl, rfl, rfl, rfl⟩).2.2.1
    · exact (Cert.QkBwdRefIdeal.Read.val_main_v91_eq (F := Ideal) _ _).trans (results_eq m hpre c ⟨rfl, rfl, rfl, rfl, rfl, rfl⟩).2.2.2.1
    · exact (Cert.QkBwdRefIdeal.Read.val_main_v68_eq (F := Ideal) _ _).trans (results_eq m hpre c ⟨rfl, rfl, rfl, rfl, rfl, rfl⟩).2.2.2.2

theorem frame : Cert.quiescent_QkBwd := fun m ρ _ => Cert.QkBwd.Gen.frame m ρ
theorem frame_ideal : Cert.quiescent_QkBwdIdeal := fun m ρ _ => Cert.QkBwdIdeal.Gen.frame m ρ
theorem frame_ideal_finite : Cert.quiescent_QkBwdIdeal_pre_finite_qk := fun m ρ _ => Cert.QkBwdIdeal.Gen.frame m ρ
theorem frame_ref : Cert.quiescent_QkBwdRefIdeal := fun m ρ _ =>
  θ_run_mono (Cert.QkBwdRefIdeal.Value.run (F := Ideal) m ρ) fun r h =>
    ⟨fun c => (h c).2.2.2.2.2, sem_eq_zero_of_no_sems (by decide) r.2⟩
theorem frame_ref_finite : Cert.quiescent_QkBwdRefIdeal_pre_finite_qk := fun m ρ _ => frame_ref m ρ trivial

end Cert.Proof.Qk

end
-- ==== Proof.ModNorm.lean ====
/-
  A norm with its modulation, and its gradient, of a whole array: the values the two stream norms
  leave, whatever program computes them.
-/
module

public import proofs.«01_k».proof.Proof.RealValues
public import proofs.«01_k».proof.Proof.RealWords
public import proofs.«01_k».proof.Proof.RmsNorm

@[expose] public section

noncomputable section

open Idealize.ShloMosaic Idealize.ShloMosaic.TcCoe Idealize.SL.Sem Idealize.ShloMosaic.Pointwise

namespace Cert.Proof.Mod

open Cert.Proof.Rv

/-- The length of a row, and one. -/
abbrev len : EReal := Ideal.ofBits .f32 0x45000000#32
abbrev one : EReal := Ideal.ofBits .f32 0x3F800000#32

/-- What a call reads: the stream, the norm's weight and its modulation. -/
structure Reads where
  x : Fin 2048 → Fin 2048 → EReal
  w : Fin 2048 → EReal
  sc : Fin 2048 → EReal
  sh : Fin 2048 → EReal
  dh : Fin 2048 → Fin 2048 → EReal
  dr : Fin 2048 → Fin 2048 → EReal

namespace Reads
variable (a : Reads)
/-- The row's factor, the normalised entry and the gradient of the normalised row. -/
def q (r : Fin 2048) : EReal := Rms.rs len (a.x r)
def n (r j : Fin 2048) : EReal := a.x r j * a.q r
def b (r j : Fin 2048) : EReal := a.dh r j * a.w j * (one + a.sc j)
/-- The five results. -/
def h (r j : Fin 2048) : EReal := a.n r j * a.w j * (one + a.sc j) + a.sh j
def dx (r j : Fin 2048) : EReal := a.dr r j + Rms.grad len (a.x r) (a.b r) j
def dsh (j : Fin 2048) : EReal := ∑ r, a.dh r j
def dsc (j : Fin 2048) : EReal := ∑ r, a.dh r j * a.n r j * a.w j
def dw (j : Fin 2048) : EReal := ∑ r, a.dh r j * (one + a.sc j) * a.n r j
end Reads

namespace Reads
variable (a : Reads)

theorem len_eq : len = ((2048 : ℝ) : EReal) := by
  rw [len, pow_word _ 138 11 (by decide) (by decide) (by decide) (by decide) (by decide) (by decide)]
  norm_num

/-- Where the entries are finite the chain rule's form of the gradient of the stream is the kernel's. -/
theorem dx_eq (r j : Fin 2048) {x d w s : Fin 2048 → ℝ} (hx : ∀ j, a.x r j = x j) (hd : ∀ j, a.dh r j = d j)
    (hw : ∀ j, a.w j = w j) (hs : ∀ j, a.sc j = s j) : a.dr r j + Rms.chain len (a.x r) (a.b r) j = a.dx r j := by
  refine congrArg _ (Rms.chain_eq (by norm_num) len_eq hx (d := fun j => d j * w j * (1 + s j)) (fun j => ?_) _)
  rw [EReal.coe_mul, EReal.coe_mul, EReal.coe_add, ← hd, ← hw, ← hs, EReal.coe_one, ← word_one]
  rfl

end Reads

end Cert.Proof.Mod

end
-- ==== Proof.Norm1Block.lean ====
/-
  What one block of rows of the first norm and of its gradient leaves in the blocks of the results.
-/
module

public import proofs.«01_k».proof.Proof.Gen.NormBwdIdeal.Frame
public import proofs.«01_k».proof.Proof.ModNorm
public import Idealize.ShloMosaic.Lib.Pointwise
public import Idealize.ShloMosaic.Lib.Pipeline.ValueKit

@[expose] public section

noncomputable section

open Idealize.ShloMosaic Idealize.ShloMosaic.TcCoe Idealize.SL.Sem Idealize.ShloMosaic.Pointwise

namespace Cert.Proof.Norm1

open Cert.NormBwdIdeal Cert.NormBwdIdeal.Gen Cert.Proof.Rv Cert.Proof.Mod

section Pay
variable (dh x dr : Vec Ideal S256x2048 .f32) (q : Vec Ideal S256x1 .f32) (w sc sh v : Vec Ideal S1x2048 .f32)

theorem fwd1_apply (r : Fin 256) : (k0_pay1 (F := Ideal) x (ix2 r 0) : EReal) = Rms.rs len fun k => x (ix2 r k) := by
  pointwise [k0_pay1]
  rfl

theorem fwd2_apply (r : Fin 256) (j : Fin 2048) : (k0_pay2 (F := Ideal) x w sc sh (ix2 r j) : EReal)
    = x (ix2 r j) * (Rms.rs len fun k => x (ix2 r k)) * w (ix2 0 j) * (one + sc (ix2 0 j)) + sh (ix2 0 j) := by
  rw [← fwd1_apply]
  pointwise [k0_pay2]

theorem pay5_apply (r : Fin 256) (j : Fin 2048) : (k1_pay5 (F := Ideal) q x (ix2 r j) : EReal) = x (ix2 r j) * q (ix2 r 0) := by
  pointwise [k1_pay5, k1_pay4]

theorem pay7_apply (r : Fin 256) (j : Fin 2048) (hq : (q (ix2 r 0) : EReal) = Rms.rs len fun k => x (ix2 r k)) :
    (k1_pay7 (F := Ideal) dh q x w sc dr (ix2 r j) : EReal)
    = dr (ix2 r j) + Rms.grad len (fun k => x (ix2 r k)) (fun k => dh (ix2 r k) * w (ix2 0 k) * (one + sc (ix2 0 k))) j := by
  rw [Rms.grad, ← hq]
  pointwise [k1_pay7, k1_pay6, k1_pay5, k1_pay4]

theorem pay1_apply (j : Fin 2048) : (k1_pay1 (F := Ideal) dh v (ix2 0 j) : EReal) = v (ix2 0 j) + ∑ r : Fin 256, dh (ix2 r j) := by
  pointwise [k1_pay1]

theorem pay2_apply (j : Fin 2048) : (k1_pay2 (F := Ideal) (k1_pay8 (F := Ideal) dh q x w) v (ix2 0 j) : EReal)
    = v (ix2 0 j) + ∑ r : Fin 256, dh (ix2 r j) * (x (ix2 r j) * q (ix2 r 0)) * w (ix2 0 j) := by
  pointwise [k1_pay2, k1_pay8, k1_pay5, k1_pay4]

theorem pay3_apply (j : Fin 2048) : (k1_pay3 (F := Ideal) (k1_pay9 (F := Ideal) dh q x sc) v (ix2 0 j) : EReal)
    = v (ix2 0 j) + ∑ r : Fin 256, dh (ix2 r j) * (one + sc (ix2 0 j)) * (x (ix2 r j) * q (ix2 r 0)) := by
  pointwise [k1_pay3, k1_pay9, k1_pay6, k1_pay5, k1_pay4]

end Pay

section Outs
variable (c : Dev nD) (i : grid1.Coords) (arg1 : Memref sig .tc .vmem S256x2048 .f32) (harg1 : arg1.IsWhole)
  (arg2 : Memref sig .tc .vmem S256x2048 .f32) (harg2 : arg2.IsWhole)
  (arg3 : Memref sig .tc .vmem S256x1 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S256x2048 .f32) (harg6 : arg6.IsWhole)
  (arg7 : Memref sig .tc .vmem S256x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (x0 x1 : Vec Ideal S256x2048 .f32) (x2 : Vec Ideal S256x1 .f32) (x3 x4 : Vec Ideal S1x2048 .f32) (x5 : Vec Ideal S256x2048 .f32)
  (xo7 xo8 xo9 : Vec Ideal S1x2048 .f32)

theorem out_4 (y0 : Vec Ideal S256x2048 .f32) (y1 y2 y3 : Vec Ideal S1x2048 .f32) : out0_4 (F := Ideal) y0 y1 y2 y3 = k0_pay2 y0 y1 y2 y3 := by
  frame_out
theorem out_5 (y0 : Vec Ideal S256x2048 .f32) (y1 y2 y3 : Vec Ideal S1x2048 .f32) : out0_5 (F := Ideal) y0 y1 y2 y3 = k0_pay1 y0 := by
  frame_out
theorem out_A_6 (hc : cond1_0 i) : out1_A_6 (F := Ideal) c i arg1 harg1 arg2 harg2 arg3 harg3 arg4 harg4 arg5 harg5 arg6 harg6 arg7 harg7 arg8 harg8 arg9 harg9 arg10 harg10 hc x0 x1 x2 x3 x4 x5
    = k1_pay7 x0 x2 x1 x3 x4 x5 := by
  frame_out
theorem out_A_7 (hc : cond1_0 i) : out1_A_7 (F := Ideal) c i arg1 harg1 arg2 harg2 arg3 harg3 arg4 harg4 arg5 harg5 arg6 harg6 arg7 harg7 arg8 harg8 arg9 harg9 arg10 harg10 hc x0 x1 x2 x3 x4 x5
    = k1_pay1 x0 (k1_pay10 (F := Ideal)) := by
  frame_out
theorem out_A_8 (hc : cond1_0 i) : out1_A_8 (F := Ideal) c i arg1 harg1 arg2 harg2 arg3 harg3 arg4 harg4 arg5 harg5 arg6 harg6 arg7 harg7 arg8 harg8 arg9 harg9 arg10 harg10 hc x0 x1 x2 x3 x4 x5
    = k1_pay2 (k1_pay8 x0 x2 x1 x3) (k1_pay11 (F := Ideal)) := by
  frame_out
theorem out_A_9 (hc : cond1_0 i) : out1_A_9 (F := Ideal) c i arg1 harg1 arg2 harg2 arg3 harg3 arg4 harg4 arg5 harg5 arg6 harg6 arg7 harg7 arg8 harg8 arg9 harg9 arg10 harg10 hc x0 x1 x2 x3 x4 x5
    = k1_pay3 (k1_pay9 x0 x2 x1 x4) (k1_pay12 (F := Ideal)) := by
  frame_out
theorem out_B_6 (hc : ¬cond1_0 i) : out1_B_6 (F := Ideal) c i arg1 harg1 arg2 harg2 arg3 harg3 arg4 harg4 arg5 harg5 arg6 harg6 arg7 harg7 arg8 harg8 arg9 harg9 arg10 harg10 hc x0 x1 x2 x3 x4 x5 xo7 xo8 xo9
    = k1_pay7 x0 x2 x1 x3 x4 x5 := by
  frame_out
theorem out_B_7 (hc : ¬cond1_0 i) : out1_B_7 (F := Ideal) c i arg1 harg1 arg2 harg2 arg3 harg3 arg4 harg4 arg5 harg5 arg6 harg6 arg7 harg7 arg8 harg8 arg9 harg9 arg10 harg10 hc x0 x1 x2 x3 x4 x5 xo7 xo8 xo9
    = k1_pay1 x0 xo7 := by
  frame_out
theorem out_B_8 (hc : ¬cond1_0 i) : out1_B_8 (F := Ideal) c i arg1 harg1 arg2 harg2 arg3 harg3 arg4 harg4 arg5 harg5 arg6 harg6 arg7 harg7 arg8 harg8 arg9 harg9 arg10 harg10 hc x0 x1 x2 x3 x4 x5 xo7 xo8 xo9
    = k1_pay2 (k1_pay8 x0 x2 x1 x3) xo8 := by
  frame_out
theorem out_B_9 (hc : ¬cond1_0 i) : out1_B_9 (F := Ideal) c i arg1 harg1 arg2 harg2 arg3 harg3 arg4 harg4 arg5 harg5 arg6 harg6 arg7 harg7 arg8 harg8 arg9 harg9 arg10 harg10 hc x0 x1 x2 x3 x4 x5 xo7 xo8 xo9
    = k1_pay3 (k1_pay9 x0 x2 x1 x4) xo9 := by
  frame_out

end Outs

end Cert.Proof.Norm1

end
-- ==== Proof.Norm1Arrays.lean ====
/-
  The results of the first norm's two calls, as functions of what the calls read.
-/
module

public import proofs.«01_k».proof.Proof.Norm1Block

@[expose] public section

noncomputable section

open Idealize.ShloMosaic Idealize.ShloMosaic.TcCoe Idealize.SL.Sem Idealize.ShloMosaic.Pointwise

namespace Cert.Proof.Norm1

open Cert.NormBwdIdeal Cert.NormBwdIdeal.Gen Cert.Proof.Rv Cert.Proof.Mod

/-- A row of a block, in the array. -/
def at0 (t : Fin cfg0.N) (r : Fin 256) : Fin 2048 := ⟨t.val * 256 + r.val, by have := t.isLt; have : cfg0.N = 8 := N_0; omega⟩
def at1 (t : Fin cfg1.N) (r : Fin 256) : Fin 2048 := ⟨t.val * 256 + r.val, by have := t.isLt; have : cfg1.N = 8 := N_1; omega⟩

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![0, 0] := (by decide +kernel : ∀ t : Fin grid1.N, _)
theorem idx1_9 : ∀ t : Fin cfg1.N, win1_9.index t = ![0, 0] := (by decide +kernel : ∀ t : Fin grid1.N, _)

section First
variable (V : (c : Dev nD) → (b : Ref sig .tc) → Buf (Elt Ideal) ((c : Thread nD τ).loc b)) (c : Dev nD) (a : Reads)

/-- What the first call finds. -/
structure In0 : Prop where
  x r j : (V c main_arg0 (ix2 r j) : EReal) = a.x r j
  w j : (V c main_arg2 (ix2 0 j) : EReal) = a.w j
  sc j : (V c main_arg3 (ix2 0 j) : EReal) = a.sc j
  sh j : (V c main_arg4 (ix2 0 j) : EReal) = a.sh j

variable {V c a} (i : In0 V c a)
include i

theorem f0 (t : Fin cfg0.N) (r : Fin 256) (j : Fin 2048) : (iblk0 V c 0 t (ix2 r j) : EReal) = a.x (at0 t r) j := by
  rw [← i.x]
  blk_simp [iblk0]
  exact congrArg _ (by blk_ext [idx0_0 t, at0])
theorem f1 (t : Fin cfg0.N) (j : Fin 2048) : (iblk0 V c 1 t (ix2 0 j) : EReal) = a.w j := by
  rw [← i.w]
  blk_simp [iblk0]
  exact congrArg _ (by blk_ext [idx0_1 t])
theorem f2 (t : Fin cfg0.N) (j : Fin 2048) : (iblk0 V c 2 t (ix2 0 j) : EReal) = a.sc j := by
  rw [← i.sc]
  blk_simp [iblk0]
  exact congrArg _ (by blk_ext [idx0_2 t])
theorem f3 (t : Fin cfg0.N) (j : Fin 2048) : (iblk0 V c 3 t (ix2 0 j) : EReal) = a.sh j := by
  rw [← i.sh]
  blk_simp [iblk0]
  exact congrArg _ (by blk_ext [idx0_3 t])

theorem final_h : (dat0 V c).arrAt 4 cfg0.N = fun y : S2048x2048.Idx => a.h (y 0) (y 1) := by
  refine (dat0 V c).arrAt_eq_of_covers 4 _ (by decide +kernel) fun t hf y => ?_
  blk_simp
  rw [after0_4, out_4]
  obtain ⟨r, j, rfl⟩ : ∃ (r : Fin 256) (j : Fin 2048), y = ix2 r j := ⟨y 0, y 1, by idx_ext⟩
  have e : ((cfg0.win 4).blk t).view.emb (ix2 r j) = ix2 (at0 t r) j := by blk_ext [idx0_4 t, at0]
  rw [e, fwd2_apply]
  simp only [f0 i, f1 i, f2 i, f3 i]
  rfl

theorem final_q : (dat0 V c).arrAt 5 cfg0.N = fun y : S2048x1.Idx => a.q (y 0) := by
  refine (dat0 V c).arrAt_eq_of_covers 5 _ (by decide +kernel) fun t hf y => ?_
  blk_simp
  rw [after0_5, out_5]
  obtain ⟨r, rfl⟩ : ∃ (r : Fin 256), y = ix2 r 0 := ⟨y 0, by idx_ext⟩
  have e : ((cfg0.win 5).blk t).view.emb (ix2 r 0) = ix2 (at0 t r) 0 := by blk_ext [idx0_5 t, at0]
  rw [e, fwd1_apply]
  simp only [f0 i]
  rfl

end First

section Second
variable (V : (c : Dev nD) → (b : Ref sig .tc) → Buf (Elt Ideal) ((c : Thread nD τ).loc b)) (c : Dev nD) (a : Reads)

/-- What the second call finds. -/
structure In1 : Prop where
  dh r j : (V c main_arg1 (ix2 r j) : EReal) = a.dh r j
  x r j : (V c main_arg0 (ix2 r j) : EReal) = a.x r j
  q r : (V c main_v0_1 (ix2 r 0) : EReal) = a.q r
  w j : (V c main_arg2 (ix2 0 j) : EReal) = a.w j
  sc j : (V c main_arg3 (ix2 0 j) : EReal) = a.sc j
  dr r j : (V c main_arg5 (ix2 r j) : EReal) = a.dr r j

variable {V c a} (i : In1 V c a)
include i

theorem g0 (t : Fin cfg1.N) (r : Fin 256) (j : Fin 2048) : (iblk1 V c 0 t (ix2 r j) : EReal) = a.dh (at1 t r) j := by
  rw [← i.dh]
  blk_simp [iblk1]
  exact congrArg _ (by blk_ext [idx1_0 t, at1])
theorem g1 (t : Fin cfg1.N) (r : Fin 256) (j : Fin 2048) : (iblk1 V c 1 t (ix2 r j) : EReal) = a.x (at1 t r) j := by
  rw [← i.x]
  blk_simp [iblk1]
  exact congrArg _ (by blk_ext [idx1_1 t, at1])
theorem g2 (t : Fin cfg1.N) (r : Fin 256) : (iblk1 V c 2 t (ix2 r 0) : EReal) = a.q (at1 t r) := by
  rw [← i.q]
  blk_simp [iblk1]
  exact congrArg _ (by blk_ext [idx1_2 t, at1])
theorem g3 (t : Fin cfg1.N) (j : Fin 2048) : (iblk1 V c 3 t (ix2 0 j) : EReal) = a.w j := by
  rw [← i.w]
  blk_simp [iblk1]
  exact congrArg _ (by blk_ext [idx1_3 t])
theorem g4 (t : Fin cfg1.N) (j : Fin 2048) : (iblk1 V c 4 t (ix2 0 j) : EReal) = a.sc j := by
  rw [← i.sc]
  blk_simp [iblk1]
  exact congrArg _ (by blk_ext [idx1_4 t])
theorem g5 (t : Fin cfg1.N) (r : Fin 256) (j : Fin 2048) : (iblk1 V c 5 t (ix2 r j) : EReal) = a.dr (at1 t r) j := by
  rw [← i.dr]
  blk_simp [iblk1]
  exact congrArg _ (by blk_ext [idx1_5 t, at1])

theorem once (t : Fin cfg1.N) (r : Fin 256) (j : Fin 2048) : ((outsAt1 V c t.val t.isLt).1 (ix2 r j) : EReal) = a.dx (at1 t r) j := by
  have hq : (iblk1 V c 2 t (ix2 r 0) : EReal) = Rms.rs len fun k => iblk1 V c 1 t (ix2 r k) := by
    simp only [g1 i, g2 i]
    rfl
  have e : (k1_pay7 (F := Ideal) (iblk1 V c 0 t) (iblk1 V c 2 t) (iblk1 V c 1 t) (iblk1 V c 3 t) (iblk1 V c 4 t) (iblk1 V c 5 t) (ix2 r j) : EReal)
      = a.dx (at1 t r) j := by
    rw [pay7_apply _ _ _ _ _ _ _ _ hq]
    simp only [g0 i, g1 i, g3 i, g4 i, g5 i]
    rfl
  by_cases h : t.val % 8 = 0
  · rw [outsAt1_A V c t h]
    dsimp only
    rw [out_A_6, e]
  · rw [outsAt1_B V c t h]
    dsimp only
    rw [out_B_6, e]

theorem sum_sh (t : Fin cfg1.N) (v : Vec Ideal S1x2048 .f32) (j : Fin 2048) : (k1_pay1 (F := Ideal) (iblk1 V c 0 t) v (ix2 0 j) : EReal)
    = v (ix2 0 j) + ∑ r, a.dh (at1 t r) j := by
  rw [pay1_apply]
  simp only [g0 i]
theorem sum_sc (t : Fin cfg1.N) (v : Vec Ideal S1x2048 .f32) (j : Fin 2048) :
    (k1_pay2 (F := Ideal) (k1_pay8 (F := Ideal) (iblk1 V c 0 t) (iblk1 V c 2 t) (iblk1 V c 1 t) (iblk1 V c 3 t)) v (ix2 0 j) : EReal)
    = v (ix2 0 j) + ∑ r, a.dh (at1 t r) j * a.n (at1 t r) j * a.w j := by
  rw [pay2_apply]
  simp only [g0 i, g1 i, g2 i, g3 i]
  rfl
theorem sum_w (t : Fin cfg1.N) (v : Vec Ideal S1x2048 .f32) (j : Fin 2048) :
    (k1_pay3 (F := Ideal) (k1_pay9 (F := Ideal) (iblk1 V c 0 t) (iblk1 V c 2 t) (iblk1 V c 1 t) (iblk1 V c 4 t)) v (ix2 0 j) : EReal)
    = v (ix2 0 j) + ∑ r, a.dh (at1 t r) j * (one + a.sc j) * a.n (at1 t r) j := by
  rw [pay3_apply]
  simp only [g0 i, g1 i, g2 i, g4 i]
  rfl

theorem last_dsh (t : Fin cfg1.N) (ht : t.val + 1 = cfg1.N) (j : Fin 2048) : ((outsAt1 V c t.val t.isLt).2.1 (ix2 0 j) : EReal) = a.dsh j := by
  refine (Pipeline.eq_sum_fin_of_reset_step_last (N := cfg1.N) (fun n h => ((outsAt1 V c n h).2.1 (ix2 0 j) : EReal)) 8 0
    (fun t => ∑ r, a.dh (at1 t r) j) (fun t h => ?_) (fun t h => ?_) (by decide) t ht).trans ?_
  · rw [outsAt1_A V c t h]
    dsimp only
    rw [out_A_7, sum_sh i]
    congr 1
    pointwise [k1_pay10]
  · rw [outsAt1_B V c t h]
    dsimp only
    rw [out_B_7, sum_sh i]
  · rw [zero_add]
    exact Fin.sum_mul_add_fin 8 256 fun r : Fin 2048 => a.dh r j

theorem last_dsc (t : Fin cfg1.N) (ht : t.val + 1 = cfg1.N) (j : Fin 2048) : ((outsAt1 V c t.val t.isLt).2.2.1 (ix2 0 j) : EReal) = a.dsc j := by
  refine (Pipeline.eq_sum_fin_of_reset_step_last (N := cfg1.N) (fun n h => ((outsAt1 V c n h).2.2.1 (ix2 0 j) : EReal)) 8 0
    (fun t => ∑ r, a.dh (at1 t r) j * a.n (at1 t r) j * a.w j) (fun t h => ?_) (fun t h => ?_) (by decide) t ht).trans ?_
  · rw [outsAt1_A V c t h]
    dsimp only
    rw [out_A_8, sum_sc i]
    congr 1
    pointwise [k1_pay11]
  · rw [outsAt1_B V c t h]
    dsimp only
    rw [out_B_8, sum_sc i]
  · rw [zero_add]
    exact Fin.sum_mul_add_fin 8 256 fun r : Fin 2048 => a.dh r j * a.n r j * a.w j

theorem last_dw (t : Fin cfg1.N) (ht : t.val + 1 = cfg1.N) (j : Fin 2048) : ((outsAt1 V c t.val t.isLt).2.2.2 (ix2 0 j) : EReal) = a.dw j := by
  refine (Pipeline.eq_sum_fin_of_reset_step_last (N := cfg1.N) (fun n h => ((outsAt1 V c n h).2.2.2 (ix2 0 j) : EReal)) 8 0
    (fun t => ∑ r, a.dh (at1 t r) j * (one + a.sc j) * a.n (at1 t r) j) (fun t h => ?_) (fun t h => ?_) (by decide) t ht).trans ?_
  · rw [outsAt1_A V c t h]
    dsimp only
    rw [out_A_9, sum_w i]
    congr 1
    pointwise [k1_pay12]
  · rw [outsAt1_B V c t h]
    dsimp only
    rw [out_B_9, sum_w i]
  · rw [zero_add]
    exact Fin.sum_mul_add_fin 8 256 fun r : Fin 2048 => a.dh r j * (one + a.sc j) * a.n r j

theorem final_dx : (dat1 V c).arrAt 6 cfg1.N = fun y : S2048x2048.Idx => a.dx (y 0) (y 1) := by
  refine (dat1 V c).arrAt_eq_of_covers 6 _ (by decide +kernel) fun t hf y => ?_
  blk_simp
  rw [after1_6]
  obtain ⟨r, j, rfl⟩ : ∃ (r : Fin 256) (j : Fin 2048), y = ix2 r j := ⟨y 0, y 1, by idx_ext⟩
  have e : ((cfg1.win 6).blk t).view.emb (ix2 r j) = ix2 (at1 t r) j := by blk_ext [idx1_6 t, at1]
  rw [e]
  exact once i t r j

theorem final_dsh : (dat1 V c).arrAt 7 cfg1.N = fun y : S1x2048.Idx => a.dsh (y 1) := by
  refine (dat1 V c).arrAt_eq_of_covers 7 _ (by decide +kernel) fun t hf y => ?_
  have ht : t.val + 1 = cfg1.N := by have := (flush1_7 t).mp hf; have := t.isLt; have : cfg1.N = 8 := N_1; omega
  blk_simp
  rw [after1_7]
  obtain ⟨j, rfl⟩ : ∃ (j : Fin 2048), y = ix2 0 j := ⟨y 1, by idx_ext⟩
  have e : ((cfg1.win 7).blk t).view.emb (ix2 0 j) = ix2 0 j := by blk_ext [idx1_7 t]
  rw [e]
  exact last_dsh i t ht j

theorem final_dsc : (dat1 V c).arrAt 8 cfg1.N = fun y : S1x2048.Idx => a.dsc (y 1) := by
  refine (dat1 V c).arrAt_eq_of_covers 8 _ (by decide +kernel) fun t hf y => ?_
  have ht : t.val + 1 = cfg1.N := by have := (flush1_8 t).mp hf; have := t.isLt; have : cfg1.N = 8 := N_1; omega
  blk_simp
  rw [after1_8]
  obtain ⟨j, rfl⟩ : ∃ (j : Fin 2048), y = ix2 0 j := ⟨y 1, by idx_ext⟩
  have e : ((cfg1.win 8).blk t).view.emb (ix2 0 j) = ix2 0 j := by blk_ext [idx1_8 t]
  rw [e]
  exact last_dsc i t ht j

theorem final_dw : (dat1 V c).arrAt 9 cfg1.N = fun y : S1x2048.Idx => a.dw (y 1) := by
  refine (dat1 V c).arrAt_eq_of_covers 9 _ (by decide +kernel) fun t hf y => ?_
  have ht : t.val + 1 = cfg1.N := by have := (flush1_9 t).mp hf; have := t.isLt; have : cfg1.N = 8 := N_1; omega
  blk_simp
  rw [after1_9]
  obtain ⟨j, rfl⟩ : ∃ (j : Fin 2048), y = ix2 0 j := ⟨y 1, by idx_ext⟩
  have e : ((cfg1.win 9).blk t).view.emb (ix2 0 j) = ix2 0 j := by blk_ext [idx1_9 t]
  rw [e]
  exact last_dw i t ht j

end Second

end Cert.Proof.Norm1

end
-- ==== Proof.Norm1Run.lean ====
/-
  The two calls of the first norm run one after the other: what the program's results hold when it ends, and that it ends
  at all. The launch is the one the frame is proved by; kept here is what every array holds.
-/
module

public import proofs.«01_k».proof.Proof.Norm1Arrays

@[expose] public section

noncomputable section

namespace Cert.Proof.Norm1

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormBwdIdeal Cert.NormBwdIdeal.Gen Cert.Proof.Rv Cert.Proof.Mod

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer of the core ends at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The arguments, entry by entry. -/
def arr (c : Dev nD) : Reads where
  x r j := m ((c : Thread nD τ).loc main_arg0) (ix2 r j)
  w j := m ((c : Thread nD τ).loc main_arg2) (ix2 0 j)
  sc j := m ((c : Thread nD τ).loc main_arg3) (ix2 0 j)
  sh j := m ((c : Thread nD τ).loc main_arg4) (ix2 0 j)
  dh r j := m ((c : Thread nD τ).loc main_arg1) (ix2 r j)
  dr r j := m ((c : Thread nD τ).loc main_arg5) (ix2 r j)

theorem in0 (c : Dev nD) : In0 (V0 m ρ) c (arr m c) where
  x _ _ := rfl
  w _ := rfl
  sc _ := rfl
  sh _ := rfl

theorem in1 (c : Dev nD) : In1 (V1 m ρ) c (arr m c) where
  dh r j := congrFun (W1_args m ρ c main_arg1 (by decide)) (ix2 r j)
  x r j := congrFun (W1_args m ρ c main_arg0 (by decide)) (ix2 r j)
  q r := congrFun ((W1_arr m ρ c 5).trans (final_q (in0 m ρ c))) (ix2 r 0)
  w j := congrFun (W1_args m ρ c main_arg2 (by decide)) (ix2 0 j)
  sc j := congrFun (W1_args m ρ c main_arg3 (by decide)) (ix2 0 j)
  dr r j := congrFun (W1_args m ρ c main_arg5 (by decide)) (ix2 r j)

/-- The five results and the six arguments when the program ends. -/
theorem run_blocks : θ_run defs (onTc (τ := τ) (main (F := Ideal))) ⟨m, fun _ => 0, ρ⟩ (fun r => ∀ c : Dev nD,
      r.2.mem ((c.tc : Thread nD τ).loc main_v0_0) = (fun y : S2048x2048.Idx => ((arr m c).h (y 0) (y 1) : EReal))
      ∧ r.2.mem ((c.tc : Thread nD τ).loc main_v1_0) = (fun y : S2048x2048.Idx => ((arr m c).dx (y 0) (y 1) : EReal))
      ∧ r.2.mem ((c.tc : Thread nD τ).loc main_v1_1) = (fun y : S1x2048.Idx => ((arr m c).dsh (y 1) : EReal))
      ∧ r.2.mem ((c.tc : Thread nD τ).loc main_v1_2) = (fun y : S1x2048.Idx => ((arr m c).dsc (y 1) : EReal))
      ∧ r.2.mem ((c.tc : Thread nD τ).loc main_v1_3) = (fun y : S1x2048.Idx => ((arr m c).dw (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0_0 (by decide))).trans ((W2_of m ρ c main_v0_0 (by decide)).trans ((W1_arr m ρ c 4).trans (final_h (in0 m ρ c)))),
     (h c _ (mem_uc main_v1_0 (by decide))).trans ((W2_arr m ρ c 6).trans (final_dx (in1 m ρ c))),
     (h c _ (mem_uc main_v1_1 (by decide))).trans ((W2_arr m ρ c 7).trans (final_dsh (in1 m ρ c))),
     (h c _ (mem_uc main_v1_2 (by decide))).trans ((W2_arr m ρ c 8).trans (final_dsc (in1 m ρ c))),
     (h c _ (mem_uc main_v1_3 (by decide))).trans ((W2_arr m ρ c 9).trans (final_dw (in1 m ρ c))),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c)⟩) (run_all m ρ)

end Cert.Proof.Norm1

end
-- ==== Proof.Norm1Ref.lean ====
/-
  What the reference computes of the first norm and of its gradient.
-/
module

public import proofs.«01_k».proof.Proof.Norm1Arrays
public import proofs.«01_k».proof.Proof.Gen.NormBwdRefIdeal.Read

@[expose] public section

noncomputable section

open Idealize.ShloMosaic Idealize.ShloMosaic.TcCoe Idealize.SL.Sem Idealize.ShloMosaic.Pointwise

namespace Cert.Proof.Norm1

open Cert.NormBwdRefIdeal Cert.NormBwdRefIdeal.Gen Cert.NormBwdRefIdeal.Read Cert.Proof.Rv Cert.Proof.Mod

/-- A sum over two axes of length one. -/
theorem sum_ones (x : S1x1x2048.Idx → EReal) (j : Fin 2048) :
    Ideal.hostReduceAdd reducesTo_S1x1x2048_S2048_d0_1 x 0 (ix1 j) = x (ix3 0 0 j) := by
  have e : (Finset.univ.filter fun i : S1x1x2048.Idx => reducesTo_S1x1x2048_S2048_d0_1.drop i = ix1 j) = {ix3 0 0 j} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Subsingleton.elim (α := Fin 1) _ _
      · exact Fin.ext h0
    · subst hi
      funext r
      fin_cases r
      rfl
  unfold Ideal.hostReduceAdd
  rw [e, Finset.sum_singleton, zero_add]

/-- A sum over the two outer axes, both of length one. -/
theorem sum_ends (x : S1x2048x1.Idx → EReal) (j : Fin 2048) :
    Ideal.hostReduceAdd reducesTo_S1x2048x1_S2048_d0_2 x 0 (ix1 j) = x (ix3 0 j 0) := by
  have e : (Finset.univ.filter fun i : S1x2048x1.Idx => reducesTo_S1x2048x1_S2048_d0_2.drop i = ix1 j) = {ix3 0 j 0} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Fin.ext h0
      · exact Subsingleton.elim (α := Fin 1) _ _
    · subst hi
      funext r
      fin_cases r
      rfl
  unfold Ideal.hostReduceAdd
  rw [e, Finset.sum_singleton, zero_add]

variable (x0 x1 : (⟨S2048x2048, .f32⟩ : BufTy).Contents (Elt Ideal)) (x2 x3 x4 : (⟨S1x2048, .f32⟩ : BufTy).Contents (Elt Ideal))
  (x5 : (⟨S2048x2048, .f32⟩ : BufTy).Contents (Elt Ideal))

/-- The arguments, read entry by entry. -/
def arg : Reads where
  x r j := x0 (ix2 r j)
  w j := x2 (ix2 0 j)
  sc j := x3 (ix2 0 j)
  sh j := x4 (ix2 0 j)
  dh r j := x1 (ix2 r j)
  dr r j := x5 (ix2 r j)

theorem v8 (r : Fin 2048) : (val_main_v8 (F := Ideal) x0 (ix3 0 r 0) : EReal) = Rms.ms len (fun k => x0 (ix2 r k)) := by
  pointwise [val_main_v8, val_main_v7, val_main_v6, val_main_v5, val_main_v4, val_main_v3, val_main_v2, val_main_v0, val_main_cst, val_main_cst_0, val_main_cst_1]
  rfl
theorem v9 (r : Fin 2048) : (val_main_v9 (F := Ideal) x0 (ix3 0 r 0) : EReal) = Rms.rs len (fun k => x0 (ix2 r k)) := by
  pointwise [val_main_v9]
  rw [v8]
  rfl
theorem v14 (r j : Fin 2048) : (val_main_v14 (F := Ideal) x0 (ix3 0 r j) : EReal) = (arg x0 x1 x2 x3 x4 x5).n r j := by
  pointwise [val_main_v14, val_main_v13, val_main_v0]
  rw [v9]
  rfl
theorem v66 (r j : Fin 2048) : (val_main_v66 (F := Ideal) x0 x2 x3 x4 (ix2 r j) : EReal) = (arg x0 x1 x2 x3 x4 x5).h r j := by
  pointwise [val_main_v66, val_main_v65, val_main_v25, val_main_v24, val_main_v23, val_main_v22, val_main_v21, val_main_v20, val_main_v19, val_main_v18, val_main_v17, val_main_v16, val_main_v15, val_main_v1, val_main_cst_3]
  rw [v14 x0 x1 x2 x3 x4 x5]
  rw [Reads.h, one, word_one]; rfl
theorem v38 (r j : Fin 2048) : (val_main_v38 (F := Ideal) x1 x3 (ix3 0 r j) : EReal) = (arg x0 x1 x2 x3 x4 x5).dh r j * (one + (arg x0 x1 x2 x3 x4 x5).sc j) := by
  pointwise [val_main_v38, val_main_v37, val_main_v27, val_main_v20, val_main_v19, val_main_v18, val_main_cst_3]
  rfl
theorem v45 (r j : Fin 2048) : (val_main_v45 (F := Ideal) x1 x2 x3 (ix3 0 r j) : EReal) = (arg x0 x1 x2 x3 x4 x5).b r j := by
  pointwise [val_main_v45, val_main_v44, val_main_v15, val_main_v1]
  rw [v38 x0 x1 x2 x3 x4 x5]
  exact mul_right_comm _ _ _
theorem v54 (r : Fin 2048) : (val_main_v54 (F := Ideal) x0 x1 x2 x3 (ix3 0 r 0) : EReal) = Rms.back len ((arg x0 x1 x2 x3 x4 x5).x r) ((arg x0 x1 x2 x3 x4 x5).b r) := by
  pointwise [val_main_v54, val_main_v53, val_main_v52, val_main_v49, val_main_v48, val_main_v47, val_main_v12, val_main_v11, val_main_v10, val_main_v0, val_main_cst_11, val_main_cst_12, val_main_cst_2]
  simp only [v45 x0 x1 x2 x3 x4 x5, v9, v8]
  rfl
theorem v55 (r : Fin 2048) : (val_main_v55 (F := Ideal) x0 x1 x2 x3 (ix1 r) : EReal) = Rms.back len ((arg x0 x1 x2 x3 x4 x5).x r) ((arg x0 x1 x2 x3 x4 x5).b r) := by
  rw [val_main_v55]
  simp only [Host.reduceAdd, Ideal.hostReduceAdd_def]
  rw [show val_main_cst_13 (F := Ideal) (Shape.Idx.first h_S_) = 0 from Ideal.ofBits_zero_f32, sum_ends]
  exact v54 x0 x1 x2 x3 x4 x5 r
theorem v64 (r j : Fin 2048) : (val_main_v64 (F := Ideal) x0 x1 x2 x3 x5 (ix2 r j) : EReal) = (arg x0 x1 x2 x3 x4 x5).dr r j + Rms.chain len ((arg x0 x1 x2 x3 x4 x5).x r) ((arg x0 x1 x2 x3 x4 x5).b r) j := by
  pointwise [val_main_v64, val_main_v63, val_main_v61, val_main_v60, val_main_v59, val_main_v58, val_main_v57, val_main_v56, val_main_v51, val_main_v50, val_main_v29, val_main_v28, val_main_v0, val_main_cst_4, val_main_cst_14]
  rw [Fin.sum_univ_one, Fin.sum_univ_one, v45 x0 x1 x2 x3 x4 x5, v9, v55 x0 x1 x2 x3 x4 x5]
  rfl
theorem v32 (j : Fin 2048) : (val_main_v32 (F := Ideal) x1 (ix1 j) : EReal) = (arg x0 x1 x2 x3 x4 x5).dsh j := by
  rw [val_main_v32]
  simp only [Host.reduceAdd, Ideal.hostReduceAdd_def]
  rw [show val_main_cst_6 (F := Ideal) (Shape.Idx.first h_S_) = 0 from Ideal.ofBits_zero_f32, sum_ones]
  pointwise [val_main_v31, val_main_v30, val_main_v27, val_main_cst_5]
  rfl
theorem v33 (j : Fin 2048) : (val_main_v33 (F := Ideal) x1 (ix2 0 j) : EReal) = (arg x0 x1 x2 x3 x4 x5).dsh j := by
  rw [← v32 x0 x1 x2 x3 x4 x5]
  pointwise [val_main_v33]
theorem v39 (j : Fin 2048) : (val_main_v39 (F := Ideal) x0 x1 x2 (ix1 j) : EReal) = (arg x0 x1 x2 x3 x4 x5).dsc j := by
  rw [val_main_v39]
  simp only [Host.reduceAdd, Ideal.hostReduceAdd_def]
  rw [show val_main_cst_8 (F := Ideal) (Shape.Idx.first h_S_) = 0 from Ideal.ofBits_zero_f32, sum_ones]
  pointwise [val_main_v36, val_main_v35, val_main_v34, val_main_v27, val_main_v17, val_main_v16, val_main_v15, val_main_v1, val_main_cst_7]
  refine Finset.sum_congr rfl fun r _ => ?_
  rw [v14 x0 x1 x2 x3 x4 x5]
  exact (mul_comm _ _).trans (mul_assoc _ _ _).symm
theorem v40 (j : Fin 2048) : (val_main_v40 (F := Ideal) x0 x1 x2 (ix2 0 j) : EReal) = (arg x0 x1 x2 x3 x4 x5).dsc j := by
  rw [← v39 x0 x1 x2 x3 x4 x5]
  pointwise [val_main_v40]
theorem v46 (j : Fin 2048) : (val_main_v46 (F := Ideal) x0 x1 x3 (ix1 j) : EReal) = (arg x0 x1 x2 x3 x4 x5).dw j := by
  rw [val_main_v46]
  simp only [Host.reduceAdd, Ideal.hostReduceAdd_def]
  rw [show val_main_cst_10 (F := Ideal) (Shape.Idx.first h_S_) = 0 from Ideal.ofBits_zero_f32, sum_ones]
  pointwise [val_main_v43, val_main_v42, val_main_v41, val_main_cst_9]
  refine Finset.sum_congr rfl fun r _ => ?_
  rw [v14 x0 x1 x2 x3 x4 x5, v38 x0 x1 x2 x3 x4 x5]
  exact mul_comm _ _
theorem v62 (j : Fin 2048) : (val_main_v62 (F := Ideal) x0 x1 x3 (ix2 0 j) : EReal) = (arg x0 x1 x2 x3 x4 x5).dw j := by
  rw [← v46 x0 x1 x2 x3 x4 x5]
  pointwise [val_main_v62]

end Cert.Proof.Norm1

end
-- ==== Proof.Norm1Claims.lean ====
/-
  The claims about the first norm and its gradient: both programs run and end quiet, and the five results of the kernel
  are those of the reference whenever the arguments the gradient reads are finite.
-/
module

public import proofs.«01_k».proof.Defs
public import proofs.«01_k».proof.Proof.RealArgs
public import proofs.«01_k».proof.Proof.Norm1Run
public import proofs.«01_k».proof.Proof.Norm1Ref
public import proofs.«01_k».proof.Proof.Gen.NormBwd.Frame
public import Idealize.ShloMosaic.Lib.Claim
public import Idealize.ShloMosaic.Lib.Quiescent

@[expose] public section

noncomputable section

open Idealize.ShloMosaic Idealize.ShloMosaic.TcCoe Idealize.SL.Sem Idealize.ShloMosaic.Pointwise

namespace Cert.Proof.Norm1

open Cert.NormBwdIdeal Cert.NormBwdIdeal.Gen Cert.Proof.Rv Cert.Proof.Mod

instance facts_finite_norm1 : Cert.Pre_finite_norm1.Facts where
  bcast_S_S2048x2048 := by decide
  bcast_S_S1x2048 := by decide

/-- The gradient of the stream, the chain rule's form and the kernel's. -/
theorem dx_eq (m : (ℓ : Loc nD τ sig) → Buf (Elt Ideal) ℓ) (hp : Cert.Pre_NormBwdIdeal_finite_norm1 m) (c : Dev nD) (r j : Fin 2048) :
    (arr m c).dr r j + Rms.chain len ((arr m c).x r) ((arr m c).b r) j = (arr m c).dx r j := by
  obtain ⟨x, hx⟩ := reals_of (x := m ((c : Thread nD τ).loc main_arg0)) (hp c).1
  obtain ⟨d, hd⟩ := reals_of (x := m ((c : Thread nD τ).loc main_arg1)) (hp c).2.1
  obtain ⟨w, hw⟩ := reals_of (x := m ((c : Thread nD τ).loc main_arg2)) (hp c).2.2.1
  obtain ⟨s, hs⟩ := reals_of (x := m ((c : Thread nD τ).loc main_arg3)) (hp c).2.2.2
  exact (arr m c).dx_eq r j (fun j => hx _) (fun j => hd _) (fun j => hw _) (fun j => hs _)

/-- What the reference leaves is what the kernel leaves. -/
theorem results_eq (m : (ℓ : Loc nD τ sig) → Buf (Elt Ideal) ℓ) (hp : Cert.Pre_NormBwdIdeal_finite_norm1 m) (c : Dev nD)
    {x0 x1 x5 : (⟨S2048x2048, .f32⟩ : BufTy).Contents (Elt Ideal)} {x2 x3 x4 : (⟨S1x2048, .f32⟩ : BufTy).Contents (Elt Ideal)}
    (e : x0 = m ((c.tc : Thread nD τ).loc main_arg0) ∧ x1 = m ((c.tc : Thread nD τ).loc main_arg1)
      ∧ x2 = m ((c.tc : Thread nD τ).loc main_arg2) ∧ x3 = m ((c.tc : Thread nD τ).loc main_arg3)
      ∧ x4 = m ((c.tc : Thread nD τ).loc main_arg4) ∧ x5 = m ((c.tc : Thread nD τ).loc main_arg5)) :
    Cert.NormBwdRefIdeal.Read.val_main_v66 (F := Ideal) x0 x2 x3 x4 = (fun y : S2048x2048.Idx => ((arr m c).h (y 0) (y 1) : EReal))
    ∧ Cert.NormBwdRefIdeal.Read.val_main_v64 (F := Ideal) x0 x1 x2 x3 x5 = (fun y : S2048x2048.Idx => ((arr m c).dx (y 0) (y 1) : EReal))
    ∧ Cert.NormBwdRefIdeal.Read.val_main_v33 (F := Ideal) x1 = (fun y : S1x2048.Idx => ((arr m c).dsh (y 1) : EReal))
    ∧ Cert.NormBwdRefIdeal.Read.val_main_v40 (F := Ideal) x0 x1 x2 = (fun y : S1x2048.Idx => ((arr m c).dsc (y 1) : EReal))
    ∧ Cert.NormBwdRefIdeal.Read.val_main_v62 (F := Ideal) x0 x1 x3 = (fun y : S1x2048.Idx => ((arr m c).dw (y 1) : EReal)) := by
  obtain ⟨rfl, rfl, rfl, rfl, rfl, rfl⟩ := e
  have ix : ∀ x : S2048x2048.Idx, x = ix2 (x 0) (x 1) := fun x => by idx_ext
  have iw : ∀ x : S1x2048.Idx, x = ix2 0 (x 1) := fun x => by idx_ext
  refine ⟨funext fun x => ?_, funext fun x => ?_, funext fun x => ?_, funext fun x => ?_, funext fun x => ?_⟩
  · exact (congrArg _ (ix x)).trans (v66 _ _ _ _ _ _ (x 0) (x 1))
  · exact (congrArg _ (ix x)).trans ((v64 _ _ _ _ _ _ (x 0) (x 1)).trans (dx_eq m hp c (x 0) (x 1)))
  · exact (congrArg _ (iw x)).trans (v33 _ _ _ _ _ _ (x 1))
  · exact (congrArg _ (iw x)).trans (v40 _ _ _ _ _ _ (x 1))
  · exact (congrArg _ (iw x)).trans (v62 _ _ _ _ _ _ (x 1))

set_option maxRecDepth 16384 in
/-- The two programs' results agree, on every device. -/
theorem algebraic : Cert.algebraic_NormBwdIdeal_NormBwdRefIdeal_pre_finite_norm1 := by
  pair_intro
  · run_from (run_blocks m g)
  · run_from (Cert.NormBwdRefIdeal.Value.run (F := Ideal) m' g')
    · exact (Cert.NormBwdRefIdeal.Read.val_main_v66_eq (F := Ideal) _ _ _ _).trans (results_eq m hpre c ⟨rfl, rfl, rfl, rfl, rfl, rfl⟩).1
    · exact (Cert.NormBwdRefIdeal.Read.val_main_v64_eq m' c).trans (results_eq m hpre c (hagree c)).2.1
    · exact (Cert.NormBwdRefIdeal.Read.val_main_v33_eq (F := Ideal) _).trans (results_eq m hpre c ⟨rfl, rfl, rfl, rfl, rfl, rfl⟩).2.2.1
    · exact (Cert.NormBwdRefIdeal.Read.val_main_v40_eq (F := Ideal) _ _ _).trans (results_eq m hpre c ⟨rfl, rfl, rfl, rfl, rfl, rfl⟩).2.2.2.1
    · exact (Cert.NormBwdRefIdeal.Read.val_main_v62_eq (F := Ideal) _ _ _).trans (results_eq m hpre c ⟨rfl, rfl, rfl, rfl, rfl, rfl⟩).2.2.2.2

theorem frame : Cert.quiescent_NormBwd := fun m ρ _ => Cert.NormBwd.Gen.frame m ρ
theorem frame_ideal : Cert.quiescent_NormBwdIdeal := fun m ρ _ => Cert.NormBwdIdeal.Gen.frame m ρ
theorem frame_ideal_finite : Cert.quiescent_NormBwdIdeal_pre_finite_norm1 := fun m ρ _ => Cert.NormBwdIdeal.Gen.frame m ρ
theorem frame_ref : Cert.quiescent_NormBwdRefIdeal := fun m ρ _ =>
  θ_run_mono (Cert.NormBwdRefIdeal.Value.run (F := Ideal) m ρ) fun r h =>
    ⟨fun c => (h c).2.2.2.2.2, sem_eq_zero_of_no_sems (by decide) r.2⟩
theorem frame_ref_finite : Cert.quiescent_NormBwdRefIdeal_pre_finite_norm1 := fun m ρ _ => frame_ref m ρ trivial

end Cert.Proof.Norm1

end
-- ==== Proof.Norm2Block.lean ====
/-
  What one block of rows of the second norm, of its gradient and of the gate in front of it leaves in the blocks
  of the results.
-/
module

public import proofs.«01_k».proof.Proof.Gen.NormMixBwdIdeal.Frame
public import proofs.«01_k».proof.Proof.ModNorm
public import Idealize.ShloMosaic.Lib.Pointwise
public import Idealize.ShloMosaic.Lib.Pipeline.ValueKit

@[expose] public section

noncomputable section

open Idealize.ShloMosaic Idealize.ShloMosaic.TcCoe Idealize.SL.Sem Idealize.ShloMosaic.Pointwise

namespace Cert.Proof.Norm2

open Cert.NormMixBwdIdeal Cert.NormMixBwdIdeal.Gen Cert.Proof.Rv Cert.Proof.Mod

section Pay
variable (dh x dr mix : Vec Ideal S256x2048 .f32) (q : Vec Ideal S256x1 .f32) (g w sc sh v : Vec Ideal S1x2048 .f32)

theorem fwd1_apply (r : Fin 256) (j : Fin 2048) : (k0_pay1 (F := Ideal) x g mix (ix2 r j) : EReal) = x (ix2 r j) + g (ix2 0 j) * mix (ix2 r j) := by
  pointwise [k0_pay1]

theorem fwd2_apply (r : Fin 256) : (k0_pay2 (F := Ideal) x g mix (ix2 r 0) : EReal)
    = Rms.rs len fun k => x (ix2 r k) + g (ix2 0 k) * mix (ix2 r k) := by
  pointwise [k0_pay2, k0_pay1]
  rfl

theorem fwd3_apply (r : Fin 256) (j : Fin 2048) : (k0_pay3 (F := Ideal) x g mix w sc sh (ix2 r j) : EReal)
    = (x (ix2 r j) + g (ix2 0 j) * mix (ix2 r j)) * (Rms.rs len fun k => x (ix2 r k) + g (ix2 0 k) * mix (ix2 r k)) * w (ix2 0 j) * (one + sc (ix2 0 j))
      + sh (ix2 0 j) := by
  rw [← fwd2_apply]
  pointwise [k0_pay3, k0_pay1]

theorem pay4_apply (r : Fin 256) (j : Fin 2048) (hq : (q (ix2 r 0) : EReal) = Rms.rs len fun k => x (ix2 r k)) :
    (k1_pay4 (F := Ideal) dh q x w sc dr (ix2 r j) : EReal)
    = dr (ix2 r j) + Rms.grad len (fun k => x (ix2 r k)) (fun k => dh (ix2 r k) * w (ix2 0 k) * (one + sc (ix2 0 k))) j := by
  rw [Rms.grad, ← hq]
  pointwise [k1_pay4, k1_pay3, k1_pay2, k1_pay1]

theorem pay7_apply (r : Fin 256) (j : Fin 2048) :
    (k1_pay7 (F := Ideal) dh q x w sc dr g (ix2 r j) : EReal) = k1_pay4 (F := Ideal) dh q x w sc dr (ix2 r j) * g (ix2 0 j) := by
  pointwise [k1_pay7]

theorem pay12_apply (j : Fin 2048) : (k1_pay12 (F := Ideal) dh v (ix2 0 j) : EReal) = v (ix2 0 j) + ∑ r : Fin 256, dh (ix2 r j) := by
  pointwise [k1_pay12]

theorem pay13_apply (j : Fin 2048) : (k1_pay13 (F := Ideal) (k1_pay5 (F := Ideal) dh q x w) v (ix2 0 j) : EReal)
    = v (ix2 0 j) + ∑ r : Fin 256, dh (ix2 r j) * (x (ix2 r j) * q (ix2 r 0)) * w (ix2 0 j) := by
  pointwise [k1_pay13, k1_pay5, k1_pay2, k1_pay1]

theorem pay14_apply (j : Fin 2048) : (k1_pay14 (F := Ideal) (k1_pay6 (F := Ideal) dh q x sc) v (ix2 0 j) : EReal)
    = v (ix2 0 j) + ∑ r : Fin 256, dh (ix2 r j) * (one + sc (ix2 0 j)) * (x (ix2 r j) * q (ix2 r 0)) := by
  pointwise [k1_pay14, k1_pay6, k1_pay3, k1_pay2, k1_pay1]

theorem pay15_apply (d : Vec Ideal S256x2048 .f32) (j : Fin 2048) : (k1_pay15 (F := Ideal) d mix v (ix2 0 j) : EReal)
    = v (ix2 0 j) + ∑ r : Fin 256, d (ix2 r j) * mix (ix2 r j) := by
  pointwise [k1_pay15]

end Pay

section Outs
variable (c : Dev nD) (i : grid1.Coords) (arg1 : Memref sig .tc .vmem S256x2048 .f32) (harg1 : arg1.IsWhole)
  (arg2 : Memref sig .tc .vmem S256x2048 .f32) (harg2 : arg2.IsWhole)
  (arg3 : Memref sig .tc .vmem S256x1 .f32) (harg3 : arg3.IsWhole)
  (arg4 : Memref sig .tc .vmem S1x2048 .f32) (harg4 : arg4.IsWhole)
  (arg5 : Memref sig .tc .vmem S1x2048 .f32) (harg5 : arg5.IsWhole)
  (arg6 : Memref sig .tc .vmem S256x2048 .f32) (harg6 : arg6.IsWhole)
  (arg7 : Memref sig .tc .vmem S256x2048 .f32) (harg7 : arg7.IsWhole)
  (arg8 : Memref sig .tc .vmem S1x2048 .f32) (harg8 : arg8.IsWhole)
  (arg9 : Memref sig .tc .vmem S256x2048 .f32) (harg9 : arg9.IsWhole)
  (arg10 : Memref sig .tc .vmem S256x2048 .bf16) (harg10 : arg10.IsWhole)
  (arg11 : Memref sig .tc .vmem S1x2048 .f32) (harg11 : arg11.IsWhole)
  (arg12 : Memref sig .tc .vmem S1x2048 .f32) (harg12 : arg12.IsWhole)
  (arg13 : Memref sig .tc .vmem S1x2048 .f32) (harg13 : arg13.IsWhole)
  (arg14 : Memref sig .tc .vmem S1x2048 .f32) (harg14 : arg14.IsWhole)
  (x0 x1 : Vec Ideal S256x2048 .f32) (x2 : Vec Ideal S256x1 .f32) (x3 x4 : Vec Ideal S1x2048 .f32) (x5 x6 : Vec Ideal S256x2048 .f32)
  (x7 : Vec Ideal S1x2048 .f32) (xo10 xo11 xo12 xo13 : Vec Ideal S1x2048 .f32)

theorem out_6 (y0 y1 : Vec Ideal S256x2048 .f32) (y2 y3 y4 y5 : Vec Ideal S1x2048 .f32) : out0_6 (F := Ideal) y0 y1 y2 y3 y4 y5 = k0_pay1 y0 y2 y1 := by
  frame_out
theorem out_7 (y0 y1 : Vec Ideal S256x2048 .f32) (y2 y3 y4 y5 : Vec Ideal S1x2048 .f32) : out0_7 (F := Ideal) y0 y1 y2 y3 y4 y5 = k0_pay3 y0 y2 y1 y3 y4 y5 := by
  frame_out
theorem out_8 (y0 y1 : Vec Ideal S256x2048 .f32) (y2 y3 y4 y5 : Vec Ideal S1x2048 .f32) : out0_8 (F := Ideal) y0 y1 y2 y3 y4 y5 = k0_pay2 y0 y2 y1 := by
  frame_out
theorem out_A_8 (hc : cond1_0 i) : out1_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
    = k1_pay4 x0 x2 x1 x3 x4 x5 := by
  frame_out
theorem out_A_9 (hc : cond1_0 i) : out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
    = k1_pay7 x0 x2 x1 x3 x4 x5 x7 := by
  frame_out
theorem out_A_10 (hc : cond1_0 i) : out1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
    = k1_pay12 x0 (k1_pay8 (F := Ideal)) := by
  frame_out
theorem out_A_11 (hc : cond1_0 i) : out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
    = k1_pay13 (k1_pay5 x0 x2 x1 x3) (k1_pay9 (F := Ideal)) := by
  frame_out
theorem out_A_12 (hc : cond1_0 i) : out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
    = k1_pay14 (k1_pay6 x0 x2 x1 x4) (k1_pay10 (F := Ideal)) := by
  frame_out
theorem out_A_13 (hc : cond1_0 i) : out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
    = k1_pay15 (k1_pay4 x0 x2 x1 x3 x4 x5) x6 (k1_pay11 (F := Ideal)) := by
  frame_out
theorem out_B_8 (hc : ¬cond1_0 i) : out1_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo10 xo11 xo12 xo13
    = k1_pay4 x0 x2 x1 x3 x4 x5 := by
  frame_out
theorem out_B_9 (hc : ¬cond1_0 i) : out1_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo10 xo11 xo12 xo13
    = k1_pay7 x0 x2 x1 x3 x4 x5 x7 := by
  frame_out
theorem out_B_10 (hc : ¬cond1_0 i) : out1_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo10 xo11 xo12 xo13
    = k1_pay12 x0 xo10 := by
  frame_out
theorem out_B_11 (hc : ¬cond1_0 i) : out1_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo10 xo11 xo12 xo13
    = k1_pay13 (k1_pay5 x0 x2 x1 x3) xo11 := by
  frame_out
theorem out_B_12 (hc : ¬cond1_0 i) : out1_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo10 xo11 xo12 xo13
    = k1_pay14 (k1_pay6 x0 x2 x1 x4) xo12 := by
  frame_out
theorem out_B_13 (hc : ¬cond1_0 i) : out1_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo10 xo11 xo12 xo13
    = k1_pay15 (k1_pay4 x0 x2 x1 x3 x4 x5) x6 xo13 := by
  frame_out

end Outs

end Cert.Proof.Norm2

end
-- ==== Proof.Norm2Arrays.lean ====
/-
  The results of the second norm's two calls, as functions of what the calls read.
-/
module

public import proofs.«01_k».proof.Proof.Norm2Block

@[expose] public section

noncomputable section

open Idealize.ShloMosaic Idealize.ShloMosaic.TcCoe Idealize.SL.Sem Idealize.ShloMosaic.Pointwise

namespace Cert.Proof.Norm2

open Cert.NormMixBwdIdeal Cert.NormMixBwdIdeal.Gen Cert.Proof.Rv Cert.Proof.Mod

/-- A row of a block, in the array. -/
def at0 (t : Fin cfg0.N) (r : Fin 256) : Fin 2048 := ⟨t.val * 256 + r.val, by have := t.isLt; have : cfg0.N = 8 := N_0; omega⟩
def at1 (t : Fin cfg1.N) (r : Fin 256) : Fin 2048 := ⟨t.val * 256 + r.val, by have := t.isLt; have : cfg1.N = 8 := N_1; omega⟩

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![t.val, 0] := (by decide +kernel : ∀ t : Fin grid1.N, _)
theorem idx1_9 : ∀ t : Fin cfg1.N, win1_9.index t = ![t.val, 0] := (by decide +kernel : ∀ t : Fin grid1.N, _)
theorem idx1_10 : ∀ t : Fin cfg1.N, win1_10.index t = ![0, 0] := (by decide +kernel : ∀ t : Fin grid1.N, _)
theorem idx1_11 : ∀ t : Fin cfg1.N, win1_11.index t = ![0, 0] := (by decide +kernel : ∀ t : Fin grid1.N, _)
theorem idx1_12 : ∀ t : Fin cfg1.N, win1_12.index t = ![0, 0] := (by decide +kernel : ∀ t : Fin grid1.N, _)
theorem idx1_13 : ∀ t : Fin cfg1.N, win1_13.index t = ![0, 0] := (by decide +kernel : ∀ t : Fin grid1.N, _)

/-- What the calls read: the stream, the branch added to it and its gate, the norm's weight and its modulation. -/
structure Mixed where
  x : Fin 2048 → Fin 2048 → EReal
  mix : Fin 2048 → Fin 2048 → EReal
  g : Fin 2048 → EReal
  w : Fin 2048 → EReal
  sc : Fin 2048 → EReal
  sh : Fin 2048 → EReal
  dh : Fin 2048 → Fin 2048 → EReal
  dr : Fin 2048 → Fin 2048 → EReal

namespace Mixed
variable (a : Mixed)
/-- The stream with the gated branch, normed. -/
def reads : Reads where
  x r j := a.x r j + a.g j * a.mix r j
  w := a.w
  sc := a.sc
  sh := a.sh
  dh := a.dh
  dr := a.dr
/-- The gradients of the branch and of its gate. -/
def dmix (r j : Fin 2048) : EReal := a.reads.dx r j * a.g j
def dg (j : Fin 2048) : EReal := ∑ r, a.reads.dx r j * a.mix r j
end Mixed

section First
variable (V : (c : Dev nD) → (b : Ref sig .tc) → Buf (Elt Ideal) ((c : Thread nD τ).loc b)) (c : Dev nD) (a : Mixed)

/-- What the first call finds. -/
structure In0 : Prop where
  x r j : (V c main_arg0 (ix2 r j) : EReal) = a.x r j
  mix r j : (V c main_arg1 (ix2 r j) : EReal) = a.mix r j
  g j : (V c main_arg2 (ix2 0 j) : EReal) = a.g j
  w j : (V c main_arg4 (ix2 0 j) : EReal) = a.w j
  sc j : (V c main_arg5 (ix2 0 j) : EReal) = a.sc j
  sh j : (V c main_arg6 (ix2 0 j) : EReal) = a.sh j

variable {V c a} (i : In0 V c a)
include i

theorem f0 (t : Fin cfg0.N) (r : Fin 256) (j : Fin 2048) : (iblk0 V c 0 t (ix2 r j) : EReal) = a.x (at0 t r) j := by
  rw [← i.x]
  blk_simp [iblk0]
  exact congrArg _ (by blk_ext [idx0_0 t, at0])
theorem f1 (t : Fin cfg0.N) (r : Fin 256) (j : Fin 2048) : (iblk0 V c 1 t (ix2 r j) : EReal) = a.mix (at0 t r) j := by
  rw [← i.mix]
  blk_simp [iblk0]
  exact congrArg _ (by blk_ext [idx0_1 t, at0])
theorem f2 (t : Fin cfg0.N) (j : Fin 2048) : (iblk0 V c 2 t (ix2 0 j) : EReal) = a.g j := by
  rw [← i.g]
  blk_simp [iblk0]
  exact congrArg _ (by blk_ext [idx0_2 t])
theorem f3 (t : Fin cfg0.N) (j : Fin 2048) : (iblk0 V c 3 t (ix2 0 j) : EReal) = a.w j := by
  rw [← i.w]
  blk_simp [iblk0]
  exact congrArg _ (by blk_ext [idx0_3 t])
theorem f4 (t : Fin cfg0.N) (j : Fin 2048) : (iblk0 V c 4 t (ix2 0 j) : EReal) = a.sc j := by
  rw [← i.sc]
  blk_simp [iblk0]
  exact congrArg _ (by blk_ext [idx0_4 t])
theorem f5 (t : Fin cfg0.N) (j : Fin 2048) : (iblk0 V c 5 t (ix2 0 j) : EReal) = a.sh j := by
  rw [← i.sh]
  blk_simp [iblk0]
  exact congrArg _ (by blk_ext [idx0_5 t])

theorem final_x : (dat0 V c).arrAt 6 cfg0.N = fun y : S2048x2048.Idx => a.reads.x (y 0) (y 1) := by
  refine (dat0 V c).arrAt_eq_of_covers 6 _ (by decide +kernel) fun t hf y => ?_
  blk_simp
  rw [after0_6, out_6]
  obtain ⟨r, j, rfl⟩ : ∃ (r : Fin 256) (j : Fin 2048), y = ix2 r j := ⟨y 0, y 1, by idx_ext⟩
  have e : ((cfg0.win 6).blk t).view.emb (ix2 r j) = ix2 (at0 t r) j := by blk_ext [idx0_6 t, at0]
  rw [e, fwd1_apply]
  simp only [f0 i, f1 i, f2 i]
  rfl

theorem final_h : (dat0 V c).arrAt 7 cfg0.N = fun y : S2048x2048.Idx => a.reads.h (y 0) (y 1) := by
  refine (dat0 V c).arrAt_eq_of_covers 7 _ (by decide +kernel) fun t hf y => ?_
  blk_simp
  rw [after0_7, out_7]
  obtain ⟨r, j, rfl⟩ : ∃ (r : Fin 256) (j : Fin 2048), y = ix2 r j := ⟨y 0, y 1, by idx_ext⟩
  have e : ((cfg0.win 7).blk t).view.emb (ix2 r j) = ix2 (at0 t r) j := by blk_ext [idx0_7 t, at0]
  rw [e, fwd3_apply]
  simp only [f0 i, f1 i, f2 i, f3 i, f4 i, f5 i]
  rfl

theorem final_q : (dat0 V c).arrAt 8 cfg0.N = fun y : S2048x1.Idx => a.reads.q (y 0) := by
  refine (dat0 V c).arrAt_eq_of_covers 8 _ (by decide +kernel) fun t hf y => ?_
  blk_simp
  rw [after0_8, out_8]
  obtain ⟨r, rfl⟩ : ∃ (r : Fin 256), y = ix2 r 0 := ⟨y 0, by idx_ext⟩
  have e : ((cfg0.win 8).blk t).view.emb (ix2 r 0) = ix2 (at0 t r) 0 := by blk_ext [idx0_8 t, at0]
  rw [e, fwd2_apply]
  simp only [f0 i, f1 i, f2 i]
  rfl

end First

section Second
variable (V : (c : Dev nD) → (b : Ref sig .tc) → Buf (Elt Ideal) ((c : Thread nD τ).loc b)) (c : Dev nD) (a : Mixed)

/-- What the second call finds. -/
structure In1 : Prop where
  dh r j : (V c main_arg3 (ix2 r j) : EReal) = a.dh r j
  x r j : (V c main_v0_0 (ix2 r j) : EReal) = a.reads.x r j
  q r : (V c main_v0_2 (ix2 r 0) : EReal) = a.reads.q r
  w j : (V c main_arg4 (ix2 0 j) : EReal) = a.w j
  sc j : (V c main_arg5 (ix2 0 j) : EReal) = a.sc j
  dr r j : (V c main_arg7 (ix2 r j) : EReal) = a.dr r j
  mix r j : (V c main_arg1 (ix2 r j) : EReal) = a.mix r j
  g j : (V c main_arg2 (ix2 0 j) : EReal) = a.g j

variable {V c a} (i : In1 V c a)
include i

theorem g0 (t : Fin cfg1.N) (r : Fin 256) (j : Fin 2048) : (iblk1 V c 0 t (ix2 r j) : EReal) = a.dh (at1 t r) j := by
  rw [← i.dh]
  blk_simp [iblk1]
  exact congrArg _ (by blk_ext [idx1_0 t, at1])
theorem g1 (t : Fin cfg1.N) (r : Fin 256) (j : Fin 2048) : (iblk1 V c 1 t (ix2 r j) : EReal) = a.reads.x (at1 t r) j := by
  rw [← i.x]
  blk_simp [iblk1]
  exact congrArg _ (by blk_ext [idx1_1 t, at1])
theorem g2 (t : Fin cfg1.N) (r : Fin 256) : (iblk1 V c 2 t (ix2 r 0) : EReal) = a.reads.q (at1 t r) := by
  rw [← i.q]
  blk_simp [iblk1]
  exact congrArg _ (by blk_ext [idx1_2 t, at1])
theorem g3 (t : Fin cfg1.N) (j : Fin 2048) : (iblk1 V c 3 t (ix2 0 j) : EReal) = a.w j := by
  rw [← i.w]
  blk_simp [iblk1]
  exact congrArg _ (by blk_ext [idx1_3 t])
theorem g4 (t : Fin cfg1.N) (j : Fin 2048) : (iblk1 V c 4 t (ix2 0 j) : EReal) = a.sc j := by
  rw [← i.sc]
  blk_simp [iblk1]
  exact congrArg _ (by blk_ext [idx1_4 t])
theorem g5 (t : Fin cfg1.N) (r : Fin 256) (j : Fin 2048) : (iblk1 V c 5 t (ix2 r j) : EReal) = a.dr (at1 t r) j := by
  rw [← i.dr]
  blk_simp [iblk1]
  exact congrArg _ (by blk_ext [idx1_5 t, at1])
theorem g6 (t : Fin cfg1.N) (r : Fin 256) (j : Fin 2048) : (iblk1 V c 6 t (ix2 r j) : EReal) = a.mix (at1 t r) j := by
  rw [← i.mix]
  blk_simp [iblk1]
  exact congrArg _ (by blk_ext [idx1_6 t, at1])
theorem g7 (t : Fin cfg1.N) (j : Fin 2048) : (iblk1 V c 7 t (ix2 0 j) : EReal) = a.g j := by
  rw [← i.g]
  blk_simp [iblk1]
  exact congrArg _ (by blk_ext [idx1_7 t])

theorem dx_at (t : Fin cfg1.N) (r : Fin 256) (j : Fin 2048) : (k1_pay4 (F := Ideal) (iblk1 V c 0 t) (iblk1 V c 2 t) (iblk1 V c 1 t) (iblk1 V c 3 t) (iblk1 V c 4 t) (iblk1 V c 5 t) (ix2 r j) : EReal) = a.reads.dx (at1 t r) j := by
  have hq : (iblk1 V c 2 t (ix2 r 0) : EReal) = Rms.rs len fun k => iblk1 V c 1 t (ix2 r k) := by
    simp only [g1 i, g2 i]
    rfl
  rw [pay4_apply _ _ _ _ _ _ _ _ hq]
  simp only [g0 i, g1 i, g3 i, g4 i, g5 i]
  rfl
theorem dmix_at (t : Fin cfg1.N) (r : Fin 256) (j : Fin 2048) : (k1_pay7 (F := Ideal) (iblk1 V c 0 t) (iblk1 V c 2 t) (iblk1 V c 1 t) (iblk1 V c 3 t) (iblk1 V c 4 t) (iblk1 V c 5 t) (iblk1 V c 7 t) (ix2 r j) : EReal) = a.dmix (at1 t r) j := by
  rw [pay7_apply, dx_at i, g7 i]
  rfl
theorem once (t : Fin cfg1.N) (r : Fin 256) (j : Fin 2048) : ((outsAt1 V c t.val t.isLt).1 (ix2 r j) : EReal) = a.reads.dx (at1 t r) j := by
  by_cases h : t.val % 8 = 0
  · rw [outsAt1_A V c t h]
    dsimp only
    rw [out_A_8, dx_at i]
  · rw [outsAt1_B V c t h]
    dsimp only
    rw [out_B_8, dx_at i]
theorem gated (t : Fin cfg1.N) (r : Fin 256) (j : Fin 2048) : ((outsAt1 V c t.val t.isLt).2.1 (ix2 r j) : EReal) = a.dmix (at1 t r) j := by
  by_cases h : t.val % 8 = 0
  · rw [outsAt1_A V c t h]
    dsimp only
    rw [out_A_9, dmix_at i]
  · rw [outsAt1_B V c t h]
    dsimp only
    rw [out_B_9, dmix_at i]

theorem sum_sh (t : Fin cfg1.N) (v : Vec Ideal S1x2048 .f32) (j : Fin 2048) :
    (k1_pay12 (F := Ideal) (iblk1 V c 0 t) v (ix2 0 j) : EReal) = v (ix2 0 j) + ∑ r, a.dh (at1 t r) j := by
  rw [pay12_apply]
  simp only [g0 i]
theorem sum_sc (t : Fin cfg1.N) (v : Vec Ideal S1x2048 .f32) (j : Fin 2048) :
    (k1_pay13 (F := Ideal) (k1_pay5 (F := Ideal) (iblk1 V c 0 t) (iblk1 V c 2 t) (iblk1 V c 1 t) (iblk1 V c 3 t)) v (ix2 0 j) : EReal) = v (ix2 0 j) + ∑ r, a.dh (at1 t r) j * a.reads.n (at1 t r) j * a.w j := by
  rw [pay13_apply]
  simp only [g0 i, g1 i, g2 i, g3 i]
  rfl
theorem sum_w (t : Fin cfg1.N) (v : Vec Ideal S1x2048 .f32) (j : Fin 2048) :
    (k1_pay14 (F := Ideal) (k1_pay6 (F := Ideal) (iblk1 V c 0 t) (iblk1 V c 2 t) (iblk1 V c 1 t) (iblk1 V c 4 t)) v (ix2 0 j) : EReal) = v (ix2 0 j) + ∑ r, a.dh (at1 t r) j * (one + a.sc j) * a.reads.n (at1 t r) j := by
  rw [pay14_apply]
  simp only [g0 i, g1 i, g2 i, g4 i]
  rfl
theorem sum_g (t : Fin cfg1.N) (v : Vec Ideal S1x2048 .f32) (j : Fin 2048) :
    (k1_pay15 (F := Ideal) (k1_pay4 (F := Ideal) (iblk1 V c 0 t) (iblk1 V c 2 t) (iblk1 V c 1 t) (iblk1 V c 3 t) (iblk1 V c 4 t) (iblk1 V c 5 t)) (iblk1 V c 6 t) v (ix2 0 j) : EReal) = v (ix2 0 j) + ∑ r, a.reads.dx (at1 t r) j * a.mix (at1 t r) j := by
  rw [pay15_apply]
  simp only [dx_at i, g6 i]

theorem last_dsh (t : Fin cfg1.N) (ht : t.val + 1 = cfg1.N) (j : Fin 2048) : ((outsAt1 V c t.val t.isLt).2.2.1 (ix2 0 j) : EReal) = a.reads.dsh j := by
  refine (Pipeline.eq_sum_fin_of_reset_step_last (N := cfg1.N) (fun n h => ((outsAt1 V c n h).2.2.1 (ix2 0 j) : EReal)) 8 0
    (fun t => ∑ r, a.dh (at1 t r) j) (fun t h => ?_) (fun t h => ?_) (by decide) t ht).trans ?_
  · rw [outsAt1_A V c t h]
    dsimp only
    rw [out_A_10, sum_sh i]
    congr 1
    pointwise [k1_pay8]
  · rw [outsAt1_B V c t h]
    dsimp only
    rw [out_B_10, sum_sh i]
  · rw [zero_add]
    exact Fin.sum_mul_add_fin 8 256 fun r : Fin 2048 => a.dh r j

theorem last_dsc (t : Fin cfg1.N) (ht : t.val + 1 = cfg1.N) (j : Fin 2048) : ((outsAt1 V c t.val t.isLt).2.2.2.1 (ix2 0 j) : EReal) = a.reads.dsc j := by
  refine (Pipeline.eq_sum_fin_of_reset_step_last (N := cfg1.N) (fun n h => ((outsAt1 V c n h).2.2.2.1 (ix2 0 j) : EReal)) 8 0
    (fun t => ∑ r, a.dh (at1 t r) j * a.reads.n (at1 t r) j * a.w j) (fun t h => ?_) (fun t h => ?_) (by decide) t ht).trans ?_
  · rw [outsAt1_A V c t h]
    dsimp only
    rw [out_A_11, sum_sc i]
    congr 1
    pointwise [k1_pay9]
  · rw [outsAt1_B V c t h]
    dsimp only
    rw [out_B_11, sum_sc i]
  · rw [zero_add]
    exact Fin.sum_mul_add_fin 8 256 fun r : Fin 2048 => a.dh r j * a.reads.n r j * a.w j

theorem last_dw (t : Fin cfg1.N) (ht : t.val + 1 = cfg1.N) (j : Fin 2048) : ((outsAt1 V c t.val t.isLt).2.2.2.2.1 (ix2 0 j) : EReal) = a.reads.dw j := by
  refine (Pipeline.eq_sum_fin_of_reset_step_last (N := cfg1.N) (fun n h => ((outsAt1 V c n h).2.2.2.2.1 (ix2 0 j) : EReal)) 8 0
    (fun t => ∑ r, a.dh (at1 t r) j * (one + a.sc j) * a.reads.n (at1 t r) j) (fun t h => ?_) (fun t h => ?_) (by decide) t ht).trans ?_
  · rw [outsAt1_A V c t h]
    dsimp only
    rw [out_A_12, sum_w i]
    congr 1
    pointwise [k1_pay10]
  · rw [outsAt1_B V c t h]
    dsimp only
    rw [out_B_12, sum_w i]
  · rw [zero_add]
    exact Fin.sum_mul_add_fin 8 256 fun r : Fin 2048 => a.dh r j * (one + a.sc j) * a.reads.n r j

theorem last_dg (t : Fin cfg1.N) (ht : t.val + 1 = cfg1.N) (j : Fin 2048) : ((outsAt1 V c t.val t.isLt).2.2.2.2.2 (ix2 0 j) : EReal) = a.dg j := by
  refine (Pipeline.eq_sum_fin_of_reset_step_last (N := cfg1.N) (fun n h => ((outsAt1 V c n h).2.2.2.2.2 (ix2 0 j) : EReal)) 8 0
    (fun t => ∑ r, a.reads.dx (at1 t r) j * a.mix (at1 t r) j) (fun t h => ?_) (fun t h => ?_) (by decide) t ht).trans ?_
  · rw [outsAt1_A V c t h]
    dsimp only
    rw [out_A_13, sum_g i]
    congr 1
    pointwise [k1_pay11]
  · rw [outsAt1_B V c t h]
    dsimp only
    rw [out_B_13, sum_g i]
  · rw [zero_add]
    exact Fin.sum_mul_add_fin 8 256 fun r : Fin 2048 => a.reads.dx r j * a.mix r j

theorem final_dx : (dat1 V c).arrAt 8 cfg1.N = fun y : S2048x2048.Idx => a.reads.dx (y 0) (y 1) := by
  refine (dat1 V c).arrAt_eq_of_covers 8 _ (by decide +kernel) fun t hf y => ?_
  blk_simp
  rw [after1_8]
  obtain ⟨r, j, rfl⟩ : ∃ (r : Fin 256) (j : Fin 2048), y = ix2 r j := ⟨y 0, y 1, by idx_ext⟩
  have e : ((cfg1.win 8).blk t).view.emb (ix2 r j) = ix2 (at1 t r) j := by blk_ext [idx1_8 t, at1]
  rw [e]
  exact once i t r j

theorem final_dmix : (dat1 V c).arrAt 9 cfg1.N = fun y : S2048x2048.Idx => a.dmix (y 0) (y 1) := by
  refine (dat1 V c).arrAt_eq_of_covers 9 _ (by decide +kernel) fun t hf y => ?_
  blk_simp
  rw [after1_9]
  obtain ⟨r, j, rfl⟩ : ∃ (r : Fin 256) (j : Fin 2048), y = ix2 r j := ⟨y 0, y 1, by idx_ext⟩
  have e : ((cfg1.win 9).blk t).view.emb (ix2 r j) = ix2 (at1 t r) j := by blk_ext [idx1_9 t, at1]
  rw [e]
  exact gated i t r j

theorem final_dsh : (dat1 V c).arrAt 10 cfg1.N = fun y : S1x2048.Idx => a.reads.dsh (y 1) := by
  refine (dat1 V c).arrAt_eq_of_covers 10 _ (by decide +kernel) fun t hf y => ?_
  have ht : t.val + 1 = cfg1.N := by have := (flush1_10 t).mp hf; have := t.isLt; have : cfg1.N = 8 := N_1; omega
  blk_simp
  rw [after1_10]
  obtain ⟨j, rfl⟩ : ∃ (j : Fin 2048), y = ix2 0 j := ⟨y 1, by idx_ext⟩
  have e : ((cfg1.win 10).blk t).view.emb (ix2 0 j) = ix2 0 j := by blk_ext [idx1_10 t]
  rw [e]
  exact last_dsh i t ht j

theorem final_dsc : (dat1 V c).arrAt 11 cfg1.N = fun y : S1x2048.Idx => a.reads.dsc (y 1) := by
  refine (dat1 V c).arrAt_eq_of_covers 11 _ (by decide +kernel) fun t hf y => ?_
  have ht : t.val + 1 = cfg1.N := by have := (flush1_11 t).mp hf; have := t.isLt; have : cfg1.N = 8 := N_1; omega
  blk_simp
  rw [after1_11]
  obtain ⟨j, rfl⟩ : ∃ (j : Fin 2048), y = ix2 0 j := ⟨y 1, by idx_ext⟩
  have e : ((cfg1.win 11).blk t).view.emb (ix2 0 j) = ix2 0 j := by blk_ext [idx1_11 t]
  rw [e]
  exact last_dsc i t ht j

theorem final_dw : (dat1 V c).arrAt 12 cfg1.N = fun y : S1x2048.Idx => a.reads.dw (y 1) := by
  refine (dat1 V c).arrAt_eq_of_covers 12 _ (by decide +kernel) fun t hf y => ?_
  have ht : t.val + 1 = cfg1.N := by have := (flush1_12 t).mp hf; have := t.isLt; have : cfg1.N = 8 := N_1; omega
  blk_simp
  rw [after1_12]
  obtain ⟨j, rfl⟩ : ∃ (j : Fin 2048), y = ix2 0 j := ⟨y 1, by idx_ext⟩
  have e : ((cfg1.win 12).blk t).view.emb (ix2 0 j) = ix2 0 j := by blk_ext [idx1_12 t]
  rw [e]
  exact last_dw i t ht j

theorem final_dg : (dat1 V c).arrAt 13 cfg1.N = fun y : S1x2048.Idx => a.dg (y 1) := by
  refine (dat1 V c).arrAt_eq_of_covers 13 _ (by decide +kernel) fun t hf y => ?_
  have ht : t.val + 1 = cfg1.N := by have := (flush1_13 t).mp hf; have := t.isLt; have : cfg1.N = 8 := N_1; omega
  blk_simp
  rw [after1_13]
  obtain ⟨j, rfl⟩ : ∃ (j : Fin 2048), y = ix2 0 j := ⟨y 1, by idx_ext⟩
  have e : ((cfg1.win 13).blk t).view.emb (ix2 0 j) = ix2 0 j := by blk_ext [idx1_13 t]
  rw [e]
  exact last_dg i t ht j

end Second

end Cert.Proof.Norm2

end
-- ==== Proof.Norm2Run.lean ====
/-
  The two calls of the second norm run one after the other: what the program's results hold when it ends, and that it ends
  at all. The launch is the one the frame is proved by; kept here is what every array holds.
-/
module

public import proofs.«01_k».proof.Proof.Norm2Arrays

@[expose] public section

noncomputable section

namespace Cert.Proof.Norm2

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormMixBwdIdeal Cert.NormMixBwdIdeal.Gen Cert.Proof.Rv Cert.Proof.Mod

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer of the core ends at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- The arguments, entry by entry. -/
def arr (c : Dev nD) : Mixed where
  x r j := m ((c : Thread nD τ).loc main_arg0) (ix2 r j)
  mix r j := m ((c : Thread nD τ).loc main_arg1) (ix2 r j)
  g j := m ((c : Thread nD τ).loc main_arg2) (ix2 0 j)
  w j := m ((c : Thread nD τ).loc main_arg4) (ix2 0 j)
  sc j := m ((c : Thread nD τ).loc main_arg5) (ix2 0 j)
  sh j := m ((c : Thread nD τ).loc main_arg6) (ix2 0 j)
  dh r j := m ((c : Thread nD τ).loc main_arg3) (ix2 r j)
  dr r j := m ((c : Thread nD τ).loc main_arg7) (ix2 r j)

theorem in0 (c : Dev nD) : In0 (V0 m ρ) c (arr m c) where
  x _ _ := rfl
  mix _ _ := rfl
  g _ := rfl
  w _ := rfl
  sc _ := rfl
  sh _ := rfl

theorem in1 (c : Dev nD) : In1 (V1 m ρ) c (arr m c) where
  dh r j := congrFun (W1_args m ρ c main_arg3 (by decide)) (ix2 r j)
  x r j := congrFun ((W1_arr m ρ c 6).trans (final_x (in0 m ρ c))) (ix2 r j)
  q r := congrFun ((W1_arr m ρ c 8).trans (final_q (in0 m ρ c))) (ix2 r 0)
  w j := congrFun (W1_args m ρ c main_arg4 (by decide)) (ix2 0 j)
  sc j := congrFun (W1_args m ρ c main_arg5 (by decide)) (ix2 0 j)
  dr r j := congrFun (W1_args m ρ c main_arg7 (by decide)) (ix2 r j)
  mix r j := congrFun (W1_args m ρ c main_arg1 (by decide)) (ix2 r j)
  g j := congrFun (W1_args m ρ c main_arg2 (by decide)) (ix2 0 j)

/-- The eight results and the eight arguments when the program ends. -/
theorem run_blocks : θ_run defs (onTc (τ := τ) (main (F := Ideal))) ⟨m, fun _ => 0, ρ⟩ (fun r => ∀ c : Dev nD,
      r.2.mem ((c.tc : Thread nD τ).loc main_v0_0) = (fun y : S2048x2048.Idx => ((arr m c).reads.x (y 0) (y 1) : EReal))
      ∧ r.2.mem ((c.tc : Thread nD τ).loc main_v0_1) = (fun y : S2048x2048.Idx => ((arr m c).reads.h (y 0) (y 1) : EReal))
      ∧ r.2.mem ((c.tc : Thread nD τ).loc main_v1_0) = (fun y : S2048x2048.Idx => ((arr m c).reads.dx (y 0) (y 1) : EReal))
      ∧ r.2.mem ((c.tc : Thread nD τ).loc main_v1_1) = (fun y : S2048x2048.Idx => ((arr m c).dmix (y 0) (y 1) : EReal))
      ∧ r.2.mem ((c.tc : Thread nD τ).loc main_v1_2) = (fun y : S1x2048.Idx => ((arr m c).reads.dsh (y 1) : EReal))
      ∧ r.2.mem ((c.tc : Thread nD τ).loc main_v1_3) = (fun y : S1x2048.Idx => ((arr m c).reads.dsc (y 1) : EReal))
      ∧ r.2.mem ((c.tc : Thread nD τ).loc main_v1_4) = (fun y : S1x2048.Idx => ((arr m c).reads.dw (y 1) : EReal))
      ∧ r.2.mem ((c.tc : Thread nD τ).loc main_v1_5) = (fun y : S1x2048.Idx => ((arr m c).dg (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v0_0 (by decide))).trans ((W2_of m ρ c main_v0_0 (by decide)).trans ((W1_arr m ρ c 6).trans (final_x (in0 m ρ c)))),
     (h c _ (mem_uc main_v0_1 (by decide))).trans ((W2_of m ρ c main_v0_1 (by decide)).trans ((W1_arr m ρ c 7).trans (final_h (in0 m ρ c)))),
     (h c _ (mem_uc main_v1_0 (by decide))).trans ((W2_arr m ρ c 8).trans (final_dx (in1 m ρ c))),
     (h c _ (mem_uc main_v1_1 (by decide))).trans ((W2_arr m ρ c 9).trans (final_dmix (in1 m ρ c))),
     (h c _ (mem_uc main_v1_2 (by decide))).trans ((W2_arr m ρ c 10).trans (final_dsh (in1 m ρ c))),
     (h c _ (mem_uc main_v1_3 (by decide))).trans ((W2_arr m ρ c 11).trans (final_dsc (in1 m ρ c))),
     (h c _ (mem_uc main_v1_4 (by decide))).trans ((W2_arr m ρ c 12).trans (final_dw (in1 m ρ c))),
     (h c _ (mem_uc main_v1_5 (by decide))).trans ((W2_arr m ρ c 13).trans (final_dg (in1 m ρ c))),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c),
     (h c _ (mem_uc main_arg6 (by decide))).trans (W2_main_arg6 m ρ c),
     (h c _ (mem_uc main_arg7 (by decide))).trans (W2_main_arg7 m ρ c)⟩) (run_all m ρ)

end Cert.Proof.Norm2

end
-- ==== Proof.Norm2Ref.lean ====
/-
  What the reference computes of the second norm, of its gradient and of the gate in front of it.
-/
module

public import proofs.«01_k».proof.Proof.Norm2Arrays
public import proofs.«01_k».proof.Proof.Gen.NormMixBwdRefIdeal.Read

@[expose] public section

noncomputable section

open Idealize.ShloMosaic Idealize.ShloMosaic.TcCoe Idealize.SL.Sem Idealize.ShloMosaic.Pointwise

namespace Cert.Proof.Norm2

open Cert.NormMixBwdRefIdeal Cert.NormMixBwdRefIdeal.Gen Cert.NormMixBwdRefIdeal.Read Cert.Proof.Rv Cert.Proof.Mod

/-- A sum over two axes of length one. -/
theorem sum_ones (x : S1x1x2048.Idx → EReal) (j : Fin 2048) :
    Ideal.hostReduceAdd reducesTo_S1x1x2048_S2048_d0_1 x 0 (ix1 j) = x (ix3 0 0 j) := by
  have e : (Finset.univ.filter fun i : S1x1x2048.Idx => reducesTo_S1x1x2048_S2048_d0_1.drop i = ix1 j) = {ix3 0 0 j} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Subsingleton.elim (α := Fin 1) _ _
      · exact Fin.ext h0
    · subst hi
      funext r
      fin_cases r
      rfl
  unfold Ideal.hostReduceAdd
  rw [e, Finset.sum_singleton, zero_add]

/-- A sum over the two outer axes, both of length one. -/
theorem sum_ends (x : S1x2048x1.Idx → EReal) (j : Fin 2048) :
    Ideal.hostReduceAdd reducesTo_S1x2048x1_S2048_d0_2 x 0 (ix1 j) = x (ix3 0 j 0) := by
  have e : (Finset.univ.filter fun i : S1x2048x1.Idx => reducesTo_S1x2048x1_S2048_d0_2.drop i = ix1 j) = {ix3 0 j 0} := by
    ext i
    rw [Finset.mem_filter, Finset.mem_singleton]
    refine ⟨fun hi => ?_, fun hi => ⟨Finset.mem_univ _, ?_⟩⟩
    · have h0 := congrArg Fin.val (congrFun hi.2 0)
      funext r
      fin_cases r
      · exact Subsingleton.elim (α := Fin 1) _ _
      · exact Fin.ext h0
      · exact Subsingleton.elim (α := Fin 1) _ _
    · subst hi
      funext r
      fin_cases r
      rfl
  unfold Ideal.hostReduceAdd
  rw [e, Finset.sum_singleton, zero_add]

variable (x0 x1 : (⟨S2048x2048, .f32⟩ : BufTy).Contents (Elt Ideal)) (x2 : (⟨S1x2048, .f32⟩ : BufTy).Contents (Elt Ideal))
  (x3 : (⟨S2048x2048, .f32⟩ : BufTy).Contents (Elt Ideal)) (x4 x5 x6 : (⟨S1x2048, .f32⟩ : BufTy).Contents (Elt Ideal))
  (x7 : (⟨S2048x2048, .f32⟩ : BufTy).Contents (Elt Ideal))

/-- The arguments, read entry by entry. -/
def arg : Mixed where
  x r j := x0 (ix2 r j)
  mix r j := x1 (ix2 r j)
  g j := x2 (ix2 0 j)
  w j := x4 (ix2 0 j)
  sc j := x5 (ix2 0 j)
  sh j := x6 (ix2 0 j)
  dh r j := x3 (ix2 r j)
  dr r j := x7 (ix2 r j)

theorem v5 (r j : Fin 2048) : (val_main_v5 (F := Ideal) x0 x1 x2 (ix3 0 r j) : EReal) = (arg x0 x1 x2 x3 x4 x5 x6 x7).reads.x r j := by
  pointwise [val_main_v5, val_main_v4, val_main_v3, val_main_v2, val_main_v1, val_main_v0]
  rfl
theorem v13 (r : Fin 2048) : (val_main_v13 (F := Ideal) x0 x1 x2 (ix3 0 r 0) : EReal) = Rms.ms len ((arg x0 x1 x2 x3 x4 x5 x6 x7).reads.x r) := by
  pointwise [val_main_v13, val_main_v12, val_main_v11, val_main_v10, val_main_v9, val_main_v8, val_main_v7, val_main_cst, val_main_cst_0, val_main_cst_1]
  simp only [v5 x0 x1 x2 x3 x4 x5 x6 x7]
  rfl
theorem v14 (r : Fin 2048) : (val_main_v14 (F := Ideal) x0 x1 x2 (ix3 0 r 0) : EReal) = (arg x0 x1 x2 x3 x4 x5 x6 x7).reads.q r := by
  pointwise [val_main_v14]
  rw [v13 x0 x1 x2 x3 x4 x5 x6 x7]
  rfl
theorem v19 (r j : Fin 2048) : (val_main_v19 (F := Ideal) x0 x1 x2 (ix3 0 r j) : EReal) = (arg x0 x1 x2 x3 x4 x5 x6 x7).reads.n r j := by
  pointwise [val_main_v19, val_main_v18]
  rw [v5 x0 x1 x2 x3 x4 x5 x6 x7, v14 x0 x1 x2 x3 x4 x5 x6 x7]
  rfl
theorem v76 (r j : Fin 2048) : (val_main_v76 (F := Ideal) x0 x1 x2 (ix2 r j) : EReal) = (arg x0 x1 x2 x3 x4 x5 x6 x7).reads.x r j := by
  rw [← v5 x0 x1 x2 x3 x4 x5 x6 x7]
  pointwise [val_main_v76]
theorem v78 (r j : Fin 2048) : (val_main_v78 (F := Ideal) x0 x1 x2 x4 x5 x6 (ix2 r j) : EReal) = (arg x0 x1 x2 x3 x4 x5 x6 x7).reads.h r j := by
  pointwise [val_main_v78, val_main_v77, val_main_v30, val_main_v29, val_main_v28, val_main_v27, val_main_v26, val_main_v25, val_main_v24, val_main_v23, val_main_v22, val_main_v21, val_main_v20, val_main_v6, val_main_cst_3]
  rw [v19 x0 x1 x2 x3 x4 x5 x6 x7, Reads.h, one, word_one]; rfl
theorem v41 (r j : Fin 2048) : (val_main_v41 (F := Ideal) x3 x5 (ix3 0 r j) : EReal) = (arg x0 x1 x2 x3 x4 x5 x6 x7).reads.dh r j * (one + (arg x0 x1 x2 x3 x4 x5 x6 x7).reads.sc j) := by
  pointwise [val_main_v41, val_main_v40, val_main_v31, val_main_v25, val_main_v24, val_main_v23, val_main_cst_3]
  rfl
theorem v48 (r j : Fin 2048) : (val_main_v48 (F := Ideal) x3 x4 x5 (ix3 0 r j) : EReal) = (arg x0 x1 x2 x3 x4 x5 x6 x7).reads.b r j := by
  pointwise [val_main_v48, val_main_v47, val_main_v20, val_main_v6]
  rw [v41 x0 x1 x2 x3 x4 x5 x6 x7]
  exact mul_right_comm _ _ _
theorem v58 (r : Fin 2048) : (val_main_v58 (F := Ideal) x0 x1 x2 x3 x4 x5 (ix3 0 r 0) : EReal) = Rms.back len ((arg x0 x1 x2 x3 x4 x5 x6 x7).reads.x r) ((arg x0 x1 x2 x3 x4 x5 x6 x7).reads.b r) := by
  pointwise [val_main_v58, val_main_v57, val_main_v56, val_main_v52, val_main_v51, val_main_v50, val_main_v17, val_main_v16, val_main_v15, val_main_cst_10, val_main_cst_11, val_main_cst_2]
  simp only [v48 x0 x1 x2 x3 x4 x5 x6 x7, v14 x0 x1 x2 x3 x4 x5 x6 x7, v13 x0 x1 x2 x3 x4 x5 x6 x7, v5 x0 x1 x2 x3 x4 x5 x6 x7]
  rfl
theorem v59 (r : Fin 2048) : (val_main_v59 (F := Ideal) x0 x1 x2 x3 x4 x5 (ix1 r) : EReal) = Rms.back len ((arg x0 x1 x2 x3 x4 x5 x6 x7).reads.x r) ((arg x0 x1 x2 x3 x4 x5 x6 x7).reads.b r) := by
  rw [val_main_v59]
  simp only [Host.reduceAdd, Ideal.hostReduceAdd_def]
  rw [show val_main_cst_12 (F := Ideal) (Shape.Idx.first h_S_) = 0 from Ideal.ofBits_zero_f32, sum_ends]
  exact v58 x0 x1 x2 x3 x4 x5 x6 x7 r
theorem v65 (r j : Fin 2048) : (val_main_v65 (F := Ideal) x0 x1 x2 x3 x4 x5 x7 (ix3 0 r j) : EReal) = (arg x0 x1 x2 x3 x4 x5 x6 x7).reads.dr r j + Rms.chain len ((arg x0 x1 x2 x3 x4 x5 x6 x7).reads.x r) ((arg x0 x1 x2 x3 x4 x5 x6 x7).reads.b r) j := by
  pointwise [val_main_v65, val_main_v64, val_main_v63, val_main_v62, val_main_v61, val_main_v60, val_main_v55, val_main_v54, val_main_v53, val_main_v32]
  rw [v5 x0 x1 x2 x3 x4 x5 x6 x7, v48 x0 x1 x2 x3 x4 x5 x6 x7, v14 x0 x1 x2 x3 x4 x5 x6 x7, v59 x0 x1 x2 x3 x4 x5 x6 x7]
  unfold Rms.chain
  rw [← add_assoc, ← add_assoc]
  rfl
theorem v75 (r j : Fin 2048) : (val_main_v75 (F := Ideal) x0 x1 x2 x3 x4 x5 x7 (ix2 r j) : EReal) = (arg x0 x1 x2 x3 x4 x5 x6 x7).reads.dr r j + Rms.chain len ((arg x0 x1 x2 x3 x4 x5 x6 x7).reads.x r) ((arg x0 x1 x2 x3 x4 x5 x6 x7).reads.b r) j := by
  pointwise [val_main_v75, val_main_cst_16]
  rw [Fin.sum_univ_one, v65 x0 x1 x2 x3 x4 x5 x6 x7]
theorem v79 (r j : Fin 2048) : (val_main_v79 (F := Ideal) x0 x1 x2 x3 x4 x5 x7 (ix2 r j) : EReal) = ((arg x0 x1 x2 x3 x4 x5 x6 x7).reads.dr r j + Rms.chain len ((arg x0 x1 x2 x3 x4 x5 x6 x7).reads.x r) ((arg x0 x1 x2 x3 x4 x5 x6 x7).reads.b r) j) * (arg x0 x1 x2 x3 x4 x5 x6 x7).g j := by
  pointwise [val_main_v79, val_main_v72, val_main_v68, val_main_v67, val_main_v1, val_main_cst_14]
  rw [Fin.sum_univ_one, v65 x0 x1 x2 x3 x4 x5 x6 x7]
  exact mul_comm _ _
theorem v35 (j : Fin 2048) : (val_main_v35 (F := Ideal) x3 (ix1 j) : EReal) = (arg x0 x1 x2 x3 x4 x5 x6 x7).reads.dsh j := by
  rw [val_main_v35]
  simp only [Host.reduceAdd, Ideal.hostReduceAdd_def]
  rw [show val_main_cst_5 (F := Ideal) (Shape.Idx.first h_S_) = 0 from Ideal.ofBits_zero_f32, sum_ones]
  pointwise [val_main_v34, val_main_v33, val_main_v31, val_main_cst_4]
  rfl
theorem v36 (j : Fin 2048) : (val_main_v36 (F := Ideal) x3 (ix2 0 j) : EReal) = (arg x0 x1 x2 x3 x4 x5 x6 x7).reads.dsh j := by
  rw [← v35 x0 x1 x2 x3 x4 x5 x6 x7]
  pointwise [val_main_v36]
theorem v42 (j : Fin 2048) : (val_main_v42 (F := Ideal) x0 x1 x2 x3 x4 (ix1 j) : EReal) = (arg x0 x1 x2 x3 x4 x5 x6 x7).reads.dsc j := by
  rw [val_main_v42]
  simp only [Host.reduceAdd, Ideal.hostReduceAdd_def]
  rw [show val_main_cst_7 (F := Ideal) (Shape.Idx.first h_S_) = 0 from Ideal.ofBits_zero_f32, sum_ones]
  pointwise [val_main_v39, val_main_v38, val_main_v37, val_main_v31, val_main_v22, val_main_v21, val_main_v20, val_main_v6, val_main_cst_6]
  refine Finset.sum_congr rfl fun r _ => ?_
  rw [v19 x0 x1 x2 x3 x4 x5 x6 x7]
  exact (mul_comm _ _).trans (mul_assoc _ _ _).symm
theorem v43 (j : Fin 2048) : (val_main_v43 (F := Ideal) x0 x1 x2 x3 x4 (ix2 0 j) : EReal) = (arg x0 x1 x2 x3 x4 x5 x6 x7).reads.dsc j := by
  rw [← v42 x0 x1 x2 x3 x4 x5 x6 x7]
  pointwise [val_main_v43]
theorem v49 (j : Fin 2048) : (val_main_v49 (F := Ideal) x0 x1 x2 x3 x5 (ix1 j) : EReal) = (arg x0 x1 x2 x3 x4 x5 x6 x7).reads.dw j := by
  rw [val_main_v49]
  simp only [Host.reduceAdd, Ideal.hostReduceAdd_def]
  rw [show val_main_cst_9 (F := Ideal) (Shape.Idx.first h_S_) = 0 from Ideal.ofBits_zero_f32, sum_ones]
  pointwise [val_main_v46, val_main_v45, val_main_v44, val_main_cst_8]
  refine Finset.sum_congr rfl fun r _ => ?_
  rw [v19 x0 x1 x2 x3 x4 x5 x6 x7, v41 x0 x1 x2 x3 x4 x5 x6 x7]
  exact mul_comm _ _
theorem v66 (j : Fin 2048) : (val_main_v66 (F := Ideal) x0 x1 x2 x3 x5 (ix2 0 j) : EReal) = (arg x0 x1 x2 x3 x4 x5 x6 x7).reads.dw j := by
  rw [← v49 x0 x1 x2 x3 x4 x5 x6 x7]
  pointwise [val_main_v66]
theorem v73 (j : Fin 2048) : (val_main_v73 (F := Ideal) x0 x1 x2 x3 x4 x5 x7 (ix1 j) : EReal) = ∑ r, ((arg x0 x1 x2 x3 x4 x5 x6 x7).reads.dr r j + Rms.chain len ((arg x0 x1 x2 x3 x4 x5 x6 x7).reads.x r) ((arg x0 x1 x2 x3 x4 x5 x6 x7).reads.b r) j) * (arg x0 x1 x2 x3 x4 x5 x6 x7).mix r j := by
  rw [val_main_v73]
  simp only [Host.reduceAdd, Ideal.hostReduceAdd_def]
  rw [show val_main_cst_15 (F := Ideal) (Shape.Idx.first h_S_) = 0 from Ideal.ofBits_zero_f32, sum_ones]
  pointwise [val_main_v71, val_main_v70, val_main_v69, val_main_v2, val_main_cst_13]
  refine Finset.sum_congr rfl fun r _ => ?_
  rw [v65 x0 x1 x2 x3 x4 x5 x6 x7]
  rfl
theorem v74 (j : Fin 2048) : (val_main_v74 (F := Ideal) x0 x1 x2 x3 x4 x5 x7 (ix2 0 j) : EReal) = ∑ r, ((arg x0 x1 x2 x3 x4 x5 x6 x7).reads.dr r j + Rms.chain len ((arg x0 x1 x2 x3 x4 x5 x6 x7).reads.x r) ((arg x0 x1 x2 x3 x4 x5 x6 x7).reads.b r) j) * (arg x0 x1 x2 x3 x4 x5 x6 x7).mix r j := by
  rw [← v73 x0 x1 x2 x3 x4 x5 x6 x7]
  pointwise [val_main_v74]

end Cert.Proof.Norm2

end
-- ==== Proof.Norm2Claims.lean ====
/-
  The claims about the second norm, its gradient and the gate in front of it: both programs run and end quiet, and the
  eight results of the kernel are those of the reference whenever the arguments the gradient reads are finite.
-/
module

public import proofs.«01_k».proof.Defs
public import proofs.«01_k».proof.Proof.RealArgs
public import proofs.«01_k».proof.Proof.Norm2Run
public import proofs.«01_k».proof.Proof.Norm2Ref
public import proofs.«01_k».proof.Proof.Gen.NormMixBwd.Frame
public import Idealize.ShloMosaic.Lib.Claim
public import Idealize.ShloMosaic.Lib.Quiescent

@[expose] public section

noncomputable section

open Idealize.ShloMosaic Idealize.ShloMosaic.TcCoe Idealize.SL.Sem Idealize.ShloMosaic.Pointwise

namespace Cert.Proof.Norm2

open Cert.NormMixBwdIdeal Cert.NormMixBwdIdeal.Gen Cert.Proof.Rv Cert.Proof.Mod

instance facts_finite_norm2 : Cert.Pre_finite_norm2.Facts where
  bcast_S_S2048x2048 := by decide
  bcast_S_S1x2048 := by decide

/-- The gradient of the stream, the chain rule's form and the kernel's. -/
theorem dx_eq (m : (ℓ : Loc nD τ sig) → Buf (Elt Ideal) ℓ) (hp : Cert.Pre_NormMixBwdIdeal_finite_norm2 m) (c : Dev nD) (r j : Fin 2048) :
    (arr m c).reads.dr r j + Rms.chain len ((arr m c).reads.x r) ((arr m c).reads.b r) j = (arr m c).reads.dx r j := by
  obtain ⟨x, hx⟩ := reals_of (x := m ((c : Thread nD τ).loc main_arg0)) (hp c).1
  obtain ⟨y, hy⟩ := reals_of (x := m ((c : Thread nD τ).loc main_arg1)) (hp c).2.1
  obtain ⟨g, hg⟩ := reals_of (x := m ((c : Thread nD τ).loc main_arg2)) (hp c).2.2.1
  obtain ⟨d, hd⟩ := reals_of (x := m ((c : Thread nD τ).loc main_arg3)) (hp c).2.2.2.1
  obtain ⟨w, hw⟩ := reals_of (x := m ((c : Thread nD τ).loc main_arg4)) (hp c).2.2.2.2.1
  obtain ⟨s, hs⟩ := reals_of (x := m ((c : Thread nD τ).loc main_arg5)) (hp c).2.2.2.2.2
  refine (arr m c).reads.dx_eq r j (x := fun j => x (ix2 r j) + g (ix2 0 j) * y (ix2 r j)) (fun j => ?_) (fun j => hd _) (fun j => hw _) (fun j => hs _)
  rw [EReal.coe_add, EReal.coe_mul, ← hx, ← hg, ← hy]
  rfl

/-- What the reference leaves is what the kernel leaves. -/
theorem results_eq (m : (ℓ : Loc nD τ sig) → Buf (Elt Ideal) ℓ) (hp : Cert.Pre_NormMixBwdIdeal_finite_norm2 m) (c : Dev nD)
    {x0 x1 x3 x7 : (⟨S2048x2048, .f32⟩ : BufTy).Contents (Elt Ideal)} {x2 x4 x5 x6 : (⟨S1x2048, .f32⟩ : BufTy).Contents (Elt Ideal)}
    (e : x0 = m ((c.tc : Thread nD τ).loc main_arg0)
      ∧ x1 = m ((c.tc : Thread nD τ).loc main_arg1)
      ∧ x2 = m ((c.tc : Thread nD τ).loc main_arg2)
      ∧ x3 = m ((c.tc : Thread nD τ).loc main_arg3)
      ∧ x4 = m ((c.tc : Thread nD τ).loc main_arg4)
      ∧ x5 = m ((c.tc : Thread nD τ).loc main_arg5)
      ∧ x6 = m ((c.tc : Thread nD τ).loc main_arg6)
      ∧ x7 = m ((c.tc : Thread nD τ).loc main_arg7)) :
    Cert.NormMixBwdRefIdeal.Read.val_main_v76 (F := Ideal) x0 x1 x2 = (fun y : S2048x2048.Idx => ((arr m c).reads.x (y 0) (y 1) : EReal))
    ∧ Cert.NormMixBwdRefIdeal.Read.val_main_v78 (F := Ideal) x0 x1 x2 x4 x5 x6 = (fun y : S2048x2048.Idx => ((arr m c).reads.h (y 0) (y 1) : EReal))
    ∧ Cert.NormMixBwdRefIdeal.Read.val_main_v75 (F := Ideal) x0 x1 x2 x3 x4 x5 x7 = (fun y : S2048x2048.Idx => ((arr m c).reads.dx (y 0) (y 1) : EReal))
    ∧ Cert.NormMixBwdRefIdeal.Read.val_main_v79 (F := Ideal) x0 x1 x2 x3 x4 x5 x7 = (fun y : S2048x2048.Idx => ((arr m c).dmix (y 0) (y 1) : EReal))
    ∧ Cert.NormMixBwdRefIdeal.Read.val_main_v36 (F := Ideal) x3 = (fun y : S1x2048.Idx => ((arr m c).reads.dsh (y 1) : EReal))
    ∧ Cert.NormMixBwdRefIdeal.Read.val_main_v43 (F := Ideal) x0 x1 x2 x3 x4 = (fun y : S1x2048.Idx => ((arr m c).reads.dsc (y 1) : EReal))
    ∧ Cert.NormMixBwdRefIdeal.Read.val_main_v66 (F := Ideal) x0 x1 x2 x3 x5 = (fun y : S1x2048.Idx => ((arr m c).reads.dw (y 1) : EReal))
    ∧ Cert.NormMixBwdRefIdeal.Read.val_main_v74 (F := Ideal) x0 x1 x2 x3 x4 x5 x7 = (fun y : S1x2048.Idx => ((arr m c).dg (y 1) : EReal)) := by
  obtain ⟨rfl, rfl, rfl, rfl, rfl, rfl, rfl, rfl⟩ := e
  have ix : ∀ x : S2048x2048.Idx, x = ix2 (x 0) (x 1) := fun x => by idx_ext
  have iw : ∀ x : S1x2048.Idx, x = ix2 0 (x 1) := fun x => by idx_ext
  refine ⟨funext fun x => ?_, funext fun x => ?_, funext fun x => ?_, funext fun x => ?_, funext fun x => ?_, funext fun x => ?_, funext fun x => ?_, funext fun x => ?_⟩
  · exact (congrArg _ (ix x)).trans (v76 _ _ _ _ _ _ _ _ (x 0) (x 1))
  · exact (congrArg _ (ix x)).trans (v78 _ _ _ _ _ _ _ _ (x 0) (x 1))
  · exact (congrArg _ (ix x)).trans ((v75 _ _ _ _ _ _ _ _ (x 0) (x 1)).trans (dx_eq m hp c (x 0) (x 1)))
  · exact (congrArg _ (ix x)).trans ((v79 _ _ _ _ _ _ _ _ (x 0) (x 1)).trans (congrArg (· * _) (dx_eq m hp c (x 0) (x 1))))
  · exact (congrArg _ (iw x)).trans (v36 _ _ _ _ _ _ _ _ (x 1))
  · exact (congrArg _ (iw x)).trans (v43 _ _ _ _ _ _ _ _ (x 1))
  · exact (congrArg _ (iw x)).trans (v66 _ _ _ _ _ _ _ _ (x 1))
  · exact (congrArg _ (iw x)).trans ((v74 _ _ _ _ _ _ _ _ (x 1)).trans (Finset.sum_congr rfl fun r _ => congrArg (· * _) (dx_eq m hp c r (x 1))))

set_option maxRecDepth 16384 in
/-- The two programs' results agree, on every device. -/
theorem algebraic : Cert.algebraic_NormMixBwdIdeal_NormMixBwdRefIdeal_pre_finite_norm2 := by
  pair_intro
  · run_from (run_blocks m g)
  · run_from (Cert.NormMixBwdRefIdeal.Value.run (F := Ideal) m' g')
    · exact (Cert.NormMixBwdRefIdeal.Read.val_main_v76_eq (F := Ideal) _ _ _).trans (results_eq m hpre c ⟨rfl, rfl, rfl, rfl, rfl, rfl, rfl, rfl⟩).1
    · exact (Cert.NormMixBwdRefIdeal.Read.val_main_v78_eq (F := Ideal) _ _ _ _ _ _).trans (results_eq m hpre c ⟨rfl, rfl, rfl, rfl, rfl, rfl, rfl, rfl⟩).2.1
    · exact (Cert.NormMixBwdRefIdeal.Read.val_main_v75_eq m' c).trans (results_eq m hpre c (hagree c)).2.2.1
    · exact (Cert.NormMixBwdRefIdeal.Read.val_main_v79_eq m' c).trans (results_eq m hpre c (hagree c)).2.2.2.1
    · exact (Cert.NormMixBwdRefIdeal.Read.val_main_v36_eq (F := Ideal) _).trans (results_eq m hpre c ⟨rfl, rfl, rfl, rfl, rfl, rfl, rfl, rfl⟩).2.2.2.2.1
    · exact (Cert.NormMixBwdRefIdeal.Read.val_main_v43_eq (F := Ideal) _ _ _ _ _).trans (results_eq m hpre c ⟨rfl, rfl, rfl, rfl, rfl, rfl, rfl, rfl⟩).2.2.2.2.2.1
    · exact (Cert.NormMixBwdRefIdeal.Read.val_main_v66_eq (F := Ideal) _ _ _ _ _).trans (results_eq m hpre c ⟨rfl, rfl, rfl, rfl, rfl, rfl, rfl, rfl⟩).2.2.2.2.2.2.1
    · exact (Cert.NormMixBwdRefIdeal.Read.val_main_v74_eq m' c).trans (results_eq m hpre c (hagree c)).2.2.2.2.2.2.2

theorem frame : Cert.quiescent_NormMixBwd := fun m ρ _ => Cert.NormMixBwd.Gen.frame m ρ
theorem frame_ideal : Cert.quiescent_NormMixBwdIdeal := fun m ρ _ => Cert.NormMixBwdIdeal.Gen.frame m ρ
theorem frame_ideal_finite : Cert.quiescent_NormMixBwdIdeal_pre_finite_norm2 := fun m ρ _ => Cert.NormMixBwdIdeal.Gen.frame m ρ
theorem frame_ref : Cert.quiescent_NormMixBwdRefIdeal := fun m ρ _ =>
  θ_run_mono (Cert.NormMixBwdRefIdeal.Value.run (F := Ideal) m ρ) fun r h =>
    ⟨fun c => (h c).2.2.2.2.2.2.2.2, sem_eq_zero_of_no_sems (by decide) r.2⟩
theorem frame_ref_finite : Cert.quiescent_NormMixBwdRefIdeal_pre_finite_norm2 := fun m ρ _ => frame_ref m ρ trivial

end Cert.Proof.Norm2

end
-- ==== Proof.QkFwd.lean ====
/- The normalised queries and keys and the values of the attention: what the call's three result arrays hold, and that
   the reference's expressions are the same arrays. -/
module

public import proofs.«01_k».proof.Defs
public import proofs.«01_k».proof.Proof.RmsNorm
public import proofs.«01_k».proof.Proof.Gen.QkFwd.Frame
public import proofs.«01_k».proof.Proof.Gen.QkFwdIdeal.Value
public import proofs.«01_k».proof.Proof.Gen.QkFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.QkF

open Idealize.ShloMosaic Idealize.ShloMosaic.TcCoe Idealize.SL.Sem Idealize.ShloMosaic.Pointwise
open Cert.QkFwdIdeal Cert.QkFwdIdeal.Gen

/-- The length of a head's row. -/
abbrev len : EReal := Ideal.ofBits .f32 0x43000000#32

theorem pay1_apply (a : Vec Ideal S2048x128 .f32) (w : Vec Ideal S1x128 .f32) (r : Fin 2048) (j : Fin 128) :
    (k0_pay1 (F := Ideal) a w (ix2 r j) : EReal) = a (ix2 r j) * Rms.rs len (fun k => a (ix2 r k)) * w (ix2 0 j) := by
  pointwise [k0_pay1]
  rfl
theorem pay2_eq : k0_pay2 (F := Ideal) = k0_pay1 := rfl
theorem pay3_apply (a : Vec Ideal S2048x128 .f32) (r : Fin 2048) (j : Fin 128) : (k0_pay3 (F := Ideal) a (ix2 r j) : EReal) = a (ix2 r j) := by
  pointwise [k0_pay3]

/-- The column `j` of head `h` in the part of the stream that starts at column `o`. -/
def col (o : ℕ) (ho : o + 1024 ≤ 7168) (h : Fin 8) (j : Fin 128) : Fin 7168 := ⟨o + (h.val * 128 + j.val), by omega⟩

/-- The head of a column, and the column inside the head. -/
abbrev head (j : Fin 1024) : Fin 8 := ⟨j.val / 128, by omega⟩
abbrev lane (j : Fin 1024) : Fin 128 := ⟨j.val % 128, Nat.mod_lt _ (by decide)⟩

/-- A normalised part of the stream. -/
def normed (o : ℕ) (ho : o + 1024 ≤ 7168) (x : S2048x7168.Idx → EReal) (w : S1x128.Idx → EReal) (y : S2048x1024.Idx) : EReal :=
  x (ix2 (y 0) (col o ho (head (y 1)) (lane (y 1)))) * Rms.rs len (fun k => x (ix2 (y 0) (col o ho (head (y 1)) k))) * w (ix2 0 (lane (y 1)))

/-- A part of the stream as it is. -/
def part (o : ℕ) (ho : o + 1024 ≤ 7168) (x : S2048x7168.Idx → EReal) (y : S2048x1024.Idx) : EReal :=
  x (ix2 (y 0) (col o ho (head (y 1)) (lane (y 1))))

theorem idx0 : ∀ t : Fin cfg0.N, win0_0.index t = ![0, 32 + t.val] := (by decide +kernel : ∀ t : Fin grid0.N, _)
theorem idx1 : ∀ t : Fin cfg0.N, win0_1.index t = ![0, 40 + t.val] := (by decide +kernel : ∀ t : Fin grid0.N, _)
theorem idx2 : ∀ t : Fin cfg0.N, win0_2.index t = ![0, 48 + t.val] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)

section Arrays
variable (m : (ℓ : Loc nD τ sig) → Buf (Elt Ideal) ℓ) (c : Dev nD)

abbrev hd (t : Fin cfg0.N) : Fin 8 := ⟨t.val, by have := t.isLt; have : cfg0.N = 8 := N_0; omega⟩
def ocol (t : Fin cfg0.N) (j : Fin 128) : Fin 1024 := ⟨t.val * 128 + j.val, by have := t.isLt; have : cfg0.N = 8 := N_0; omega⟩

theorem head_col (t : Fin cfg0.N) (j : Fin 128) : head (ocol t j) = hd t := Fin.ext (by show (t.val * 128 + j.val) / 128 = t.val; omega)
theorem lane_col (t : Fin cfg0.N) (j : Fin 128) : lane (ocol t j) = j := Fin.ext (by show (t.val * 128 + j.val) % 128 = j.val; omega)

theorem blk0 (t : Fin cfg0.N) (r : Fin 2048) (j : Fin 128) : (iblk m c 0 t (ix2 r j) : EReal)
    = m ((c : Thread nD τ).loc main_arg0) (ix2 r (col 4096 (by decide) (hd t) j)) := by
  blk_simp [iblk]
  exact congrArg _ (by blk_ext [idx0 t, col])
theorem blk1 (t : Fin cfg0.N) (r : Fin 2048) (j : Fin 128) : (iblk m c 1 t (ix2 r j) : EReal)
    = m ((c : Thread nD τ).loc main_arg0) (ix2 r (col 5120 (by decide) (hd t) j)) := by
  blk_simp [iblk]
  exact congrArg _ (by blk_ext [idx1 t, col])
theorem blk2 (t : Fin cfg0.N) (r : Fin 2048) (j : Fin 128) : (iblk m c 2 t (ix2 r j) : EReal)
    = m ((c : Thread nD τ).loc main_arg0) (ix2 r (col 6144 (by decide) (hd t) j)) := by
  blk_simp [iblk]
  exact congrArg _ (by blk_ext [idx2 t, col])
theorem blk3 (t : Fin cfg0.N) (j : Fin 128) : (iblk m c 3 t (ix2 0 j) : EReal) = m ((c : Thread nD τ).loc main_arg1) (ix2 0 j) := by
  blk_simp [iblk]
  exact congrArg _ (by blk_ext [idx3 t])
theorem blk4 (t : Fin cfg0.N) (j : Fin 128) : (iblk m c 4 t (ix2 0 j) : EReal) = m ((c : Thread nD τ).loc main_arg2) (ix2 0 j) := by
  blk_simp [iblk]
  exact congrArg _ (by blk_ext [idx4 t])

theorem final5 : (dats m 0 c).arrAt 5 cfg0.N
    = normed 4096 (by decide) (m ((c : Thread nD τ).loc main_arg0)) (m ((c : Thread nD τ).loc main_arg1)) := by
  refine (dats m 0 c).arrAt_eq_of_covers 5 _ (by decide +kernel) fun t hf y => ?_
  blk_simp
  rw [after0_5]
  frame_out
  obtain ⟨r, j, rfl⟩ : ∃ (r : Fin 2048) (j : Fin 128), y = ix2 r j := ⟨y 0, y 1, by idx_ext⟩
  have e : ((cfg0.win 5).blk t).view.emb (ix2 r j) = ix2 r (ocol t j) := by blk_ext [idx5 t, ocol]
  rw [e, pay1_apply]
  unfold normed
  simp only [ix2_0, ix2_1, head_col, lane_col, blk0, blk3]

theorem final6 : (dats m 0 c).arrAt 6 cfg0.N
    = normed 5120 (by decide) (m ((c : Thread nD τ).loc main_arg0)) (m ((c : Thread nD τ).loc main_arg2)) := by
  refine (dats m 0 c).arrAt_eq_of_covers 6 _ (by decide +kernel) fun t hf y => ?_
  blk_simp
  rw [after0_6]
  frame_out
  obtain ⟨r, j, rfl⟩ : ∃ (r : Fin 2048) (j : Fin 128), y = ix2 r j := ⟨y 0, y 1, by idx_ext⟩
  have e : ((cfg0.win 6).blk t).view.emb (ix2 r j) = ix2 r (ocol t j) := by blk_ext [idx6 t, ocol]
  rw [e, pay2_eq, pay1_apply]
  unfold normed
  simp only [ix2_0, ix2_1, head_col, lane_col, blk1, blk4]

theorem final7 : (dats m 0 c).arrAt 7 cfg0.N = part 6144 (by decide) (m ((c : Thread nD τ).loc main_arg0)) := by
  refine (dats m 0 c).arrAt_eq_of_covers 7 _ (by decide +kernel) fun t hf y => ?_
  blk_simp
  rw [after0_7]
  frame_out
  obtain ⟨r, j, rfl⟩ : ∃ (r : Fin 2048) (j : Fin 128), y = ix2 r j := ⟨y 0, y 1, by idx_ext⟩
  have e : ((cfg0.win 7).blk t).view.emb (ix2 r j) = ix2 r (ocol t j) := by blk_ext [idx7 t, ocol]
  rw [e, pay3_apply]
  unfold part
  simp only [ix2_0, ix2_1, head_col, lane_col, blk2]

end Arrays

section Ref
open Cert.QkFwdRefIdeal.Read
variable (x : S2048x7168.Idx → EReal) (w : S1x128.Idx → EReal) (r : Fin 2048) (h : Fin 8) (j : Fin 128)

theorem v6 : (val_main_v6 (F := Ideal) x (ix4 0 r h j) : EReal) = x (ix2 r (col 4096 (by decide) h j)) := by
  pointwise [val_main_v6, val_main_v1, val_main_v0]
  exact congrArg _ (by unfold col; idx_ext)
theorem v21 : (val_main_v21 (F := Ideal) x (ix4 0 r h j) : EReal) = x (ix2 r (col 5120 (by decide) h j)) := by
  pointwise [val_main_v21, val_main_v3, val_main_v2]
  exact congrArg _ (by unfold col; idx_ext)
theorem v36 : (val_main_v36 (F := Ideal) x (ix4 0 r h j) : EReal) = x (ix2 r (col 6144 (by decide) h j)) := by
  pointwise [val_main_v36, val_main_v5, val_main_v4]
  exact congrArg _ (by unfold col; idx_ext)

theorem v20 : (val_main_v20 (F := Ideal) x w (ix4 0 r h j) : EReal) = x (ix2 r (col 4096 (by decide) h j))
    * Rms.rs len (fun k => x (ix2 r (col 4096 (by decide) h k))) * w (ix2 0 j) := by
  pointwise [val_main_v20, val_main_v19, val_main_v18, val_main_v17, val_main_v16, val_main_v15, val_main_v14, val_main_v13, val_main_v12,
    val_main_v11, val_main_v10, val_main_v9, val_main_v8, val_main_v7, val_main_cst, val_main_cst_0, val_main_cst_1]
  simp only [v6]
  rfl
theorem v35 : (val_main_v35 (F := Ideal) x w (ix4 0 r h j) : EReal) = x (ix2 r (col 5120 (by decide) h j))
    * Rms.rs len (fun k => x (ix2 r (col 5120 (by decide) h k))) * w (ix2 0 j) := by
  pointwise [val_main_v35, val_main_v34, val_main_v33, val_main_v32, val_main_v31, val_main_v30, val_main_v29, val_main_v28, val_main_v27,
    val_main_v26, val_main_v25, val_main_v24, val_main_v23, val_main_v22, val_main_cst_2, val_main_cst_3, val_main_cst_4]
  simp only [v21]
  rfl

theorem v38 : val_main_v38 (F := Ideal) x w = normed 4096 (by decide) x w := by
  funext y
  obtain ⟨r, l, rfl⟩ : ∃ (r : Fin 2048) (l : Fin 1024), y = ix2 r l := ⟨y 0, y 1, by idx_ext⟩
  pointwise [val_main_v38, val_main_v37]
  exact v20 x w r (head l) (lane l)
theorem v40 : val_main_v40 (F := Ideal) x w = normed 5120 (by decide) x w := by
  funext y
  obtain ⟨r, l, rfl⟩ : ∃ (r : Fin 2048) (l : Fin 1024), y = ix2 r l := ⟨y 0, y 1, by idx_ext⟩
  pointwise [val_main_v40, val_main_v39]
  exact v35 x w r (head l) (lane l)
theorem v42 : val_main_v42 (F := Ideal) x = part 6144 (by decide) x := by
  funext y
  obtain ⟨r, l, rfl⟩ : ∃ (r : Fin 2048) (l : Fin 1024), y = ix2 r l := ⟨y 0, y 1, by idx_ext⟩
  pointwise [val_main_v42, val_main_v41]
  exact v36 x r (head l) (lane l)

end Ref

set_option maxRecDepth 16384 in
/-- The two programs' results agree, on every device. -/
theorem algebraic : Cert.algebraic_QkFwdIdeal_QkFwdRefIdeal := by
  pair_intro
  · run_from (Cert.QkFwdIdeal.Value.run_blocks (F := Ideal) m g)
  · run_from (Cert.QkFwdRefIdeal.Value.run (F := Ideal) m' g')
    · exact (Cert.QkFwdRefIdeal.Read.val_main_v38_eq (F := Ideal) _ _).trans ((v38 _ _).trans (final5 m c).symm)
    · exact (Cert.QkFwdRefIdeal.Read.val_main_v40_eq (F := Ideal) _ _).trans ((v40 _ _).trans (final6 m c).symm)
    · exact (Cert.QkFwdRefIdeal.Read.val_main_v42_eq (F := Ideal) _).trans ((v42 _).trans (final7 m c).symm)

theorem frame : Cert.quiescent_QkFwd := fun m ρ _ => Cert.QkFwd.Gen.frame m ρ
theorem frame_ideal : Cert.quiescent_QkFwdIdeal := fun m ρ _ => Cert.QkFwdIdeal.Gen.frame m ρ
theorem frame_ref : Cert.quiescent_QkFwdRefIdeal := fun m ρ _ =>
  θ_run_mono (Cert.QkFwdRefIdeal.Value.run (F := Ideal) m ρ) fun r h =>
    ⟨fun c => (h c).2.2.2, sem_eq_zero_of_no_sems (by decide) r.2⟩

end Cert.Proof.QkF

end
-- ==== Proof.ConvFwd.lean ====
/- The gated convolution of the feed-forward: what the call's result array holds, and that the reference's expression is
   the same array. -/
module

public import proofs.«01_k».proof.Defs
public import proofs.«01_k».proof.Proof.Gen.ConvFwd.Frame
public import proofs.«01_k».proof.Proof.Gen.ConvFwdIdeal.Value
public import proofs.«01_k».proof.Proof.Gen.ConvFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.ConvF

open Idealize.ShloMosaic Idealize.ShloMosaic.TcCoe Idealize.SL.Sem Idealize.ShloMosaic.Pointwise
open Cert.ConvFwdIdeal Cert.ConvFwdIdeal.Gen

/-- The column `k` rows earlier, zero before the start. -/
def earlier (k : ℕ) (f : Fin 2048 → EReal) (r : Fin 2048) : EReal := if k ≤ r.val then f ⟨r.val - k, by omega⟩ else 0

/-- The convolution of a column by three taps. -/
def conv (a : Fin 2048 → EReal) (w : Fin 3 → EReal) (b : EReal) (r : Fin 2048) : EReal :=
  b + earlier 2 a r * w 0 + earlier 1 a r * w 1 + a r * w 2

/-- `x · 1/(1 + e^(-x))`. -/
def silu (x : EReal) : EReal := x * Ideal.div 1 (1 + Ideal.exp (-x))

/-- The gated convolution: the first half of the columns is convolved, the second half gates it. -/
def gated (u : S2048x11264.Idx → EReal) (w : S3x5632.Idx → EReal) (b : S1x5632.Idx → EReal) (r : Fin 2048) (j : Fin 5632) : EReal :=
  silu (conv (fun r => u (ix2 r ⟨j.val, by omega⟩)) (fun k => w (ix2 k j)) (b (ix2 0 j)) r) * u (ix2 r ⟨5632 + j.val, by omega⟩)

/-- A small number as a signed word. -/
theorem word_int (n : ℕ) (hn : n < 2048) : (BitVec.ofNat 32 n).toInt = n := by
  have h : (BitVec.ofNat 32 n).toNat = n := by rw [BitVec.toNat_ofNat]; omega
  rw [BitVec.toInt_eq_toNat_of_lt (by omega), h]

/-- A rotated column times a tap, selected from row `k` on, is the column `k` rows earlier times the tap. -/
theorem select_earlier (k : ℕ) (hk : k < 2048) (f : Fin 2048 → EReal) (r : Fin 2048) (x v : EReal)
    (hx : ∀ h : k ≤ r.val, x = f ⟨r.val - k, by omega⟩ * v) :
    Scalar.select (IntOp.cmpi .sge (BitVec.ofNat 32 r.val) (BitVec.ofNat 32 k)) x (0 : EReal) = earlier k f r * v := by
  have e : IntOp.cmpi .sge (BitVec.ofNat 32 r.val) (BitVec.ofNat 32 k) = BitVec.ofBool (decide (k ≤ r.val)) := by
    have hr := r.isLt
    unfold IntOp.cmpi
    simp only [BitVec.sle, word_int r.val hr, word_int k hk]
    congr 2
    apply propext
    omega
  rw [e, earlier]
  by_cases hq : k ≤ r.val
  · rw [decide_eq_true hq, if_pos hq, ← hx hq]
    rfl
  · rw [decide_eq_false hq, if_neg hq, zero_mul]
    rfl

/-- One block: 512 columns. -/
theorem pay_apply (a g : Vec Ideal S2048x512 .f32) (w : Vec Ideal S3x512 .f32) (b : Vec Ideal S1x512 .f32) (r : Fin 2048) (l : Fin 512) :
    (k0_pay1 (F := Ideal) a w b g (ix2 r l) : EReal)
      = silu (conv (fun r => a (ix2 r l)) (fun k => w (ix2 k l)) (b (ix2 0 l)) r) * g (ix2 r l) := by
  pointwise [k0_pay1]
  have e : ∀ (k : ℕ) (hk : k < 2048) (v : EReal) (i : Fin 2048), (k ≤ r.val → i.val = r.val - k) →
      Scalar.select (IntOp.cmpi .sge (BitVec.ofNat 32 r.val) (BitVec.ofNat 32 k)) ((a (ix2 i l) : EReal) * v) 0
        = earlier k (fun r => a (ix2 r l)) r * v := fun k hk v i hi =>
    select_earlier k hk _ r _ v fun h => congrArg (fun i => (a (ix2 i l) : EReal) * v) (Fin.ext (hi h))
  have e2 := e 2 (by decide) (w (ix2 0 l)) ⟨(r.val + 2048 - 2) % 2048, Nat.mod_lt _ (by decide)⟩ (fun _ => by show (r.val + 2048 - 2) % 2048 = r.val - 2; omega)
  have e1 := e 1 (by decide) (w (ix2 1 l)) ⟨(r.val + 2048 - 1) % 2048, Nat.mod_lt _ (by decide)⟩ (fun _ => by show (r.val + 2048 - 1) % 2048 = r.val - 1; omega)
  rw [zero_sub]
  unfold silu conv
  rw [← e2, ← e1]

theorem idx0 : ∀ t : Fin cfg0.N, win0_0.index t = ![0, t.val] := (by decide +kernel : ∀ t : Fin grid0.N, _)
theorem idx1 : ∀ t : Fin cfg0.N, win0_1.index t = ![0, t.val + 11] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)

/-- Column `l` of the block of point `t`. -/
def at' (t : Fin cfg0.N) (l : Fin 512) : Fin 5632 := ⟨t.val * 512 + l.val, by
  have h : t.val < 11 := lt_of_lt_of_eq t.isLt (by decide +kernel)
  omega⟩

/-- The whole result array. -/
theorem final (m : (ℓ : Loc nD τ sig) → Buf (Elt Ideal) ℓ) (c : Dev nD) : (dats m 0 c).arrAt 4 cfg0.N = fun y : S2048x5632.Idx =>
    gated (m ((c : Thread nD τ).loc main_arg0)) (m ((c : Thread nD τ).loc main_arg1)) (m ((c : Thread nD τ).loc main_arg2)) (y 0) (y 1) := by
  refine (dats m 0 c).arrAt_eq_of_covers 4 _ (by decide +kernel) fun t hf y => ?_
  blk_simp
  rw [after0_4]
  frame_out
  obtain ⟨r, l, rfl⟩ : ∃ (r : Fin 2048) (l : Fin 512), y = ix2 r l := ⟨y 0, y 1, by idx_ext⟩
  have e : ((cfg0.win 4).blk t).view.emb (ix2 r l) = ix2 r (at' t l) := by blk_ext [idx4 t, at']
  rw [e, pay_apply]
  have e0 : ∀ r : Fin 2048, (iblk m c 0 t (ix2 r l) : EReal) = m ((c : Thread nD τ).loc main_arg0) (ix2 r ⟨(at' t l).val, by omega⟩) := fun r => by
    blk_simp [iblk]
    exact congrArg _ (by blk_ext [idx0 t, at'])
  have e1 : (iblk m c 1 t (ix2 r l) : EReal) = m ((c : Thread nD τ).loc main_arg0) (ix2 r ⟨5632 + (at' t l).val, by omega⟩) := by
    blk_simp [iblk]
    exact congrArg _ (by blk_ext [idx1 t, at'])
  have e2 : ∀ k : Fin 3, (iblk m c 2 t (ix2 k l) : EReal) = m ((c : Thread nD τ).loc main_arg1) (ix2 k (at' t l)) := fun k => by
    blk_simp [iblk]
    exact congrArg _ (by blk_ext [idx2 t, at'])
  have e3 : (iblk m c 3 t (ix2 0 l) : EReal) = m ((c : Thread nD τ).loc main_arg2) (ix2 0 (at' t l)) := by
    blk_simp [iblk]
    exact congrArg _ (by blk_ext [idx3 t, at'])
  simp only [e0, e1, e2, e3]
  rfl

section Ref
open Cert.ConvFwdRefIdeal.Read
variable (u : S2048x11264.Idx → EReal) (w : S3x5632.Idx → EReal) (b : S1x5632.Idx → EReal) (r : Fin 2048) (j : Fin 5632)

/-- The padded column: two zeros, then the column. -/
theorem v7 (i : Fin 2050) (k : ℕ) (hk : k ≤ 2) (hi : i.val = r.val + (2 - k)) :
    (val_main_v7 (F := Ideal) u (ix3 0 i j) : EReal) = earlier k (fun r => u (ix2 r ⟨j.val, by omega⟩)) r := by
  pointwise [val_main_v7, val_main_v6, val_main_cst, val_main_v2, val_main_v0]
  by_cases hq : i.val < 2
  · exact (dif_pos hq).trans (if_neg (by omega)).symm
  · exact (dif_neg hq).trans ((congrArg (fun z => u (ix2 z ⟨j.val, by omega⟩)) (Fin.ext (by show i.val - 2 = r.val - k; omega))).trans
      (if_pos (by omega)).symm)

theorem v30 : (val_main_v30 (F := Ideal) u w b (ix3 0 r j) : EReal)
    = conv (fun r => u (ix2 r ⟨j.val, by omega⟩)) (fun k => w (ix2 k j)) (b (ix2 0 j)) r := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v5, val_main_v4, val_main_v1]
  rw [v7 u r j _ 2 (by omega) (by show r.val = _; omega), v7 u r j _ 1 (by omega) (by show 1 + r.val = _; omega),
    v7 u r j _ 0 (by omega) (by show 2 + r.val = _; omega), show earlier 0 (fun r => u (ix2 r ⟨j.val, by omega⟩)) r = _ from if_pos (Nat.zero_le _)]
  rfl

theorem v34 : val_main_v34 (F := Ideal) u w b = fun y : S2048x5632.Idx => gated u w b (y 0) (y 1) := by
  funext y
  obtain ⟨r, j, rfl⟩ : ∃ (r : Fin 2048) (j : Fin 5632), y = ix2 r j := ⟨y 0, y 1, by idx_ext⟩
  pointwise [val_main_v34, val_main_v33, val_main_v32, val_main_v31, val_main_call0_v5, val_main_call0_v4, val_main_call0_v3, val_main_call0_v2,
    val_main_call0_v1, val_main_call0_v0, val_main_call0_cst, val_main_call0_cst_0, val_main_v3, val_main_v0]
  rw [v30]
  rfl

end Ref

/-- What the reference leaves is what the kernel leaves. -/
theorem results_eq (m : (ℓ : Loc nD τ sig) → Buf (Elt Ideal) ℓ) (c : Dev nD)
    {x0 : (⟨S2048x11264, .f32⟩ : BufTy).Contents (Elt Ideal)} {x1 : (⟨S3x5632, .f32⟩ : BufTy).Contents (Elt Ideal)}
    {x2 : (⟨S1x5632, .f32⟩ : BufTy).Contents (Elt Ideal)}
    (e : x0 = m ((c.tc : Thread nD τ).loc main_arg0) ∧ x1 = m ((c.tc : Thread nD τ).loc main_arg1)
      ∧ x2 = m ((c.tc : Thread nD τ).loc main_arg2)) :
    Cert.ConvFwdRefIdeal.Read.val_main_v34 (F := Ideal) x0 x1 x2 = (dats m 0 c).arrAt 4 cfg0.N := by
  obtain ⟨rfl, rfl, rfl⟩ := e
  exact (v34 _ _ _).trans (final m c).symm

set_option maxRecDepth 16384 in
/-- The two programs' results agree, on every device. -/
theorem algebraic : Cert.algebraic_ConvFwdIdeal_ConvFwdRefIdeal := by
  pair_intro
  · run_from (Cert.ConvFwdIdeal.Value.run_blocks (F := Ideal) m g)
  · run_from (Cert.ConvFwdRefIdeal.Value.run (F := Ideal) m' g')
    exact (Cert.ConvFwdRefIdeal.Read.val_main_v34_eq m' c).trans (results_eq m c (hagree c))

theorem frame : Cert.quiescent_ConvFwd := fun m ρ _ => Cert.ConvFwd.Gen.frame m ρ
theorem frame_ideal : Cert.quiescent_ConvFwdIdeal := fun m ρ _ => Cert.ConvFwdIdeal.Gen.frame m ρ
theorem frame_ref : Cert.quiescent_ConvFwdRefIdeal := fun m ρ _ =>
  θ_run_mono (Cert.ConvFwdRefIdeal.Value.run (F := Ideal) m ρ) fun r h =>
    ⟨fun c => (h c).2, sem_eq_zero_of_no_sems (by decide) r.2⟩

end Cert.Proof.ConvF

end
-- ==== Proof.AdaFwd.lean ====
/- The modulation of all sequences, `silu(c) · w + b`: what the call's result array holds, and that the reference's
   expression is the same array. -/
module

public import proofs.«01_k».proof.Defs
public import proofs.«01_k».proof.Proof.Gen.AdaFwd.Frame
public import proofs.«01_k».proof.Proof.Gen.AdaFwdIdeal.Value
public import proofs.«01_k».proof.Proof.Gen.AdaFwdRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.AdaF

open Idealize.ShloMosaic Idealize.ShloMosaic.TcCoe Idealize.SL.Sem Idealize.ShloMosaic.Pointwise
open Cert.AdaFwdIdeal Cert.AdaFwdIdeal.Gen

/-- `x · 1/(1 + e^(-x))`. -/
def silu (x : EReal) : EReal := x * Ideal.div 1 (1 + Ideal.exp (-x))

/-- The modulation of sequence `b`, column `j`. -/
def M (x : S8x2048.Idx → EReal) (w : S2048x1536.Idx → EReal) (b : S1x1536.Idx → EReal) : S8x1536.Idx → EReal :=
  fun i => (∑ k : Fin 2048, silu (x (ix2 (i 0) k)) * w (ix2 k (i 1))) + b (ix2 0 (i 1))

/-- One block: 512 columns of the modulation. -/
theorem pay_apply (x : Vec Ideal S8x2048 .f32) (w : Vec Ideal S2048x512 .f32) (b : Vec Ideal S1x512 .f32) (r : Fin 8) (l : Fin 512) :
    (k0_pay1 (F := Ideal) x w b (ix2 r l) : EReal) = (∑ k : Fin 2048, silu (x (ix2 r k)) * w (ix2 k l)) + b (ix2 0 l) := by
  pointwise [k0_pay1, silu]
  simp only [sub_eq_add_neg, zero_add]

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- The whole result array. -/
theorem final (m : (ℓ : Loc nD τ sig) → Buf (Elt Ideal) ℓ) (c : Dev nD) : (dats m 0 c).arrAt 3 cfg0.N
    = M (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, l, rfl⟩ : ∃ (r : Fin 8) (l : Fin 512), y = ix2 r l := ⟨y 0, y 1, by idx_ext⟩
  rw [pay_apply]
  have e0 : ∀ k, iblk m c 0 t (ix2 r k) = m ((c : Thread nD τ).loc main_arg0) (ix2 (((cfg0.win 3).blk t).view.emb (ix2 r l) 0) k) := fun k => by
    blk_simp [iblk]
    exact congrArg _ (by blk_ext [idx0 t, idx3 t])
  have e1 : ∀ k, iblk m c 1 t (ix2 k l) = m ((c : Thread nD τ).loc main_arg1) (ix2 k (((cfg0.win 3).blk t).view.emb (ix2 r l) 1)) := fun k => by
    blk_simp [iblk]
    exact congrArg _ (by blk_ext [idx1 t, idx3 t])
  have e2 : iblk m c 2 t (ix2 0 l) = m ((c : Thread nD τ).loc main_arg2) (ix2 0 (((cfg0.win 3).blk t).view.emb (ix2 r l) 1)) := by
    blk_simp [iblk]
    exact congrArg _ (by blk_ext [idx2 t, idx3 t])
  rw [e2]
  refine congrArg (· + _) (Finset.sum_congr rfl fun k _ => ?_)
  rw [e0, e1]

open Cert.AdaFwdRefIdeal.Read in
/-- The reference's expression is the same array. -/
theorem ref_eq (x : S8x2048.Idx → EReal) (w : S2048x1536.Idx → EReal) (b : S1x1536.Idx → EReal) :
    val_main_v5 (F := Ideal) x w b = M x w b := by
  funext i
  obtain ⟨r, l, rfl⟩ : ∃ (r : Fin 8) (l : Fin 1536), i = ix2 r l := ⟨i 0, i 1, by idx_ext⟩
  pointwise [val_main_v5, val_main_v4, val_main_v3, val_main_v2, val_main_v1, val_main_v0, val_main_call0_v5, val_main_call0_v4,
    val_main_call0_v3, val_main_call0_v2, val_main_call0_v1, val_main_call0_v0, val_main_call0_cst, val_main_call0_cst_0]
  rfl

/-- The two programs' results agree, on every device. -/
theorem algebraic : Cert.algebraic_AdaFwdIdeal_AdaFwdRefIdeal := by
  pair_intro
  · run_from (Cert.AdaFwdIdeal.Value.run_blocks (F := Ideal) m g)
  · run_from (Cert.AdaFwdRefIdeal.Value.run (F := Ideal) m' g')
    exact (Cert.AdaFwdRefIdeal.Read.val_main_v5_eq _ _ _).trans ((ref_eq _ _ _).trans (final m c).symm)

theorem frame : Cert.quiescent_AdaFwd := fun m ρ _ => Cert.AdaFwd.Gen.frame m ρ
theorem frame_ideal : Cert.quiescent_AdaFwdIdeal := fun m ρ _ => Cert.AdaFwdIdeal.Gen.frame m ρ
theorem frame_ref : Cert.quiescent_AdaFwdRefIdeal := fun m ρ _ =>
  θ_run_mono (Cert.AdaFwdRefIdeal.Value.run (F := Ideal) m ρ) fun r h =>
    ⟨fun c => (h c).2, sem_eq_zero_of_no_sems (by decide) r.2⟩

end Cert.Proof.AdaF

end
-- ==== Proof.MmUp.lean ====
/- A product `h · w`, the weight in eight blocks of columns: what the call's result array holds, and that the
   reference's expression is the same array. -/
module

public import proofs.«01_k».proof.Defs
public import proofs.«01_k».proof.Proof.Gen.MmUp.Frame
public import proofs.«01_k».proof.Proof.Gen.MmUpIdeal.Value
public import proofs.«01_k».proof.Proof.Gen.MmUpRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.MmUp

open Idealize.ShloMosaic Idealize.ShloMosaic.TcCoe Idealize.SL.Sem Idealize.ShloMosaic.Pointwise
open Cert.MmUpIdeal Cert.MmUpIdeal.Gen

/-- The product. -/
def G (h : S2048x2048.Idx → EReal) (w : S2048x11264.Idx → EReal) : S2048x11264.Idx → EReal :=
  fun i => ∑ k : Fin 2048, h (ix2 (i 0) k) * w (ix2 k (i 1))

/-- One block of the product. -/
theorem pay_apply (a : Vec Ideal S1024x2048 .bf16) (w : Vec Ideal S1x2048x1408 .bf16) (r : Fin 1024) (l : Fin 1408) :
    (k0_pay1 (F := Ideal) a w (ix2 r l) : EReal) = ∑ k : Fin 2048, (a (ix2 r k) : EReal) * w (ix3 0 k l) := by
  pointwise [k0_pay1]

theorem idx0 : ∀ t : Fin cfg0.N, win0_0.index t = ![t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val % 2, t.val / 2] := (by decide +kernel : ∀ t : Fin grid0.N, _)

/-- The block of the weight that point `t` reads, and the row and the column of the entry that it writes. -/
def part (t : Fin cfg0.N) : Fin 8 := ⟨t.val / 2, by
  have h : t.val < 16 := lt_of_lt_of_eq t.isLt (by decide +kernel)
  omega⟩
def col (b : Fin 8) (l : Fin 1408) : Fin 11264 := ⟨b.val * 1408 + l.val, by omega⟩
def row (t : Fin cfg0.N) (r : Fin 1024) : Fin 2048 := ⟨t.val % 2 * 1024 + r.val, by omega⟩

section
variable (m : (ℓ : Loc nD τ sig) → Buf (Elt Ideal) ℓ) (c : Dev nD)

/-- The weight's blocks hold the weight's columns. -/
theorem weight (b : Fin 8) (k : Fin 2048) (l : Fin 1408) :
    (V m c main_v2 (ix3 b k l) : EReal) = m ((c : Thread nD τ).loc main_arg1) (ix2 k (col b l)) := by
  show StableHlo.after hostOps0 _ (Proc.devRef .tc main_v2) (ix3 b k l) = _
  entry_read
  pointwise [col]

/-- The whole result array. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, l, rfl⟩ : ∃ (r : Fin 1024) (l : Fin 1408), y = ix2 r l := ⟨y 0, y 1, by idx_ext⟩
  have e : ((cfg0.win 2).blk t).view.emb (ix2 r l) = ix2 (row t r) (col (part t) l) := by blk_ext [idx2 t, row, col, part]
  rw [e, pay_apply]
  have e0 : ∀ k : Fin 2048, (iblk m c 0 t (ix2 r k) : EReal) = m ((c : Thread nD τ).loc main_arg0) (ix2 (row t r) k) := fun k => by
    refine Eq.trans ?_ (congrFun (V_main_arg0 m c) _)
    blk_simp [iblk]
    exact congrArg _ (by blk_ext [idx0 t, row])
  have e1 : ∀ k : Fin 2048, (iblk m c 1 t (ix3 0 k l) : EReal) = m ((c : Thread nD τ).loc main_arg1) (ix2 k (col (part t) l)) := fun k => by
    refine Eq.trans ?_ (weight m c (part t) k l)
    blk_simp [iblk]
    exact congrArg _ (by blk_ext [idx1 t, part])
  simp only [e0, e1]
  rfl

end

open Cert.MmUpRefIdeal.Read in
/-- The reference's expression is the same array. -/
theorem ref_eq (h : S2048x2048.Idx → EReal) (w : S2048x11264.Idx → EReal) : val_main_v1 (F := Ideal) h w = G h w := by
  funext i
  obtain ⟨r, l, rfl⟩ : ∃ (r : Fin 2048) (l : Fin 11264), i = ix2 r l := ⟨i 0, i 1, by idx_ext⟩
  pointwise [val_main_v1, val_main_v0]
  rfl

/-- The two programs' results agree, on every device. -/
theorem algebraic : Cert.algebraic_MmUpIdeal_MmUpRefIdeal := by
  pair_intro
  · run_from (Cert.MmUpIdeal.Value.run_blocks (F := Ideal) m g)
  · run_from (Cert.MmUpRefIdeal.Value.run (F := Ideal) m' g')
    exact (Cert.MmUpRefIdeal.Read.val_main_v1_eq _ _).trans ((ref_eq _ _).trans (final m c).symm)

theorem frame : Cert.quiescent_MmUp := fun m ρ _ => Cert.MmUp.Gen.frame m ρ
theorem frame_ideal : Cert.quiescent_MmUpIdeal := fun m ρ _ => Cert.MmUpIdeal.Gen.frame m ρ
theorem frame_ref : Cert.quiescent_MmUpRefIdeal := fun m ρ _ =>
  θ_run_mono (Cert.MmUpRefIdeal.Value.run (F := Ideal) m ρ) fun r h =>
    ⟨fun c => (h c).2, sem_eq_zero_of_no_sems (by decide) r.2⟩

end Cert.Proof.MmUp

end
-- ==== Proof.MmInDx.lean ====
/- The gradient of a product's input, `d · wᵀ`, summed over eight blocks of the weight's columns: what the call's
   result array holds, and that the reference's expression is the same array. -/
module

public import proofs.«01_k».proof.Defs
public import proofs.«01_k».proof.Proof.Gen.MmInDx.Frame
public import proofs.«01_k».proof.Proof.Gen.MmInDxIdeal.Value
public import proofs.«01_k».proof.Proof.Gen.MmInDxRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.MmInDx

open Idealize.ShloMosaic Idealize.ShloMosaic.TcCoe Idealize.SL.Sem Idealize.ShloMosaic.Pointwise
open Cert.MmInDxIdeal Cert.MmInDxIdeal.Gen

/-- The gradient of the product's input. -/
def G (d : S2048x7168.Idx → EReal) (w : S2048x7168.Idx → EReal) : S2048x2048.Idx → EReal :=
  fun i => ∑ l : Fin 7168, d (ix2 (i 0) l) * w (ix2 (i 1) l)

/-- One block's part of the product, alone and added to what stood there. -/
theorem pay1_apply (d : Vec Ideal S1024x896 .bf16) (w : Vec Ideal S1x2048x896 .bf16) (r : Fin 1024) (n : Fin 2048) :
    (k0_pay1 (F := Ideal) d w (ix2 r n) : EReal) = ∑ l : Fin 896, (d (ix2 r l) : EReal) * w (ix3 0 n l) := by
  pointwise [k0_pay1]
theorem pay2_apply (d : Vec Ideal S1024x896 .bf16) (w : Vec Ideal S1x2048x896 .bf16) (v : Vec Ideal S1024x2048 .f32) (r : Fin 1024) (n : Fin 2048) :
    (k0_pay2 (F := Ideal) d w v (ix2 r n) : EReal) = v (ix2 r n) + ∑ l : Fin 896, (d (ix2 r l) : EReal) * w (ix3 0 n l) := by
  pointwise [k0_pay2, k0_pay1]

theorem idx0 : ∀ t : Fin cfg0.N, win0_0.index t = ![t.val / 8, t.val % 8] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![t.val / 8, 0] := (by decide +kernel : ∀ t : Fin grid0.N, _)

/-- The block of columns of point `t`, a column of a block, and the row that an entry of the point's block has. -/
def part (t : Fin cfg0.N) : Fin 8 := ⟨t.val % 8, Nat.mod_lt _ (by decide)⟩
def col (b : Fin 8) (l : Fin 896) : Fin 7168 := ⟨b.val * 896 + l.val, by omega⟩
def row (t : Fin cfg0.N) (r : Fin 1024) : Fin 2048 := ⟨t.val / 8 * 1024 + r.val, by
  have h : t.val < 16 := lt_of_lt_of_eq t.isLt (by decide +kernel)
  omega⟩

section
variable (m : (ℓ : Loc nD τ sig) → Buf (Elt Ideal) ℓ) (c : Dev nD)

/-- The weight's blocks hold the weight's columns. -/
theorem weight (b : Fin 8) (k : Fin 2048) (l : Fin 896) :
    (V m c main_v2 (ix3 b k l) : EReal) = m ((c : Thread nD τ).loc main_arg1) (ix2 k (col b l)) := by
  show StableHlo.after hostOps0 _ (Proc.devRef .tc main_v2) (ix3 b k l) = _
  entry_read
  pointwise [col]

theorem blkW (t : Fin cfg0.N) (n : Fin 2048) (l : Fin 896) :
    (iblk m c 1 t (ix3 0 n l) : EReal) = m ((c : Thread nD τ).loc main_arg1) (ix2 n (col (part t) l)) := by
  refine Eq.trans ?_ (weight m c (part t) n l)
  blk_simp [iblk]
  exact congrArg _ (by blk_ext [idx1 t, part])
/-- The two arguments. -/
def arr0 : S2048x7168.Idx → EReal := m ((c : Thread nD τ).loc main_arg0)
def arr1 : S2048x7168.Idx → EReal := m ((c : Thread nD τ).loc main_arg1)

theorem blkD (t : Fin cfg0.N) (r : Fin 1024) (l : Fin 896) :
    (iblk m c 0 t (ix2 r l) : EReal) = m ((c : Thread nD τ).loc main_arg0) (ix2 (row t r) (col (part t) l)) := by
  refine Eq.trans ?_ (congrFun (V_main_arg0 m c) _)
  blk_simp [iblk]
  exact congrArg _ (by blk_ext [idx0 t, row, col, part])

/-- What point `t` adds. -/
def term (r : Fin 1024) (n : Fin 2048) (t : Fin cfg0.N) : EReal := ∑ l : Fin 896,
  arr0 m c (ix2 (row t r) (col (part t) l)) * arr1 m c (ix2 n (col (part t) l))

/-- The sum over a row's blocks when the row is written back. -/
theorem total (t : Fin cfg0.N) (ht : t.val % 8 = 7) (r : Fin 1024) (n : Fin 2048) :
    (outsAt0 m c t.val t.isLt (ix2 r n) : EReal) = G (m ((c : Thread nD τ).loc main_arg0)) (m ((c : Thread nD τ).loc main_arg1)) (ix2 (row t r) n) := by
  refine (Pipeline.eq_sum_fin_of_reset_step_of_flush (N := cfg0.N) (fun n' h => (outsAt0 m c n' h (ix2 r n) : EReal)) 8 0
    (term m c r n) (fun t h => ?_) (fun t h => ?_) t ht).trans ?_
  · rw [outsAt0_A m c t h (by omega)]
    frame_out
    rw [pay1_apply, zero_add]
    simp only [blkD, blkW]
    rfl
  · rw [outsAt0_B m c t h (by omega)]
    frame_out
    rw [pay2_apply]
    simp only [blkD, blkW]
    rfl
  rw [zero_add]
  refine Eq.trans ?_ (Fin.sum_mul_add_fin 8 896 (fun l : Fin 7168 =>
    arr0 m c (ix2 (row t r) l) * arr1 m c (ix2 n l)))
  refine Finset.sum_congr rfl fun s _ => Finset.sum_congr rfl fun l _ => ?_
  have hp : ∀ h, part (⟨8 * (t.val / 8) + s.val, h⟩ : Fin cfg0.N) = s := fun h => Fin.ext (by
    show (8 * (t.val / 8) + s.val) % 8 = s.val
    omega)
  have hr : ∀ h, row (⟨8 * (t.val / 8) + s.val, h⟩ : Fin cfg0.N) r = row t r := fun h => Fin.ext (by
    show (8 * (t.val / 8) + s.val) / 8 * 1024 + r.val = t.val / 8 * 1024 + r.val
    omega)
  rw [hp, hr]
  rfl

/-- The whole result array. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2]
  obtain ⟨r, n, rfl⟩ : ∃ (r : Fin 1024) (n : Fin 2048), y = ix2 r n := ⟨y 0, y 1, by idx_ext⟩
  have e : ((cfg0.win 2).blk t).view.emb (ix2 r n) = ix2 (row t r) n := by blk_ext [idx2 t, row]
  rw [e]
  exact total m c t ht r n

end

open Cert.MmInDxRefIdeal.Read in
/-- The reference's expression is the same array. -/
theorem ref_eq (d : S2048x7168.Idx → EReal) (w : S2048x7168.Idx → EReal) : val_main_v3 (F := Ideal) d w = G d w := by
  funext i
  obtain ⟨r, n, rfl⟩ : ∃ (r : Fin 2048) (n : Fin 2048), i = ix2 r n := ⟨i 0, i 1, by idx_ext⟩
  pointwise [val_main_v3, val_main_v2]
  rfl

set_option maxRecDepth 20000 in
/-- The two programs' results agree, on every device. -/
theorem algebraic : Cert.algebraic_MmInDxIdeal_MmInDxRefIdeal := by
  pair_intro
  · run_from (Cert.MmInDxIdeal.Value.run_blocks (F := Ideal) m g)
  · run_from (Cert.MmInDxRefIdeal.Value.run (F := Ideal) m' g')
    refine (Cert.MmInDxRefIdeal.Read.val_main_v3_eq _ _).trans ((ref_eq _ _).trans ?_)
    exact (final m c).symm

theorem frame : Cert.quiescent_MmInDx := fun m ρ _ => Cert.MmInDx.Gen.frame m ρ
theorem frame_ideal : Cert.quiescent_MmInDxIdeal := fun m ρ _ => Cert.MmInDxIdeal.Gen.frame m ρ
theorem frame_ref : Cert.quiescent_MmInDxRefIdeal := fun m ρ _ =>
  θ_run_mono (Cert.MmInDxRefIdeal.Value.run (F := Ideal) m ρ) fun r h =>
    ⟨fun c => (h c).2, sem_eq_zero_of_no_sems (by decide) r.2⟩

end Cert.Proof.MmInDx

end
-- ==== Proof.MmInDw.lean ====
/- The gradient of a weight, `aᵀ · d`, its columns in eight blocks, one for each device: what the call's result
   array holds, and that the reference's expression is the same array. -/
module

public import proofs.«01_k».proof.Defs
public import proofs.«01_k».proof.Proof.Gen.MmInDw.Frame
public import proofs.«01_k».proof.Proof.Gen.MmInDwIdeal.Value
public import proofs.«01_k».proof.Proof.Gen.MmInDwRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.MmInDw

open Idealize.ShloMosaic Idealize.ShloMosaic.TcCoe Idealize.SL.Sem Idealize.ShloMosaic.Pointwise
open Cert.MmInDwIdeal Cert.MmInDwIdeal.Gen

/-- Column `c` of block `b`. -/
abbrev col (b : Fin 8) (c : Fin 896) : Fin 7168 := ⟨b.val * 896 + c.val, by omega⟩

/-- The gradient: block `b`, row `r`, column `c`. -/
def G (a : S2048x2048.Idx → EReal) (d : S2048x7168.Idx → EReal) (b : Fin 8) (r : Fin 2048) (c : Fin 896) : EReal :=
  ∑ k : Fin 2048, a (ix2 k r) * d (ix2 k (col b c))

/-- One block of the product. -/
theorem pay_apply (a : Vec Ideal S2048x1024 .bf16) (d : Vec Ideal S2048x896 .bf16) (r : Fin 1024) (l : Fin 896) :
    (k0_pay1 (F := Ideal) a d (ix3 0 r l) : EReal) = ∑ k : Fin 2048, (a (ix2 k r) : EReal) * d (ix2 k l) := by
  pointwise [k0_pay1]

theorem idx0 : ∀ t : Fin cfg0.N, win0_0.index t = ![0, t.val % 2] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val / 2, t.val % 2, 0] := (by decide +kernel : ∀ t : Fin grid0.N, _)

/-- The block and the row that point `t` writes. -/
def blkOf (t : Fin cfg0.N) : Fin 8 := ⟨t.val / 2, by
  have h : t.val < 16 := lt_of_lt_of_eq t.isLt (by decide +kernel)
  omega⟩
def rowOf (t : Fin cfg0.N) (r : Fin 1024) : Fin 2048 := ⟨t.val % 2 * 1024 + r.val, by omega⟩

/-- The whole result array. -/
theorem final (m : (ℓ : Loc nD τ sig) → Buf (Elt Ideal) ℓ) (c : Dev nD) : (dats m 0 c).arrAt 2 cfg0.N = fun y : S8x2048x896.Idx =>
    G (m ((c : Thread nD τ).loc main_arg0)) (m ((c : Thread nD τ).loc main_arg1)) (y 0) (y 1) (y 2) := by
  refine (dats m 0 c).arrAt_eq_of_covers 2 _ (by decide +kernel) fun t hf y => ?_
  blk_simp
  rw [after0_2]
  frame_out
  obtain ⟨z, r, l, rfl⟩ : ∃ (z : Fin 1) (r : Fin 1024) (l : Fin 896), y = ix3 z r l := ⟨y 0, y 1, y 2, by idx_ext⟩
  obtain rfl : z = 0 := Subsingleton.elim _ _
  have e : ((cfg0.win 2).blk t).view.emb (ix3 0 r l) = ix3 (blkOf t) (rowOf t r) l := by blk_ext [idx2 t, blkOf, rowOf]
  rw [e, pay_apply]
  have e0 : ∀ k : Fin 2048, (iblk m c 0 t (ix2 k r) : EReal) = m ((c : Thread nD τ).loc main_arg0) (ix2 k (rowOf t r)) := fun k => by
    blk_simp [iblk]
    exact congrArg _ (by blk_ext [idx0 t, rowOf])
  have e1 : ∀ k : Fin 2048, (iblk m c 1 t (ix2 k l) : EReal) = m ((c : Thread nD τ).loc main_arg1) (ix2 k (col (blkOf t) l)) := fun k => by
    blk_simp [iblk]
    exact congrArg _ (by blk_ext [idx1 t, blkOf, col])
  simp only [e0, e1]
  rfl

open Cert.MmInDwRefIdeal.Read in
/-- The reference's expression is the same array. -/
theorem ref_eq (a : S2048x2048.Idx → EReal) (d : S2048x7168.Idx → EReal) :
    val_main_v8 (F := Ideal) a d = fun y : S8x2048x896.Idx => G a d (y 0) (y 1) (y 2) := by
  funext i
  obtain ⟨b, r, l, rfl⟩ : ∃ (b : Fin 8) (r : Fin 2048) (l : Fin 896), i = ix3 b r l := ⟨i 0, i 1, i 2, by idx_ext⟩
  pointwise [val_main_v8, val_main_v7, val_main_v6, val_main_v5, val_main_v4, val_main_v3, val_main_v1]
  exact Finset.sum_congr rfl fun k _ => mul_comm _ _

/-- The two programs' results agree, on every device. -/
theorem algebraic : Cert.algebraic_MmInDwIdeal_MmInDwRefIdeal := by
  pair_intro
  · run_from (Cert.MmInDwIdeal.Value.run_blocks (F := Ideal) m g)
  · run_from (Cert.MmInDwRefIdeal.Value.run (F := Ideal) m' g')
    exact (Cert.MmInDwRefIdeal.Read.val_main_v8_eq _ _).trans ((ref_eq _ _).trans (final m c).symm)

theorem frame : Cert.quiescent_MmInDw := fun m ρ _ => Cert.MmInDw.Gen.frame m ρ
theorem frame_ideal : Cert.quiescent_MmInDwIdeal := fun m ρ _ => Cert.MmInDwIdeal.Gen.frame m ρ
theorem frame_ref : Cert.quiescent_MmInDwRefIdeal := fun m ρ _ =>
  θ_run_mono (Cert.MmInDwRefIdeal.Value.run (F := Ideal) m ρ) fun r h =>
    ⟨fun c => (h c).2, sem_eq_zero_of_no_sems (by decide) r.2⟩

end Cert.Proof.MmInDw

end
-- ==== Proof.MmUpDx.lean ====
/- The gradient of a product's input, `[a g] · wᵀ`, the columns in two halves, summed over eight blocks of the
   weight's columns: what the call's result array holds, and that the reference's expression is the same array. -/
module

public import proofs.«01_k».proof.Defs
public import proofs.«01_k».proof.Proof.Gen.MmUpDx.Frame
public import proofs.«01_k».proof.Proof.Gen.MmUpDxIdeal.Value
public import proofs.«01_k».proof.Proof.Gen.MmUpDxRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.MmUpDx

open Idealize.ShloMosaic Idealize.ShloMosaic.TcCoe Idealize.SL.Sem Idealize.ShloMosaic.Pointwise
open Cert.MmUpDxIdeal Cert.MmUpDxIdeal.Gen

/-- An entry of the two halves side by side. -/
def side (a g : S2048x5632.Idx → EReal) (r : Fin 2048) (l : Fin 11264) : EReal :=
  if h : l.val < 5632 then a (ix2 r ⟨l.val, h⟩) else g (ix2 r ⟨l.val - 5632, by omega⟩)

/-- The gradient of the product's input. -/
def G (a g : S2048x5632.Idx → EReal) (w : S2048x11264.Idx → EReal) : S2048x2048.Idx → EReal :=
  fun i => ∑ l : Fin 11264, side a g (i 0) l * w (ix2 (i 1) l)

/-- One block's part of the product, alone and added to what stood there. -/
theorem pay1_apply (d : Vec Ideal S1024x1408 .bf16) (w : Vec Ideal S1x2048x1408 .bf16) (r : Fin 1024) (n : Fin 2048) :
    (k0_pay1 (F := Ideal) d w (ix2 r n) : EReal) = ∑ l : Fin 1408, (d (ix2 r l) : EReal) * w (ix3 0 n l) := by
  pointwise [k0_pay1]
theorem pay2_apply (d : Vec Ideal S1024x1408 .bf16) (w : Vec Ideal S1x2048x1408 .bf16) (v : Vec Ideal S1024x2048 .f32) (r : Fin 1024) (n : Fin 2048) :
    (k0_pay2 (F := Ideal) d w v (ix2 r n) : EReal) = v (ix2 r n) + ∑ l : Fin 1408, (d (ix2 r l) : EReal) * w (ix3 0 n l) := by
  pointwise [k0_pay2, k0_pay1]
/-- The second half's parts are the same functions. -/
theorem pay4_eq (d : Vec Ideal S1024x1408 .bf16) (w : Vec Ideal S1x2048x1408 .bf16) (v : Vec Ideal S1024x2048 .f32) :
    k0_pay4 (F := Ideal) d w v = k0_pay2 d w v := rfl

theorem idx0 : ∀ t : Fin cfg0.N, win0_0.index t = ![t.val / 8, min (t.val % 8) 3] := (by decide +kernel : ∀ t : Fin grid0.N, _)
theorem idx1 : ∀ t : Fin cfg0.N, win0_1.index t = ![t.val / 8, t.val % 8 - 4] := (by decide +kernel : ∀ t : Fin grid0.N, _)
theorem idx2 : ∀ t : Fin cfg0.N, win0_2.index t = ![t.val % 8, 0, 0] := (by decide +kernel : ∀ t : Fin grid0.N, _)
theorem idx3 : ∀ t : Fin cfg0.N, win0_3.index t = ![t.val / 8, 0] := (by decide +kernel : ∀ t : Fin grid0.N, _)

/-- The block of columns of point `t`, a column of a block, and the row that an entry of the point's block has. -/
def part (t : Fin cfg0.N) : Fin 8 := ⟨t.val % 8, Nat.mod_lt _ (by decide)⟩
def col (b : Fin 8) (l : Fin 1408) : Fin 11264 := ⟨b.val * 1408 + l.val, by omega⟩
def row (t : Fin cfg0.N) (r : Fin 1024) : Fin 2048 := ⟨t.val / 8 * 1024 + r.val, by
  have h : t.val < 16 := lt_of_lt_of_eq t.isLt (by decide +kernel)
  omega⟩

section
variable (m : (ℓ : Loc nD τ sig) → Buf (Elt Ideal) ℓ) (c : Dev nD)

/-- The weight's blocks hold the weight's columns. -/
theorem weight (b : Fin 8) (k : Fin 2048) (l : Fin 1408) :
    (V m c main_v2 (ix3 b k l) : EReal) = m ((c : Thread nD τ).loc main_arg2) (ix2 k (col b l)) := by
  show StableHlo.after hostOps0 _ (Proc.devRef .tc main_v2) (ix3 b k l) = _
  entry_read
  pointwise [col]

theorem blkW (t : Fin cfg0.N) (n : Fin 2048) (l : Fin 1408) :
    (iblk m c 2 t (ix3 0 n l) : EReal) = m ((c : Thread nD τ).loc main_arg2) (ix2 n (col (part t) l)) := by
  refine Eq.trans ?_ (weight m c (part t) n l)
  blk_simp [iblk]
  exact congrArg _ (by blk_ext [idx2 t, part])
theorem blkA (t : Fin cfg0.N) (h : t.val % 8 ≤ 3) (r : Fin 1024) (l : Fin 1408) : (iblk m c 0 t (ix2 r l) : EReal)
    = side (m ((c : Thread nD τ).loc main_arg0)) (m ((c : Thread nD τ).loc main_arg1)) (row t r) (col (part t) l) := by
  refine Eq.trans ?_ (dif_pos (show t.val % 8 * 1408 + l.val < 5632 by omega)).symm
  refine Eq.trans ?_ (congrFun (V_main_arg0 m c) _)
  blk_simp [iblk]
  have h3 : min (t.val % 8) 3 = t.val % 8 := by omega
  exact congrArg _ (by blk_ext [idx0 t, row, h3, col, part])
theorem blkG (t : Fin cfg0.N) (h : 4 ≤ t.val % 8) (r : Fin 1024) (l : Fin 1408) : (iblk m c 1 t (ix2 r l) : EReal)
    = side (m ((c : Thread nD τ).loc main_arg0)) (m ((c : Thread nD τ).loc main_arg1)) (row t r) (col (part t) l) := by
  refine Eq.trans ?_ (dif_neg (show ¬t.val % 8 * 1408 + l.val < 5632 by omega)).symm
  refine Eq.trans ?_ (congrFun (V_main_arg1 m c) _)
  blk_simp [iblk]
  have h4 : t.val % 8 * 1408 + l.val - 5632 = (t.val % 8 - 4) * 1408 + l.val := by omega
  exact congrArg _ (by blk_ext [idx1 t, row, h4, col, part])

/-- What point `t` adds. -/
def term (r : Fin 1024) (n : Fin 2048) (t : Fin cfg0.N) : EReal := ∑ l : Fin 1408,
  side (m ((c : Thread nD τ).loc main_arg0)) (m ((c : Thread nD τ).loc main_arg1)) (row t r) (col (part t) l)
    * m ((c : Thread nD τ).loc main_arg2) (ix2 n (col (part t) l))

/-- The sum over a row's blocks when the row is written back. -/
theorem total (t : Fin cfg0.N) (ht : t.val % 8 = 7) (r : Fin 1024) (n : Fin 2048) :
    (outsAt0 m c t.val t.isLt (ix2 r n) : EReal) = G (m ((c : Thread nD τ).loc main_arg0)) (m ((c : Thread nD τ).loc main_arg1)) (m ((c : Thread nD τ).loc main_arg2)) (ix2 (row t r) n) := by
  refine (Pipeline.eq_sum_fin_of_reset_step_of_flush (N := cfg0.N) (fun n' h => (outsAt0 m c n' h (ix2 r n) : EReal)) 8 0
    (term m c r n) (fun t h => ?_) (fun t h => ?_) t ht).trans ?_
  · rw [outsAt0_A m c t (by omega) h (by omega) (by omega)]
    frame_out
    rw [pay1_apply, zero_add]
    simp only [blkA m c t (by omega), blkW]
    rfl
  · rcases Nat.lt_or_ge (t.val % 8) 4 with h4 | h4
    · rw [outsAt0_B m c t (by omega) h (by omega) (by omega)]
      frame_out
      rw [pay2_apply]
      simp only [blkA m c t (by omega), blkW]
      rfl
    · rw [outsAt0_C m c t (by omega) h4 h (by omega)]
      frame_out
      rw [pay4_eq, pay2_apply]
      simp only [blkG m c t h4, blkW]
      rfl
  rw [zero_add]
  refine Eq.trans ?_ (Fin.sum_mul_add_fin 8 1408 (fun l : Fin 11264 =>
    side (m ((c : Thread nD τ).loc main_arg0)) (m ((c : Thread nD τ).loc main_arg1)) (row t r) l * m ((c : Thread nD τ).loc main_arg2) (ix2 n l)))
  refine Finset.sum_congr rfl fun s _ => Finset.sum_congr rfl fun l _ => ?_
  have hp : ∀ h, part (⟨8 * (t.val / 8) + s.val, h⟩ : Fin cfg0.N) = s := fun h => Fin.ext (by
    show (8 * (t.val / 8) + s.val) % 8 = s.val
    omega)
  have hr : ∀ h, row (⟨8 * (t.val / 8) + s.val, h⟩ : Fin cfg0.N) r = row t r := fun h => Fin.ext (by
    show (8 * (t.val / 8) + s.val) / 8 * 1024 + r.val = t.val / 8 * 1024 + r.val
    omega)
  rw [hp, hr]
  rfl

/-- The whole result array. -/
theorem final : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  blk_simp
  rw [after0_3]
  obtain ⟨r, n, rfl⟩ : ∃ (r : Fin 1024) (n : Fin 2048), y = ix2 r n := ⟨y 0, y 1, by idx_ext⟩
  have e : ((cfg0.win 3).blk t).view.emb (ix2 r n) = ix2 (row t r) n := by blk_ext [idx3 t, row]
  rw [e]
  exact total m c t ht r n

end

open Cert.MmUpDxRefIdeal.Read in
/-- The reference's expression is the same array. -/
theorem ref_eq (a g : S2048x5632.Idx → EReal) (w : S2048x11264.Idx → EReal) : val_main_v4 (F := Ideal) a g w = G a g w := by
  funext i
  obtain ⟨r, n, rfl⟩ : ∃ (r : Fin 2048) (n : Fin 2048), i = ix2 r n := ⟨i 0, i 1, by idx_ext⟩
  pointwise [val_main_v4, val_main_v1, val_main_v0]
  refine Eq.symm ((Fin.sum_univ_add (a := 5632) (b := 5632) fun l : Fin (5632 + 5632) => side a g r l * w (ix2 n l)).trans ?_)
  refine congrArg₂ (· + ·) (Finset.sum_congr rfl fun l _ => congrArg₂ (· * ·) ?_ rfl)
    (Finset.sum_congr rfl fun l _ => congrArg₂ (· * ·) ?_ rfl)
  · exact dif_pos l.isLt
  · refine (dif_neg (show ¬5632 + l.val < 5632 by omega)).trans (congrArg g ?_)
    exact congrArg (ix2 r) (Fin.ext (Nat.add_sub_cancel_left (n := 5632) (m := l.val)))

set_option maxRecDepth 20000 in
/-- The two programs' results agree, on every device. -/
theorem algebraic : Cert.algebraic_MmUpDxIdeal_MmUpDxRefIdeal := by
  pair_intro
  · run_from (Cert.MmUpDxIdeal.Value.run_blocks (F := Ideal) m g)
  · run_from (Cert.MmUpDxRefIdeal.Value.run (F := Ideal) m' g')
    refine (Cert.MmUpDxRefIdeal.Read.val_main_v4_eq _ _ _).trans ((ref_eq _ _ _).trans ?_)
    exact (final m c).symm

theorem frame : Cert.quiescent_MmUpDx := fun m ρ _ => Cert.MmUpDx.Gen.frame m ρ
theorem frame_ideal : Cert.quiescent_MmUpDxIdeal := fun m ρ _ => Cert.MmUpDxIdeal.Gen.frame m ρ
theorem frame_ref : Cert.quiescent_MmUpDxRefIdeal := fun m ρ _ =>
  θ_run_mono (Cert.MmUpDxRefIdeal.Value.run (F := Ideal) m ρ) fun r h =>
    ⟨fun c => (h c).2, sem_eq_zero_of_no_sems (by decide) r.2⟩

end Cert.Proof.MmUpDx

end
-- ==== Proof.MmUpDw.lean ====
/- The gradient of a weight, `hᵀ · [a g]`, the columns in two halves and the result in eight blocks, one for each
   device: what the call's result array holds, and that the reference's expression is the same array. -/
module

public import proofs.«01_k».proof.Defs
public import proofs.«01_k».proof.Proof.Gen.MmUpDw.Frame
public import proofs.«01_k».proof.Proof.Gen.MmUpDwIdeal.Value
public import proofs.«01_k».proof.Proof.Gen.MmUpDwRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.MmUpDw

open Idealize.ShloMosaic Idealize.ShloMosaic.TcCoe Idealize.SL.Sem Idealize.ShloMosaic.Pointwise
open Cert.MmUpDwIdeal Cert.MmUpDwIdeal.Gen

/-- An entry of the two halves side by side. -/
def side (a g : S2048x5632.Idx → EReal) (r : Fin 2048) (l : Fin 11264) : EReal :=
  if h : l.val < 5632 then a (ix2 r ⟨l.val, h⟩) else g (ix2 r ⟨l.val - 5632, by omega⟩)

/-- Column `l` of block `b`. -/
def col (b : Fin 8) (l : Fin 1408) : Fin 11264 := ⟨b.val * 1408 + l.val, by omega⟩

/-- The gradient: block `b`, row `r`, column `l`. -/
def G (x : S2048x2048.Idx → EReal) (a g : S2048x5632.Idx → EReal) (b : Fin 8) (r : Fin 2048) (l : Fin 1408) : EReal :=
  ∑ k : Fin 2048, x (ix2 k r) * side a g k (col b l)

/-- One block of the product; the second half's is the same function. -/
theorem pay1_apply (x : Vec Ideal S2048x1024 .bf16) (d : Vec Ideal S2048x1408 .bf16) (r : Fin 1024) (l : Fin 1408) :
    (k0_pay1 (F := Ideal) x d (ix3 0 r l) : EReal) = ∑ k : Fin 2048, (x (ix2 k r) : EReal) * d (ix2 k l) := by
  pointwise [k0_pay1]
theorem pay2_eq (x : Vec Ideal S2048x1024 .bf16) (d : Vec Ideal S2048x1408 .bf16) : k0_pay2 (F := Ideal) x d = k0_pay1 x d := rfl

theorem idx0 : ∀ t : Fin cfg0.N, win0_0.index t = ![0, t.val % 2] := (by decide +kernel : ∀ t : Fin grid0.N, _)
theorem idx1 : ∀ t : Fin cfg0.N, win0_1.index t = ![0, min (t.val / 2) 3] := (by decide +kernel : ∀ t : Fin grid0.N, _)
theorem idx2 : ∀ t : Fin cfg0.N, win0_2.index t = ![0, t.val / 2 - 4] := (by decide +kernel : ∀ t : Fin grid0.N, _)
theorem idx3 : ∀ t : Fin cfg0.N, win0_3.index t = ![t.val / 2, t.val % 2, 0] := (by decide +kernel : ∀ t : Fin grid0.N, _)

/-- The block and the row that point `t` writes. -/
def part (t : Fin cfg0.N) : Fin 8 := ⟨t.val / 2, by
  have h : t.val < 16 := lt_of_lt_of_eq t.isLt (by decide +kernel)
  omega⟩
def row (t : Fin cfg0.N) (r : Fin 1024) : Fin 2048 := ⟨t.val % 2 * 1024 + r.val, by omega⟩

section
variable (m : (ℓ : Loc nD τ sig) → Buf (Elt Ideal) ℓ) (c : Dev nD)

theorem blkX (t : Fin cfg0.N) (k : Fin 2048) (r : Fin 1024) :
    (iblk m c 0 t (ix2 k r) : EReal) = m ((c : Thread nD τ).loc main_arg0) (ix2 k (row t r)) := by
  blk_simp [iblk]
  exact congrArg _ (by blk_ext [idx0 t, row])
theorem blkA (t : Fin cfg0.N) (h : t.val < 8) (k : Fin 2048) (l : Fin 1408) : (iblk m c 1 t (ix2 k l) : EReal)
    = side (m ((c : Thread nD τ).loc main_arg1)) (m ((c : Thread nD τ).loc main_arg2)) k (col (part t) l) := by
  refine Eq.trans ?_ (dif_pos (show t.val / 2 * 1408 + l.val < 5632 by omega)).symm
  blk_simp [iblk]
  have h3 : min (t.val / 2) 3 = t.val / 2 := by omega
  exact congrArg _ (by blk_ext [idx1 t, h3, col, part])
theorem blkG (t : Fin cfg0.N) (h : 8 ≤ t.val) (k : Fin 2048) (l : Fin 1408) : (iblk m c 2 t (ix2 k l) : EReal)
    = side (m ((c : Thread nD τ).loc main_arg1)) (m ((c : Thread nD τ).loc main_arg2)) k (col (part t) l) := by
  refine Eq.trans ?_ (dif_neg (show ¬t.val / 2 * 1408 + l.val < 5632 by omega)).symm
  blk_simp [iblk]
  have h4 : t.val / 2 * 1408 + l.val - 5632 = (t.val / 2 - 4) * 1408 + l.val := by omega
  exact congrArg _ (by blk_ext [idx2 t, h4, col, part])

/-- The whole result array. -/
theorem final : (dats m 0 c).arrAt 3 cfg0.N = fun y : S8x2048x1408.Idx => G (m ((c : Thread nD τ).loc main_arg0))
    (m ((c : Thread nD τ).loc main_arg1)) (m ((c : Thread nD τ).loc main_arg2)) (y 0) (y 1) (y 2) := by
  refine (dats m 0 c).arrAt_eq_of_covers 3 _ (by decide +kernel) fun t hf y => ?_
  blk_simp
  rw [after0_3]
  obtain ⟨z, r, l, rfl⟩ : ∃ (z : Fin 1) (r : Fin 1024) (l : Fin 1408), y = ix3 z r l := ⟨y 0, y 1, y 2, by idx_ext⟩
  obtain rfl : z = 0 := Subsingleton.elim _ _
  have e : ((cfg0.win 3).blk t).view.emb (ix3 0 r l) = ix3 (part t) (row t r) l := by blk_ext [idx3 t, part, row]
  rw [e]
  rcases Nat.lt_or_ge t.val 8 with h | h
  · rw [outsAt0_A m c t h (by omega)]
    frame_out
    rw [pay1_apply]
    simp only [blkX, blkA m c t h]
    rfl
  · rw [outsAt0_B m c t (by omega) h]
    frame_out
    rw [pay2_eq, pay1_apply]
    simp only [blkX, blkG m c t h]
    rfl

end

open Cert.MmUpDwRefIdeal.Read in
/-- The reference's expression is the same array. -/
theorem ref_eq (x : S2048x2048.Idx → EReal) (a g : S2048x5632.Idx → EReal) :
    val_main_v9 (F := Ideal) x a g = fun y : S8x2048x1408.Idx => G x a g (y 0) (y 1) (y 2) := by
  funext i
  obtain ⟨b, r, l, rfl⟩ : ∃ (b : Fin 8) (r : Fin 2048) (l : Fin 1408), i = ix3 b r l := ⟨i 0, i 1, i 2, by idx_ext⟩
  pointwise [val_main_v9, val_main_v8, val_main_v7, val_main_v6, val_main_v5, val_main_v3, val_main_v1, val_main_v0]
  exact Finset.sum_congr rfl fun k _ => mul_comm _ _

/-- The two programs' results agree, on every device. -/
theorem algebraic : Cert.algebraic_MmUpDwIdeal_MmUpDwRefIdeal := by
  pair_intro
  · run_from (Cert.MmUpDwIdeal.Value.run_blocks (F := Ideal) m g)
  · run_from (Cert.MmUpDwRefIdeal.Value.run (F := Ideal) m' g')
    refine (Cert.MmUpDwRefIdeal.Read.val_main_v9_eq _ _ _).trans ((ref_eq _ _ _).trans ?_)
    rw [(hagree c).2.1, (hagree c).2.2]
    exact (final m c).symm

theorem frame : Cert.quiescent_MmUpDw := fun m ρ _ => Cert.MmUpDw.Gen.frame m ρ
theorem frame_ideal : Cert.quiescent_MmUpDwIdeal := fun m ρ _ => Cert.MmUpDwIdeal.Gen.frame m ρ
theorem frame_ref : Cert.quiescent_MmUpDwRefIdeal := fun m ρ _ =>
  θ_run_mono (Cert.MmUpDwRefIdeal.Value.run (F := Ideal) m ρ) fun r h =>
    ⟨fun c => (h c).2, sem_eq_zero_of_no_sems (by decide) r.2⟩

end Cert.Proof.MmUpDw

end
-- ==== Proof.MmDownDw.lean ====
/- The gradient of a weight, `yᵀ · d`, tiled: what the call's result array holds, and that the reference's
   expression is the same array. -/
module

public import proofs.«01_k».proof.Defs
public import proofs.«01_k».proof.Proof.Gen.MmDownDw.Frame
public import proofs.«01_k».proof.Proof.Gen.MmDownDwIdeal.Value
public import proofs.«01_k».proof.Proof.Gen.MmDownDwRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.MmDownDw

open Idealize.ShloMosaic Idealize.ShloMosaic.TcCoe Idealize.SL.Sem Idealize.ShloMosaic.Pointwise
open Cert.MmDownDwIdeal Cert.MmDownDwIdeal.Gen

/-- The gradient. -/
def G (a : S2048x5632.Idx → EReal) (d : S2048x2048.Idx → EReal) : S5632x2048.Idx → EReal :=
  fun i => ∑ k : Fin 2048, a (ix2 k (i 0)) * d (ix2 k (i 1))

/-- One tile of the product. -/
theorem pay_apply (a : Vec Ideal S2048x1408 .bf16) (d : Vec Ideal S2048x1024 .bf16) (r : Fin 1408) (l : Fin 1024) :
    (k0_pay1 (F := Ideal) a d (ix2 r l) : EReal) = ∑ k : Fin 2048, (a (ix2 k r) : EReal) * d (ix2 k l) := by
  pointwise [k0_pay1]

theorem idx0 : ∀ t : Fin cfg0.N, win0_0.index t = ![0, t.val / 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The row and the column of the entry that point `t` writes. -/
def rowOf (t : Fin cfg0.N) (r : Fin 1408) : Fin 5632 := ⟨t.val / 2 * 1408 + r.val, by
  have h : t.val < 8 := lt_of_lt_of_eq t.isLt (by decide +kernel)
  omega⟩
def colOf (t : Fin cfg0.N) (l : Fin 1024) : Fin 2048 := ⟨t.val % 2 * 1024 + l.val, by omega⟩

/-- The whole result array. -/
theorem final (m : (ℓ : Loc nD τ sig) → Buf (Elt Ideal) ℓ) (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, l, rfl⟩ : ∃ (r : Fin 1408) (l : Fin 1024), y = ix2 r l := ⟨y 0, y 1, by idx_ext⟩
  have e : ((cfg0.win 2).blk t).view.emb (ix2 r l) = ix2 (rowOf t r) (colOf t l) := by blk_ext [idx2 t, rowOf, colOf]
  rw [e, pay_apply]
  have e0 : ∀ k : Fin 2048, (iblk m c 0 t (ix2 k r) : EReal) = m ((c : Thread nD τ).loc main_arg0) (ix2 k (rowOf t r)) := fun k => by
    blk_simp [iblk]
    exact congrArg _ (by blk_ext [idx0 t, rowOf])
  have e1 : ∀ k : Fin 2048, (iblk m c 1 t (ix2 k l) : EReal) = m ((c : Thread nD τ).loc main_arg1) (ix2 k (colOf t l)) := fun k => by
    blk_simp [iblk]
    exact congrArg _ (by blk_ext [idx1 t, colOf])
  simp only [e0, e1]
  rfl

open Cert.MmDownDwRefIdeal.Read in
/-- The reference's expression is the same array. -/
theorem ref_eq (a : S2048x5632.Idx → EReal) (d : S2048x2048.Idx → EReal) : val_main_v6 (F := Ideal) a d = G a d := by
  funext i
  obtain ⟨r, l, rfl⟩ : ∃ (r : Fin 5632) (l : Fin 2048), i = ix2 r l := ⟨i 0, i 1, by idx_ext⟩
  pointwise [val_main_v6, val_main_v5, val_main_v4, val_main_v3, val_main_v1]
  exact Finset.sum_congr rfl fun k _ => mul_comm _ _

/-- The two programs' results agree, on every device. -/
theorem algebraic : Cert.algebraic_MmDownDwIdeal_MmDownDwRefIdeal := by
  pair_intro
  · run_from (Cert.MmDownDwIdeal.Value.run_blocks (F := Ideal) m g)
  · run_from (Cert.MmDownDwRefIdeal.Value.run (F := Ideal) m' g')
    exact (Cert.MmDownDwRefIdeal.Read.val_main_v6_eq _ _).trans ((ref_eq _ _).trans (final m c).symm)

theorem frame : Cert.quiescent_MmDownDw := fun m ρ _ => Cert.MmDownDw.Gen.frame m ρ
theorem frame_ideal : Cert.quiescent_MmDownDwIdeal := fun m ρ _ => Cert.MmDownDwIdeal.Gen.frame m ρ
theorem frame_ref : Cert.quiescent_MmDownDwRefIdeal := fun m ρ _ =>
  θ_run_mono (Cert.MmDownDwRefIdeal.Value.run (F := Ideal) m ρ) fun r h =>
    ⟨fun c => (h c).2, sem_eq_zero_of_no_sems (by decide) r.2⟩

end Cert.Proof.MmDownDw

end
-- ==== Proof.AdamW.lean ====
/- The optimiser's step of a weight: what the call's four result arrays hold, and that the reference's expressions
   are the same arrays. -/
module

public import proofs.«01_k».proof.Defs
public import proofs.«01_k».proof.Proof.Gen.AdamW.Frame
public import proofs.«01_k».proof.Proof.Gen.AdamWIdeal.Value
public import proofs.«01_k».proof.Proof.Gen.AdamWRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.AdamW

open Idealize.ShloMosaic Idealize.ShloMosaic.TcCoe Idealize.SL.Sem Idealize.ShloMosaic.Pointwise
open Cert.AdamWIdeal Cert.AdamWIdeal.Gen

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- Row `r` of the block of point `t`. -/
def row (t : Fin cfg0.N) (r : Fin 256) : Fin 2048 := ⟨t.val * 256 + r.val, by
  have h : t.val < 8 := lt_of_lt_of_eq t.isLt (by decide +kernel)
  omega⟩

section
variable (m : (ℓ : Loc nD τ sig) → Buf (Elt Ideal) ℓ) (c : Dev nD)

theorem blk0 (t : Fin cfg0.N) (r : Fin 256) (l : Fin 1536) :
    (iblk m c 0 t (ix2 r l) : EReal) = m ((c : Thread nD τ).loc main_arg0) (ix2 (row t r) l) := by
  blk_simp [iblk]
  exact congrArg _ (by blk_ext [idx0 t, row])
theorem blk1 (t : Fin cfg0.N) (r : Fin 256) (l : Fin 1536) :
    (iblk m c 1 t (ix2 r l) : EReal) = m ((c : Thread nD τ).loc main_arg1) (ix2 (row t r) l) := by
  blk_simp [iblk]
  exact congrArg _ (by blk_ext [idx1 t, row])
theorem blk2 (t : Fin cfg0.N) (r : Fin 256) (l : Fin 1536) :
    (iblk m c 2 t (ix2 r l) : EReal) = m ((c : Thread nD τ).loc main_arg2) (ix2 (row t r) l) := by
  blk_simp [iblk]
  exact congrArg _ (by blk_ext [idx2 t, row])
theorem blk3 (t : Fin cfg0.N) (r : Fin 256) (l : Fin 1536) :
    (iblk m c 3 t (ix2 r l) : EReal) = m ((c : Thread nD τ).loc main_arg3) (ix2 (row t r) l) := by
  blk_simp [iblk]
  exact congrArg _ (by blk_ext [idx3 t, row])

/-- The gradient handed on. -/
theorem final4 : (dats m 0 c).arrAt 4 cfg0.N = m ((c : Thread nD τ).loc main_arg3) := by
  refine (dats m 0 c).arrAt_eq_of_covers 4 _ (by decide +kernel) fun t hf y => ?_
  blk_simp
  rw [after0_4]
  frame_out
  obtain ⟨r, l, rfl⟩ : ∃ (r : Fin 256) (l : Fin 1536), y = ix2 r l := ⟨y 0, y 1, by idx_ext⟩
  exact (blk3 m c t r l).trans (congrArg _ (by blk_ext [idx4 t, row]))

open Cert.AdamWRefIdeal.Read in
/-- The change of the weight. -/
theorem final5 : (dats m 0 c).arrAt 5 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, l, rfl⟩ : ∃ (r : Fin 256) (l : Fin 1536), y = ix2 r l := ⟨y 0, y 1, by idx_ext⟩
  have e : ((cfg0.win 5).blk t).view.emb (ix2 r l) = ix2 (row t r) l := by blk_ext [idx5 t, row]
  rw [e]
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  simp only [blk0, blk1, blk2, blk3]

open Cert.AdamWRefIdeal.Read in
/-- The first moment. -/
theorem final6 : (dats m 0 c).arrAt 6 cfg0.N = val_main_v4 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  obtain ⟨r, l, rfl⟩ : ∃ (r : Fin 256) (l : Fin 1536), y = ix2 r l := ⟨y 0, y 1, by idx_ext⟩
  have e : ((cfg0.win 6).blk t).view.emb (ix2 r l) = ix2 (row t r) l := by blk_ext [idx6 t, row]
  rw [e]
  pointwise [k0_pay1, val_main_v4, val_main_v3, val_main_v2, val_main_v1, val_main_v0, val_main_cst, val_main_cst_0]
  simp only [blk1, blk3]

open Cert.AdamWRefIdeal.Read in
/-- The second moment. -/
theorem final7 : (dats m 0 c).arrAt 7 cfg0.N = val_main_v10 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, l, rfl⟩ : ∃ (r : Fin 256) (l : Fin 1536), y = ix2 r l := ⟨y 0, y 1, by idx_ext⟩
  have e : ((cfg0.win 7).blk t).view.emb (ix2 r l) = ix2 (row t r) l := by blk_ext [idx7 t, row]
  rw [e]
  pointwise [k0_pay2, val_main_v10, val_main_v9, val_main_v8, val_main_v7, val_main_v6, val_main_v5, val_main_cst_1, val_main_cst_2]
  simp only [blk2, blk3]

end

/-- The two programs' results agree, on every device. -/
theorem algebraic : Cert.algebraic_AdamWIdeal_AdamWRefIdeal := by
  pair_intro
  · run_from (Cert.AdamWIdeal.Value.run_blocks (F := Ideal) m g)
  · run_from (Cert.AdamWRefIdeal.Value.run (F := Ideal) m' g')
    · exact (final4 m c).symm
    · exact (Cert.AdamWRefIdeal.Read.val_main_v23_eq _ _ _ _).trans (final5 m c).symm
    · exact (Cert.AdamWRefIdeal.Read.val_main_v4_eq _ _).trans (final6 m c).symm
    · exact (Cert.AdamWRefIdeal.Read.val_main_v10_eq _ _).trans (final7 m c).symm

theorem frame : Cert.quiescent_AdamW := fun m ρ _ => Cert.AdamW.Gen.frame m ρ
theorem frame_ideal : Cert.quiescent_AdamWIdeal := fun m ρ _ => Cert.AdamWIdeal.Gen.frame m ρ
theorem frame_ref : Cert.quiescent_AdamWRefIdeal := fun m ρ _ =>
  θ_run_mono (Cert.AdamWRefIdeal.Value.run (F := Ideal) m ρ) fun r h =>
    ⟨fun c => (h c).2.2.2.2, sem_eq_zero_of_no_sems (by decide) r.2⟩

end Cert.Proof.AdamW

end
-- ==== Proof.TableWord.lean ====
/- A table of one word, below a bound: what the comparisons of a precondition say of it. -/
module

public import Idealize.ShloMosaic.PureOps
public import Idealize.ShloMosaic.Lib.Pointwise

@[expose] public section

namespace Cert.Proof

open Idealize.ShloMosaic

/-- A word that is at least 0 and at most `n` as a signed number is at most `n` as a natural number. -/
theorem word_le (v n : BitVec 32) (hn : n.toNat < 2 ^ 31) (h0 : IntOp.cmpi .sge v 0#32 = 1#1) (h1 : IntOp.cmpi .sle v n = 1#1) :
    v.toNat ≤ n.toNat := by
  have one (p : Bool) : (BitVec.ofBool p = 1#1) ↔ p = true := by cases p <;> decide
  simp only [IntOp.cmpi, one, BitVec.sle_eq_decide, decide_eq_true_eq, BitVec.toInt_eq_toNat_cond, BitVec.toNat_ofNat,
    Nat.reducePow, Nat.reduceMod] at h0 h1
  simp only [Nat.reducePow] at hn
  split at h0 <;> split at h1 <;> split at h1 <;> omega

end Cert.Proof

end
-- ==== Proof.AdamWReduced.lean ====
/- The optimiser's step of a weight whose gradient is the sum of the four chips' parts, the own part chosen by the chip's
   number: what the call's four result arrays hold, and that the reference's expressions are the same arrays. -/
module

public import proofs.«01_k».proof.Defs
public import proofs.«01_k».proof.Proof.TableWord
public import proofs.«01_k».proof.Proof.Gen.AdamWReduced.Frame
public import proofs.«01_k».proof.Proof.Gen.AdamWReducedIdeal.Frame
public import proofs.«01_k».proof.Proof.Gen.AdamWReducedRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.AdamWReduced

open Idealize.ShloMosaic Idealize.ShloMosaic.TcCoe Idealize.SL.Sem

namespace Words

open Cert.AdamWReduced Cert.AdamWReduced.Gen

section
variable {F : FTy → Type} [FloatOps F] (m : (ℓ : Loc nD τ sig) → Buf (Elt F) ℓ)

/-- The table's word. -/
def chip : BitVec 32 := m (((0 : Dev nD) : Thread nD τ).loc main_arg5) (ix1 0)

/-- The index of the own sums' block for the word `v`. -/
def place (v : BitVec 32) (i : grid0.Coords) : Fin 3 → ℕ := ![v.toNat, (BitVec.ofNat 32 (i 0).val).toNat, (0#32).toNat]
theorem place_eq (i : grid0.Coords) : cc0_transform_3 inb_S1_S1_0 numel1_S1 (tbl m) i = place (chip m) i := by
  have e : (tbl m).at 0 (Rect.unit (s := S1) ![0] S1.size inb_S1_S1_0) numel1_S1 = chip m :=
    congrArg (m (((0 : Dev nD) : Thread nD τ).loc main_arg5)) (by idx_ext)
  show place ((tbl m).at 0 (Rect.unit (s := S1) ![0] S1.size inb_S1_S1_0) numel1_S1) i = _
  rw [e]
theorem ok (h : (chip m).toNat ≤ 3) : Ok m := fun i => by
  refine ⟨fun a => ?_, .inr (Affine.block_words_dvd (of_decide_eq_true rfl) (by decide))⟩
  rw [place_eq, ← (by simp : BitVec.ofNat 32 (chip m).toNat = chip m)]
  exact (by decide +kernel : ∀ (k : Fin 4) (i : grid0.Coords) a,
    (place (BitVec.ofNat 32 k.val) i a + 1) * S1x256x1408.size a ≤ S4x2048x1408.size a) ⟨(chip m).toNat, by omega⟩ i a
end

end Words

open Cert.AdamWReducedIdeal Cert.AdamWReducedIdeal.Gen

section
variable {F : FTy → Type} [FloatOps F] (m : (ℓ : Loc nD τ sig) → Buf (Elt F) ℓ)

/-- The table's word. -/
def chip : BitVec 32 := m (((0 : Dev nD) : Thread nD τ).loc main_arg5) (ix1 0)

/-- The index of the own sums' block for the word `v`. -/
def place (v : BitVec 32) (i : grid0.Coords) : Fin 3 → ℕ := ![v.toNat, (BitVec.ofNat 32 (i 0).val).toNat, (0#32).toNat]
theorem place_eq (i : grid0.Coords) : cc0_transform_3 inb_S1_S1_0 numel1_S1 (tbl m) i = place (chip m) i := by
  have e : (tbl m).at 0 (Rect.unit (s := S1) ![0] S1.size inb_S1_S1_0) numel1_S1 = chip m :=
    congrArg (m (((0 : Dev nD) : Thread nD τ).loc main_arg5)) (by idx_ext)
  show place ((tbl m).at 0 (Rect.unit (s := S1) ![0] S1.size inb_S1_S1_0) numel1_S1) i = _
  rw [e]
theorem ok (h : (chip m).toNat ≤ 3) : Ok m := fun i => by
  refine ⟨fun a => ?_, .inr (Affine.block_words_dvd (of_decide_eq_true rfl) (by decide))⟩
  rw [place_eq, ← (by simp : BitVec.ofNat 32 (chip m).toNat = chip m)]
  exact (by decide +kernel : ∀ (k : Fin 4) (i : grid0.Coords) a,
    (place (BitVec.ofNat 32 k.val) i a + 1) * S1x256x1408.size a ≤ S4x2048x1408.size a) ⟨(chip m).toNat, by omega⟩ i a
end

instance facts_chip_index : Cert.Pre_chip_index.Facts where
  bcast_S_S1 := by decide

/-- The gradient: the own chip's part and the three received ones. -/
def grad (k : Fin 4) (own : S4x2048x1408.Idx → EReal) (got : S3x2048x1408.Idx → EReal) : S2048x1408.Idx → EReal :=
  fun i => own (ix3 k (i 0) (i 1)) + got (ix3 0 (i 0) (i 1)) + got (ix3 1 (i 0) (i 1)) + got (ix3 2 (i 0) (i 1))

section
variable (m : (ℓ : Loc nD τ sig) → Buf (Elt Ideal) ℓ) (hk : (chip m).toNat ≤ 3) (c : Dev nD)

abbrev run := dats (F := Ideal) m (ok m hk) 0 c
abbrev cfg := cfgM (F := Ideal) m (ok m hk)

/-- Row `r` of the block of point `t`. -/
def row (t : Fin (cfg m hk).N) (r : Fin 256) : Fin 2048 := ⟨t.val * 256 + r.val, by
  have h : t.val < 8 := lt_of_lt_of_eq t.isLt (by decide +kernel : grid0.N = 8)
  omega⟩

theorem idx0 (t : Fin (cfg m hk).N) : ((cfg m hk).win 0).index t = ![t.val, 0] :=
  (by decide +kernel : ∀ t : Fin grid0.N, cc0_transform_0 (grid0.coords t) = ![t.val, 0]) t
theorem idx1 (t : Fin (cfg m hk).N) : ((cfg m hk).win 1).index t = ![t.val, 0] :=
  (by decide +kernel : ∀ t : Fin grid0.N, cc0_transform_1 (grid0.coords t) = ![t.val, 0]) t
theorem idx2 (t : Fin (cfg m hk).N) : ((cfg m hk).win 2).index t = ![t.val, 0] :=
  (by decide +kernel : ∀ t : Fin grid0.N, cc0_transform_2 (grid0.coords t) = ![t.val, 0]) t
theorem idx7 (t : Fin (cfg m hk).N) : ((cfg m hk).win 7).index t = ![t.val, 0] :=
  (by decide +kernel : ∀ t : Fin grid0.N, cc0_transform_7 (grid0.coords t) = ![t.val, 0]) t
theorem idx8 (t : Fin (cfg m hk).N) : ((cfg m hk).win 8).index t = ![t.val, 0] :=
  (by decide +kernel : ∀ t : Fin grid0.N, cc0_transform_8 (grid0.coords t) = ![t.val, 0]) t
theorem idx9 (t : Fin (cfg m hk).N) : ((cfg m hk).win 9).index t = ![t.val, 0] :=
  (by decide +kernel : ∀ t : Fin grid0.N, cc0_transform_9 (grid0.coords t) = ![t.val, 0]) t
theorem idx10 (t : Fin (cfg m hk).N) : ((cfg m hk).win 10).index t = ![t.val, 0] :=
  (by decide +kernel : ∀ t : Fin grid0.N, cc0_transform_10 (grid0.coords t) = ![t.val, 0]) t
theorem idx3 (t : Fin (cfg m hk).N) : ((cfg m hk).win 3).index t = ![(chip m).toNat, t.val, 0] :=
  (place_eq m (grid0.coords t)).trans
    (congrArg (fun n => ![(chip m).toNat, n, 0]) ((by decide +kernel : ∀ t : Fin grid0.N, (BitVec.ofNat 32 (grid0.coords t 0).val).toNat = t.val) t))
theorem idx4 (t : Fin (cfg m hk).N) : ((cfg m hk).win 4).index t = ![0, t.val, 0] :=
  (by decide +kernel : ∀ t : Fin grid0.N, cc0_transform_4 (grid0.coords t) = ![0, t.val, 0]) t
theorem idx5 (t : Fin (cfg m hk).N) : ((cfg m hk).win 5).index t = ![1, t.val, 0] :=
  (by decide +kernel : ∀ t : Fin grid0.N, cc0_transform_5 (grid0.coords t) = ![1, t.val, 0]) t
theorem idx6 (t : Fin (cfg m hk).N) : ((cfg m hk).win 6).index t = ![2, t.val, 0] :=
  (by decide +kernel : ∀ t : Fin grid0.N, cc0_transform_6 (grid0.coords t) = ![2, t.val, 0]) t

theorem blk0 (t : Fin (cfg m hk).N) (r : Fin 256) (l : Fin 1408) :
    (iblk m (ok m hk) c 0 t (ix2 r l) : EReal) = m ((c : Thread nD τ).loc main_arg0) (ix2 (row m hk t r) l) := by
  blk_simp [iblk]
  exact congrArg _ (by blk_ext [idx0 m hk t, row])
theorem blk1 (t : Fin (cfg m hk).N) (r : Fin 256) (l : Fin 1408) :
    (iblk m (ok m hk) c 1 t (ix2 r l) : EReal) = m ((c : Thread nD τ).loc main_arg1) (ix2 (row m hk t r) l) := by
  blk_simp [iblk]
  exact congrArg _ (by blk_ext [idx1 m hk t, row])
theorem blk2 (t : Fin (cfg m hk).N) (r : Fin 256) (l : Fin 1408) :
    (iblk m (ok m hk) c 2 t (ix2 r l) : EReal) = m ((c : Thread nD τ).loc main_arg2) (ix2 (row m hk t r) l) := by
  blk_simp [iblk]
  exact congrArg _ (by blk_ext [idx2 m hk t, row])
theorem blk3 (t : Fin (cfg m hk).N) (r : Fin 256) (l : Fin 1408) :
    (iblk m (ok m hk) c 3 t (ix3 0 r l) : EReal) = m ((c : Thread nD τ).loc main_arg3) (ix3 ⟨(chip m).toNat, by omega⟩ (row m hk t r) l) := by
  blk_simp [iblk]
  exact congrArg _ (by blk_ext [idx3 m hk t, row])
theorem blk4 (t : Fin (cfg m hk).N) (r : Fin 256) (l : Fin 1408) :
    (iblk m (ok m hk) c 4 t (ix3 0 r l) : EReal) = m ((c : Thread nD τ).loc main_arg4) (ix3 0 (row m hk t r) l) := by
  blk_simp [iblk]
  exact congrArg _ (by blk_ext [idx4 m hk t, row])
theorem blk5 (t : Fin (cfg m hk).N) (r : Fin 256) (l : Fin 1408) :
    (iblk m (ok m hk) c 5 t (ix3 0 r l) : EReal) = m ((c : Thread nD τ).loc main_arg4) (ix3 1 (row m hk t r) l) := by
  blk_simp [iblk]
  exact congrArg _ (by blk_ext [idx5 m hk t, row])
theorem blk6 (t : Fin (cfg m hk).N) (r : Fin 256) (l : Fin 1408) :
    (iblk m (ok m hk) c 6 t (ix3 0 r l) : EReal) = m ((c : Thread nD τ).loc main_arg4) (ix3 2 (row m hk t r) l) := by
  blk_simp [iblk]
  exact congrArg _ (by blk_ext [idx6 m hk t, row])

/-- What the body leaves in the result blocks, over the blocks it reads. -/
theorem outs (t : Fin (cfg m hk).N) : ∃ (x0 x1 x2 : Vec Ideal S256x1408 .f32) (x3 x4 x5 x6 : Vec Ideal S1x256x1408 .bf16),
    ((iblk m (ok m hk) c 0 t = x0 ∧ iblk m (ok m hk) c 1 t = x1 ∧ iblk m (ok m hk) c 2 t = x2) ∧ iblk m (ok m hk) c 3 t = x3
      ∧ iblk m (ok m hk) c 4 t = x4 ∧ iblk m (ok m hk) c 5 t = x5 ∧ iblk m (ok m hk) c 6 t = x6)
    ∧ (outsAt0 m (ok m hk) c t).1 = k0_pay2 x3 x4 x5 x6
    ∧ (outsAt0 m (ok m hk) c t).2.1 = k0_pay1 x0 (k0_pay4 x3 x4 x5 x6 x2) (k0_pay5 x3 x4 x5 x6 x1) (FloatOps.ofBits FTy.f32 1008933580#32)
    ∧ (outsAt0 m (ok m hk) c t).2.2.1 = k0_pay3 x3 x4 x5 x6 x1
    ∧ (outsAt0 m (ok m hk) c t).2.2.2 = k0_pay4 x3 x4 x5 x6 x2 := by
  obtain ⟨x0, h0⟩ : ∃ x : Vec Ideal S256x1408 .f32, iblk m (ok m hk) c 0 t = x := ⟨_, rfl⟩
  obtain ⟨x1, h1⟩ : ∃ x : Vec Ideal S256x1408 .f32, iblk m (ok m hk) c 1 t = x := ⟨_, rfl⟩
  obtain ⟨x2, h2⟩ : ∃ x : Vec Ideal S256x1408 .f32, iblk m (ok m hk) c 2 t = x := ⟨_, rfl⟩
  obtain ⟨x3, h3⟩ : ∃ x : Vec Ideal S1x256x1408 .bf16, iblk m (ok m hk) c 3 t = x := ⟨_, rfl⟩
  obtain ⟨x4, h4⟩ : ∃ x : Vec Ideal S1x256x1408 .bf16, iblk m (ok m hk) c 4 t = x := ⟨_, rfl⟩
  obtain ⟨x5, h5⟩ : ∃ x : Vec Ideal S1x256x1408 .bf16, iblk m (ok m hk) c 5 t = x := ⟨_, rfl⟩
  obtain ⟨x6, h6⟩ : ∃ x : Vec Ideal S1x256x1408 .bf16, iblk m (ok m hk) c 6 t = x := ⟨_, rfl⟩
  refine ⟨x0, x1, x2, x3, x4, x5, x6, ⟨⟨h0, h1, h2⟩, h3, h4, h5, h6⟩, ?_⟩
  unfold outsAt0
  rw [h0, h1, h2, h3, h4, h5, h6]
  exact ⟨by frame_out, by frame_out, by frame_out, by frame_out⟩

theorem pay2_apply (x3 x4 x5 x6 : Vec Ideal S1x256x1408 .bf16) (r : Fin 256) (l : Fin 1408) : (k0_pay2 x3 x4 x5 x6 (ix2 r l) : EReal)
    = x3 (ix3 0 r l) + x4 (ix3 0 r l) + x5 (ix3 0 r l) + x6 (ix3 0 r l) := by
  pointwise [k0_pay2]

open Cert.AdamWReducedRefIdeal.Read in
/-- The reference's gradient. -/
theorem ref_grad (own : S4x2048x1408.Idx → EReal) (got : S3x2048x1408.Idx → EReal) (v : S1.Idx → BitVec 32) (h : (v (ix1 0)).toNat < 4) :
    val_main_v20 (F := Ideal) own got v = grad ⟨(v (ix1 0)).toNat, h⟩ own got := by
  funext i
  obtain ⟨r, l, rfl⟩ : ∃ (r : Fin 2048) (l : Fin 1408), i = ix2 r l := ⟨i 0, i 1, by idx_ext⟩
  rw [val_main_v20_apply, val_main_v19_apply]
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_v18, val_main_cst]
  rw [Fin.sum_univ_three]
  have part (k : Fin 3) : idx_main_v19 (ix2 r l) k = ix3 k r l := by idx_ext
  have pick (k : Fin 4) (w : BitVec 32) (e : w = BitVec.ofNat 32 k.val) : Scalar.select (IntOp.cmpi .eq w 0#32) (own (ix3 0 r l))
      (Scalar.select (IntOp.cmpi .eq w 1#32) (own (ix3 1 r l))
        (Scalar.select (IntOp.cmpi .eq w 2#32) (own (ix3 2 r l)) (own (ix3 3 r l)))) = own (ix3 k r l) := by
    subst e
    fin_cases k <;> rfl
  rw [part, part, part, pick ⟨(v (ix1 0)).toNat, h⟩ _ (by simp), ← add_assoc, ← add_assoc]
  rfl

theorem sum_eq (t : Fin (cfg m hk).N) (r : Fin 256) (l : Fin 1408) {x3 x4 x5 x6 : Vec Ideal S1x256x1408 .bf16}
    (h : iblk m (ok m hk) c 3 t = x3 ∧ iblk m (ok m hk) c 4 t = x4 ∧ iblk m (ok m hk) c 5 t = x5 ∧ iblk m (ok m hk) c 6 t = x6) :
    (x3 (ix3 0 r l) : EReal) + x4 (ix3 0 r l) + x5 (ix3 0 r l) + x6 (ix3 0 r l)
      = grad ⟨(chip m).toNat, Nat.lt_succ_of_le hk⟩ (m ((c : Thread nD τ).loc main_arg3)) (m ((c : Thread nD τ).loc main_arg4)) (ix2 (row m hk t r) l) := by
  rw [← h.1, ← h.2.1, ← h.2.2.1, ← h.2.2.2]
  exact congrArg₂ (· + ·) (congrArg₂ (· + ·) (congrArg₂ (· + ·) (blk3 m hk c t r l) (blk4 m hk c t r l)) (blk5 m hk c t r l)) (blk6 m hk c t r l)

open Cert.AdamWReducedRefIdeal.Read in
/-- The blocks' entries in the arguments, and the sum of the blocks as the reference's gradient. -/
theorem entries (t : Fin (cfg m hk).N) (r : Fin 256) (l : Fin 1408) {x0 x1 x2 : Vec Ideal S256x1408 .f32} {x3 x4 x5 x6 : Vec Ideal S1x256x1408 .bf16}
    (h : (iblk m (ok m hk) c 0 t = x0 ∧ iblk m (ok m hk) c 1 t = x1 ∧ iblk m (ok m hk) c 2 t = x2) ∧ iblk m (ok m hk) c 3 t = x3
      ∧ iblk m (ok m hk) c 4 t = x4 ∧ iblk m (ok m hk) c 5 t = x5 ∧ iblk m (ok m hk) c 6 t = x6) :
    (x0 (ix2 r l) : EReal) = m ((c : Thread nD τ).loc main_arg0) (ix2 (row m hk t r) l)
    ∧ (x1 (ix2 r l) : EReal) = m ((c : Thread nD τ).loc main_arg1) (ix2 (row m hk t r) l)
    ∧ (x2 (ix2 r l) : EReal) = m ((c : Thread nD τ).loc main_arg2) (ix2 (row m hk t r) l)
    ∧ (k0_pay2 x3 x4 x5 x6 (ix2 r l) : EReal)
      = val_main_v20 (F := Ideal) (m ((c : Thread nD τ).loc main_arg3)) (m ((c : Thread nD τ).loc main_arg4)) (m ((c : Thread nD τ).loc main_arg5))
        (ix2 (row m hk t r) l) := by
  refine ⟨by rw [← h.1.1]; exact blk0 m hk c t r l, by rw [← h.1.2.1]; exact blk1 m hk c t r l, by rw [← h.1.2.2]; exact blk2 m hk c t r l, ?_⟩
  obtain rfl : c = 0 := Subsingleton.elim _ _
  exact ((pay2_apply x3 x4 x5 x6 r l).trans (sum_eq m hk 0 t r l h.2)).trans
    (congrFun (ref_grad _ _ (m (((0 : Dev nD) : Thread nD τ).loc main_arg5)) (Nat.lt_succ_of_le hk)) _).symm

theorem covers : ((cfg m hk).win 7).Covers := by
  refine ⟨(by decide +kernel : ∀ a, 0 < S256x1408.size a), fun (β : (a : Fin 2) → Fin (((cfg m hk).win 7).nblk a)) => ?_⟩
  have hb (a : Fin 2) : (β a).val < (![8, 1] : Fin 2 → ℕ) a :=
    lt_of_lt_of_eq (β a).isLt ((by decide : ∀ a : Fin 2, (S2048x1408.size a + S256x1408.size a - 1) / S256x1408.size a = ![8, 1] a) a)
  obtain ⟨t, h, e⟩ := (by decide +kernel : ∀ (a : Fin 8) (b : Fin 1), ∃ t : Fin grid0.N,
    spec0_7.flushAt (G := grid0) cc0_transform_7 t = true ∧ cc0_transform_7 (grid0.coords t) = ![a.val, b.val]) ⟨_, hb 0⟩ ⟨_, hb 1⟩
  exact ⟨t, h, fun a => ⟨(congrFun e a).trans ((fun | 0 => rfl | 1 => rfl : ∀ a : Fin 2, ![(β 0).val, (β 1).val] a = (β a).val) a), .inl rfl⟩⟩

open Cert.AdamWReducedRefIdeal.Read in
/-- The gradient. -/
theorem final7 : (run m hk c).arrAt 7 (cfg m hk).N = Cert.AdamWReducedRefIdeal.Read.val_main_v20 (F := Ideal) (m ((c : Thread nD τ).loc main_arg3)) (m ((c : Thread nD τ).loc main_arg4)) (m ((c : Thread nD τ).loc main_arg5)) := by
  refine (run m hk c).arrAt_eq_of_covers 7 _ (covers m hk) fun t hf (y : S256x1408.Idx) => ?_
  blk_simp
  rw [after0_7]
  obtain ⟨r, l, rfl⟩ : ∃ (r : Fin 256) (l : Fin 1408), y = ix2 r l := ⟨y 0, y 1, by idx_ext⟩
  have e : (((cfg m hk).win 7).blk t).view.emb (ix2 r l) = ix2 (row m hk t r) l := by blk_ext [idx7 m hk t, row]
  rw [e]
  obtain ⟨x0, x1, x2, x3, x4, x5, x6, h, o7, o8, o9, o10⟩ := outs m hk c t
  rw [o7]
  exact (entries m hk c t r l h).2.2.2

open Cert.AdamWReducedRefIdeal.Read in
/-- The change of the weight. -/
theorem final8 : (run m hk c).arrAt 8 (cfg m hk).N = Cert.AdamWReducedRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (run m hk c).arrAt_eq_of_covers 8 _ (covers m hk) fun t hf (y : S256x1408.Idx) => ?_
  blk_simp
  rw [after0_8]
  obtain ⟨r, l, rfl⟩ : ∃ (r : Fin 256) (l : Fin 1408), y = ix2 r l := ⟨y 0, y 1, by idx_ext⟩
  have e : (((cfg m hk).win 8).blk t).view.emb (ix2 r l) = ix2 (row m hk t r) l := by blk_ext [idx8 m hk t, row]
  rw [e]
  obtain ⟨x0, x1, x2, x3, x4, x5, x6, h, o7, o8, o9, o10⟩ := outs m hk c t
  rw [o8]
  pointwise [k0_pay1, k0_pay4, k0_pay5, k0_pay3, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst, val_main_cst_2, val_main_cst_3, val_main_cst_4, val_main_cst_5, val_main_cst_6, val_main_cst_7, val_main_cst_8, val_main_cst_9, val_main_cst_10]
  obtain ⟨e0, e1, e2, eg⟩ := entries m hk c t r l h
  rw [e0, e1, e2, eg]

open Cert.AdamWReducedRefIdeal.Read in
/-- The first moment. -/
theorem final9 : (run m hk c).arrAt 9 (cfg m hk).N = Cert.AdamWReducedRefIdeal.Read.val_main_v25 (F := Ideal) (m ((c : Thread nD τ).loc main_arg1)) (m ((c : Thread nD τ).loc main_arg3)) (m ((c : Thread nD τ).loc main_arg4)) (m ((c : Thread nD τ).loc main_arg5)) := by
  refine (run m hk c).arrAt_eq_of_covers 9 _ (covers m hk) fun t hf (y : S256x1408.Idx) => ?_
  blk_simp
  rw [after0_9]
  obtain ⟨r, l, rfl⟩ : ∃ (r : Fin 256) (l : Fin 1408), y = ix2 r l := ⟨y 0, y 1, by idx_ext⟩
  have e : (((cfg m hk).win 9).blk t).view.emb (ix2 r l) = ix2 (row m hk t r) l := by blk_ext [idx9 m hk t, row]
  rw [e]
  obtain ⟨x0, x1, x2, x3, x4, x5, x6, h, o7, o8, o9, o10⟩ := outs m hk c t
  rw [o9]
  pointwise [k0_pay3, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst, val_main_cst_2, val_main_cst_3, val_main_cst_4, val_main_cst_5, val_main_cst_6, val_main_cst_7, val_main_cst_8, val_main_cst_9, val_main_cst_10]
  obtain ⟨e0, e1, e2, eg⟩ := entries m hk c t r l h
  rw [e1, eg]

open Cert.AdamWReducedRefIdeal.Read in
/-- The second moment. -/
theorem final10 : (run m hk c).arrAt 10 (cfg m hk).N = Cert.AdamWReducedRefIdeal.Read.val_main_v31 (F := Ideal) (m ((c : Thread nD τ).loc main_arg2)) (m ((c : Thread nD τ).loc main_arg3)) (m ((c : Thread nD τ).loc main_arg4)) (m ((c : Thread nD τ).loc main_arg5)) := by
  refine (run m hk c).arrAt_eq_of_covers 10 _ (covers m hk) fun t hf (y : S256x1408.Idx) => ?_
  blk_simp
  rw [after0_10]
  obtain ⟨r, l, rfl⟩ : ∃ (r : Fin 256) (l : Fin 1408), y = ix2 r l := ⟨y 0, y 1, by idx_ext⟩
  have e : (((cfg m hk).win 10).blk t).view.emb (ix2 r l) = ix2 (row m hk t r) l := by blk_ext [idx10 m hk t, row]
  rw [e]
  obtain ⟨x0, x1, x2, x3, x4, x5, x6, h, o7, o8, o9, o10⟩ := outs m hk c t
  rw [o10]
  pointwise [k0_pay4, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst, val_main_cst_2, val_main_cst_3, val_main_cst_4, val_main_cst_5, val_main_cst_6, val_main_cst_7, val_main_cst_8, val_main_cst_9, val_main_cst_10]
  obtain ⟨e0, e1, e2, eg⟩ := entries m hk c t r l h
  rw [e2, eg]

end

/-- The precondition bounds the table's word. -/
theorem chip_le {F : FTy → Type} [FloatOps F] (w mo v : FVec F Cert.Pre_chip_index.S2048x1408 .f32) (own : FVec F Cert.Pre_chip_index.S4x2048x1408 .bf16)
    (got : FVec F Cert.Pre_chip_index.S3x2048x1408 .bf16) (n : IVec Cert.Pre_chip_index.S1 32)
    (h0 : (Cert.Pre_chip_index.fn (F := F) w mo v own got n).1 = fun _ => 1#1) (h1 : (Cert.Pre_chip_index.fn (F := F) w mo v own got n).2 = fun _ => 1#1) :
    (n (ix1 0)).toNat ≤ 3 :=
  word_le (n (ix1 0)) 3#32 (by decide) (congrFun h0 (ix1 0)) (congrFun h1 (ix1 0))
theorem chip_of_pre (m : (ℓ : Loc nD τ sig) → Buf (Elt Ideal) ℓ) (h : Cert.Pre_AdamWReducedIdeal m) : (chip m).toNat ≤ 3 :=
  chip_le _ _ _ _ _ _ (h 0).1 (h 0).2

open Cert.AdamWReducedRefIdeal.Read in
/-- Every run of the call ends with the result arrays named, the arguments unchanged. -/
theorem run_blocks (m : (ℓ : Loc nD τ sig) → Buf (Elt Ideal) ℓ) (ρ : Dev nD → PrngReg) (hk : (chip m).toNat ≤ 3) :
    θ_run defs (onTc (τ := τ) (main (F := Ideal))) ⟨m, fun _ => 0, ρ⟩ fun r => ∀ c : Dev nD,
      r.2.mem ((c : Thread nD τ).loc main_v0_0) = val_main_v20 (F := Ideal) (m ((c : Thread nD τ).loc main_arg3)) (m ((c : Thread nD τ).loc main_arg4)) (m ((c : Thread nD τ).loc main_arg5))
      ∧ r.2.mem ((c : Thread nD τ).loc main_v0_1) = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = val_main_v25 (F := Ideal) (m ((c : Thread nD τ).loc main_arg1)) (m ((c : Thread nD τ).loc main_arg3)) (m ((c : Thread nD τ).loc main_arg4)) (m ((c : Thread nD τ).loc main_arg5))
      ∧ r.2.mem ((c : Thread nD τ).loc main_v0_3) = val_main_v31 (F := Ideal) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (final7 m hk c), ((h c).1 8).trans (final8 m hk c), ((h c).1 9).trans (final9 m hk c), ((h c).1 10).trans (final10 m hk c),
      ((h c).1 0).trans (((run m hk c).arrAt_in 0 rfl _).trans ((A_eq m (ok m hk) c 0).trans (V_main_arg0 m c))),
      ((h c).1 1).trans (((run m hk c).arrAt_in 1 rfl _).trans ((A_eq m (ok m hk) c 1).trans (V_main_arg1 m c))),
      ((h c).1 2).trans (((run m hk c).arrAt_in 2 rfl _).trans ((A_eq m (ok m hk) c 2).trans (V_main_arg2 m c))),
      ((h c).1 3).trans (((run m hk c).arrAt_in 3 rfl _).trans ((A_eq m (ok m hk) c 3).trans (V_main_arg3 m c))),
      ((h c).1 4).trans (((run m hk c).arrAt_in 4 rfl _).trans ((A_eq m (ok m hk) c 4).trans (V_main_arg4 m c))),
      ((h c).2 main_arg5 (by decide : main_arg5 ∈ Pipeline.restRefs sig spec0)).trans (V_main_arg5 m c)⟩)
    (run_main m ρ (ok m hk))

/-- The two programs' results agree, on every device. -/
theorem algebraic : Cert.algebraic_AdamWReducedIdeal_AdamWReducedRefIdeal := by
  pair_intro
  · run_from (run_blocks m g (chip_of_pre m hpre))
  · run_from (Cert.AdamWReducedRefIdeal.Value.run (F := Ideal) m' g')
    · exact Cert.AdamWReducedRefIdeal.Read.val_main_v20_eq _ _ _
    · rw [Cert.AdamWReducedRefIdeal.Read.val_main_v44_eq, (hagree c).1, (hagree c).2.1, (hagree c).2.2.1, (hagree c).2.2.2.1, (hagree c).2.2.2.2.1,
        (hagree c).2.2.2.2.2]
    · exact Cert.AdamWReducedRefIdeal.Read.val_main_v25_eq _ _ _ _
    · exact Cert.AdamWReducedRefIdeal.Read.val_main_v31_eq _ _ _ _

theorem frame : Cert.quiescent_AdamWReduced := fun m ρ h => Cert.AdamWReduced.Gen.frame m ρ (Words.ok m (chip_le _ _ _ _ _ _ (h 0).1 (h 0).2))
theorem frame_ideal : Cert.quiescent_AdamWReducedIdeal := fun m ρ h => Cert.AdamWReducedIdeal.Gen.frame m ρ (ok m (chip_of_pre m h))
theorem frame_ref : Cert.quiescent_AdamWReducedRefIdeal := fun m ρ _ =>
  θ_run_mono (Cert.AdamWReducedRefIdeal.Value.run (F := Ideal) m ρ) fun r h =>
    ⟨fun c => (h c).2.2.2.2, sem_eq_zero_of_no_sems (by decide) r.2⟩
theorem frame_ref_chip : Cert.quiescent_AdamWReducedRefIdeal_pre_chip_index := fun m ρ _ => frame_ref m ρ trivial

end Cert.Proof.AdamWReduced

end
-- ==== Proof.PairSum.lean ====
/- The sum of a chip's two gradients, the first chosen by the core's number: what the call's result array holds, and
   that the reference's expression is the same array. -/
module

public import proofs.«01_k».proof.Defs
public import proofs.«01_k».proof.Proof.TableWord
public import proofs.«01_k».proof.Proof.Gen.PairSum.Frame
public import proofs.«01_k».proof.Proof.Gen.PairSumIdeal.Frame
public import proofs.«01_k».proof.Proof.Gen.PairSumRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.PairSum

open Idealize.ShloMosaic Idealize.ShloMosaic.TcCoe Idealize.SL.Sem

namespace Words

open Cert.PairSum Cert.PairSum.Gen

section
variable {F : FTy → Type} [FloatOps F] (m : (ℓ : Loc nD τ sig) → Buf (Elt F) ℓ)

/-- The table's word. -/
def core : BitVec 32 := m (((0 : Dev nD) : Thread nD τ).loc main_arg2) (ix1 0)

/-- The index of the first input's block for the word `v`. -/
def place (v : BitVec 32) (i : grid0.Coords) : Fin 3 → ℕ :=
  ![(Scalar.addi (Scalar.muli 2#32 (BitVec.ofNat 32 (i 0).val)) v).toNat, (BitVec.ofNat 32 (i 1).val).toNat, (0#32).toNat]
theorem place_eq (i : grid0.Coords) : cc0_transform_0 inb_S1_S1_0 numel1_S1 (tbl m) i = place (core m) i := by
  have e : (tbl m).at 0 (Rect.unit (s := S1) ![0] S1.size inb_S1_S1_0) numel1_S1 = core m :=
    congrArg (m (((0 : Dev nD) : Thread nD τ).loc main_arg2)) (by idx_ext)
  show place ((tbl m).at 0 (Rect.unit (s := S1) ![0] S1.size inb_S1_S1_0) numel1_S1) i = _
  rw [e]
theorem core_cases (h : (core m).toNat ≤ 1) : core m = 0#32 ∨ core m = 1#32 := by
  rcases Nat.le_one_iff_eq_zero_or_eq_one.mp h with h | h
  · exact .inl (BitVec.eq_of_toNat_eq h)
  · exact .inr (BitVec.eq_of_toNat_eq h)
theorem ok (h : (core m).toNat ≤ 1) : Ok m := fun i => by
  refine ⟨fun a => ?_, .inr (Affine.block_words_dvd (of_decide_eq_true rfl) (by decide))⟩
  rw [place_eq]
  rcases core_cases m h with e | e <;> rw [e]
  · exact (by decide +kernel : ∀ (i : grid0.Coords) a, (place 0#32 i a + 1) * S1x1024x1408.size a ≤ S8x2048x1408.size a) i a
  · exact (by decide +kernel : ∀ (i : grid0.Coords) a, (place 1#32 i a + 1) * S1x1024x1408.size a ≤ S8x2048x1408.size a) i a
end

end Words

open Cert.PairSumIdeal Cert.PairSumIdeal.Gen

section
variable {F : FTy → Type} [FloatOps F] (m : (ℓ : Loc nD τ sig) → Buf (Elt F) ℓ)

/-- The table's word. -/
def core : BitVec 32 := m (((0 : Dev nD) : Thread nD τ).loc main_arg2) (ix1 0)

/-- The index of the first input's block for the word `v`. -/
def place (v : BitVec 32) (i : grid0.Coords) : Fin 3 → ℕ :=
  ![(Scalar.addi (Scalar.muli 2#32 (BitVec.ofNat 32 (i 0).val)) v).toNat, (BitVec.ofNat 32 (i 1).val).toNat, (0#32).toNat]
theorem place_eq (i : grid0.Coords) : cc0_transform_0 inb_S1_S1_0 numel1_S1 (tbl m) i = place (core m) i := by
  have e : (tbl m).at 0 (Rect.unit (s := S1) ![0] S1.size inb_S1_S1_0) numel1_S1 = core m :=
    congrArg (m (((0 : Dev nD) : Thread nD τ).loc main_arg2)) (by idx_ext)
  show place ((tbl m).at 0 (Rect.unit (s := S1) ![0] S1.size inb_S1_S1_0) numel1_S1) i = _
  rw [e]
theorem core_cases (h : (core m).toNat ≤ 1) : core m = 0#32 ∨ core m = 1#32 := by
  rcases Nat.le_one_iff_eq_zero_or_eq_one.mp h with h | h
  · exact .inl (BitVec.eq_of_toNat_eq h)
  · exact .inr (BitVec.eq_of_toNat_eq h)
theorem ok (h : (core m).toNat ≤ 1) : Ok m := fun i => by
  refine ⟨fun a => ?_, .inr (Affine.block_words_dvd (of_decide_eq_true rfl) (by decide))⟩
  rw [place_eq]
  rcases core_cases m h with e | e <;> rw [e]
  · exact (by decide +kernel : ∀ (i : grid0.Coords) a, (place 0#32 i a + 1) * S1x1024x1408.size a ≤ S8x2048x1408.size a) i a
  · exact (by decide +kernel : ∀ (i : grid0.Coords) a, (place 1#32 i a + 1) * S1x1024x1408.size a ≤ S8x2048x1408.size a) i a
end

instance facts_core_index : Cert.Pre_core_index.Facts where
  bcast_S_S1 := by decide

/-- The sum: the first array's block `2 q + k` and the second's block `q`. -/
def G (k : ℕ) (hk : k ≤ 1) (p : S8x2048x1408.Idx → EReal) (o : S4x2048x1408.Idx → EReal) : S4x2048x1408.Idx → EReal :=
  fun i => p (ix3 ⟨2 * (i 0).val + k, by have h : (i 0).val < 4 := (i 0).isLt; omega⟩ (i 1) (i 2)) + o i

theorem pay1_apply (a b : Vec Ideal S1x1024x1408 .bf16) (r : Fin 1024) (l : Fin 1408) :
    (k0_pay1 (F := Ideal) a b (ix3 0 r l) : EReal) = a (ix3 0 r l) + b (ix3 0 r l) := by
  pointwise [k0_pay1]

section
variable (m : (ℓ : Loc nD τ sig) → Buf (Elt Ideal) ℓ) (hk : (core m).toNat ≤ 1) (c : Dev nD)

abbrev run := dats (F := Ideal) m (ok m hk) 0 c
abbrev cfg := cfgM (F := Ideal) m (ok m hk)

theorem idx0 (t : Fin (cfg m hk).N) : ((cfg m hk).win 0).index t = ![2 * (t.val / 2) + (core m).toNat, t.val % 2, 0] := by
  refine (place_eq m (grid0.coords t)).trans ?_
  rcases core_cases m hk with e | e <;> rw [e]
  · exact (by decide +kernel : ∀ t : Fin grid0.N, place 0#32 (grid0.coords t) = ![2 * (t.val / 2) + (0#32).toNat, t.val % 2, 0]) t
  · exact (by decide +kernel : ∀ t : Fin grid0.N, place 1#32 (grid0.coords t) = ![2 * (t.val / 2) + (1#32).toNat, t.val % 2, 0]) t
theorem idx1 (t : Fin (cfg m hk).N) : ((cfg m hk).win 1).index t = ![t.val / 2, t.val % 2, 0] :=
  (by decide +kernel : ∀ t : Fin grid0.N, cc0_transform_1 (grid0.coords t) = ![t.val / 2, t.val % 2, 0]) t
theorem idx2 (t : Fin (cfg m hk).N) : ((cfg m hk).win 2).index t = ![t.val / 2, t.val % 2, 0] :=
  (by decide +kernel : ∀ t : Fin grid0.N, cc0_transform_2 (grid0.coords t) = ![t.val / 2, t.val % 2, 0]) t

/-- The block and the row that point `t` writes. -/
def part (t : Fin (cfg m hk).N) : Fin 4 := ⟨t.val / 2, by
  have h : t.val < 8 := lt_of_lt_of_eq t.isLt (by decide +kernel : grid0.N = 8)
  omega⟩
def row (t : Fin (cfg m hk).N) (r : Fin 1024) : Fin 2048 := ⟨t.val % 2 * 1024 + r.val, by omega⟩

theorem blkP (t : Fin (cfg m hk).N) (r : Fin 1024) (l : Fin 1408) : (iblk m (ok m hk) c 0 t (ix3 0 r l) : EReal)
    = m ((c : Thread nD τ).loc main_arg0) (ix3 ⟨2 * (part m hk t).val + (core m).toNat, by omega⟩ (row m hk t r) l) := by
  blk_simp [iblk]
  exact congrArg _ (by blk_ext [idx0 m hk t, part, row])
theorem blkO (t : Fin (cfg m hk).N) (r : Fin 1024) (l : Fin 1408) : (iblk m (ok m hk) c 1 t (ix3 0 r l) : EReal)
    = m ((c : Thread nD τ).loc main_arg1) (ix3 (part m hk t) (row m hk t r) l) := by
  blk_simp [iblk]
  exact congrArg _ (by blk_ext [idx1 m hk t, part, row])

/-- The whole result array. -/
theorem final : (run m hk c).arrAt 2 (cfg m hk).N
    = G (core m).toNat hk (m ((c : Thread nD τ).loc main_arg0)) (m ((c : Thread nD τ).loc main_arg1)) := by
  refine (run m hk c).arrAt_eq_of_covers 2 _ ?_ fun t hf (y : S1x1024x1408.Idx) => ?_
  · refine ⟨(by decide +kernel : ∀ a, 0 < S1x1024x1408.size a), fun (β : (a : Fin 3) → Fin (((cfg m hk).win 2).nblk a)) => ?_⟩
    have hb (a : Fin 3) : (β a).val < (![4, 2, 1] : Fin 3 → ℕ) a :=
      lt_of_lt_of_eq (β a).isLt ((by decide : ∀ a : Fin 3, (S4x2048x1408.size a + S1x1024x1408.size a - 1) / S1x1024x1408.size a = ![4, 2, 1] a) a)
    obtain ⟨t, h, e⟩ := (by decide +kernel : ∀ (a : Fin 4) (b : Fin 2) (d : Fin 1), ∃ t : Fin grid0.N,
      spec0_2.flushAt (G := grid0) cc0_transform_2 t = true ∧ cc0_transform_2 (grid0.coords t) = ![a.val, b.val, d.val])
      ⟨_, hb 0⟩ ⟨_, hb 1⟩ ⟨_, hb 2⟩
    exact ⟨t, h, fun a => ⟨(congrFun e a).trans ((fun | 0 => rfl | 1 => rfl | 2 => rfl : ∀ a : Fin 3, ![(β 0).val, (β 1).val, (β 2).val] a = (β a).val) a), .inl rfl⟩⟩
  blk_simp
  rw [after0_2]
  obtain ⟨z, r, l, rfl⟩ : ∃ (z : Fin 1) (r : Fin 1024) (l : Fin 1408), y = ix3 z r l := ⟨y 0, y 1, y 2, by idx_ext⟩
  obtain rfl : z = 0 := Subsingleton.elim _ _
  have e : (((cfg m hk).win 2).blk t).view.emb (ix3 0 r l) = ix3 (part m hk t) (row m hk t r) l := by blk_ext [idx2 m hk t, part, row]
  rw [e]
  unfold outsAt0
  frame_out
  rw [pay1_apply]
  exact congrArg₂ (· + ·) ((congrFun (Memref.IsWhole.read_unread _ (iblk m (ok m hk) c 0 t)) _).trans (blkP m hk c t r l))
    ((congrFun (Memref.IsWhole.read_unread _ (iblk m (ok m hk) c 1 t)) _).trans (blkO m hk c t r l))

end

open Cert.PairSumRefIdeal.Read in
/-- The reference's expression is the same array. -/
theorem ref_eq (p : S8x2048x1408.Idx → EReal) (o : S4x2048x1408.Idx → EReal) (v : S1.Idx → BitVec 32) (hk : (v (ix1 0)).toNat ≤ 1) :
    val_main_v11 (F := Ideal) p o v = G (v (ix1 0)).toNat hk p o := by
  funext i
  obtain ⟨b, r, l, rfl⟩ : ∃ (b : Fin 4) (r : Fin 2048) (l : Fin 1408), i = ix3 b r l := ⟨i 0, i 1, i 2, by idx_ext⟩
  pointwise [val_main_v11, val_main_v10, val_main_v9, val_main_v8, val_main_v7, val_main_v6, val_main_v5, val_main_v4, val_main_v3, val_main_v2, val_main_v1, val_main_v0, val_main_c]
  refine congrArg (· + o (ix3 b r l)) ?_
  show Scalar.select (IntOp.cmpi .eq (v (ix1 0)) 0#32) _ _ = p (ix3 ⟨2 * b.val + (v (ix1 0)).toNat, _⟩ r l)
  have h : v (ix1 0) = 0#32 ∨ v (ix1 0) = 1#32 := by
    rcases Nat.le_one_iff_eq_zero_or_eq_one.mp hk with h | h
    · exact .inl (BitVec.eq_of_toNat_eq h)
    · exact .inr (BitVec.eq_of_toNat_eq h)
  rcases h with h | h
  · rw [show IntOp.cmpi .eq (v (ix1 0)) 0#32 = 1#1 by rw [h]; decide]
    exact congrArg p (congrArg (fun k => ix3 k r l) (Fin.ext (by show b.val * 2 = 2 * b.val + (v (ix1 0)).toNat; rw [h]; simp; omega)))
  · rw [show IntOp.cmpi .eq (v (ix1 0)) 0#32 = 0#1 by rw [h]; decide]
    exact congrArg p (congrArg (fun k => ix3 k r l) (Fin.ext (by show b.val * 2 + 1 = 2 * b.val + (v (ix1 0)).toNat; rw [h]; simp; omega)))

/-- The precondition bounds the table's word. -/
theorem core_le {F : FTy → Type} [FloatOps F] (p : FVec F Cert.Pre_core_index.S8x2048x1408 .bf16) (o : FVec F Cert.Pre_core_index.S4x2048x1408 .bf16) (v : IVec Cert.Pre_core_index.S1 32)
    (h0 : (Cert.Pre_core_index.fn (F := F) p o v).1 = fun _ => 1#1) (h1 : (Cert.Pre_core_index.fn (F := F) p o v).2 = fun _ => 1#1) : (v (ix1 0)).toNat ≤ 1 :=
  word_le (v (ix1 0)) 1#32 (by decide) (congrFun h0 (ix1 0)) (congrFun h1 (ix1 0))

theorem core_of_pre (m : (ℓ : Loc nD τ sig) → Buf (Elt Ideal) ℓ) (h : Cert.Pre_PairSumIdeal m) : (core m).toNat ≤ 1 :=
  core_le _ _ _ (h 0).1 (h 0).2

/-- Every run of the call ends with the result array named, the arguments unchanged. -/
theorem run_blocks (m : (ℓ : Loc nD τ sig) → Buf (Elt Ideal) ℓ) (ρ : Dev nD → PrngReg) (hk : (core m).toNat ≤ 1) :
    θ_run defs (onTc (τ := τ) (main (F := Ideal))) ⟨m, fun _ => 0, ρ⟩ fun r => ∀ c : Dev nD,
      r.2.mem ((c : Thread nD τ).loc main_v0) = G (core m).toNat hk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m hk c),
      ((h c).1 0).trans (((run m hk c).arrAt_in 0 rfl _).trans ((A_eq m (ok m hk) c 0).trans (V_main_arg0 m c))),
      ((h c).1 1).trans (((run m hk c).arrAt_in 1 rfl _).trans ((A_eq m (ok m hk) c 1).trans (V_main_arg1 m c))),
      ((h c).2 main_arg2 (by decide : main_arg2 ∈ Pipeline.restRefs sig spec0)).trans (V_main_arg2 m c)⟩)
    (run_main m ρ (ok m hk))

/-- The two programs' results agree, on every device. -/
theorem algebraic : Cert.algebraic_PairSumIdeal_PairSumRefIdeal := by
  pair_intro
  · run_from (run_blocks m g (core_of_pre m hpre))
  · run_from (Cert.PairSumRefIdeal.Value.run (F := Ideal) m' g')
    · have hc : c = 0 := Subsingleton.elim _ _
      subst hc
      have hk := core_of_pre m hpre
      exact (Cert.PairSumRefIdeal.Read.val_main_v11_eq _ _ _).trans (ref_eq (m (((0 : Dev nD) : Thread nD τ).loc main_arg0)) (m (((0 : Dev nD) : Thread nD τ).loc main_arg1)) (m (((0 : Dev nD) : Thread nD τ).loc main_arg2)) hk)

theorem frame : Cert.quiescent_PairSum := fun m ρ h => Cert.PairSum.Gen.frame m ρ (Words.ok m (core_le _ _ _ (h 0).1 (h 0).2))
theorem frame_ideal : Cert.quiescent_PairSumIdeal := fun m ρ h => Cert.PairSumIdeal.Gen.frame m ρ (ok m (core_of_pre m h))
theorem frame_ref : Cert.quiescent_PairSumRefIdeal := fun m ρ _ =>
  θ_run_mono (Cert.PairSumRefIdeal.Value.run (F := Ideal) m ρ) fun r h =>
    ⟨fun c => (h c).2, sem_eq_zero_of_no_sems (by decide) r.2⟩
theorem frame_ref_core : Cert.quiescent_PairSumRefIdeal_pre_core_index := fun m ρ _ => frame_ref m ρ trivial

end Cert.Proof.PairSum

end
-- ==== Proof.DeviceSum.lean ====
/- The sum of eight arrays: what the call's result array holds, and that the reference's expression is the same
   array. -/
module

public import proofs.«01_k».proof.Defs
public import proofs.«01_k».proof.Proof.Gen.DeviceSum.Frame
public import proofs.«01_k».proof.Proof.Gen.DeviceSumIdeal.Value
public import proofs.«01_k».proof.Proof.Gen.DeviceSumRefIdeal.Read
public import Idealize.ShloMosaic.Lib.Claim
public import Idealize.ShloMosaic.Lib.Quiescent
public import Idealize.ShloMosaic.Lib.Pointwise
public import Idealize.ShloMosaic.Lib.Pipeline.ValueKit

@[expose] public section

noncomputable section

namespace Cert.Proof.DeviceSum

open Idealize.ShloMosaic Idealize.ShloMosaic.TcCoe Idealize.SL.Sem Idealize.ShloMosaic.Pointwise
open Cert.DeviceSumIdeal Cert.DeviceSumIdeal.Gen

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)

open Cert.DeviceSumRefIdeal.Read in
/-- The result array is the reference's sum. -/
theorem final (m : (ℓ : Loc nD τ sig) → Buf (Elt Ideal) ℓ) (c : Dev nD) : (dats m 0 c).arrAt 1 cfg0.N
    = val_main_v0 (F := Ideal) (m ((c : Thread nD τ).loc main_arg0)) := by
  refine (dats m 0 c).arrAt_eq_of_covers 1 _ (by decide +kernel) fun t hf y => ?_
  blk_simp
  rw [after0_1]
  frame_out
  obtain ⟨r, l, rfl⟩ : ∃ (r : Fin 328) (l : Fin 128), y = ix2 r l := ⟨y 0, y 1, by idx_ext⟩
  have e : ((cfg0.win 1).blk t).view.emb (ix2 r l) = ix2 r l := by blk_ext [idx1 t]
  have e0 : ∀ k : Fin 8, (iblk m c 0 t (ix3 k r l) : EReal) = m ((c : Thread nD τ).loc main_arg0) (ix3 k r l) := fun k => by
    blk_simp [iblk]
    exact congrArg _ (by blk_ext [idx0 t])
  rw [e]
  pointwise [k0_pay1, val_main_v0, val_main_cst]
  simp only [e0, Fin.sum_univ_eight]

/-- The two programs' results agree, on every device. -/
theorem algebraic : Cert.algebraic_DeviceSumIdeal_DeviceSumRefIdeal := by
  pair_intro
  · run_from (Cert.DeviceSumIdeal.Value.run_blocks (F := Ideal) m g)
  · run_from (Cert.DeviceSumRefIdeal.Value.run (F := Ideal) m' g')
    exact (Cert.DeviceSumRefIdeal.Read.val_main_v0_eq _).trans (final m c).symm

theorem frame : Cert.quiescent_DeviceSum := fun m ρ _ => Cert.DeviceSum.Gen.frame m ρ
theorem frame_ideal : Cert.quiescent_DeviceSumIdeal := fun m ρ _ => Cert.DeviceSumIdeal.Gen.frame m ρ
theorem frame_ref : Cert.quiescent_DeviceSumRefIdeal := fun m ρ _ =>
  θ_run_mono (Cert.DeviceSumRefIdeal.Value.run (F := Ideal) m ρ) fun r h =>
    ⟨fun c => (h c).2, sem_eq_zero_of_no_sems (by decide) r.2⟩

end Cert.Proof.DeviceSum

end
-- ==== Proof.HgrnFwdFrame.lean ====
/- The frame of `_hgrn_fwd`, with both outputs left unnamed: first one run of its body, then the launch. -/
module

public import proofs.«01_k».proof.Proof.Gen.HgrnFwd.Frame.Runs
public import Idealize.ShloMosaic.Lib.Claim

@[expose] public section

set_option maxRecDepth 16384

noncomputable section

namespace Cert.HgrnFwd.Hand

open Cert.HgrnFwd Cert.HgrnFwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A run of the body reads its six inputs and leaves the other six buffers at some contents. -/
theorem run (c : Dev nD) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S2x128 .f32) (harg5 : arg5.IsWhole) (arg6 : Memref sig .tc .vmem S1x128 .f32) (harg6 : arg6.IsWhole)
    (arg7 : Memref sig .tc .vmem S2048x128 .bf16) (harg7 : arg7.IsWhole) (arg8 : Memref sig .tc .vmem S2048x128 .f32) (harg8 : arg8.IsWhole)
    (arg9 : Memref sig .tc .vmem S2048x128 .f32) (harg9 : arg9.IsWhole) (arg10 : Memref sig .tc .vmem S2048x128 .f32) (harg10 : arg10.IsWhole)
    (arg11 : Memref sig .tc .vmem S128x128x128 .f32) (harg11 : arg11.IsWhole) (arg12 : Memref sig .tc .vmem S128x128x128 .bf16) (harg12 : arg12.IsWhole)
    (x1 : Vec F S2048x128 .f32) (x2 : Vec F S2048x128 .f32) (x3 : Vec F S2048x128 .f32) (x4 : Vec F S2048x128 .f32) (x5 : Vec F S2x128 .f32) (x6 : Vec F S1x128 .f32) (K : PUnit → sProp 𝕄) :
    iprop((owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ (∃ d, owns (c : Thread nD τ) arg7 fullShare d)
          ∗ (∃ d, owns (c : Thread nD τ) arg8 fullShare d)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d))
        ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ (∃ d, owns (c : Thread nD τ) arg7 fullShare d)
          ∗ (∃ d, owns (c : Thread nD τ) arg8 fullShare d)
          ∗ (∃ d, owns (c : Thread nD τ) arg9 fullShare d)
          ∗ (∃ d, owns (c : Thread nD τ) arg10 fullShare d)
          ∗ (∃ d, owns (c : Thread nD τ) arg11 fullShare d)
          ∗ (∃ d, owns (c : Thread nD τ) arg12 fullShare d)) -∗ K ⟨⟩))
    ⊢ wp frame (wpE (defs₀ (F := F)) Variants.none c none) Set.univ (cc0_hgrn_fwd i
        arg1 harg1 arg2 harg2 arg3 harg3 arg4 harg4 arg5 harg5 arg6 harg6
        arg7 harg7 arg8 harg8 arg9 harg9 arg10 harg10 arg11 harg11 arg12 harg12) K := by
  simp only [cc0_hgrn_fwd_eq_skeleton]; unfold cc0_hgrn_fwd_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

variable (m : (ℓ : Loc nD τ sig) → Buf (Elt F) ℓ) (ρ : Dev nD → PrngReg)

/-- The windows whose contents stay unnamed: the outputs. -/
def unnamed : Fin 8 → Bool := fun w => decide (6 ≤ w.val)

/-- The contents at each grid point: an input's block, an output unnamed. -/
def plan (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem plan_A (c : Dev nD) (w : Fin cfg0.W) : (plan m 0 c).A w = V m c (Pipeline.arrRef spec0 w) := by
  dsimp only [plan]

theorem after0 (c : Dev nD) (t : Fin cfg0.N) : (plan m 0 c).after 0 t = iblk m c 0 t := by dsimp only [plan]
theorem after1 (c : Dev nD) (t : Fin cfg0.N) : (plan m 0 c).after 1 t = iblk m c 1 t := by dsimp only [plan]
theorem after2 (c : Dev nD) (t : Fin cfg0.N) : (plan m 0 c).after 2 t = iblk m c 2 t := by dsimp only [plan]
theorem after3 (c : Dev nD) (t : Fin cfg0.N) : (plan m 0 c).after 3 t = iblk m c 3 t := by dsimp only [plan]
theorem after4 (c : Dev nD) (t : Fin cfg0.N) : (plan m 0 c).after 4 t = iblk m c 4 t := by dsimp only [plan]
theorem after5 (c : Dev nD) (t : Fin cfg0.N) : (plan m 0 c).after 5 t = iblk m c 5 t := by dsimp only [plan]
theorem before0 (c : Dev nD) (t : Fin cfg0.N) (d) : (plan m 0 c).before 0 t d = iblk m c 0 t :=
  before0_0_of m (plan m 0 c) (plan_A m c 0) (after0 m c) t d
theorem before1 (c : Dev nD) (t : Fin cfg0.N) (d) : (plan m 0 c).before 1 t d = iblk m c 1 t :=
  before0_1_of m (plan m 0 c) (plan_A m c 1) (after1 m c) t d
theorem before2 (c : Dev nD) (t : Fin cfg0.N) (d) : (plan m 0 c).before 2 t d = iblk m c 2 t :=
  before0_2_of m (plan m 0 c) (plan_A m c 2) (after2 m c) t d
theorem before3 (c : Dev nD) (t : Fin cfg0.N) (d) : (plan m 0 c).before 3 t d = iblk m c 3 t :=
  before0_3_of m (plan m 0 c) (plan_A m c 3) (after3 m c) t d
theorem before4 (c : Dev nD) (t : Fin cfg0.N) (d) : (plan m 0 c).before 4 t d = iblk m c 4 t :=
  before0_4_of m (plan m 0 c) (plan_A m c 4) (after4 m c) t d
theorem before5 (c : Dev nD) (t : Fin cfg0.N) (d) : (plan m 0 c).before 5 t d = iblk m c 5 t :=
  before0_5_of m (plan m 0 c) (plan_A m c 5) (after5 m c) t d

set_option maxHeartbeats 4000000 in
theorem body (c : Dev nD) (t : Fin cfg0.N) :
    iprop((plan m 0 c).Φ t.castSucc
      ∗ (plan m 0 c).owesAt () t.castSucc
      ∗ (∃ d, owns (c : Thread nD τ) (ms0_0 t) fullShare ((plan m 0 c).before 0 t d))
      ∗ (∃ d, owns (c : Thread nD τ) (ms0_1 t) fullShare ((plan m 0 c).before 1 t d))
      ∗ (∃ d, owns (c : Thread nD τ) (ms0_2 t) fullShare ((plan m 0 c).before 2 t d))
      ∗ (∃ d, owns (c : Thread nD τ) (ms0_3 t) fullShare ((plan m 0 c).before 3 t d))
      ∗ (∃ d, owns (c : Thread nD τ) (ms0_4 t) fullShare ((plan m 0 c).before 4 t d))
      ∗ (∃ d, owns (c : Thread nD τ) (ms0_5 t) fullShare ((plan m 0 c).before 5 t d))
      ∗ (∃ d, owns (c : Thread nD τ) (ms0_6 t) fullShare d)
      ∗ (∃ d, owns (c : Thread nD τ) (ms0_7 t) fullShare d))
    ⊢ wp frame (wpE (defs₀ (F := F)) Variants.none c none) Set.univ (bodyAt0 t) (fun _ =>
    iprop((plan m 0 c).Φ t.succ
      ∗ (plan m 0 c).owesAt () t.succ
      ∗ owns (c : Thread nD τ) (ms0_0 t) fullShare ((plan m 0 c).after 0 t)
      ∗ owns (c : Thread nD τ) (ms0_1 t) fullShare ((plan m 0 c).after 1 t)
      ∗ owns (c : Thread nD τ) (ms0_2 t) fullShare ((plan m 0 c).after 2 t)
      ∗ owns (c : Thread nD τ) (ms0_3 t) fullShare ((plan m 0 c).after 3 t)
      ∗ owns (c : Thread nD τ) (ms0_4 t) fullShare ((plan m 0 c).after 4 t)
      ∗ owns (c : Thread nD τ) (ms0_5 t) fullShare ((plan m 0 c).after 5 t)
      ∗ (∃ d, owns (c : Thread nD τ) (ms0_6 t) fullShare d)
      ∗ (∃ d, owns (c : Thread nD τ) (ms0_7 t) fullShare d))) := by
  unfold bodyAt0
  simp only [before0, before1, before2, before3, before4, before5]
  rw [show (plan m 0 c).Φ t.succ = (plan m 0 c).Φ t.castSucc from rfl,
    show (plan m 0 c).owesAt () t.succ = (plan m 0 c).owesAt () t.castSucc from rfl,
    after0, after1, after2, after3, after4, after5]
  rw [show (plan m 0 c).Φ t.castSucc = Pipeline.ΦA spec0 c from rfl, PhiA0_eq]
  iintro ⟨⟨⟨H9, H10, H11, H12⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _
    (iblk m c 0 t) (iblk m c 1 t) (iblk m c 2 t) (iblk m c 3 t) (iblk m c 4 t) (iblk m c 5 t) _)
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexact H11
    iexact H12
  iintro ⟨H1, H2, H3, H4, H5, H6, H7, H8, H9, H10, H11, H12⟩
  isplitl [H9 H10 H11 H12 Hg]
  · isplitl [H9 H10 H11 H12]
    · isplitl [H9]; · iexact H9
      isplitl [H10]; · iexact H10
      isplitl [H11]; · iexact H11
      iexact H12
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligation (c : Dev nD) :
    BodyObligation (plan (F := F) m 0 c) (defs₀ (F := F)) Variants.none () Set.univ unnamed := fun t => by
  rw [bigSep_W0, bigSep_W0, show defs₀ (F := F) .tc cfg0.body (cfg0.bodyArgs t (cfg0.slots t)) = bodyAt0 t by
    unfold defs₀; rw [Defs.onTc_tc]]
  exact triple_restated (body m c t) rfl .rfl fun _ => .rfl

set_option backward.isDefEq.respectTransparency.types false in
/-- Every device ends, with the arguments as they were and the counts at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h : θ_run defs (onTc (τ := τ) (main (F := F))) (s₀ m ρ) (fun r =>
      (Pipeline.RDat.FramePost (cfgs 0) (fun c => (plan m 0 c).toRForget unnamed) (V m)) r ∧ r.2.sem = fun _ => 0) :=
    Pipeline.θ_run_frame_forget_shared (Q' := _) cfgs (plan m) (0 : Fin 1) launch₀0 defs₀ Variants.none unnamed m ρ main
      (hbody := fun c => (obligation m c).loose) (hq := fun _ _ _ => rfl)
      (howed := fun _ _ => rfl) (V := V m) (hmain := hmain m Variants.none) (hA := plan_A m) (hΦ := fun _ _ => rfl)
  exact (θ_run defs _ _).mono (fun _ h => ⟨fun c => ⟨
    (Pipeline.RDat.FramePost.arr_in h.1 c 3 rfl).trans ((plan_A m c 3).trans (V_main_arg0 m c)),
    (Pipeline.RDat.FramePost.arr_in h.1 c 4 rfl).trans ((plan_A m c 4).trans (V_main_arg1 m c)),
    (Pipeline.RDat.FramePost.arr_in h.1 c 5 rfl).trans ((plan_A m c 5).trans (V_main_arg2 m c))⟩, h.2⟩) h

end Cert.HgrnFwd.Hand

end
-- ==== Proof.HgrnBwdLoop.lean ====
/- One run of the kernel `_hgrn_bwd` at a symbolic grid point. Its first loop stores into ten buffers and loads
   back from them; for the frame it is enough that a trip leaves the six buffers it only reads as they were and the
   ten it writes at some contents. -/
module

public import proofs.«01_k».proof.Proof.Gen.HgrnBwd.Loops
public import proofs.«01_k».proof.Proof.Gen.HgrnBwd.Frame

@[expose] public section

set_option maxRecDepth 16384

noncomputable section

namespace Cert.HgrnBwd.Hand

open Cert.HgrnBwd Cert.HgrnBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S2x128 .f32) (harg5 : arg5.IsWhole) (arg6 : Memref sig .tc .vmem S1x128 .f32) (harg6 : arg6.IsWhole)
  (arg7 : Memref sig .tc .vmem S2048x128 .f32) (harg7 : arg7.IsWhole) (arg8 : Memref sig .tc .vmem S2048x128 .f32) (harg8 : arg8.IsWhole)
  (arg9 : Memref sig .tc .vmem S2048x128 .bf16) (harg9 : arg9.IsWhole) (arg10 : Memref sig .tc .vmem S2048x128 .bf16) (harg10 : arg10.IsWhole)
  (arg11 : Memref sig .tc .vmem S2048x128 .bf16) (harg11 : arg11.IsWhole) (arg12 : Memref sig .tc .vmem S2048x128 .bf16) (harg12 : arg12.IsWhole)
  (arg13 : Memref sig .tc .vmem S2x128 .f32) (harg13 : arg13.IsWhole) (arg14 : Memref sig .tc .vmem S1x128 .f32) (harg14 : arg14.IsWhole)
  (arg15 : Memref sig .tc .vmem S2048x128 .f32) (harg15 : arg15.IsWhole) (arg16 : Memref sig .tc .vmem S2048x128 .f32) (harg16 : arg16.IsWhole)
  (arg17 : Memref sig .tc .vmem S2048x128 .f32) (harg17 : arg17.IsWhole) (arg18 : Memref sig .tc .vmem S2048x128 .f32) (harg18 : arg18.IsWhole)
  (arg19 : Memref sig .tc .vmem S2048x128 .f32) (harg19 : arg19.IsWhole) (arg20 : Memref sig .tc .vmem S2048x128 .f32) (harg20 : arg20.IsWhole)
  (arg21 : Memref sig .tc .vmem S2048x128 .f32) (harg21 : arg21.IsWhole) (arg22 : Memref sig .tc .vmem S128x128x128 .f32) (harg22 : arg22.IsWhole)
  (arg23 : Memref sig .tc .vmem S128x128x128 .bf16) (harg23 : arg23.IsWhole) (arg24 : Memref sig .tc .vmem S128x128x128 .bf16) (harg24 : arg24.IsWhole)

/-- What a trip of the first loop touches: six buffers at known contents, ten at some. -/
def touched (X1 : BufTy.Contents (Elt F) arg1.view.ty) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) : sProp 𝕄 :=
  iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg7.view.loc (c : Thread nD τ) ↦[arg7.view.set]{fullShare} X7)
    ∗ (arg8.view.loc (c : Thread nD τ) ↦[arg8.view.set]{fullShare} X8)
    ∗ (∃ f, arg12.view.loc (c : Thread nD τ) ↦[arg12.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg18.view.loc (c : Thread nD τ) ↦[arg18.view.set]{fullShare} f)
    ∗ (∃ f, arg19.view.loc (c : Thread nD τ) ↦[arg19.view.set]{fullShare} f)
    ∗ (∃ f, arg20.view.loc (c : Thread nD τ) ↦[arg20.view.set]{fullShare} f)
    ∗ (∃ f, arg21.view.loc (c : Thread nD τ) ↦[arg21.view.set]{fullShare} f)
    ∗ (∃ f, arg22.view.loc (c : Thread nD τ) ↦[arg22.view.set]{fullShare} f))

set_option maxHeartbeats 4000000 in
/-- One trip keeps `touched`. -/
theorem trip (v0 : Vec F S2x128 .f32) (v9 : Vec F S1x128 .f32)
    (X1 : BufTy.Contents (Elt F) arg1.view.ty) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) (k : Fin k0_t1_loop.trips) (acc : Unit) :
    touched (F := F) c arg1 arg2 arg3 arg4 arg7 arg8 arg12 arg14 arg15 arg16 arg17 arg18 arg19 arg20 arg21 arg22 X1 X2 X3 X4 X7 X8
    ⊢ wp frame (wpE (defs₀ (F := F)) Variants.none (c : Thread nD τ) none) Set.univ
        (k0_t1_body (F := F) i arg1 harg1 arg2 harg2 arg3 harg3 arg4 harg4 arg5 harg5 arg6 harg6
    arg7 harg7 arg8 harg8 arg9 harg9 arg10 harg10 arg11 harg11 arg12 harg12
    arg13 harg13 arg14 harg14 arg15 harg15 arg16 harg16 arg17 harg17 arg18 harg18
    arg19 harg19 arg20 harg20 arg21 harg21 arg22 harg22 arg23 harg23 arg24 harg24 v0 v9 k acc)
        (fun _ => touched (F := F) c arg1 arg2 arg3 arg4 arg7 arg8 arg12 arg14 arg15 arg16 arg17 arg18 arg19 arg20 arg21 arg22 X1 X2 X3 X4 X7 X8) := by
  have hk : k.val < 16 := Nat.lt_of_lt_of_le k.isLt k0_t1_abs.2.1
  unfold touched k0_t1_body
  iintro ⟨R1, R2, R3, R4, R7, R8, ⟨%f12, W12⟩, ⟨%f14, W14⟩, ⟨%f15, W15⟩, ⟨%f16, W16⟩, ⟨%f17, W17⟩, ⟨%f18, W18⟩, ⟨%f19, W19⟩, ⟨%f20, W20⟩, ⟨%f21, W21⟩, ⟨%f22, W22⟩⟩
  sl_exec
  sl_step
  isplitl [R1]; · iexact R1
  isplitl [R2]; · iexact R2
  isplitl [R3]; · iexact R3
  isplitl [R4]; · iexact R4
  isplitl [R7]; · iexact R7
  isplitl [R8]; · iexact R8
  isplitl [W12]; · iexists _; iexact W12
  isplitl [W14]; · iexists _; iexact W14
  isplitl [W15]; · iexists _; iexact W15
  isplitl [W16]; · iexists _; iexact W16
  isplitl [W17]; · iexists _; iexact W17
  isplitl [W18]; · iexists _; iexact W18
  isplitl [W19]; · iexists _; iexact W19
  isplitl [W20]; · iexists _; iexact W20
  isplitl [W21]; · iexists _; iexact W21
  iexists _; iexact W22

set_option warn.classDefReducibility false in
/-- The first loop's invariant: `touched` before and after every trip. -/
@[sl_loop] def firstLoop (v0 : Vec F S2x128 .f32) (v9 : Vec F S1x128 .f32)
    (X1 : BufTy.Contents (Elt F) arg1.view.ty) (X2 : BufTy.Contents (Elt F) arg2.view.ty) (X3 : BufTy.Contents (Elt F) arg3.view.ty) (X4 : BufTy.Contents (Elt F) arg4.view.ty) (X7 : BufTy.Contents (Elt F) arg7.view.ty) (X8 : BufTy.Contents (Elt F) arg8.view.ty) :
    LoopInvTy_k0_t1 (F := F) Unit ℕ (UR sig nD τ) ℕ Variants.none c none Set.univ i arg1 harg1 arg2 harg2 arg3 harg3 arg4 harg4 arg5 harg5 arg6 harg6
    arg7 harg7 arg8 harg8 arg9 harg9 arg10 harg10 arg11 harg11 arg12 harg12
    arg13 harg13 arg14 harg14 arg15 harg15 arg16 harg16 arg17 harg17 arg18 harg18
    arg19 harg19 arg20 harg20 arg21 harg21 arg22 harg22 arg23 harg23 arg24 harg24 v0 v9 where
  inv := fun _ _ => iprop((arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg7.view.loc (c : Thread nD τ) ↦[arg7.view.set]{fullShare} X7)
    ∗ (arg8.view.loc (c : Thread nD τ) ↦[arg8.view.set]{fullShare} X8)
    ∗ (∃ f, arg12.view.loc (c : Thread nD τ) ↦[arg12.view.set]{fullShare} f)
    ∗ (∃ f, arg14.view.loc (c : Thread nD τ) ↦[arg14.view.set]{fullShare} f)
    ∗ (∃ f, arg15.view.loc (c : Thread nD τ) ↦[arg15.view.set]{fullShare} f)
    ∗ (∃ f, arg16.view.loc (c : Thread nD τ) ↦[arg16.view.set]{fullShare} f)
    ∗ (∃ f, arg17.view.loc (c : Thread nD τ) ↦[arg17.view.set]{fullShare} f)
    ∗ (∃ f, arg18.view.loc (c : Thread nD τ) ↦[arg18.view.set]{fullShare} f)
    ∗ (∃ f, arg19.view.loc (c : Thread nD τ) ↦[arg19.view.set]{fullShare} f)
    ∗ (∃ f, arg20.view.loc (c : Thread nD τ) ↦[arg20.view.set]{fullShare} f)
    ∗ (∃ f, arg21.view.loc (c : Thread nD τ) ↦[arg21.view.set]{fullShare} f)
    ∗ (∃ f, arg22.view.loc (c : Thread nD τ) ↦[arg22.view.set]{fullShare} f))
  step k acc := trip c i arg1 harg1 arg2 harg2 arg3 harg3 arg4 harg4 arg5 harg5 arg6 harg6
    arg7 harg7 arg8 harg8 arg9 harg9 arg10 harg10 arg11 harg11 arg12 harg12
    arg13 harg13 arg14 harg14 arg15 harg15 arg16 harg16 arg17 harg17 arg18 harg18
    arg19 harg19 arg20 harg20 arg21 harg21 arg22 harg22 arg23 harg23 arg24 harg24 v0 v9 X1 X2 X3 X4 X7 X8 k acc

end Cert.HgrnBwd.Hand

end
-- ==== Proof.HgrnBwdRun.lean ====
/- The kernel `_hgrn_bwd` run once, at a symbolic grid point, on any whole buffers: the inputs come back as they were,
   every other buffer at some contents. -/
module

public import proofs.«01_k».proof.Proof.HgrnBwdLoop

@[expose] public section

set_option maxRecDepth 16384

noncomputable section

namespace Cert.HgrnBwd.Hand

open Cert.HgrnBwd Cert.HgrnBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S2048x128 .f32) (harg4 : arg4.IsWhole)
  (arg5 : Memref sig .tc .vmem S2x128 .f32) (harg5 : arg5.IsWhole) (arg6 : Memref sig .tc .vmem S1x128 .f32) (harg6 : arg6.IsWhole)
  (arg7 : Memref sig .tc .vmem S2048x128 .f32) (harg7 : arg7.IsWhole) (arg8 : Memref sig .tc .vmem S2048x128 .f32) (harg8 : arg8.IsWhole)
  (arg9 : Memref sig .tc .vmem S2048x128 .bf16) (harg9 : arg9.IsWhole) (arg10 : Memref sig .tc .vmem S2048x128 .bf16) (harg10 : arg10.IsWhole)
  (arg11 : Memref sig .tc .vmem S2048x128 .bf16) (harg11 : arg11.IsWhole) (arg12 : Memref sig .tc .vmem S2048x128 .bf16) (harg12 : arg12.IsWhole)
  (arg13 : Memref sig .tc .vmem S2x128 .f32) (harg13 : arg13.IsWhole) (arg14 : Memref sig .tc .vmem S1x128 .f32) (harg14 : arg14.IsWhole)
  (arg15 : Memref sig .tc .vmem S2048x128 .f32) (harg15 : arg15.IsWhole) (arg16 : Memref sig .tc .vmem S2048x128 .f32) (harg16 : arg16.IsWhole)
  (arg17 : Memref sig .tc .vmem S2048x128 .f32) (harg17 : arg17.IsWhole) (arg18 : Memref sig .tc .vmem S2048x128 .f32) (harg18 : arg18.IsWhole)
  (arg19 : Memref sig .tc .vmem S2048x128 .f32) (harg19 : arg19.IsWhole) (arg20 : Memref sig .tc .vmem S2048x128 .f32) (harg20 : arg20.IsWhole)
  (arg21 : Memref sig .tc .vmem S2048x128 .f32) (harg21 : arg21.IsWhole) (arg22 : Memref sig .tc .vmem S128x128x128 .f32) (harg22 : arg22.IsWhole)
  (arg23 : Memref sig .tc .vmem S128x128x128 .bf16) (harg23 : arg23.IsWhole) (arg24 : Memref sig .tc .vmem S128x128x128 .bf16) (harg24 : arg24.IsWhole)

/-- The buffers of a run: the inputs at `x1 … x8`, the rest at some contents. -/
def held (x1 : Vec F S2048x128 .f32) (x2 : Vec F S2048x128 .f32) (x3 : Vec F S2048x128 .f32) (x4 : Vec F S2048x128 .f32) (x5 : Vec F S2x128 .f32) (x6 : Vec F S1x128 .f32) (x7 : Vec F S2048x128 .f32) (x8 : Vec F S2048x128 .f32) : sProp 𝕄 :=
  iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ (∃ d, owns (c : Thread nD τ) arg9 fullShare d)
    ∗ (∃ d, owns (c : Thread nD τ) arg10 fullShare d)
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d))

set_option maxHeartbeats 8000000 in
/-- The run, in both cases of the branch that clears the last output at the first grid point. -/
theorem run (x1 : Vec F S2048x128 .f32) (x2 : Vec F S2048x128 .f32) (x3 : Vec F S2048x128 .f32) (x4 : Vec F S2048x128 .f32) (x5 : Vec F S2x128 .f32) (x6 : Vec F S1x128 .f32) (x7 : Vec F S2048x128 .f32) (x8 : Vec F S2048x128 .f32) (E : Set ℕ) (hE : E = Set.univ) (K : PUnit → sProp 𝕄) :
    iprop(held (F := F) c arg1 arg2 arg3 arg4 arg5 arg6 arg7 arg8 arg9 arg10 arg11 arg12 arg13 arg14 arg15 arg16 arg17 arg18 arg19 arg20 arg21 arg22 arg23 arg24 x1 x2 x3 x4 x5 x6 x7 x8
      ∗ (held (F := F) c arg1 arg2 arg3 arg4 arg5 arg6 arg7 arg8 arg9 arg10 arg11 arg12 arg13 arg14 arg15 arg16 arg17 arg18 arg19 arg20 arg21 arg22 arg23 arg24 x1 x2 x3 x4 x5 x6 x7 x8 -∗ K ⟨⟩))
    ⊢ wp frame (wpE (defs₀ (F := F)) Variants.none c none) E (cc0_hgrn_bwd i arg1 harg1 arg2 harg2 arg3 harg3 arg4 harg4 arg5 harg5 arg6 harg6
    arg7 harg7 arg8 harg8 arg9 harg9 arg10 harg10 arg11 harg11 arg12 harg12
    arg13 harg13 arg14 harg14 arg15 harg15 arg16 harg16 arg17 harg17 arg18 harg18
    arg19 harg19 arg20 harg20 arg21 harg21 arg22 harg22 arg23 harg23 arg24 harg24) K := by
  subst hE
  simp only [cc0_hgrn_bwd_eq_skeleton]; unfold cc0_hgrn_bwd_skel
  unfold held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  by_cases hc : Scalar.cmpi .ne (Scalar.extui (Scalar.cmpi .eq (BitVec.ofNat 32 (i 0).val) 0#32)) 0#32 = 1#1
  all_goals
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.HgrnBwd.Hand

end
-- ==== Proof.HgrnBwdFrame.lean ====
/- The frame of `_hgrn_bwd`: on every device the call runs to its end, its arguments come back unchanged, and no
   semaphore keeps a count. The pipeline's six outputs are left unnamed. -/
module

public import proofs.«01_k».proof.Proof.HgrnBwdRun
public import Idealize.ShloMosaic.Lib.Claim

@[expose] public section

set_option maxRecDepth 16384

noncomputable section

namespace Cert.HgrnBwd.Hand

open Cert.HgrnBwd Cert.HgrnBwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents stay unnamed: the outputs. -/
def unnamed : Fin 14 → Bool := fun w => decide (8 ≤ w.val)

/-- The contents before and after each grid point: an input's block stays, an output's is unnamed. -/
def plan (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q w := Pipeline.shareOf spec0 w
  owed _ := 0

theorem plan_A (c : Dev nD) (w : Fin cfg0.W) : (plan m 0 c).A w = V m c (Pipeline.arrRef spec0 w) := by
  dsimp only [plan]

theorem after0 (c : Dev nD) (t : Fin cfg0.N) : (plan m 0 c).after 0 t = iblk m c 0 t := by dsimp only [plan]
theorem after1 (c : Dev nD) (t : Fin cfg0.N) : (plan m 0 c).after 1 t = iblk m c 1 t := by dsimp only [plan]
theorem after2 (c : Dev nD) (t : Fin cfg0.N) : (plan m 0 c).after 2 t = iblk m c 2 t := by dsimp only [plan]
theorem after3 (c : Dev nD) (t : Fin cfg0.N) : (plan m 0 c).after 3 t = iblk m c 3 t := by dsimp only [plan]
theorem after4 (c : Dev nD) (t : Fin cfg0.N) : (plan m 0 c).after 4 t = iblk m c 4 t := by dsimp only [plan]
theorem after5 (c : Dev nD) (t : Fin cfg0.N) : (plan m 0 c).after 5 t = iblk m c 5 t := by dsimp only [plan]
theorem after6 (c : Dev nD) (t : Fin cfg0.N) : (plan m 0 c).after 6 t = iblk m c 6 t := by dsimp only [plan]
theorem after7 (c : Dev nD) (t : Fin cfg0.N) : (plan m 0 c).after 7 t = iblk m c 7 t := by dsimp only [plan]
theorem before0 (c : Dev nD) (t : Fin cfg0.N) (d) : (plan m 0 c).before 0 t d = iblk m c 0 t :=
  before0_0_of m (plan m 0 c) (plan_A m c 0) (after0 m c) t d
theorem before1 (c : Dev nD) (t : Fin cfg0.N) (d) : (plan m 0 c).before 1 t d = iblk m c 1 t :=
  before0_1_of m (plan m 0 c) (plan_A m c 1) (after1 m c) t d
theorem before2 (c : Dev nD) (t : Fin cfg0.N) (d) : (plan m 0 c).before 2 t d = iblk m c 2 t :=
  before0_2_of m (plan m 0 c) (plan_A m c 2) (after2 m c) t d
theorem before3 (c : Dev nD) (t : Fin cfg0.N) (d) : (plan m 0 c).before 3 t d = iblk m c 3 t :=
  before0_3_of m (plan m 0 c) (plan_A m c 3) (after3 m c) t d
theorem before4 (c : Dev nD) (t : Fin cfg0.N) (d) : (plan m 0 c).before 4 t d = iblk m c 4 t :=
  before0_4_of m (plan m 0 c) (plan_A m c 4) (after4 m c) t d
theorem before5 (c : Dev nD) (t : Fin cfg0.N) (d) : (plan m 0 c).before 5 t d = iblk m c 5 t :=
  before0_5_of m (plan m 0 c) (plan_A m c 5) (after5 m c) t d
theorem before6 (c : Dev nD) (t : Fin cfg0.N) (d) : (plan m 0 c).before 6 t d = iblk m c 6 t :=
  before0_6_of m (plan m 0 c) (plan_A m c 6) (after6 m c) t d
theorem before7 (c : Dev nD) (t : Fin cfg0.N) (d) : (plan m 0 c).before 7 t d = iblk m c 7 t :=
  before0_7_of m (plan m 0 c) (plan_A m c 7) (after7 m c) t d

/-! The memrefs the body is called with. -/

abbrev st0 (t : Fin cfg0.N) : Memref sig .tc .vmem S2048x128 .f32 := win0_0.stage (cfg0.slots t 0)
abbrev st1 (t : Fin cfg0.N) : Memref sig .tc .vmem S2048x128 .f32 := win0_1.stage (cfg0.slots t 1)
abbrev st2 (t : Fin cfg0.N) : Memref sig .tc .vmem S2048x128 .f32 := win0_2.stage (cfg0.slots t 2)
abbrev st3 (t : Fin cfg0.N) : Memref sig .tc .vmem S2048x128 .f32 := win0_3.stage (cfg0.slots t 3)
abbrev st4 (t : Fin cfg0.N) : Memref sig .tc .vmem S2x128 .f32 := win0_4.stage (cfg0.slots t 4)
abbrev st5 (t : Fin cfg0.N) : Memref sig .tc .vmem S1x128 .f32 := win0_5.stage (cfg0.slots t 5)
abbrev st6 (t : Fin cfg0.N) : Memref sig .tc .vmem S2048x128 .f32 := win0_6.stage (cfg0.slots t 6)
abbrev st7 (t : Fin cfg0.N) : Memref sig .tc .vmem S2048x128 .f32 := win0_7.stage (cfg0.slots t 7)
abbrev st8 (t : Fin cfg0.N) : Memref sig .tc .vmem S2048x128 .bf16 := win0_8.stage (cfg0.slots t 8)
abbrev st9 (t : Fin cfg0.N) : Memref sig .tc .vmem S2048x128 .bf16 := win0_9.stage (cfg0.slots t 9)
abbrev st10 (t : Fin cfg0.N) : Memref sig .tc .vmem S2048x128 .bf16 := win0_10.stage (cfg0.slots t 10)
abbrev st11 (t : Fin cfg0.N) : Memref sig .tc .vmem S2048x128 .bf16 := win0_11.stage (cfg0.slots t 11)
abbrev st12 (t : Fin cfg0.N) : Memref sig .tc .vmem S2x128 .f32 := win0_12.stage (cfg0.slots t 12)
abbrev st13 (t : Fin cfg0.N) : Memref sig .tc .vmem S1x128 .f32 := win0_13.stage (cfg0.slots t 13)
abbrev scr0 : Memref sig .tc .vmem S2048x128 .f32 := Memref.whole cc0_scratch0
abbrev scr1 : Memref sig .tc .vmem S2048x128 .f32 := Memref.whole cc0_scratch1
abbrev scr2 : Memref sig .tc .vmem S2048x128 .f32 := Memref.whole cc0_scratch2
abbrev scr3 : Memref sig .tc .vmem S2048x128 .f32 := Memref.whole cc0_scratch3
abbrev scr4 : Memref sig .tc .vmem S2048x128 .f32 := Memref.whole cc0_scratch4
abbrev scr5 : Memref sig .tc .vmem S2048x128 .f32 := Memref.whole cc0_scratch5
abbrev scr6 : Memref sig .tc .vmem S2048x128 .f32 := Memref.whole cc0_scratch6
abbrev scr7 : Memref sig .tc .vmem S128x128x128 .f32 := Memref.whole cc0_scratch7
abbrev scr8 : Memref sig .tc .vmem S128x128x128 .bf16 := Memref.whole cc0_scratch8
abbrev scr9 : Memref sig .tc .vmem S128x128x128 .bf16 := Memref.whole cc0_scratch9

/-- What is kept between grid points, the scratch buffers spelled out. -/
theorem kept_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d) ∗ (∃ d, owns (c : Thread nD τ) scr8 fullShare d) ∗ (∃ d, owns (c : Thread nD τ) scr9 fullShare d)) ∗ (∃ r, prngReg c r)) := by
  unfold Pipeline.ΦA; rw [scopedRest0_eq]
  simp only [scr0, scr1, scr2, scr3, scr4, scr5, scr6, scr7, scr8, scr9, owns_whole]; try rfl

/-- What the body finds at a grid point, -/
def found (c : Dev nD) (t : Fin cfg0.N) : sProp 𝕄 :=
  iprop((plan m 0 c).Φ t.castSucc
    ∗ (plan m 0 c).owesAt () t.castSucc
    ∗ (∃ d, owns (c : Thread nD τ) (st0 t) fullShare ((plan m 0 c).before 0 t d))
    ∗ (∃ d, owns (c : Thread nD τ) (st1 t) fullShare ((plan m 0 c).before 1 t d))
    ∗ (∃ d, owns (c : Thread nD τ) (st2 t) fullShare ((plan m 0 c).before 2 t d))
    ∗ (∃ d, owns (c : Thread nD τ) (st3 t) fullShare ((plan m 0 c).before 3 t d))
    ∗ (∃ d, owns (c : Thread nD τ) (st4 t) fullShare ((plan m 0 c).before 4 t d))
    ∗ (∃ d, owns (c : Thread nD τ) (st5 t) fullShare ((plan m 0 c).before 5 t d))
    ∗ (∃ d, owns (c : Thread nD τ) (st6 t) fullShare ((plan m 0 c).before 6 t d))
    ∗ (∃ d, owns (c : Thread nD τ) (st7 t) fullShare ((plan m 0 c).before 7 t d))
    ∗ (∃ d, owns (c : Thread nD τ) (st8 t) fullShare d)
    ∗ (∃ d, owns (c : Thread nD τ) (st9 t) fullShare d)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d))

/-- and what it leaves. -/
def left (c : Dev nD) (t : Fin cfg0.N) : sProp 𝕄 :=
  iprop((plan m 0 c).Φ t.succ
    ∗ (plan m 0 c).owesAt () t.succ
    ∗ owns (c : Thread nD τ) (st0 t) fullShare ((plan m 0 c).after 0 t)
    ∗ owns (c : Thread nD τ) (st1 t) fullShare ((plan m 0 c).after 1 t)
    ∗ owns (c : Thread nD τ) (st2 t) fullShare ((plan m 0 c).after 2 t)
    ∗ owns (c : Thread nD τ) (st3 t) fullShare ((plan m 0 c).after 3 t)
    ∗ owns (c : Thread nD τ) (st4 t) fullShare ((plan m 0 c).after 4 t)
    ∗ owns (c : Thread nD τ) (st5 t) fullShare ((plan m 0 c).after 5 t)
    ∗ owns (c : Thread nD τ) (st6 t) fullShare ((plan m 0 c).after 6 t)
    ∗ owns (c : Thread nD τ) (st7 t) fullShare ((plan m 0 c).after 7 t)
    ∗ (∃ d, owns (c : Thread nD τ) (st8 t) fullShare d)
    ∗ (∃ d, owns (c : Thread nD τ) (st9 t) fullShare d)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d))

set_option maxHeartbeats 4000000 in
theorem body (c : Dev nD) (t : Fin cfg0.N) :
    found m c t ⊢ wp frame (wpE (defs₀ (F := F)) Variants.none c none) Set.univ (bodyAt0 t) (fun _ => left m c t) := by
  unfold found left bodyAt0
  simp only [before0, before1, before2, before3, before4, before5, before6, before7]
  rw [show (plan m 0 c).Φ t.succ = (plan m 0 c).Φ t.castSucc from rfl,
    show (plan m 0 c).owesAt () t.succ = (plan m 0 c).owesAt () t.castSucc from rfl,
    after0, after1, after2, after3, after4, after5, after6, after7]
  rw [show (plan m 0 c).Φ t.castSucc = Pipeline.ΦA spec0 c from rfl, kept_eq]
  iintro ⟨⟨⟨H15, H16, H17, H18, H19, H20, H21, H22, H23, H24⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run c (grid0.coords t) _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) Set.univ rfl _)
  unfold held
  isplitl [H1 H2 H3 H4 H5 H6 H7 H8 H9 H10 H11 H12 H13 H14 H15 H16 H17 H18 H19 H20 H21 H22 H23 H24]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  iintro ⟨H1, H2, H3, H4, H5, H6, H7, H8, H9, H10, H11, H12, H13, H14, H15, H16, H17, H18, H19, H20, H21, H22, H23, H24⟩
  isplitl [H15 H16 H17 H18 H19 H20 H21 H22 H23 H24 Hg]
  · isplitl [H15 H16 H17 H18 H19 H20 H21 H22 H23 H24]
    · isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row (t : Fin cfg0.N) :
    defs₀ (F := F) .tc cfg0.body (cfg0.bodyArgs t (cfg0.slots t)) = bodyAt0 t := by
  unfold defs₀; rw [Defs.onTc_tc]

theorem obligation (c : Dev nD) :
    BodyObligation (plan (F := F) m 0 c) (defs₀ (F := F)) Variants.none () Set.univ unnamed := fun t => by
  rw [bigSep_W0, bigSep_W0, row]
  exact triple_restated (body m c t) rfl .rfl fun _ => .rfl

set_option backward.isDefEq.respectTransparency.types false in
/-- The launch: every device ends, the inputs as the region found them, the counts at zero. -/
theorem launched : θ_run defs (onTc (τ := τ) (main (F := F))) (s₀ m ρ) (fun r =>
    (Pipeline.RDat.FramePost (cfgs 0) (fun c => (plan m 0 c).toRForget unnamed) (V m)) r ∧ r.2.sem = fun _ => 0) :=
  Pipeline.θ_run_frame_forget_shared (Q' := _) cfgs (plan m) (0 : Fin 1) launch₀0 defs₀ Variants.none unnamed m ρ main
    (hbody := fun c => (obligation m c).loose) (hq := fun _ _ _ => rfl)
    (howed := fun _ _ => rfl) (V := V m) (hmain := hmain m Variants.none) (hA := plan_A m) (hΦ := fun _ _ => rfl)

/-- The frame: what the claim says, at any kind of float. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
    (Pipeline.RDat.FramePost.arr_in h.1 c 3 rfl).trans ((plan_A m c 3).trans (V_main_arg0 m c)),
    (Pipeline.RDat.FramePost.arr_in h.1 c 4 rfl).trans ((plan_A m c 4).trans (V_main_arg1 m c)),
    (Pipeline.RDat.FramePost.arr_in h.1 c 5 rfl).trans ((plan_A m c 5).trans (V_main_arg2 m c)),
    (Pipeline.RDat.FramePost.arr_in h.1 c 6 rfl).trans ((plan_A m c 6).trans (V_main_arg3 m c)),
    (Pipeline.RDat.FramePost.arr_in h.1 c 7 rfl).trans ((plan_A m c 7).trans (V_main_arg4 m c))⟩,
    h.2⟩) (launched m ρ)

end Cert.HgrnBwd.Hand

end
-- ==== Proof.HgrnIdealFrame.lean ====
/- The frames of `_hgrn_fwd` and `_hgrn_bwd` at the ideal floats. In each pair the two programs are one program over two
   kinds of float, and the frame of `HgrnFwdFrame.lean` or `HgrnBwdFrame.lean` holds for any kind. -/
module

public import proofs.«01_k».proof.Proof.HgrnFwdFrame
public import proofs.«01_k».proof.Proof.HgrnBwdFrame
public import proofs.«01_k».proof.Proof.Gen.HgrnFwdIdeal
public import proofs.«01_k».proof.Proof.Gen.HgrnBwdIdeal
public import proofs.«01_k».proof.Defs

@[expose] public section

set_option maxRecDepth 65536

noncomputable section

open Idealize.ShloMosaic Idealize.SL.Sem

namespace Cert.HgrnFwdIdeal.Hand

theorem main_eq : Cert.HgrnFwdIdeal.main (F := Ideal) = Cert.HgrnFwd.main (F := Ideal) := by
  with_unfolding_all rfl

set_option maxHeartbeats 8000000 in
theorem bodies_eq : Cert.HgrnFwdIdeal.defs₀ (F := Ideal) = Cert.HgrnFwd.defs₀ (F := Ideal) := by
  unfold Cert.HgrnFwdIdeal.defs₀ Cert.HgrnFwd.defs₀
  refine congrArg Defs.onTc ?_
  funext l a
  match l, a with
  | 0, (t, s) => with_unfolding_all rfl
  | ⟨n + 1, h⟩, _ => exact absurd h (Nat.not_lt.2 (Nat.le_add_left _ _))

theorem defs_eq : Cert.HgrnFwdIdeal.defs (F := Ideal) = Cert.HgrnFwd.defs (F := Ideal) :=
  congrArg (Pipeline.defs Cert.HgrnFwd.pcfgs) bodies_eq

theorem frame : Cert.quiescent_HgrnFwdIdeal := fun m ρ _ => by
  rw [defs_eq, main_eq]
  exact Cert.HgrnFwd.Hand.frame (F := Ideal) m ρ

end Cert.HgrnFwdIdeal.Hand

namespace Cert.HgrnBwdIdeal.Hand

theorem main_eq : Cert.HgrnBwdIdeal.main (F := Ideal) = Cert.HgrnBwd.main (F := Ideal) := by
  with_unfolding_all rfl

set_option maxHeartbeats 8000000 in
theorem bodies_eq : Cert.HgrnBwdIdeal.defs₀ (F := Ideal) = Cert.HgrnBwd.defs₀ (F := Ideal) := by
  unfold Cert.HgrnBwdIdeal.defs₀ Cert.HgrnBwd.defs₀
  refine congrArg Defs.onTc ?_
  funext l a
  match l, a with
  | 0, (t, s) => with_unfolding_all rfl
  | ⟨n + 1, h⟩, _ => exact absurd h (Nat.not_lt.2 (Nat.le_add_left _ _))

theorem defs_eq : Cert.HgrnBwdIdeal.defs (F := Ideal) = Cert.HgrnBwd.defs (F := Ideal) :=
  congrArg (Pipeline.defs Cert.HgrnBwd.pcfgs) bodies_eq

theorem frame : Cert.quiescent_HgrnBwdIdeal := fun m ρ _ => by
  rw [defs_eq, main_eq]
  exact Cert.HgrnBwd.Hand.frame (F := Ideal) m ρ

end Cert.HgrnBwdIdeal.Hand

end
-- ==== Proof.lean ====
/- The claims of the certificate (AttnBwd, AdaBwd, ConvBwd, LossHead, QkBwd, NormBwd, NormMixBwd, QkFwd, ConvFwd, AdaFwd, MmUp, MmInDx, MmInDw, MmUpDx, MmUpDw, MmDownDw, AdamW, AdamWReduced, PairSum, DeviceSum, HgrnFwd, HgrnBwd, with their idealizations and, but for the two of the recurrence, references), assembled from the modules that
   prove them. -/
module

public import proofs.«01_k».proof.Defs
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.Gen.AdaBwdRefIdeal.Read
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.QkBwd
public import proofs.«01_k».proof.Proof.Gen.QkBwd.Skeleton
public import proofs.«01_k».proof.Proof.Gen.QkBwd.Launch
public import proofs.«01_k».proof.Proof.Gen.QkBwd.Points
public import proofs.«01_k».proof.Proof.Gen.QkBwd.Frame
public import proofs.«01_k».proof.Proof.Gen.QkBwdIdeal
public import proofs.«01_k».proof.Proof.Gen.QkBwdIdeal.Skeleton
public import proofs.«01_k».proof.Proof.Gen.QkBwdIdeal.Launch
public import proofs.«01_k».proof.Proof.Gen.QkBwdIdeal.Points
public import proofs.«01_k».proof.Proof.Gen.QkBwdIdeal.Frame
public import proofs.«01_k».proof.Proof.Gen.QkBwdIdeal.Value
public import proofs.«01_k».proof.Proof.Gen.QkBwdRefIdeal
public import proofs.«01_k».proof.Proof.Gen.QkBwdRefIdeal.Run
public import proofs.«01_k».proof.Proof.Gen.QkBwdRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.NormMixBwd
public import proofs.«01_k».proof.Proof.Gen.NormMixBwd.Skeleton
public import proofs.«01_k».proof.Proof.Gen.NormMixBwd.Launch
public import proofs.«01_k».proof.Proof.Gen.NormMixBwd.Points
public import proofs.«01_k».proof.Proof.Gen.NormMixBwd.Frame
public import proofs.«01_k».proof.Proof.Gen.NormMixBwdIdeal
public import proofs.«01_k».proof.Proof.Gen.NormMixBwdIdeal.Skeleton
public import proofs.«01_k».proof.Proof.Gen.NormMixBwdIdeal.Launch
public import proofs.«01_k».proof.Proof.Gen.NormMixBwdIdeal.Points
public import proofs.«01_k».proof.Proof.Gen.NormMixBwdIdeal.Frame
public import proofs.«01_k».proof.Proof.Gen.NormMixBwdRefIdeal
public import proofs.«01_k».proof.Proof.Gen.NormMixBwdRefIdeal.Run
public import proofs.«01_k».proof.Proof.Gen.NormMixBwdRefIdeal.Read
public import proofs.«01_k».proof.Proof.Gen.QkFwd
public import proofs.«01_k».proof.Proof.Gen.QkFwd.Skeleton
public import proofs.«01_k».proof.Proof.Gen.QkFwd.Launch
public import proofs.«01_k».proof.Proof.Gen.QkFwd.Points
public import proofs.«01_k».proof.Proof.Gen.QkFwd.Frame
public import proofs.«01_k».proof.Proof.Gen.QkFwdIdeal
public import proofs.«01_k».proof.Proof.Gen.QkFwdIdeal.Skeleton
public import proofs.«01_k».proof.Proof.Gen.QkFwdIdeal.Launch
public import proofs.«01_k».proof.Proof.Gen.QkFwdIdeal.Points
public import proofs.«01_k».proof.Proof.Gen.QkFwdIdeal.Frame
public import proofs.«01_k».proof.Proof.Gen.QkFwdIdeal.Value
public import proofs.«01_k».proof.Proof.Gen.QkFwdRefIdeal
public import proofs.«01_k».proof.Proof.Gen.QkFwdRefIdeal.Run
public import proofs.«01_k».proof.Proof.Gen.QkFwdRefIdeal.Read
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.AdaFwd
public import proofs.«01_k».proof.Proof.Gen.AdaFwd.Skeleton
public import proofs.«01_k».proof.Proof.Gen.AdaFwd.Launch
public import proofs.«01_k».proof.Proof.Gen.AdaFwd.Points
public import proofs.«01_k».proof.Proof.Gen.AdaFwd.Frame
public import proofs.«01_k».proof.Proof.Gen.AdaFwdIdeal
public import proofs.«01_k».proof.Proof.Gen.AdaFwdIdeal.Skeleton
public import proofs.«01_k».proof.Proof.Gen.AdaFwdIdeal.Launch
public import proofs.«01_k».proof.Proof.Gen.AdaFwdIdeal.Points
public import proofs.«01_k».proof.Proof.Gen.AdaFwdIdeal.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.Gen.AdaFwdRefIdeal.Read
public import proofs.«01_k».proof.Proof.Gen.MmUp
public import proofs.«01_k».proof.Proof.Gen.MmUp.Skeleton
public import proofs.«01_k».proof.Proof.Gen.MmUp.Launch
public import proofs.«01_k».proof.Proof.Gen.MmUp.Points
public import proofs.«01_k».proof.Proof.Gen.MmUp.Frame
public import proofs.«01_k».proof.Proof.Gen.MmUpIdeal
public import proofs.«01_k».proof.Proof.Gen.MmUpIdeal.Skeleton
public import proofs.«01_k».proof.Proof.Gen.MmUpIdeal.Launch
public import proofs.«01_k».proof.Proof.Gen.MmUpIdeal.Points
public import proofs.«01_k».proof.Proof.Gen.MmUpIdeal.Frame
public import proofs.«01_k».proof.Proof.Gen.MmUpIdeal.Value
public import proofs.«01_k».proof.Proof.Gen.MmUpRefIdeal
public import proofs.«01_k».proof.Proof.Gen.MmUpRefIdeal.Run
public import proofs.«01_k».proof.Proof.Gen.MmUpRefIdeal.Read
public import proofs.«01_k».proof.Proof.Gen.MmInDx
public import proofs.«01_k».proof.Proof.Gen.MmInDx.Skeleton
public import proofs.«01_k».proof.Proof.Gen.MmInDx.Launch
public import proofs.«01_k».proof.Proof.Gen.MmInDx.Points
public import proofs.«01_k».proof.Proof.Gen.MmInDx.Frame
public import proofs.«01_k».proof.Proof.Gen.MmInDxIdeal
public import proofs.«01_k».proof.Proof.Gen.MmInDxIdeal.Skeleton
public import proofs.«01_k».proof.Proof.Gen.MmInDxIdeal.Launch
public import proofs.«01_k».proof.Proof.Gen.MmInDxIdeal.Points
public import proofs.«01_k».proof.Proof.Gen.MmInDxIdeal.Frame
public import proofs.«01_k».proof.Proof.Gen.MmInDxIdeal.Value
public import proofs.«01_k».proof.Proof.Gen.MmInDxRefIdeal
public import proofs.«01_k».proof.Proof.Gen.MmInDxRefIdeal.Run
public import proofs.«01_k».proof.Proof.Gen.MmInDxRefIdeal.Read
public import proofs.«01_k».proof.Proof.Gen.MmInDw
public import proofs.«01_k».proof.Proof.Gen.MmInDw.Skeleton
public import proofs.«01_k».proof.Proof.Gen.MmInDw.Launch
public import proofs.«01_k».proof.Proof.Gen.MmInDw.Points
public import proofs.«01_k».proof.Proof.Gen.MmInDw.Frame
public import proofs.«01_k».proof.Proof.Gen.MmInDwIdeal
public import proofs.«01_k».proof.Proof.Gen.MmInDwIdeal.Skeleton
public import proofs.«01_k».proof.Proof.Gen.MmInDwIdeal.Launch
public import proofs.«01_k».proof.Proof.Gen.MmInDwIdeal.Points
public import proofs.«01_k».proof.Proof.Gen.MmInDwIdeal.Frame
public import proofs.«01_k».proof.Proof.Gen.MmInDwIdeal.Value
public import proofs.«01_k».proof.Proof.Gen.MmInDwRefIdeal
public import proofs.«01_k».proof.Proof.Gen.MmInDwRefIdeal.Run
public import proofs.«01_k».proof.Proof.Gen.MmInDwRefIdeal.Read
public import proofs.«01_k».proof.Proof.Gen.MmUpDx
public import proofs.«01_k».proof.Proof.Gen.MmUpDx.Skeleton
public import proofs.«01_k».proof.Proof.Gen.MmUpDx.Launch
public import proofs.«01_k».proof.Proof.Gen.MmUpDx.Points
public import proofs.«01_k».proof.Proof.Gen.MmUpDx.Frame
public import proofs.«01_k».proof.Proof.Gen.MmUpDxIdeal
public import proofs.«01_k».proof.Proof.Gen.MmUpDxIdeal.Skeleton
public import proofs.«01_k».proof.Proof.Gen.MmUpDxIdeal.Launch
public import proofs.«01_k».proof.Proof.Gen.MmUpDxIdeal.Points
public import proofs.«01_k».proof.Proof.Gen.MmUpDxIdeal.Frame
public import proofs.«01_k».proof.Proof.Gen.MmUpDxIdeal.Value
public import proofs.«01_k».proof.Proof.Gen.MmUpDxRefIdeal
public import proofs.«01_k».proof.Proof.Gen.MmUpDxRefIdeal.Run
public import proofs.«01_k».proof.Proof.Gen.MmUpDxRefIdeal.Read
public import proofs.«01_k».proof.Proof.Gen.MmUpDw
public import proofs.«01_k».proof.Proof.Gen.MmUpDw.Skeleton
public import proofs.«01_k».proof.Proof.Gen.MmUpDw.Launch
public import proofs.«01_k».proof.Proof.Gen.MmUpDw.Points
public import proofs.«01_k».proof.Proof.Gen.MmUpDw.Frame
public import proofs.«01_k».proof.Proof.Gen.MmUpDwIdeal
public import proofs.«01_k».proof.Proof.Gen.MmUpDwIdeal.Skeleton
public import proofs.«01_k».proof.Proof.Gen.MmUpDwIdeal.Launch
public import proofs.«01_k».proof.Proof.Gen.MmUpDwIdeal.Points
public import proofs.«01_k».proof.Proof.Gen.MmUpDwIdeal.Frame
public import proofs.«01_k».proof.Proof.Gen.MmUpDwIdeal.Value
public import proofs.«01_k».proof.Proof.Gen.MmUpDwRefIdeal
public import proofs.«01_k».proof.Proof.Gen.MmUpDwRefIdeal.Run
public import proofs.«01_k».proof.Proof.Gen.MmUpDwRefIdeal.Read
public import proofs.«01_k».proof.Proof.Gen.MmDownDw
public import proofs.«01_k».proof.Proof.Gen.MmDownDw.Skeleton
public import proofs.«01_k».proof.Proof.Gen.MmDownDw.Launch
public import proofs.«01_k».proof.Proof.Gen.MmDownDw.Points
public import proofs.«01_k».proof.Proof.Gen.MmDownDw.Frame
public import proofs.«01_k».proof.Proof.Gen.MmDownDwIdeal
public import proofs.«01_k».proof.Proof.Gen.MmDownDwIdeal.Skeleton
public import proofs.«01_k».proof.Proof.Gen.MmDownDwIdeal.Launch
public import proofs.«01_k».proof.Proof.Gen.MmDownDwIdeal.Points
public import proofs.«01_k».proof.Proof.Gen.MmDownDwIdeal.Frame
public import proofs.«01_k».proof.Proof.Gen.MmDownDwIdeal.Value
public import proofs.«01_k».proof.Proof.Gen.MmDownDwRefIdeal
public import proofs.«01_k».proof.Proof.Gen.MmDownDwRefIdeal.Run
public import proofs.«01_k».proof.Proof.Gen.MmDownDwRefIdeal.Read
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.AdamWReduced
public import proofs.«01_k».proof.Proof.Gen.AdamWReduced.Skeleton
public import proofs.«01_k».proof.Proof.Gen.AdamWReduced.Launch
public import proofs.«01_k».proof.Proof.Gen.AdamWReduced.Points
public import proofs.«01_k».proof.Proof.Gen.AdamWReduced.Frame
public import proofs.«01_k».proof.Proof.Gen.AdamWReducedIdeal
public import proofs.«01_k».proof.Proof.Gen.AdamWReducedIdeal.Skeleton
public import proofs.«01_k».proof.Proof.Gen.AdamWReducedIdeal.Launch
public import proofs.«01_k».proof.Proof.Gen.AdamWReducedIdeal.Points
public import proofs.«01_k».proof.Proof.Gen.AdamWReducedIdeal.Frame
public import proofs.«01_k».proof.Proof.Gen.AdamWReducedRefIdeal
public import proofs.«01_k».proof.Proof.Gen.AdamWReducedRefIdeal.Run
public import proofs.«01_k».proof.Proof.Gen.AdamWReducedRefIdeal.Read
public import proofs.«01_k».proof.Proof.Gen.PairSum
public import proofs.«01_k».proof.Proof.Gen.PairSum.Skeleton
public import proofs.«01_k».proof.Proof.Gen.PairSum.Launch
public import proofs.«01_k».proof.Proof.Gen.PairSum.Points
public import proofs.«01_k».proof.Proof.Gen.PairSum.Frame
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Points
public import proofs.«01_k».proof.Proof.Gen.PairSumIdeal.Frame
public import proofs.«01_k».proof.Proof.Gen.PairSumRefIdeal
public import proofs.«01_k».proof.Proof.Gen.PairSumRefIdeal.Run
public import proofs.«01_k».proof.Proof.Gen.PairSumRefIdeal.Read
public import proofs.«01_k».proof.Proof.Gen.DeviceSum
public import proofs.«01_k».proof.Proof.Gen.DeviceSum.Skeleton
public import proofs.«01_k».proof.Proof.Gen.DeviceSum.Launch
public import proofs.«01_k».proof.Proof.Gen.DeviceSum.Points
public import proofs.«01_k».proof.Proof.Gen.DeviceSum.Frame
public import proofs.«01_k».proof.Proof.Gen.DeviceSumIdeal
public import proofs.«01_k».proof.Proof.Gen.DeviceSumIdeal.Skeleton
public import proofs.«01_k».proof.Proof.Gen.DeviceSumIdeal.Launch
public import proofs.«01_k».proof.Proof.Gen.DeviceSumIdeal.Points
public import proofs.«01_k».proof.Proof.Gen.DeviceSumIdeal.Frame
public import proofs.«01_k».proof.Proof.Gen.DeviceSumIdeal.Value
public import proofs.«01_k».proof.Proof.Gen.DeviceSumRefIdeal
public import proofs.«01_k».proof.Proof.Gen.DeviceSumRefIdeal.Run
public import proofs.«01_k».proof.Proof.Gen.DeviceSumRefIdeal.Read
public import proofs.«01_k».proof.Proof.Gen.HgrnFwd
public import proofs.«01_k».proof.Proof.Gen.HgrnFwdIdeal
public import proofs.«01_k».proof.Proof.Gen.HgrnBwd
public import proofs.«01_k».proof.Proof.Gen.HgrnBwdIdeal
public import proofs.«01_k».proof.Proof.AttnClaims
public import proofs.«01_k».proof.Proof.AdaWgrad
public import proofs.«01_k».proof.Proof.ConvClaims
public import proofs.«01_k».proof.Proof.LossClaims
public import proofs.«01_k».proof.Proof.QkClaims
public import proofs.«01_k».proof.Proof.Norm1Claims
public import proofs.«01_k».proof.Proof.Norm2Claims
public import proofs.«01_k».proof.Proof.QkFwd
public import proofs.«01_k».proof.Proof.ConvFwd
public import proofs.«01_k».proof.Proof.AdaFwd
public import proofs.«01_k».proof.Proof.MmUp
public import proofs.«01_k».proof.Proof.MmInDx
public import proofs.«01_k».proof.Proof.MmInDw
public import proofs.«01_k».proof.Proof.MmUpDx
public import proofs.«01_k».proof.Proof.MmUpDw
public import proofs.«01_k».proof.Proof.MmDownDw
public import proofs.«01_k».proof.Proof.AdamW
public import proofs.«01_k».proof.Proof.AdamWReduced
public import proofs.«01_k».proof.Proof.PairSum
public import proofs.«01_k».proof.Proof.DeviceSum
public import proofs.«01_k».proof.Proof.HgrnFwdFrame
public import proofs.«01_k».proof.Proof.HgrnIdealFrame
public import Idealize.ShloMosaic.Adequacy
public import Idealize.ShloMosaic.Init

@[expose] public section

noncomputable section

namespace Cert.Proof

open Idealize.ShloMosaic Idealize.SL.Sem

theorem claim : Cert.Claim := ⟨Cert.AttnBwd.Gen.facts, Cert.AttnBwdIdeal.Gen.facts, Cert.AttnBwdRefIdeal.Gen.facts, Cert.AdaBwd.Gen.facts, Cert.AdaBwdIdeal.Gen.facts, Cert.AdaBwdRefIdeal.Gen.facts, Cert.ConvBwd.Gen.facts, Cert.ConvBwdIdeal.Gen.facts, Cert.ConvBwdRefIdeal.Gen.facts, Cert.LossHead.Gen.facts, Cert.LossHeadIdeal.Gen.facts, Cert.LossHeadRefIdeal.Gen.facts, Cert.QkBwd.Gen.facts, Cert.QkBwdIdeal.Gen.facts, Cert.QkBwdRefIdeal.Gen.facts, Cert.NormBwd.Gen.facts, Cert.NormBwdIdeal.Gen.facts, Cert.NormBwdRefIdeal.Gen.facts, Cert.NormMixBwd.Gen.facts, Cert.NormMixBwdIdeal.Gen.facts, Cert.NormMixBwdRefIdeal.Gen.facts, Cert.QkFwd.Gen.facts, Cert.QkFwdIdeal.Gen.facts, Cert.QkFwdRefIdeal.Gen.facts, Cert.ConvFwd.Gen.facts, Cert.ConvFwdIdeal.Gen.facts, Cert.ConvFwdRefIdeal.Gen.facts, Cert.AdaFwd.Gen.facts, Cert.AdaFwdIdeal.Gen.facts, Cert.AdaFwdRefIdeal.Gen.facts, Cert.MmUp.Gen.facts, Cert.MmUpIdeal.Gen.facts, Cert.MmUpRefIdeal.Gen.facts, Cert.MmInDx.Gen.facts, Cert.MmInDxIdeal.Gen.facts, Cert.MmInDxRefIdeal.Gen.facts, Cert.MmInDw.Gen.facts, Cert.MmInDwIdeal.Gen.facts, Cert.MmInDwRefIdeal.Gen.facts, Cert.MmUpDx.Gen.facts, Cert.MmUpDxIdeal.Gen.facts, Cert.MmUpDxRefIdeal.Gen.facts, Cert.MmUpDw.Gen.facts, Cert.MmUpDwIdeal.Gen.facts, Cert.MmUpDwRefIdeal.Gen.facts, Cert.MmDownDw.Gen.facts, Cert.MmDownDwIdeal.Gen.facts, Cert.MmDownDwRefIdeal.Gen.facts, Cert.AdamW.Gen.facts, Cert.AdamWIdeal.Gen.facts, Cert.AdamWRefIdeal.Gen.facts, Cert.AdamWReduced.Gen.facts, Cert.AdamWReducedIdeal.Gen.facts, Cert.AdamWReducedRefIdeal.Gen.facts, Cert.PairSum.Gen.facts, Cert.PairSumIdeal.Gen.facts, Cert.PairSumRefIdeal.Gen.facts, Cert.DeviceSum.Gen.facts, Cert.DeviceSumIdeal.Gen.facts, Cert.DeviceSumRefIdeal.Gen.facts, Cert.HgrnFwd.Gen.facts, Cert.HgrnFwdIdeal.Gen.facts, Cert.HgrnBwd.Gen.facts, Cert.HgrnBwdIdeal.Gen.facts, Attn.facts_finite, Conv.facts_finite_conv, Qk.facts_finite_qk, Norm1.facts_finite_norm1, Norm2.facts_finite_norm2, AdamWReduced.facts_chip_index, PairSum.facts_core_index,
  Attn.frame, Attn.frame_ideal, Attn.frame_ideal_finite, Attn.frame_ref, Attn.frame_ref_finite, Ada.frame, Ada.frame_ideal, Ada.frame_ref, Conv.frame, Conv.frame_ideal, Conv.frame_ideal_finite, Conv.frame_ref, Conv.frame_ref_finite, Loss.frame, Loss.frame_ideal, Loss.frame_ref, Qk.frame, Qk.frame_ideal, Qk.frame_ideal_finite, Qk.frame_ref, Qk.frame_ref_finite, Norm1.frame, Norm1.frame_ideal, Norm1.frame_ideal_finite, Norm1.frame_ref, Norm1.frame_ref_finite, Norm2.frame, Norm2.frame_ideal, Norm2.frame_ideal_finite, Norm2.frame_ref, Norm2.frame_ref_finite, QkF.frame, QkF.frame_ideal, QkF.frame_ref, ConvF.frame, ConvF.frame_ideal, ConvF.frame_ref, AdaF.frame, AdaF.frame_ideal, AdaF.frame_ref, MmUp.frame, MmUp.frame_ideal, MmUp.frame_ref, MmInDx.frame, MmInDx.frame_ideal, MmInDx.frame_ref, MmInDw.frame, MmInDw.frame_ideal, MmInDw.frame_ref, MmUpDx.frame, MmUpDx.frame_ideal, MmUpDx.frame_ref, MmUpDw.frame, MmUpDw.frame_ideal, MmUpDw.frame_ref, MmDownDw.frame, MmDownDw.frame_ideal, MmDownDw.frame_ref, AdamW.frame, AdamW.frame_ideal, AdamW.frame_ref, AdamWReduced.frame, AdamWReduced.frame_ideal, AdamWReduced.frame_ref, AdamWReduced.frame_ref_chip, PairSum.frame, PairSum.frame_ideal, PairSum.frame_ref, PairSum.frame_ref_core, DeviceSum.frame, DeviceSum.frame_ideal, DeviceSum.frame_ref, fun m ρ _ => Cert.HgrnFwd.Hand.frame m ρ, Cert.HgrnFwdIdeal.Hand.frame, fun m ρ _ => Cert.HgrnBwd.Hand.frame m ρ, Cert.HgrnBwdIdeal.Hand.frame,
  trivial, Attn.algebraic, trivial, Ada.algebraic, trivial, Conv.algebraic, trivial, Loss.algebraic, trivial, Qk.algebraic, trivial, Norm1.algebraic, trivial, Norm2.algebraic, trivial, QkF.algebraic, trivial, ConvF.algebraic, trivial, AdaF.algebraic, trivial, MmUp.algebraic, trivial, MmInDx.algebraic, trivial, MmInDw.algebraic, trivial, MmUpDx.algebraic, trivial, MmUpDw.algebraic, trivial, MmDownDw.algebraic, trivial, AdamW.algebraic, trivial, AdamWReduced.algebraic, trivial, PairSum.algebraic, trivial, DeviceSum.algebraic, trivial, trivial⟩

end Cert.Proof

end
